-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v530) = v0 c
          ∧ r.2.mem ((c.tc : Thread Cert.ReferenceIdeal.nD Cert.ReferenceIdeal.τ).loc Cert.ReferenceIdeal.main_v532) = v1 c
          ∧ r.2.mem ((c.tc : Thread Cert.ReferenceIdeal.nD Cert.ReferenceIdeal.τ).loc Cert.ReferenceIdeal.main_v534) = v2 c
          ∧ r.2.mem ((c.tc : Thread Cert.ReferenceIdeal.nD Cert.ReferenceIdeal.τ).loc Cert.ReferenceIdeal.main_v201) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v10) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v22) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v22) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v21) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v8_0)) (v1 : (c : Dev Cert.Kernel16Ideal.nD) → Buf (Elt Ideal) ((c.tc : Thread Cert.Kernel16Ideal.nD Cert.Kernel16Ideal.τ).loc Cert.Kernel16Ideal.main_v8_1)) (v2 : (c : Dev Cert.Kernel16Ideal.nD) → Buf (Elt Ideal) ((c.tc : Thread Cert.Kernel16Ideal.nD Cert.Kernel16Ideal.τ).loc Cert.Kernel16Ideal.main_v8_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v8_0) = v0 c
          ∧ r.2.mem ((c.tc : Thread Cert.Kernel16Ideal.nD Cert.Kernel16Ideal.τ).loc Cert.Kernel16Ideal.main_v8_1) = v1 c
          ∧ r.2.mem ((c.tc : Thread Cert.Kernel16Ideal.nD Cert.Kernel16Ideal.τ).loc Cert.Kernel16Ideal.main_v8_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v48) = v0 c
          ∧ r.2.mem ((c.tc : Thread Cert.Reference16Ideal.nD Cert.Reference16Ideal.τ).loc Cert.Reference16Ideal.main_v49) = v1 c
          ∧ r.2.mem ((c.tc : Thread Cert.Reference16Ideal.nD Cert.Reference16Ideal.τ).loc Cert.Reference16Ideal.main_v30) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite13 : Cert.Pre_finite13.Facts) (hPre_finite14 : Cert.Pre_finite14.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite13.lean ====
abbrev S4096x2048 : Shape := ⟨2, ![4096, 2048]⟩
abbrev S8x704x2048 : Shape := ⟨3, ![8, 704, 2048]⟩
abbrev S8x4096x704 : Shape := ⟨3, ![8, 4096, 704]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x704x2048 : S_.BroadcastsInDim S8x704x2048 (![] : Fin 0 → Fin S8x704x2048.rank)
  reducesTo_S8x704x2048_S_d0_1_2 : S8x704x2048.ReducesTo [0, 1, 2] S_
  bcast_S_S8x4096x704 : S_.BroadcastsInDim S8x4096x704 (![] : Fin 0 → Fin S8x4096x704.rank)
  reducesTo_S8x4096x704_S_d0_1_2 : S8x4096x704.ReducesTo [0, 1, 2] S_

variable [Facts]

def fn {F : FTy → Type} [FloatOps F] (main_arg0 : FVec F S4096x2048 .bf16) (main_arg1 : FVec F S8x704x2048 .bf16) (main_arg2 : FVec F S8x4096x704 .bf16) (main_arg3 : FVec F S8x4096x704 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8x704x2048 .bf16 := Host.absf main_arg1
  let main_cst_0 : FVec F S_ .bf16 := constant S_ .bf16 0x7F80#16
  let main_v5 : FVec F S8x704x2048 .bf16 := broadcastInDim S8x704x2048 ![] bcast_S_S8x704x2048 main_cst_0
  let main_v6 : IVec S8x704x2048 1 := cmpf .olt main_v4 main_v5
  let main_c_1 : IVec S_ 1 := constantI S_ 1 1#1
  let main_v7 : IVec S_ 1 := (fun x v => Host.reduce IntOp.andi x v reducesTo_S8x704x2048_S_d0_1_2 h_S_) main_v6 main_c_1
  let main_v8 : IVec S_ 1 := andi main_v3 main_v7
  let main_v9 : FVec F S8x4096x704 .bf16 := Host.absf main_arg3
  let main_cst_2 : FVec F S_ .bf16 := constant S_ .bf16 0x7F80#16
  let main_v10 : FVec F S8x4096x704 .bf16 := broadcastInDim S8x4096x704 ![] bcast_S_S8x4096x704 main_cst_2
  let main_v11 : IVec S8x4096x704 1 := cmpf .olt main_v9 main_v10
  let main_c_3 : IVec S_ 1 := constantI S_ 1 1#1
  let main_v12 : IVec S_ 1 := (fun x v => Host.reduce IntOp.andi x v reducesTo_S8x4096x704_S_d0_1_2 h_S_) main_v11 main_c_3
  let main_v13 : IVec S_ 1 := andi main_v8 main_v12
  main_v13
-- ==== Pre_finite14.lean ====
abbrev S4352x2048 : Shape := ⟨2, ![4352, 2048]⟩
abbrev S8x704x2048 : Shape := ⟨3, ![8, 704, 2048]⟩
abbrev S8x4352x704 : Shape := ⟨3, ![8, 4352, 704]⟩
abbrev S_ : Shape := ⟨0, ![]⟩

class Facts : Prop where
  bcast_S_S4352x2048 : S_.BroadcastsInDim S4352x2048 (![] : Fin 0 → Fin S4352x2048.rank)
  reducesTo_S4352x2048_S_d0_1 : S4352x2048.ReducesTo [0, 1] S_
  h_S_ : 0 < S_.numel
  bcast_S_S8x704x2048 : S_.BroadcastsInDim S8x704x2048 (![] : Fin 0 → Fin S8x704x2048.rank)
  reducesTo_S8x704x2048_S_d0_1_2 : S8x704x2048.ReducesTo [0, 1, 2] S_
  bcast_S_S8x4352x704 : S_.BroadcastsInDim S8x4352x704 (![] : Fin 0 → Fin S8x4352x704.rank)
  reducesTo_S8x4352x704_S_d0_1_2 : S8x4352x704.ReducesTo [0, 1, 2] S_

variable [Facts]

def fn {F : FTy → Type} [FloatOps F] (main_arg0 : FVec F S4352x2048 .bf16) (main_arg1 : FVec F S8x704x2048 .bf16) (main_arg2 : FVec F S8x4352x704 .bf16) (main_arg3 : FVec F S8x4352x704 .bf16) : IVec S_ 1 :=
  let main_v0 : FVec F S4352x2048 .bf16 := Host.absf main_arg0
  let main_cst : FVec F S_ .bf16 := constant S_ .bf16 0x7F80#16
  let main_v1 : FVec F S4352x2048 .bf16 := broadcastInDim S4352x2048 ![] bcast_S_S4352x2048 main_cst
  let main_v2 : IVec S4352x2048 1 := cmpf .olt main_v0 main_v1
  let main_c : IVec S_ 1 := constantI S_ 1 1#1
  let main_v3 : IVec S_ 1 := (fun x v => Host.reduce IntOp.andi x v reducesTo_S4352x2048_S_d0_1 h_S_) main_v2 main_c
  let main_v4 : FVec F S8x704x2048 .bf16 := Host.absf main_arg1
  let main_cst_0 : FVec F S_ .bf16 := constant S_ .bf16 0x7F80#16
  let main_v5 : FVec F S8x704x2048 .bf16 := broadcastInDim S8x704x2048 ![] bcast_S_S8x704x2048 main_cst_0
  let main_v6 : IVec S8x704x2048 1 := cmpf .olt main_v4 main_v5
  let main_c_1 : IVec S_ 1 := constantI S_ 1 1#1
  let main_v7 : IVec S_ 1 := (fun x v => Host.reduce IntOp.andi x v reducesTo_S8x704x2048_S_d0_1_2 h_S_) main_v6 main_c_1
  let main_v8 : IVec S_ 1 := andi main_v3 main_v7
  let main_v9 : FVec F S8x4352x704 .bf16 := Host.absf main_arg3
  let main_cst_2 : FVec F S_ .bf16 := constant S_ .bf16 0x7F80#16
  let main_v10 : FVec F S8x4352x704 .bf16 := broadcastInDim S8x4352x704 ![] bcast_S_S8x4352x704 main_cst_2
  let main_v11 : IVec S8x4352x704 1 := cmpf .olt main_v9 main_v10
  let main_c_3 : IVec S_ 1 := constantI S_ 1 1#1
  let main_v12 : IVec S_ 1 := (fun x v => Host.reduce IntOp.andi x v reducesTo_S8x4352x704_S_d0_1_2 h_S_) main_v11 main_c_3
  let main_v13 : IVec S_ 1 := andi main_v8 main_v12
  main_v13
-- ==== Kernel.lean ====
abbrev S4112x5120 : Shape := ⟨2, ![4112, 5120]⟩
abbrev S4096x1024 : Shape := ⟨2, ![4096, 1024]⟩
abbrev S3x1024 : Shape := ⟨2, ![3, 1024]⟩
abbrev S31x1024 : Shape := ⟨2, ![31, 1024]⟩
abbrev S4096x5120 : Shape := ⟨2, ![4096, 5120]⟩
abbrev S16x5120 : Shape := ⟨2, ![16, 5120]⟩
abbrev S_ : Shape := ⟨0, ![]⟩
abbrev S240x5120 : Shape := ⟨2, ![240, 5120]⟩
abbrev S4352x5120 : Shape := ⟨2, ![4352, 5120]⟩
abbrev S3x8x128 : Shape := ⟨3, ![3, 8, 128]⟩
abbrev S8x3x128 : Shape := ⟨3, ![8, 3, 128]⟩
abbrev S31x8x128 : Shape := ⟨3, ![31, 8, 128]⟩
abbrev S8x31x128 : Shape := ⟨3, ![8, 31, 128]⟩
abbrev S5x4352x1024 : Shape := ⟨3, ![5, 4352, 1024]⟩
abbrev S1x1024 : Shape := ⟨2, ![1, 1024]⟩
abbrev S4352x128 : Shape := ⟨2, ![4352, 128]⟩
abbrev S4096x128 : Shape := ⟨2, ![4096, 128]⟩
abbrev S1x3x128 : Shape := ⟨3, ![1, 3, 128]⟩
abbrev S1x31x128 : Shape := ⟨3, ![1, 31, 128]⟩
abbrev S5x4352x128 : Shape := ⟨3, ![5, 4352, 128]⟩
abbrev S1x128 : Shape := ⟨2, ![1, 128]⟩
abbrev S4144x128 : Shape := ⟨2, ![4144, 128]⟩
abbrev S4256x128 : Shape := ⟨2, ![4256, 128]⟩
abbrev S4224x128 : Shape := ⟨2, ![4224, 128]⟩
abbrev S24x128 : Shape := ⟨2, ![24, 128]⟩
abbrev S248x128 : Shape := ⟨2, ![248, 128]⟩
abbrev S8x128 : Shape := ⟨2, ![8, 128]⟩
abbrev S32x128 : Shape := ⟨2, ![32, 128]⟩
abbrev S16x128 : Shape := ⟨2, ![16, 128]⟩
abbrev S128x128 : Shape := ⟨2, ![128, 128]⟩
abbrev S3x128 : Shape := ⟨2, ![3, 128]⟩
abbrev S31x128 : Shape := ⟨2, ![31, 128]⟩
abbrev S144x128 : Shape := ⟨2, ![144, 128]⟩
abbrev S136x128 : Shape := ⟨2, ![136, 128]⟩
abbrev S16x8x128 : Shape := ⟨3, ![16, 8, 128]⟩
abbrev S1x4352x128 : Shape := ⟨3, ![1, 4352, 128]⟩
abbrev S1x128x128 : Shape := ⟨3, ![1, 128, 128]⟩
abbrev S160x128 : Shape := ⟨2, ![160, 128]⟩
abbrev S1x16x128 : Shape := ⟨3, ![1, 16, 128]⟩
abbrev S256x128 : Shape := ⟨2, ![256, 128]⟩
abbrev S1x256x128 : Shape := ⟨3, ![1, 256, 128]⟩
abbrev S240x128 : Shape := ⟨2, ![240, 128]⟩
abbrev S1x240x128 : Shape := ⟨3, ![1, 240, 128]⟩
abbrev S128 : Shape := ⟨1, ![128]⟩

abbrev nBuf : Space → Nat
  | .hbm => 18
  | .vmem => 35
  | .smem => 0
  | _ => 0

abbrev bufTy : (tb : Table) → Fin (tcTables nBuf tb) → BufTy
  | .hbm, ⟨0, _⟩ => ⟨S4112x5120, .bf16⟩
  | .hbm, ⟨1, _⟩ => ⟨S4096x1024, .bf16⟩
  | .hbm, ⟨2, _⟩ => ⟨S4096x1024, .f32⟩
  | .hbm, ⟨3, _⟩ => ⟨S3x1024, .f32⟩
  | .hbm, ⟨4, _⟩ => ⟨S31x1024, .f32⟩
  | .hbm, ⟨5, _⟩ => ⟨S4096x5120, .bf16⟩
  | .hbm, ⟨6, _⟩ => ⟨S16x5120, .bf16⟩
  | .hbm, ⟨7, _⟩ => ⟨S_, .bf16⟩
  | .hbm, ⟨8, _⟩ => ⟨S240x5120, .bf16⟩
  | .hbm, ⟨9, _⟩ => ⟨S4352x5120, .bf16⟩
  | .hbm, ⟨10, _⟩ => ⟨S3x8x128, .f32⟩
  | .hbm, ⟨11, _⟩ => ⟨S8x3x128, .f32⟩
  | .hbm, ⟨12, _⟩ => ⟨S31x8x128, .f32⟩
  | .hbm, ⟨13, _⟩ => ⟨S8x31x128, .f32⟩
  | .hbm, ⟨14, _⟩ => ⟨S5x4352x1024, .bf16⟩
  | .hbm, ⟨15, _⟩ => ⟨S8x3x128, .f32⟩
  | .hbm, ⟨16, _⟩ => ⟨S8x31x128, .f32⟩
  | .hbm, ⟨17, _⟩ => ⟨S1x1024, .f32⟩
  | .local _ .vmem, ⟨0, _⟩ => ⟨S4352x128, .bf16⟩
  | .local _ .vmem, ⟨1, _⟩ => ⟨S4352x128, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S4352x128, .bf16⟩
  | .local _ .vmem, ⟨7, _⟩ => ⟨S4352x128, .bf16⟩
  | .local _ .vmem, ⟨8, _⟩ => ⟨S4352x128, .bf16⟩
  | .local _ .vmem, ⟨9, _⟩ => ⟨S4352x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .f32⟩
  | .local _ .vmem, ⟨13, _⟩ => ⟨S4096x128, .f32⟩
  | .local _ .vmem, ⟨14, _⟩ => ⟨S1x3x128, .f32⟩
  | .local _ .vmem, ⟨15, _⟩ => ⟨S1x3x128, .f32⟩
  | .local _ .vmem, ⟨16, _⟩ => ⟨S1x31x128, .f32⟩
  | .local _ .vmem, ⟨17, _⟩ => ⟨S1x31x128, .f32⟩
  | .local _ .vmem, ⟨18, _⟩ => ⟨S5x4352x128, .bf16⟩
  | .local _ .vmem, ⟨19, _⟩ => ⟨S5x4352x128, .bf16⟩
  | .local _ .vmem, ⟨20, _⟩ => ⟨S1x3x128, .f32⟩
  | .local _ .vmem, ⟨21, _⟩ => ⟨S1x3x128, .f32⟩
  | .local _ .vmem, ⟨22, _⟩ => ⟨S1x31x128, .f32⟩
  | .local _ .vmem, ⟨23, _⟩ => ⟨S1x31x128, .f32⟩
  | .local _ .vmem, ⟨24, _⟩ => ⟨S1x128, .f32⟩
  | .local _ .vmem, ⟨25, _⟩ => ⟨S1x128, .f32⟩
  | .local _ .vmem, ⟨26, _⟩ => ⟨S4144x128, .f32⟩
  | .local _ .vmem, ⟨27, _⟩ => ⟨S4144x128, .f32⟩
  | .local _ .vmem, ⟨28, _⟩ => ⟨S4256x128, .f32⟩
  | .local _ .vmem, ⟨29, _⟩ => ⟨S4256x128, .f32⟩
  | .local _ .vmem, ⟨30, _⟩ => ⟨S4224x128, .f32⟩
  | .local _ .vmem, ⟨31, _⟩ => ⟨S4224x128, .f32⟩
  | .local _ .vmem, ⟨32, _⟩ => ⟨S24x128, .f32⟩
  | .local _ .vmem, ⟨33, _⟩ => ⟨S248x128, .f32⟩
  | .local _ .vmem, ⟨34, _⟩ => ⟨S8x128, .f32⟩
  | _, _ => ⟨S4112x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v35 : BitVec 32 := Scalar.addi c0_i32 c32_i32
  let c1_i32 : BitVec 32 := 1#32
  ⟨c0_i32, v35, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32 : BitVec 32 := 128#32
  let v152 : BitVec 32 := Scalar.muli arg23 c128_i32
  v152
def k0_off1 (k0_t1 : Fin k0_t1_loop.trips) : Fin 2 → Nat :=
  let c0_i32 : BitVec 32 := 0#32
  let c1_i32 : BitVec 32 := 1#32
  let arg23 : BitVec 32 := Scf.iv c0_i32 c1_i32 k0_t1
  let c128_i32 : BitVec 32 := 128#32
  let v152 : BitVec 32 := Scalar.muli arg23 c128_i32
  let v153 : BitVec 32 := v152
  let v155 : Index := Scalar.indexCast v153
  let c0_140 : Index := 0#32
  ![v155.toNat, 0]
def k0_off2 (k0_t1 : Fin k0_t1_loop.trips) : Fin 2 → Nat :=
  let c48_i32 : BitVec 32 := 48#32
  let c0_i32 : BitVec 32 := 0#32
  let c1_i32 : BitVec 32 := 1#32
  let arg23 : BitVec 32 := Scf.iv c0_i32 c1_i32 k0_t1
  let c128_i32 : BitVec 32 := 128#32
  let v152 : BitVec 32 := Scalar.muli arg23 c128_i32
  let v153 : BitVec 32 := v152
  let v154 : BitVec 32 := Scalar.addi c48_i32 v153
  let v164 : Index := Scalar.indexCast v154
  let c0_142 : Index := 0#32
  ![v164.toNat, 0]
@[reducible] def k0_t2_loop : Scf.Loop 32 :=
  let c0_i32_45 : BitVec 32 := 0#32
  let c32_i32_46 : BitVec 32 := 32#32
  let v68 : BitVec 32 := Scalar.addi c0_i32_45 c32_i32_46
  let c1_i32_47 : BitVec 32 := 1#32
  ⟨c0_i32_45, v68, c1_i32_47⟩
def k0_mult2 (k0_t2 : Fin k0_t2_loop.trips) : BitVec 32 :=
  let c0_i32_45 : BitVec 32 := 0#32
  let c1_i32_47 : BitVec 32 := 1#32
  let arg23 : BitVec 32 := Scf.iv c0_i32_45 c1_i32_47 k0_t2
  let c128_i32 : BitVec 32 := 128#32
  let v152 : BitVec 32 := Scalar.muli arg23 c128_i32
  v152
def k0_off3 (k0_t2 : Fin k0_t2_loop.trips) : Fin 2 → Nat :=
  let c0_i32_45 : BitVec 32 := 0#32
  let c1_i32_47 : BitVec 32 := 1#32
  let arg23 : BitVec 32 := Scf.iv c0_i32_45 c1_i32_47 k0_t2
  let c128_i32 : BitVec 32 := 128#32
  let v152 : BitVec 32 := Scalar.muli arg23 c128_i32
  let v153 : BitVec 32 := v152
  let v154 : Index := Scalar.indexCast v153
  let c0_140 : Index := 0#32
  ![v154.toNat, 0]
def k0_off4 (k0_t2 : Fin k0_t2_loop.trips) : Fin 2 → Nat :=
  let c0_i32_45 : BitVec 32 := 0#32
  let c1_i32_47 : BitVec 32 := 1#32
  let arg23 : BitVec 32 := Scf.iv c0_i32_45 c1_i32_47 k0_t2
  let c128_i32 : BitVec 32 := 128#32
  let v152 : BitVec 32 := Scalar.muli arg23 c128_i32
  let v153 : BitVec 32 := v152
  let v157 : Index := Scalar.indexCast v153
  let c0_141 : Index := 0#32
  ![v157.toNat, 0]
def k0_off5 (k0_t2 : Fin k0_t2_loop.trips) : Fin 2 → Nat :=
  let c16_i32 : BitVec 32 := 16#32
  let c0_i32_45 : BitVec 32 := 0#32
  let c1_i32_47 : BitVec 32 := 1#32
  let arg23 : BitVec 32 := Scf.iv c0_i32_45 c1_i32_47 k0_t2
  let c128_i32 : BitVec 32 := 128#32
  let v152 : BitVec 32 := Scalar.muli arg23 c128_i32
  let v153 : BitVec 32 := v152
  let v164 : BitVec 32 := Scalar.addi c16_i32 v153
  let v165 : Index := Scalar.indexCast v164
  let c0_143 : Index := 0#32
  ![v165.toNat, 0]
def k0_off6 (k0_t2 : Fin k0_t2_loop.trips) : Fin 2 → Nat :=
  let c0_i32_45 : BitVec 32 := 0#32
  let c1_i32_47 : BitVec 32 := 1#32
  let arg23 : BitVec 32 := Scf.iv c0_i32_45 c1_i32_47 k0_t2
  let c128_i32 : BitVec 32 := 128#32
  let v152 : BitVec 32 := Scalar.muli arg23 c128_i32
  let v153 : BitVec 32 := v152
  let c40_i32 : BitVec 32 := 40#32
  let v175 : BitVec 32 := Scalar.addi v153 c40_i32
  let v176 : Index := Scalar.indexCast v175
  let c0_147 : Index := 0#32
  ![v176.toNat, 0]
def k0_off7 (k0_t2 : Fin k0_t2_loop.trips) : Fin 3 → Nat :=
  let c0_i32_44 : BitVec 32 := 0#32
  let c0_i32_45 : BitVec 32 := 0#32
  let c1_i32_47 : BitVec 32 := 1#32
  let arg23 : BitVec 32 := Scf.iv c0_i32_45 c1_i32_47 k0_t2
  let c128_i32 : BitVec 32 := 128#32
  let v152 : BitVec 32 := Scalar.muli arg23 c128_i32
  let v153 : BitVec 32 := v152
  let v223 : Index := Scalar.indexCast v153
  let c0_i32_162 : BitVec 32 := 0#32
  ![0, v223.toNat, 0]
def k0_off8 (k0_t2 : Fin k0_t2_loop.trips) : Fin 2 → Nat :=
  let c0_i32_45 : BitVec 32 := 0#32
  let c1_i32_47 : BitVec 32 := 1#32
  let arg23 : BitVec 32 := Scf.iv c0_i32_45 c1_i32_47 k0_t2
  let c128_i32 : BitVec 32 := 128#32
  let v152 : BitVec 32 := Scalar.muli arg23 c128_i32
  let v153 : BitVec 32 := v152
  let c16_i32_164 : BitVec 32 := 16#32
  let v225 : BitVec 32 := Scalar.addi v153 c16_i32_164
  let v226 : Index := Scalar.indexCast v225
  let c0_165 : Index := 0#32
  ![v226.toNat, 0]
@[reducible] def k0_t3_loop : Scf.Loop 32 :=
  let c0_i32_49 : BitVec 32 := 0#32
  let c33_i32 : BitVec 32 := 33#32
  let v69 : BitVec 32 := Scalar.addi c0_i32_49 c33_i32
  let c1_i32_50 : BitVec 32 := 1#32
  ⟨c0_i32_49, v69, c1_i32_50⟩
def k0_mult3 (k0_t3 : Fin k0_t3_loop.trips) : BitVec 32 :=
  let c0_i32_49 : BitVec 32 := 0#32
  let c1_i32_50 : BitVec 32 := 1#32
  let arg23 : BitVec 32 := Scf.iv c0_i32_49 c1_i32_50 k0_t3
  let c128_i32 : BitVec 32 := 128#32
  let v152 : BitVec 32 := Scalar.muli arg23 c128_i32
  v152
def k0_off9 (k0_t3 : Fin k0_t3_loop.trips) : Fin 2 → Nat :=
  let c0_i32_49 : BitVec 32 := 0#32
  let c1_i32_50 : BitVec 32 := 1#32
  let arg23 : BitVec 32 := Scf.iv c0_i32_49 c1_i32_50 k0_t3
  let c128_i32 : BitVec 32 := 128#32
  let v152 : BitVec 32 := Scalar.muli arg23 c128_i32
  let v153 : BitVec 32 := v152
  let v155 : Index := Scalar.indexCast v153
  let c0_141 : Index := 0#32
  ![v155.toNat, 0]
def k0_off10 (k0_t3 : Fin k0_t3_loop.trips) : Fin 2 → Nat :=
  let c0_i32_49 : BitVec 32 := 0#32
  let c1_i32_50 : BitVec 32 := 1#32
  let arg23 : BitVec 32 := Scf.iv c0_i32_49 c1_i32_50 k0_t3
  let c128_i32 : BitVec 32 := 128#32
  let v152 : BitVec 32 := Scalar.muli arg23 c128_i32
  let v153 : BitVec 32 := v152
  let v174 : Index := Scalar.indexCast v153
  let c0_142 : Index := 0#32
  ![v174.toNat, 0]
def k0_off11 (k0_t3 : Fin k0_t3_loop.trips) : Fin 2 → Nat :=
  let c0_i32_49 : BitVec 32 := 0#32
  let c1_i32_50 : BitVec 32 := 1#32
  let arg23 : BitVec 32 := Scf.iv c0_i32_49 c1_i32_50 k0_t3
  let c128_i32 : BitVec 32 := 128#32
  let v152 : BitVec 32 := Scalar.muli arg23 c128_i32
  let v153 : BitVec 32 := v152
  let v179 : Index := Scalar.indexCast v153
  let c0_144 : Index := 0#32
  ![v179.toNat, 0]
@[reducible] def k0_t4_loop : Scf.Loop 32 :=
  let c0_i32_53 : BitVec 32 := 0#32
  let c32_i32_54 : BitVec 32 := 32#32
  let v70 : BitVec 32 := Scalar.addi c0_i32_53 c32_i32_54
  let c1_i32_55 : BitVec 32 := 1#32
  ⟨c0_i32_53, v70, c1_i32_55⟩
def k0_mult4 (k0_t4 : Fin k0_t4_loop.trips) : BitVec 32 :=
  let c0_i32_53 : BitVec 32 := 0#32
  let c1_i32_55 : BitVec 32 := 1#32
  let arg23 : BitVec 32 := Scf.iv c0_i32_53 c1_i32_55 k0_t4
  let c128_i32 : BitVec 32 := 128#32
  let v152 : BitVec 32 := Scalar.muli arg23 c128_i32
  v152
def k0_off12 (k0_t4 : Fin k0_t4_loop.trips) : Fin 2 → Nat :=
  let c16_i32 : BitVec 32 := 16#32
  let c0_i32_53 : BitVec 32 := 0#32
  let c1_i32_55 : BitVec 32 := 1#32
  let arg23 : BitVec 32 := Scf.iv c0_i32_53 c1_i32_55 k0_t4
  let c128_i32 : BitVec 32 := 128#32
  let v152 : BitVec 32 := Scalar.muli arg23 c128_i32
  let v153 : BitVec 32 := v152
  let v154 : BitVec 32 := Scalar.addi c16_i32 v153
  let v155 : Index := Scalar.indexCast v154
  let c0_140 : Index := 0#32
  ![v155.toNat, 0]
def k0_off13 (k0_t4 : Fin k0_t4_loop.trips) : Fin 2 → Nat :=
  let c0_i32_53 : BitVec 32 := 0#32
  let c1_i32_55 : BitVec 32 := 1#32
  let arg23 : BitVec 32 := Scf.iv c0_i32_53 c1_i32_55 k0_t4
  let c128_i32 : BitVec 32 := 128#32
  let v152 : BitVec 32 := Scalar.muli arg23 c128_i32
  let v153 : BitVec 32 := v152
  let v159 : Index := Scalar.indexCast v153
  let c0_142 : Index := 0#32
  ![v159.toNat, 0]
def k0_off14 (k0_t4 : Fin k0_t4_loop.trips) : Fin 3 → Nat :=
  let c1_i32_52 : BitVec 32 := 1#32
  let c0_i32_53 : BitVec 32 := 0#32
  let c1_i32_55 : BitVec 32 := 1#32
  let arg23 : BitVec 32 := Scf.iv c0_i32_53 c1_i32_55 k0_t4
  let c128_i32 : BitVec 32 := 128#32
  let v152 : BitVec 32 := Scalar.muli arg23 c128_i32
  let v153 : BitVec 32 := v152
  let v167 : Index := Scalar.indexCast v153
  let c0_i32_144 : BitVec 32 := 0#32
  ![1, v167.toNat, 0]
def k0_off15 (k0_t4 : Fin k0_t4_loop.trips) : Fin 3 → Nat :=
  let c2_i32 : BitVec 32 := 2#32
  let c0_i32_53 : BitVec 32 := 0#32
  let c1_i32_55 : BitVec 32 := 1#32
  let arg23 : BitVec 32 := Scf.iv c0_i32_53 c1_i32_55 k0_t4
  let c128_i32 : BitVec 32 := 128#32
  let v152 : BitVec 32 := Scalar.muli arg23 c128_i32
  let v153 : BitVec 32 := v152
  let v177 : Index := Scalar.indexCast v153
  let c0_i32_148 : BitVec 32 := 0#32
  ![2, v177.toNat, 0]
def k0_off16 (k0_t4 : Fin k0_t4_loop.trips) : Fin 3 → Nat :=
  let c3_i32 : BitVec 32 := 3#32
  let c0_i32_53 : BitVec 32 := 0#32
  let c1_i32_55 : BitVec 32 := 1#32
  let arg23 : BitVec 32 := Scf.iv c0_i32_53 c1_i32_55 k0_t4
  let c128_i32 : BitVec 32 := 128#32
  let v152 : BitVec 32 := Scalar.muli arg23 c128_i32
  let v153 : BitVec 32 := v152
  let v194 : Index := Scalar.indexCast v153
  let c0_i32_155 : BitVec 32 := 0#32
  ![3, v194.toNat, 0]
def k0_off17 (k0_t4 : Fin k0_t4_loop.trips) : Fin 3 → Nat :=
  let c4_i32 : BitVec 32 := 4#32
  let c0_i32_53 : BitVec 32 := 0#32
  let c1_i32_55 : BitVec 32 := 1#32
  let arg23 : BitVec 32 := Scf.iv c0_i32_53 c1_i32_55 k0_t4
  let c128_i32 : BitVec 32 := 128#32
  let v152 : BitVec 32 := Scalar.muli arg23 c128_i32
  let v153 : BitVec 32 := v152
  let v208 : Index := Scalar.indexCast v153
  let c0_i32_160 : BitVec 32 := 0#32
  ![4, v208.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4352x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x31x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5x4352x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x31x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4112x5120 : Shape := ⟨2, ![4112, 5120]⟩
abbrev S4096x1024 : Shape := ⟨2, ![4096, 1024]⟩
abbrev S3x1024 : Shape := ⟨2, ![3, 1024]⟩
abbrev S31x1024 : Shape := ⟨2, ![31, 1024]⟩
abbrev S_ : Shape := ⟨0, ![]⟩
abbrev S1x1024 : Shape := ⟨2, ![1, 1024]⟩
abbrev S4112x1024 : Shape := ⟨2, ![4112, 1024]⟩
abbrev S2x1024 : Shape := ⟨2, ![2, 1024]⟩
abbrev S4114x1024 : Shape := ⟨2, ![4114, 1024]⟩
abbrev S30x1024 : Shape := ⟨2, ![30, 1024]⟩
abbrev S4142x1024 : Shape := ⟨2, ![4142, 1024]⟩
abbrev S1024 : Shape := ⟨1, ![1024]⟩
abbrev S4112x5x1024 : Shape := ⟨3, ![4112, 5, 1024]⟩
abbrev S5x4112x1024 : Shape := ⟨3, ![5, 4112, 1024]⟩
abbrev S5x4096x1024 : Shape := ⟨3, ![5, 4096, 1024]⟩
abbrev S5x16x1024 : Shape := ⟨3, ![5, 16, 1024]⟩
abbrev S5x240x1024 : Shape := ⟨3, ![5, 240, 1024]⟩
abbrev S5x4352x1024 : Shape := ⟨3, ![5, 4352, 1024]⟩
abbrev S3x8x128 : Shape := ⟨3, ![3, 8, 128]⟩
abbrev S8x3x128 : Shape := ⟨3, ![8, 3, 128]⟩
abbrev S31x8x128 : Shape := ⟨3, ![31, 8, 128]⟩
abbrev S8x31x128 : Shape := ⟨3, ![8, 31, 128]⟩

abbrev nBuf : Space → Nat
  | .hbm => 659
  | .vmem => 0
  | .smem => 0
  | _ => 0

abbrev hbmTy0_0 (i : Nat) : BufTy := match i % 128 with
  | 0 => ⟨S4112x5120, .bf16⟩
  | 1 => ⟨S4096x1024, .bf16⟩
  | 2 => ⟨S4096x1024, .f32⟩
  | 3 => ⟨S3x1024, .f32⟩
  | 4 => ⟨S31x1024, .f32⟩
  | 5 => ⟨S_, .f32⟩
  | 6 => ⟨S1x1024, .f32⟩
  | 7 => ⟨S4112x5120, .f32⟩
  | 8 => ⟨S4112x1024, .f32⟩
  | 9 => ⟨S4112x1024, .f32⟩
  | 10 => ⟨S4112x1024, .f32⟩
  | 11 => ⟨S4112x1024, .f32⟩
  | 12 => ⟨S4112x1024, .f32⟩
  | 13 => ⟨S4112x1024, .f32⟩
  | 14 => ⟨S_, .f32⟩
  | 15 => ⟨S2x1024, .f32⟩
  | 16 => ⟨S4114x1024, .f32⟩
  | 17 => ⟨S_, .f32⟩
  | 18 => ⟨S2x1024, .f32⟩
  | 19 => ⟨S4112x1024, .f32⟩
  | 20 => ⟨S1x1024, .f32⟩
  | 21 => ⟨S4112x1024, .f32⟩
  | 22 => ⟨S4112x1024, .f32⟩
  | 23 => ⟨S4112x1024, .f32⟩
  | 24 => ⟨S1x1024, .f32⟩
  | 25 => ⟨S4112x1024, .f32⟩
  | 26 => ⟨S4112x1024, .f32⟩
  | 27 => ⟨S4112x1024, .f32⟩
  | 28 => ⟨S4112x1024, .f32⟩
  | 29 => ⟨S1x1024, .f32⟩
  | 30 => ⟨S4112x1024, .f32⟩
  | 31 => ⟨S4112x1024, .f32⟩
  | 32 => ⟨S4112x1024, .f32⟩
  | 33 => ⟨S4112x1024, .f32⟩
  | 34 => ⟨S4112x1024, .f32⟩
  | 35 => ⟨S4112x1024, .f32⟩
  | 36 => ⟨S_, .f32⟩
  | 37 => ⟨S4112x1024, .f32⟩
  | 38 => ⟨S4112x1024, .f32⟩
  | 39 => ⟨S_, .f32⟩
  | 40 => ⟨S4112x1024, .f32⟩
  | 41 => ⟨S4112x1024, .f32⟩
  | 42 => ⟨S_, .f32⟩
  | 43 => ⟨S4112x1024, .f32⟩
  | 44 => ⟨S4112x1024, .f32⟩
  | 45 => ⟨S4112x1024, .f32⟩
  | 46 => ⟨S4112x1024, .f32⟩
  | 47 => ⟨S_, .f32⟩
  | 48 => ⟨S30x1024, .f32⟩
  | 49 => ⟨S4142x1024, .f32⟩
  | 50 => ⟨S_, .f32⟩
  | 51 => ⟨S30x1024, .f32⟩
  | 52 => ⟨S4112x1024, .f32⟩
  | 53 => ⟨S1x1024, .f32⟩
  | 54 => ⟨S4112x1024, .f32⟩
  | 55 => ⟨S4112x1024, .f32⟩
  | 56 => ⟨S4112x1024, .f32⟩
  | 57 => ⟨S1x1024, .f32⟩
  | 58 => ⟨S4112x1024, .f32⟩
  | 59 => ⟨S4112x1024, .f32⟩
  | 60 => ⟨S4112x1024, .f32⟩
  | 61 => ⟨S4112x1024, .f32⟩
  | 62 => ⟨S1x1024, .f32⟩
  | 63 => ⟨S4112x1024, .f32⟩
  | 64 => ⟨S4112x1024, .f32⟩
  | 65 => ⟨S4112x1024, .f32⟩
  | 66 => ⟨S4112x1024, .f32⟩
  | 67 => ⟨S1x1024, .f32⟩
  | 68 => ⟨S4112x1024, .f32⟩
  | 69 => ⟨S4112x1024, .f32⟩
  | 70 => ⟨S4112x1024, .f32⟩
  | 71 => ⟨S4112x1024, .f32⟩
  | 72 => ⟨S1x1024, .f32⟩
  | 73 => ⟨S4112x1024, .f32⟩
  | 74 => ⟨S4112x1024, .f32⟩
  | 75 => ⟨S4112x1024, .f32⟩
  | 76 => ⟨S4112x1024, .f32⟩
  | 77 => ⟨S1x1024, .f32⟩
  | 78 => ⟨S4112x1024, .f32⟩
  | 79 => ⟨S4112x1024, .f32⟩
  | 80 => ⟨S4112x1024, .f32⟩
  | 81 => ⟨S4112x1024, .f32⟩
  | 82 => ⟨S1x1024, .f32⟩
  | 83 => ⟨S4112x1024, .f32⟩
  | 84 => ⟨S4112x1024, .f32⟩
  | 85 => ⟨S4112x1024, .f32⟩
  | 86 => ⟨S4112x1024, .f32⟩
  | 87 => ⟨S1x1024, .f32⟩
  | 88 => ⟨S4112x1024, .f32⟩
  | 89 => ⟨S4112x1024, .f32⟩
  | 90 => ⟨S4112x1024, .f32⟩
  | 91 => ⟨S4112x1024, .f32⟩
  | 92 => ⟨S1x1024, .f32⟩
  | 93 => ⟨S4112x1024, .f32⟩
  | 94 => ⟨S4112x1024, .f32⟩
  | 95 => ⟨S4112x1024, .f32⟩
  | 96 => ⟨S4112x1024, .f32⟩
  | 97 => ⟨S1x1024, .f32⟩
  | 98 => ⟨S4112x1024, .f32⟩
  | 99 => ⟨S4112x1024, .f32⟩
  | 100 => ⟨S4112x1024, .f32⟩
  | 101 => ⟨S4112x1024, .f32⟩
  | 102 => ⟨S1x1024, .f32⟩
  | 103 => ⟨S4112x1024, .f32⟩
  | 104 => ⟨S4112x1024, .f32⟩
  | 105 => ⟨S4112x1024, .f32⟩
  | 106 => ⟨S4112x1024, .f32⟩
  | 107 => ⟨S1x1024, .f32⟩
  | 108 => ⟨S4112x1024, .f32⟩
  | 109 => ⟨S4112x1024, .f32⟩
  | 110 => ⟨S4112x1024, .f32⟩
  | 111 => ⟨S4112x1024, .f32⟩
  | 112 => ⟨S1x1024, .f32⟩
  | 113 => ⟨S4112x1024, .f32⟩
  | 114 => ⟨S4112x1024, .f32⟩
  | 115 => ⟨S4112x1024, .f32⟩
  | 116 => ⟨S4112x1024, .f32⟩
  | 117 => ⟨S1x1024, .f32⟩
  | 118 => ⟨S4112x1024, .f32⟩
  | 119 => ⟨S4112x1024, .f32⟩
  | 120 => ⟨S4112x1024, .f32⟩
  | 121 => ⟨S4112x1024, .f32⟩
  | 122 => ⟨S1x1024, .f32⟩
  | 123 => ⟨S4112x1024, .f32⟩
  | 124 => ⟨S4112x1024, .f32⟩
  | 125 => ⟨S4112x1024, .f32⟩
  | 126 => ⟨S4112x1024, .f32⟩
  | 127 => ⟨S1x1024, .f32⟩
  | _ => ⟨S4112x5120, .bf16⟩

abbrev hbmTy0_1 (i : Nat) : BufTy := match i % 128 with
  | 0 => ⟨S4112x1024, .f32⟩
  | 1 => ⟨S4112x1024, .f32⟩
  | 2 => ⟨S4112x1024, .f32⟩
  | 3 => ⟨S4112x1024, .f32⟩
  | 4 => ⟨S1x1024, .f32⟩
  | 5 => ⟨S4112x1024, .f32⟩
  | 6 => ⟨S4112x1024, .f32⟩
  | 7 => ⟨S4112x1024, .f32⟩
  | 8 => ⟨S4112x1024, .f32⟩
  | 9 => ⟨S1x1024, .f32⟩
  | 10 => ⟨S4112x1024, .f32⟩
  | 11 => ⟨S4112x1024, .f32⟩
  | 12 => ⟨S4112x1024, .f32⟩
  | 13 => ⟨S4112x1024, .f32⟩
  | 14 => ⟨S1x1024, .f32⟩
  | 15 => ⟨S4112x1024, .f32⟩
  | 16 => ⟨S4112x1024, .f32⟩
  | 17 => ⟨S4112x1024, .f32⟩
  | 18 => ⟨S4112x1024, .f32⟩
  | 19 => ⟨S1x1024, .f32⟩
  | 20 => ⟨S4112x1024, .f32⟩
  | 21 => ⟨S4112x1024, .f32⟩
  | 22 => ⟨S4112x1024, .f32⟩
  | 23 => ⟨S4112x1024, .f32⟩
  | 24 => ⟨S1x1024, .f32⟩
  | 25 => ⟨S4112x1024, .f32⟩
  | 26 => ⟨S4112x1024, .f32⟩
  | 27 => ⟨S4112x1024, .f32⟩
  | 28 => ⟨S4112x1024, .f32⟩
  | 29 => ⟨S1x1024, .f32⟩
  | 30 => ⟨S4112x1024, .f32⟩
  | 31 => ⟨S4112x1024, .f32⟩
  | 32 => ⟨S4112x1024, .f32⟩
  | 33 => ⟨S4112x1024, .f32⟩
  | 34 => ⟨S1x1024, .f32⟩
  | 35 => ⟨S4112x1024, .f32⟩
  | 36 => ⟨S4112x1024, .f32⟩
  | 37 => ⟨S4112x1024, .f32⟩
  | 38 => ⟨S4112x1024, .f32⟩
  | 39 => ⟨S1x1024, .f32⟩
  | 40 => ⟨S4112x1024, .f32⟩
  | 41 => ⟨S4112x1024, .f32⟩
  | 42 => ⟨S4112x1024, .f32⟩
  | 43 => ⟨S4112x1024, .f32⟩
  | 44 => ⟨S1x1024, .f32⟩
  | 45 => ⟨S4112x1024, .f32⟩
  | 46 => ⟨S4112x1024, .f32⟩
  | 47 => ⟨S4112x1024, .f32⟩
  | 48 => ⟨S4112x1024, .f32⟩
  | 49 => ⟨S1x1024, .f32⟩
  | 50 => ⟨S4112x1024, .f32⟩
  | 51 => ⟨S4112x1024, .f32⟩
  | 52 => ⟨S4112x1024, .f32⟩
  | 53 => ⟨S4112x1024, .f32⟩
  | 54 => ⟨S1x1024, .f32⟩
  | 55 => ⟨S4112x1024, .f32⟩
  | 56 => ⟨S4112x1024, .f32⟩
  | 57 => ⟨S4112x1024, .f32⟩
  | 58 => ⟨S4112x1024, .f32⟩
  | 59 => ⟨S1x1024, .f32⟩
  | 60 => ⟨S4112x1024, .f32⟩
  | 61 => ⟨S4112x1024, .f32⟩
  | 62 => ⟨S4112x1024, .f32⟩
  | 63 => ⟨S4112x1024, .f32⟩
  | 64 => ⟨S1x1024, .f32⟩
  | 65 => ⟨S4112x1024, .f32⟩
  | 66 => ⟨S4112x1024, .f32⟩
  | 67 => ⟨S4112x1024, .f32⟩
  | 68 => ⟨S4112x1024, .f32⟩
  | 69 => ⟨S1x1024, .f32⟩
  | 70 => ⟨S4112x1024, .f32⟩
  | 71 => ⟨S4112x1024, .f32⟩
  | 72 => ⟨S4112x1024, .f32⟩
  | 73 => ⟨S4112x1024, .f32⟩
  | 74 => ⟨S1x1024, .f32⟩
  | 75 => ⟨S4112x1024, .f32⟩
  | 76 => ⟨S4112x1024, .f32⟩
  | 77 => ⟨S4112x1024, .f32⟩
  | 78 => ⟨S4112x1024, .f32⟩
  | 79 => ⟨S4112x1024, .f32⟩
  | 80 => ⟨S4096x1024, .f32⟩
  | 81 => ⟨S4096x1024, .f32⟩
  | 82 => ⟨S4096x1024, .f32⟩
  | 83 => ⟨S_, .f32⟩
  | 84 => ⟨S4112x1024, .f32⟩
  | 85 => ⟨S_, .f32⟩
  | 86 => ⟨S4112x1024, .f32⟩
  | 87 => ⟨S_, .f32⟩
  | 88 => ⟨S1024, .f32⟩
  | 89 => ⟨S1x1024, .f32⟩
  | 90 => ⟨S4112x1024, .f32⟩
  | 91 => ⟨S_, .f32⟩
  | 92 => ⟨S1024, .f32⟩
  | 93 => ⟨S1x1024, .f32⟩
  | 94 => ⟨S4112x1024, .f32⟩
  | 95 => ⟨S4112x1024, .f32⟩
  | 96 => ⟨S_, .f32⟩
  | 97 => ⟨S31x1024, .f32⟩
  | 98 => ⟨S_, .f32⟩
  | 99 => ⟨S4142x1024, .f32⟩
  | 100 => ⟨S4112x1024, .f32⟩
  | 101 => ⟨S_, .f32⟩
  | 102 => ⟨S1024, .f32⟩
  | 103 => ⟨S1x1024, .f32⟩
  | 104 => ⟨S4112x1024, .f32⟩
  | 105 => ⟨S4112x1024, .f32⟩
  | 106 => ⟨S_, .f32⟩
  | 107 => ⟨S31x1024, .f32⟩
  | 108 => ⟨S31x1024, .f32⟩
  | 109 => ⟨S_, .f32⟩
  | 110 => ⟨S4142x1024, .f32⟩
  | 111 => ⟨S4142x1024, .f32⟩
  | 112 => ⟨S4112x1024, .f32⟩
  | 113 => ⟨S_, .f32⟩
  | 114 => ⟨S1024, .f32⟩
  | 115 => ⟨S1x1024, .f32⟩
  | 116 => ⟨S4112x1024, .f32⟩
  | 117 => ⟨S4112x1024, .f32⟩
  | 118 => ⟨S_, .f32⟩
  | 119 => ⟨S31x1024, .f32⟩
  | 120 => ⟨S31x1024, .f32⟩
  | 121 => ⟨S_, .f32⟩
  | 122 => ⟨S4142x1024, .f32⟩
  | 123 => ⟨S4142x1024, .f32⟩
  | 124 => ⟨S4112x1024, .f32⟩
  | 125 => ⟨S_, .f32⟩
  | 126 => ⟨S1024, .f32⟩
  | 127 => ⟨S1x1024, .f32⟩
  | _ => ⟨S4112x5120, .bf16⟩

abbrev hbmTy0_2 (i : Nat) : BufTy := match i % 128 with
  | 0 => ⟨S4112x1024, .f32⟩
  | 1 => ⟨S4112x1024, .f32⟩
  | 2 => ⟨S_, .f32⟩
  | 3 => ⟨S31x1024, .f32⟩
  | 4 => ⟨S31x1024, .f32⟩
  | 5 => ⟨S_, .f32⟩
  | 6 => ⟨S4142x1024, .f32⟩
  | 7 => ⟨S4142x1024, .f32⟩
  | 8 => ⟨S4112x1024, .f32⟩
  | 9 => ⟨S_, .f32⟩
  | 10 => ⟨S1024, .f32⟩
  | 11 => ⟨S1x1024, .f32⟩
  | 12 => ⟨S4112x1024, .f32⟩
  | 13 => ⟨S4112x1024, .f32⟩
  | 14 => ⟨S_, .f32⟩
  | 15 => ⟨S31x1024, .f32⟩
  | 16 => ⟨S31x1024, .f32⟩
  | 17 => ⟨S_, .f32⟩
  | 18 => ⟨S4142x1024, .f32⟩
  | 19 => ⟨S4142x1024, .f32⟩
  | 20 => ⟨S4112x1024, .f32⟩
  | 21 => ⟨S_, .f32⟩
  | 22 => ⟨S1024, .f32⟩
  | 23 => ⟨S1x1024, .f32⟩
  | 24 => ⟨S4112x1024, .f32⟩
  | 25 => ⟨S4112x1024, .f32⟩
  | 26 => ⟨S_, .f32⟩
  | 27 => ⟨S31x1024, .f32⟩
  | 28 => ⟨S31x1024, .f32⟩
  | 29 => ⟨S_, .f32⟩
  | 30 => ⟨S4142x1024, .f32⟩
  | 31 => ⟨S4142x1024, .f32⟩
  | 32 => ⟨S4112x1024, .f32⟩
  | 33 => ⟨S_, .f32⟩
  | 34 => ⟨S1024, .f32⟩
  | 35 => ⟨S1x1024, .f32⟩
  | 36 => ⟨S4112x1024, .f32⟩
  | 37 => ⟨S4112x1024, .f32⟩
  | 38 => ⟨S_, .f32⟩
  | 39 => ⟨S31x1024, .f32⟩
  | 40 => ⟨S31x1024, .f32⟩
  | 41 => ⟨S_, .f32⟩
  | 42 => ⟨S4142x1024, .f32⟩
  | 43 => ⟨S4142x1024, .f32⟩
  | 44 => ⟨S4112x1024, .f32⟩
  | 45 => ⟨S_, .f32⟩
  | 46 => ⟨S1024, .f32⟩
  | 47 => ⟨S1x1024, .f32⟩
  | 48 => ⟨S4112x1024, .f32⟩
  | 49 => ⟨S4112x1024, .f32⟩
  | 50 => ⟨S_, .f32⟩
  | 51 => ⟨S31x1024, .f32⟩
  | 52 => ⟨S31x1024, .f32⟩
  | 53 => ⟨S_, .f32⟩
  | 54 => ⟨S4142x1024, .f32⟩
  | 55 => ⟨S4142x1024, .f32⟩
  | 56 => ⟨S4112x1024, .f32⟩
  | 57 => ⟨S_, .f32⟩
  | 58 => ⟨S1024, .f32⟩
  | 59 => ⟨S1x1024, .f32⟩
  | 60 => ⟨S4112x1024, .f32⟩
  | 61 => ⟨S4112x1024, .f32⟩
  | 62 => ⟨S_, .f32⟩
  | 63 => ⟨S31x1024, .f32⟩
  | 64 => ⟨S31x1024, .f32⟩
  | 65 => ⟨S_, .f32⟩
  | 66 => ⟨S4142x1024, .f32⟩
  | 67 => ⟨S4142x1024, .f32⟩
  | 68 => ⟨S4112x1024, .f32⟩
  | 69 => ⟨S_, .f32⟩
  | 70 => ⟨S1024, .f32⟩
  | 71 => ⟨S1x1024, .f32⟩
  | 72 => ⟨S4112x1024, .f32⟩
  | 73 => ⟨S4112x1024, .f32⟩
  | 74 => ⟨S_, .f32⟩
  | 75 => ⟨S31x1024, .f32⟩
  | 76 => ⟨S31x1024, .f32⟩
  | 77 => ⟨S_, .f32⟩
  | 78 => ⟨S4142x1024, .f32⟩
  | 79 => ⟨S4142x1024, .f32⟩
  | 80 => ⟨S4112x1024, .f32⟩
  | 81 => ⟨S_, .f32⟩
  | 82 => ⟨S1024, .f32⟩
  | 83 => ⟨S1x1024, .f32⟩
  | 84 => ⟨S4112x1024, .f32⟩
  | 85 => ⟨S4112x1024, .f32⟩
  | 86 => ⟨S_, .f32⟩
  | 87 => ⟨S31x1024, .f32⟩
  | 88 => ⟨S31x1024, .f32⟩
  | 89 => ⟨S_, .f32⟩
  | 90 => ⟨S4142x1024, .f32⟩
  | 91 => ⟨S4142x1024, .f32⟩
  | 92 => ⟨S4112x1024, .f32⟩
  | 93 => ⟨S_, .f32⟩
  | 94 => ⟨S1024, .f32⟩
  | 95 => ⟨S1x1024, .f32⟩
  | 96 => ⟨S4112x1024, .f32⟩
  | 97 => ⟨S4112x1024, .f32⟩
  | 98 => ⟨S_, .f32⟩
  | 99 => ⟨S31x1024, .f32⟩
  | 100 => ⟨S31x1024, .f32⟩
  | 101 => ⟨S_, .f32⟩
  | 102 => ⟨S4142x1024, .f32⟩
  | 103 => ⟨S4142x1024, .f32⟩
  | 104 => ⟨S4112x1024, .f32⟩
  | 105 => ⟨S_, .f32⟩
  | 106 => ⟨S1024, .f32⟩
  | 107 => ⟨S1x1024, .f32⟩
  | 108 => ⟨S4112x1024, .f32⟩
  | 109 => ⟨S4112x1024, .f32⟩
  | 110 => ⟨S_, .f32⟩
  | 111 => ⟨S31x1024, .f32⟩
  | 112 => ⟨S31x1024, .f32⟩
  | 113 => ⟨S_, .f32⟩
  | 114 => ⟨S4142x1024, .f32⟩
  | 115 => ⟨S4142x1024, .f32⟩
  | 116 => ⟨S4112x1024, .f32⟩
  | 117 => ⟨S_, .f32⟩
  | 118 => ⟨S1024, .f32⟩
  | 119 => ⟨S1x1024, .f32⟩
  | 120 => ⟨S4112x1024, .f32⟩
  | 121 => ⟨S4112x1024, .f32⟩
  | 122 => ⟨S_, .f32⟩
  | 123 => ⟨S31x1024, .f32⟩
  | 124 => ⟨S31x1024, .f32⟩
  | 125 => ⟨S_, .f32⟩
  | 126 => ⟨S4142x1024, .f32⟩
  | 127 => ⟨S4142x1024, .f32⟩
  | _ => ⟨S4112x5120, .bf16⟩

abbrev hbmTy0_3 (i : Nat) : BufTy := match i % 128 with
  | 0 => ⟨S4112x1024, .f32⟩
  | 1 => ⟨S_, .f32⟩
  | 2 => ⟨S1024, .f32⟩
  | 3 => ⟨S1x1024, .f32⟩
  | 4 => ⟨S4112x1024, .f32⟩
  | 5 => ⟨S4112x1024, .f32⟩
  | 6 => ⟨S_, .f32⟩
  | 7 => ⟨S31x1024, .f32⟩
  | 8 => ⟨S31x1024, .f32⟩
  | 9 => ⟨S_, .f32⟩
  | 10 => ⟨S4142x1024, .f32⟩
  | 11 => ⟨S4142x1024, .f32⟩
  | 12 => ⟨S4112x1024, .f32⟩
  | 13 => ⟨S_, .f32⟩
  | 14 => ⟨S1024, .f32⟩
  | 15 => ⟨S1x1024, .f32⟩
  | 16 => ⟨S4112x1024, .f32⟩
  | 17 => ⟨S4112x1024, .f32⟩
  | 18 => ⟨S_, .f32⟩
  | 19 => ⟨S31x1024, .f32⟩
  | 20 => ⟨S31x1024, .f32⟩
  | 21 => ⟨S_, .f32⟩
  | 22 => ⟨S4142x1024, .f32⟩
  | 23 => ⟨S4142x1024, .f32⟩
  | 24 => ⟨S4112x1024, .f32⟩
  | 25 => ⟨S_, .f32⟩
  | 26 => ⟨S1024, .f32⟩
  | 27 => ⟨S1x1024, .f32⟩
  | 28 => ⟨S4112x1024, .f32⟩
  | 29 => ⟨S4112x1024, .f32⟩
  | 30 => ⟨S_, .f32⟩
  | 31 => ⟨S31x1024, .f32⟩
  | 32 => ⟨S31x1024, .f32⟩
  | 33 => ⟨S_, .f32⟩
  | 34 => ⟨S4142x1024, .f32⟩
  | 35 => ⟨S4142x1024, .f32⟩
  | 36 => ⟨S4112x1024, .f32⟩
  | 37 => ⟨S_, .f32⟩
  | 38 => ⟨S1024, .f32⟩
  | 39 => ⟨S1x1024, .f32⟩
  | 40 => ⟨S4112x1024, .f32⟩
  | 41 => ⟨S4112x1024, .f32⟩
  | 42 => ⟨S_, .f32⟩
  | 43 => ⟨S31x1024, .f32⟩
  | 44 => ⟨S31x1024, .f32⟩
  | 45 => ⟨S_, .f32⟩
  | 46 => ⟨S4142x1024, .f32⟩
  | 47 => ⟨S4142x1024, .f32⟩
  | 48 => ⟨S4112x1024, .f32⟩
  | 49 => ⟨S_, .f32⟩
  | 50 => ⟨S1024, .f32⟩
  | 51 => ⟨S1x1024, .f32⟩
  | 52 => ⟨S4112x1024, .f32⟩
  | 53 => ⟨S4112x1024, .f32⟩
  | 54 => ⟨S_, .f32⟩
  | 55 => ⟨S31x1024, .f32⟩
  | 56 => ⟨S31x1024, .f32⟩
  | 57 => ⟨S_, .f32⟩
  | 58 => ⟨S4142x1024, .f32⟩
  | 59 => ⟨S4142x1024, .f32⟩
  | 60 => ⟨S4112x1024, .f32⟩
  | 61 => ⟨S_, .f32⟩
  | 62 => ⟨S1024, .f32⟩
  | 63 => ⟨S1x1024, .f32⟩
  | 64 => ⟨S4112x1024, .f32⟩
  | 65 => ⟨S4112x1024, .f32⟩
  | 66 => ⟨S_, .f32⟩
  | 67 => ⟨S31x1024, .f32⟩
  | 68 => ⟨S31x1024, .f32⟩
  | 69 => ⟨S_, .f32⟩
  | 70 => ⟨S4142x1024, .f32⟩
  | 71 => ⟨S4142x1024, .f32⟩
  | 72 => ⟨S4112x1024, .f32⟩
  | 73 => ⟨S_, .f32⟩
  | 74 => ⟨S1024, .f32⟩
  | 75 => ⟨S1x1024, .f32⟩
  | 76 => ⟨S4112x1024, .f32⟩
  | 77 => ⟨S4112x1024, .f32⟩
  | 78 => ⟨S_, .f32⟩
  | 79 => ⟨S31x1024, .f32⟩
  | 80 => ⟨S31x1024, .f32⟩
  | 81 => ⟨S_, .f32⟩
  | 82 => ⟨S4142x1024, .f32⟩
  | 83 => ⟨S4142x1024, .f32⟩
  | 84 => ⟨S4112x1024, .f32⟩
  | 85 => ⟨S_, .f32⟩
  | 86 => ⟨S1024, .f32⟩
  | 87 => ⟨S1x1024, .f32⟩
  | 88 => ⟨S4112x1024, .f32⟩
  | 89 => ⟨S4112x1024, .f32⟩
  | 90 => ⟨S_, .f32⟩
  | 91 => ⟨S31x1024, .f32⟩
  | 92 => ⟨S31x1024, .f32⟩
  | 93 => ⟨S_, .f32⟩
  | 94 => ⟨S4142x1024, .f32⟩
  | 95 => ⟨S4142x1024, .f32⟩
  | 96 => ⟨S4112x1024, .f32⟩
  | 97 => ⟨S_, .f32⟩
  | 98 => ⟨S1024, .f32⟩
  | 99 => ⟨S1x1024, .f32⟩
  | 100 => ⟨S4112x1024, .f32⟩
  | 101 => ⟨S4112x1024, .f32⟩
  | 102 => ⟨S_, .f32⟩
  | 103 => ⟨S31x1024, .f32⟩
  | 104 => ⟨S31x1024, .f32⟩
  | 105 => ⟨S_, .f32⟩
  | 106 => ⟨S4142x1024, .f32⟩
  | 107 => ⟨S4142x1024, .f32⟩
  | 108 => ⟨S4112x1024, .f32⟩
  | 109 => ⟨S_, .f32⟩
  | 110 => ⟨S1024, .f32⟩
  | 111 => ⟨S1x1024, .f32⟩
  | 112 => ⟨S4112x1024, .f32⟩
  | 113 => ⟨S4112x1024, .f32⟩
  | 114 => ⟨S_, .f32⟩
  | 115 => ⟨S31x1024, .f32⟩
  | 116 => ⟨S31x1024, .f32⟩
  | 117 => ⟨S_, .f32⟩
  | 118 => ⟨S4142x1024, .f32⟩
  | 119 => ⟨S4142x1024, .f32⟩
  | 120 => ⟨S4112x1024, .f32⟩
  | 121 => ⟨S_, .f32⟩
  | 122 => ⟨S1024, .f32⟩
  | 123 => ⟨S1x1024, .f32⟩
  | 124 => ⟨S4112x1024, .f32⟩
  | 125 => ⟨S4112x1024, .f32⟩
  | 126 => ⟨S_, .f32⟩
  | 127 => ⟨S31x1024, .f32⟩
  | _ => ⟨S4112x5120, .bf16⟩

abbrev hbmTy0_4 (i : Nat) : BufTy := match i % 128 with
  | 0 => ⟨S31x1024, .f32⟩
  | 1 => ⟨S_, .f32⟩
  | 2 => ⟨S4142x1024, .f32⟩
  | 3 => ⟨S4142x1024, .f32⟩
  | 4 => ⟨S4112x1024, .f32⟩
  | 5 => ⟨S_, .f32⟩
  | 6 => ⟨S1024, .f32⟩
  | 7 => ⟨S1x1024, .f32⟩
  | 8 => ⟨S4112x1024, .f32⟩
  | 9 => ⟨S4112x1024, .f32⟩
  | 10 => ⟨S_, .f32⟩
  | 11 => ⟨S31x1024, .f32⟩
  | 12 => ⟨S31x1024, .f32⟩
  | 13 => ⟨S_, .f32⟩
  | 14 => ⟨S4142x1024, .f32⟩
  | 15 => ⟨S4142x1024, .f32⟩
  | 16 => ⟨S4112x1024, .f32⟩
  | 17 => ⟨S_, .f32⟩
  | 18 => ⟨S1024, .f32⟩
  | 19 => ⟨S1x1024, .f32⟩
  | 20 => ⟨S4112x1024, .f32⟩
  | 21 => ⟨S4112x1024, .f32⟩
  | 22 => ⟨S_, .f32⟩
  | 23 => ⟨S31x1024, .f32⟩
  | 24 => ⟨S31x1024, .f32⟩
  | 25 => ⟨S_, .f32⟩
  | 26 => ⟨S4142x1024, .f32⟩
  | 27 => ⟨S4142x1024, .f32⟩
  | 28 => ⟨S4112x1024, .f32⟩
  | 29 => ⟨S_, .f32⟩
  | 30 => ⟨S1024, .f32⟩
  | 31 => ⟨S1x1024, .f32⟩
  | 32 => ⟨S4112x1024, .f32⟩
  | 33 => ⟨S4112x1024, .f32⟩
  | 34 => ⟨S_, .f32⟩
  | 35 => ⟨S31x1024, .f32⟩
  | 36 => ⟨S31x1024, .f32⟩
  | 37 => ⟨S_, .f32⟩
  | 38 => ⟨S4142x1024, .f32⟩
  | 39 => ⟨S4142x1024, .f32⟩
  | 40 => ⟨S4112x1024, .f32⟩
  | 41 => ⟨S_, .f32⟩
  | 42 => ⟨S1024, .f32⟩
  | 43 => ⟨S1x1024, .f32⟩
  | 44 => ⟨S4112x1024, .f32⟩
  | 45 => ⟨S4112x1024, .f32⟩
  | 46 => ⟨S_, .f32⟩
  | 47 => ⟨S31x1024, .f32⟩
  | 48 => ⟨S31x1024, .f32⟩
  | 49 => ⟨S_, .f32⟩
  | 50 => ⟨S4142x1024, .f32⟩
  | 51 => ⟨S4142x1024, .f32⟩
  | 52 => ⟨S4112x1024, .f32⟩
  | 53 => ⟨S_, .f32⟩
  | 54 => ⟨S1024, .f32⟩
  | 55 => ⟨S1x1024, .f32⟩
  | 56 => ⟨S4112x1024, .f32⟩
  | 57 => ⟨S4112x1024, .f32⟩
  | 58 => ⟨S_, .f32⟩
  | 59 => ⟨S31x1024, .f32⟩
  | 60 => ⟨S31x1024, .f32⟩
  | 61 => ⟨S_, .f32⟩
  | 62 => ⟨S4142x1024, .f32⟩
  | 63 => ⟨S4142x1024, .f32⟩
  | 64 => ⟨S4112x1024, .f32⟩
  | 65 => ⟨S_, .f32⟩
  | 66 => ⟨S1024, .f32⟩
  | 67 => ⟨S1x1024, .f32⟩
  | 68 => ⟨S4112x1024, .f32⟩
  | 69 => ⟨S4112x1024, .f32⟩
  | 70 => ⟨S_, .f32⟩
  | 71 => ⟨S31x1024, .f32⟩
  | 72 => ⟨S31x1024, .f32⟩
  | 73 => ⟨S_, .f32⟩
  | 74 => ⟨S4142x1024, .f32⟩
  | 75 => ⟨S4142x1024, .f32⟩
  | 76 => ⟨S30x1024, .f32⟩
  | 77 => ⟨S4112x1024, .f32⟩
  | 78 => ⟨S4112x1024, .f32⟩
  | 79 => ⟨S4112x1024, .f32⟩
  | 80 => ⟨S4112x1024, .f32⟩
  | 81 => ⟨S4112x1024, .f32⟩
  | 82 => ⟨S4112x1024, .f32⟩
  | 83 => ⟨S4112x1024, .f32⟩
  | 84 => ⟨S_, .f32⟩
  | 85 => ⟨S1024, .f32⟩
  | 86 => ⟨S1x1024, .f32⟩
  | 87 => ⟨S4112x1024, .f32⟩
  | 88 => ⟨S4112x1024, .f32⟩
  | 89 => ⟨S_, .f32⟩
  | 90 => ⟨S3x1024, .f32⟩
  | 91 => ⟨S_, .f32⟩
  | 92 => ⟨S4114x1024, .f32⟩
  | 93 => ⟨S4112x1024, .f32⟩
  | 94 => ⟨S_, .f32⟩
  | 95 => ⟨S1024, .f32⟩
  | 96 => ⟨S1x1024, .f32⟩
  | 97 => ⟨S4112x1024, .f32⟩
  | 98 => ⟨S4112x1024, .f32⟩
  | 99 => ⟨S_, .f32⟩
  | 100 => ⟨S3x1024, .f32⟩
  | 101 => ⟨S3x1024, .f32⟩
  | 102 => ⟨S_, .f32⟩
  | 103 => ⟨S4114x1024, .f32⟩
  | 104 => ⟨S4114x1024, .f32⟩
  | 105 => ⟨S4112x1024, .f32⟩
  | 106 => ⟨S_, .f32⟩
  | 107 => ⟨S1024, .f32⟩
  | 108 => ⟨S1x1024, .f32⟩
  | 109 => ⟨S4112x1024, .f32⟩
  | 110 => ⟨S4112x1024, .f32⟩
  | 111 => ⟨S_, .f32⟩
  | 112 => ⟨S3x1024, .f32⟩
  | 113 => ⟨S3x1024, .f32⟩
  | 114 => ⟨S_, .f32⟩
  | 115 => ⟨S4114x1024, .f32⟩
  | 116 => ⟨S4114x1024, .f32⟩
  | 117 => ⟨S2x1024, .f32⟩
  | 118 => ⟨S4112x1024, .f32⟩
  | 119 => ⟨S4112x1024, .f32⟩
  | 120 => ⟨S4112x1024, .f32⟩
  | 121 => ⟨S_, .f32⟩
  | 122 => ⟨S4112x5120, .f32⟩
  | 123 => ⟨S_, .f32⟩
  | 124 => ⟨S4112x5120, .f32⟩
  | 125 => ⟨S4112x5120, .f32⟩
  | 126 => ⟨S_, .f32⟩
  | 127 => ⟨S4112x5120, .f32⟩
  | _ => ⟨S4112x5120, .bf16⟩

abbrev hbmTy0_5 (i : Nat) : BufTy := match i % 128 with
  | 0 => ⟨S4112x5120, .f32⟩
  | 1 => ⟨S_, .f32⟩
  | 2 => ⟨S4112x5120, .f32⟩
  | 3 => ⟨S4112x5120, .f32⟩
  | 4 => ⟨S_, .f32⟩
  | 5 => ⟨S4112x5120, .f32⟩
  | 6 => ⟨S4112x5120, .f32⟩
  | 7 => ⟨S4112x5120, .bf16⟩
  | 8 => ⟨S4112x5x1024, .bf16⟩
  | 9 => ⟨S5x4112x1024, .bf16⟩
  | 10 => ⟨S5x4096x1024, .bf16⟩
  | 11 => ⟨S5x16x1024, .bf16⟩
  | 12 => ⟨S_, .bf16⟩
  | 13 => ⟨S5x240x1024, .bf16⟩
  | 14 => ⟨S5x4352x1024, .bf16⟩
  | 15 => ⟨S3x8x128, .f32⟩
  | 16 => ⟨S8x3x128, .f32⟩
  | 17 => ⟨S31x8x128, .f32⟩
  | 18 => ⟨S8x31x128, .f32⟩
  | _ => ⟨S4112x5120, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4112x5120, .bf16⟩

abbrev bufTy : (tb : Table) → Fin (tcTables nBuf tb) → BufTy
  | .hbm, ⟨i, _⟩ => hbmTy i
  | _, _ => ⟨S4112x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_cst_7 : Ref sig .tc := ⟨.hbm, 211, rfl⟩
abbrev main_v198 : Ref sig .tc := ⟨.hbm, 212, rfl⟩
abbrev main_cst_8 : Ref sig .tc := ⟨.hbm, 213, rfl⟩
abbrev main_v199 : Ref sig .tc := ⟨.hbm, 214, rfl⟩
abbrev main_cst_9 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_cst_10 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_cst_11 : Ref sig .tc := ⟨.hbm, 224, rfl⟩
abbrev main_v207 : Ref sig .tc := ⟨.hbm, 225, rfl⟩
abbrev main_cst_12 : Ref sig .tc := ⟨.hbm, 226, rfl⟩
abbrev main_v208 : Ref sig .tc := ⟨.hbm, 227, rfl⟩
abbrev main_v209 : Ref sig .tc := ⟨.hbm, 228, rfl⟩
abbrev main_cst_13 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_cst_14 : Ref sig .tc := ⟨.hbm, 234, rfl⟩
abbrev main_v214 : Ref sig .tc := ⟨.hbm, 235, rfl⟩
abbrev main_v215 : Ref sig .tc := ⟨.hbm, 236, rfl⟩
abbrev main_cst_15 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_cst_16 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_cst_17 : Ref sig .tc := ⟨.hbm, 246, rfl⟩
abbrev main_v223 : Ref sig .tc := ⟨.hbm, 247, rfl⟩
abbrev main_v224 : Ref sig .tc := ⟨.hbm, 248, rfl⟩
abbrev main_cst_18 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_cst_19 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_cst_20 : Ref sig .tc := ⟨.hbm, 258, rfl⟩
abbrev main_v232 : Ref sig .tc := ⟨.hbm, 259, rfl⟩
abbrev main_v233 : Ref sig .tc := ⟨.hbm, 260, rfl⟩
abbrev main_cst_21 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_cst_22 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_cst_23 : Ref sig .tc := ⟨.hbm, 270, rfl⟩
abbrev main_v241 : Ref sig .tc := ⟨.hbm, 271, rfl⟩
abbrev main_v242 : Ref sig .tc := ⟨.hbm, 272, rfl⟩
abbrev main_cst_24 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_cst_25 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_cst_26 : Ref sig .tc := ⟨.hbm, 282, rfl⟩
abbrev main_v250 : Ref sig .tc := ⟨.hbm, 283, rfl⟩
abbrev main_v251 : Ref sig .tc := ⟨.hbm, 284, rfl⟩
abbrev main_cst_27 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_cst_28 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_cst_29 : Ref sig .tc := ⟨.hbm, 294, rfl⟩
abbrev main_v259 : Ref sig .tc := ⟨.hbm, 295, rfl⟩
abbrev main_v260 : Ref sig .tc := ⟨.hbm, 296, rfl⟩
abbrev main_cst_30 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_cst_31 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_cst_32 : Ref sig .tc := ⟨.hbm, 306, rfl⟩
abbrev main_v268 : Ref sig .tc := ⟨.hbm, 307, rfl⟩
abbrev main_v269 : Ref sig .tc := ⟨.hbm, 308, rfl⟩
abbrev main_cst_33 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_cst_34 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_cst_35 : Ref sig .tc := ⟨.hbm, 318, rfl⟩
abbrev main_v277 : Ref sig .tc := ⟨.hbm, 319, rfl⟩
abbrev main_v278 : Ref sig .tc := ⟨.hbm, 320, rfl⟩
abbrev main_cst_36 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_cst_37 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_cst_38 : Ref sig .tc := ⟨.hbm, 330, rfl⟩
abbrev main_v286 : Ref sig .tc := ⟨.hbm, 331, rfl⟩
abbrev main_v287 : Ref sig .tc := ⟨.hbm, 332, rfl⟩
abbrev main_cst_39 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_cst_40 : Ref sig .tc := ⟨.hbm, 337, rfl⟩
abbrev main_v291 : Ref sig .tc := ⟨.hbm, 338, rfl⟩
abbrev main_v292 : Ref sig .tc := ⟨.hbm, 339, rfl⟩
abbrev main_v293 : Ref sig .tc := ⟨.hbm, 340, rfl⟩
abbrev main_v294 : Ref sig .tc := ⟨.hbm, 341, rfl⟩
abbrev main_cst_41 : Ref sig .tc := ⟨.hbm, 342, rfl⟩
abbrev main_v295 : Ref sig .tc := ⟨.hbm, 343, rfl⟩
abbrev main_v296 : Ref sig .tc := ⟨.hbm, 344, rfl⟩
abbrev main_cst_42 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_cst_43 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_cst_44 : Ref sig .tc := ⟨.hbm, 354, rfl⟩
abbrev main_v304 : Ref sig .tc := ⟨.hbm, 355, rfl⟩
abbrev main_v305 : Ref sig .tc := ⟨.hbm, 356, rfl⟩
abbrev main_cst_45 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_cst_46 : Ref sig .tc := ⟨.hbm, 361, rfl⟩
abbrev main_v309 : Ref sig .tc := ⟨.hbm, 362, rfl⟩
abbrev main_v310 : Ref sig .tc := ⟨.hbm, 363, rfl⟩
abbrev main_v311 : Ref sig .tc := ⟨.hbm, 364, rfl⟩
abbrev main_v312 : Ref sig .tc := ⟨.hbm, 365, rfl⟩
abbrev main_cst_47 : Ref sig .tc := ⟨.hbm, 366, rfl⟩
abbrev main_v313 : Ref sig .tc := ⟨.hbm, 367, rfl⟩
abbrev main_v314 : Ref sig .tc := ⟨.hbm, 368, rfl⟩
abbrev main_cst_48 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_cst_49 : Ref sig .tc := ⟨.hbm, 373, rfl⟩
abbrev main_v318 : Ref sig .tc := ⟨.hbm, 374, rfl⟩
abbrev main_v319 : Ref sig .tc := ⟨.hbm, 375, rfl⟩
abbrev main_v320 : Ref sig .tc := ⟨.hbm, 376, rfl⟩
abbrev main_v321 : Ref sig .tc := ⟨.hbm, 377, rfl⟩
abbrev main_cst_50 : Ref sig .tc := ⟨.hbm, 378, rfl⟩
abbrev main_v322 : Ref sig .tc := ⟨.hbm, 379, rfl⟩
abbrev main_v323 : Ref sig .tc := ⟨.hbm, 380, rfl⟩
abbrev main_cst_51 : Ref sig .tc := ⟨.hbm, 381, rfl⟩
abbrev main_v324 : Ref sig .tc := ⟨.hbm, 382, rfl⟩
abbrev main_v325 : Ref sig .tc := ⟨.hbm, 383, rfl⟩
abbrev main_v326 : Ref sig .tc := ⟨.hbm, 384, rfl⟩
abbrev main_cst_52 : Ref sig .tc := ⟨.hbm, 385, rfl⟩
abbrev main_v327 : Ref sig .tc := ⟨.hbm, 386, rfl⟩
abbrev main_v328 : Ref sig .tc := ⟨.hbm, 387, rfl⟩
abbrev main_v329 : Ref sig .tc := ⟨.hbm, 388, rfl⟩
abbrev main_v330 : Ref sig .tc := ⟨.hbm, 389, rfl⟩
abbrev main_cst_53 : Ref sig .tc := ⟨.hbm, 390, rfl⟩
abbrev main_v331 : Ref sig .tc := ⟨.hbm, 391, rfl⟩
abbrev main_v332 : Ref sig .tc := ⟨.hbm, 392, rfl⟩
abbrev main_cst_54 : Ref sig .tc := ⟨.hbm, 393, rfl⟩
abbrev main_v333 : Ref sig .tc := ⟨.hbm, 394, rfl⟩
abbrev main_v334 : Ref sig .tc := ⟨.hbm, 395, rfl⟩
abbrev main_v335 : Ref sig .tc := ⟨.hbm, 396, rfl⟩
abbrev main_cst_55 : Ref sig .tc := ⟨.hbm, 397, rfl⟩
abbrev main_v336 : Ref sig .tc := ⟨.hbm, 398, rfl⟩
abbrev main_v337 : Ref sig .tc := ⟨.hbm, 399, rfl⟩
abbrev main_v338 : Ref sig .tc := ⟨.hbm, 400, rfl⟩
abbrev main_v339 : Ref sig .tc := ⟨.hbm, 401, rfl⟩
abbrev main_cst_56 : Ref sig .tc := ⟨.hbm, 402, rfl⟩
abbrev main_v340 : Ref sig .tc := ⟨.hbm, 403, rfl⟩
abbrev main_v341 : Ref sig .tc := ⟨.hbm, 404, rfl⟩
abbrev main_cst_57 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_cst_58 : Ref sig .tc := ⟨.hbm, 409, rfl⟩
abbrev main_v345 : Ref sig .tc := ⟨.hbm, 410, rfl⟩
abbrev main_v346 : Ref sig .tc := ⟨.hbm, 411, rfl⟩
abbrev main_v347 : Ref sig .tc := ⟨.hbm, 412, rfl⟩
abbrev main_v348 : Ref sig .tc := ⟨.hbm, 413, rfl⟩
abbrev main_cst_59 : Ref sig .tc := ⟨.hbm, 414, rfl⟩
abbrev main_v349 : Ref sig .tc := ⟨.hbm, 415, rfl⟩
abbrev main_v350 : Ref sig .tc := ⟨.hbm, 416, rfl⟩
abbrev main_cst_60 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_cst_61 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_cst_62 : Ref sig .tc := ⟨.hbm, 426, rfl⟩
abbrev main_v358 : Ref sig .tc := ⟨.hbm, 427, rfl⟩
abbrev main_v359 : Ref sig .tc := ⟨.hbm, 428, rfl⟩
abbrev main_cst_63 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_cst_64 : Ref sig .tc := ⟨.hbm, 433, rfl⟩
abbrev main_v363 : Ref sig .tc := ⟨.hbm, 434, rfl⟩
abbrev main_v364 : Ref sig .tc := ⟨.hbm, 435, rfl⟩
abbrev main_v365 : Ref sig .tc := ⟨.hbm, 436, rfl⟩
abbrev main_v366 : Ref sig .tc := ⟨.hbm, 437, rfl⟩
abbrev main_cst_65 : Ref sig .tc := ⟨.hbm, 438, rfl⟩
abbrev main_v367 : Ref sig .tc := ⟨.hbm, 439, rfl⟩
abbrev main_v368 : Ref sig .tc := ⟨.hbm, 440, rfl⟩
abbrev main_cst_66 : Ref sig .tc := ⟨.hbm, 441, rfl⟩
abbrev main_v369 : Ref sig .tc := ⟨.hbm, 442, rfl⟩
abbrev main_v370 : Ref sig .tc := ⟨.hbm, 443, rfl⟩
abbrev main_v371 : Ref sig .tc := ⟨.hbm, 444, rfl⟩
abbrev main_cst_67 : Ref sig .tc := ⟨.hbm, 445, rfl⟩
abbrev main_v372 : Ref sig .tc := ⟨.hbm, 446, rfl⟩
abbrev main_v373 : Ref sig .tc := ⟨.hbm, 447, rfl⟩
abbrev main_v374 : Ref sig .tc := ⟨.hbm, 448, rfl⟩
abbrev main_v375 : Ref sig .tc := ⟨.hbm, 449, rfl⟩
abbrev main_cst_68 : Ref sig .tc := ⟨.hbm, 450, rfl⟩
abbrev main_v376 : Ref sig .tc := ⟨.hbm, 451, rfl⟩
abbrev main_v377 : Ref sig .tc := ⟨.hbm, 452, rfl⟩
abbrev main_cst_69 : Ref sig .tc := ⟨.hbm, 453, rfl⟩
abbrev main_v378 : Ref sig .tc := ⟨.hbm, 454, rfl⟩
abbrev main_v379 : Ref sig .tc := ⟨.hbm, 455, rfl⟩
abbrev main_v380 : Ref sig .tc := ⟨.hbm, 456, rfl⟩
abbrev main_cst_70 : Ref sig .tc := ⟨.hbm, 457, rfl⟩
abbrev main_v381 : Ref sig .tc := ⟨.hbm, 458, rfl⟩
abbrev main_v382 : Ref sig .tc := ⟨.hbm, 459, rfl⟩
abbrev main_v383 : Ref sig .tc := ⟨.hbm, 460, rfl⟩
abbrev main_v384 : Ref sig .tc := ⟨.hbm, 461, rfl⟩
abbrev main_cst_71 : Ref sig .tc := ⟨.hbm, 462, rfl⟩
abbrev main_v385 : Ref sig .tc := ⟨.hbm, 463, rfl⟩
abbrev main_v386 : Ref sig .tc := ⟨.hbm, 464, rfl⟩
abbrev main_cst_72 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_cst_73 : Ref sig .tc := ⟨.hbm, 469, rfl⟩
abbrev main_v390 : Ref sig .tc := ⟨.hbm, 470, rfl⟩
abbrev main_v391 : Ref sig .tc := ⟨.hbm, 471, rfl⟩
abbrev main_v392 : Ref sig .tc := ⟨.hbm, 472, rfl⟩
abbrev main_v393 : Ref sig .tc := ⟨.hbm, 473, rfl⟩
abbrev main_cst_74 : Ref sig .tc := ⟨.hbm, 474, rfl⟩
abbrev main_v394 : Ref sig .tc := ⟨.hbm, 475, rfl⟩
abbrev main_v395 : Ref sig .tc := ⟨.hbm, 476, rfl⟩
abbrev main_cst_75 : Ref sig .tc := ⟨.hbm, 477, rfl⟩
abbrev main_v396 : Ref sig .tc := ⟨.hbm, 478, rfl⟩
abbrev main_v397 : Ref sig .tc := ⟨.hbm, 479, rfl⟩
abbrev main_v398 : Ref sig .tc := ⟨.hbm, 480, rfl⟩
abbrev main_cst_76 : Ref sig .tc := ⟨.hbm, 481, rfl⟩
abbrev main_v399 : Ref sig .tc := ⟨.hbm, 482, rfl⟩
abbrev main_v400 : Ref sig .tc := ⟨.hbm, 483, rfl⟩
abbrev main_v401 : Ref sig .tc := ⟨.hbm, 484, rfl⟩
abbrev main_v402 : Ref sig .tc := ⟨.hbm, 485, rfl⟩
abbrev main_cst_77 : Ref sig .tc := ⟨.hbm, 486, rfl⟩
abbrev main_v403 : Ref sig .tc := ⟨.hbm, 487, rfl⟩
abbrev main_v404 : Ref sig .tc := ⟨.hbm, 488, rfl⟩
abbrev main_cst_78 : Ref sig .tc := ⟨.hbm, 489, rfl⟩
abbrev main_v405 : Ref sig .tc := ⟨.hbm, 490, rfl⟩
abbrev main_v406 : Ref sig .tc := ⟨.hbm, 491, rfl⟩
abbrev main_v407 : Ref sig .tc := ⟨.hbm, 492, rfl⟩
abbrev main_cst_79 : Ref sig .tc := ⟨.hbm, 493, rfl⟩
abbrev main_v408 : Ref sig .tc := ⟨.hbm, 494, rfl⟩
abbrev main_v409 : Ref sig .tc := ⟨.hbm, 495, rfl⟩
abbrev main_v410 : Ref sig .tc := ⟨.hbm, 496, rfl⟩
abbrev main_v411 : Ref sig .tc := ⟨.hbm, 497, rfl⟩
abbrev main_cst_80 : Ref sig .tc := ⟨.hbm, 498, rfl⟩
abbrev main_v412 : Ref sig .tc := ⟨.hbm, 499, rfl⟩
abbrev main_v413 : Ref sig .tc := ⟨.hbm, 500, rfl⟩
abbrev main_cst_81 : Ref sig .tc := ⟨.hbm, 501, rfl⟩
abbrev main_v414 : Ref sig .tc := ⟨.hbm, 502, rfl⟩
abbrev main_v415 : Ref sig .tc := ⟨.hbm, 503, rfl⟩
abbrev main_v416 : Ref sig .tc := ⟨.hbm, 504, rfl⟩
abbrev main_cst_82 : Ref sig .tc := ⟨.hbm, 505, rfl⟩
abbrev main_v417 : Ref sig .tc := ⟨.hbm, 506, rfl⟩
abbrev main_v418 : Ref sig .tc := ⟨.hbm, 507, rfl⟩
abbrev main_v419 : Ref sig .tc := ⟨.hbm, 508, rfl⟩
abbrev main_v420 : Ref sig .tc := ⟨.hbm, 509, rfl⟩
abbrev main_cst_83 : Ref sig .tc := ⟨.hbm, 510, rfl⟩
abbrev main_v421 : Ref sig .tc := ⟨.hbm, 511, rfl⟩
abbrev main_v422 : Ref sig .tc := ⟨.hbm, 512, rfl⟩
abbrev main_cst_84 : Ref sig .tc := ⟨.hbm, 513, rfl⟩
abbrev main_v423 : Ref sig .tc := ⟨.hbm, 514, rfl⟩
abbrev main_v424 : Ref sig .tc := ⟨.hbm, 515, rfl⟩
abbrev main_v425 : Ref sig .tc := ⟨.hbm, 516, rfl⟩
abbrev main_cst_85 : Ref sig .tc := ⟨.hbm, 517, rfl⟩
abbrev main_v426 : Ref sig .tc := ⟨.hbm, 518, rfl⟩
abbrev main_v427 : Ref sig .tc := ⟨.hbm, 519, rfl⟩
abbrev main_v428 : Ref sig .tc := ⟨.hbm, 520, rfl⟩
abbrev main_v429 : Ref sig .tc := ⟨.hbm, 521, rfl⟩
abbrev main_cst_86 : Ref sig .tc := ⟨.hbm, 522, rfl⟩
abbrev main_v430 : Ref sig .tc := ⟨.hbm, 523, rfl⟩
abbrev main_v431 : Ref sig .tc := ⟨.hbm, 524, rfl⟩
abbrev main_cst_87 : Ref sig .tc := ⟨.hbm, 525, rfl⟩
abbrev main_v432 : Ref sig .tc := ⟨.hbm, 526, rfl⟩
abbrev main_v433 : Ref sig .tc := ⟨.hbm, 527, rfl⟩
abbrev main_v434 : Ref sig .tc := ⟨.hbm, 528, rfl⟩
abbrev main_cst_88 : Ref sig .tc := ⟨.hbm, 529, rfl⟩
abbrev main_v435 : Ref sig .tc := ⟨.hbm, 530, rfl⟩
abbrev main_v436 : Ref sig .tc := ⟨.hbm, 531, rfl⟩
abbrev main_v437 : Ref sig .tc := ⟨.hbm, 532, rfl⟩
abbrev main_v438 : Ref sig .tc := ⟨.hbm, 533, rfl⟩
abbrev main_cst_89 : Ref sig .tc := ⟨.hbm, 534, rfl⟩
abbrev main_v439 : Ref sig .tc := ⟨.hbm, 535, rfl⟩
abbrev main_v440 : Ref sig .tc := ⟨.hbm, 536, rfl⟩
abbrev main_cst_90 : Ref sig .tc := ⟨.hbm, 537, rfl⟩
abbrev main_v441 : Ref sig .tc := ⟨.hbm, 538, rfl⟩
abbrev main_v442 : Ref sig .tc := ⟨.hbm, 539, rfl⟩
abbrev main_v443 : Ref sig .tc := ⟨.hbm, 540, rfl⟩
abbrev main_cst_91 : Ref sig .tc := ⟨.hbm, 541, rfl⟩
abbrev main_v444 : Ref sig .tc := ⟨.hbm, 542, rfl⟩
abbrev main_v445 : Ref sig .tc := ⟨.hbm, 543, rfl⟩
abbrev main_v446 : Ref sig .tc := ⟨.hbm, 544, rfl⟩
abbrev main_v447 : Ref sig .tc := ⟨.hbm, 545, rfl⟩
abbrev main_cst_92 : Ref sig .tc := ⟨.hbm, 546, rfl⟩
abbrev main_v448 : Ref sig .tc := ⟨.hbm, 547, rfl⟩
abbrev main_v449 : Ref sig .tc := ⟨.hbm, 548, rfl⟩
abbrev main_cst_93 : Ref sig .tc := ⟨.hbm, 549, rfl⟩
abbrev main_v450 : Ref sig .tc := ⟨.hbm, 550, rfl⟩
abbrev main_v451 : Ref sig .tc := ⟨.hbm, 551, rfl⟩
abbrev main_v452 : Ref sig .tc := ⟨.hbm, 552, rfl⟩
abbrev main_cst_94 : Ref sig .tc := ⟨.hbm, 553, rfl⟩
abbrev main_v453 : Ref sig .tc := ⟨.hbm, 554, rfl⟩
abbrev main_v454 : Ref sig .tc := ⟨.hbm, 555, rfl⟩
abbrev main_v455 : Ref sig .tc := ⟨.hbm, 556, rfl⟩
abbrev main_v456 : Ref sig .tc := ⟨.hbm, 557, rfl⟩
abbrev main_cst_95 : Ref sig .tc := ⟨.hbm, 558, rfl⟩
abbrev main_v457 : Ref sig .tc := ⟨.hbm, 559, rfl⟩
abbrev main_v458 : Ref sig .tc := ⟨.hbm, 560, rfl⟩
abbrev main_cst_96 : Ref sig .tc := ⟨.hbm, 561, rfl⟩
abbrev main_v459 : Ref sig .tc := ⟨.hbm, 562, rfl⟩
abbrev main_v460 : Ref sig .tc := ⟨.hbm, 563, rfl⟩
abbrev main_v461 : Ref sig .tc := ⟨.hbm, 564, rfl⟩
abbrev main_cst_97 : Ref sig .tc := ⟨.hbm, 565, rfl⟩
abbrev main_v462 : Ref sig .tc := ⟨.hbm, 566, rfl⟩
abbrev main_v463 : Ref sig .tc := ⟨.hbm, 567, rfl⟩
abbrev main_v464 : Ref sig .tc := ⟨.hbm, 568, rfl⟩
abbrev main_v465 : Ref sig .tc := ⟨.hbm, 569, rfl⟩
abbrev main_cst_98 : Ref sig .tc := ⟨.hbm, 570, rfl⟩
abbrev main_v466 : Ref sig .tc := ⟨.hbm, 571, rfl⟩
abbrev main_v467 : Ref sig .tc := ⟨.hbm, 572, rfl⟩
abbrev main_cst_99 : Ref sig .tc := ⟨.hbm, 573, rfl⟩
abbrev main_v468 : Ref sig .tc := ⟨.hbm, 574, rfl⟩
abbrev main_v469 : Ref sig .tc := ⟨.hbm, 575, rfl⟩
abbrev main_v470 : Ref sig .tc := ⟨.hbm, 576, rfl⟩
abbrev main_cst_100 : Ref sig .tc := ⟨.hbm, 577, rfl⟩
abbrev main_v471 : Ref sig .tc := ⟨.hbm, 578, rfl⟩
abbrev main_v472 : Ref sig .tc := ⟨.hbm, 579, rfl⟩
abbrev main_v473 : Ref sig .tc := ⟨.hbm, 580, rfl⟩
abbrev main_v474 : Ref sig .tc := ⟨.hbm, 581, rfl⟩
abbrev main_cst_101 : Ref sig .tc := ⟨.hbm, 582, rfl⟩
abbrev main_v475 : Ref sig .tc := ⟨.hbm, 583, rfl⟩
abbrev main_v476 : Ref sig .tc := ⟨.hbm, 584, rfl⟩
abbrev main_cst_102 : Ref sig .tc := ⟨.hbm, 585, rfl⟩
abbrev main_v477 : Ref sig .tc := ⟨.hbm, 586, rfl⟩
abbrev main_v478 : Ref sig .tc := ⟨.hbm, 587, rfl⟩
abbrev main_v479 : Ref sig .tc := ⟨.hbm, 588, rfl⟩
abbrev main_v480 : Ref sig .tc := ⟨.hbm, 589, rfl⟩
abbrev main_v481 : Ref sig .tc := ⟨.hbm, 590, rfl⟩
abbrev main_v482 : Ref sig .tc := ⟨.hbm, 591, rfl⟩
abbrev main_v483 : Ref sig .tc := ⟨.hbm, 592, rfl⟩
abbrev main_v484 : Ref sig .tc := ⟨.hbm, 593, rfl⟩
abbrev main_v485 : Ref sig .tc := ⟨.hbm, 594, rfl⟩
abbrev main_v486 : Ref sig .tc := ⟨.hbm, 595, rfl⟩
abbrev main_cst_103 : Ref sig .tc := ⟨.hbm, 596, rfl⟩
abbrev main_v487 : Ref sig .tc := ⟨.hbm, 597, rfl⟩
abbrev main_v488 : Ref sig .tc := ⟨.hbm, 598, rfl⟩
abbrev main_v489 : Ref sig .tc := ⟨.hbm, 599, rfl⟩
abbrev main_v490 : Ref sig .tc := ⟨.hbm, 600, rfl⟩
abbrev main_cst_104 : Ref sig .tc := ⟨.hbm, 601, rfl⟩
abbrev main_v491 : Ref sig .tc := ⟨.hbm, 602, rfl⟩
abbrev main_cst_105 : Ref sig .tc := ⟨.hbm, 603, rfl⟩
abbrev main_v492 : Ref sig .tc := ⟨.hbm, 604, rfl⟩
abbrev main_v493 : Ref sig .tc := ⟨.hbm, 605, rfl⟩
abbrev main_cst_106 : Ref sig .tc := ⟨.hbm, 606, rfl⟩
abbrev main_v494 : Ref sig .tc := ⟨.hbm, 607, rfl⟩
abbrev main_v495 : Ref sig .tc := ⟨.hbm, 608, rfl⟩
abbrev main_v496 : Ref sig .tc := ⟨.hbm, 609, rfl⟩
abbrev main_v497 : Ref sig .tc := ⟨.hbm, 610, rfl⟩
abbrev main_cst_107 : Ref sig .tc := ⟨.hbm, 611, rfl⟩
abbrev main_v498 : Ref sig .tc := ⟨.hbm, 612, rfl⟩
abbrev main_v499 : Ref sig .tc := ⟨.hbm, 613, rfl⟩
abbrev main_cst_108 : Ref sig .tc := ⟨.hbm, 614, rfl⟩
abbrev main_v500 : Ref sig .tc := ⟨.hbm, 615, rfl⟩
abbrev main_v501 : Ref sig .tc := ⟨.hbm, 616, rfl⟩
abbrev main_v502 : Ref sig .tc := ⟨.hbm, 617, rfl⟩
abbrev main_cst_109 : Ref sig .tc := ⟨.hbm, 618, rfl⟩
abbrev main_v503 : Ref sig .tc := ⟨.hbm, 619, rfl⟩
abbrev main_v504 : Ref sig .tc := ⟨.hbm, 620, rfl⟩
abbrev main_v505 : Ref sig .tc := ⟨.hbm, 621, rfl⟩
abbrev main_v506 : Ref sig .tc := ⟨.hbm, 622, rfl⟩
abbrev main_cst_110 : Ref sig .tc := ⟨.hbm, 623, rfl⟩
abbrev main_v507 : Ref sig .tc := ⟨.hbm, 624, rfl⟩
abbrev main_v508 : Ref sig .tc := ⟨.hbm, 625, rfl⟩
abbrev main_cst_111 : Ref sig .tc := ⟨.hbm, 626, rfl⟩
abbrev main_v509 : Ref sig .tc := ⟨.hbm, 627, rfl⟩
abbrev main_v510 : Ref sig .tc := ⟨.hbm, 628, rfl⟩
abbrev main_v511 : Ref sig .tc := ⟨.hbm, 629, rfl⟩
abbrev main_v512 : Ref sig .tc := ⟨.hbm, 630, rfl⟩
abbrev main_v513 : Ref sig .tc := ⟨.hbm, 631, rfl⟩
abbrev main_v514 : Ref sig .tc := ⟨.hbm, 632, rfl⟩
abbrev main_cst_112 : Ref sig .tc := ⟨.hbm, 633, rfl⟩
abbrev main_v515 : Ref sig .tc := ⟨.hbm, 634, rfl⟩
abbrev main_cst_113 : Ref sig .tc := ⟨.hbm, 635, rfl⟩
abbrev main_v516 : Ref sig .tc := ⟨.hbm, 636, rfl⟩
abbrev main_v517 : Ref sig .tc := ⟨.hbm, 637, rfl⟩
abbrev main_cst_114 : Ref sig .tc := ⟨.hbm, 638, rfl⟩
abbrev main_v518 : Ref sig .tc := ⟨.hbm, 639, rfl⟩
abbrev main_v519 : Ref sig .tc := ⟨.hbm, 640, rfl⟩
abbrev main_cst_115 : Ref sig .tc := ⟨.hbm, 641, rfl⟩
abbrev main_v520 : Ref sig .tc := ⟨.hbm, 642, rfl⟩
abbrev main_v521 : Ref sig .tc := ⟨.hbm, 643, rfl⟩
abbrev main_cst_116 : Ref sig .tc := ⟨.hbm, 644, rfl⟩
abbrev main_v522 : Ref sig .tc := ⟨.hbm, 645, rfl⟩
abbrev main_v523 : Ref sig .tc := ⟨.hbm, 646, rfl⟩
abbrev main_v524 : Ref sig .tc := ⟨.hbm, 647, rfl⟩
abbrev main_v525 : Ref sig .tc := ⟨.hbm, 648, rfl⟩
abbrev main_v526 : Ref sig .tc := ⟨.hbm, 649, rfl⟩
abbrev main_v527 : Ref sig .tc := ⟨.hbm, 650, rfl⟩
abbrev main_v528 : Ref sig .tc := ⟨.hbm, 651, rfl⟩
abbrev main_cst_117 : Ref sig .tc := ⟨.hbm, 652, rfl⟩
abbrev main_v529 : Ref sig .tc := ⟨.hbm, 653, rfl⟩
abbrev main_v530 : Ref sig .tc := ⟨.hbm, 654, rfl⟩
abbrev main_v531 : Ref sig .tc := ⟨.hbm, 655, rfl⟩
abbrev main_v532 : Ref sig .tc := ⟨.hbm, 656, rfl⟩
abbrev main_v533 : Ref sig .tc := ⟨.hbm, 657, rfl⟩
abbrev main_v534 : Ref sig .tc := ⟨.hbm, 658, rfl⟩

abbrev nD : Nat := 1
abbrev τ : Topo := Topo.v7x

variable {F : FTy → Type} [FloatOps F]
-- ==== Kernel2.lean ====
abbrev S4096x2048 : Shape := ⟨2, ![4096, 2048]⟩
abbrev S8x4096x704 : Shape := ⟨3, ![8, 4096, 704]⟩
abbrev S8x704x2048 : Shape := ⟨3, ![8, 704, 2048]⟩
abbrev S1024x2048 : Shape := ⟨2, ![1024, 2048]⟩
abbrev S1x1024x704 : Shape := ⟨3, ![1, 1024, 704]⟩
abbrev S1x704x2048 : Shape := ⟨3, ![1, 704, 2048]⟩
abbrev S704x2048 : Shape := ⟨2, ![704, 2048]⟩
abbrev S1024x704 : Shape := ⟨2, ![1024, 704]⟩

abbrev nBuf : Space → Nat
  | .hbm => 5
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x4096x704, .bf16⟩
  | .hbm, ⟨2, _⟩ => ⟨S8x4096x704, .bf16⟩
  | .hbm, ⟨3, _⟩ => ⟨S8x704x2048, .bf16⟩
  | .hbm, ⟨4, _⟩ => ⟨S8x704x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x2048, .bf16⟩
  | .local _ .vmem, ⟨7, _⟩ => ⟨S1x704x2048, .bf16⟩
  | .local _ .vmem, ⟨8, _⟩ => ⟨S1x704x2048, .bf16⟩
  | .local _ .vmem, ⟨9, _⟩ => ⟨S1x704x2048, .bf16⟩
  | .local _ .vmem, ⟨10, _⟩ => ⟨S704x2048, .f32⟩
  | .local _ .vmem, ⟨11, _⟩ => ⟨S704x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S4096x2048 : Shape := ⟨2, ![4096, 2048]⟩
abbrev S8x4096x704 : Shape := ⟨3, ![8, 4096, 704]⟩
abbrev S_ : Shape := ⟨0, ![]⟩
abbrev S2048x5632 : Shape := ⟨2, ![2048, 5632]⟩
abbrev S4096x5632 : Shape := ⟨2, ![4096, 5632]⟩
abbrev S4096x8x704 : Shape := ⟨3, ![4096, 8, 704]⟩
abbrev S5632x2048 : Shape := ⟨2, ![5632, 2048]⟩
abbrev S8x704x2048 : Shape := ⟨3, ![8, 704, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x4096x704, .bf16⟩
  | .hbm, ⟨2, _⟩ => ⟨S8x4096x704, .bf16⟩
  | .hbm, ⟨3, _⟩ => ⟨S_, .f32⟩
  | .hbm, ⟨4, _⟩ => ⟨S2048x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S8x4096x704, .f32⟩
  | .hbm, ⟨9, _⟩ => ⟨S4096x8x704, .f32⟩
  | .hbm, ⟨10, _⟩ => ⟨S4096x5632, .f32⟩
  | .hbm, ⟨11, _⟩ => ⟨S8x4096x704, .f32⟩
  | .hbm, ⟨12, _⟩ => ⟨S4096x8x704, .f32⟩
  | .hbm, ⟨13, _⟩ => ⟨S4096x5632, .f32⟩
  | .hbm, ⟨14, _⟩ => ⟨S5632x2048, .f32⟩
  | .hbm, ⟨15, _⟩ => ⟨S2048x5632, .f32⟩
  | .hbm, ⟨16, _⟩ => ⟨S5632x2048, .f32⟩
  | .hbm, ⟨17, _⟩ => ⟨S2048x5632, .f32⟩
  | .hbm, ⟨18, _⟩ => ⟨S5632x2048, .f32⟩
  | .hbm, ⟨19, _⟩ => ⟨S8x704x2048, .f32⟩
  | .hbm, ⟨20, _⟩ => ⟨S8x704x2048, .bf16⟩
  | .hbm, ⟨21, _⟩ => ⟨S5632x2048, .f32⟩
  | .hbm, ⟨22, _⟩ => ⟨S8x704x2048, .f32⟩
  | .hbm, ⟨23, _⟩ => ⟨S8x704x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel3.lean ====
abbrev S8x4096x704 : Shape := ⟨3, ![8, 4096, 704]⟩
abbrev S4096x2048 : Shape := ⟨2, ![4096, 2048]⟩
abbrev S8x704x2048 : Shape := ⟨3, ![8, 704, 2048]⟩
abbrev S1x1024x704 : Shape := ⟨3, ![1, 1024, 704]⟩
abbrev S1024x2048 : Shape := ⟨2, ![1024, 2048]⟩
abbrev S1x704x2048 : Shape := ⟨3, ![1, 704, 2048]⟩
abbrev S704x2048 : Shape := ⟨2, ![704, 2048]⟩
abbrev S1024x704 : Shape := ⟨2, ![1024, 704]⟩

abbrev nBuf : Space → Nat
  | .hbm => 4
  | .vmem => 9
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S4096x2048, .bf16⟩
  | .hbm, ⟨3, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x2048, .bf16⟩
  | .local _ .vmem, ⟨5, _⟩ => ⟨S1024x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S704x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_15 : BitVec 32 := 0#32
  let v25 : BitVec 1 := Scalar.cmpi .ne v24 c0_i32_15
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S8x4096x704 : Shape := ⟨3, ![8, 4096, 704]⟩
abbrev S4096x2048 : Shape := ⟨2, ![4096, 2048]⟩
abbrev S_ : Shape := ⟨0, ![]⟩
abbrev S5632x2048 : Shape := ⟨2, ![5632, 2048]⟩
abbrev S4096x8x704 : Shape := ⟨3, ![4096, 8, 704]⟩
abbrev S4096x5632 : Shape := ⟨2, ![4096, 5632]⟩
abbrev S2048x5632 : Shape := ⟨2, ![2048, 5632]⟩
abbrev S8x704x2048 : Shape := ⟨3, ![8, 704, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S4096x2048, .bf16⟩
  | .hbm, ⟨3, _⟩ => ⟨S_, .f32⟩
  | .hbm, ⟨4, _⟩ => ⟨S5632x2048, .f32⟩
  | .hbm, ⟨5, _⟩ => ⟨S8x4096x704, .f32⟩
  | .hbm, ⟨6, _⟩ => ⟨S4096x8x704, .f32⟩
  | .hbm, ⟨7, _⟩ => ⟨S4096x5632, .f32⟩
  | .hbm, ⟨8, _⟩ => ⟨S8x4096x704, .f32⟩
  | .hbm, ⟨9, _⟩ => ⟨S4096x8x704, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S2048x5632, .f32⟩
  | .hbm, ⟨30, _⟩ => ⟨S5632x2048, .f32⟩
  | .hbm, ⟨31, _⟩ => ⟨S8x704x2048, .f32⟩
  | .hbm, ⟨32, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel4.lean ====
abbrev S8x4096x704 : Shape := ⟨3, ![8, 4096, 704]⟩
abbrev S8x704x2048 : Shape := ⟨3, ![8, 704, 2048]⟩
abbrev S4096x2048 : Shape := ⟨2, ![4096, 2048]⟩
abbrev S8x512x704 : Shape := ⟨3, ![8, 512, 704]⟩
abbrev S512x2048 : Shape := ⟨2, ![512, 2048]⟩
abbrev S1x512x704 : Shape := ⟨3, ![1, 512, 704]⟩
abbrev S512x704 : Shape := ⟨2, ![512, 704]⟩
abbrev S1x704x2048 : Shape := ⟨3, ![1, 704, 2048]⟩
abbrev S704x2048 : Shape := ⟨2, ![704, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .local _ .vmem, ⟨0, _⟩ => ⟨S8x512x704, .bf16⟩
  | .local _ .vmem, ⟨1, _⟩ => ⟨S8x512x704, .bf16⟩
  | .local _ .vmem, ⟨2, _⟩ => ⟨S8x704x2048, .bf16⟩
  | .local _ .vmem, ⟨3, _⟩ => ⟨S512x2048, .f32⟩
  | .local _ .vmem, ⟨4, _⟩ => ⟨S512x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8x4096x704 : Shape := ⟨3, ![8, 4096, 704]⟩
abbrev S8x704x2048 : Shape := ⟨3, ![8, 704, 2048]⟩
abbrev S_ : Shape := ⟨0, ![]⟩
abbrev S4096x2048 : Shape := ⟨2, ![4096, 2048]⟩
abbrev S5632x2048 : Shape := ⟨2, ![5632, 2048]⟩
abbrev S2048x5632 : Shape := ⟨2, ![2048, 5632]⟩
abbrev S4096x5632 : Shape := ⟨2, ![4096, 5632]⟩
abbrev S4096x8x704 : Shape := ⟨3, ![4096, 8, 704]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S_, .f32⟩
  | .hbm, ⟨3, _⟩ => ⟨S4096x2048, .f32⟩
  | .hbm, ⟨4, _⟩ => ⟨S8x704x2048, .f32⟩
  | .hbm, ⟨5, _⟩ => ⟨S5632x2048, .f32⟩
  | .hbm, ⟨6, _⟩ => ⟨S2048x5632, .f32⟩
  | .hbm, ⟨7, _⟩ => ⟨S4096x5632, .f32⟩
  | .hbm, ⟨8, _⟩ => ⟨S8x4096x704, .f32⟩
  | .hbm, ⟨9, _⟩ => ⟨S4096x8x704, .f32⟩
  | .hbm, ⟨10, _⟩ => ⟨S4096x5632, .f32⟩
  | .hbm, ⟨11, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S2048x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2048 : Shape := ⟨2, ![4096, 2048]⟩
abbrev S8x704x2048 : Shape := ⟨3, ![8, 704, 2048]⟩
abbrev S8x4096x704 : Shape := ⟨3, ![8, 4096, 704]⟩
abbrev S2048x2048 : Shape := ⟨2, ![2048, 2048]⟩
abbrev S1x704x2048 : Shape := ⟨3, ![1, 704, 2048]⟩
abbrev S1x2048x704 : Shape := ⟨3, ![1, 2048, 704]⟩
abbrev S704x2048 : Shape := ⟨2, ![704, 2048]⟩
abbrev S2048x704 : Shape := ⟨2, ![2048, 704]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x704x2048, .bf16⟩
  | .hbm, ⟨3, _⟩ => ⟨S8x4096x704, .bf16⟩
  | .hbm, ⟨4, _⟩ => ⟨S8x4096x704, .bf16⟩
  | .local _ .vmem, ⟨0, _⟩ => ⟨S2048x2048, .bf16⟩
  | .local _ .vmem, ⟨1, _⟩ => ⟨S2048x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4096x2048 : Shape := ⟨2, ![4096, 2048]⟩
abbrev S8x704x2048 : Shape := ⟨3, ![8, 704, 2048]⟩
abbrev S5632x2048 : Shape := ⟨2, ![5632, 2048]⟩
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x704x2048, .bf16⟩
  | .hbm, ⟨3, _⟩ => ⟨S4096x2048, .f32⟩
  | .hbm, ⟨4, _⟩ => ⟨S8x704x2048, .f32⟩
  | .hbm, ⟨5, _⟩ => ⟨S5632x2048, .f32⟩
  | .hbm, ⟨6, _⟩ => ⟨S2048x5632, .f32⟩
  | .hbm, ⟨7, _⟩ => ⟨S4096x5632, .f32⟩
  | .hbm, ⟨8, _⟩ => ⟨S4096x8x704, .f32⟩
  | .hbm, ⟨9, _⟩ => ⟨S8x4096x704, .f32⟩
  | .hbm, ⟨10, _⟩ => ⟨S8x4096x704, .bf16⟩
  | .hbm, ⟨11, _⟩ => ⟨S8x704x2048, .f32⟩
  | .hbm, ⟨12, _⟩ => ⟨S5632x2048, .f32⟩
  | .hbm, ⟨13, _⟩ => ⟨S2048x5632, .f32⟩
  | .hbm, ⟨14, _⟩ => ⟨S4096x5632, .f32⟩
  | .hbm, ⟨15, _⟩ => ⟨S4096x8x704, .f32⟩
  | .hbm, ⟨16, _⟩ => ⟨S8x4096x704, .f32⟩
  | .hbm, ⟨17, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel7.lean ====
abbrev S4352x2048 : Shape := ⟨2, ![4352, 2048]⟩
abbrev S8x704x2048 : Shape := ⟨3, ![8, 704, 2048]⟩
abbrev S8x4352x704 : Shape := ⟨3, ![8, 4352, 704]⟩
abbrev S1088x2048 : Shape := ⟨2, ![1088, 2048]⟩
abbrev S1x704x2048 : Shape := ⟨3, ![1, 704, 2048]⟩
abbrev S1x1088x704 : Shape := ⟨3, ![1, 1088, 704]⟩
abbrev S704x2048 : Shape := ⟨2, ![704, 2048]⟩
abbrev S1088x704 : Shape := ⟨2, ![1088, 704]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S8x704x2048, .bf16⟩
  | .hbm, ⟨2, _⟩ => ⟨S8x4352x704, .bf16⟩
  | .local _ .vmem, ⟨0, _⟩ => ⟨S1088x2048, .bf16⟩
  | .local _ .vmem, ⟨1, _⟩ => ⟨S1088x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1088x704, .bf16⟩
  | .local _ .vmem, ⟨5, _⟩ => ⟨S1x1088x704, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1088x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4352x2048 : Shape := ⟨2, ![4352, 2048]⟩
abbrev S8x704x2048 : Shape := ⟨3, ![8, 704, 2048]⟩
abbrev S5632x2048 : Shape := ⟨2, ![5632, 2048]⟩
abbrev S2048x5632 : Shape := ⟨2, ![2048, 5632]⟩
abbrev S4352x5632 : Shape := ⟨2, ![4352, 5632]⟩
abbrev S4352x8x704 : Shape := ⟨3, ![4352, 8, 704]⟩
abbrev S8x4352x704 : Shape := ⟨3, ![8, 4352, 704]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x704x2048, .bf16⟩
  | .hbm, ⟨2, _⟩ => ⟨S4352x2048, .f32⟩
  | .hbm, ⟨3, _⟩ => ⟨S8x704x2048, .f32⟩
  | .hbm, ⟨4, _⟩ => ⟨S5632x2048, .f32⟩
  | .hbm, ⟨5, _⟩ => ⟨S2048x5632, .f32⟩
  | .hbm, ⟨6, _⟩ => ⟨S4352x5632, .f32⟩
  | .hbm, ⟨7, _⟩ => ⟨S4352x8x704, .f32⟩
  | .hbm, ⟨8, _⟩ => ⟨S8x4352x704, .f32⟩
  | .hbm, ⟨9, _⟩ => ⟨S8x4352x704, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel8.lean ====
abbrev S4352x2048 : Shape := ⟨2, ![4352, 2048]⟩
abbrev S2048x5120 : Shape := ⟨2, ![2048, 5120]⟩
abbrev S1x5120 : Shape := ⟨2, ![1, 5120]⟩
abbrev S4352x5120 : Shape := ⟨2, ![4352, 5120]⟩
abbrev S544x2048 : Shape := ⟨2, ![544, 2048]⟩
abbrev S2048x1024 : Shape := ⟨2, ![2048, 1024]⟩
abbrev S1x1024 : Shape := ⟨2, ![1, 1024]⟩
abbrev S544x1024 : Shape := ⟨2, ![544, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x2048, .bf16⟩
  | .hbm, ⟨1, _⟩ => ⟨S2048x5120, .bf16⟩
  | .hbm, ⟨2, _⟩ => ⟨S1x5120, .f32⟩
  | .hbm, ⟨3, _⟩ => ⟨S4352x5120, .bf16⟩
  | .local _ .vmem, ⟨0, _⟩ => ⟨S544x2048, .bf16⟩
  | .local _ .vmem, ⟨1, _⟩ => ⟨S544x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S544x1024, .bf16⟩
  | .local _ .vmem, ⟨7, _⟩ => ⟨S544x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4352x2048 : Shape := ⟨2, ![4352, 2048]⟩
abbrev S2048x5120 : Shape := ⟨2, ![2048, 5120]⟩
abbrev S1x5120 : Shape := ⟨2, ![1, 5120]⟩
abbrev S4352x5120 : Shape := ⟨2, ![4352, 5120]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x5120, .bf16⟩
  | .hbm, ⟨2, _⟩ => ⟨S1x5120, .f32⟩
  | .hbm, ⟨3, _⟩ => ⟨S4352x2048, .f32⟩
  | .hbm, ⟨4, _⟩ => ⟨S2048x5120, .f32⟩
  | .hbm, ⟨5, _⟩ => ⟨S4352x5120, .f32⟩
  | .hbm, ⟨6, _⟩ => ⟨S4352x5120, .f32⟩
  | .hbm, ⟨7, _⟩ => ⟨S4352x5120, .f32⟩
  | .hbm, ⟨8, _⟩ => ⟨S4352x5120, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4352x2048 : Shape := ⟨2, ![4352, 2048]⟩
abbrev S8x4352x704 : Shape := ⟨3, ![8, 4352, 704]⟩
abbrev S8x704x2048 : Shape := ⟨3, ![8, 704, 2048]⟩
abbrev S1024x2048 : Shape := ⟨2, ![1024, 2048]⟩
abbrev S1x1024x704 : Shape := ⟨3, ![1, 1024, 704]⟩
abbrev S256x2048 : Shape := ⟨2, ![256, 2048]⟩
abbrev S1x256x704 : Shape := ⟨3, ![1, 256, 704]⟩
abbrev S1x704x2048 : Shape := ⟨3, ![1, 704, 2048]⟩
abbrev S704x2048 : Shape := ⟨2, ![704, 2048]⟩
abbrev S1024x704 : Shape := ⟨2, ![1024, 704]⟩
abbrev S256x704 : Shape := ⟨2, ![256, 704]⟩

abbrev nBuf : Space → Nat
  | .hbm => 5
  | .vmem => 17
  | .smem => 0
  | _ => 0

abbrev bufTy : (tb : Table) → Fin (tcTables nBuf tb) → BufTy
  | .hbm, ⟨0, _⟩ => ⟨S4352x2048, .bf16⟩
  | .hbm, ⟨1, _⟩ => ⟨S8x4352x704, .bf16⟩
  | .hbm, ⟨2, _⟩ => ⟨S8x4352x704, .bf16⟩
  | .hbm, ⟨3, _⟩ => ⟨S8x704x2048, .bf16⟩
  | .hbm, ⟨4, _⟩ => ⟨S8x704x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S256x2048, .bf16⟩
  | .local _ .vmem, ⟨7, _⟩ => ⟨S1x256x704, .bf16⟩
  | .local _ .vmem, ⟨8, _⟩ => ⟨S1x256x704, .bf16⟩
  | .local _ .vmem, ⟨9, _⟩ => ⟨S1x256x704, .bf16⟩
  | .local _ .vmem, ⟨10, _⟩ => ⟨S1x256x704, .bf16⟩
  | .local _ .vmem, ⟨11, _⟩ => ⟨S1x704x2048, .bf16⟩
  | .local _ .vmem, ⟨12, _⟩ => ⟨S1x704x2048, .bf16⟩
  | .local _ .vmem, ⟨13, _⟩ => ⟨S1x704x2048, .bf16⟩
  | .local _ .vmem, ⟨14, _⟩ => ⟨S1x704x2048, .bf16⟩
  | .local _ .vmem, ⟨15, _⟩ => ⟨S704x2048, .f32⟩
  | .local _ .vmem, ⟨16, _⟩ => ⟨S704x2048, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 5], ![false, false]⟩

def k0_cond4 (i : grid0.Coords) : BitVec 1 :=
  let arg1 : BitVec 32 := BitVec.ofNat 32 (i 1).val
  let c4_i32_4 : BitVec 32 := 4#32
  let v9 : BitVec 1 := Scalar.cmpi .eq arg1 c4_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference9Ideal.lean ====
abbrev S4352x2048 : Shape := ⟨2, ![4352, 2048]⟩
abbrev S8x4352x704 : Shape := ⟨3, ![8, 4352, 704]⟩
abbrev S_ : Shape := ⟨0, ![]⟩
abbrev S2048x5632 : Shape := ⟨2, ![2048, 5632]⟩
abbrev S4352x5632 : Shape := ⟨2, ![4352, 5632]⟩
abbrev S4352x8x704 : Shape := ⟨3, ![4352, 8, 704]⟩
abbrev S5632x2048 : Shape := ⟨2, ![5632, 2048]⟩
abbrev S8x704x2048 : Shape := ⟨3, ![8, 704, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x4352x704, .bf16⟩
  | .hbm, ⟨2, _⟩ => ⟨S8x4352x704, .bf16⟩
  | .hbm, ⟨3, _⟩ => ⟨S_, .f32⟩
  | .hbm, ⟨4, _⟩ => ⟨S2048x5632, .f32⟩
  | .hbm, ⟨5, _⟩ => ⟨S4352x2048, .f32⟩
  | .hbm, ⟨6, _⟩ => ⟨S4352x5632, .f32⟩
  | .hbm, ⟨7, _⟩ => ⟨S4352x5632, .f32⟩
  | .hbm, ⟨8, _⟩ => ⟨S8x4352x704, .f32⟩
  | .hbm, ⟨9, _⟩ => ⟨S4352x8x704, .f32⟩
  | .hbm, ⟨10, _⟩ => ⟨S4352x5632, .f32⟩
  | .hbm, ⟨11, _⟩ => ⟨S8x4352x704, .f32⟩
  | .hbm, ⟨12, _⟩ => ⟨S4352x8x704, .f32⟩
  | .hbm, ⟨13, _⟩ => ⟨S4352x5632, .f32⟩
  | .hbm, ⟨14, _⟩ => ⟨S5632x2048, .f32⟩
  | .hbm, ⟨15, _⟩ => ⟨S2048x5632, .f32⟩
  | .hbm, ⟨16, _⟩ => ⟨S5632x2048, .f32⟩
  | .hbm, ⟨17, _⟩ => ⟨S2048x5632, .f32⟩
  | .hbm, ⟨18, _⟩ => ⟨S5632x2048, .f32⟩
  | .hbm, ⟨19, _⟩ => ⟨S8x704x2048, .f32⟩
  | .hbm, ⟨20, _⟩ => ⟨S8x704x2048, .bf16⟩
  | .hbm, ⟨21, _⟩ => ⟨S5632x2048, .f32⟩
  | .hbm, ⟨22, _⟩ => ⟨S8x704x2048, .f32⟩
  | .hbm, ⟨23, _⟩ => ⟨S8x704x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel10.lean ====
abbrev S8x4352x704 : Shape := ⟨3, ![8, 4352, 704]⟩
abbrev S4352x2048 : Shape := ⟨2, ![4352, 2048]⟩
abbrev S8x704x2048 : Shape := ⟨3, ![8, 704, 2048]⟩
abbrev S1x1024x704 : Shape := ⟨3, ![1, 1024, 704]⟩
abbrev S1024x2048 : Shape := ⟨2, ![1024, 2048]⟩
abbrev S1x256x704 : Shape := ⟨3, ![1, 256, 704]⟩
abbrev S256x2048 : Shape := ⟨2, ![256, 2048]⟩
abbrev S1x704x2048 : Shape := ⟨3, ![1, 704, 2048]⟩
abbrev S704x2048 : Shape := ⟨2, ![704, 2048]⟩
abbrev S1024x704 : Shape := ⟨2, ![1024, 704]⟩
abbrev S256x704 : Shape := ⟨2, ![256, 704]⟩

abbrev nBuf : Space → Nat
  | .hbm => 4
  | .vmem => 14
  | .smem => 0
  | _ => 0

abbrev bufTy : (tb : Table) → Fin (tcTables nBuf tb) → BufTy
  | .hbm, ⟨0, _⟩ => ⟨S8x4352x704, .bf16⟩
  | .hbm, ⟨1, _⟩ => ⟨S8x4352x704, .bf16⟩
  | .hbm, ⟨2, _⟩ => ⟨S4352x2048, .bf16⟩
  | .hbm, ⟨3, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x2048, .bf16⟩
  | .local _ .vmem, ⟨5, _⟩ => ⟨S1024x2048, .bf16⟩
  | .local _ .vmem, ⟨6, _⟩ => ⟨S1x256x704, .bf16⟩
  | .local _ .vmem, ⟨7, _⟩ => ⟨S1x256x704, .bf16⟩
  | .local _ .vmem, ⟨8, _⟩ => ⟨S1x256x704, .bf16⟩
  | .local _ .vmem, ⟨9, _⟩ => ⟨S1x256x704, .bf16⟩
  | .local _ .vmem, ⟨10, _⟩ => ⟨S256x2048, .bf16⟩
  | .local _ .vmem, ⟨11, _⟩ => ⟨S1x704x2048, .bf16⟩
  | .local _ .vmem, ⟨12, _⟩ => ⟨S1x704x2048, .bf16⟩
  | .local _ .vmem, ⟨13, _⟩ => ⟨S704x2048, .f32⟩
  | _, _ => ⟨S8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 5], ![false, false]⟩

def k0_cond4 (i : grid0.Coords) : BitVec 1 :=
  let arg1 : BitVec 32 := BitVec.ofNat 32 (i 1).val
  let c4_i32_4 : BitVec 32 := 4#32
  let v9 : BitVec 1 := Scalar.cmpi .eq arg1 c4_i32_4
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x704x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference10Ideal.lean ====
abbrev S8x4352x704 : Shape := ⟨3, ![8, 4352, 704]⟩
abbrev S4352x2048 : Shape := ⟨2, ![4352, 2048]⟩
abbrev S_ : Shape := ⟨0, ![]⟩
abbrev S5632x2048 : Shape := ⟨2, ![5632, 2048]⟩
abbrev S4352x8x704 : Shape := ⟨3, ![4352, 8, 704]⟩
abbrev S4352x5632 : Shape := ⟨2, ![4352, 5632]⟩
abbrev S2048x5632 : Shape := ⟨2, ![2048, 5632]⟩
abbrev S8x704x2048 : Shape := ⟨3, ![8, 704, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8x4352x704, .bf16⟩
  | .hbm, ⟨1, _⟩ => ⟨S8x4352x704, .bf16⟩
  | .hbm, ⟨2, _⟩ => ⟨S4352x2048, .bf16⟩
  | .hbm, ⟨3, _⟩ => ⟨S_, .f32⟩
  | .hbm, ⟨4, _⟩ => ⟨S5632x2048, .f32⟩
  | .hbm, ⟨5, _⟩ => ⟨S8x4352x704, .f32⟩
  | .hbm, ⟨6, _⟩ => ⟨S4352x8x704, .f32⟩
  | .hbm, ⟨7, _⟩ => ⟨S4352x5632, .f32⟩
  | .hbm, ⟨8, _⟩ => ⟨S8x4352x704, .f32⟩
  | .hbm, ⟨9, _⟩ => ⟨S4352x8x704, .f32⟩
  | .hbm, ⟨10, _⟩ => ⟨S4352x5632, .f32⟩
  | .hbm, ⟨11, _⟩ => ⟨S4352x5632, .f32⟩
  | .hbm, ⟨12, _⟩ => ⟨S4352x5632, .f32⟩
  | .hbm, ⟨13, _⟩ => ⟨S_, .f32⟩
  | .hbm, ⟨14, _⟩ => ⟨S4352x5632, .f32⟩
  | .hbm, ⟨15, _⟩ => ⟨S4352x5632, .f32⟩
  | .hbm, ⟨16, _⟩ => ⟨S_, .f32⟩
  | .hbm, ⟨17, _⟩ => ⟨S4352x5632, .f32⟩
  | .hbm, ⟨18, _⟩ => ⟨S4352x5632, .f32⟩
  | .hbm, ⟨19, _⟩ => ⟨S4352x5632, .f32⟩
  | .hbm, ⟨20, _⟩ => ⟨S4352x5632, .f32⟩
  | .hbm, ⟨21, _⟩ => ⟨S4352x2048, .f32⟩
  | .hbm, ⟨22, _⟩ => ⟨S_, .f32⟩
  | .hbm, ⟨23, _⟩ => ⟨S4352x2048, .f32⟩
  | .hbm, ⟨24, _⟩ => ⟨S4352x2048, .f32⟩
  | .hbm, ⟨25, _⟩ => ⟨S4352x2048, .f32⟩
  | .hbm, ⟨26, _⟩ => ⟨S_, .f32⟩
  | .hbm, ⟨27, _⟩ => ⟨S4352x2048, .f32⟩
  | .hbm, ⟨28, _⟩ => ⟨S4352x2048, .f32⟩
  | .hbm, ⟨29, _⟩ => ⟨S2048x5632, .f32⟩
  | .hbm, ⟨30, _⟩ => ⟨S5632x2048, .f32⟩
  | .hbm, ⟨31, _⟩ => ⟨S8x704x2048, .f32⟩
  | .hbm, ⟨32, _⟩ => ⟨S8x704x2048, .bf16⟩
  | _, _ => ⟨S8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel11.lean ====
abbrev S4352x2048 : Shape := ⟨2, ![4352, 2048]⟩
abbrev S5x4352x1024 : Shape := ⟨3, ![5, 4352, 1024]⟩
abbrev S2048x5120 : Shape := ⟨2, ![2048, 5120]⟩
abbrev S1x5120 : Shape := ⟨2, ![1, 5120]⟩
abbrev S1024x2048 : Shape := ⟨2, ![1024, 2048]⟩
abbrev S1x1024x1024 : Shape := ⟨3, ![1, 1024, 1024]⟩
abbrev S256x2048 : Shape := ⟨2, ![256, 2048]⟩
abbrev S1x256x1024 : Shape := ⟨3, ![1, 256, 1024]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S256x1024 : Shape := ⟨2, ![256, 1024]⟩

abbrev nBuf : Space → Nat
  | .hbm => 4
  | .vmem => 13
  | .smem => 0
  | _ => 0

abbrev bufTy : (tb : Table) → Fin (tcTables nBuf tb) → BufTy
  | .hbm, ⟨0, _⟩ => ⟨S4352x2048, .bf16⟩
  | .hbm, ⟨1, _⟩ => ⟨S5x4352x1024, .bf16⟩
  | .hbm, ⟨2, _⟩ => ⟨S2048x5120, .bf16⟩
  | .hbm, ⟨3, _⟩ => ⟨S1x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S256x2048, .bf16⟩
  | .local _ .vmem, ⟨5, _⟩ => ⟨S1x256x1024, .bf16⟩
  | .local _ .vmem, ⟨6, _⟩ => ⟨S1x256x1024, .bf16⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S2048x1024, .f32⟩
  | .local _ .vmem, ⟨12, _⟩ => ⟨S1x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![5, 5], ![false, false]⟩

def k0_cond4 (i : grid0.Coords) : BitVec 1 :=
  let arg1 : BitVec 32 := BitVec.ofNat 32 (i 1).val
  let c4_i32_4 : BitVec 32 := 4#32
  let v9 : BitVec 1 := Scalar.cmpi .eq arg1 c4_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference11Ideal.lean ====
abbrev S4352x2048 : Shape := ⟨2, ![4352, 2048]⟩
abbrev S5x4352x1024 : Shape := ⟨3, ![5, 4352, 1024]⟩
abbrev S_ : Shape := ⟨0, ![]⟩
abbrev S2048x5120 : Shape := ⟨2, ![2048, 5120]⟩
abbrev S1x5120 : Shape := ⟨2, ![1, 5120]⟩
abbrev S4352x5120 : Shape := ⟨2, ![4352, 5120]⟩
abbrev S4352x5x1024 : Shape := ⟨3, ![4352, 5, 1024]⟩
abbrev S5120 : Shape := ⟨1, ![5120]⟩
abbrev S5120x2048 : Shape := ⟨2, ![5120, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S5x4352x1024, .bf16⟩
  | .hbm, ⟨2, _⟩ => ⟨S_, .f32⟩
  | .hbm, ⟨3, _⟩ => ⟨S2048x5120, .f32⟩
  | .hbm, ⟨4, _⟩ => ⟨S_, .f32⟩
  | .hbm, ⟨5, _⟩ => ⟨S1x5120, .f32⟩
  | .hbm, ⟨6, _⟩ => ⟨S4352x2048, .f32⟩
  | .hbm, ⟨7, _⟩ => ⟨S4352x5120, .f32⟩
  | .hbm, ⟨8, _⟩ => ⟨S4352x5120, .f32⟩
  | .hbm, ⟨9, _⟩ => ⟨S4352x5120, .f32⟩
  | .hbm, ⟨10, _⟩ => ⟨S5x4352x1024, .f32⟩
  | .hbm, ⟨11, _⟩ => ⟨S4352x5x1024, .f32⟩
  | .hbm, ⟨12, _⟩ => ⟨S4352x5120, .f32⟩
  | .hbm, ⟨13, _⟩ => ⟨S_, .f32⟩
  | .hbm, ⟨14, _⟩ => ⟨S5120, .f32⟩
  | .hbm, ⟨15, _⟩ => ⟨S1x5120, .f32⟩
  | .hbm, ⟨16, _⟩ => ⟨S5120x2048, .f32⟩
  | .hbm, ⟨17, _⟩ => ⟨S2048x5120, .f32⟩
  | .hbm, ⟨18, _⟩ => ⟨S2048x5120, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S8x4352x704 : Shape := ⟨3, ![8, 4352, 704]⟩
abbrev S8x704x2048 : Shape := ⟨3, ![8, 704, 2048]⟩
abbrev S4352x2048 : Shape := ⟨2, ![4352, 2048]⟩
abbrev S8x544x704 : Shape := ⟨3, ![8, 544, 704]⟩
abbrev S544x2048 : Shape := ⟨2, ![544, 2048]⟩
abbrev S1x544x704 : Shape := ⟨3, ![1, 544, 704]⟩
abbrev S544x704 : Shape := ⟨2, ![544, 704]⟩
abbrev S1x704x2048 : Shape := ⟨3, ![1, 704, 2048]⟩
abbrev S704x2048 : Shape := ⟨2, ![704, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8x4352x704, .bf16⟩
  | .hbm, ⟨1, _⟩ => ⟨S8x704x2048, .bf16⟩
  | .hbm, ⟨2, _⟩ => ⟨S4352x2048, .f32⟩
  | .local _ .vmem, ⟨0, _⟩ => ⟨S8x544x704, .bf16⟩
  | .local _ .vmem, ⟨1, _⟩ => ⟨S8x544x704, .bf16⟩
  | .local _ .vmem, ⟨2, _⟩ => ⟨S8x704x2048, .bf16⟩
  | .local _ .vmem, ⟨3, _⟩ => ⟨S544x2048, .f32⟩
  | .local _ .vmem, ⟨4, _⟩ => ⟨S544x2048, .f32⟩
  | _, _ => ⟨S8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x544x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S8x4352x704 : Shape := ⟨3, ![8, 4352, 704]⟩
abbrev S8x704x2048 : Shape := ⟨3, ![8, 704, 2048]⟩
abbrev S_ : Shape := ⟨0, ![]⟩
abbrev S4352x2048 : Shape := ⟨2, ![4352, 2048]⟩
abbrev S5632x2048 : Shape := ⟨2, ![5632, 2048]⟩
abbrev S2048x5632 : Shape := ⟨2, ![2048, 5632]⟩
abbrev S4352x5632 : Shape := ⟨2, ![4352, 5632]⟩
abbrev S4352x8x704 : Shape := ⟨3, ![4352, 8, 704]⟩

abbrev nBuf : Space → Nat
  | .hbm => 12
  | .vmem => 0
  | .smem => 0
  | _ => 0

abbrev bufTy : (tb : Table) → Fin (tcTables nBuf tb) → BufTy
  | .hbm, ⟨0, _⟩ => ⟨S8x4352x704, .bf16⟩
  | .hbm, ⟨1, _⟩ => ⟨S8x704x2048, .bf16⟩
  | .hbm, ⟨2, _⟩ => ⟨S_, .f32⟩
  | .hbm, ⟨3, _⟩ => ⟨S4352x2048, .f32⟩
  | .hbm, ⟨4, _⟩ => ⟨S8x704x2048, .f32⟩
  | .hbm, ⟨5, _⟩ => ⟨S5632x2048, .f32⟩
  | .hbm, ⟨6, _⟩ => ⟨S2048x5632, .f32⟩
  | .hbm, ⟨7, _⟩ => ⟨S4352x5632, .f32⟩
  | .hbm, ⟨8, _⟩ => ⟨S8x4352x704, .f32⟩
  | .hbm, ⟨9, _⟩ => ⟨S4352x8x704, .f32⟩
  | .hbm, ⟨10, _⟩ => ⟨S4352x5632, .f32⟩
  | .hbm, ⟨11, _⟩ => ⟨S4352x2048, .f32⟩
  | _, _ => ⟨S8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S4096x2048 : Shape := ⟨2, ![4096, 2048]⟩
abbrev S8x704x2048 : Shape := ⟨3, ![8, 704, 2048]⟩
abbrev S8x4096x704 : Shape := ⟨3, ![8, 4096, 704]⟩
abbrev S1x704x2048 : Shape := ⟨3, ![1, 704, 2048]⟩
abbrev S1x1024x704 : Shape := ⟨3, ![1, 1024, 704]⟩
abbrev S1024x2048 : Shape := ⟨2, ![1024, 2048]⟩
abbrev S704x2048 : Shape := ⟨2, ![704, 2048]⟩
abbrev S1024x704 : Shape := ⟨2, ![1024, 704]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .bf16⟩
  | .hbm, ⟨3, _⟩ => ⟨S8x4096x704, .bf16⟩
  | .hbm, ⟨4, _⟩ => ⟨S8x4096x704, .bf16⟩
  | .hbm, ⟨5, _⟩ => ⟨S8x4096x704, .bf16⟩
  | .local _ .vmem, ⟨0, _⟩ => ⟨S4096x2048, .bf16⟩
  | .local _ .vmem, ⟨1, _⟩ => ⟨S1x704x2048, .bf16⟩
  | .local _ .vmem, ⟨2, _⟩ => ⟨S1x704x2048, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S4096x2048 : Shape := ⟨2, ![4096, 2048]⟩
abbrev S8x704x2048 : Shape := ⟨3, ![8, 704, 2048]⟩
abbrev S8x4096x704 : Shape := ⟨3, ![8, 4096, 704]⟩
abbrev S5632x2048 : Shape := ⟨2, ![5632, 2048]⟩
abbrev S4096x8x704 : Shape := ⟨3, ![4096, 8, 704]⟩
abbrev S4096x5632 : Shape := ⟨2, ![4096, 5632]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .bf16⟩
  | .hbm, ⟨3, _⟩ => ⟨S8x4096x704, .bf16⟩
  | .hbm, ⟨4, _⟩ => ⟨S8x704x2048, .f32⟩
  | .hbm, ⟨5, _⟩ => ⟨S5632x2048, .f32⟩
  | .hbm, ⟨6, _⟩ => ⟨S8x4096x704, .f32⟩
  | .hbm, ⟨7, _⟩ => ⟨S4096x8x704, .f32⟩
  | .hbm, ⟨8, _⟩ => ⟨S4096x5632, .f32⟩
  | .hbm, ⟨9, _⟩ => ⟨S8x4096x704, .f32⟩
  | .hbm, ⟨10, _⟩ => ⟨S4096x8x704, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x8x704, .f32⟩
  | .hbm, ⟨42, _⟩ => ⟨S8x4096x704, .f32⟩
  | .hbm, ⟨43, _⟩ => ⟨S8x4096x704, .bf16⟩
  | .hbm, ⟨44, _⟩ => ⟨S4096x8x704, .f32⟩
  | .hbm, ⟨45, _⟩ => ⟨S8x4096x704, .f32⟩
  | .hbm, ⟨46, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Kernel14.lean ====
abbrev S4352x2048 : Shape := ⟨2, ![4352, 2048]⟩
abbrev S8x704x2048 : Shape := ⟨3, ![8, 704, 2048]⟩
abbrev S8x4352x704 : Shape := ⟨3, ![8, 4352, 704]⟩
abbrev S1x704x2048 : Shape := ⟨3, ![1, 704, 2048]⟩
abbrev S1x1088x704 : Shape := ⟨3, ![1, 1088, 704]⟩
abbrev S1088x2048 : Shape := ⟨2, ![1088, 2048]⟩
abbrev S704x2048 : Shape := ⟨2, ![704, 2048]⟩
abbrev S1088x704 : Shape := ⟨2, ![1088, 704]⟩

abbrev nBuf : Space → Nat
  | .hbm => 6
  | .vmem => 11
  | .smem => 0
  | _ => 0

abbrev bufTy : (tb : Table) → Fin (tcTables nBuf tb) → BufTy
  | .hbm, ⟨0, _⟩ => ⟨S4352x2048, .bf16⟩
  | .hbm, ⟨1, _⟩ => ⟨S8x704x2048, .bf16⟩
  | .hbm, ⟨2, _⟩ => ⟨S8x4352x704, .bf16⟩
  | .hbm, ⟨3, _⟩ => ⟨S8x4352x704, .bf16⟩
  | .hbm, ⟨4, _⟩ => ⟨S8x4352x704, .bf16⟩
  | .hbm, ⟨5, _⟩ => ⟨S8x4352x704, .bf16⟩
  | .local _ .vmem, ⟨0, _⟩ => ⟨S4352x2048, .bf16⟩
  | .local _ .vmem, ⟨1, _⟩ => ⟨S1x704x2048, .bf16⟩
  | .local _ .vmem, ⟨2, _⟩ => ⟨S1x704x2048, .bf16⟩
  | .local _ .vmem, ⟨3, _⟩ => ⟨S1x1088x704, .bf16⟩
  | .local _ .vmem, ⟨4, _⟩ => ⟨S1x1088x704, .bf16⟩
  | .local _ .vmem, ⟨5, _⟩ => ⟨S1x1088x704, .bf16⟩
  | .local _ .vmem, ⟨6, _⟩ => ⟨S1x1088x704, .bf16⟩
  | .local _ .vmem, ⟨7, _⟩ => ⟨S1x1088x704, .bf16⟩
  | .local _ .vmem, ⟨8, _⟩ => ⟨S1x1088x704, .bf16⟩
  | .local _ .vmem, ⟨9, _⟩ => ⟨S1x1088x704, .bf16⟩
  | .local _ .vmem, ⟨10, _⟩ => ⟨S1x1088x704, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1088_i32 : BitVec 32 := 1088#32
  let v0 : BitVec 32 := Scalar.muli arg1 c1088_i32
  v0
def k0_off1 (i : grid0.Coords) : Fin 2 → Nat :=
  let arg1 : BitVec 32 := BitVec.ofNat 32 (i 1).val
  let c1088_i32 : BitVec 32 := 1088#32
  let v0 : BitVec 32 := Scalar.muli arg1 c1088_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1088x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1088x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1088x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference14Ideal.lean ====
abbrev S4352x2048 : Shape := ⟨2, ![4352, 2048]⟩
abbrev S8x704x2048 : Shape := ⟨3, ![8, 704, 2048]⟩
abbrev S8x4352x704 : Shape := ⟨3, ![8, 4352, 704]⟩
abbrev S5632x2048 : Shape := ⟨2, ![5632, 2048]⟩
abbrev S4352x8x704 : Shape := ⟨3, ![4352, 8, 704]⟩
abbrev S4352x5632 : Shape := ⟨2, ![4352, 5632]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x704x2048, .bf16⟩
  | .hbm, ⟨2, _⟩ => ⟨S8x4352x704, .bf16⟩
  | .hbm, ⟨3, _⟩ => ⟨S8x4352x704, .bf16⟩
  | .hbm, ⟨4, _⟩ => ⟨S8x704x2048, .f32⟩
  | .hbm, ⟨5, _⟩ => ⟨S5632x2048, .f32⟩
  | .hbm, ⟨6, _⟩ => ⟨S8x4352x704, .f32⟩
  | .hbm, ⟨7, _⟩ => ⟨S4352x8x704, .f32⟩
  | .hbm, ⟨8, _⟩ => ⟨S4352x5632, .f32⟩
  | .hbm, ⟨9, _⟩ => ⟨S8x4352x704, .f32⟩
  | .hbm, ⟨10, _⟩ => ⟨S4352x8x704, .f32⟩
  | .hbm, ⟨11, _⟩ => ⟨S4352x5632, .f32⟩
  | .hbm, ⟨12, _⟩ => ⟨S4352x5632, .f32⟩
  | .hbm, ⟨13, _⟩ => ⟨S4352x5632, .f32⟩
  | .hbm, ⟨14, _⟩ => ⟨S_, .f32⟩
  | .hbm, ⟨15, _⟩ => ⟨S4352x5632, .f32⟩
  | .hbm, ⟨16, _⟩ => ⟨S4352x5632, .f32⟩
  | .hbm, ⟨17, _⟩ => ⟨S_, .f32⟩
  | .hbm, ⟨18, _⟩ => ⟨S4352x5632, .f32⟩
  | .hbm, ⟨19, _⟩ => ⟨S4352x5632, .f32⟩
  | .hbm, ⟨20, _⟩ => ⟨S_, .f32⟩
  | .hbm, ⟨21, _⟩ => ⟨S4352x5632, .f32⟩
  | .hbm, ⟨22, _⟩ => ⟨S4352x5632, .f32⟩
  | .hbm, ⟨23, _⟩ => ⟨S4352x5632, .f32⟩
  | .hbm, ⟨24, _⟩ => ⟨S4352x5632, .f32⟩
  | .hbm, ⟨25, _⟩ => ⟨S4352x5632, .f32⟩
  | .hbm, ⟨26, _⟩ => ⟨S4352x2048, .f32⟩
  | .hbm, ⟨27, _⟩ => ⟨S_, .f32⟩
  | .hbm, ⟨28, _⟩ => ⟨S4352x2048, .f32⟩
  | .hbm, ⟨29, _⟩ => ⟨S4352x2048, .f32⟩
  | .hbm, ⟨30, _⟩ => ⟨S4352x2048, .f32⟩
  | .hbm, ⟨31, _⟩ => ⟨S_, .f32⟩
  | .hbm, ⟨32, _⟩ => ⟨S4352x2048, .f32⟩
  | .hbm, ⟨33, _⟩ => ⟨S4352x2048, .f32⟩
  | .hbm, ⟨34, _⟩ => ⟨S4352x5632, .f32⟩
  | .hbm, ⟨35, _⟩ => ⟨S4352x5632, .f32⟩
  | .hbm, ⟨36, _⟩ => ⟨S4352x5632, .f32⟩
  | .hbm, ⟨37, _⟩ => ⟨S4352x5632, .f32⟩
  | .hbm, ⟨38, _⟩ => ⟨S4352x5632, .f32⟩
  | .hbm, ⟨39, _⟩ => ⟨S4352x5632, .f32⟩
  | .hbm, ⟨40, _⟩ => ⟨S4352x5632, .f32⟩
  | .hbm, ⟨41, _⟩ => ⟨S4352x8x704, .f32⟩
  | .hbm, ⟨42, _⟩ => ⟨S8x4352x704, .f32⟩
  | .hbm, ⟨43, _⟩ => ⟨S8x4352x704, .bf16⟩
  | .hbm, ⟨44, _⟩ => ⟨S4352x8x704, .f32⟩
  | .hbm, ⟨45, _⟩ => ⟨S8x4352x704, .f32⟩
  | .hbm, ⟨46, _⟩ => ⟨S8x4352x704, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Kernel15.lean ====
abbrev S8x4352x704 : Shape := ⟨3, ![8, 4352, 704]⟩
abbrev S8x704x2048 : Shape := ⟨3, ![8, 704, 2048]⟩
abbrev S4352x2048 : Shape := ⟨2, ![4352, 2048]⟩
abbrev S1x2048 : Shape := ⟨2, ![1, 2048]⟩
abbrev S4352x1 : Shape := ⟨2, ![4352, 1]⟩
abbrev S8x272x704 : Shape := ⟨3, ![8, 272, 704]⟩
abbrev S272x2048 : Shape := ⟨2, ![272, 2048]⟩
abbrev S272x1 : Shape := ⟨2, ![272, 1]⟩
abbrev S1x272x704 : Shape := ⟨3, ![1, 272, 704]⟩
abbrev S272x704 : Shape := ⟨2, ![272, 704]⟩
abbrev S1x704x2048 : Shape := ⟨3, ![1, 704, 2048]⟩
abbrev S704x2048 : Shape := ⟨2, ![704, 2048]⟩
abbrev S16x2048 : Shape := ⟨2, ![16, 2048]⟩
abbrev S16 : Shape := ⟨1, ![16]⟩
abbrev S16x1 : Shape := ⟨2, ![16, 1]⟩

abbrev nBuf : Space → Nat
  | .hbm => 8
  | .vmem => 15
  | .smem => 0
  | _ => 0

abbrev bufTy : (tb : Table) → Fin (tcTables nBuf tb) → BufTy
  | .hbm, ⟨0, _⟩ => ⟨S8x4352x704, .bf16⟩
  | .hbm, ⟨1, _⟩ => ⟨S8x4352x704, .bf16⟩
  | .hbm, ⟨2, _⟩ => ⟨S8x704x2048, .bf16⟩
  | .hbm, ⟨3, _⟩ => ⟨S4352x2048, .f32⟩
  | .hbm, ⟨4, _⟩ => ⟨S1x2048, .f32⟩
  | .hbm, ⟨5, _⟩ => ⟨S4352x2048, .f32⟩
  | .hbm, ⟨6, _⟩ => ⟨S4352x2048, .bf16⟩
  | .hbm, ⟨7, _⟩ => ⟨S4352x1, .f32⟩
  | .local _ .vmem, ⟨0, _⟩ => ⟨S8x272x704, .bf16⟩
  | .local _ .vmem, ⟨1, _⟩ => ⟨S8x272x704, .bf16⟩
  | .local _ .vmem, ⟨2, _⟩ => ⟨S8x272x704, .bf16⟩
  | .local _ .vmem, ⟨3, _⟩ => ⟨S8x272x704, .bf16⟩
  | .local _ .vmem, ⟨4, _⟩ => ⟨S8x704x2048, .bf16⟩
  | .local _ .vmem, ⟨5, _⟩ => ⟨S272x2048, .f32⟩
  | .local _ .vmem, ⟨6, _⟩ => ⟨S272x2048, .f32⟩
  | .local _ .vmem, ⟨7, _⟩ => ⟨S1x2048, .f32⟩
  | .local _ .vmem, ⟨8, _⟩ => ⟨S272x2048, .f32⟩
  | .local _ .vmem, ⟨9, _⟩ => ⟨S272x2048, .f32⟩
  | .local _ .vmem, ⟨10, _⟩ => ⟨S272x2048, .bf16⟩
  | .local _ .vmem, ⟨11, _⟩ => ⟨S272x2048, .bf16⟩
  | .local _ .vmem, ⟨12, _⟩ => ⟨S272x1, .f32⟩
  | .local _ .vmem, ⟨13, _⟩ => ⟨S272x1, .f32⟩
  | .local _ .vmem, ⟨14, _⟩ => ⟨S272x2048, .f32⟩
  | _, _ => ⟨S8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c17_i32 : BitVec 32 := 17#32
  let v138 : BitVec 32 := Scalar.addi c0_i32 c17_i32
  let c1_i32 : BitVec 32 := 1#32
  ⟨c0_i32, v138, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c16_i32 : BitVec 32 := 16#32
  let v139 : BitVec 32 := Scalar.muli arg10 c16_i32
  v139
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c16_i32 : BitVec 32 := 16#32
  let v139 : BitVec 32 := Scalar.muli arg10 c16_i32
  let v140 : BitVec 32 := v139
  let v141 : Index := Scalar.indexCast v140
  let c0_98 : Index := 0#32
  ![v141.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c16_i32 : BitVec 32 := 16#32
  let v139 : BitVec 32 := Scalar.muli arg10 c16_i32
  let v140 : BitVec 32 := v139
  let v166 : Index := Scalar.indexCast v140
  let c0_108 : Index := 0#32
  ![v166.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x272x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x272x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x704x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S272x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S8x4352x704 : Shape := ⟨3, ![8, 4352, 704]⟩
abbrev S8x704x2048 : Shape := ⟨3, ![8, 704, 2048]⟩
abbrev S4352x2048 : Shape := ⟨2, ![4352, 2048]⟩
abbrev S1x2048 : Shape := ⟨2, ![1, 2048]⟩
abbrev S5632x2048 : Shape := ⟨2, ![5632, 2048]⟩
abbrev S4352x8x704 : Shape := ⟨3, ![4352, 8, 704]⟩
abbrev S4352x5632 : Shape := ⟨2, ![4352, 5632]⟩
abbrev S_ : Shape := ⟨0, ![]⟩
abbrev S4352 : Shape := ⟨1, ![4352]⟩
abbrev S4352x1 : Shape := ⟨2, ![4352, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x4352x704, .bf16⟩
  | .hbm, ⟨1, _⟩ => ⟨S8x4352x704, .bf16⟩
  | .hbm, ⟨2, _⟩ => ⟨S8x704x2048, .bf16⟩
  | .hbm, ⟨3, _⟩ => ⟨S4352x2048, .f32⟩
  | .hbm, ⟨4, _⟩ => ⟨S1x2048, .f32⟩
  | .hbm, ⟨5, _⟩ => ⟨S8x704x2048, .f32⟩
  | .hbm, ⟨6, _⟩ => ⟨S5632x2048, .f32⟩
  | .hbm, ⟨7, _⟩ => ⟨S8x4352x704, .f32⟩
  | .hbm, ⟨8, _⟩ => ⟨S4352x8x704, .f32⟩
  | .hbm, ⟨9, _⟩ => ⟨S4352x5632, .f32⟩
  | .hbm, ⟨10, _⟩ => ⟨S8x4352x704, .f32⟩
  | .hbm, ⟨11, _⟩ => ⟨S4352x8x704, .f32⟩
  | .hbm, ⟨12, _⟩ => ⟨S4352x5632, .f32⟩
  | .hbm, ⟨13, _⟩ => ⟨S4352x5632, .f32⟩
  | .hbm, ⟨14, _⟩ => ⟨S4352x5632, .f32⟩
  | .hbm, ⟨15, _⟩ => ⟨S_, .f32⟩
  | .hbm, ⟨16, _⟩ => ⟨S4352x5632, .f32⟩
  | .hbm, ⟨17, _⟩ => ⟨S4352x5632, .f32⟩
  | .hbm, ⟨18, _⟩ => ⟨S_, .f32⟩
  | .hbm, ⟨19, _⟩ => ⟨S4352x5632, .f32⟩
  | .hbm, ⟨20, _⟩ => ⟨S4352x5632, .f32⟩
  | .hbm, ⟨21, _⟩ => ⟨S4352x5632, .f32⟩
  | .hbm, ⟨22, _⟩ => ⟨S4352x5632, .f32⟩
  | .hbm, ⟨23, _⟩ => ⟨S4352x2048, .f32⟩
  | .hbm, ⟨24, _⟩ => ⟨S_, .f32⟩
  | .hbm, ⟨25, _⟩ => ⟨S4352x2048, .f32⟩
  | .hbm, ⟨26, _⟩ => ⟨S4352x2048, .f32⟩
  | .hbm, ⟨27, _⟩ => ⟨S4352x2048, .f32⟩
  | .hbm, ⟨28, _⟩ => ⟨S4352x2048, .f32⟩
  | .hbm, ⟨29, _⟩ => ⟨S_, .f32⟩
  | .hbm, ⟨30, _⟩ => ⟨S4352, .f32⟩
  | .hbm, ⟨31, _⟩ => ⟨S4352x1, .f32⟩
  | .hbm, ⟨32, _⟩ => ⟨S_, .f32⟩
  | .hbm, ⟨33, _⟩ => ⟨S4352x1, .f32⟩
  | .hbm, ⟨34, _⟩ => ⟨S4352x1, .f32⟩
  | .hbm, ⟨35, _⟩ => ⟨S_, .f32⟩
  | .hbm, ⟨36, _⟩ => ⟨S4352x1, .f32⟩
  | .hbm, ⟨37, _⟩ => ⟨S4352x1, .f32⟩
  | .hbm, ⟨38, _⟩ => ⟨S4352x1, .f32⟩
  | .hbm, ⟨39, _⟩ => ⟨S4352x2048, .f32⟩
  | .hbm, ⟨40, _⟩ => ⟨S4352x2048, .f32⟩
  | .hbm, ⟨41, _⟩ => ⟨S4352x2048, .f32⟩
  | .hbm, ⟨42, _⟩ => ⟨S4352x2048, .f32⟩
  | .hbm, ⟨43, _⟩ => ⟨S4352x2048, .bf16⟩
  | _, _ => ⟨S8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel16.lean ====
abbrev S8x4352x704 : Shape := ⟨3, ![8, 4352, 704]⟩
abbrev S8x704x2048 : Shape := ⟨3, ![8, 704, 2048]⟩
abbrev S4352x2048 : Shape := ⟨2, ![4352, 2048]⟩
abbrev S1x2048 : Shape := ⟨2, ![1, 2048]⟩
abbrev S_ : Shape := ⟨0, ![]⟩
abbrev S4352 : Shape := ⟨1, ![4352]⟩
abbrev S4352x1 : Shape := ⟨2, ![4352, 1]⟩
abbrev S16x1x2048 : Shape := ⟨3, ![16, 1, 2048]⟩
abbrev S8x272x704 : Shape := ⟨3, ![8, 272, 704]⟩
abbrev S272x2048 : Shape := ⟨2, ![272, 2048]⟩
abbrev S272x1 : Shape := ⟨2, ![272, 1]⟩
abbrev S1x1x2048 : Shape := ⟨3, ![1, 1, 2048]⟩
abbrev S1x272x704 : Shape := ⟨3, ![1, 272, 704]⟩
abbrev S272x704 : Shape := ⟨2, ![272, 704]⟩
abbrev S1x704x2048 : Shape := ⟨3, ![1, 704, 2048]⟩
abbrev S704x2048 : Shape := ⟨2, ![704, 2048]⟩
abbrev S16x2048 : Shape := ⟨2, ![16, 2048]⟩
abbrev S16x1 : Shape := ⟨2, ![16, 1]⟩
abbrev S2048 : Shape := ⟨1, ![2048]⟩
abbrev S16 : Shape := ⟨1, ![16]⟩

abbrev nBuf : Space → Nat
  | .hbm => 20
  | .vmem => 19
  | .smem => 0
  | _ => 0

abbrev bufTy : (tb : Table) → Fin (tcTables nBuf tb) → BufTy
  | .hbm, ⟨0, _⟩ => ⟨S8x4352x704, .bf16⟩
  | .hbm, ⟨1, _⟩ => ⟨S8x704x2048, .bf16⟩
  | .hbm, ⟨2, _⟩ => ⟨S4352x2048, .f32⟩
  | .hbm, ⟨3, _⟩ => ⟨S4352x2048, .f32⟩
  | .hbm, ⟨4, _⟩ => ⟨S1x2048, .f32⟩
  | .hbm, ⟨5, _⟩ => ⟨S4352x2048, .f32⟩
  | .hbm, ⟨6, _⟩ => ⟨S4352x2048, .f32⟩
  | .hbm, ⟨7, _⟩ => ⟨S_, .f32⟩
  | .hbm, ⟨8, _⟩ => ⟨S4352, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S4352x1, .f32⟩
  | .hbm, ⟨17, _⟩ => ⟨S4352x2048, .f32⟩
  | .hbm, ⟨18, _⟩ => ⟨S4352x2048, .bf16⟩
  | .hbm, ⟨19, _⟩ => ⟨S16x1x2048, .f32⟩
  | .local _ .vmem, ⟨0, _⟩ => ⟨S8x272x704, .bf16⟩
  | .local _ .vmem, ⟨1, _⟩ => ⟨S8x272x704, .bf16⟩
  | .local _ .vmem, ⟨2, _⟩ => ⟨S8x704x2048, .bf16⟩
  | .local _ .vmem, ⟨3, _⟩ => ⟨S272x2048, .f32⟩
  | .local _ .vmem, ⟨4, _⟩ => ⟨S272x2048, .f32⟩
  | .local _ .vmem, ⟨5, _⟩ => ⟨S272x2048, .f32⟩
  | .local _ .vmem, ⟨6, _⟩ => ⟨S272x2048, .f32⟩
  | .local _ .vmem, ⟨7, _⟩ => ⟨S272x1, .f32⟩
  | .local _ .vmem, ⟨8, _⟩ => ⟨S272x1, .f32⟩
  | .local _ .vmem, ⟨9, _⟩ => ⟨S1x2048, .f32⟩
  | .local _ .vmem, ⟨10, _⟩ => ⟨S272x2048, .f32⟩
  | .local _ .vmem, ⟨11, _⟩ => ⟨S272x2048, .f32⟩
  | .local _ .vmem, ⟨12, _⟩ => ⟨S272x2048, .f32⟩
  | .local _ .vmem, ⟨13, _⟩ => ⟨S272x2048, .f32⟩
  | .local _ .vmem, ⟨14, _⟩ => ⟨S272x2048, .bf16⟩
  | .local _ .vmem, ⟨15, _⟩ => ⟨S272x2048, .bf16⟩
  | .local _ .vmem, ⟨16, _⟩ => ⟨S1x1x2048, .f32⟩
  | .local _ .vmem, ⟨17, _⟩ => ⟨S1x1x2048, .f32⟩
  | .local _ .vmem, ⟨18, _⟩ => ⟨S272x2048, .f32⟩
  | _, _ => ⟨S8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c17_i32 : BitVec 32 := 17#32
  let v56 : BitVec 32 := Scalar.addi c0_i32 c17_i32
  let c1_i32 : BitVec 32 := 1#32
  ⟨c0_i32, v56, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c16_i32 : BitVec 32 := 16#32
  let v57 : BitVec 32 := Scalar.muli arg12 c16_i32
  v57
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32 : BitVec 32 := 16#32
  let v57 : BitVec 32 := Scalar.muli arg12 c16_i32
  let v58 : BitVec 32 := v57
  let v59 : Index := Scalar.indexCast v58
  let c0_56 : Index := 0#32
  ![v59.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32 : BitVec 32 := 16#32
  let v57 : BitVec 32 := Scalar.muli arg12 c16_i32
  let v58 : BitVec 32 := v57
  let v63 : Index := Scalar.indexCast v58
  let c0_58 : Index := 0#32
  ![v63.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x272x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S272x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference16Ideal.lean ====
abbrev S8x4352x704 : Shape := ⟨3, ![8, 4352, 704]⟩
abbrev S8x704x2048 : Shape := ⟨3, ![8, 704, 2048]⟩
abbrev S4352x2048 : Shape := ⟨2, ![4352, 2048]⟩
abbrev S1x2048 : Shape := ⟨2, ![1, 2048]⟩
abbrev S_ : Shape := ⟨0, ![]⟩
abbrev S5632x2048 : Shape := ⟨2, ![5632, 2048]⟩
abbrev S2048x5632 : Shape := ⟨2, ![2048, 5632]⟩
abbrev S4352x5632 : Shape := ⟨2, ![4352, 5632]⟩
abbrev S4352x8x704 : Shape := ⟨3, ![4352, 8, 704]⟩
abbrev S16x272x2048 : Shape := ⟨3, ![16, 272, 2048]⟩
abbrev S16x1x2048 : Shape := ⟨3, ![16, 1, 2048]⟩
abbrev S16x272 : Shape := ⟨2, ![16, 272]⟩
abbrev S16x272x1 : Shape := ⟨3, ![16, 272, 1]⟩
abbrev S16x2048 : Shape := ⟨2, ![16, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8x4352x704, .bf16⟩
  | .hbm, ⟨1, _⟩ => ⟨S8x704x2048, .bf16⟩
  | .hbm, ⟨2, _⟩ => ⟨S4352x2048, .f32⟩
  | .hbm, ⟨3, _⟩ => ⟨S4352x2048, .f32⟩
  | .hbm, ⟨4, _⟩ => ⟨S1x2048, .f32⟩
  | .hbm, ⟨5, _⟩ => ⟨S4352x2048, .f32⟩
  | .hbm, ⟨6, _⟩ => ⟨S_, .f32⟩
  | .hbm, ⟨7, _⟩ => ⟨S4352x2048, .f32⟩
  | .hbm, ⟨8, _⟩ => ⟨S8x704x2048, .f32⟩
  | .hbm, ⟨9, _⟩ => ⟨S5632x2048, .f32⟩
  | .hbm, ⟨10, _⟩ => ⟨S2048x5632, .f32⟩
  | .hbm, ⟨11, _⟩ => ⟨S4352x5632, .f32⟩
  | .hbm, ⟨12, _⟩ => ⟨S8x4352x704, .f32⟩
  | .hbm, ⟨13, _⟩ => ⟨S4352x8x704, .f32⟩
  | .hbm, ⟨14, _⟩ => ⟨S4352x5632, .f32⟩
  | .hbm, ⟨15, _⟩ => ⟨S4352x2048, .f32⟩
  | .hbm, ⟨16, _⟩ => ⟨S4352x2048, .f32⟩
  | .hbm, ⟨17, _⟩ => ⟨S16x272x2048, .f32⟩
  | .hbm, ⟨18, _⟩ => ⟨S16x1x2048, .f32⟩
  | .hbm, ⟨19, _⟩ => ⟨S16x272x2048, .f32⟩
  | .hbm, ⟨20, _⟩ => ⟨S_, .f32⟩
  | .hbm, ⟨21, _⟩ => ⟨S16x272, .f32⟩
  | .hbm, ⟨22, _⟩ => ⟨S16x272x1, .f32⟩
  | .hbm, ⟨23, _⟩ => ⟨S_, .f32⟩
  | .hbm, ⟨24, _⟩ => ⟨S16x272x1, .f32⟩
  | .hbm, ⟨25, _⟩ => ⟨S16x272x1, .f32⟩
  | .hbm, ⟨26, _⟩ => ⟨S_, .f32⟩
  | .hbm, ⟨27, _⟩ => ⟨S16x272x1, .f32⟩
  | .hbm, ⟨28, _⟩ => ⟨S16x272x1, .f32⟩
  | .hbm, ⟨29, _⟩ => ⟨S16x272x1, .f32⟩
  | .hbm, ⟨30, _⟩ => ⟨S16x272x1, .f32⟩
  | .hbm, ⟨31, _⟩ => ⟨S_, .f32⟩
  | .hbm, ⟨32, _⟩ => ⟨S16x272x1, .f32⟩
  | .hbm, ⟨33, _⟩ => ⟨S16x272x1, .f32⟩
  | .hbm, ⟨34, _⟩ => ⟨S16x272x2048, .f32⟩
  | .hbm, ⟨35, _⟩ => ⟨S16x272x2048, .f32⟩
  | .hbm, ⟨36, _⟩ => ⟨S16x272x2048, .f32⟩
  | .hbm, ⟨37, _⟩ => ⟨S16x272x2048, .f32⟩
  | .hbm, ⟨38, _⟩ => ⟨S16x272x2048, .f32⟩
  | .hbm, ⟨39, _⟩ => ⟨S16x272x2048, .f32⟩
  | .hbm, ⟨40, _⟩ => ⟨S_, .f32⟩
  | .hbm, ⟨41, _⟩ => ⟨S16x2048, .f32⟩
  | .hbm, ⟨42, _⟩ => ⟨S16x1x2048, .f32⟩
  | .hbm, ⟨43, _⟩ => ⟨S16x272x2048, .f32⟩
  | .hbm, ⟨44, _⟩ => ⟨S16x272x2048, .f32⟩
  | .hbm, ⟨45, _⟩ => ⟨S16x272x2048, .f32⟩
  | .hbm, ⟨46, _⟩ => ⟨S_, .f32⟩
  | .hbm, ⟨47, _⟩ => ⟨S16x272, .f32⟩
  | .hbm, ⟨48, _⟩ => ⟨S16x272x1, .f32⟩
  | .hbm, ⟨49, _⟩ => ⟨S16x272x2048, .f32⟩
  | .hbm, ⟨50, _⟩ => ⟨S16x272x2048, .f32⟩
  | .hbm, ⟨51, _⟩ => ⟨S16x272x1, .f32⟩
  | .hbm, ⟨52, _⟩ => ⟨S_, .f32⟩
  | .hbm, ⟨53, _⟩ => ⟨S16x272x1, .f32⟩
  | .hbm, ⟨54, _⟩ => ⟨S16x272x1, .f32⟩
  | .hbm, ⟨55, _⟩ => ⟨S_, .f32⟩
  | .hbm, ⟨56, _⟩ => ⟨S16x272, .f32⟩
  | .hbm, ⟨57, _⟩ => ⟨S16x272x2048, .f32⟩
  | .hbm, ⟨58, _⟩ => ⟨S16x272x2048, .f32⟩
  | .hbm, ⟨59, _⟩ => ⟨S16x272x2048, .f32⟩
  | .hbm, ⟨60, _⟩ => ⟨S16x272x2048, .f32⟩
  | .hbm, ⟨61, _⟩ => ⟨S16x272x2048, .f32⟩
  | .hbm, ⟨62, _⟩ => ⟨S4352x2048, .f32⟩
  | .hbm, ⟨63, _⟩ => ⟨S4352x2048, .f32⟩
  | .hbm, ⟨64, _⟩ => ⟨S4352x2048, .bf16⟩
  | _, _ => ⟨S8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Proof.Rows.lean ====
/-
  Rows of a rank-2 vector by number, and the contents of a buffer that a loop fills 128 rows at a time.

  `rd V r c` reads row `r` and column `c` of `V` (each modulo its extent): an index by plain numbers, so that two reads
  are compared by arithmetic on the row numbers alone. `rowsTo`, `slabTo` and `stepTo` are the contents after `k` trips of
  a loop that, at trip `k`, stores rows `128 k + lo …` of a rank-2 buffer, the same rows of some slabs of a rank-3 buffer,
  or the image of the whole buffer under a function. Each begins, by computation, with the contents the loop found.
-/
module

public import proofs.«01_k».proof.Proof.Gen.KernelIdeal
public import Idealize.ShloMosaic.Lib.WritesUnit
public import Idealize.ShloMosaic.Lib.ValueIdxCore
public import Idealize.ShloMosaic.Lib.Pipeline.Frame

@[expose] public section

noncomputable section

namespace Cert.KernelIdeal.Conv

open Idealize.ShloMosaic Idealize.ShloMosaic.ValueIdx Cert.KernelIdeal.Gen

/-- Row `r`, column `c` (each modulo its extent). -/
def rd {α : Type} {n m : ℕ} [NeZero n] [NeZero m] (V : (⟨2, ![n, m]⟩ : Shape).Idx → α) (r c : ℕ) : α := V (ix2 (Fin.ofNat n r) (Fin.ofNat m c))

/-- Slab `q`, row `r`, column `c` (each modulo its extent). -/
def rd3 {α : Type} {p n m : ℕ} [NeZero p] [NeZero n] [NeZero m] (V : (⟨3, ![p, n, m]⟩ : Shape).Idx → α) (q r c : ℕ) : α :=
  V (ix3 (Fin.ofNat p q) (Fin.ofNat n r) (Fin.ofNat m c))

section Reads
variable {α : Type} {n m p : ℕ} [NeZero n] [NeZero m] [NeZero p]

/-- An index with row `r` and column `c` is read by `rd`. -/
theorem eq_rd (V : (⟨2, ![n, m]⟩ : Shape).Idx → α) (y : (⟨2, ![n, m]⟩ : Shape).Idx) (r c : ℕ)
    (hr : (y 0).val = r) (hc : (y 1).val = c) : V y = rd V r c := by
  unfold rd
  subst hr hc
  congr 1
  funext a
  match a with
  | ⟨0, _⟩ => exact Fin.ext (Nat.mod_eq_of_lt (y 0).isLt).symm
  | ⟨1, _⟩ => exact Fin.ext (Nat.mod_eq_of_lt (y 1).isLt).symm

/-- An index with slab `q`, row `r` and column `c` is read by `rd3`. -/
theorem eq_rd3 (V : (⟨3, ![p, n, m]⟩ : Shape).Idx → α) (y : (⟨3, ![p, n, m]⟩ : Shape).Idx) (q r c : ℕ)
    (hq : (y 0).val = q) (hr : (y 1).val = r) (hc : (y 2).val = c) : V y = rd3 V q r c := by
  unfold rd3
  subst hr hq hc
  congr 1
  funext a
  match a with
  | ⟨0, _⟩ => exact Fin.ext (Nat.mod_eq_of_lt (y 0).isLt).symm
  | ⟨1, _⟩ => exact Fin.ext (Nat.mod_eq_of_lt (y 1).isLt).symm
  | ⟨2, _⟩ => exact Fin.ext (Nat.mod_eq_of_lt (y 2).isLt).symm

end Reads

section Contents

variable {sig : RefSig} {κ : Kind} {sp : Space} {e : EltTy} {Val : EltTy → Type} {n : ℕ} [NeZero n]

/-- A load of whole rows from row `o` on reads row `o + x 0`. -/
theorem readAt_rows {W : ℕ} (v : View sig κ sp (⟨2, ![n, 128]⟩ : Shape) e) (f : v.ty.Contents Val)
    {off : Fin 2 → ℕ} {o : ℕ} (inb : ∀ a : Fin 2, off a + (![W, 128] : Fin 2 → ℕ) a ≤ (![n, 128] : Fin 2 → ℕ) a)
    (hoff : off = ![o, 0]) :
    v.readAt Val (Rect.unit (s := ⟨2, ![n, 128]⟩) off ![W, 128] inb).toLoadRect f
      = fun x : (⟨2, ![W, 128]⟩ : Shape).Idx => rd (n := n) (v.read Val f) (o + (x 0).val) (x 1).val := by
  subst hoff
  funext x
  refine eq_rd (n := n) _ _ _ _ ?_ ?_
  · show o + 1 * (x 0).val = _
    omega
  · show 0 + 1 * (x 1).val = _
    omega

/-- Rows `lo … lo + 128 k` at `spec`, the others as found. -/
def rowsTo {m : Memref sig κ sp (⟨2, ![n, 128]⟩ : Shape) e} (h : m.IsWhole) (spec : (⟨2, ![n, 128]⟩ : Shape).Idx → Val e) (lo : ℕ)
    (G : m.view.ty.Contents Val) : ℕ → m.view.ty.Contents Val
  | 0 => G
  | k + 1 => h.unread fun y => if lo ≤ (y 0).val ∧ (y 0).val < lo + 128 * (k + 1) then spec y else m.view.read Val G y

/-- What `rowsTo` reads. -/
theorem read_rowsTo {m : Memref sig κ sp (⟨2, ![n, 128]⟩ : Shape) e} (h : m.IsWhole) (spec : (⟨2, ![n, 128]⟩ : Shape).Idx → Val e)
    (lo : ℕ) (G : m.view.ty.Contents Val) (k : ℕ) (y : (⟨2, ![n, 128]⟩ : Shape).Idx) :
    m.view.read Val (rowsTo h spec lo G k) y
      = if lo ≤ (y 0).val ∧ (y 0).val < lo + 128 * k then spec y else m.view.read Val G y := by
  cases k with
  | zero => rw [if_neg (by omega)]; rfl
  | succ k => unfold rowsTo; rw [h.read_unread]

/-- One trip's store of 128 rows at `spec` takes `rowsTo` one trip further. -/
theorem rowsTo_step {m : Memref sig κ sp (⟨2, ![n, 128]⟩ : Shape) e} (h : m.IsWhole) (spec : (⟨2, ![n, 128]⟩ : Shape).Idx → Val e)
    (lo : ℕ) (G : m.view.ty.Contents Val) (k : ℕ)
    {off : Fin 2 → ℕ} (inb : ∀ a : Fin 2, off a + (![128, 128] : Fin 2 → ℕ) a ≤ (![n, 128] : Fin 2 → ℕ) a)
    (hoff : off = ![128 * k + lo, 0]) (w : (⟨2, ![128, 128]⟩ : Shape).Idx → Val e)
    (hw : ∀ x : (⟨2, ![128, 128]⟩ : Shape).Idx, w x = rd spec (128 * k + lo + (x 0).val) (x 1)) :
    m.view.writes Val (rowsTo h spec lo G k) [⟨Rect.unit (s := ⟨2, ![n, 128]⟩) off ![128, 128] inb, w⟩]
      = rowsTo h spec lo G (k + 1) := by
  rw [rowsTo]
  refine h.eq_unread (funext fun y => ?_)
  have hb : (y 1).val < 128 := (y 1).isLt
  by_cases hy : 128 * k + lo ≤ (y 0).val ∧ (y 0).val < 128 * k + lo + 128
  · have hx : ∀ a, (y a).val = (![128 * k + lo, 0] : Fin 2 → ℕ) a
        + ((ix2 (⟨(y 0).val - (128 * k + lo), by omega⟩ : Fin 128) (⟨(y 1).val, hb⟩ : Fin 128) : (⟨2, ![128, 128]⟩ : Shape).Idx) a).val :=
      Fin.forall_fin_two.mpr ⟨by show (y 0).val = 128 * k + lo + ((y 0).val - (128 * k + lo)); omega,
        by show (y 1).val = 0 + (y 1).val; omega⟩
    rw [View.read_writes_cons_unit_of_mem (s := ⟨2, ![n, 128]⟩) m.view _ inb w [] y _ hoff hx, hw, if_pos (by omega)]
    refine (eq_rd (n := n) _ _ _ _ ?_ rfl).symm
    show (y 0).val = 128 * k + lo + ((y 0).val - (128 * k + lo))
    omega
  · rw [View.read_writes_cons_unit_of_not_mem (s := ⟨2, ![n, 128]⟩) m.view _ inb w [] y hoff (0 : Fin 2)
      (by show (y 0).val < 128 * k + lo ∨ 128 * k + lo + 128 ≤ (y 0).val; omega)]
    rw [View.writes_nil, read_rowsTo]
    by_cases h1 : lo ≤ (y 0).val ∧ (y 0).val < lo + 128 * k
    · rw [if_pos h1, if_pos (by omega)]
    · rw [if_neg h1, if_neg (by omega)]

variable {p : ℕ} [NeZero p]

/-- Rows below `128 k` of the slabs `[s₀, s₁)` at `spec`, the rest as found. -/
def slabTo {m : Memref sig κ sp (⟨3, ![p, n, 128]⟩ : Shape) e} (h : m.IsWhole) (spec : (⟨3, ![p, n, 128]⟩ : Shape).Idx → Val e)
    (s₀ s₁ : ℕ) (G : m.view.ty.Contents Val) : ℕ → m.view.ty.Contents Val
  | 0 => G
  | k + 1 => h.unread fun y =>
      if (s₀ ≤ (y 0).val ∧ (y 0).val < s₁) ∧ (y 1).val < 128 * (k + 1) then spec y else m.view.read Val G y

/-- What `slabTo` reads. -/
theorem read_slabTo {m : Memref sig κ sp (⟨3, ![p, n, 128]⟩ : Shape) e} (h : m.IsWhole)
    (spec : (⟨3, ![p, n, 128]⟩ : Shape).Idx → Val e) (s₀ s₁ : ℕ) (G : m.view.ty.Contents Val) (k : ℕ) (y : (⟨3, ![p, n, 128]⟩ : Shape).Idx) :
    m.view.read Val (slabTo h spec s₀ s₁ G k) y
      = if (s₀ ≤ (y 0).val ∧ (y 0).val < s₁) ∧ (y 1).val < 128 * k then spec y else m.view.read Val G y := by
  cases k with
  | zero => rw [if_neg (by omega)]; rfl
  | succ k => unfold slabTo; rw [h.read_unread]

/-- A store of rows `[o, o + W)` of slab `q` is read back there, and nothing else changes. -/
theorem read_write_slab {W : ℕ} (v : View sig κ sp (⟨3, ![p, n, 128]⟩ : Shape) e) (f : v.ty.Contents Val)
    {off : Fin 3 → ℕ} {q o : ℕ} (inb : ∀ a : Fin 3, off a + (![1, W, 128] : Fin 3 → ℕ) a ≤ (![p, n, 128] : Fin 3 → ℕ) a)
    (hoff : off = ![q, o, 0]) (w : (⟨3, ![1, W, 128]⟩ : Shape).Idx → Val e) (L : List (View.Piece Val (⟨3, ![p, n, 128]⟩ : Shape) e))
    (G : (⟨3, ![p, n, 128]⟩ : Shape).Idx → Val e)
    (hw : ∀ x : (⟨2, ![W, 128]⟩ : Shape).Idx, w (ix3 (0 : Fin 1) (x 0) (x 1)) = rd3 G q (o + (x 0).val) (x 1))
    (y : (⟨3, ![p, n, 128]⟩ : Shape).Idx) :
    v.read Val (v.writes Val f (⟨Rect.unit (s := ⟨3, ![p, n, 128]⟩) off ![1, W, 128] inb, w⟩ :: L)) y
      = if (y 0).val = q ∧ (o ≤ (y 1).val ∧ (y 1).val < o + W) then G y else v.read Val (v.writes Val f L) y := by
  have hb : (y 2).val < 128 := (y 2).isLt
  by_cases hy : (y 0).val = q ∧ (o ≤ (y 1).val ∧ (y 1).val < o + W)
  · have hx : ∀ a : Fin 3, (y a).val = (![q, o, 0] : Fin 3 → ℕ) a
        + ((ix3 (0 : Fin 1) (⟨(y 1).val - o, by omega⟩ : Fin W) (⟨(y 2).val, hb⟩ : Fin 128) : (⟨3, ![1, W, 128]⟩ : Shape).Idx) a).val :=
      fun a => match a with
        | ⟨0, _⟩ => by show (y 0).val = q + 0; omega
        | ⟨1, _⟩ => by show (y 1).val = o + ((y 1).val - o); omega
        | ⟨2, _⟩ => by show (y 2).val = 0 + (y 2).val; omega
    rw [View.read_writes_cons_unit_of_mem (s := ⟨3, ![p, n, 128]⟩) v f inb w L y _ hoff hx, if_pos hy]
    have h2 := hw (ix2 (⟨(y 1).val - o, by omega⟩ : Fin W) (⟨(y 2).val, hb⟩ : Fin 128))
    refine h2.trans ?_
    refine (eq_rd3 (p := p) (n := n) _ _ _ _ _ hy.1 ?_ rfl).symm
    show (y 1).val = o + ((y 1).val - o)
    omega
  · rw [if_neg hy]
    by_cases h0 : (y 0).val = q
    · exact View.read_writes_cons_unit_of_not_mem (s := ⟨3, ![p, n, 128]⟩) v f inb w L y hoff (1 : Fin 3)
        (by show (y 1).val < o ∨ o + W ≤ (y 1).val; omega)
    · exact View.read_writes_cons_unit_of_not_mem (s := ⟨3, ![p, n, 128]⟩) v f inb w L y hoff (0 : Fin 3)
        (by show (y 0).val < q ∨ q + 1 ≤ (y 0).val; omega)

/-- One trip's store of 128 rows of a single slab at `spec` takes `slabTo` one trip further. -/
theorem slabTo_step {m : Memref sig κ sp (⟨3, ![p, n, 128]⟩ : Shape) e} (h : m.IsWhole)
    (spec : (⟨3, ![p, n, 128]⟩ : Shape).Idx → Val e) (q : ℕ) (G : m.view.ty.Contents Val) (k : ℕ)
    {off : Fin 3 → ℕ} (inb : ∀ a : Fin 3, off a + (![1, 128, 128] : Fin 3 → ℕ) a ≤ (![p, n, 128] : Fin 3 → ℕ) a)
    (hoff : off = ![q, 128 * k, 0]) (w : (⟨3, ![1, 128, 128]⟩ : Shape).Idx → Val e)
    (hw : ∀ x : (⟨2, ![128, 128]⟩ : Shape).Idx, w (ix3 (0 : Fin 1) (x 0) (x 1)) = rd3 spec q (128 * k + (x 0).val) (x 1)) :
    m.view.writes Val (slabTo h spec q (q + 1) G k) [⟨Rect.unit (s := ⟨3, ![p, n, 128]⟩) off ![1, 128, 128] inb, w⟩]
      = slabTo h spec q (q + 1) G (k + 1) := by
  rw [slabTo]
  refine h.eq_unread (funext fun y => ?_)
  rw [read_write_slab m.view _ inb hoff w [] spec hw, View.writes_nil, read_slabTo]
  by_cases h1 : (q ≤ (y 0).val ∧ (y 0).val < q + 1) ∧ (y 1).val < 128 * (k + 1)
  · rw [if_pos h1]
    by_cases h2 : (y 0).val = q ∧ (128 * k ≤ (y 1).val ∧ (y 1).val < 128 * k + 128)
    · rw [if_pos h2]
    · rw [if_neg h2, if_pos (by omega)]
  · rw [if_neg h1, if_neg (by omega), if_neg (by omega)]

/-- One trip's stores of the same 128 rows of the slabs 1 to 4 at `spec` take `slabTo` one trip further. -/
theorem slabTo_step4 {m : Memref sig κ sp (⟨3, ![p, n, 128]⟩ : Shape) e} (h : m.IsWhole)
    (spec : (⟨3, ![p, n, 128]⟩ : Shape).Idx → Val e) (G : m.view.ty.Contents Val) (k : ℕ)
    {o1 o2 o3 o4 : Fin 3 → ℕ}
    (i1 : ∀ a : Fin 3, o1 a + (![1, 128, 128] : Fin 3 → ℕ) a ≤ (![p, n, 128] : Fin 3 → ℕ) a)
    (i2 : ∀ a : Fin 3, o2 a + (![1, 128, 128] : Fin 3 → ℕ) a ≤ (![p, n, 128] : Fin 3 → ℕ) a)
    (i3 : ∀ a : Fin 3, o3 a + (![1, 128, 128] : Fin 3 → ℕ) a ≤ (![p, n, 128] : Fin 3 → ℕ) a)
    (i4 : ∀ a : Fin 3, o4 a + (![1, 128, 128] : Fin 3 → ℕ) a ≤ (![p, n, 128] : Fin 3 → ℕ) a)
    (h1 : o1 = ![1, 128 * k, 0]) (h2 : o2 = ![2, 128 * k, 0]) (h3 : o3 = ![3, 128 * k, 0]) (h4 : o4 = ![4, 128 * k, 0])
    (w1 w2 w3 w4 : (⟨3, ![1, 128, 128]⟩ : Shape).Idx → Val e)
    (e1 : ∀ x : (⟨2, ![128, 128]⟩ : Shape).Idx, w1 (ix3 (0 : Fin 1) (x 0) (x 1)) = rd3 spec 1 (128 * k + (x 0).val) (x 1))
    (e2 : ∀ x : (⟨2, ![128, 128]⟩ : Shape).Idx, w2 (ix3 (0 : Fin 1) (x 0) (x 1)) = rd3 spec 2 (128 * k + (x 0).val) (x 1))
    (e3 : ∀ x : (⟨2, ![128, 128]⟩ : Shape).Idx, w3 (ix3 (0 : Fin 1) (x 0) (x 1)) = rd3 spec 3 (128 * k + (x 0).val) (x 1))
    (e4 : ∀ x : (⟨2, ![128, 128]⟩ : Shape).Idx, w4 (ix3 (0 : Fin 1) (x 0) (x 1)) = rd3 spec 4 (128 * k + (x 0).val) (x 1)) :
    m.view.writes Val (slabTo h spec 1 5 G k)
        [⟨Rect.unit (s := ⟨3, ![p, n, 128]⟩) o4 ![1, 128, 128] i4, w4⟩, ⟨Rect.unit (s := ⟨3, ![p, n, 128]⟩) o3 ![1, 128, 128] i3, w3⟩,
          ⟨Rect.unit (s := ⟨3, ![p, n, 128]⟩) o2 ![1, 128, 128] i2, w2⟩, ⟨Rect.unit (s := ⟨3, ![p, n, 128]⟩) o1 ![1, 128, 128] i1, w1⟩]
      = slabTo h spec 1 5 G (k + 1) := by
  rw [slabTo]
  refine h.eq_unread (funext fun y => ?_)
  rw [read_write_slab m.view _ i4 h4 w4 _ spec e4, read_write_slab m.view _ i3 h3 w3 _ spec e3,
    read_write_slab m.view _ i2 h2 w2 _ spec e2, read_write_slab m.view _ i1 h1 w1 _ spec e1, View.writes_nil, read_slabTo]
  split_ifs <;> first | rfl | omega

/-- The contents after `k` trips that each replace the whole buffer by a function of it. -/
def stepTo {s : Shape} {m : Memref sig κ sp s e} (h : m.IsWhole) (step : ℕ → (s.Idx → Val e) → s.Idx → Val e)
    (G : m.view.ty.Contents Val) : ℕ → m.view.ty.Contents Val
  | 0 => G
  | k + 1 => h.unread (step k (m.view.read Val (stepTo h step G k)))

end Contents

end Cert.KernelIdeal.Conv

end
-- ==== Proof.Spec.lean ====
/-
  What the kernel's loops store, as vectors given by row and column.

  `scvV`, `szV`: the two convolution inputs, rows 0–31 zero, rows 32–47 the meta rows (taken from rows 4096–4111 of the
  padded projection), rows 48–4143 the sequence. `padV D`: a cotangent with 16 rows of zeros above and 144 below. `convAt`:
  the running sum of a depthwise convolution's taps at one row and column, in the kernel's order. `accStep`: one trip's
  addition to the per-tap accumulators. `duV`: the gradient of the projection's five channels. All over any arithmetic.
-/
module

public import proofs.«01_k».proof.Proof.Rows

@[expose] public section

set_option maxRecDepth 16384

noncomputable section

namespace Cert.KernelIdeal.Conv

open Idealize.ShloMosaic Idealize.ShloMosaic.ValueIdx Cert.KernelIdeal.Gen

/-- The vector with entry `f r c` at row `r`, column `c`. -/
def mk {α : Type} {n m : ℕ} (f : ℕ → ℕ → α) : (⟨2, ![n, m]⟩ : Shape).Idx → α := fun y => f (y 0).val (y 1).val

/-- The vector with entry `f q r c` at slab `q`, row `r`, column `c`. -/
def mk3 {α : Type} {p n m : ℕ} (f : ℕ → ℕ → ℕ → α) : (⟨3, ![p, n, m]⟩ : Shape).Idx → α := fun y => f (y 0).val (y 1).val (y 2).val

theorem rd_mk {α : Type} {n m : ℕ} [NeZero n] [NeZero m] (f : ℕ → ℕ → α) (r c : ℕ) (h : r < n) (hc : c < m) :
    rd (mk (n := n) (m := m) f) r c = f r c := by
  show f (r % n) (c % m) = _
  rw [Nat.mod_eq_of_lt h, Nat.mod_eq_of_lt hc]

theorem rd3_mk3 {α : Type} {p n m : ℕ} [NeZero p] [NeZero n] [NeZero m] (f : ℕ → ℕ → ℕ → α) (q r c : ℕ) (hq : q < p) (h : r < n) (hc : c < m) :
    rd3 (mk3 (p := p) (n := n) (m := m) f) q r c = f q r c := by
  show f (q % p) (r % n) (c % m) = _
  rw [Nat.mod_eq_of_lt h, Nat.mod_eq_of_lt hq, Nat.mod_eq_of_lt hc]

variable {F : FTy → Type} [FloatOps F]

/-- Zero in f32. -/
def zf : F .f32 := Scalar.ofBits .f32 0x00000000#32
/-- Zero in bf16. -/
def zb : F .bf16 := Scalar.ofBits .bf16 0x0000#16

/-- Elementwise product of two bf16 matrices, in f32. -/
def prodM {s : Shape} (p q : FVec F s .bf16) : FVec F s .f32 := mulf (extf .f32 p bitsLt_bf16_f32) (extf .f32 q bitsLt_bf16_f32)

/-- The logistic of a bf16 matrix, in f32, as half of one plus the hyperbolic tangent of the half. -/
def sigM {s : Shape} (g : FVec F s .bf16) : FVec F s .f32 :=
  addf (mulf (broadcast s (Scalar.ofBits .f32 0x3F000000#32)) (tanh (mulf (broadcast s (Scalar.ofBits .f32 0x3F000000#32)) (extf .f32 g bitsLt_bf16_f32))))
    (broadcast s (Scalar.ofBits .f32 0x3F000000#32))

/-- `a` gated by the logistic of `g`. -/
def zM {s : Shape} (a g : FVec F s .bf16) : FVec F s .f32 := mulf (extf .f32 a bitsLt_bf16_f32) (sigM g)

/-- A convolution's input from a matrix whose rows 0–4095 are the sequence and 4096–4111 the meta rows. -/
def fillV (P : Vec F S4352x128 .f32) : Vec F S4144x128 .f32 :=
  mk fun r c => if r < 32 then zf else if r < 48 then rd P (4064 + r) c else rd P (r - 48) c

/-- A cotangent over the sequence, between 16 and 144 rows of zeros. -/
def padV (D : Vec F S4096x128 .f32) : Vec F S4256x128 .f32 :=
  mk fun r c => if r < 16 then zf else if r < 4112 then rd D (r - 16) c else zf

theorem rd_fillV (P : Vec F S4352x128 .f32) (r c : ℕ) (h : r < 4144) (hc : c < 128) :
    rd (fillV P) r c = if r < 32 then zf else if r < 48 then rd P (4064 + r) c else rd P (r - 48) c := rd_mk _ _ _ h hc

theorem rd_padV (D : Vec F S4096x128 .f32) (r c : ℕ) (h : r < 4256) (hc : c < 128) :
    rd (padV D) r c = if r < 16 then zf else if r < 4112 then rd D (r - 16) c else zf := rd_mk _ _ _ h hc

/-- The cotangent of the short convolution: the output's cotangent times the gate `b`. -/
def dsM (M6 : Vec F S4096x128 .bf16) (M1 : Vec F S4352x128 .bf16) : Vec F S4096x128 .f32 :=
  prodM M6 (mk fun r c => rd M1 r c)

theorem rd_dsM (M6 : Vec F S4096x128 .bf16) (M1 : Vec F S4352x128 .bf16) (r c : ℕ) (h : r < 4096) (hc : c < 128) :
    rd (dsM M6 M1) r c = FloatOps.mulf (FloatOps.extf .f32 bitsLt_bf16_f32 (rd M6 r c)) (FloatOps.extf .f32 bitsLt_bf16_f32 (rd M1 r c)) := by
  show FloatOps.mulf (FloatOps.extf _ _ (rd M6 r c)) (FloatOps.extf _ _ (rd (mk fun r c => rd M1 r c) r c)) = _
  exact congrArg (fun t => FloatOps.mulf _ (FloatOps.extf .f32 bitsLt_bf16_f32 t)) (rd_mk _ _ _ h hc)

/-- The sum of the first taps of a depthwise convolution at row `r`, column `c`: tap `t` reads row `r + off t`. -/
def convAt {n T : ℕ} [NeZero n] [NeZero T] (V : (⟨2, ![n, 128]⟩ : Shape).Idx → F .f32) (w : (⟨2, ![T, 128]⟩ : Shape).Idx → F .f32) (off : ℕ → ℕ)
    (r c : ℕ) : ℕ → F .f32
  | 0 => zf
  | t + 1 => FloatOps.addf (convAt V w off r c t) (FloatOps.mulf (rd V (r + off t) c) (rd w t c))

/-- Eight partial sums of a 128-row block: row `q` sums the rows congruent to `q` modulo 8. -/
def colSum (P : Vec F S128x128 .f32) : Vec F S8x128 .f32 :=
  multiReduction .add [0] S8x128 (shapeCast S16x8x128 P shapeCasts_S128x128_S16x8x128 : Vec F S16x8x128 .f32) 0x00000000#32
    reduces_S16x8x128_S8x128 (.inl rfl) rfl

/-- Rows `[o, o + 128)` of a matrix. -/
def blockM {n : ℕ} [NeZero n] {α : Type} (V : (⟨2, ![n, 128]⟩ : Shape).Idx → α) (o : ℕ) : S128x128.Idx → α := fun x => rd V (o + (x 0).val) (x 1).val

/-- One trip's addition to the per-tap accumulators, eight rows a tap: tap `j` pairs block `k` of the cotangent with the
    input's rows `o + j` further on. -/
def accStep {n J : ℕ} [NeZero n] [NeZero J] (D : Vec F S4096x128 .f32) (V : (⟨2, ![n, 128]⟩ : Shape).Idx → F .f32) (o : ℕ) (k : ℕ)
    (a : (⟨2, ![J, 128]⟩ : Shape).Idx → F .f32) : (⟨2, ![J, 128]⟩ : Shape).Idx → F .f32 :=
  mk fun r c => FloatOps.addf (rd a r c) (rd (colSum (mulf (blockM D (128 * k)) (blockM V (128 * k + o + r / 8)))) (r % 8) c)

theorem accStep_apply {n J : ℕ} [NeZero n] [NeZero J] (D : Vec F S4096x128 .f32) (V : (⟨2, ![n, 128]⟩ : Shape).Idx → F .f32) (o : ℕ) (k : ℕ)
    (a : (⟨2, ![J, 128]⟩ : Shape).Idx → F .f32) (y : (⟨2, ![J, 128]⟩ : Shape).Idx) :
    accStep D V o k a y = FloatOps.addf (rd a (y 0).val (y 1).val)
      (rd (colSum (mulf (blockM D (128 * k)) (blockM V (128 * k + o + (y 0).val / 8)))) ((y 0).val % 8) (y 1).val) := rfl

/-- One trip's addition to the bias accumulator. -/
def biasStep (D : Vec F S4096x128 .f32) (k : ℕ) (a : Vec F S8x128 .f32) : Vec F S8x128 .f32 :=
  addf a (colSum (blockM D (128 * k)))

/-- The first `k` of a sequence of steps. -/
def seqTo {α : Type} (step : ℕ → α → α) (a : α) : ℕ → α
  | 0 => a
  | k + 1 => step k (seqTo step a k)

theorem read_stepTo {sig : RefSig} {κ : Kind} {sp : Space} {e : EltTy} {Val : EltTy → Type} {s : Shape} {m : Memref sig κ sp s e}
    (h : m.IsWhole) (step : ℕ → (s.Idx → Val e) → s.Idx → Val e) (G : m.view.ty.Contents Val) (k : ℕ) :
    m.view.read Val (stepTo h step G k) = seqTo step (m.view.read Val G) k := by
  induction k with
  | zero => rfl
  | succ k ih => rw [stepTo, h.read_unread, ih]; rfl

/-- The gradient of channel `b` at a sequence row: the output's cotangent times the short convolution. -/
def du0At (M6 : Vec F S4096x128 .bf16) (V14 : Vec F S4144x128 .f32) (w : Vec F S3x128 .f32) (r c : ℕ) : F .bf16 :=
  FloatOps.truncf .bf16 bitsLt_bf16_f32 (FloatOps.mulf (rd (extf .f32 M6 bitsLt_bf16_f32 : Vec F S4096x128 .f32) r c) (convAt V14 w (46 + ·) r c 3))

/-- The gradients of the channels `c`, `v`, `a`, `g` (slabs 1–4) at input row `i`, from the two convolution inputs'
    cotangents at their row `r`. -/
def gateAt (M2 M3 M4 M5 : Vec F S4352x128 .bf16) (V18 V19 : Vec F S4224x128 .f32) (q i r c : ℕ) : F .bf16 :=
  if q = 1 then FloatOps.truncf .bf16 bitsLt_bf16_f32 (FloatOps.mulf (rd V18 r c) (rd (extf .f32 M3 bitsLt_bf16_f32 : Vec F S4352x128 .f32) i c))
  else if q = 2 then FloatOps.truncf .bf16 bitsLt_bf16_f32 (FloatOps.mulf (rd V18 r c) (rd (extf .f32 M2 bitsLt_bf16_f32 : Vec F S4352x128 .f32) i c))
  else if q = 3 then FloatOps.truncf .bf16 bitsLt_bf16_f32 (FloatOps.mulf (rd V19 r c) (rd (sigM M5) i c))
  else FloatOps.truncf .bf16 bitsLt_bf16_f32
    (FloatOps.mulf (FloatOps.mulf (FloatOps.mulf (rd V19 r c) (rd (extf .f32 M4 bitsLt_bf16_f32 : Vec F S4352x128 .f32) i c)) (rd (sigM M5) i c))
      (FloatOps.subf (Scalar.ofBits .f32 0x3F800000#32) (rd (sigM M5) i c)))

/-- The cotangent of a convolution's input: row `r`, `T` taps, tap `t` reading `T - 1 - t` rows further on. -/
def dconvV {T : ℕ} [NeZero T] (V : Vec F S4256x128 .f32) (w : (⟨2, ![T, 128]⟩ : Shape).Idx → F .f32) : Vec F S4224x128 .f32 :=
  mk fun r c => convAt V w (T - 1 - ·) r c T

/-- All five channels' gradients. -/
def duV (M2 M3 M4 M5 : Vec F S4352x128 .bf16) (M6 : Vec F S4096x128 .bf16) (V14 : Vec F S4144x128 .f32) (w : Vec F S3x128 .f32)
    (V18 V19 : Vec F S4224x128 .f32) : Vec F S5x4352x128 .bf16 :=
  mk3 fun q r c =>
    if q = 0 then (if r < 4096 then du0At M6 V14 w r c else zb)
    else if r < 4096 then gateAt M2 M3 M4 M5 V18 V19 q r (r + 16) c
    else if r < 4112 then gateAt M2 M3 M4 M5 V18 V19 q r (r - 4096) c
    else zb

end Cert.KernelIdeal.Conv

end
-- ==== Proof.Pay.lean ====
/-
  One trip's stored values, read by row and column.

  Each lemma takes the trip's windows as rows of the matrices they were loaded from and gives the stored vector as rows
  of the vectors of `Spec`.
-/
module

public import proofs.«01_k».proof.Proof.Spec
public import proofs.«01_k».proof.Proof.Gen.KernelIdeal.Skeleton
public import Idealize.ShloMosaic.Lib.PointwiseCore
public import Idealize.ShloMosaic.Lib.KernelVsHost
public import Idealize.ShloMosaic.Lib.Pipeline.Value

@[expose] public section

set_option maxRecDepth 16384

noncomputable section

namespace Cert.KernelIdeal.Conv

open Idealize.ShloMosaic Idealize.ShloMosaic.ValueIdx Cert.KernelIdeal.Gen

variable {F : FTy → Type} [FloatOps F]

section Windows
variable {α : Type} {N T : ℕ} [NeZero N] [NeZero T]

/-- A block of 128 rows cut from a window. -/
theorem slice_rows (W : (⟨2, ![N, 128]⟩ : Shape).Idx → α) (s : ℕ) (h : (⟨2, ![N, 128]⟩ : Shape).Slices ![s, 0] S128x128) (x : S128x128.Idx) :
    extractStridedSlice S128x128 ![s, 0] W h x = rd W (s + (x 0).val) (x 1).val :=
  eq_rd W _ _ _ rfl (Nat.zero_add _)

/-- A block of 128 rows cut from a rotated window. -/
theorem rot_rows (W : (⟨2, ![N, 128]⟩ : Shape).Idx → α) (s : ℕ) (b : BitVec 32) (hb : b.toNat < N)
    (hr : (⟨2, ![N, 128]⟩ : Shape).Rotates 0 none) (h : (⟨2, ![N, 128]⟩ : Shape).Slices ![s, 0] S128x128) (x : S128x128.Idx) :
    extractStridedSlice S128x128 ![s, 0] (dynamicRotate 0 b none W hr) h x = rd W (s + (x 0).val + (N - b.toNat)) (x 1).val := by
  rw [slice_rows]
  unfold rd
  refine dynamicRotate_apply _ _ _ _ _ _ (Fin.forall_fin_two.mpr ⟨?_, rfl⟩)
  rw [if_pos rfl]
  show (s + (x 0).val + (N - b.toNat)) % N = ((s + (x 0).val) % N + N - b.toNat % N) % N
  rw [Nat.mod_eq_of_lt hb, Nat.add_sub_assoc hb.le, Nat.mod_add_mod]

/-- Row `t` of a weight, spread over 128 rows. -/
theorem wrow (w : (⟨2, ![T, 128]⟩ : Shape).Idx → α) (t : ℕ) (h : (⟨2, ![T, 128]⟩ : Shape).Slices ![t, 0] S1x128)
    (hb : S1x128.Broadcasts S128x128) (x : S128x128.Idx) :
    broadcastTo S128x128 (extractStridedSlice S1x128 ![t, 0] w h) hb x = rd w t (x 1).val :=
  eq_rd w _ _ _ rfl (Nat.zero_add _)

variable {n : ℕ} [NeZero n]

/-- Reading a window that is rows of a matrix. -/
theorem rd_win {V : (⟨2, ![n, 128]⟩ : Shape).Idx → α} {W : (⟨2, ![N, 128]⟩ : Shape).Idx → α} {o : ℕ} (hW : ∀ y : (⟨2, ![N, 128]⟩ : Shape).Idx, W y = rd V (o + (y 0).val) (y 1).val)
    (r : ℕ) (hr : r < N) (c : ℕ) : rd W r c = rd V (o + r) c := by
  show W _ = _
  rw [hW]
  show rd V (o + r % N) (c % 128) = _
  rw [Nat.mod_eq_of_lt hr]
  unfold rd
  rw [show Fin.ofNat 128 (c % 128) = Fin.ofNat 128 c from Fin.ext (Nat.mod_mod _ _)]

/-- A block cut from a window that is rows of a matrix. -/
theorem tap_slice {V : (⟨2, ![n, 128]⟩ : Shape).Idx → α} {W : (⟨2, ![N, 128]⟩ : Shape).Idx → α} {o : ℕ} (hW : ∀ y : (⟨2, ![N, 128]⟩ : Shape).Idx, W y = rd V (o + (y 0).val) (y 1).val)
    {s : ℕ} {h : (⟨2, ![N, 128]⟩ : Shape).Slices ![s, 0] S128x128} (d : ℕ) (hd : d = s) (hN : d + 128 ≤ N) (x : S128x128.Idx) :
    extractStridedSlice S128x128 ![s, 0] W h x = rd V (o + d + (x 0).val) (x 1).val := by
  have := (x 0).isLt
  have h0 : (x 0).val < 128 := this
  rw [slice_rows, rd_win hW _ (by omega), hd, Nat.add_assoc]

/-- A block cut from a rotated window that is rows of a matrix. -/
theorem tap_rot {V : (⟨2, ![n, 128]⟩ : Shape).Idx → α} {W : (⟨2, ![N, 128]⟩ : Shape).Idx → α} {o : ℕ} (hW : ∀ y : (⟨2, ![N, 128]⟩ : Shape).Idx, W y = rd V (o + (y 0).val) (y 1).val)
    {s : ℕ} {b : BitVec 32} {hr : (⟨2, ![N, 128]⟩ : Shape).Rotates 0 none} {h : (⟨2, ![N, 128]⟩ : Shape).Slices ![s, 0] S128x128}
    (d : ℕ) (hd : d + b.toNat = s + N) (hb : b.toNat < N) (hN : d + 128 ≤ N) (x : S128x128.Idx) :
    extractStridedSlice S128x128 ![s, 0] (dynamicRotate 0 b none W hr) h x = rd V (o + d + (x 0).val) (x 1).val := by
  have h0 : (x 0).val < 128 := (x 0).isLt
  rw [rot_rows W s b hb, rd_win hW _ (by omega)]
  congr 1
  omega

end Windows

/-- Adding a leading unit axis moves no element. -/
theorem unit_rows {α : Type} {W : ℕ} (v : (⟨2, ![W, 128]⟩ : Shape).Idx → α) (h : (⟨2, ![W, 128]⟩ : Shape).ShapeCasts ⟨3, ![1, W, 128]⟩)
    (x : (⟨2, ![W, 128]⟩ : Shape).Idx) : shapeCast (⟨3, ![1, W, 128]⟩ : Shape) v h (ValueIdx.ix3 (0 : Fin 1) (x 0) (x 1)) = v x := by
  refine (shapeCast_addUnit_apply ![W, 128] v h _).trans (congrArg v (funext (Fin.forall_fin_two.mpr ⟨rfl, rfl⟩)))

/-- A trip of the filling loop stores the short convolution's input. -/
theorem pay139_row {M2 M3 : Vec F S4352x128 .bf16} {W2 W3 : Vec F S128x128 .bf16} {o : ℕ} (ho : o + 128 ≤ 4096)
    (h2 : ∀ x : S128x128.Idx, W2 x = rd M2 (o + (x 0).val) (x 1).val) (h3 : ∀ x : S128x128.Idx, W3 x = rd M3 (o + (x 0).val) (x 1).val) (x : S128x128.Idx) :
    k0_pay139 W2 W3 x = rd (fillV (prodM M2 M3)) (o + 48 + (x 0).val) (x 1).val := by
  have h0 : (x 0).val < 128 := (x 0).isLt
  rw [rd_fillV _ _ _ (by omega) (x 1).isLt, if_neg (by omega), if_neg (by omega), show o + 48 + (x 0).val - 48 = o + (x 0).val by omega]
  unfold k0_pay139
  simp only [shapeCast_self]
  show FloatOps.mulf (FloatOps.extf _ _ (W2 x)) (FloatOps.extf _ _ (W3 x)) = _
  rw [h2, h3]
  rfl

/-- A trip of the filling loop stores the long convolution's input. -/
theorem pay140_row {M4 M5 : Vec F S4352x128 .bf16} {W4 W5 : Vec F S128x128 .bf16} {o : ℕ} (ho : o + 128 ≤ 4096)
    (h4 : ∀ x : S128x128.Idx, W4 x = rd M4 (o + (x 0).val) (x 1).val) (h5 : ∀ x : S128x128.Idx, W5 x = rd M5 (o + (x 0).val) (x 1).val) (x : S128x128.Idx) :
    k0_pay140 W4 W5 x = rd (fillV (zM M4 M5)) (o + 48 + (x 0).val) (x 1).val := by
  have h0 : (x 0).val < 128 := (x 0).isLt
  rw [rd_fillV _ _ _ (by omega) (x 1).isLt, if_neg (by omega), if_neg (by omega), show o + 48 + (x 0).val - 48 = o + (x 0).val by omega]
  unfold k0_pay140
  simp only [shapeCast_self]
  have e : zM W4 W5 x = rd (zM M4 M5) (o + (x 0).val) (x 1).val := by
    unfold zM sigM
    simp only [mulf, addf, extf, tanh, broadcast, h4, h5]
    rfl
  exact e

/-- A trip of the forward loop stores the short convolution's cotangent. -/
theorem pay6_row {M6 : Vec F S4096x128 .bf16} {M1 : Vec F S4352x128 .bf16} {W6 W1 : Vec F S128x128 .bf16} {o : ℕ} (ho : o + 128 ≤ 4096)
    (h6 : ∀ x : S128x128.Idx, W6 x = rd M6 (o + (x 0).val) (x 1).val) (h1 : ∀ x : S128x128.Idx, W1 x = rd M1 (o + (x 0).val) (x 1).val) (x : S128x128.Idx) :
    k0_pay6 W6 W1 x = rd (dsM M6 M1) (o + (x 0).val) (x 1).val := by
  have h0 : (x 0).val < 128 := (x 0).isLt
  rw [rd_dsM _ _ _ _ (by omega) (x 1).isLt]
  unfold k0_pay6 k0_pay5
  simp only [shapeCast_self]
  show FloatOps.mulf (FloatOps.extf _ _ (W6 x)) (FloatOps.extf _ _ (W1 x)) = _
  rw [h6, h1]

/-- Rows of a cotangent are rows of its padding, sixteen further on. -/
theorem padV_row (D : Vec F S4096x128 .f32) (r c : ℕ) (hr : r < 4096) (hc : c < 128) : rd (padV D) (r + 16) c = rd D r c := by
  rw [rd_padV _ _ _ (by omega) hc, if_neg (by omega), if_pos (by omega), Nat.add_sub_cancel]

/-- The gradient of channel `b` over one block. -/
theorem pay17_row {M6 : Vec F S4096x128 .bf16} {V14 : Vec F S4144x128 .f32} {w : Vec F S3x128 .f32} {W6 : Vec F S128x128 .bf16} {W : Vec F S136x128 .f32}
    {o : ℕ} (h6 : ∀ x : S128x128.Idx, W6 x = rd M6 (o + (x 0).val) (x 1).val)
    (hW : ∀ x : S136x128.Idx, W x = rd V14 (o + 40 + (x 0).val) (x 1).val) (x : S128x128.Idx) :
    k0_pay17 w (k0_pay5 W6) (k0_pay10 W) (k0_pay11 W) (k0_pay12 w W) (ValueIdx.ix3 (0 : Fin 1) (x 0) (x 1)) = du0At M6 V14 w (o + (x 0).val) (x 1).val := by
  have e0 : k0_pay9 W x = rd V14 (o + (x 0).val + 46) (x 1).val := by
    refine Eq.trans (tap_rot hW (h := slices_S136x128_o0_0_S128x128) 6 rfl (by decide) (by decide) x) ?_
    congr 1; omega
  have e1 : k0_pay10 W x = rd V14 (o + (x 0).val + 47) (x 1).val := by
    refine Eq.trans (tap_rot hW (h := slices_S136x128_o0_0_S128x128) 7 rfl (by decide) (by decide) x) ?_
    congr 1; omega
  have e2 : k0_pay11 W x = rd V14 (o + (x 0).val + 48) (x 1).val := by
    refine Eq.trans (tap_slice hW (h := slices_S136x128_o8_0_S128x128) 8 rfl (by decide) x) ?_
    congr 1; omega
  unfold k0_pay17 k0_pay12 k0_pay5
  refine (unit_rows _ _ x).trans ?_
  simp only [truncf, mulf, addf, extf, broadcast, wrow, e0, e1, e2, h6]
  rfl

end Cert.KernelIdeal.Conv

end
-- ==== Proof.Gate.lean ====
/-
  The gated channels' gradients over one block of 128 rows, and over the block of the 16 meta rows.
-/
module

public import proofs.«01_k».proof.Proof.Pay

@[expose] public section

set_option maxRecDepth 16384

noncomputable section

namespace Cert.KernelIdeal.Conv

open Idealize.ShloMosaic Cert.KernelIdeal.Gen

variable {F : FTy → Type} [FloatOps F] {M2 M3 M4 M5 : Vec F S4352x128 .bf16} {V18 V19 : Vec F S4224x128 .f32}

/-- Channel `c`: the cotangent times `v`. -/
theorem gate1_row {D : Vec F S128x128 .f32} {W : Vec F S128x128 .bf16} {o : ℕ}
    (hD : ∀ x : S128x128.Idx, D x = rd V18 (o + 16 + (x 0).val) (x 1).val) (hW : ∀ x : S128x128.Idx, W x = rd M3 (o + (x 0).val) (x 1).val) (x : S128x128.Idx) :
    k0_pay131 D W (ValueIdx.ix3 (0 : Fin 1) (x 0) (x 1)) = gateAt M2 M3 M4 M5 V18 V19 1 (o + (x 0).val) (o + (x 0).val + 16) (x 1).val := by
  unfold k0_pay131 gateAt
  rw [if_pos rfl, show o + (x 0).val + 16 = o + 16 + (x 0).val by omega]
  refine (unit_rows _ _ x).trans ?_
  simp only [shapeCast_self]
  simp only [truncf, mulf, extf, hD, hW]
  rfl

/-- Channel `v`: the cotangent times `c`. -/
theorem gate2_row {D : Vec F S128x128 .f32} {W : Vec F S128x128 .bf16} {o : ℕ}
    (hD : ∀ x : S128x128.Idx, D x = rd V18 (o + 16 + (x 0).val) (x 1).val) (hW : ∀ x : S128x128.Idx, W x = rd M2 (o + (x 0).val) (x 1).val) (x : S128x128.Idx) :
    k0_pay132 D W (ValueIdx.ix3 (0 : Fin 1) (x 0) (x 1)) = gateAt M2 M3 M4 M5 V18 V19 2 (o + (x 0).val) (o + (x 0).val + 16) (x 1).val := by
  unfold k0_pay132 gateAt
  rw [if_neg (by decide), if_pos rfl, show o + (x 0).val + 16 = o + 16 + (x 0).val by omega]
  refine (unit_rows _ _ x).trans ?_
  simp only [shapeCast_self]
  simp only [truncf, mulf, extf, hD, hW]
  rfl

/-- The logistic over one block. -/
theorem sig_row {W : Vec F S128x128 .bf16} {o : ℕ} (hW : ∀ x : S128x128.Idx, W x = rd M5 (o + (x 0).val) (x 1).val) (x : S128x128.Idx) :
    k0_pay133 W x = rd (sigM M5) (o + (x 0).val) (x 1).val := by
  unfold k0_pay133
  simp only [shapeCast_self]
  have e : sigM W x = rd (sigM M5) (o + (x 0).val) (x 1).val := by
    unfold sigM
    simp only [mulf, addf, extf, tanh, broadcast, hW]
    rfl
  exact e

/-- Channel `a`: the cotangent times the logistic of `g`. -/
theorem gate3_row {D : Vec F S128x128 .f32} {W : Vec F S128x128 .bf16} {o : ℕ}
    (hD : ∀ x : S128x128.Idx, D x = rd V19 (o + 16 + (x 0).val) (x 1).val) (hW : ∀ x : S128x128.Idx, W x = rd M5 (o + (x 0).val) (x 1).val) (x : S128x128.Idx) :
    k0_pay153 (k0_pay134 D W) (ValueIdx.ix3 (0 : Fin 1) (x 0) (x 1)) = gateAt M2 M3 M4 M5 V18 V19 3 (o + (x 0).val) (o + (x 0).val + 16) (x 1).val := by
  unfold k0_pay153 k0_pay134 gateAt
  rw [if_neg (by decide), if_neg (by decide), if_pos rfl, show o + (x 0).val + 16 = o + 16 + (x 0).val by omega]
  refine (unit_rows _ _ x).trans ?_
  simp only [truncf, mulf, hD, sig_row hW]

/-- Channel `g`: the cotangent times `a` and the logistic's derivative. -/
theorem gate4_row {D : Vec F S128x128 .f32} {U W : Vec F S128x128 .bf16} {o : ℕ}
    (hD : ∀ x : S128x128.Idx, D x = rd V19 (o + 16 + (x 0).val) (x 1).val) (hU : ∀ x : S128x128.Idx, U x = rd M4 (o + (x 0).val) (x 1).val)
    (hW : ∀ x : S128x128.Idx, W x = rd M5 (o + (x 0).val) (x 1).val) (x : S128x128.Idx) :
    k0_pay154 D (k0_pay133 W) U (ValueIdx.ix3 (0 : Fin 1) (x 0) (x 1)) = gateAt M2 M3 M4 M5 V18 V19 4 (o + (x 0).val) (o + (x 0).val + 16) (x 1).val := by
  unfold k0_pay154 gateAt
  rw [if_neg (by decide), if_neg (by decide), if_neg (by decide), show o + (x 0).val + 16 = o + 16 + (x 0).val by omega]
  refine (unit_rows _ _ x).trans ?_
  simp only [shapeCast_self]
  simp only [truncf, mulf, subf, extf, broadcast, hD, hU, sig_row hW]
  rfl

end Cert.KernelIdeal.Conv

end
-- ==== Proof.Final.lean ====
/-
  What the kernel's buffers hold once its loops have run: the convolution inputs and padded cotangents whole, the
  accumulators after all trips, and the five channels' gradients. The four results in closed form.
-/
module

public import proofs.«01_k».proof.Proof.Gate
public import Idealize.ShloMosaic.Lib.WritesUnit
public import Idealize.ShloMosaic.Lib.VecWindow

@[expose] public section

set_option maxRecDepth 16384

noncomputable section

namespace Cert.KernelIdeal.Conv

open Idealize.ShloMosaic Cert.KernelIdeal.Gen

section Contents
variable {sig : RefSig} {κ : Kind} {sp : Space} {e : EltTy} {Val : EltTy → Type} {n p : ℕ} [NeZero n] [NeZero p]

/-- A store of rows `[o, o + W)` is read back there, and nothing else changes. -/
theorem read_write_rows (W o : ℕ) (v : View sig κ sp (⟨2, ![n, 128]⟩ : Shape) e) (f : v.ty.Contents Val)
    (inb : ∀ a : Fin 2, (![o, 0] : Fin 2 → ℕ) a + (![W, 128] : Fin 2 → ℕ) a ≤ (![n, 128] : Fin 2 → ℕ) a)
    (w : (⟨2, ![W, 128]⟩ : Shape).Idx → Val e) (L : List (View.Piece Val (⟨2, ![n, 128]⟩ : Shape) e))
    (G : (⟨2, ![n, 128]⟩ : Shape).Idx → Val e) (hw : ∀ x : (⟨2, ![W, 128]⟩ : Shape).Idx, w x = rd G (o + (x 0).val) (x 1).val)
    (y : (⟨2, ![n, 128]⟩ : Shape).Idx) :
    v.read Val (v.writes Val f (⟨Rect.unit (s := ⟨2, ![n, 128]⟩) ![o, 0] ![W, 128] inb, w⟩ :: L)) y
      = if o ≤ (y 0).val ∧ (y 0).val < o + W then G y else v.read Val (v.writes Val f L) y := by
  have hb : (y 1).val < 128 := (y 1).isLt
  by_cases hy : o ≤ (y 0).val ∧ (y 0).val < o + W
  · have hx : ∀ a : Fin 2, (y a).val = (![o, 0] : Fin 2 → ℕ) a
        + ((ValueIdx.ix2 (⟨(y 0).val - o, by omega⟩ : Fin W) (⟨(y 1).val, hb⟩ : Fin 128) : (⟨2, ![W, 128]⟩ : Shape).Idx) a).val :=
      Fin.forall_fin_two.mpr ⟨by show (y 0).val = o + ((y 0).val - o); omega, by show (y 1).val = 0 + (y 1).val; omega⟩
    rw [View.read_writes_cons_unit_of_mem (s := ⟨2, ![n, 128]⟩) v f inb w L y _ rfl hx, if_pos hy, hw]
    refine (eq_rd (n := n) _ _ _ _ ?_ rfl).symm
    show (y 0).val = o + ((y 0).val - o)
    omega
  · rw [if_neg hy]
    exact View.read_writes_cons_unit_of_not_mem (s := ⟨2, ![n, 128]⟩) v f inb w L y rfl (0 : Fin 2)
      (by show (y 0).val < o ∨ o + W ≤ (y 0).val; omega)

/-- Where a list of stores agrees with `G`, it still does, and on the slab rows `[o, o + W)` too, after a store of `G`'s
    rows there. -/
theorem agree_slab (W q o : ℕ) (v : View sig κ sp (⟨3, ![p, n, 128]⟩ : Shape) e) (f : v.ty.Contents Val)
    (inb : ∀ a : Fin 3, (![q, o, 0] : Fin 3 → ℕ) a + (![1, W, 128] : Fin 3 → ℕ) a ≤ (![p, n, 128] : Fin 3 → ℕ) a)
    (w : (⟨3, ![1, W, 128]⟩ : Shape).Idx → Val e) (L : List (View.Piece Val (⟨3, ![p, n, 128]⟩ : Shape) e))
    (G : (⟨3, ![p, n, 128]⟩ : Shape).Idx → Val e)
    (hw : ∀ x : (⟨2, ![W, 128]⟩ : Shape).Idx, w (ValueIdx.ix3 (0 : Fin 1) (x 0) (x 1)) = rd3 G q (o + (x 0).val) (x 1).val)
    (S : ℕ → ℕ → Prop)
    (hS : ∀ y : (⟨3, ![p, n, 128]⟩ : Shape).Idx, S (y 0).val (y 1).val → v.read Val (v.writes Val f L) y = G y)
    (y : (⟨3, ![p, n, 128]⟩ : Shape).Idx) (hy : ((y 0).val = q ∧ (o ≤ (y 1).val ∧ (y 1).val < o + W)) ∨ S (y 0).val (y 1).val) :
    v.read Val (v.writes Val f (⟨Rect.unit (s := ⟨3, ![p, n, 128]⟩) ![q, o, 0] ![1, W, 128] inb, w⟩ :: L)) y = G y := by
  rw [read_write_slab v f inb rfl w L G hw y]
  by_cases h : (y 0).val = q ∧ (o ≤ (y 1).val ∧ (y 1).val < o + W)
  · rw [if_pos h]
  · rw [if_neg h]
    exact hS y (hy.resolve_left h)

end Contents

variable {F : FTy → Type} [FloatOps F] {sig : RefSig} {κ : Kind} {sp : Space}

/-- A convolution input once filled. -/
theorem read_fill {m : Memref sig κ sp S4144x128 .f32} (h : m.IsWhole) (P : Vec F S4352x128 .f32) (f : m.view.ty.Contents (Elt F))
    (i0 : ∀ a : Fin 2, (![0, 0] : Fin 2 → ℕ) a + (![32, 128] : Fin 2 → ℕ) a ≤ (![4144, 128] : Fin 2 → ℕ) a)
    (i1 : ∀ a : Fin 2, (![32, 0] : Fin 2 → ℕ) a + (![16, 128] : Fin 2 → ℕ) a ≤ (![4144, 128] : Fin 2 → ℕ) a)
    (z : S32x128.Idx → Elt F .f32) (w : S16x128.Idx → Elt F .f32) (hz : ∀ x, z x = zf)
    (hw : ∀ x : S16x128.Idx, w x = rd P (4096 + (x 0).val) (x 1).val) :
    m.view.read (Elt F) (rowsTo (n := 4144) h (fillV P) 48 (m.view.writes (Elt F) f
      [⟨Rect.unit (s := S4144x128) ![32, 0] ![16, 128] i1, w⟩, ⟨Rect.unit (s := S4144x128) ![0, 0] ![32, 128] i0, z⟩]) 32) = fillV P := by
  funext y
  have hr : (y 0).val < 4144 := (y 0).isLt
  rw [read_rowsTo]
  by_cases h1 : 48 ≤ (y 0).val ∧ (y 0).val < 48 + 128 * 32
  · rw [if_pos h1]
  rw [if_neg h1]
  have e1 := read_write_rows (n := 4144) (Val := Elt F) 16 32 m.view f i1 w [⟨Rect.unit (s := S4144x128) ![0, 0] ![32, 128] i0, z⟩] (fillV P) (fun x => by
    have hx : (x 0).val < 16 := (x 0).isLt
    refine (hw x).trans (Eq.trans ?_ (rd_fillV P _ _ (by omega) (x 1).isLt).symm)
    rw [if_neg (by omega), if_pos (by omega)]
    congr 1
    omega) y
  rw [e1]
  by_cases h2 : 32 ≤ (y 0).val ∧ (y 0).val < 32 + 16
  · rw [if_pos h2]
  rw [if_neg h2]
  have e2 := read_write_rows (n := 4144) (Val := Elt F) 32 0 m.view f i0 z [] (fillV P) (fun x => by
    have hx : (x 0).val < 32 := (x 0).isLt
    refine (hz x).trans (Eq.trans ?_ (rd_fillV P _ _ (by omega) (x 1).isLt).symm)
    rw [if_pos (by omega)]) y
  rw [e2, if_pos (by omega)]

/-- A padded cotangent once written. -/
theorem read_pad {m : Memref sig κ sp S4256x128 .f32} (h : m.IsWhole) (D : Vec F S4096x128 .f32) (f : m.view.ty.Contents (Elt F))
    (i0 : ∀ a : Fin 2, (![0, 0] : Fin 2 → ℕ) a + (![16, 128] : Fin 2 → ℕ) a ≤ (![4256, 128] : Fin 2 → ℕ) a)
    (i1 : ∀ a : Fin 2, (![4112, 0] : Fin 2 → ℕ) a + (![144, 128] : Fin 2 → ℕ) a ≤ (![4256, 128] : Fin 2 → ℕ) a)
    (z : S16x128.Idx → Elt F .f32) (w : S144x128.Idx → Elt F .f32) (hz : ∀ x, z x = zf) (hw : ∀ x, w x = zf) :
    m.view.read (Elt F) (rowsTo (n := 4256) h (padV D) 16 (m.view.writes (Elt F) f
      [⟨Rect.unit (s := S4256x128) ![4112, 0] ![144, 128] i1, w⟩, ⟨Rect.unit (s := S4256x128) ![0, 0] ![16, 128] i0, z⟩]) 32) = padV D := by
  funext y
  have hr : (y 0).val < 4256 := (y 0).isLt
  rw [read_rowsTo]
  by_cases h1 : 16 ≤ (y 0).val ∧ (y 0).val < 16 + 128 * 32
  · rw [if_pos h1]
  rw [if_neg h1]
  have e1 := read_write_rows (n := 4256) (Val := Elt F) 144 4112 m.view f i1 w [⟨Rect.unit (s := S4256x128) ![0, 0] ![16, 128] i0, z⟩] (padV D) (fun x => by
    have hx : (x 0).val < 144 := (x 0).isLt
    refine (hw x).trans (Eq.trans ?_ (rd_padV D _ _ (by omega) (x 1).isLt).symm)
    rw [if_neg (by omega), if_neg (by omega)]) y
  rw [e1]
  by_cases h2 : 4112 ≤ (y 0).val ∧ (y 0).val < 4112 + 144
  · rw [if_pos h2]
  rw [if_neg h2]
  have e2 := read_write_rows (n := 4256) (Val := Elt F) 16 0 m.view f i0 z [] (padV D) (fun x => by
    have hx : (x 0).val < 16 := (x 0).isLt
    refine (hz x).trans (Eq.trans ?_ (rd_padV D _ _ (by omega) (x 1).isLt).symm)
    rw [if_pos (by omega)]) y
  rw [e2, if_pos (by omega)]

/-- The cotangent of a convolution's input once written: every row. -/
theorem read_back {m : Memref sig κ sp S4224x128 .f32} (h : m.IsWhole) (G : Vec F S4224x128 .f32) (f : m.view.ty.Contents (Elt F)) :
    m.view.read (Elt F) (rowsTo (n := 4224) h G 0 f 33) = G := by
  funext y
  have hr : (y 0).val < 4224 := (y 0).isLt
  rw [read_rowsTo, if_pos (by omega)]

theorem rd_duV (M2 M3 M4 M5 : Vec F S4352x128 .bf16) (M6 : Vec F S4096x128 .bf16) (V14 : Vec F S4144x128 .f32) (w : Vec F S3x128 .f32)
    (V18 V19 : Vec F S4224x128 .f32) (q r c : ℕ) (hq : q < 5) (h : r < 4352) (hc : c < 128) :
    rd3 (duV M2 M3 M4 M5 M6 V14 w V18 V19) q r c
      = if q = 0 then (if r < 4096 then du0At M6 V14 w r c else zb)
        else if r < 4096 then gateAt M2 M3 M4 M5 V18 V19 q r (r + 16) c
        else if r < 4112 then gateAt M2 M3 M4 M5 V18 V19 q r (r - 4096) c
        else zb := rd3_mk3 (p := 5) (n := 4352) (m := 128) _ _ _ _ hq h hc

/-- The five channels' gradients once written. -/
theorem read_du {m : Memref sig κ sp S5x4352x128 .bf16} (h : m.IsWhole) (M2 M3 M4 M5 : Vec F S4352x128 .bf16) (M6 : Vec F S4096x128 .bf16)
    (V14 : Vec F S4144x128 .f32) (w : Vec F S3x128 .f32) (V18 V19 : Vec F S4224x128 .f32) (f : m.view.ty.Contents (Elt F))
    (i0 : ∀ a : Fin 3, (![1, 4096, 0] : Fin 3 → ℕ) a + (![1, 16, 128] : Fin 3 → ℕ) a ≤ (![5, 4352, 128] : Fin 3 → ℕ) a)
    (i1 : ∀ a : Fin 3, (![2, 4096, 0] : Fin 3 → ℕ) a + (![1, 16, 128] : Fin 3 → ℕ) a ≤ (![5, 4352, 128] : Fin 3 → ℕ) a)
    (i2 : ∀ a : Fin 3, (![3, 4096, 0] : Fin 3 → ℕ) a + (![1, 16, 128] : Fin 3 → ℕ) a ≤ (![5, 4352, 128] : Fin 3 → ℕ) a)
    (i3 : ∀ a : Fin 3, (![4, 4096, 0] : Fin 3 → ℕ) a + (![1, 16, 128] : Fin 3 → ℕ) a ≤ (![5, 4352, 128] : Fin 3 → ℕ) a)
    (i4 : ∀ a : Fin 3, (![0, 4096, 0] : Fin 3 → ℕ) a + (![1, 256, 128] : Fin 3 → ℕ) a ≤ (![5, 4352, 128] : Fin 3 → ℕ) a)
    (i5 : ∀ a : Fin 3, (![1, 4112, 0] : Fin 3 → ℕ) a + (![1, 240, 128] : Fin 3 → ℕ) a ≤ (![5, 4352, 128] : Fin 3 → ℕ) a)
    (i6 : ∀ a : Fin 3, (![2, 4112, 0] : Fin 3 → ℕ) a + (![1, 240, 128] : Fin 3 → ℕ) a ≤ (![5, 4352, 128] : Fin 3 → ℕ) a)
    (i7 : ∀ a : Fin 3, (![3, 4112, 0] : Fin 3 → ℕ) a + (![1, 240, 128] : Fin 3 → ℕ) a ≤ (![5, 4352, 128] : Fin 3 → ℕ) a)
    (i8 : ∀ a : Fin 3, (![4, 4112, 0] : Fin 3 → ℕ) a + (![1, 240, 128] : Fin 3 → ℕ) a ≤ (![5, 4352, 128] : Fin 3 → ℕ) a)
    (w0 : S1x16x128.Idx → Elt F .bf16) (w1 : S1x16x128.Idx → Elt F .bf16) (w2 : S1x16x128.Idx → Elt F .bf16) (w3 : S1x16x128.Idx → Elt F .bf16) (w4 : S1x256x128.Idx → Elt F .bf16) (w5 : S1x240x128.Idx → Elt F .bf16) (w6 : S1x240x128.Idx → Elt F .bf16) (w7 : S1x240x128.Idx → Elt F .bf16) (w8 : S1x240x128.Idx → Elt F .bf16)
    (h0 : ∀ x : S16x128.Idx, w0 (ValueIdx.ix3 (0 : Fin 1) (x 0) (x 1)) = gateAt M2 M3 M4 M5 V18 V19 1 (4096 + (x 0).val) (x 0).val (x 1).val)
    (h1 : ∀ x : S16x128.Idx, w1 (ValueIdx.ix3 (0 : Fin 1) (x 0) (x 1)) = gateAt M2 M3 M4 M5 V18 V19 2 (4096 + (x 0).val) (x 0).val (x 1).val)
    (h2 : ∀ x : S16x128.Idx, w2 (ValueIdx.ix3 (0 : Fin 1) (x 0) (x 1)) = gateAt M2 M3 M4 M5 V18 V19 3 (4096 + (x 0).val) (x 0).val (x 1).val)
    (h3 : ∀ x : S16x128.Idx, w3 (ValueIdx.ix3 (0 : Fin 1) (x 0) (x 1)) = gateAt M2 M3 M4 M5 V18 V19 4 (4096 + (x 0).val) (x 0).val (x 1).val)
    (h4 : ∀ x : S256x128.Idx, w4 (ValueIdx.ix3 (0 : Fin 1) (x 0) (x 1)) = zb)
    (h5 : ∀ x : S240x128.Idx, w5 (ValueIdx.ix3 (0 : Fin 1) (x 0) (x 1)) = zb)
    (h6 : ∀ x : S240x128.Idx, w6 (ValueIdx.ix3 (0 : Fin 1) (x 0) (x 1)) = zb)
    (h7 : ∀ x : S240x128.Idx, w7 (ValueIdx.ix3 (0 : Fin 1) (x 0) (x 1)) = zb)
    (h8 : ∀ x : S240x128.Idx, w8 (ValueIdx.ix3 (0 : Fin 1) (x 0) (x 1)) = zb) :
    m.view.read (Elt F) (m.view.writes (Elt F)
      (slabTo (p := 5) (n := 4352) h (mk3 fun q r c => gateAt M2 M3 M4 M5 V18 V19 q r (r + 16) c) 1 5
        (slabTo (p := 5) (n := 4352) h (mk3 fun _ r c => du0At M6 V14 w r c) 0 1 f 32) 32)
      [⟨Rect.unit (s := S5x4352x128) ![4, 4112, 0] ![1, 240, 128] i8, w8⟩, ⟨Rect.unit (s := S5x4352x128) ![3, 4112, 0] ![1, 240, 128] i7, w7⟩, ⟨Rect.unit (s := S5x4352x128) ![2, 4112, 0] ![1, 240, 128] i6, w6⟩, ⟨Rect.unit (s := S5x4352x128) ![1, 4112, 0] ![1, 240, 128] i5, w5⟩, ⟨Rect.unit (s := S5x4352x128) ![0, 4096, 0] ![1, 256, 128] i4, w4⟩, ⟨Rect.unit (s := S5x4352x128) ![4, 4096, 0] ![1, 16, 128] i3, w3⟩, ⟨Rect.unit (s := S5x4352x128) ![3, 4096, 0] ![1, 16, 128] i2, w2⟩, ⟨Rect.unit (s := S5x4352x128) ![2, 4096, 0] ![1, 16, 128] i1, w1⟩, ⟨Rect.unit (s := S5x4352x128) ![1, 4096, 0] ![1, 16, 128] i0, w0⟩]) = duV M2 M3 M4 M5 M6 V14 w V18 V19 := by
  funext y
  have hq : (y 0).val < 5 := (y 0).isLt
  have hr : (y 1).val < 4352 := (y 1).isLt
  refine agree_slab (p := 5) (n := 4352) (Val := Elt F) 240 4 4112 m.view _ i8 w8 _ _ ?p8
    (fun a b => ((a = 3 ∧ 4112 ≤ b ∧ b < 4112 + 240) ∨ ((a = 2 ∧ 4112 ≤ b ∧ b < 4112 + 240) ∨ ((a = 1 ∧ 4112 ≤ b ∧ b < 4112 + 240) ∨ ((a = 0 ∧ 4096 ≤ b ∧ b < 4096 + 256) ∨ ((a = 4 ∧ 4096 ≤ b ∧ b < 4096 + 16) ∨ ((a = 3 ∧ 4096 ≤ b ∧ b < 4096 + 16) ∨ ((a = 2 ∧ 4096 ≤ b ∧ b < 4096 + 16) ∨ ((a = 1 ∧ 4096 ≤ b ∧ b < 4096 + 16) ∨ (b < 4096)))))))))) (agree_slab (p := 5) (n := 4352) (Val := Elt F) 240 3 4112 m.view _ i7 w7 _ _ ?p7
    (fun a b => ((a = 2 ∧ 4112 ≤ b ∧ b < 4112 + 240) ∨ ((a = 1 ∧ 4112 ≤ b ∧ b < 4112 + 240) ∨ ((a = 0 ∧ 4096 ≤ b ∧ b < 4096 + 256) ∨ ((a = 4 ∧ 4096 ≤ b ∧ b < 4096 + 16) ∨ ((a = 3 ∧ 4096 ≤ b ∧ b < 4096 + 16) ∨ ((a = 2 ∧ 4096 ≤ b ∧ b < 4096 + 16) ∨ ((a = 1 ∧ 4096 ≤ b ∧ b < 4096 + 16) ∨ (b < 4096))))))))) (agree_slab (p := 5) (n := 4352) (Val := Elt F) 240 2 4112 m.view _ i6 w6 _ _ ?p6
    (fun a b => ((a = 1 ∧ 4112 ≤ b ∧ b < 4112 + 240) ∨ ((a = 0 ∧ 4096 ≤ b ∧ b < 4096 + 256) ∨ ((a = 4 ∧ 4096 ≤ b ∧ b < 4096 + 16) ∨ ((a = 3 ∧ 4096 ≤ b ∧ b < 4096 + 16) ∨ ((a = 2 ∧ 4096 ≤ b ∧ b < 4096 + 16) ∨ ((a = 1 ∧ 4096 ≤ b ∧ b < 4096 + 16) ∨ (b < 4096)))))))) (agree_slab (p := 5) (n := 4352) (Val := Elt F) 240 1 4112 m.view _ i5 w5 _ _ ?p5
    (fun a b => ((a = 0 ∧ 4096 ≤ b ∧ b < 4096 + 256) ∨ ((a = 4 ∧ 4096 ≤ b ∧ b < 4096 + 16) ∨ ((a = 3 ∧ 4096 ≤ b ∧ b < 4096 + 16) ∨ ((a = 2 ∧ 4096 ≤ b ∧ b < 4096 + 16) ∨ ((a = 1 ∧ 4096 ≤ b ∧ b < 4096 + 16) ∨ (b < 4096))))))) (agree_slab (p := 5) (n := 4352) (Val := Elt F) 256 0 4096 m.view _ i4 w4 _ _ ?p4
    (fun a b => ((a = 4 ∧ 4096 ≤ b ∧ b < 4096 + 16) ∨ ((a = 3 ∧ 4096 ≤ b ∧ b < 4096 + 16) ∨ ((a = 2 ∧ 4096 ≤ b ∧ b < 4096 + 16) ∨ ((a = 1 ∧ 4096 ≤ b ∧ b < 4096 + 16) ∨ (b < 4096)))))) (agree_slab (p := 5) (n := 4352) (Val := Elt F) 16 4 4096 m.view _ i3 w3 _ _ ?p3
    (fun a b => ((a = 3 ∧ 4096 ≤ b ∧ b < 4096 + 16) ∨ ((a = 2 ∧ 4096 ≤ b ∧ b < 4096 + 16) ∨ ((a = 1 ∧ 4096 ≤ b ∧ b < 4096 + 16) ∨ (b < 4096))))) (agree_slab (p := 5) (n := 4352) (Val := Elt F) 16 3 4096 m.view _ i2 w2 _ _ ?p2
    (fun a b => ((a = 2 ∧ 4096 ≤ b ∧ b < 4096 + 16) ∨ ((a = 1 ∧ 4096 ≤ b ∧ b < 4096 + 16) ∨ (b < 4096)))) (agree_slab (p := 5) (n := 4352) (Val := Elt F) 16 2 4096 m.view _ i1 w1 _ _ ?p1
    (fun a b => ((a = 1 ∧ 4096 ≤ b ∧ b < 4096 + 16) ∨ (b < 4096))) (agree_slab (p := 5) (n := 4352) (Val := Elt F) 16 1 4096 m.view _ i0 w0 _ _ ?p0
    (fun a b => (b < 4096)) (fun y hy => ?base))))))))) y ?_
  case base =>
    have ey : duV M2 M3 M4 M5 M6 V14 w V18 V19 y = rd3 (duV M2 M3 M4 M5 M6 V14 w V18 V19) (y 0).val (y 1).val (y 2).val := (eq_rd3 (p := 5) (n := 4352) _ y _ _ _ rfl rfl rfl)
    rw [View.writes_nil, ey, rd_duV _ _ _ _ _ _ _ _ _ _ _ _ (y 0).isLt (y 1).isLt (y 2).isLt, read_slabTo, read_slabTo]
    have hy' : (y 1).val < 4096 := hy
    by_cases h1 : (1 ≤ (y 0).val ∧ (y 0).val < 5) ∧ (y 1).val < 128 * 32
    · rw [if_pos h1, if_neg (by omega), if_pos hy']
      rfl
    · have hq' : (y 0).val < 5 := (y 0).isLt
      rw [if_neg h1, if_pos (by omega), if_pos (by omega), if_pos hy']
      rfl
  case p0 =>
    intro x
    have hx : (x 0).val < 16 := (x 0).isLt
    refine (h0 x).trans (Eq.trans ?_ (rd_duV _ _ _ _ _ _ _ _ _ _ _ _ (by omega) (by omega) (x 1).isLt).symm)
    rw [if_neg (by omega), if_neg (by omega), if_pos (by omega), show 4096 + (x 0).val - 4096 = (x 0).val by omega]
  case p1 =>
    intro x
    have hx : (x 0).val < 16 := (x 0).isLt
    refine (h1 x).trans (Eq.trans ?_ (rd_duV _ _ _ _ _ _ _ _ _ _ _ _ (by omega) (by omega) (x 1).isLt).symm)
    rw [if_neg (by omega), if_neg (by omega), if_pos (by omega), show 4096 + (x 0).val - 4096 = (x 0).val by omega]
  case p2 =>
    intro x
    have hx : (x 0).val < 16 := (x 0).isLt
    refine (h2 x).trans (Eq.trans ?_ (rd_duV _ _ _ _ _ _ _ _ _ _ _ _ (by omega) (by omega) (x 1).isLt).symm)
    rw [if_neg (by omega), if_neg (by omega), if_pos (by omega), show 4096 + (x 0).val - 4096 = (x 0).val by omega]
  case p3 =>
    intro x
    have hx : (x 0).val < 16 := (x 0).isLt
    refine (h3 x).trans (Eq.trans ?_ (rd_duV _ _ _ _ _ _ _ _ _ _ _ _ (by omega) (by omega) (x 1).isLt).symm)
    rw [if_neg (by omega), if_neg (by omega), if_pos (by omega), show 4096 + (x 0).val - 4096 = (x 0).val by omega]
  case p4 =>
    intro x
    have hx : (x 0).val < 256 := (x 0).isLt
    refine (h4 x).trans (Eq.trans ?_ (rd_duV _ _ _ _ _ _ _ _ _ _ _ _ (by omega) (by omega) (x 1).isLt).symm)
    rw [if_pos rfl, if_neg (by omega)]
  case p5 =>
    intro x
    have hx : (x 0).val < 240 := (x 0).isLt
    refine (h5 x).trans (Eq.trans ?_ (rd_duV _ _ _ _ _ _ _ _ _ _ _ _ (by omega) (by omega) (x 1).isLt).symm)
    rw [if_neg (by omega), if_neg (by omega), if_neg (by omega)]
  case p6 =>
    intro x
    have hx : (x 0).val < 240 := (x 0).isLt
    refine (h6 x).trans (Eq.trans ?_ (rd_duV _ _ _ _ _ _ _ _ _ _ _ _ (by omega) (by omega) (x 1).isLt).symm)
    rw [if_neg (by omega), if_neg (by omega), if_neg (by omega)]
  case p7 =>
    intro x
    have hx : (x 0).val < 240 := (x 0).isLt
    refine (h7 x).trans (Eq.trans ?_ (rd_duV _ _ _ _ _ _ _ _ _ _ _ _ (by omega) (by omega) (x 1).isLt).symm)
    rw [if_neg (by omega), if_neg (by omega), if_neg (by omega)]
  case p8 =>
    intro x
    have hx : (x 0).val < 240 := (x 0).isLt
    refine (h8 x).trans (Eq.trans ?_ (rd_duV _ _ _ _ _ _ _ _ _ _ _ _ (by omega) (by omega) (x 1).isLt).symm)
    rw [if_neg (by omega), if_neg (by omega), if_neg (by omega)]
  show _ ∨ _
  omega

/-! ## The four results -/

/-- The short convolution's input, from the channels `c` and `v`. -/
def inSc (x2 x3 : Vec F S4352x128 .bf16) : Vec F S4144x128 .f32 := fillV (prodM x2 x3)

/-- The long convolution's input, from the channels `a` and `g`. -/
def inCf (x4 x5 : Vec F S4352x128 .bf16) : Vec F S4144x128 .f32 := fillV (zM x4 x5)

/-- The cotangent of the short convolution's input. -/
def dinSc (x1 : Vec F S4352x128 .bf16) (x6 : Vec F S4096x128 .bf16) (x8 : Vec F S1x3x128 .f32) : Vec F S4224x128 .f32 :=
  dconvV (padV (dsM x6 x1)) (k0_pay141 x8)

/-- The cotangent of the long convolution's input. -/
def dinCf (x7 : Vec F S4096x128 .f32) (x9 : Vec F S1x31x128 .f32) : Vec F S4224x128 .f32 := dconvV (padV x7) (k0_pay142 x9)

/-- The gradients of the five channels. -/
def outDu (x1 x2 x3 x4 x5 : Vec F S4352x128 .bf16) (x6 : Vec F S4096x128 .bf16) (x7 : Vec F S4096x128 .f32) (x8 : Vec F S1x3x128 .f32)
    (x9 : Vec F S1x31x128 .f32) : Vec F S5x4352x128 .bf16 :=
  duV x2 x3 x4 x5 x6 (inSc x2 x3) (k0_pay141 x8) (dinSc x1 x6 x8) (dinCf x7 x9)

/-- The gradient of the short convolution's taps. -/
def outSc (x1 x2 x3 : Vec F S4352x128 .bf16) (x6 : Vec F S4096x128 .bf16) : Vec F S1x3x128 .f32 :=
  k0_pay2 (seqTo (accStep (dsM x6 x1) (inSc x2 x3) 46) k0_pay147 32)

/-- The gradient of the long convolution's taps. -/
def outCf (x4 x5 : Vec F S4352x128 .bf16) (x7 : Vec F S4096x128 .f32) : Vec F S1x31x128 .f32 :=
  k0_pay3 (seqTo (accStep x7 (inCf x4 x5) 18) (k0_pay149 k0_pay148) 32)

/-- The gradient of the bias. -/
def outB (x7 : Vec F S4096x128 .f32) : Vec F S1x128 .f32 := k0_pay4 (seqTo (biasStep x7) k0_pay150 32)

/-! ## The meta rows' payloads -/

/-- Sixteen meta rows of the short convolution's input. -/
theorem pay137_row {M2 M3 : Vec F S4352x128 .bf16} {W2 W3 : Vec F S16x128 .bf16}
    (h2 : ∀ x : S16x128.Idx, W2 x = rd M2 (4096 + (x 0).val) (x 1).val) (h3 : ∀ x : S16x128.Idx, W3 x = rd M3 (4096 + (x 0).val) (x 1).val) (x : S16x128.Idx) :
    k0_pay137 W2 W3 x = rd (prodM M2 M3) (4096 + (x 0).val) (x 1).val := by
  unfold k0_pay137
  simp only [shapeCast_self]
  simp only [mulf, extf, h2, h3]
  rfl

/-- Sixteen meta rows of the long convolution's input. -/
theorem pay138_row {M4 M5 : Vec F S4352x128 .bf16} {W4 W5 : Vec F S16x128 .bf16}
    (h4 : ∀ x : S16x128.Idx, W4 x = rd M4 (4096 + (x 0).val) (x 1).val) (h5 : ∀ x : S16x128.Idx, W5 x = rd M5 (4096 + (x 0).val) (x 1).val) (x : S16x128.Idx) :
    k0_pay138 W4 W5 x = rd (zM M4 M5) (4096 + (x 0).val) (x 1).val := by
  unfold k0_pay138
  simp only [shapeCast_self]
  simp only [mulf, addf, tanh, broadcast, extf, h4, h5]
  rfl

section Meta
variable {M2 M3 M4 M5 : Vec F S4352x128 .bf16} {V18 V19 : Vec F S4224x128 .f32} {D : Vec F S16x128 .f32} {W U : Vec F S16x128 .bf16}

/-- Channel `c` at the meta rows. -/
theorem meta1_row (hD : ∀ x : S16x128.Idx, D x = rd V18 (x 0).val (x 1).val) (hW : ∀ x : S16x128.Idx, W x = rd M3 (4096 + (x 0).val) (x 1).val) (x : S16x128.Idx) :
    k0_pay155 D W (ValueIdx.ix3 (0 : Fin 1) (x 0) (x 1)) = gateAt M2 M3 M4 M5 V18 V19 1 (4096 + (x 0).val) (x 0).val (x 1).val := by
  unfold k0_pay155 gateAt
  rw [if_pos rfl]
  refine (unit_rows _ _ x).trans ?_
  simp only [shapeCast_self]
  simp only [truncf, mulf, extf, hD, hW]
  rfl

/-- Channel `v` at the meta rows. -/
theorem meta2_row (hD : ∀ x : S16x128.Idx, D x = rd V18 (x 0).val (x 1).val) (hW : ∀ x : S16x128.Idx, W x = rd M2 (4096 + (x 0).val) (x 1).val) (x : S16x128.Idx) :
    k0_pay156 D W (ValueIdx.ix3 (0 : Fin 1) (x 0) (x 1)) = gateAt M2 M3 M4 M5 V18 V19 2 (4096 + (x 0).val) (x 0).val (x 1).val := by
  unfold k0_pay156 gateAt
  rw [if_neg (by decide), if_pos rfl]
  refine (unit_rows _ _ x).trans ?_
  simp only [shapeCast_self]
  simp only [truncf, mulf, extf, hD, hW]
  rfl

/-- The logistic at the meta rows. -/
theorem sigMeta_row (hW : ∀ x : S16x128.Idx, W x = rd M5 (4096 + (x 0).val) (x 1).val) (x : S16x128.Idx) :
    k0_pay157 W x = rd (sigM M5) (4096 + (x 0).val) (x 1).val := by
  unfold k0_pay157
  simp only [shapeCast_self]
  simp only [mulf, addf, extf, tanh, broadcast, hW]
  rfl

/-- Channel `a` at the meta rows. -/
theorem meta3_row (hD : ∀ x : S16x128.Idx, D x = rd V19 (x 0).val (x 1).val) (hW : ∀ x : S16x128.Idx, W x = rd M5 (4096 + (x 0).val) (x 1).val) (x : S16x128.Idx) :
    k0_pay158 D W (ValueIdx.ix3 (0 : Fin 1) (x 0) (x 1)) = gateAt M2 M3 M4 M5 V18 V19 3 (4096 + (x 0).val) (x 0).val (x 1).val := by
  unfold k0_pay158 gateAt
  rw [if_neg (by decide), if_neg (by decide), if_pos rfl]
  refine (unit_rows _ _ x).trans ?_
  simp only [truncf, mulf, hD, sigMeta_row hW]

/-- Channel `g` at the meta rows. -/
theorem meta4_row (hD : ∀ x : S16x128.Idx, D x = rd V19 (x 0).val (x 1).val) (hW : ∀ x : S16x128.Idx, W x = rd M5 (4096 + (x 0).val) (x 1).val)
    (hU : ∀ x : S16x128.Idx, U x = rd M4 (4096 + (x 0).val) (x 1).val) (x : S16x128.Idx) :
    k0_pay160 (k0_pay159 D W U) (ValueIdx.ix3 (0 : Fin 1) (x 0) (x 1)) = gateAt M2 M3 M4 M5 V18 V19 4 (4096 + (x 0).val) (x 0).val (x 1).val := by
  unfold k0_pay160 k0_pay159 gateAt
  rw [if_neg (by decide), if_neg (by decide), if_neg (by decide)]
  refine (unit_rows _ _ x).trans ?_
  simp only [shapeCast_self]
  simp only [truncf, mulf, subf, extf, broadcast, hD, hU, sigMeta_row hW]
  rfl

end Meta

/-! ## The same reads as the run meets them -/

section Met
variable {s : Shape} {e : EltTy} {Val : EltTy → Type}

/-- A store of a whole buffer is what it reads after. -/
theorem read_write_full' {m : Memref sig κ sp s e} (f : m.view.ty.Contents Val) {off : Fin s.rank → ℕ} (inb : ∀ a, off a + s.size a ≤ s.size a)
    (w : (Rect.unit off s.size inb).shape.Idx → Val e) :
    m.view.read Val (View.write Val (m.view.slice (⟨Rect.unit off s.size inb, w⟩ : View.Piece Val s e).fst) (m.view.writes Val f [])
      (⟨Rect.unit off s.size inb, w⟩ : View.Piece Val s e).snd Finset.univ) = w := View.read_writes_full m.view f inb w []

/-- The first sixteen rows of a cotangent. -/
theorem readAt_top (v : View sig κ sp S4224x128 .f32) (f : v.ty.Contents (Elt F))
    (inb : ∀ a, (![0, 0] : Fin 2 → ℕ) a + S16x128.size a ≤ S4224x128.size a) (x : S16x128.Idx) :
    v.readAt (Elt F) (Rect.unit (s := S4224x128) ![0, 0] S16x128.size inb).toLoadRect f x = rd (n := 4224) (m := 128) (v.read (Elt F) f) (x 0).val (x 1).val := by
  refine (congrFun (readAt_rows (o := 0) v f inb rfl) x).trans ?_
  show rd (n := 4224) (m := 128) (v.read (Elt F) f) (0 + (x 0).val) (x 1).val = _
  rw [Nat.zero_add]

/-- The sixteen meta rows of a channel. -/
theorem readAt_tail {m : Memref sig κ sp S4352x128 .bf16} (h : m.IsWhole) (X : Vec F S4352x128 .bf16)
    (inb : ∀ a, (![4096, 0] : Fin 2 → ℕ) a + S16x128.size a ≤ S4352x128.size a) (x : S16x128.Idx) :
    m.view.readAt (Elt F) (Rect.unit (s := S4352x128) ![4096, 0] S16x128.size inb).toLoadRect (h.unread X) x = rd X (4096 + (x 0).val) (x 1).val := by
  refine (congrFun (readAt_rows (o := 4096) m.view _ inb rfl) x).trans ?_
  rw [h.read_unread]

/-- What a filled convolution input reads as, with the two last stores as the run writes them. -/
theorem read_fill' {m : Memref sig κ sp S4144x128 .f32} (h : m.IsWhole) (P : Vec F S4352x128 .f32) (f : m.view.ty.Contents (Elt F))
    (i0 : ∀ a, (![0, 0] : Fin 2 → ℕ) a + S32x128.size a ≤ S4144x128.size a) (i1 : ∀ a, (![32, 0] : Fin 2 → ℕ) a + S16x128.size a ≤ S4144x128.size a)
    (z : S32x128.Idx → Elt F .f32) (w : S16x128.Idx → Elt F .f32) (hz : ∀ x, z x = zf)
    (hw : ∀ x : S16x128.Idx, w x = rd P (4096 + (x 0).val) (x 1).val) :
    m.view.read (Elt F) (rowsTo (n := 4144) h (fillV P) 48
      (View.write (Elt F) (m.view.slice (⟨Rect.unit (s := S4144x128) ![32, 0] S16x128.size i1, w⟩ : View.Piece (Elt F) S4144x128 .f32).fst)
        (m.view.writes (Elt F) f [⟨Rect.unit (s := S4144x128) ![0, 0] S32x128.size i0, z⟩])
        (⟨Rect.unit (s := S4144x128) ![32, 0] S16x128.size i1, w⟩ : View.Piece (Elt F) S4144x128 .f32).snd Finset.univ) 32) = fillV P :=
  read_fill h P f i0 i1 z w hz hw

/-- What a padded cotangent reads as, with its two border stores as the run writes them. -/
theorem read_pad' {m : Memref sig κ sp S4256x128 .f32} (h : m.IsWhole) (D : Vec F S4096x128 .f32) (f : m.view.ty.Contents (Elt F))
    (i0 : ∀ a, (![0, 0] : Fin 2 → ℕ) a + S16x128.size a ≤ S4256x128.size a) (i1 : ∀ a, (![4112, 0] : Fin 2 → ℕ) a + S144x128.size a ≤ S4256x128.size a)
    (z : S16x128.Idx → Elt F .f32) (w : S144x128.Idx → Elt F .f32) (hz : ∀ x, z x = zf) (hw : ∀ x, w x = zf) :
    m.view.read (Elt F) (rowsTo (n := 4256) h (padV D) 16
      (View.write (Elt F) (m.view.slice (⟨Rect.unit (s := S4256x128) ![4112, 0] S144x128.size i1, w⟩ : View.Piece (Elt F) S4256x128 .f32).fst)
        (m.view.writes (Elt F) f [⟨Rect.unit (s := S4256x128) ![0, 0] S16x128.size i0, z⟩])
        (⟨Rect.unit (s := S4256x128) ![4112, 0] S144x128.size i1, w⟩ : View.Piece (Elt F) S4256x128 .f32).snd Finset.univ) 32) = padV D :=
  read_pad h D f i0 i1 z w hz hw

end Met

/-- A slab of zeros below the sequence. -/
theorem zero256_row (x : S256x128.Idx) : (k0_pay161 : Vec F S1x256x128 .bf16) (ValueIdx.ix3 (0 : Fin 1) (x 0) (x 1)) = zb := by
  unfold k0_pay161
  exact (unit_rows _ _ x).trans rfl

/-- The zeros stored under a channel's meta rows. -/
theorem zero162_row (x : S240x128.Idx) : (k0_pay162 : Vec F S1x240x128 .bf16) (ValueIdx.ix3 (0 : Fin 1) (x 0) (x 1)) = zb := by
  unfold k0_pay162
  exact (unit_rows _ _ x).trans rfl
/-- The zeros stored under a channel's meta rows. -/
theorem zero163_row (x : S240x128.Idx) : (k0_pay163 : Vec F S1x240x128 .bf16) (ValueIdx.ix3 (0 : Fin 1) (x 0) (x 1)) = zb := by
  unfold k0_pay163
  exact (unit_rows _ _ x).trans rfl
/-- The zeros stored under a channel's meta rows. -/
theorem zero164_row (x : S240x128.Idx) : (k0_pay164 : Vec F S1x240x128 .bf16) (ValueIdx.ix3 (0 : Fin 1) (x 0) (x 1)) = zb := by
  unfold k0_pay164
  exact (unit_rows _ _ x).trans rfl
/-- The zeros stored under a channel's meta rows. -/
theorem zero165_row (x : S240x128.Idx) : (k0_pay1 k0_pay165 : Vec F S1x240x128 .bf16) (ValueIdx.ix3 (0 : Fin 1) (x 0) (x 1)) = zb := by
  unfold k0_pay165 k0_pay1
  exact (unit_rows _ _ x).trans rfl

end Cert.KernelIdeal.Conv

end
-- ==== Proof.Cols.lean ====
/-
  One column of the two convolutions' gradients over the extended reals, as functions of plain row numbers.

  `conv` is the causal depthwise convolution with zeros before row 0, `dconv` the cotangent of its input, `wgrad` the
  cotangent of its taps; `duC` are the gradients of the five channels. Beside them: reorderings of sums, and the logistic
  as half of one plus the hyperbolic tangent of the half.
-/
module

public import Idealize.ShloMosaic.Lib.IdealHost
public import Mathlib.Algebra.BigOperators.Fin
public import Mathlib.Analysis.SpecialFunctions.Trigonometric.DerivHyp

@[expose] public section

noncomputable section

namespace Cert.Cols

open Idealize.ShloMosaic

/-! ## Sums -/

/-- A sum over `a` blocks of `b` consecutive numbers. -/
theorem sum_blocks {M : Type} [AddCommMonoid M] (f : ℕ → M) (a b : ℕ) :
    ∑ k ∈ Finset.range a, ∑ i ∈ Finset.range b, f (b * k + i) = ∑ r ∈ Finset.range (b * a), f r := by
  induction a with
  | zero => simp
  | succ a ih => rw [Finset.sum_range_succ, ih, Nat.mul_succ, Finset.sum_range_add]

/-- Eight partial sums, each over 32 blocks of 16 rows eight apart, are one sum over 4096 rows. -/
theorem sum_parts {M : Type} [AddCommMonoid M] (f : ℕ → M) :
    ∑ q ∈ Finset.range 8, ∑ k ∈ Finset.range 32, ∑ i ∈ Finset.range 16, f (128 * k + (8 * i + q)) = ∑ r ∈ Finset.range 4096, f r := by
  rw [Finset.sum_comm, ← sum_blocks f 32 128]
  refine Finset.sum_congr rfl fun k _ => ?_
  rw [Finset.sum_comm]
  exact sum_blocks (fun i => f (128 * k + i)) 16 8

/-- A sum whose first sixteen terms are zero. -/
theorem sum_skip {M : Type} [AddCommMonoid M] (f : ℕ → M) (h : ∀ i < 16, f i = 0) :
    ∑ i ∈ Finset.range 4112, f i = ∑ r ∈ Finset.range 4096, f (16 + r) := by
  rw [show (4112 : ℕ) = 16 + 4096 from rfl, Finset.sum_range_add,
    Finset.sum_eq_zero (fun i hi => h i (Finset.mem_range.mp hi)), zero_add]

/-! ## The logistic -/

/-- The word of one half. -/
theorem half_eq : Ideal.ofBits .f32 0x3F000000#32 = ((1 / 2 : ℝ) : EReal) := by
  simp [Ideal.ofBits, Ideal.ieee, -EReal.coe_mul]; norm_num

/-- Half of one plus the hyperbolic tangent of half of `x` is the logistic of `x`. -/
theorem sig_eq (x : EReal) :
    ((1 / 2 : ℝ) : EReal) * Ideal.tanh (((1 / 2 : ℝ) : EReal) * x) + ((1 / 2 : ℝ) : EReal) = Ideal.div 1 (1 + Ideal.exp (-x)) := by
  induction x with
  | bot =>
    rw [EReal.coe_mul_bot_of_pos (by norm_num), Ideal.tanh_bot, EReal.neg_bot, Ideal.exp_top, Ideal.div,
      show (1 : EReal) + ⊤ = ⊤ from EReal.coe_add_top 1]
    simp
    norm_cast
    norm_num
  | top =>
    rw [EReal.coe_mul_top_of_pos (by norm_num), Ideal.tanh_top, EReal.neg_top, Ideal.exp_bot, Ideal.div]
    simp
    norm_cast
    norm_num
  | coe r =>
    have h : (1 : ℝ) + Real.exp (-r) ≠ 0 := by positivity
    rw [← EReal.coe_mul, Ideal.tanh_coe, ← EReal.coe_neg, Ideal.exp_coe, ← EReal.coe_one, ← EReal.coe_add, Ideal.div_coe h,
      ← EReal.coe_mul, ← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e1 : Real.exp (1 / 2 * r) * Real.exp (-(1 / 2 * r)) = 1 := by rw [← Real.exp_add]; simp
    have p1 : 0 < Real.exp (1 / 2 * r) := Real.exp_pos _
    have p2 : 0 < Real.exp (-(1 / 2 * r)) := Real.exp_pos _
    rw [e]
    generalize Real.exp (1 / 2 * r) = A at *
    generalize Real.exp (-(1 / 2 * r)) = B at *
    have hB : B = 1 / A := by field_simp; linarith
    subst hB
    field_simp
    ring

/-! ## The gradients of one column -/

/-- The causal convolution of `x` with `T` taps at row `i`. -/
def conv (T : ℕ) (w x : ℕ → EReal) (i : ℕ) : EReal :=
  ∑ t ∈ Finset.range T, (if T - 1 ≤ i + t then x (i + t - (T - 1)) else 0) * w t

/-- The cotangent of the convolution's input at row `i`, from the cotangent `d` of the rows from 16 on. -/
def dconv (T : ℕ) (w d : ℕ → EReal) (i : ℕ) : EReal :=
  ∑ t ∈ Finset.range T, (if 16 ≤ i + (T - 1 - t) ∧ i + (T - 1 - t) < 4112 then d (i + (T - 1 - t) - 16) else 0) * w t

/-- The cotangent of tap `t`. -/
def wgrad (T : ℕ) (x d : ℕ → EReal) (t : ℕ) : EReal :=
  ∑ r ∈ Finset.range 4096, d r * (if T - 1 ≤ r + 16 + t then x (r + 16 + t - (T - 1)) else 0)

/-- The logistic. -/
def sg (x : EReal) : EReal := Ideal.div 1 (1 + Ideal.exp (-x))

/-- The gradients of channels `c`, `v`, `a`, `g` at input row `i`. -/
def gateC (b c v a g dy dz ws wc : ℕ → EReal) (q i : ℕ) : EReal :=
  if q = 1 then dconv 3 ws (fun r => dy r * b (r + 16)) i * v i
  else if q = 2 then dconv 3 ws (fun r => dy r * b (r + 16)) i * c i
  else if q = 3 then dconv 31 wc dz i * sg (g i)
  else dconv 31 wc dz i * a i * sg (g i) * (1 - sg (g i))

/-- The gradients of the five channels at output row `r`: the sequence first, then the sixteen meta rows, then zeros. -/
def duC (b c v a g dy dz ws wc : ℕ → EReal) (q r : ℕ) : EReal :=
  if q = 0 then (if r < 4096 then dy r * conv 3 ws (fun i => c i * v i) (r + 16) else 0)
  else if r < 4096 then gateC b c v a g dy dz ws wc q (r + 16)
  else if r < 4112 then gateC b c v a g dy dz ws wc q (r - 4096)
  else 0

/-- A column with the sequence rows first, then the sixteen meta rows, then zeros. -/
def seqFirst (x : ℕ → EReal) (r : ℕ) : EReal := if r < 4096 then x (r + 16) else if r < 4112 then x (r - 4096) else 0

end Cert.Cols

end
-- ==== Proof.ColKernel.lean ====
/-
  The kernel's four results at the extended reals, column by column: the closed forms of one grid point's outputs are the
  gradients of Cols.lean, when the point's blocks hold the columns in the kernel's row order.
-/
module

public import proofs.«01_k».proof.Proof.Final
public import proofs.«01_k».proof.Proof.Cols
public import Idealize.ShloMosaic.Lib.Pointwise

@[expose] public section

set_option maxRecDepth 16384

noncomputable section

namespace Cert.KernelIdeal.Conv

open Idealize.ShloMosaic Cert.KernelIdeal.Gen Cert.Cols

/-- Row `r`, column `c` at the index with those coordinates. -/
theorem rd_at {α : Type} {n m : ℕ} [NeZero n] [NeZero m] (V : (⟨2, ![n, m]⟩ : Shape).Idx → α) (r c : ℕ) (hr : r < n) (hc : c < m) :
    rd V r c = V (ValueIdx.ix2 (⟨r, hr⟩ : Fin n) (⟨c, hc⟩ : Fin m)) :=
  (eq_rd V (ValueIdx.ix2 (⟨r, hr⟩ : Fin n) (⟨c, hc⟩ : Fin m)) r c rfl rfl).symm

/-- Slab `q`, row `r`, column `c` at the index with those coordinates. -/
theorem rd3_at {α : Type} {p n m : ℕ} [NeZero p] [NeZero n] [NeZero m] (V : (⟨3, ![p, n, m]⟩ : Shape).Idx → α) (q r c : ℕ) (hq : q < p) (hr : r < n)
    (hc : c < m) : rd3 V q r c = V (ValueIdx.ix3 (⟨q, hq⟩ : Fin p) (⟨r, hr⟩ : Fin n) (⟨c, hc⟩ : Fin m)) :=
  (eq_rd3 V (ValueIdx.ix3 (⟨q, hq⟩ : Fin p) (⟨r, hr⟩ : Fin n) (⟨c, hc⟩ : Fin m)) q r c rfl rfl rfl).symm

/-! ## The pieces as sums -/

/-- The kernel's running sum of taps is the sum of the taps. -/
theorem convAt_eq {n T : ℕ} [NeZero n] [NeZero T] (V : (⟨2, ![n, 128]⟩ : Shape).Idx → Ideal .f32) (w : (⟨2, ![T, 128]⟩ : Shape).Idx → Ideal .f32)
    (off : ℕ → ℕ) (r c k : ℕ) : convAt (F := Ideal) V w off r c k = ∑ t ∈ Finset.range k, (rd V (r + off t) c * rd w t c : EReal) := by
  induction k with
  | zero => exact Ideal.ofBits_zero_f32
  | succ k ih => rw [Finset.sum_range_succ, ← ih]; rfl

/-- A partial sum of a 128-row block. -/
theorem colSum_eq (P : Vec Ideal S128x128 .f32) (q c : ℕ) (hq : q < 8) (hc : c < 128) :
    rd (colSum (F := Ideal) P) q c = ∑ i ∈ Finset.range 16, (rd P (8 * i + q) c : EReal) := by
  rw [Finset.sum_range]
  refine (rd_at (n := 8) (m := 128) (colSum (F := Ideal) P) q c hq hc).trans ?_
  unfold colSum
  refine (Ideal.multiReduction_add_single (φ := .f32) _ _ reduces_S16x8x128_S8x128 (.inl rfl) rfl _).trans (Finset.sum_congr rfl fun k _ => ?_)
  have hk : k.val < 16 := k.isLt
  refine (congrArg P (Shape.reshapeEquiv_eq_of_rowMajor (s := S128x128) (s' := S16x8x128) _
    (y := ValueIdx.ix2 (⟨8 * k.val + q, by omega⟩ : Fin 128) (⟨c, hc⟩ : Fin 128)) ?_)).trans (eq_rd _ _ _ _ rfl rfl)
  rw [Shape.rowMajor_val_three, Shape.rowMajor_val_two]
  show (8 * k.val + q) * 128 + c = (k.val * 8 + q) * 128 + c
  omega

/-- A product of two blocks, by row and column. -/
theorem rd_mul_block {n n' : ℕ} [NeZero n] [NeZero n'] (D : (⟨2, ![n, 128]⟩ : Shape).Idx → Ideal .f32) (V : (⟨2, ![n', 128]⟩ : Shape).Idx → Ideal .f32)
    (a b r c : ℕ) (hr : r < 128) (hc : c < 128) :
    rd (mulf (F := Ideal) (φ := .f32) (blockM D a) (blockM V b)) r c = (rd D (a + r) c * rd V (b + r) c : EReal) :=
  rd_at (n := 128) (m := 128) _ r c hr hc

/-- The accumulators after `k` trips. -/
theorem acc_eq {n J : ℕ} [NeZero n] [NeZero J] (D : Vec Ideal S4096x128 .f32) (V : (⟨2, ![n, 128]⟩ : Shape).Idx → Ideal .f32) (o : ℕ)
    (a : (⟨2, ![J, 128]⟩ : Shape).Idx → Ideal .f32) (k p c : ℕ) (hp : p < J) (hc : c < 128) :
    rd (seqTo (accStep (F := Ideal) D V o) a k) p c = (rd a p c + ∑ k' ∈ Finset.range k, ∑ i ∈ Finset.range 16,
      rd D (128 * k' + (8 * i + p % 8)) c * rd V (128 * k' + o + p / 8 + (8 * i + p % 8)) c : EReal) := by
  induction k with
  | zero => rw [Finset.sum_range_zero, add_zero]; rfl
  | succ k ih =>
    rw [Finset.sum_range_succ, ← add_assoc, ← ih]
    have e : rd (seqTo (accStep (F := Ideal) D V o) a (k + 1)) p c
        = (rd (seqTo (accStep (F := Ideal) D V o) a k) p c + rd (colSum (F := Ideal) (mulf (blockM D (128 * k)) (blockM V (128 * k + o + p / 8)))) (p % 8) c : EReal) :=
      (rd_at (n := J) (m := 128) _ p c hp hc).trans rfl
    rw [e, colSum_eq _ _ _ (Nat.mod_lt _ (by omega)) hc]
    congr 1
    refine Finset.sum_congr rfl fun i hi => ?_
    have hi := Finset.mem_range.mp hi
    exact rd_mul_block D V _ _ _ _ (by omega) hc

/-- The bias accumulator after `k` trips. -/
theorem bias_eq (D : Vec Ideal S4096x128 .f32) (a : Vec Ideal S8x128 .f32) (k p c : ℕ) (hp : p < 8) (hc : c < 128) :
    rd (seqTo (biasStep (F := Ideal) D) a k) p c = (rd a p c + ∑ k' ∈ Finset.range k, ∑ i ∈ Finset.range 16,
      rd D (128 * k' + (8 * i + p)) c : EReal) := by
  induction k with
  | zero => rw [Finset.sum_range_zero, add_zero]; rfl
  | succ k ih =>
    rw [Finset.sum_range_succ, ← add_assoc, ← ih]
    have e : rd (seqTo (biasStep (F := Ideal) D) a (k + 1)) p c
        = (rd (seqTo (biasStep (F := Ideal) D) a k) p c + rd (colSum (F := Ideal) (blockM D (128 * k))) p c : EReal) := rfl
    rw [e, colSum_eq _ _ _ hp hc]
    congr 1
    refine Finset.sum_congr rfl fun i hi => ?_
    have hi := Finset.mem_range.mp hi
    exact rd_at (n := 128) (m := 128) _ _ c (by omega) hc

/-- The short convolution's tap gradients: eight rows a tap, summed. -/
theorem pay2_eq (v : Vec Ideal S24x128 .f32) (t c : ℕ) (ht : t < 3) (hc : c < 128) :
    rd3 (k0_pay2 (F := Ideal) v) 0 t c = ∑ q ∈ Finset.range 8, (rd v (8 * t + q) c : EReal) := by
  rw [Finset.sum_range]
  refine (rd3_at (p := 1) (n := 3) (m := 128) (k0_pay2 (F := Ideal) v) 0 t c (by omega) ht hc).trans ?_
  unfold k0_pay2
  refine (congrArg _ (Shape.reshapeEquiv_eq_of_rowMajor (s := S3x128) (s' := S1x3x128) _
    (y := ValueIdx.ix2 (⟨t, ht⟩ : Fin 3) (⟨c, hc⟩ : Fin 128)) ?_)).trans ?_
  · rw [Shape.rowMajor_val_three, Shape.rowMajor_val_two]
    show t * 128 + c = (0 * 3 + t) * 128 + c
    omega
  refine (Ideal.multiReduction_add_single (φ := .f32) _ _ reduces_S3x8x128_S3x128 (.inl rfl) rfl _).trans (Finset.sum_congr rfl fun k _ => ?_)
  have hk : k.val < 8 := k.isLt
  refine (congrArg v (Shape.reshapeEquiv_eq_of_rowMajor (s := S24x128) (s' := S3x8x128) _
    (y := ValueIdx.ix2 (⟨8 * t + k.val, by omega⟩ : Fin 24) (⟨c, hc⟩ : Fin 128)) ?_)).trans (eq_rd _ _ _ _ rfl rfl)
  rw [Shape.rowMajor_val_three, Shape.rowMajor_val_two]
  show (8 * t + k.val) * 128 + c = (t * 8 + k.val) * 128 + c
  omega

/-- The long convolution's tap gradients: eight rows a tap, summed. -/
theorem pay3_eq (v : Vec Ideal S248x128 .f32) (t c : ℕ) (ht : t < 31) (hc : c < 128) :
    rd3 (k0_pay3 (F := Ideal) v) 0 t c = ∑ q ∈ Finset.range 8, (rd v (8 * t + q) c : EReal) := by
  rw [Finset.sum_range]
  refine (rd3_at (p := 1) (n := 31) (m := 128) (k0_pay3 (F := Ideal) v) 0 t c (by omega) ht hc).trans ?_
  unfold k0_pay3
  refine (congrArg _ (Shape.reshapeEquiv_eq_of_rowMajor (s := S31x128) (s' := S1x31x128) _
    (y := ValueIdx.ix2 (⟨t, ht⟩ : Fin 31) (⟨c, hc⟩ : Fin 128)) ?_)).trans ?_
  · rw [Shape.rowMajor_val_three, Shape.rowMajor_val_two]
    show t * 128 + c = (0 * 31 + t) * 128 + c
    omega
  refine (Ideal.multiReduction_add_single (φ := .f32) _ _ reduces_S31x8x128_S31x128 (.inl rfl) rfl _).trans (Finset.sum_congr rfl fun k _ => ?_)
  have hk : k.val < 8 := k.isLt
  refine (congrArg v (Shape.reshapeEquiv_eq_of_rowMajor (s := S248x128) (s' := S31x8x128) _
    (y := ValueIdx.ix2 (⟨8 * t + k.val, by omega⟩ : Fin 248) (⟨c, hc⟩ : Fin 128)) ?_)).trans (eq_rd _ _ _ _ rfl rfl)
  rw [Shape.rowMajor_val_three, Shape.rowMajor_val_two]
  show (8 * t + k.val) * 128 + c = (t * 8 + k.val) * 128 + c
  omega

/-- The bias gradient: eight rows, summed. -/
theorem pay4_eq (v : Vec Ideal S8x128 .f32) (c : ℕ) (hc : c < 128) :
    rd (k0_pay4 (F := Ideal) v) 0 c = ∑ q ∈ Finset.range 8, (rd v q c : EReal) := by
  rw [Finset.sum_range]
  refine (rd_at (n := 1) (m := 128) (k0_pay4 (F := Ideal) v) 0 c (by omega) hc).trans ?_
  unfold k0_pay4
  refine (congrArg _ (Shape.reshapeEquiv_eq_of_rowMajor (s := S128) (s' := S1x128) _
    (y := ValueIdx.ix1 (⟨c, hc⟩ : Fin 128)) ?_)).trans ?_
  · rw [Shape.rowMajor_val_two, Shape.rowMajor_val_one]
    show c = 0 * 128 + c
    omega
  refine (Ideal.multiReduction_add_single (φ := .f32) _ _ reduces_S8x128_S128 (.inl rfl) rfl _).trans (Finset.sum_congr rfl fun k _ => ?_)
  exact eq_rd _ _ _ _ rfl rfl

/-! ## The convolutions' inputs and cotangents -/

/-- A convolution's input, from a column in the kernel's row order. -/
theorem rd_fillV_col (P : Vec Ideal S4352x128 .f32) (x : ℕ → EReal) (c : ℕ) (hc : c < 128)
    (h : ∀ r, r < 4352 → rd P r c = seqFirst x r) (p : ℕ) (hp : p < 4144) :
    rd (fillV (F := Ideal) P) p c = if 32 ≤ p then x (p - 32) else 0 := by
  rw [rd_fillV P p c hp hc]
  by_cases h1 : p < 32
  · rw [if_pos h1, if_neg (by omega)]
    exact Ideal.ofBits_zero_f32
  · rw [if_neg h1, if_pos (show 32 ≤ p by omega)]
    by_cases h2 : p < 48
    · rw [if_pos h2, h _ (by omega), seqFirst, if_neg (by omega), if_pos (by omega)]
      exact congrArg x (by omega)
    · rw [if_neg h2, h _ (by omega), seqFirst, if_pos (by omega)]
      exact congrArg x (by omega)

/-- A padded cotangent, by row. -/
theorem rd_padV_col (D : Vec Ideal S4096x128 .f32) (d : ℕ → EReal) (c : ℕ) (hc : c < 128)
    (h : ∀ r, r < 4096 → rd D r c = d r) (p : ℕ) (hp : p < 4256) :
    rd (padV (F := Ideal) D) p c = if 16 ≤ p ∧ p < 4112 then d (p - 16) else 0 := by
  rw [rd_padV D p c hp hc]
  by_cases h1 : p < 16
  · rw [if_pos h1, if_neg (by omega)]
    exact Ideal.ofBits_zero_f32
  · rw [if_neg h1]
    by_cases h2 : p < 4112
    · rw [if_pos h2, if_pos (by omega), h _ (by omega)]
    · rw [if_neg h2, if_neg (by omega)]
      exact Ideal.ofBits_zero_f32

/-- The cotangent of a convolution's input, by row. -/
theorem rd_dconvV_col {T : ℕ} [NeZero T] (hT : T ≤ 31) (D : Vec Ideal S4096x128 .f32) (W : (⟨2, ![T, 128]⟩ : Shape).Idx → Ideal .f32) (d w : ℕ → EReal) (c : ℕ) (hc : c < 128)
    (h : ∀ r, r < 4096 → rd D r c = d r) (hw : ∀ t, t < T → rd W t c = w t) (p : ℕ) (hp : p < 4112) :
    rd (dconvV (F := Ideal) (padV D) W) p c = dconv T w d p := by
  have e : rd (dconvV (F := Ideal) (padV D) W) p c = convAt (F := Ideal) (padV D) W (T - 1 - ·) p c T :=
    rd_mk (n := 4224) (m := 128) _ p c (by omega) hc
  rw [e, convAt_eq]
  refine Finset.sum_congr rfl fun t ht => ?_
  have ht := Finset.mem_range.mp ht
  rw [rd_padV_col D d c hc h _ (by omega), hw t ht]

/-- The short convolution at a sequence row. -/
theorem conv_col (P : Vec Ideal S4352x128 .f32) (W : Vec Ideal S3x128 .f32) (x w : ℕ → EReal) (c : ℕ) (hc : c < 128)
    (h : ∀ r, r < 4352 → rd P r c = seqFirst x r) (hw : ∀ t, t < 3 → rd W t c = w t) (r : ℕ) (hr : r < 4096) :
    convAt (F := Ideal) (fillV P) W (46 + ·) r c 3 = conv 3 w x (r + 16) := by
  rw [convAt_eq]
  refine Finset.sum_congr rfl fun t ht => ?_
  have ht := Finset.mem_range.mp ht
  rw [rd_fillV_col P x c hc h _ (by omega), hw t ht, if_pos (by omega), if_pos (by omega)]
  congr 2
  omega

/-- The accumulated tap gradients of either convolution: over the eight partial sums, the gradient of the tap. -/
theorem acc_col {J T : ℕ} [NeZero J] (D : Vec Ideal S4096x128 .f32) (P : Vec Ideal S4352x128 .f32) (a : (⟨2, ![J, 128]⟩ : Shape).Idx → Ideal .f32) (x d : ℕ → EReal) (c : ℕ) (hc : c < 128)
    (hD : ∀ r, r < 4096 → rd D r c = d r) (h : ∀ r, r < 4352 → rd P r c = seqFirst x r) (ha : ∀ p, p < J → rd a p c = (0 : EReal))
    (o t : ℕ) (hJ : J = 8 * T) (ht : t < T) (hT : T ≤ 31) (ho : o + T = 49) :
    ∑ q ∈ Finset.range 8, (rd (seqTo (accStep (F := Ideal) D (fillV P) o) a 32) (8 * t + q) c : EReal) = wgrad T x d t := by
  rw [wgrad, ← sum_parts]
  refine Finset.sum_congr rfl fun q hq => ?_
  have hq := Finset.mem_range.mp hq
  rw [acc_eq D (fillV P) o a 32 (8 * t + q) c (by omega) hc, ha _ (by omega), zero_add,
    show (8 * t + q) % 8 = q by omega, show (8 * t + q) / 8 = t by omega]
  refine Finset.sum_congr rfl fun k hk => Finset.sum_congr rfl fun i hi => ?_
  have hk := Finset.mem_range.mp hk
  have hi := Finset.mem_range.mp hi
  rw [hD _ (by omega), rd_fillV_col P x c hc h _ (by omega)]
  congr 1
  by_cases h1 : 32 ≤ 128 * k + o + t + (8 * i + q)
  · rw [if_pos h1, if_pos (by omega)]
    congr 1
    omega
  · rw [if_neg h1, if_neg (by omega)]

/-! ## One grid point's outputs -/

variable (x1 x2 x3 x4 x5 : Vec Ideal S4352x128 .bf16) (x6 : Vec Ideal S4096x128 .bf16) (x7 : Vec Ideal S4096x128 .f32)
  (x8 : Vec Ideal S1x3x128 .f32) (x9 : Vec Ideal S1x31x128 .f32) (b c v a g dy dz ws wc : ℕ → EReal) (l : ℕ)

/-- The weights of the short convolution, by tap. -/
theorem rd_pay141 (t : ℕ) (ht : t < 3) (hl : l < 128) : rd (k0_pay141 (F := Ideal) x8) t l = rd3 x8 0 t l := by
  refine (rd_at (n := 3) (m := 128) (k0_pay141 (F := Ideal) x8) t l ht hl).trans ?_
  unfold k0_pay141
  refine (congrArg x8 (Shape.reshapeEquiv_eq_of_rowMajor (s := S1x3x128) (s' := S3x128) _
    (y := ValueIdx.ix3 (⟨0, by omega⟩ : Fin 1) (⟨t, ht⟩ : Fin 3) (⟨l, hl⟩ : Fin 128)) ?_)).trans (eq_rd3 _ _ _ _ _ rfl rfl rfl)
  rw [Shape.rowMajor_val_three, Shape.rowMajor_val_two]
  show (0 * 3 + t) * 128 + l = t * 128 + l
  omega

/-- The weights of the long convolution, by tap. -/
theorem rd_pay142 (t : ℕ) (ht : t < 31) (hl : l < 128) : rd (k0_pay142 (F := Ideal) x9) t l = rd3 x9 0 t l := by
  refine (rd_at (n := 31) (m := 128) (k0_pay142 (F := Ideal) x9) t l ht hl).trans ?_
  unfold k0_pay142
  refine (congrArg x9 (Shape.reshapeEquiv_eq_of_rowMajor (s := S1x31x128) (s' := S31x128) _
    (y := ValueIdx.ix3 (⟨0, by omega⟩ : Fin 1) (⟨t, ht⟩ : Fin 31) (⟨l, hl⟩ : Fin 128)) ?_)).trans (eq_rd3 _ _ _ _ _ rfl rfl rfl)
  rw [Shape.rowMajor_val_three, Shape.rowMajor_val_two]
  show (0 * 31 + t) * 128 + l = t * 128 + l
  omega

variable {x1 x2 x3 x4 x5 x6 x7 x8 x9 b c v a g dy dz ws wc l}

/-- The logistic, by row and column. -/
theorem rd_sigM (r : ℕ) : rd (sigM (F := Ideal) x5) r l = sg (rd x5 r l) := by
  show Ideal.ofBits .f32 0x3F000000#32 * Ideal.tanh (Ideal.ofBits .f32 0x3F000000#32 * rd x5 r l) + Ideal.ofBits .f32 0x3F000000#32 = _
  rw [half_eq]
  exact sig_eq _

/-- A product of two columns in the kernel's row order. -/
theorem prod_col (h2 : ∀ r, r < 4352 → rd x2 r l = seqFirst c r) (h3 : ∀ r, r < 4352 → rd x3 r l = seqFirst v r) (r : ℕ) (hr : r < 4352) :
    rd (prodM (F := Ideal) x2 x3) r l = seqFirst (fun i => c i * v i) r := by
  have e : rd (prodM (F := Ideal) x2 x3) r l = (rd x2 r l * rd x3 r l : EReal) := rfl
  rw [e, h2 r hr, h3 r hr]
  unfold seqFirst
  split
  · rfl
  · split
    · rfl
    · exact zero_mul _

/-- A gated column in the kernel's row order. -/
theorem gated_col (h4 : ∀ r, r < 4352 → rd x4 r l = seqFirst a r) (h5 : ∀ r, r < 4352 → rd x5 r l = seqFirst g r) (r : ℕ) (hr : r < 4352) :
    rd (zM (F := Ideal) x4 x5) r l = seqFirst (fun i => a i * sg (g i)) r := by
  have e : rd (zM (F := Ideal) x4 x5) r l = (rd x4 r l * rd (sigM (F := Ideal) x5) r l : EReal) := rfl
  rw [e, rd_sigM, h4 r hr, h5 r hr]
  unfold seqFirst
  split
  · rfl
  · split
    · rfl
    · exact zero_mul _

/-- The short convolution's cotangent. -/
theorem ds_col (hl : l < 128) (h1 : ∀ r, r < 4352 → rd x1 r l = seqFirst b r) (h6 : ∀ r, r < 4096 → rd x6 r l = dy r) (r : ℕ) (hr : r < 4096) :
    rd (dsM (F := Ideal) x6 x1) r l = (dy r * b (r + 16) : EReal) := by
  rw [rd_dsM x6 x1 r l hr hl]
  show (rd x6 r l * rd x1 r l : EReal) = _
  rw [h6 r hr, h1 r (by omega), seqFirst, if_pos hr]

/-- The tap gradients of the short convolution. -/
theorem outSc_col (hl : l < 128) (h1 : ∀ r, r < 4352 → rd x1 r l = seqFirst b r) (h2 : ∀ r, r < 4352 → rd x2 r l = seqFirst c r)
    (h3 : ∀ r, r < 4352 → rd x3 r l = seqFirst v r) (h6 : ∀ r, r < 4096 → rd x6 r l = dy r) (t : ℕ) (ht : t < 3) :
    rd3 (outSc (F := Ideal) x1 x2 x3 x6) 0 t l = wgrad 3 (fun i => c i * v i) (fun r => dy r * b (r + 16)) t := by
  unfold outSc
  rw [pay2_eq _ t l ht hl]
  exact acc_col (J := 24) (T := 3) (dsM (F := Ideal) x6 x1) (prodM (F := Ideal) x2 x3) k0_pay147 _ _ l hl (ds_col hl h1 h6) (prod_col h2 h3)
    (fun p hp => Ideal.ofBits_zero_f32) 46 t rfl ht (by omega) rfl

/-- The tap gradients of the long convolution. -/
theorem outCf_col (hl : l < 128) (h4 : ∀ r, r < 4352 → rd x4 r l = seqFirst a r) (h5 : ∀ r, r < 4352 → rd x5 r l = seqFirst g r)
    (h7 : ∀ r, r < 4096 → rd x7 r l = dz r) (t : ℕ) (ht : t < 31) :
    rd3 (outCf (F := Ideal) x4 x5 x7) 0 t l = wgrad 31 (fun i => a i * sg (g i)) dz t := by
  unfold outCf
  rw [pay3_eq _ t l ht hl]
  exact acc_col (J := 248) (T := 31) x7 (zM (F := Ideal) x4 x5) (k0_pay149 k0_pay148) _ _ l hl h7 (gated_col h4 h5)
    (fun p hp => Ideal.ofBits_zero_f32) 18 t rfl ht (by omega) rfl

/-- The bias gradient. -/
theorem outB_col (hl : l < 128) (h7 : ∀ r, r < 4096 → rd x7 r l = dz r) :
    rd (outB (F := Ideal) x7) 0 l = ∑ r ∈ Finset.range 4096, dz r := by
  have hb := fun q hq => bias_eq x7 (k0_pay150 (F := Ideal)) 32 q l hq hl
  unfold outB
  generalize seqTo (biasStep (F := Ideal) x7) (k0_pay150 (F := Ideal)) 32 = s at hb ⊢
  rw [pay4_eq _ l hl, ← sum_parts]
  refine Finset.sum_congr rfl fun q hq => ?_
  have hq := Finset.mem_range.mp hq
  refine (hb q hq).trans ?_
  rw [show rd (k0_pay150 (F := Ideal)) q l = (0 : EReal) from Ideal.ofBits_zero_f32, zero_add]
  refine Finset.sum_congr rfl fun k hk => Finset.sum_congr rfl fun i hi => ?_
  have hk := Finset.mem_range.mp hk
  have hi := Finset.mem_range.mp hi
  exact h7 _ (by omega)

/-- The gradients of channels `c`, `v`, `a`, `g` at one row. -/
theorem gate_col (hl : l < 128) (h1 : ∀ r, r < 4352 → rd x1 r l = seqFirst b r) (h2 : ∀ r, r < 4352 → rd x2 r l = seqFirst c r)
    (h3 : ∀ r, r < 4352 → rd x3 r l = seqFirst v r) (h4 : ∀ r, r < 4352 → rd x4 r l = seqFirst a r) (h5 : ∀ r, r < 4352 → rd x5 r l = seqFirst g r)
    (h6 : ∀ r, r < 4096 → rd x6 r l = dy r) (h7 : ∀ r, r < 4096 → rd x7 r l = dz r) (h8 : ∀ t, t < 3 → rd3 x8 0 t l = ws t)
    (h9 : ∀ t, t < 31 → rd3 x9 0 t l = wc t) (q i r : ℕ) (hi : i < 4352) (hr : r < 4112) (e : ∀ x : ℕ → EReal, seqFirst x i = x r) :
    gateAt (F := Ideal) x2 x3 x4 x5 (dinSc x1 x6 x8) (dinCf x7 x9) q i r l = gateC b c v a g dy dz ws wc q r := by
  have eS : rd (dinSc (F := Ideal) x1 x6 x8) r l = dconv 3 ws (fun r => dy r * b (r + 16)) r :=
    rd_dconvV_col (by omega) _ _ _ ws l hl (ds_col hl h1 h6) (fun t ht => (rd_pay141 x8 l t ht hl).trans (h8 t ht)) r hr
  have eC : rd (dinCf (F := Ideal) x7 x9) r l = dconv 31 wc dz r :=
    rd_dconvV_col (by omega) _ _ _ wc l hl h7 (fun t ht => (rd_pay142 x9 l t ht hl).trans (h9 t ht)) r hr
  have eG : rd (sigM (F := Ideal) x5) i l = sg (g r) := by rw [rd_sigM, h5 i hi, e]
  have o1 : (Scalar.ofBits .f32 0x3F800000#32 : Ideal .f32) = (1 : EReal) := Ideal.ofBits_one_f32
  unfold gateAt gateC
  rw [eS, eC, eG, o1]
  have e2 : rd (extf (F := Ideal) .f32 x2 bitsLt_bf16_f32 : Vec Ideal S4352x128 .f32) i l = c r := (h2 i hi).trans (e c)
  have e3 : rd (extf (F := Ideal) .f32 x3 bitsLt_bf16_f32 : Vec Ideal S4352x128 .f32) i l = v r := (h3 i hi).trans (e v)
  have e4 : rd (extf (F := Ideal) .f32 x4 bitsLt_bf16_f32 : Vec Ideal S4352x128 .f32) i l = a r := (h4 i hi).trans (e a)
  rw [e2, e3, e4]
  rfl

/-- The gradients of the five channels. -/
theorem outDu_col (hl : l < 128) (h1 : ∀ r, r < 4352 → rd x1 r l = seqFirst b r) (h2 : ∀ r, r < 4352 → rd x2 r l = seqFirst c r)
    (h3 : ∀ r, r < 4352 → rd x3 r l = seqFirst v r) (h4 : ∀ r, r < 4352 → rd x4 r l = seqFirst a r) (h5 : ∀ r, r < 4352 → rd x5 r l = seqFirst g r)
    (h6 : ∀ r, r < 4096 → rd x6 r l = dy r) (h7 : ∀ r, r < 4096 → rd x7 r l = dz r) (h8 : ∀ t, t < 3 → rd3 x8 0 t l = ws t)
    (h9 : ∀ t, t < 31 → rd3 x9 0 t l = wc t) (q r : ℕ) (hq : q < 5) (hr : r < 4352) :
    rd3 (outDu (F := Ideal) x1 x2 x3 x4 x5 x6 x7 x8 x9) q r l = duC b c v a g dy dz ws wc q r := by
  unfold outDu
  refine (rd3_mk3 (p := 5) (n := 4352) (m := 128) _ q r l hq hr hl).trans ?_
  have z : (zb : Ideal .bf16) = (0 : EReal) := Ideal.ofBits_zero_bf16
  unfold duC
  rw [z]
  by_cases hq0 : q = 0
  · rw [if_pos hq0, if_pos hq0]
    by_cases h : r < 4096
    · rw [if_pos h, if_pos h]
      have eC : convAt (F := Ideal) (inSc x2 x3) (k0_pay141 x8) (46 + ·) r l 3 = conv 3 ws (fun i => c i * v i) (r + 16) :=
        conv_col _ _ _ ws l hl (prod_col h2 h3) (fun t ht => (rd_pay141 x8 l t ht hl).trans (h8 t ht)) r h
      have e6 : rd (extf (F := Ideal) .f32 x6 bitsLt_bf16_f32 : Vec Ideal S4096x128 .f32) r l = dy r := h6 r h
      unfold du0At
      rw [eC, e6]
      rfl
    · rw [if_neg h, if_neg h]
  · rw [if_neg hq0, if_neg hq0]
    by_cases h : r < 4096
    · rw [if_pos h, if_pos h]
      exact gate_col hl h1 h2 h3 h4 h5 h6 h7 h8 h9 q r (r + 16) (by omega) (by omega) fun x => if_pos h
    · rw [if_neg h, if_neg h]
      by_cases h' : r < 4112
      · rw [if_pos h', if_pos h']
        exact gate_col hl h1 h2 h3 h4 h5 h6 h7 h8 h9 q r (r - 4096) (by omega) (by omega) fun x => (if_neg h).trans (if_pos h')
      · rw [if_neg h', if_neg h']

end Cert.KernelIdeal.Conv

end
-- ==== Proof.HostRows.lean ====
/-
  Host operations read by row and column: slices, paddings, concatenations along the rows, a row repeated, column sums.
-/
module

public import proofs.«01_k».proof.Proof.ColKernel
public import Idealize.ShloMosaic.Lib.Pipeline.Value
public import Idealize.ShloMosaic.Lib.KernelVsHost
public import Idealize.ShloMosaic.Lib.IdealHost

@[expose] public section

noncomputable section

namespace Cert.Cols

open Idealize.ShloMosaic Cert.KernelIdeal.Conv

section Layout
variable {α : Type} {n m p q : ℕ} [NeZero n] [NeZero m] [NeZero p] [NeZero q]

/-- A slice, by row and column. -/
theorem rd_slice (a b : ℕ) (x : (⟨2, ![n, m]⟩ : Shape).Idx → α) (h : (⟨2, ![n, m]⟩ : Shape).Slices ![a, b] ⟨2, ![p, q]⟩) (r c : ℕ) (hr : r < p)
    (hc : c < q) : rd (extractStridedSlice ⟨2, ![p, q]⟩ ![a, b] x h) r c = rd x (a + r) (b + c) := by
  have h0 : a + p ≤ n := h.2 0
  have h1 : b + q ≤ m := h.2 1
  refine (rd_at (n := p) (m := q) _ r c hr hc).trans ((extractStridedSlice_apply _ _ _ _
    (ValueIdx.ix2 (⟨a + r, by omega⟩ : Fin n) (⟨b + c, by omega⟩ : Fin m)) fun k => ?_).trans (eq_rd _ _ _ _ rfl rfl))
  match k with
  | ⟨0, _⟩ => rfl
  | ⟨1, _⟩ => rfl

/-- A padding, by row and column. -/
theorem rd_pad (a b a' b' : ℕ) (x : (⟨2, ![p, q]⟩ : Shape).Idx → α) {u : Shape} (v : u.Idx → α)
    (h : (⟨2, ![p, q]⟩ : Shape).Pads ![a, b] ![a', b'] ![0, 0] ⟨2, ![n, m]⟩) (hu : 0 < u.numel) (r c : ℕ) (hr : r < n) (hc : c < m) :
    rd (pad ⟨2, ![n, m]⟩ ![a, b] ![a', b'] ![0, 0] x v h hu) r c
      = if (a ≤ r ∧ r < a + p) ∧ (b ≤ c ∧ c < b + q) then rd x (r - a) (c - b) else v (Shape.Idx.first hu) := by
  refine (rd_at (n := n) (m := m) _ r c hr hc).trans ?_
  split
  · rename_i hi
    refine (pad_apply_of_inside _ _ _ _ _ _ _ _ (ValueIdx.ix2 (⟨r - a, by omega⟩ : Fin p) (⟨c - b, by omega⟩ : Fin q)) fun k => ?_).trans
      (eq_rd _ _ _ _ rfl rfl)
    match k with
    | ⟨0, _⟩ => show r = a + (r - a) * (0 + 1); omega
    | ⟨1, _⟩ => show c = b + (c - b) * (0 + 1); omega
  · rename_i hi
    by_cases h0 : a ≤ r ∧ r < a + p
    · refine pad_apply_of_not_inside _ _ _ _ _ _ _ _ (1 : Fin 2) fun hh => hi ⟨h0, ?_⟩
      have e1 : b ≤ c := hh.1
      have e2 : (c - b) / (0 + 1) < q := hh.2.2
      omega
    · refine pad_apply_of_not_inside _ _ _ _ _ _ _ _ (0 : Fin 2) fun hh => h0 ?_
      have e1 : a ≤ r := hh.1
      have e2 : (r - a) / (0 + 1) < p := hh.2.2
      omega

/-- One piece of a concatenation along the rows. -/
theorem rd_piece (xs : List ((s : Shape) × (s.Idx → α))) (h : Shape.Concatenates (xs.map (·.1)) ⟨2, ![n, m]⟩ 0) (k : ℕ) (hk : k < xs.length)
    (x : (⟨2, ![p, m]⟩ : Shape).Idx → α) (hx : xs[k] = ⟨⟨2, ![p, m]⟩, x⟩) (pre : ℕ)
    (hpre : (((xs.take k).map (·.1)).map fun s => if h : s.rank = 2 then s.size ((0 : Fin 2).cast h.symm) else 0).sum = pre)
    (r c : ℕ) (hn : r < n) (hr : pre ≤ r) (hr' : r < pre + p) (hc : c < m) :
    rd (concatenate ⟨2, ![n, m]⟩ 0 xs h) r c = rd x (r - pre) c := by
  refine (rd_at (n := n) (m := m) _ r c hn hc).trans ((concatenate_apply_piece (t := ⟨2, ![n, m]⟩) (0 : Fin 2) xs h _ k hk ⟨2, ![p, m]⟩ x hx rfl pre hpre
    (ValueIdx.ix2 (⟨r - pre, by omega⟩ : Fin p) (⟨c, hc⟩ : Fin m)) (fun b hb => ?_) ?_).trans (eq_rd _ _ _ _ rfl rfl))
  · match b with
    | ⟨0, _⟩ => exact absurd rfl hb
    | ⟨1, _⟩ => rfl
  · show pre + (r - pre) = r
    omega

/-- Two pieces one under the other. -/
theorem rd_under (x : (⟨2, ![p, m]⟩ : Shape).Idx → α) (y : (⟨2, ![q, m]⟩ : Shape).Idx → α)
    (h : Shape.Concatenates [⟨2, ![p, m]⟩, ⟨2, ![q, m]⟩] ⟨2, ![n, m]⟩ 0) (r c : ℕ) (hn : r < n) (hpq : n = p + q) (hc : c < m) :
    rd (concatenate ⟨2, ![n, m]⟩ 0 [⟨⟨2, ![p, m]⟩, x⟩, ⟨⟨2, ![q, m]⟩, y⟩] h) r c = if r < p then rd x r c else rd y (r - p) c := by
  split
  · rename_i hp
    exact rd_piece [⟨⟨2, ![p, m]⟩, x⟩, ⟨⟨2, ![q, m]⟩, y⟩] h 0 (by simp) x rfl 0 rfl r c hn (by omega) (by omega) hc
  · rename_i hp
    exact rd_piece [⟨⟨2, ![p, m]⟩, x⟩, ⟨⟨2, ![q, m]⟩, y⟩] h 1 (by simp) y rfl p (by simp) r c hn (by omega) (by omega) hc

/-- Three pieces one under the other. -/
theorem rd_under3 {k : ℕ} [NeZero k] (x : (⟨2, ![p, m]⟩ : Shape).Idx → α) (y : (⟨2, ![q, m]⟩ : Shape).Idx → α) (z : (⟨2, ![k, m]⟩ : Shape).Idx → α)
    (h : Shape.Concatenates [⟨2, ![p, m]⟩, ⟨2, ![q, m]⟩, ⟨2, ![k, m]⟩] ⟨2, ![n, m]⟩ 0) (r c : ℕ) (hn : r < n) (hs : n = p + q + k) (hc : c < m) :
    rd (concatenate ⟨2, ![n, m]⟩ 0 [⟨⟨2, ![p, m]⟩, x⟩, ⟨⟨2, ![q, m]⟩, y⟩, ⟨⟨2, ![k, m]⟩, z⟩] h) r c
      = if r < p then rd x r c else if r < p + q then rd y (r - p) c else rd z (r - (p + q)) c := by
  split
  · exact rd_piece [⟨⟨2, ![p, m]⟩, x⟩, ⟨⟨2, ![q, m]⟩, y⟩, ⟨⟨2, ![k, m]⟩, z⟩] h 0 (by simp) x rfl 0 rfl r c hn (by omega) (by omega) hc
  · split
    · exact rd_piece [⟨⟨2, ![p, m]⟩, x⟩, ⟨⟨2, ![q, m]⟩, y⟩, ⟨⟨2, ![k, m]⟩, z⟩] h 1 (by simp) y rfl p (by simp) r c hn (by omega) (by omega) hc
    · exact rd_piece [⟨⟨2, ![p, m]⟩, x⟩, ⟨⟨2, ![q, m]⟩, y⟩, ⟨⟨2, ![k, m]⟩, z⟩] h 2 (by simp) z rfl (p + q) (by simp) r c hn (by omega) (by omega) hc

/-- A row repeated. -/
theorem rd_row (x : (⟨2, ![1, m]⟩ : Shape).Idx → α) (h : (⟨2, ![1, m]⟩ : Shape).BroadcastsInDim ⟨2, ![n, m]⟩ ![0, 1]) (hm : m ≠ 1) (r c : ℕ)
    (hr : r < n) (hc : c < m) : rd (broadcastInDim ⟨2, ![n, m]⟩ ![0, 1] h x) r c = rd x 0 c := by
  refine (rd_at (n := n) (m := m) _ r c hr hc).trans ?_
  unfold broadcastInDim
  refine eq_rd x _ 0 c ?_ ?_
  · rfl
  · show (if h1 : m = 1 then (⟨0, by omega⟩ : Fin m) else ⟨c, by omega⟩).val = c
    rw [dif_neg hm]

end Layout

/-- A column sum on one row. -/
theorem rd_colSum {n m : ℕ} [NeZero n] [NeZero m] (x : FVec Ideal ⟨2, ![n, m]⟩ .f32) {u : Shape} (z : FVec Ideal u .f32)
    (h : (⟨2, ![n, m]⟩ : Shape).ReducesTo [0] ⟨1, ![m]⟩) (hs : (⟨1, ![m]⟩ : Shape).ShapeCasts ⟨2, ![1, m]⟩) (hu : 0 < u.numel)
    (hz : z (Shape.Idx.first hu) = (0 : EReal)) (c : ℕ) (hc : c < m) :
    rd (shapeCast ⟨2, ![1, m]⟩ (Host.reduceAdd (F := Ideal) x z h hu) hs) 0 c = ∑ r ∈ Finset.range n, (rd x r c : EReal) := by
  refine (rd_at (n := 1) (m := m) _ 0 c (by omega) hc).trans ((shapeCast_apply _ _ _ (ValueIdx.ix1 (⟨c, hc⟩ : Fin m)) ?_).trans ?_)
  · rw [Shape.rowMajor_val_one, Shape.rowMajor_val_two]
    show c = 0 * m + c
    omega
  · refine (Ideal.hostReduceAdd_r2_a0 h x _ _).trans ?_
    rw [hz, zero_add, Finset.sum_range]
    exact Finset.sum_congr rfl fun k _ => eq_rd _ _ _ _ rfl rfl

end Cert.Cols

end
-- ==== Proof.Prods.lean ====
/-
  Products of matrices over the extended reals, read by row and column, and the layouts they are read through: columns in
  blocks, a weight stored transposed.
-/
module

public import proofs.«01_k».proof.Proof.ColKernel
public import proofs.«01_k».proof.Proof.HostRows
public import Idealize.ShloMosaic.Lib.Pointwise

@[expose] public section

noncomputable section

namespace Cert.Prods

open Idealize.ShloMosaic Cert.KernelIdeal.Conv

variable {α : Type} {p n m w k : ℕ} [NeZero p] [NeZero n] [NeZero m] [NeZero w] [NeZero k]

/-- Zero offsets of a matrix, -/
theorem hz : (![0, 0] : Fin 2 → Nat) = fun _ => 0 := funext fun a => by fin_cases a <;> rfl
/-- and of slabs. -/
theorem hz3 : (![0, 0, 0] : Fin 3 → Nat) = fun _ => 0 := funext fun a => by fin_cases a <;> rfl

/-- An entry by row and column. -/
theorem rd_ix (X : (⟨2, ![n, m]⟩ : Shape).Idx → α) (i j : ℕ) (hi : i < n) (hj : j < m) : rd X i j = X (ix2 (⟨i, hi⟩ : Fin n) (⟨j, hj⟩ : Fin m)) :=
  rd_at X i j hi hj

/-- An entry by block, row and column. -/
theorem rd3_ix (X : (⟨3, ![p, n, m]⟩ : Shape).Idx → α) (q i j : ℕ) (hq : q < p) (hi : i < n) (hj : j < m) :
    rd3 X q i j = X (ix3 (⟨q, hq⟩ : Fin p) (⟨i, hi⟩ : Fin n) (⟨j, hj⟩ : Fin m)) :=
  rd3_at X q i j hq hi hj

/-! ## Sums of products by row and column -/

/-- A sum over an extent is the sum over its numbers. -/
theorem sum_fin (K : ℕ) (f : Fin K → EReal) (g : ℕ → EReal) (h : ∀ k : Fin K, f k = g k.val) : ∑ k, f k = ∑ k ∈ Finset.range K, g k := by
  rw [Finset.sum_range]
  exact Finset.sum_congr rfl fun k _ => h k

/-- `AᵀB` added to `acc`. -/
theorem rd_tn (X acc : (⟨2, ![n, m]⟩ : Shape).Idx → EReal) (A : (⟨2, ![k, n]⟩ : Shape).Idx → EReal) (B : (⟨2, ![k, m]⟩ : Shape).Idx → EReal)
    (h : ∀ (r : Fin n) (c : Fin m), X (ix2 r c) = acc (ix2 r c) + ∑ l : Fin k, A (ix2 l r) * B (ix2 l c)) (i j : ℕ) (hi : i < n) (hj : j < m) :
    rd X i j = rd acc i j + ∑ l ∈ Finset.range k, rd A l i * rd B l j := by
  rw [rd_ix X i j hi hj, h, rd_ix acc i j hi hj]
  refine congrArg _ (sum_fin k _ _ fun l => ?_)
  rw [rd_ix A l i l.isLt hi, rd_ix B l j l.isLt hj]

/-- A host's `AᵀB`. -/
theorem rd_dot_tn (X : (⟨2, ![n, m]⟩ : Shape).Idx → EReal) (A : (⟨2, ![k, n]⟩ : Shape).Idx → EReal) (B : (⟨2, ![k, m]⟩ : Shape).Idx → EReal)
    (h : ∀ (r : Fin n) (c : Fin m), X (ix2 r c) = ∑ l : Fin k, A (ix2 l r) * B (ix2 l c)) (i j : ℕ) (hi : i < n) (hj : j < m) :
    rd X i j = ∑ l ∈ Finset.range k, rd A l i * rd B l j := by
  rw [rd_ix X i j hi hj, h]
  refine sum_fin k _ _ fun l => ?_
  rw [rd_ix A l i l.isLt hi, rd_ix B l j l.isLt hj]

/-- A host's `ABᵀ`. -/
theorem rd_dot_nt (X : (⟨2, ![n, m]⟩ : Shape).Idx → EReal) (A : (⟨2, ![n, k]⟩ : Shape).Idx → EReal) (B : (⟨2, ![m, k]⟩ : Shape).Idx → EReal)
    (h : ∀ (r : Fin n) (c : Fin m), X (ix2 r c) = ∑ l : Fin k, A (ix2 r l) * B (ix2 c l)) (i j : ℕ) (hi : i < n) (hj : j < m) :
    rd X i j = ∑ l ∈ Finset.range k, rd A i l * rd B j l := by
  rw [rd_ix X i j hi hj, h]
  refine sum_fin k _ _ fun l => ?_
  rw [rd_ix A i l hi l.isLt, rd_ix B j l hj l.isLt]

/-- A host's `AB`. -/
theorem rd_dot_nn (X : (⟨2, ![n, m]⟩ : Shape).Idx → EReal) (A : (⟨2, ![n, k]⟩ : Shape).Idx → EReal) (B : (⟨2, ![k, m]⟩ : Shape).Idx → EReal)
    (h : ∀ (r : Fin n) (c : Fin m), X (ix2 r c) = ∑ l : Fin k, A (ix2 r l) * B (ix2 l c)) (i j : ℕ) (hi : i < n) (hj : j < m) :
    rd X i j = ∑ l ∈ Finset.range k, rd A i l * rd B l j := by
  rw [rd_ix X i j hi hj, h]
  refine sum_fin k _ _ fun l => ?_
  rw [rd_ix A i l hi l.isLt, rd_ix B l j l.isLt hj]

/-! ## Layouts -/

/-- A one-slab array as a matrix. -/
theorem rd_unslab (X : (⟨3, ![1, n, m]⟩ : Shape).Idx → α) (h : (⟨3, ![1, n, m]⟩ : Shape).ShapeCasts ⟨2, ![n, m]⟩) (i j : ℕ) (hi : i < n) (hj : j < m) :
    rd (shapeCast ⟨2, ![n, m]⟩ X h) i j = rd3 X 0 i j := by
  refine (rd_ix _ i j hi hj).trans ((shapeCast_apply _ _ _ (ix3 (0 : Fin 1) (⟨i, hi⟩ : Fin n) (⟨j, hj⟩ : Fin m)) ?_).trans (eq_rd3 _ _ _ _ _ rfl rfl rfl))
  rw [Shape.rowMajor_val_three, Shape.rowMajor_val_two]
  show (0 * n + i) * m + j = i * m + j
  rw [Nat.zero_mul, Nat.zero_add]

/-- A matrix as a one-slab array. -/
theorem slab_at (X : (⟨2, ![n, m]⟩ : Shape).Idx → α) (h : (⟨2, ![n, m]⟩ : Shape).ShapeCasts ⟨3, ![1, n, m]⟩) (y : (⟨3, ![1, n, m]⟩ : Shape).Idx) :
    shapeCast ⟨3, ![1, n, m]⟩ X h y = rd X (y 1).val (y 2).val := by
  refine (shapeCast_apply _ _ _ (ix2 (n0 := n) (n1 := m) (y 1) (y 2)) ?_).trans (eq_rd _ _ _ _ rfl rfl)
  rw [Shape.rowMajor_val_three, Shape.rowMajor_val_two]
  have h0 : (y 0).val < 1 := (y 0).isLt
  show (y 1).val * m + (y 2).val = ((y 0).val * n + (y 1).val) * m + (y 2).val
  rw [show (y 0).val = 0 by omega, Nat.zero_mul, Nat.zero_add]

/-- Rows grouped into slabs. -/
theorem rd3_groups (X : (⟨2, ![p * n, m]⟩ : Shape).Idx → α) [NeZero (p * n)] (h : (⟨2, ![p * n, m]⟩ : Shape).ShapeCasts ⟨3, ![p, n, m]⟩) (q i j : ℕ)
    (hq : q < p) (hi : i < n) (hj : j < m) : rd3 (shapeCast ⟨3, ![p, n, m]⟩ X h) q i j = rd X (q * n + i) j := by
  have hr : q * n + i < p * n := by
    have := Nat.mul_le_mul_right n (Nat.succ_le_of_lt hq)
    rw [Nat.succ_mul] at this
    omega
  refine (rd3_ix _ q i j hq hi hj).trans ((shapeCast_apply _ _ _ (ix2 (⟨q * n + i, hr⟩ : Fin (p * n)) (⟨j, hj⟩ : Fin m)) ?_).trans (eq_rd _ _ _ _ rfl rfl))
  rw [Shape.rowMajor_val_three, Shape.rowMajor_val_two]
  rfl

/-- Slabs put under one another. -/
theorem rd_stack (X : (⟨3, ![p, n, m]⟩ : Shape).Idx → α) [NeZero (p * n)] (h : (⟨3, ![p, n, m]⟩ : Shape).ShapeCasts ⟨2, ![p * n, m]⟩) (q i j : ℕ)
    (hq : q < p) (hi : i < n) (hj : j < m) : rd (shapeCast ⟨2, ![p * n, m]⟩ X h) (q * n + i) j = rd3 X q i j := by
  have hr : q * n + i < p * n := by
    have := Nat.mul_le_mul_right n (Nat.succ_le_of_lt hq)
    rw [Nat.succ_mul] at this
    omega
  refine (rd_ix _ (q * n + i) j hr hj).trans ((shapeCast_apply _ _ _ (ix3 (⟨q, hq⟩ : Fin p) (⟨i, hi⟩ : Fin n) (⟨j, hj⟩ : Fin m)) ?_).trans (eq_rd3 _ _ _ _ _ rfl rfl rfl))
  rw [Shape.rowMajor_val_three, Shape.rowMajor_val_two]
  rfl

/-- A transposed matrix. -/
theorem rd_swap (X : (⟨2, ![n, m]⟩ : Shape).Idx → α) (h : (⟨2, ![n, m]⟩ : Shape).Transposes [1, 0] ⟨2, ![m, n]⟩) (i j : ℕ) (hi : i < m) (hj : j < n) :
    rd (transpose ⟨2, ![m, n]⟩ [1, 0] X h) i j = rd X j i := by
  refine (rd_ix _ i j hi hj).trans ((transpose_apply _ _ _ _ (ix2 (⟨j, hj⟩ : Fin n) (⟨i, hi⟩ : Fin m)) fun b => ?_).trans (eq_rd _ _ _ _ rfl rfl))
  match b with
  | ⟨0, _⟩ => rfl
  | ⟨1, _⟩ => rfl

/-- Slabs put side by side. -/
theorem rd_beside (X : (⟨3, ![p, n, w]⟩ : Shape).Idx → α) [NeZero (p * w)] (h : (⟨3, ![p, n, w]⟩ : Shape).Transposes [1, 0, 2] ⟨3, ![n, p, w]⟩)
    (h' : (⟨3, ![n, p, w]⟩ : Shape).ShapeCasts ⟨2, ![n, p * w]⟩) (r q c : ℕ) (hr : r < n) (hq : q < p) (hc : c < w) :
    rd (shapeCast ⟨2, ![n, p * w]⟩ (transpose ⟨3, ![n, p, w]⟩ [1, 0, 2] X h) h') r (q * w + c) = rd3 X q r c := by
  have hl : q * w + c < p * w := by
    have := Nat.mul_le_mul_right w (Nat.succ_le_of_lt hq)
    rw [Nat.succ_mul] at this
    omega
  refine (rd_ix _ r (q * w + c) hr hl).trans ((shapeCast_apply _ _ _ (ix3 (⟨r, hr⟩ : Fin n) (⟨q, hq⟩ : Fin p) (⟨c, hc⟩ : Fin w)) ?_).trans
    ((transpose_apply _ _ _ _ (ix3 (⟨q, hq⟩ : Fin p) (⟨r, hr⟩ : Fin n) (⟨c, hc⟩ : Fin w)) fun b => ?_).trans (eq_rd3 _ _ _ _ _ rfl rfl rfl)))
  · rw [Shape.rowMajor_val_three, Shape.rowMajor_val_two]
    show (r * p + q) * w + c = r * (p * w) + (q * w + c)
    rw [Nat.add_mul, Nat.mul_assoc, Nat.add_assoc]
  · match b with
    | ⟨0, _⟩ => rfl
    | ⟨1, _⟩ => rfl
    | ⟨2, _⟩ => rfl

/-- Columns cut into slabs. -/
theorem rd3_cut (X : (⟨2, ![n, p * w]⟩ : Shape).Idx → α) [NeZero (p * w)] (h : (⟨2, ![n, p * w]⟩ : Shape).ShapeCasts ⟨3, ![n, p, w]⟩)
    (h' : (⟨3, ![n, p, w]⟩ : Shape).Transposes [1, 0, 2] ⟨3, ![p, n, w]⟩) (q r c : ℕ) (hq : q < p) (hr : r < n) (hc : c < w) :
    rd3 (transpose ⟨3, ![p, n, w]⟩ [1, 0, 2] (shapeCast ⟨3, ![n, p, w]⟩ X h) h') q r c = rd X r (q * w + c) := by
  have hl : q * w + c < p * w := by
    have := Nat.mul_le_mul_right w (Nat.succ_le_of_lt hq)
    rw [Nat.succ_mul] at this
    omega
  refine (rd3_ix _ q r c hq hr hc).trans ((transpose_apply _ _ _ _ (ix3 (⟨r, hr⟩ : Fin n) (⟨q, hq⟩ : Fin p) (⟨c, hc⟩ : Fin w)) fun b => ?_).trans
    ((shapeCast_apply _ _ _ (ix2 (⟨r, hr⟩ : Fin n) (⟨q * w + c, hl⟩ : Fin (p * w))) ?_).trans (eq_rd _ _ _ _ rfl rfl)))
  · match b with
    | ⟨0, _⟩ => rfl
    | ⟨1, _⟩ => rfl
    | ⟨2, _⟩ => rfl
  · rw [Shape.rowMajor_val_three, Shape.rowMajor_val_two]
    show r * (p * w) + (q * w + c) = (r * p + q) * w + c
    rw [Nat.add_mul, Nat.mul_assoc, Nat.add_assoc]

/-! ## Roundings, which keep every extended real -/

/-- A rounded matrix has the matrix's entries, -/
theorem rd_trunc (X : FVec Ideal (⟨2, ![n, m]⟩ : Shape) .f32) (h : FTy.bf16.bits < FTy.f32.bits) (i j : ℕ) :
    rd (truncf .bf16 X h : FVec Ideal (⟨2, ![n, m]⟩ : Shape) .bf16) i j = rd X i j := rfl

/-- rounded slabs have the slabs' entries, -/
theorem rd3_trunc (X : FVec Ideal (⟨3, ![p, n, m]⟩ : Shape) .f32) (h : FTy.bf16.bits < FTy.f32.bits) (q i j : ℕ) :
    rd3 (truncf .bf16 X h : FVec Ideal (⟨3, ![p, n, m]⟩ : Shape) .bf16) q i j = rd3 X q i j := rfl

/-! ## Positive real factors -/

/-- One half of a sum. -/
theorem half_sum (f : ℕ → EReal) (K : ℕ) : ((1 / 2 : ℝ) : EReal) * ∑ l ∈ Finset.range K, f l = ∑ l ∈ Finset.range K, ((1 / 2 : ℝ) : EReal) * f l := by
  induction K with
  | zero => simp
  | succ K ih =>
    rw [Finset.sum_range_succ, Finset.sum_range_succ, ← ih]
    exact EReal.left_distrib_of_nonneg_of_ne_top (by norm_num) (EReal.coe_ne_top _) _ _

/-- A sum over 4352 rows: over the first 4096, and over the last 256. -/
theorem sum_last (f : ℕ → EReal) : ∑ r ∈ Finset.range 4352, f r = ∑ r ∈ Finset.range 4096, f r + ∑ r ∈ Finset.range 256, f (4096 + r) :=
  Finset.sum_range_add f 4096 256

end Cert.Prods

end
-- ==== Proof.GradGateUp2.lean ====
/-
  The gate and up weights' gradients over 4096 rows: the kernel adds up the products of four blocks of 1024 rows.
-/
module

public import proofs.«01_k».proof.Proof.Prods
public import proofs.«01_k».proof.Proof.Gen.Kernel2Ideal.Value
public import Idealize.ShloMosaic.Lib.Pipeline.Value
public import Idealize.ShloMosaic.Lib.Claim

@[expose] public section

noncomputable section

namespace Cert.Kernel2Ideal.Sum

open Idealize.ShloMosaic Idealize.ShloMosaic.TcCoe Idealize.ShloMosaic.Tactic Idealize.SL.Sem Cert.Kernel2Ideal Cert.Kernel2Ideal.Gen Cert.Prods
open Cert.KernelIdeal.Conv (rd rd3 eq_rd eq_rd3 rd_at rd3_at)
open Idealize.ShloMosaic.Pipeline (Dat)

/-! ## What the body leaves -/

section Cases
variable (c : Dev nD) (i : grid0.Coords) (a2 : Memref sig .tc .vmem S1024x2048 .bf16) (h2 : a2.IsWhole) (a3 : Memref sig .tc .vmem S1x1024x704 .bf16) (h3 : a3.IsWhole)
  (a4 : Memref sig .tc .vmem S1x1024x704 .bf16) (h4 : a4.IsWhole) (a5 : Memref sig .tc .vmem S1x704x2048 .bf16) (h5 : a5.IsWhole)
  (a6 : Memref sig .tc .vmem S1x704x2048 .bf16) (h6 : a6.IsWhole) (a7 : Memref sig .tc .vmem S704x2048 .f32) (h7 : a7.IsWhole)
  (a8 : Memref sig .tc .vmem S704x2048 .f32) (h8 : a8.IsWhole)
  (x0 : Vec Ideal S1024x2048 .bf16) (x1 x2 : Vec Ideal S1x1024x704 .bf16) (s0 s1 : Vec Ideal S704x2048 .f32)

/-- The first block of rows starts the gate sum from zero, -/
theorem first0 (hc : cond0_0 i) (hd : ¬cond0_1 i) : sout0_A_0 c i a2 h2 a3 h3 a4 h4 a5 h5 a6 h6 a7 h7 a8 h8 hc hd x0 x1 x2 = k0_pay3 x0 (k0_pay1 (F := Ideal)) x1 := by
  unfold sout0_A_0
  rw [View.read_writes_eq_canon _ _ _ (scover0_A_0 c i a2 h2 a3 h3 a4 h4 a5 h5 a6 h6 a7 h7 a8 h8 hc hd x0 x1 x2)]
  unfold kernelRun0_A
  dsimp only
  sl_unfold_words
  rw [View.canon_cons_unit_zero (S := S704x2048) hz, View.readCov_unit_zero (S := S704x2048) _ hz]
  simp only [View.readAt_eq_ld, h2.read_unread, h3.read_unread, View.ld_unit_zero (S := S1024x2048) hz, View.ld_unit_zero (S := S1x1024x704) hz3]

/-- and the up sum. -/
theorem first1 (hc : cond0_0 i) (hd : ¬cond0_1 i) : sout0_A_1 c i a2 h2 a3 h3 a4 h4 a5 h5 a6 h6 a7 h7 a8 h8 hc hd x0 x1 x2 = k0_pay4 x0 (k0_pay2 (F := Ideal)) x2 := by
  unfold sout0_A_1
  rw [View.read_writes_eq_canon _ _ _ (scover0_A_1 c i a2 h2 a3 h3 a4 h4 a5 h5 a6 h6 a7 h7 a8 h8 hc hd x0 x1 x2)]
  unfold kernelRun0_A
  dsimp only
  sl_unfold_words
  rw [View.canon_cons_unit_zero (S := S704x2048) hz, View.readCov_unit_zero (S := S704x2048) _ hz]
  simp only [View.readAt_eq_ld, h2.read_unread, h4.read_unread, View.ld_unit_zero (S := S1024x2048) hz, View.ld_unit_zero (S := S1x1024x704) hz3]

/-- A middle block of rows adds its product to the gate sum, -/
theorem next0 (hc : ¬cond0_0 i) (hd : ¬cond0_1 i) :
    sout0_B_0 c i a2 h2 a3 h3 a4 h4 a5 h5 a6 h6 a7 h7 a8 h8 hc hd x0 x1 x2 s0 s1 = k0_pay3 x0 s0 x1 := by
  unfold sout0_B_0
  rw [View.read_writes_eq_canon _ _ _ (scover0_B_0 c i a2 h2 a3 h3 a4 h4 a5 h5 a6 h6 a7 h7 a8 h8 hc hd x0 x1 x2 s0 s1)]
  unfold kernelRun0_B
  dsimp only
  rw [View.canon_unit_zero hz]
  simp only [View.readAt_eq_ld, h2.read_unread, h3.read_unread, h7.read_unread, View.ld_unit_zero (S := S1024x2048) hz,
    View.ld_unit_zero (S := S704x2048) hz, View.ld_unit_zero (S := S1x1024x704) hz3]

/-- and to the up sum. -/
theorem next1 (hc : ¬cond0_0 i) (hd : ¬cond0_1 i) :
    sout0_B_1 c i a2 h2 a3 h3 a4 h4 a5 h5 a6 h6 a7 h7 a8 h8 hc hd x0 x1 x2 s0 s1 = k0_pay4 x0 s1 x2 := by
  unfold sout0_B_1
  rw [View.read_writes_eq_canon _ _ _ (scover0_B_1 c i a2 h2 a3 h3 a4 h4 a5 h5 a6 h6 a7 h7 a8 h8 hc hd x0 x1 x2 s0 s1)]
  unfold kernelRun0_B
  dsimp only
  rw [View.canon_unit_zero hz]
  simp only [View.readAt_eq_ld, h2.read_unread, h4.read_unread, h8.read_unread, View.ld_unit_zero (S := S1024x2048) hz,
    View.ld_unit_zero (S := S704x2048) hz, View.ld_unit_zero (S := S1x1024x704) hz3]

/-- The last block's sum is written out, -/
theorem last0 (hc : ¬cond0_0 i) (hd : cond0_1 i) :
    out0_C_3 c i a2 h2 a3 h3 a4 h4 a5 h5 a6 h6 a7 h7 a8 h8 hc hd x0 x1 x2 s0 s1 = k0_pay5 (k0_pay3 x0 s0 x1) := by
  unfold out0_C_3
  rw [View.read_writes_eq_canon _ _ _ (cover0_C_3 c i a2 h2 a3 h3 a4 h4 a5 h5 a6 h6 a7 h7 a8 h8 hc hd x0 x1 x2 s0 s1)]
  unfold kernelRun0_C
  dsimp only
  sl_unfold_words
  rw [View.canon_unit_zero hz3, View.readCov_unit_zero (S := S704x2048) _ hz]
  simp only [View.readAt_eq_ld, h2.read_unread, h3.read_unread, h7.read_unread, View.ld_unit_zero (S := S1024x2048) hz,
    View.ld_unit_zero (S := S704x2048) hz, View.ld_unit_zero (S := S1x1024x704) hz3]

/-- for the up weights too. -/
theorem last1 (hc : ¬cond0_0 i) (hd : cond0_1 i) :
    out0_C_4 c i a2 h2 a3 h3 a4 h4 a5 h5 a6 h6 a7 h7 a8 h8 hc hd x0 x1 x2 s0 s1 = k0_pay6 (k0_pay4 x0 s1 x2) := by
  unfold out0_C_4
  rw [View.read_writes_eq_canon _ _ _ (cover0_C_4 c i a2 h2 a3 h3 a4 h4 a5 h5 a6 h6 a7 h7 a8 h8 hc hd x0 x1 x2 s0 s1)]
  unfold kernelRun0_C
  dsimp only
  sl_unfold_words
  rw [View.canon_unit_zero hz3, View.readCov_unit_zero (S := S704x2048) _ hz]
  simp only [View.readAt_eq_ld, h2.read_unread, h4.read_unread, h8.read_unread, View.ld_unit_zero (S := S1024x2048) hz,
    View.ld_unit_zero (S := S704x2048) hz, View.ld_unit_zero (S := S1x1024x704) hz3]

end Cases

/-! ## The step by row and column -/

section Entries
variable (x0 : Vec Ideal S1024x2048 .bf16) (x1 : Vec Ideal S1x1024x704 .bf16) (s : Vec Ideal S704x2048 .f32) (i j : ℕ) (hi : i < 704) (hj : j < 2048)
include hi hj

/-- The sums start from zero. -/
theorem zero_at : rd (k0_pay1 (F := Ideal)) i j = 0 := by
  refine (rd_at (n := 704) (m := 2048) _ i j hi hj).trans ?_
  unfold k0_pay1
  rw [shapeCast_self]
  exact Ideal.ofBits_zero_f32

/-- A step adds the product of a block of rows. -/
theorem step_at : rd (k0_pay3 x0 s x1) i j = rd s i j + ∑ l ∈ Finset.range 1024, rd3 x1 0 l i * rd x0 l j := by
  have h := rd_tn (n := 704) (m := 2048) (k := 1024) (k0_pay3 x0 s x1) s (shapeCast S1024x704 x1 shapeCasts_S1x1024x704_S1024x704) x0 (fun r q => by
    unfold k0_pay3
    simp only [shapeCast_self, pointwise, zero_add]) i j hi hj
  refine h.trans (congrArg (rd s i j + ·) (Finset.sum_congr rfl fun l hl => ?_))
  rw [rd_unslab (n := 1024) (m := 704) x1 _ l i (Finset.mem_range.mp hl) hi]

end Entries

/-! ## The blocks of the arguments -/

variable (m : (ℓ : Loc nD τ sig) → Buf (Elt Ideal) ℓ) (ρ : Dev nD → PrngReg) (c : Dev nD)

/-- The rows the layer was given, as launched. -/
abbrev arrH : Vec Ideal S4096x2048 .bf16 := m ((c : Thread nD τ).loc main_arg0)
/-- The cotangent of the gate, as launched. -/
abbrev arrG : Vec Ideal S8x4096x704 .bf16 := m ((c : Thread nD τ).loc main_arg1)
/-- The cotangent of the up product, as launched. -/
abbrev arrU : Vec Ideal S8x4096x704 .bf16 := m ((c : Thread nD τ).loc main_arg2)

/-- Point `4 q + b` is given rows `1024 b …` and slab `q`. -/
theorem idx_in : ∀ t : Fin grid0.N, (win0_0.index t 0 = t.val % 4 ∧ win0_0.index t 1 = 0)
    ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0)
    ∧ (win0_3.index t 0 = t.val / 4 ∧ win0_3.index t 1 = 0 ∧ win0_3.index t 2 = 0)
    ∧ (win0_4.index t 0 = t.val / 4 ∧ win0_4.index t 1 = 0 ∧ win0_4.index t 2 = 0) := by decide +kernel

/-- The block of rows. -/
theorem blk0 (t : Fin cfg0.N) (r k : ℕ) (hr : r < 1024) (hk : k < 2048) :
    rd (iblk m c 0 t : Vec Ideal S1024x2048 .bf16) r k = rd (arrH m c) (1024 * (t.val % 4) + r) k := by
  have e := (idx_in t).1
  refine (rd_at (n := 1024) (m := 2048) _ r k hr hk).trans ?_
  refine eq_rd (n := 4096) (m := 2048) (arrH m c) (((cfg0.win 0).blk t).view.emb (ValueIdx.ix2 (⟨r, hr⟩ : Fin 1024) (⟨k, hk⟩ : Fin 2048))) _ _ ?_ ?_
  · show win0_0.index t 0 * 1024 + 1 * r = _
    omega
  · show win0_0.index t 1 * 2048 + 1 * k = _
    omega

/-- The block of the gate's cotangent. -/
theorem blk1 (t : Fin cfg0.N) (r k : ℕ) (hr : r < 1024) (hk : k < 704) :
    rd3 (iblk m c 1 t : Vec Ideal S1x1024x704 .bf16) 0 r k = rd3 (arrG m c) (t.val / 4) (1024 * (t.val % 4) + r) k := by
  have e := (idx_in t).2.1
  refine (rd3_at (p := 1) (n := 1024) (m := 704) _ 0 r k (by omega) hr hk).trans ?_
  refine eq_rd3 (p := 8) (n := 4096) (m := 704) (arrG m c) (((cfg0.win 1).blk t).view.emb (ValueIdx.ix3 (0 : Fin 1) (⟨r, hr⟩ : Fin 1024) (⟨k, hk⟩ : Fin 704))) _ _ _ ?_ ?_ ?_
  · show win0_1.index t 0 * 1 + 1 * 0 = _
    omega
  · show win0_1.index t 1 * 1024 + 1 * r = _
    omega
  · show win0_1.index t 2 * 704 + 1 * k = _
    omega

/-- The block of the up product's cotangent. -/
theorem blk2 (t : Fin cfg0.N) (r k : ℕ) (hr : r < 1024) (hk : k < 704) :
    rd3 (iblk m c 2 t : Vec Ideal S1x1024x704 .bf16) 0 r k = rd3 (arrU m c) (t.val / 4) (1024 * (t.val % 4) + r) k := by
  have e := (idx_in t).2.2.1
  refine (rd3_at (p := 1) (n := 1024) (m := 704) _ 0 r k (by omega) hr hk).trans ?_
  refine eq_rd3 (p := 8) (n := 4096) (m := 704) (arrU m c) (((cfg0.win 2).blk t).view.emb (ValueIdx.ix3 (0 : Fin 1) (⟨r, hr⟩ : Fin 1024) (⟨k, hk⟩ : Fin 704))) _ _ _ ?_ ?_ ?_
  · show win0_2.index t 0 * 1 + 1 * 0 = _
    omega
  · show win0_2.index t 1 * 1024 + 1 * r = _
    omega
  · show win0_2.index t 2 * 704 + 1 * k = _
    omega

/-! ## The sums -/

/-- A point's step of the gate sum. -/
theorem add0 (n : ℕ) (hn : n < cfg0.N) (s : Vec Ideal S704x2048 .f32) (i j : ℕ) (hi : i < 704) (hj : j < 2048)
    (hs : rd s i j = ∑ r ∈ Finset.range (1024 * (n % 4)), rd3 (arrG m c) (n / 4) r i * rd (arrH m c) r j) :
    rd (k0_pay3 (iblk m c 0 ⟨n, hn⟩) s (iblk m c 1 ⟨n, hn⟩)) i j
      = ∑ r ∈ Finset.range (1024 * (n % 4 + 1)), rd3 (arrG m c) (n / 4) r i * rd (arrH m c) r j := by
  refine (step_at _ _ s i j hi hj).trans ?_
  rw [hs, Nat.mul_succ, Finset.sum_range_add]
  refine congrArg _ (Finset.sum_congr rfl fun l hl => ?_)
  have hl := Finset.mem_range.mp hl
  exact congrArg₂ (fun x y : EReal => x * y) (blk1 m c ⟨n, hn⟩ l i hl hi) (blk0 m c ⟨n, hn⟩ l j hl hj)

/-- The two steps are one computation. -/
theorem up_eq (x0 : Vec Ideal S1024x2048 .bf16) (s : Vec Ideal S704x2048 .f32) (x2 : Vec Ideal S1x1024x704 .bf16) : k0_pay4 x0 s x2 = k0_pay3 x0 s x2 := rfl

/-- A point's step of the up sum. -/
theorem add1 (n : ℕ) (hn : n < cfg0.N) (s : Vec Ideal S704x2048 .f32) (i j : ℕ) (hi : i < 704) (hj : j < 2048)
    (hs : rd s i j = ∑ r ∈ Finset.range (1024 * (n % 4)), rd3 (arrU m c) (n / 4) r i * rd (arrH m c) r j) :
    rd (k0_pay4 (iblk m c 0 ⟨n, hn⟩) s (iblk m c 2 ⟨n, hn⟩)) i j
      = ∑ r ∈ Finset.range (1024 * (n % 4 + 1)), rd3 (arrU m c) (n / 4) r i * rd (arrH m c) r j := by
  rw [up_eq]
  refine (step_at _ _ s i j hi hj).trans ?_
  rw [hs, Nat.mul_succ, Finset.sum_range_add]
  refine congrArg _ (Finset.sum_congr rfl fun l hl => ?_)
  have hl := Finset.mem_range.mp hl
  exact congrArg₂ (fun x y : EReal => x * y) (blk2 m c ⟨n, hn⟩ l i hl hi) (blk0 m c ⟨n, hn⟩ l j hl hj)

/-- After a point of a slab that is not its last, the sums hold the products of the rows so far. -/
theorem sums (i j : ℕ) (hi : i < 704) (hj : j < 2048) : ∀ (n : ℕ) (hn : n < cfg0.N), n % 4 ≠ 3 →
    rd ((outsAt0 m c n hn).2.2.1 : Vec Ideal S704x2048 .f32) i j = ∑ r ∈ Finset.range (1024 * (n % 4 + 1)), rd3 (arrG m c) (n / 4) r i * rd (arrH m c) r j
    ∧ rd ((outsAt0 m c n hn).2.2.2 : Vec Ideal S704x2048 .f32) i j = ∑ r ∈ Finset.range (1024 * (n % 4 + 1)), rd3 (arrU m c) (n / 4) r i * rd (arrH m c) r j := by
  intro n
  induction n using Nat.strong_induction_on with
  | _ n ih =>
    intro hn h3
    by_cases h0 : n % 4 = 0
    · rw [outsAt0_A m c ⟨n, hn⟩ h0 h3]
      dsimp only
      rw [first0, first1]
      refine ⟨add0 m c n hn _ i j hi hj ?_, add1 m c n hn _ i j hi hj ?_⟩
      · rw [h0]
        exact zero_at i j hi hj
      · rw [h0]
        exact zero_at i j hi hj
    · rw [outsAt0_B m c ⟨n, hn⟩ h0 h3]
      dsimp only
      rw [next0, next1]
      have e := ih (n - 1) (by omega) (Nat.lt_of_le_of_lt (Nat.sub_le _ _) hn) (by omega)
      rw [show (n - 1) % 4 + 1 = n % 4 by omega, show (n - 1) / 4 = n / 4 by omega] at e
      exact ⟨add0 m c n hn _ i j hi hj e.1, add1 m c n hn _ i j hi hj e.2⟩

/-- A weight's gradient: the products of a slab of the cotangent with the rows. -/
def grad (D : Vec Ideal S8x4096x704 .bf16) (H : Vec Ideal S4096x2048 .bf16) : Vec Ideal S8x704x2048 .bf16 :=
  fun y => ∑ r ∈ Finset.range 4096, rd3 D (y 0).val r (y 1).val * rd H r (y 2).val

/-- A written block by row and column, for the gate weights, -/
theorem block3 (t : Fin cfg0.N) (s : Vec Ideal S704x2048 .f32) (y : S1x704x2048.Idx) : (cfg0.win 3).cut (grid0.coords t) (k0_pay5 s) y = rd s (y 1).val (y 2).val :=
  slab_at (n := 704) (m := 2048) s shapeCasts_S704x2048_S1x704x2048 y

/-- and for the up weights. -/
theorem block4 (t : Fin cfg0.N) (s : Vec Ideal S704x2048 .f32) (y : S1x704x2048.Idx) : (cfg0.win 4).cut (grid0.coords t) (k0_pay6 s) y = rd s (y 1).val (y 2).val :=
  slab_at (n := 704) (m := 2048) s shapeCasts_S704x2048_S1x704x2048 y

/-- What is written back for the gate weights. -/
theorem flushed_gate (t : Fin cfg0.N) (hf : (cfg0.win 3).flush t = true) :
    (dats m 0 c).flushed 3 t = ((cfg0.win 3).blk t).view.read (Elt Ideal) (grad (arrG m c) (arrH m c)) := by
  have h1 : t.val % 4 = 3 := (flush0_3 t).mp hf
  rw [Value.flushed3_C m c t (by omega) h1, last0]
  obtain ⟨e0, e1, e2⟩ := (idx_in t).2.2.2.1
  funext y
  have y0 : (y 0).val < 1 := (y 0).isLt
  have y1 : (y 1).val < 704 := (y 1).isLt
  have y2 : (y 2).val < 2048 := (y 2).isLt
  have e := (sums m c (y 1).val (y 2).val y1 y2 (t.val - 1) (Nat.lt_of_le_of_lt (Nat.sub_le _ _) t.isLt) (by omega)).1
  rw [show (t.val - 1) % 4 + 1 = t.val % 4 by omega, show (t.val - 1) / 4 = t.val / 4 by omega] at e
  refine (block3 t _ y).trans ?_
  refine (add0 m c t.val t.isLt _ _ _ y1 y2 e).trans ?_
  rw [h1]
  have f0 : (((cfg0.win 3).blk t).view.emb y 0).val = t.val / 4 := by
    show win0_3.index t 0 * 1 + 1 * (y 0).val = _
    omega
  have f1 : (((cfg0.win 3).blk t).view.emb y 1).val = (y 1).val := by
    show win0_3.index t 1 * 704 + 1 * (y 1).val = _
    omega
  have f2 : (((cfg0.win 3).blk t).view.emb y 2).val = (y 2).val := by
    show win0_3.index t 2 * 2048 + 1 * (y 2).val = _
    omega
  show _ = ∑ r ∈ Finset.range 4096, rd3 (arrG m c) (((cfg0.win 3).blk t).view.emb y 0).val r (((cfg0.win 3).blk t).view.emb y 1).val
    * rd (arrH m c) r (((cfg0.win 3).blk t).view.emb y 2).val
  rw [f0, f1, f2]

/-- What is written back for the up weights. -/
theorem flushed_up (t : Fin cfg0.N) (hf : (cfg0.win 4).flush t = true) :
    (dats m 0 c).flushed 4 t = ((cfg0.win 4).blk t).view.read (Elt Ideal) (grad (arrU m c) (arrH m c)) := by
  have h1 : t.val % 4 = 3 := (flush0_4 t).mp hf
  rw [Value.flushed4_C m c t (by omega) h1, last1]
  obtain ⟨e0, e1, e2⟩ := (idx_in t).2.2.2.2
  funext y
  have y0 : (y 0).val < 1 := (y 0).isLt
  have y1 : (y 1).val < 704 := (y 1).isLt
  have y2 : (y 2).val < 2048 := (y 2).isLt
  have e := (sums m c (y 1).val (y 2).val y1 y2 (t.val - 1) (Nat.lt_of_le_of_lt (Nat.sub_le _ _) t.isLt) (by omega)).2
  rw [show (t.val - 1) % 4 + 1 = t.val % 4 by omega, show (t.val - 1) / 4 = t.val / 4 by omega] at e
  refine (block4 t _ y).trans ?_
  refine (add1 m c t.val t.isLt _ _ _ y1 y2 e).trans ?_
  rw [h1]
  have f0 : (((cfg0.win 4).blk t).view.emb y 0).val = t.val / 4 := by
    show win0_4.index t 0 * 1 + 1 * (y 0).val = _
    omega
  have f1 : (((cfg0.win 4).blk t).view.emb y 1).val = (y 1).val := by
    show win0_4.index t 1 * 704 + 1 * (y 1).val = _
    omega
  have f2 : (((cfg0.win 4).blk t).view.emb y 2).val = (y 2).val := by
    show win0_4.index t 2 * 2048 + 1 * (y 2).val = _
    omega
  show _ = ∑ r ∈ Finset.range 4096, rd3 (arrU m c) (((cfg0.win 4).blk t).view.emb y 0).val r (((cfg0.win 4).blk t).view.emb y 1).val
    * rd (arrH m c) r (((cfg0.win 4).blk t).view.emb y 2).val
  rw [f0, f1, f2]

/-- The kernel's run: the two gradients, the arguments unchanged. -/
theorem run : θ_run defs (onTc (τ := τ) (main (F := Ideal))) ⟨m, fun _ => 0, ρ⟩ fun r => ∀ c : Dev nD,
      r.2.mem ((c : Thread nD τ).loc main_v0_0) = grad (arrG m c) (arrH m c)
      ∧ r.2.mem ((c : Thread nD τ).loc main_v0_1) = grad (arrU m c) (arrH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 (grad (arrG m c) (arrH m c)) (flushed_gate m c) fun i =>
      (Value.covered_iff3 i).2 ⟨Nat.zero_le _, (i 0).isLt, Nat.zero_le _, (i 1).isLt, Nat.zero_le _, (i 2).isLt⟩),
    (h c).2.1.trans ((dats m 0 c).arrAt_eq_of_cover 4 (grad (arrU m c) (arrH m c)) (flushed_up m c) fun i =>
      (Value.covered_iff4 i).2 ⟨Nat.zero_le _, (i 0).isLt, Nat.zero_le _, (i 1).isLt, Nat.zero_le _, (i 2).isLt⟩), (h c).2.2⟩)
    (Value.run_blocks m ρ)

end Cert.Kernel2Ideal.Sum

end
-- ==== Proof.GradGateUp2Ref.lean ====
/-
  The gate and up weights' gradients over 4096 rows: the derivative of the layer's products, and the kernel's claim.
-/
module

public import proofs.«01_k».proof.Proof.GradGateUp2
public import proofs.«01_k».proof.Proof.Gen.Reference2Ideal.Run
public import proofs.«01_k».proof.Defs

@[expose] public section

noncomputable section

namespace Cert.Reference2Ideal.Sum

open Idealize.ShloMosaic Idealize.ShloMosaic.TcCoe Idealize.SL.Sem Cert.Reference2Ideal Cert.Reference2Ideal.Gen Cert.Prods
open Cert.KernelIdeal.Conv (rd rd3 eq_rd eq_rd3)

/-- The host's product of columns with columns. -/
theorem dot_at (A : FVec Ideal S4096x5632 .f32) (B : FVec Ideal S4096x2048 .f32) (r : Fin 5632) (q : Fin 2048) :
    Host.dotGeneral dot_S4096x5632_S4096x2048_S5632x2048_0_0_1_1_n_n none A B (ix2 r q) = ∑ l : Fin 4096, A (ix2 l r) * B (ix2 l q) := by
  simp only [pointwise, zero_add]

/-- The derivative with respect to a weight, entry by entry. -/
theorem grad_eq (D : FVec Ideal S8x4096x704 .bf16) (H : FVec Ideal S4096x2048 .bf16) :
    (truncf .bf16 (shapeCast S8x704x2048 (transpose S5632x2048 [1, 0] (transpose S2048x5632 [1, 0] (Host.dotGeneral dot_S4096x5632_S4096x2048_S5632x2048_0_0_1_1_n_n none
      (shapeCast S4096x5632 (transpose S4096x8x704 [1, 0, 2] (extf .f32 D bitsLt_bf16_f32) transposes_S8x4096x704_S4096x8x704_1_0_2) shapeCasts_S4096x8x704_S4096x5632)
      (extf .f32 H bitsLt_bf16_f32)) transposes_S5632x2048_S2048x5632_1_0) transposes_S2048x5632_S5632x2048_1_0) shapeCasts_S5632x2048_S8x704x2048) bitsLt_bf16_f32
      : FVec Ideal S8x704x2048 .bf16) = Cert.Kernel2Ideal.Sum.grad D H := by
  funext y
  have y0 : (y 0).val < 8 := (y 0).isLt
  have y1 : (y 1).val < 704 := (y 1).isLt
  have y2 : (y 2).val < 2048 := (y 2).isLt
  refine (eq_rd3 (p := 8) (n := 704) (m := 2048) _ y _ _ _ rfl rfl rfl).trans ?_
  refine (rd3_trunc (p := 8) (n := 704) (m := 2048) _ _ _ _ _).trans ?_
  refine (rd3_groups (p := 8) (n := 704) (m := 2048) _ _ _ _ _ y0 y1 y2).trans ?_
  refine (rd_swap (n := 2048) (m := 5632) _ _ _ _ (by omega) y2).trans ?_
  refine (rd_swap (n := 5632) (m := 2048) _ _ _ _ y2 (by omega)).trans ?_
  refine (rd_dot_tn (n := 5632) (m := 2048) (k := 4096) _ _ _ (dot_at _ _) _ _ (by omega) y2).trans ?_
  refine Finset.sum_congr rfl fun l hl => ?_
  exact congrArg₂ (fun x y : EReal => x * y) (rd_beside (p := 8) (n := 4096) (w := 704) (extf .f32 D bitsLt_bf16_f32) _ _ l _ _ (Finset.mem_range.mp hl) y0 y1) rfl

end Cert.Reference2Ideal.Sum

namespace Cert.Proof

open Idealize.ShloMosaic Idealize.ShloMosaic.TcCoe Idealize.SL.Sem

/-- The kernel computes the derivative with respect to the gate and up weights. -/
theorem algebraic2 : Cert.algebraic_Kernel2Ideal_Reference2Ideal := fun m g m' g' _ h =>
  ⟨_, _, Cert.Kernel2Ideal.Sum.run m g, (θ_run Cert.Reference2Ideal.defs _ _).mono (fun r k c => by
    obtain ⟨h0, h1, h2⟩ := h c
    obtain ⟨k0, k1, k⟩ := k c
    refine ⟨k0.trans ?_, k1.trans ?_, k⟩
    · rw [h0, h1]
      exact Cert.Reference2Ideal.Sum.grad_eq _ _
    · rw [h0, h2]
      exact Cert.Reference2Ideal.Sum.grad_eq _ _) (Cert.Reference2Ideal.Value.run m' g')⟩

end Cert.Proof

end
-- ==== Proof.Answer.lean ====
/-
  The four gradients as whole arrays, entry by entry, from the five arrays the program is given.
-/
module

public import proofs.«01_k».proof.Proof.HostRows

@[expose] public section

noncomputable section

namespace Cert.Cols

open Idealize.ShloMosaic Cert.KernelIdeal.Conv

variable (U : (⟨2, ![4112, 5120]⟩ : Shape).Idx → EReal) (DY DZ : (⟨2, ![4096, 1024]⟩ : Shape).Idx → EReal) (WS : (⟨2, ![3, 1024]⟩ : Shape).Idx → EReal)
  (WC : (⟨2, ![31, 1024]⟩ : Shape).Idx → EReal)

/-- Column `C` of channel `q`. -/
def chan (q C i : ℕ) : EReal := rd U i (1024 * q + C)

/-- The channels' gradient: channel `q`, row `r` in the kernel's order, column `C`. -/
def duEntry (q r C : ℕ) : EReal :=
  duC (chan U 0 C) (chan U 1 C) (chan U 2 C) (chan U 3 C) (chan U 4 C) (fun r => rd DY r C) (fun r => rd DZ r C) (fun t => rd WS t C) (fun t => rd WC t C) q r

/-- The short convolution's tap gradient. -/
def scEntry (t C : ℕ) : EReal := wgrad 3 (fun i => chan U 1 C i * chan U 2 C i) (fun r => rd DY r C * chan U 0 C (r + 16)) t

/-- The long convolution's tap gradient. -/
def cfEntry (t C : ℕ) : EReal := wgrad 31 (fun i => chan U 3 C i * sg (chan U 4 C i)) (fun r => rd DZ r C) t

/-- The bias gradient. -/
def bEntry (C : ℕ) : EReal := ∑ r ∈ Finset.range 4096, rd DZ r C

/-- The channels' gradient as an array. -/
def duA : (⟨3, ![5, 4352, 1024]⟩ : Shape).Idx → EReal := fun y => duEntry U DY DZ WS WC (y 0).val (y 1).val (y 2).val
/-- The short convolution's tap gradient as an array, by groups of 128 columns. -/
def scA : (⟨3, ![8, 3, 128]⟩ : Shape).Idx → EReal := fun y => scEntry U DY (y 1).val (128 * (y 0).val + (y 2).val)
/-- The long convolution's tap gradient as an array, by groups of 128 columns. -/
def cfA : (⟨3, ![8, 31, 128]⟩ : Shape).Idx → EReal := fun y => cfEntry U DZ (y 1).val (128 * (y 0).val + (y 2).val)
/-- The bias gradient as an array. -/
def bA : (⟨2, ![1, 1024]⟩ : Shape).Idx → EReal := fun y => bEntry DZ (y 1).val

end Cert.Cols

end
-- ==== Proof.RefCols.lean ====
/-
  The reference's four results are the four gradients.
-/
module

public import proofs.«01_k».proof.Proof.Gen.ReferenceIdeal.Run
public import proofs.«01_k».proof.Proof.Answer

@[expose] public section

noncomputable section

namespace Cert.ReferenceIdeal.Grad

open Idealize.ShloMosaic Idealize.ShloMosaic.TcCoe Idealize.ShloMosaic.StableHlo Cert.ReferenceIdeal Cert.ReferenceIdeal.Gen
open Cert.ReferenceIdeal.Value Cert.Cols
open Cert.KernelIdeal.Conv (rd rd3 rd_at rd3_at eq_rd eq_rd3)

/-! ## Sums in falling order -/

/-- `f a + f (a - 1) + … + f (a - k)`, in that order. -/
def down (f : ℕ → EReal) (a : ℕ) : ℕ → EReal
  | 0 => f a
  | k + 1 => down f a k + f (a - (k + 1))

/-- All of it is the sum over the range. -/
theorem down_all (f : ℕ → EReal) (a : ℕ) : down f a a = ∑ t ∈ Finset.range (a + 1), f t := by
  have h : ∀ k, down f a k = ∑ t ∈ Finset.range (k + 1), f (a - t) := by
    intro k
    induction k with
    | zero => rw [Finset.sum_range_one]; rfl
    | succ k ih => rw [Finset.sum_range_succ, ← ih]; rfl
  rw [h, ← Finset.sum_range_reflect]
  exact Finset.sum_congr rfl fun t ht => congrArg f (by have := Finset.mem_range.mp ht; omega)

/-- One more addend. -/
theorem down_step {n m : ℕ} [NeZero n] [NeZero m] (A B : FVec Ideal ⟨2, ![n, m]⟩ .f32) (f : ℕ → EReal) (a k j r c : ℕ)
    (hA : rd A r c = down f a k) (hB : rd B r c = f j) (hj : a - (k + 1) = j) : rd (addf (F := Ideal) A B) r c = down f a (k + 1) := by
  have e : rd (addf (F := Ideal) A B) r c = (rd A r c + rd B r c : EReal) := rfl
  rw [e, hA, hB, down, hj]

/-! ## The pieces of the sums -/

/-- A product of arrays, entry by entry. -/
theorem rd_mulf {n m : ℕ} [NeZero n] [NeZero m] (A B : FVec Ideal ⟨2, ![n, m]⟩ .f32) (r c : ℕ) {x y : EReal}
    (hA : rd A r c = x) (hB : rd B r c = y) : rd (mulf (F := Ideal) A B) r c = (x * y : EReal) := by
  have e : rd (mulf (F := Ideal) A B) r c = (rd A r c * rd B r c : EReal) := rfl
  rw [e, hA, hB]

/-- The logistic as the host computes it. -/
theorem rd_sg {n m : ℕ} [NeZero n] [NeZero m] (A : FVec Ideal ⟨2, ![n, m]⟩ .f32) (h : (S_ : Shape).BroadcastsInDim ⟨2, ![n, m]⟩ (![] : Fin 0 → Fin (⟨2, ![n, m]⟩ : Shape).rank)) (r c : ℕ) {x : EReal}
    (hA : rd A r c = x) :
    rd (Host.divf (F := Ideal) (broadcastInDim ⟨2, ![n, m]⟩ ![] h (constant (F := Ideal) S_ .f32 0x3F800000#32))
      (addf (F := Ideal) (broadcastInDim ⟨2, ![n, m]⟩ ![] h (constant (F := Ideal) S_ .f32 0x3F800000#32)) (Host.exp (F := Ideal) (Host.negf (F := Ideal) A)))) r c = sg x := by
  have e : rd (Host.divf (F := Ideal) (broadcastInDim ⟨2, ![n, m]⟩ ![] h (constant (F := Ideal) S_ .f32 0x3F800000#32))
      (addf (F := Ideal) (broadcastInDim ⟨2, ![n, m]⟩ ![] h (constant (F := Ideal) S_ .f32 0x3F800000#32)) (Host.exp (F := Ideal) (Host.negf (F := Ideal) A)))) r c
      = Ideal.div (Ideal.ofBits .f32 0x3F800000#32) (Ideal.ofBits .f32 0x3F800000#32 + Ideal.exp (-(rd A r c : EReal))) := rfl
  rw [e, hA, Ideal.ofBits_one_f32]
  rfl

/-- The zero that fills. -/
theorem fill0 (j : S_.Idx) : (constant (F := Ideal) S_ .f32 0x00000000#32) j = (0 : EReal) := Ideal.ofBits_zero_f32

/-- What tap `j` gives the cotangent of a convolution's padded input. -/
def tapF (T : ℕ) (D w : ℕ → EReal) (r j : ℕ) : EReal := if j ≤ r ∧ r < j + 4112 then D (r - j) * w j else 0

/-- It is the cotangent times the tap, moved down `j` rows. -/
theorem tap_pad {n T : ℕ} [NeZero n] [NeZero T] (D : FVec Ideal S4112x1024 .f32) (w : FVec Ideal S1x1024 .f32) (W : FVec Ideal ⟨2, ![T, 1024]⟩ .f32) (j j' r c : ℕ)
    (h : (⟨2, ![4112, 1024]⟩ : Shape).Pads ![j, 0] ![j', 0] ![0, 0] ⟨2, ![n, 1024]⟩) (hr : r < n) (hc : c < 1024)
    (hs : (⟨2, ![T, 1024]⟩ : Shape).Slices ![j, 0] S1x1024) (hw : w = extractStridedSlice S1x1024 ![j, 0] W hs) :
    rd (pad ⟨2, ![n, 1024]⟩ ![j, 0] ![j', 0] ![0, 0] (mulf (F := Ideal) D (broadcastInDim S4112x1024 ![0, 1] bcast_S1x1024_S4112x1024_0_1 w))
      (constant (F := Ideal) S_ .f32 0x00000000#32) h h_S_) r c = tapF T (fun i => rd D i c) (fun t => rd W t c) r j := by
  refine (rd_pad (n := n) (m := 1024) (p := 4112) (q := 1024) j 0 j' 0 _ _ h h_S_ r c hr hc).trans ?_
  unfold tapF
  by_cases hj : j ≤ r ∧ r < j + 4112
  · rw [if_pos ⟨hj, Nat.zero_le _, by omega⟩, if_pos hj]
    have e : rd (mulf (F := Ideal) D (broadcastInDim S4112x1024 ![0, 1] bcast_S1x1024_S4112x1024_0_1 w)) (r - j) (c - 0)
        = (rd D (r - j) c * rd (broadcastInDim S4112x1024 ![0, 1] bcast_S1x1024_S4112x1024_0_1 w) (r - j) c : EReal) := rfl
    rw [e]
    exact congrArg (fun x : EReal => rd D (r - j) c * x) ((rd_row (n := 4112) (m := 1024) w _ (by omega) (r - j) c (by omega) hc).trans
      (by rw [hw]; exact (rd_slice (n := T) (m := 1024) (p := 1) (q := 1024) j 0 W hs 0 c (by omega) hc).trans (congrArg₂ (rd W) rfl (Nat.zero_add c))))
  · rw [if_neg fun hh => hj hh.1, if_neg hj]
    exact fill0 _

/-- What tap `j` gives the taps' gradient. -/
def rowF (X D : ℕ → EReal) (t j : ℕ) : EReal := if t = j then ∑ r ∈ Finset.range 4112, X (j + r) * D r else 0

/-- It is the column sum of the input moved `j` rows times the cotangent, on row `j`. -/
theorem row_pad {T n : ℕ} [NeZero T] [NeZero n] (x D : FVec Ideal S4112x1024 .f32) (X : FVec Ideal ⟨2, ![n, 1024]⟩ .f32) (j j' t c : ℕ)
    (h : (⟨2, ![1, 1024]⟩ : Shape).Pads ![j, 0] ![j', 0] ![0, 0] ⟨2, ![T, 1024]⟩) (ht : t < T) (hc : c < 1024)
    (hs : (⟨2, ![n, 1024]⟩ : Shape).Slices ![j, 0] S4112x1024) (hx : x = extractStridedSlice S4112x1024 ![j, 0] X hs) :
    rd (pad ⟨2, ![T, 1024]⟩ ![j, 0] ![j', 0] ![0, 0] (shapeCast S1x1024 (Host.reduceAdd (F := Ideal) (mulf (F := Ideal) x D)
        (constant (F := Ideal) S_ .f32 0x00000000#32) reducesTo_S4112x1024_S1024_d0 h_S_) shapeCasts_S1024_S1x1024)
      (constant (F := Ideal) S_ .f32 0x00000000#32) h h_S_) t c = rowF (fun i => rd X i c) (fun i => rd D i c) t j := by
  refine (rd_pad (n := T) (m := 1024) (p := 1) (q := 1024) j 0 j' 0 _ _ h h_S_ t c ht hc).trans ?_
  unfold rowF
  by_cases hj : t = j
  · rw [if_pos ⟨by omega, Nat.zero_le _, by omega⟩, if_pos hj, hj, Nat.sub_self, Nat.sub_zero]
    refine (rd_colSum (n := 4112) (m := 1024) (mulf (F := Ideal) x D) _ _ _ h_S_ (fill0 _) c hc).trans (Finset.sum_congr rfl fun r hr => ?_)
    have e : rd (mulf (F := Ideal) x D) r c = (rd x r c * rd D r c : EReal) := rfl
    rw [e, hx, rd_slice (n := n) (m := 1024) (p := 4112) (q := 1024) j 0 X hs r c (Finset.mem_range.mp hr) hc, Nat.zero_add]
  · rw [if_neg fun hh => hj (by omega), if_neg hj]
    exact fill0 _

variable (V0 : Valuation τ sig (Elt Ideal)) (C : ℕ) (hC : C < 1024)

/-- The channels. -/
abbrev arrU : FVec Ideal S4112x5120 .bf16 := V0 (Proc.devRef .tc main_arg0)
/-- The gated cotangent. -/
abbrev arrDy : FVec Ideal S4096x1024 .bf16 := V0 (Proc.devRef .tc main_arg1)
/-- The cotangent of the long convolution. -/
abbrev arrDz : FVec Ideal S4096x1024 .f32 := V0 (Proc.devRef .tc main_arg2)
/-- The short convolution's taps. -/
abbrev arrWs : FVec Ideal S3x1024 .f32 := V0 (Proc.devRef .tc main_arg3)
/-- The long convolution's taps. -/
abbrev arrWc : FVec Ideal S31x1024 .f32 := V0 (Proc.devRef .tc main_arg4)

/-! ## The columns of the named values -/

include hC

/-- Channel 0. -/
theorem v2_col (r : ℕ) (hr : r < 4112) : rd (res_main_v2 V0) r C = chan (arrU V0) 0 C r :=
  (rd_slice (n := 4112) (m := 5120) (p := 4112) (q := 1024) 0 0 (res_main_v1 V0) _ r C hr hC).trans
    (congrArg₂ (rd (arrU V0)) (by omega) (by omega))

/-- Channel 1. -/
theorem v3_col (r : ℕ) (hr : r < 4112) : rd (res_main_v3 V0) r C = chan (arrU V0) 1 C r :=
  (rd_slice (n := 4112) (m := 5120) (p := 4112) (q := 1024) 0 1024 (res_main_v1 V0) _ r C hr hC).trans
    (congrArg₂ (rd (arrU V0)) (by omega) (by omega))

/-- Channel 2. -/
theorem v4_col (r : ℕ) (hr : r < 4112) : rd (res_main_v4 V0) r C = chan (arrU V0) 2 C r :=
  (rd_slice (n := 4112) (m := 5120) (p := 4112) (q := 1024) 0 2048 (res_main_v1 V0) _ r C hr hC).trans
    (congrArg₂ (rd (arrU V0)) (by omega) (by omega))

/-- Channel 3. -/
theorem v5_col (r : ℕ) (hr : r < 4112) : rd (res_main_v5 V0) r C = chan (arrU V0) 3 C r :=
  (rd_slice (n := 4112) (m := 5120) (p := 4112) (q := 1024) 0 3072 (res_main_v1 V0) _ r C hr hC).trans
    (congrArg₂ (rd (arrU V0)) (by omega) (by omega))

/-- The logistic of channel 4. -/
theorem v31_col (r : ℕ) (hr : r < 4112) : rd (res_main_v31 V0) r C = sg (chan (arrU V0) 4 C r) := by
  exact rd_sg (n := 4112) (m := 1024) (x := chan (arrU V0) 4 C r) (extractStridedSlice S4112x1024 ![0, 4096] (res_main_v1 V0) slices_S4112x5120_S4112x1024_0_4096) _ r C
    ((rd_slice (n := 4112) (m := 5120) (p := 4112) (q := 1024) 0 4096 (res_main_v1 V0) _ r C hr hC).trans
      (congrArg₂ (rd (arrU V0)) (by omega) (by omega)))

/-- The cotangent of the long convolution, zero on the meta rows. -/
theorem v198_col (r : ℕ) (hr : r < 4112) : rd (res_main_v198 V0) r C = if 16 ≤ r then rd (arrDz V0) (r - 16) C else 0 := by
  refine (rd_pad (n := 4112) (m := 1024) (p := 4096) (q := 1024) 16 0 0 0 _ _ _ h_S_ r C hr hC).trans ?_
  by_cases h : 16 ≤ r
  · rw [if_pos ⟨⟨h, by omega⟩, Nat.zero_le _, by omega⟩, if_pos h]
    rfl
  · rw [if_neg fun hh => h hh.1.1, if_neg h]
    exact fill0 _

/-- The gated cotangent, zero on the meta rows. -/
theorem v199_col (r : ℕ) (hr : r < 4112) : rd (res_main_v199 V0) r C = if 16 ≤ r then rd (arrDy V0) (r - 16) C else (0 : EReal) := by
  refine (rd_pad (n := 4112) (m := 1024) (p := 4096) (q := 1024) 16 0 0 0 _ _ _ h_S_ r C hr hC).trans ?_
  by_cases h : 16 ≤ r
  · rw [if_pos ⟨⟨h, by omega⟩, Nat.zero_le _, by omega⟩, if_pos h]
    rfl
  · rw [if_neg fun hh => h hh.1.1, if_neg h]
    exact fill0 _

/-- The short convolution's cotangent, zero on the meta rows. -/
theorem v484_col (r : ℕ) (hr : r < 4112) :
    rd (res_main_v484 V0) r C = if 16 ≤ r then (rd (arrDy V0) (r - 16) C * chan (arrU V0) 0 C r : EReal) else 0 := by
  refine (rd_mulf (n := 4112) (m := 1024) (res_main_v2 V0) (res_main_v199 V0) r C (v2_col V0 C hC r hr) (v199_col V0 C hC r hr)).trans ?_
  split
  · exact mul_comm _ _
  · exact mul_zero _

/-- The short convolution's padded input. -/
theorem v9_col (r : ℕ) (hr : r < 4114) : rd (res_main_v9 V0) r C = if r < 2 then (0 : EReal) else chan (arrU V0) 1 C (r - 2) * chan (arrU V0) 2 C (r - 2) := by
  refine (rd_under (n := 4114) (m := 1024) (p := 2) (q := 4112) _ _ _ r C hr rfl hC).trans ?_
  split
  · exact Ideal.ofBits_zero_f32
  · exact rd_mulf (n := 4112) (m := 1024) (res_main_v3 V0) (res_main_v4 V0) _ C (v3_col V0 C hC _ (by omega)) (v4_col V0 C hC _ (by omega))

/-- The long convolution's padded input. -/
theorem v37_col (r : ℕ) (hr : r < 4142) : rd (res_main_v37 V0) r C = if r < 30 then (0 : EReal) else chan (arrU V0) 3 C (r - 30) * sg (chan (arrU V0) 4 C (r - 30)) := by
  refine (rd_under (n := 4142) (m := 1024) (p := 30) (q := 4112) _ _ _ r C hr rfl hC).trans ?_
  split
  · exact Ideal.ofBits_zero_f32
  · exact rd_mulf (n := 4112) (m := 1024) (res_main_v5 V0) (res_main_v31 V0) _ C (v5_col V0 C hC _ (by omega)) (v31_col V0 C hC _ (by omega))

/-- Taps 30 to 13 of the cotangent of the long convolution's padded input. -/
theorem v361_col (r : ℕ) (hr : r < 4142) : rd (res_main_v361 V0) r C = down (tapF 31 (fun i => rd (res_main_v198 V0) i C) (fun t => rd (arrWc V0) t C) r) 30 17 :=
  down_step _ _ _ 30 16 13 _ C (down_step _ _ _ 30 15 14 _ C (down_step _ _ _ 30 14 15 _ C (down_step _ _ _ 30 13 16 _ C (down_step _ _ _ 30 12 17 _ C (down_step _ _ _ 30 11 18 _ C (down_step _ _ _ 30 10 19 _ C (down_step _ _ _ 30 9 20 _ C (down_step _ _ _ 30 8 21 _ C (down_step _ _ _ 30 7 22 _ C (down_step _ _ _ 30 6 23 _ C (down_step _ _ _ 30 5 24 _ C (down_step _ _ _ 30 4 25 _ C (down_step _ _ _ 30 3 26 _ C (down_step _ _ _ 30 2 27 _ C (down_step _ _ _ 30 1 28 _ C (down_step _ _ _ 30 0 29 _ C (tap_pad _ _ _ 30 0 r C _ hr hC _ rfl)
    (tap_pad _ _ _ 29 1 r C _ hr hC _ rfl) rfl)
    (tap_pad _ _ _ 28 2 r C _ hr hC _ rfl) rfl)
    (tap_pad _ _ _ 27 3 r C _ hr hC _ rfl) rfl)
    (tap_pad _ _ _ 26 4 r C _ hr hC _ rfl) rfl)
    (tap_pad _ _ _ 25 5 r C _ hr hC _ rfl) rfl)
    (tap_pad _ _ _ 24 6 r C _ hr hC _ rfl) rfl)
    (tap_pad _ _ _ 23 7 r C _ hr hC _ rfl) rfl)
    (tap_pad _ _ _ 22 8 r C _ hr hC _ rfl) rfl)
    (tap_pad _ _ _ 21 9 r C _ hr hC _ rfl) rfl)
    (tap_pad _ _ _ 20 10 r C _ hr hC _ rfl) rfl)
    (tap_pad _ _ _ 19 11 r C _ hr hC _ rfl) rfl)
    (tap_pad _ _ _ 18 12 r C _ hr hC _ rfl) rfl)
    (tap_pad _ _ _ 17 13 r C _ hr hC _ rfl) rfl)
    (tap_pad _ _ _ 16 14 r C _ hr hC _ rfl) rfl)
    (tap_pad _ _ _ 15 15 r C _ hr hC _ rfl) rfl)
    (tap_pad _ _ _ 14 16 r C _ hr hC _ rfl) rfl)
    (tap_pad _ _ _ 13 17 r C _ hr hC _ rfl) rfl

/-- All taps. -/
theorem v478_col (r : ℕ) (hr : r < 4142) : rd (res_main_v478 V0) r C = down (tapF 31 (fun i => rd (res_main_v198 V0) i C) (fun t => rd (arrWc V0) t C) r) 30 30 :=
  down_step _ _ _ 30 29 0 _ C (down_step _ _ _ 30 28 1 _ C (down_step _ _ _ 30 27 2 _ C (down_step _ _ _ 30 26 3 _ C (down_step _ _ _ 30 25 4 _ C (down_step _ _ _ 30 24 5 _ C (down_step _ _ _ 30 23 6 _ C (down_step _ _ _ 30 22 7 _ C (down_step _ _ _ 30 21 8 _ C (down_step _ _ _ 30 20 9 _ C (down_step _ _ _ 30 19 10 _ C (down_step _ _ _ 30 18 11 _ C (down_step _ _ _ 30 17 12 _ C (v361_col V0 C hC r hr)
    (tap_pad _ _ _ 12 18 r C _ hr hC _ rfl) rfl)
    (tap_pad _ _ _ 11 19 r C _ hr hC _ rfl) rfl)
    (tap_pad _ _ _ 10 20 r C _ hr hC _ rfl) rfl)
    (tap_pad _ _ _ 9 21 r C _ hr hC _ rfl) rfl)
    (tap_pad _ _ _ 8 22 r C _ hr hC _ rfl) rfl)
    (tap_pad _ _ _ 7 23 r C _ hr hC _ rfl) rfl)
    (tap_pad _ _ _ 6 24 r C _ hr hC _ rfl) rfl)
    (tap_pad _ _ _ 5 25 r C _ hr hC _ rfl) rfl)
    (tap_pad _ _ _ 4 26 r C _ hr hC _ rfl) rfl)
    (tap_pad _ _ _ 3 27 r C _ hr hC _ rfl) rfl)
    (tap_pad _ _ _ 2 28 r C _ hr hC _ rfl) rfl)
    (tap_pad _ _ _ 1 29 r C _ hr hC _ rfl) rfl)
    (tap_pad _ _ _ 0 30 r C _ hr hC _ rfl) rfl

/-- The cotangent of the short convolution's padded input. -/
theorem v510_col (r : ℕ) (hr : r < 4114) : rd (res_main_v510 V0) r C = down (tapF 3 (fun i => rd (res_main_v484 V0) i C) (fun t => rd (arrWs V0) t C) r) 2 2 :=
  down_step _ _ _ 2 1 0 _ C (down_step _ _ _ 2 0 1 _ C (tap_pad _ _ _ 2 0 r C _ hr hC _ rfl)
    (tap_pad _ _ _ 1 1 r C _ hr hC _ rfl) rfl)
    (tap_pad _ _ _ 0 2 r C _ hr hC _ rfl) rfl

/-- Taps 30 to 16 of the long convolution's tap gradient. -/
theorem v332_col (t : ℕ) (ht : t < 31) : rd (res_main_v332 V0) t C = down (rowF (fun i => rd (res_main_v37 V0) i C) (fun i => rd (res_main_v198 V0) i C) t) 30 14 :=
  down_step _ _ _ 30 13 16 _ C (down_step _ _ _ 30 12 17 _ C (down_step _ _ _ 30 11 18 _ C (down_step _ _ _ 30 10 19 _ C (down_step _ _ _ 30 9 20 _ C (down_step _ _ _ 30 8 21 _ C (down_step _ _ _ 30 7 22 _ C (down_step _ _ _ 30 6 23 _ C (down_step _ _ _ 30 5 24 _ C (down_step _ _ _ 30 4 25 _ C (down_step _ _ _ 30 3 26 _ C (down_step _ _ _ 30 2 27 _ C (down_step _ _ _ 30 1 28 _ C (down_step _ _ _ 30 0 29 _ C (row_pad _ _ _ 30 0 t C _ ht hC _ rfl)
    (row_pad _ _ _ 29 1 t C _ ht hC _ rfl) rfl)
    (row_pad _ _ _ 28 2 t C _ ht hC _ rfl) rfl)
    (row_pad _ _ _ 27 3 t C _ ht hC _ rfl) rfl)
    (row_pad _ _ _ 26 4 t C _ ht hC _ rfl) rfl)
    (row_pad _ _ _ 25 5 t C _ ht hC _ rfl) rfl)
    (row_pad _ _ _ 24 6 t C _ ht hC _ rfl) rfl)
    (row_pad _ _ _ 23 7 t C _ ht hC _ rfl) rfl)
    (row_pad _ _ _ 22 8 t C _ ht hC _ rfl) rfl)
    (row_pad _ _ _ 21 9 t C _ ht hC _ rfl) rfl)
    (row_pad _ _ _ 20 10 t C _ ht hC _ rfl) rfl)
    (row_pad _ _ _ 19 11 t C _ ht hC _ rfl) rfl)
    (row_pad _ _ _ 18 12 t C _ ht hC _ rfl) rfl)
    (row_pad _ _ _ 17 13 t C _ ht hC _ rfl) rfl)
    (row_pad _ _ _ 16 14 t C _ ht hC _ rfl) rfl

/-- Taps 30 to 2. -/
theorem v458_col (t : ℕ) (ht : t < 31) : rd (res_main_v458 V0) t C = down (rowF (fun i => rd (res_main_v37 V0) i C) (fun i => rd (res_main_v198 V0) i C) t) 30 28 :=
  down_step _ _ _ 30 27 2 _ C (down_step _ _ _ 30 26 3 _ C (down_step _ _ _ 30 25 4 _ C (down_step _ _ _ 30 24 5 _ C (down_step _ _ _ 30 23 6 _ C (down_step _ _ _ 30 22 7 _ C (down_step _ _ _ 30 21 8 _ C (down_step _ _ _ 30 20 9 _ C (down_step _ _ _ 30 19 10 _ C (down_step _ _ _ 30 18 11 _ C (down_step _ _ _ 30 17 12 _ C (down_step _ _ _ 30 16 13 _ C (down_step _ _ _ 30 15 14 _ C (down_step _ _ _ 30 14 15 _ C (v332_col V0 C hC t ht)
    (row_pad _ _ _ 15 15 t C _ ht hC _ rfl) rfl)
    (row_pad _ _ _ 14 16 t C _ ht hC _ rfl) rfl)
    (row_pad _ _ _ 13 17 t C _ ht hC _ rfl) rfl)
    (row_pad _ _ _ 12 18 t C _ ht hC _ rfl) rfl)
    (row_pad _ _ _ 11 19 t C _ ht hC _ rfl) rfl)
    (row_pad _ _ _ 10 20 t C _ ht hC _ rfl) rfl)
    (row_pad _ _ _ 9 21 t C _ ht hC _ rfl) rfl)
    (row_pad _ _ _ 8 22 t C _ ht hC _ rfl) rfl)
    (row_pad _ _ _ 7 23 t C _ ht hC _ rfl) rfl)
    (row_pad _ _ _ 6 24 t C _ ht hC _ rfl) rfl)
    (row_pad _ _ _ 5 25 t C _ ht hC _ rfl) rfl)
    (row_pad _ _ _ 4 26 t C _ ht hC _ rfl) rfl)
    (row_pad _ _ _ 3 27 t C _ ht hC _ rfl) rfl)
    (row_pad _ _ _ 2 28 t C _ ht hC _ rfl) rfl

/-- The long convolution's tap gradient, tap by row. -/
def resCf : FVec Ideal S31x1024 .f32 := addf (addf (res_main_v458 V0) (pad S31x1024 ![1, 0] ![29, 0] ![0, 0] (shapeCast S1x1024 (Host.reduceAdd (mulf (res_main_v43 V0) (res_main_v198 V0)) (constant S_ .f32 0x00000000#32) reducesTo_S4112x1024_S1024_d0 h_S_) shapeCasts_S1024_S1x1024) (constant S_ .f32 0x00000000#32) pads_S1x1024_S31x1024_1290_000 h_S_)) (pad S31x1024 ![0, 0] ![30, 0] ![0, 0] (shapeCast S1x1024 (Host.reduceAdd (mulf (res_main_v39 V0) (res_main_v198 V0)) (constant S_ .f32 0x00000000#32) reducesTo_S4112x1024_S1024_d0 h_S_) shapeCasts_S1024_S1x1024) (constant S_ .f32 0x00000000#32) pads_S1x1024_S31x1024_0300_000 h_S_)

/-- The short convolution's tap gradient, tap by row. -/
def resSc : FVec Ideal S3x1024 .f32 := addf (addf (pad S3x1024 ![2, 0] ![0, 0] ![0, 0] (shapeCast S1x1024 (Host.reduceAdd (mulf (res_main_v20 V0) (res_main_v484 V0)) (constant S_ .f32 0x00000000#32) reducesTo_S4112x1024_S1024_d0 h_S_) shapeCasts_S1024_S1x1024) (constant S_ .f32 0x00000000#32) pads_S1x1024_S3x1024_200_000 h_S_) (pad S3x1024 ![1, 0] ![1, 0] ![0, 0] (shapeCast S1x1024 (Host.reduceAdd (mulf (res_main_v15 V0) (res_main_v484 V0)) (constant S_ .f32 0x00000000#32) reducesTo_S4112x1024_S1024_d0 h_S_) shapeCasts_S1024_S1x1024) (constant S_ .f32 0x00000000#32) pads_S1x1024_S3x1024_110_000 h_S_)) (pad S3x1024 ![0, 0] ![2, 0] ![0, 0] (shapeCast S1x1024 (Host.reduceAdd (mulf (res_main_v11 V0) (res_main_v484 V0)) (constant S_ .f32 0x00000000#32) reducesTo_S4112x1024_S1024_d0 h_S_) shapeCasts_S1024_S1x1024) (constant S_ .f32 0x00000000#32) pads_S1x1024_S3x1024_020_000 h_S_)

/-- All taps of the long convolution's. -/
theorem resCf_down (t : ℕ) (ht : t < 31) : rd (resCf V0) t C = down (rowF (fun i => rd (res_main_v37 V0) i C) (fun i => rd (res_main_v198 V0) i C) t) 30 30 :=
  down_step _ _ _ 30 29 0 _ C (down_step _ _ _ 30 28 1 _ C (v458_col V0 C hC t ht)
    (row_pad _ _ _ 1 29 t C _ ht hC _ rfl) rfl)
    (row_pad _ _ _ 0 30 t C _ ht hC _ rfl) rfl

/-- All taps of the short convolution's. -/
theorem resSc_down (t : ℕ) (ht : t < 3) : rd (resSc V0) t C = down (rowF (fun i => rd (res_main_v9 V0) i C) (fun i => rd (res_main_v484 V0) i C) t) 2 2 :=
  down_step _ _ _ 2 1 0 _ C (down_step _ _ _ 2 0 1 _ C (row_pad _ _ _ 2 0 t C _ ht hC _ rfl)
    (row_pad _ _ _ 1 1 t C _ ht hC _ rfl) rfl)
    (row_pad _ _ _ 0 2 t C _ ht hC _ rfl) rfl

end Cert.ReferenceIdeal.Grad

end
-- ==== Proof.GradDown2.lean ====
/-
  The down weight's gradient over 4096 rows: the kernel adds up the products of four blocks of 1024 rows and halves the sum.
-/
module

public import proofs.«01_k».proof.Proof.Prods
public import proofs.«01_k».proof.Proof.RefCols
public import proofs.«01_k».proof.Proof.Gen.Kernel3Ideal.Value
public import proofs.«01_k».proof.Proof.Gen.Reference3Ideal.Run
public import proofs.«01_k».proof.Defs
public import Idealize.ShloMosaic.Lib.Pipeline.Value
public import Idealize.ShloMosaic.Lib.Claim

@[expose] public section

noncomputable section

namespace Cert.Kernel3Ideal.Sum

open Idealize.ShloMosaic Idealize.ShloMosaic.TcCoe Idealize.ShloMosaic.Tactic Idealize.SL.Sem Cert.Kernel3Ideal Cert.Kernel3Ideal.Gen Cert.Prods
open Cert.KernelIdeal.Conv (rd rd3 eq_rd eq_rd3 rd_at rd3_at)
open Cert.Cols (sg sig_eq half_eq)
open Idealize.ShloMosaic.Pipeline (Dat)

/-! ## What the body leaves -/

section Cases
variable (c : Dev nD) (i : grid0.Coords) (a2 : Memref sig .tc .vmem S1x1024x704 .bf16) (h2 : a2.IsWhole) (a3 : Memref sig .tc .vmem S1x1024x704 .bf16) (h3 : a3.IsWhole)
  (a4 : Memref sig .tc .vmem S1024x2048 .bf16) (h4 : a4.IsWhole) (a5 : Memref sig .tc .vmem S1x704x2048 .bf16) (h5 : a5.IsWhole)
  (a6 : Memref sig .tc .vmem S704x2048 .f32) (h6 : a6.IsWhole)
  (x0 x1 : Vec Ideal S1x1024x704 .bf16) (x2 : Vec Ideal S1024x2048 .bf16) (s0 : Vec Ideal S704x2048 .f32)

/-- The first block of rows starts the sum from zero. -/
theorem first0 (hc : cond0_0 i) (hd : ¬cond0_1 i) : sout0_A_0 c i a2 h2 a3 h3 a4 h4 a5 h5 a6 h6 hc hd x0 x1 x2 = k0_pay2 x0 x1 (k0_pay1 (F := Ideal)) x2 := by
  unfold sout0_A_0
  rw [View.read_writes_eq_canon _ _ _ (scover0_A_0 c i a2 h2 a3 h3 a4 h4 a5 h5 a6 h6 hc hd x0 x1 x2)]
  unfold kernelRun0_A
  dsimp only
  sl_unfold_words
  rw [View.canon_cons_unit_zero (S := S704x2048) hz, View.readCov_unit_zero (S := S704x2048) _ hz]
  simp only [View.readAt_eq_ld, h2.read_unread, h3.read_unread, h4.read_unread, View.ld_unit_zero (S := S1024x2048) hz, View.ld_unit_zero (S := S1x1024x704) hz3]

/-- A middle block of rows adds its product. -/
theorem next0 (hc : ¬cond0_0 i) (hd : ¬cond0_1 i) : sout0_B_0 c i a2 h2 a3 h3 a4 h4 a5 h5 a6 h6 hc hd x0 x1 x2 s0 = k0_pay2 x0 x1 s0 x2 := by
  unfold sout0_B_0
  rw [View.read_writes_eq_canon _ _ _ (scover0_B_0 c i a2 h2 a3 h3 a4 h4 a5 h5 a6 h6 hc hd x0 x1 x2 s0)]
  unfold kernelRun0_B
  dsimp only
  rw [View.canon_unit_zero hz]
  simp only [View.readAt_eq_ld, h2.read_unread, h3.read_unread, h4.read_unread, h6.read_unread, View.ld_unit_zero (S := S1024x2048) hz,
    View.ld_unit_zero (S := S704x2048) hz, View.ld_unit_zero (S := S1x1024x704) hz3]

/-- The last block's sum is written out. -/
theorem last0 (hc : ¬cond0_0 i) (hd : cond0_1 i) : out0_C_3 c i a2 h2 a3 h3 a4 h4 a5 h5 a6 h6 hc hd x0 x1 x2 s0 = k0_pay3 (k0_pay2 x0 x1 s0 x2) := by
  unfold out0_C_3
  rw [View.read_writes_eq_canon _ _ _ (cover0_C_3 c i a2 h2 a3 h3 a4 h4 a5 h5 a6 h6 hc hd x0 x1 x2 s0)]
  unfold kernelRun0_C
  dsimp only
  sl_unfold_words
  rw [View.canon_unit_zero hz3, View.readCov_unit_zero (S := S704x2048) _ hz]
  simp only [View.readAt_eq_ld, h2.read_unread, h3.read_unread, h4.read_unread, h6.read_unread, View.ld_unit_zero (S := S1024x2048) hz,
    View.ld_unit_zero (S := S704x2048) hz, View.ld_unit_zero (S := S1x1024x704) hz3]

end Cases

/-! ## The step by row and column -/

/-- A gate's and an up product's hidden value: the gate times its logistic, times the up product. -/
def hid (g u : EReal) : EReal := g * sg g * u

/-- The word of one half. -/
theorem half16 : Ideal.ofBits .bf16 0x3F00#16 = ((1 / 2 : ℝ) : EReal) := by
  simp [Ideal.ofBits, Ideal.ieee, -EReal.coe_mul]; norm_num

/-- The block of hidden values. -/
def hids (g u : FVec Ideal S1x1024x704 .bf16) : FVec Ideal S1024x704 .bf16 :=
  mulf (mulf (shapeCast S1024x704 g shapeCasts_S1x1024x704_S1024x704)
    (addf (mulf (broadcast S1024x704 (Scalar.ofBits .bf16 0x3F00#16)) (tanh (mulf (broadcast S1024x704 (Scalar.ofBits .bf16 0x3F00#16)) (shapeCast S1024x704 g shapeCasts_S1x1024x704_S1024x704))))
      (broadcast S1024x704 (Scalar.ofBits .bf16 0x3F00#16)))) (shapeCast S1024x704 u shapeCasts_S1x1024x704_S1024x704)

/-- It is by row and column what its name says. -/
theorem hids_at (g u : FVec Ideal S1x1024x704 .bf16) (i j : ℕ) (hi : i < 1024) (hj : j < 704) : rd (hids g u) i j = hid (rd3 g 0 i j) (rd3 u 0 i j) := by
  rw [← rd_unslab (n := 1024) (m := 704) g shapeCasts_S1x1024x704_S1024x704 i j hi hj, ← rd_unslab (n := 1024) (m := 704) u shapeCasts_S1x1024x704_S1024x704 i j hi hj,
    rd_at _ i j hi hj, rd_at (shapeCast S1024x704 g shapeCasts_S1x1024x704_S1024x704) i j hi hj, rd_at (shapeCast S1024x704 u shapeCasts_S1x1024x704_S1024x704) i j hi hj]
  refine congrArg (fun z : EReal => z * _) (congrArg (fun z : EReal => _ * z) ?_)
  show Ideal.ofBits .bf16 0x3F00#16 * Ideal.tanh (Ideal.ofBits .bf16 0x3F00#16 * _) + Ideal.ofBits .bf16 0x3F00#16 = _
  rw [half16]
  exact sig_eq _

section Entries
variable (x0 x1 : Vec Ideal S1x1024x704 .bf16) (x2 : Vec Ideal S1024x2048 .bf16) (s : Vec Ideal S704x2048 .f32) (i j : ℕ) (hi : i < 704) (hj : j < 2048)
include hi hj

/-- The sum starts from zero. -/
theorem zero_at : rd (k0_pay1 (F := Ideal)) i j = 0 := by
  refine (rd_at (n := 704) (m := 2048) _ i j hi hj).trans ?_
  unfold k0_pay1
  rw [shapeCast_self]
  exact Ideal.ofBits_zero_f32

/-- A product of columns, added. -/
theorem acc_at (A : FVec Ideal S1024x704 .bf16) (B : FVec Ideal S1024x2048 .bf16) (s : FVec Ideal S704x2048 .f32) :
    rd (addf s (matmul dot_S1024x704_S1024x2048_S704x2048_0_0_1_1_n_n none A B (constant S704x2048 .f32 0x00000000#32))) i j
      = rd s i j + ∑ l ∈ Finset.range 1024, rd A l i * rd B l j :=
  rd_tn (n := 704) (m := 2048) (k := 1024) _ s A B (fun r q => by
    simp only [pointwise, zero_add]) i j hi hj

/-- A step adds the product of a block of rows. -/
theorem step_at : rd (k0_pay2 x0 x1 s x2) i j = rd s i j + ∑ l ∈ Finset.range 1024, hid (rd3 x0 0 l i) (rd3 x1 0 l i) * rd x2 l j := by
  have e : k0_pay2 x0 x1 s x2 = addf s (matmul (φ₂ := .bf16) dot_S1024x704_S1024x2048_S704x2048_0_0_1_1_n_n none (hids x0 x1) x2 (constant S704x2048 .f32 0x00000000#32)) := by
    unfold k0_pay2
    exact shapeCast_self _ _
  rw [e]
  refine (acc_at i j hi hj _ _ s).trans (congrArg (rd s i j + ·) (Finset.sum_congr rfl fun l hl => ?_))
  rw [hids_at x0 x1 l i (Finset.mem_range.mp hl) hi]

/-- The sum is halved when it is written. -/
theorem half_at : rd (mulf (broadcast S704x2048 (Scalar.ofBits .f32 0x3F000000#32)) s : FVec Ideal S704x2048 .f32) i j = ((1 / 2 : ℝ) : EReal) * rd s i j := by
  rw [rd_at _ i j hi hj, rd_at _ i j hi hj]
  show Ideal.ofBits .f32 0x3F000000#32 * _ = _
  rw [half_eq]

end Entries

/-! ## The blocks of the arguments -/

variable (m : (ℓ : Loc nD τ sig) → Buf (Elt Ideal) ℓ) (ρ : Dev nD → PrngReg) (c : Dev nD)

/-- The gate, as launched. -/
abbrev arrG : Vec Ideal S8x4096x704 .bf16 := m ((c : Thread nD τ).loc main_arg0)
/-- The up product, as launched. -/
abbrev arrU : Vec Ideal S8x4096x704 .bf16 := m ((c : Thread nD τ).loc main_arg1)
/-- The layer's cotangent, as launched. -/
abbrev arrD : Vec Ideal S4096x2048 .bf16 := m ((c : Thread nD τ).loc main_arg2)

/-- Point `4 q + b` is given rows `1024 b …` and slab `q`. -/
theorem idx_in : ∀ t : Fin grid0.N, (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = t.val % 4 ∧ win0_2.index t 1 = 0)
    ∧ (win0_3.index t 0 = t.val / 4 ∧ win0_3.index t 1 = 0 ∧ win0_3.index t 2 = 0) := by decide +kernel

/-- The block of the gate. -/
theorem blk0 (t : Fin cfg0.N) (r k : ℕ) (hr : r < 1024) (hk : k < 704) :
    rd3 (iblk m c 0 t : Vec Ideal S1x1024x704 .bf16) 0 r k = rd3 (arrG m c) (t.val / 4) (1024 * (t.val % 4) + r) k := by
  have e := (idx_in t).1
  refine (rd3_at (p := 1) (n := 1024) (m := 704) _ 0 r k (by omega) hr hk).trans ?_
  refine eq_rd3 (p := 8) (n := 4096) (m := 704) (arrG m c) (((cfg0.win 0).blk t).view.emb (ValueIdx.ix3 (0 : Fin 1) (⟨r, hr⟩ : Fin 1024) (⟨k, hk⟩ : Fin 704))) _ _ _ ?_ ?_ ?_
  · show win0_0.index t 0 * 1 + 1 * 0 = _
    omega
  · show win0_0.index t 1 * 1024 + 1 * r = _
    omega
  · show win0_0.index t 2 * 704 + 1 * k = _
    omega

/-- The block of the up product. -/
theorem blk1 (t : Fin cfg0.N) (r k : ℕ) (hr : r < 1024) (hk : k < 704) :
    rd3 (iblk m c 1 t : Vec Ideal S1x1024x704 .bf16) 0 r k = rd3 (arrU m c) (t.val / 4) (1024 * (t.val % 4) + r) k := by
  have e := (idx_in t).2.1
  refine (rd3_at (p := 1) (n := 1024) (m := 704) _ 0 r k (by omega) hr hk).trans ?_
  refine eq_rd3 (p := 8) (n := 4096) (m := 704) (arrU m c) (((cfg0.win 1).blk t).view.emb (ValueIdx.ix3 (0 : Fin 1) (⟨r, hr⟩ : Fin 1024) (⟨k, hk⟩ : Fin 704))) _ _ _ ?_ ?_ ?_
  · show win0_1.index t 0 * 1 + 1 * 0 = _
    omega
  · show win0_1.index t 1 * 1024 + 1 * r = _
    omega
  · show win0_1.index t 2 * 704 + 1 * k = _
    omega

/-- The block of the cotangent. -/
theorem blk2 (t : Fin cfg0.N) (r k : ℕ) (hr : r < 1024) (hk : k < 2048) :
    rd (iblk m c 2 t : Vec Ideal S1024x2048 .bf16) r k = rd (arrD m c) (1024 * (t.val % 4) + r) k := by
  have e := (idx_in t).2.2.1
  refine (rd_at (n := 1024) (m := 2048) _ r k hr hk).trans ?_
  refine eq_rd (n := 4096) (m := 2048) (arrD m c) (((cfg0.win 2).blk t).view.emb (ValueIdx.ix2 (⟨r, hr⟩ : Fin 1024) (⟨k, hk⟩ : Fin 2048))) _ _ ?_ ?_
  · show win0_2.index t 0 * 1024 + 1 * r = _
    omega
  · show win0_2.index t 1 * 2048 + 1 * k = _
    omega

/-! ## The sums -/

/-- A point's step of the sum. -/
theorem add0 (n : ℕ) (hn : n < cfg0.N) (s : Vec Ideal S704x2048 .f32) (i j : ℕ) (hi : i < 704) (hj : j < 2048)
    (hs : rd s i j = ∑ r ∈ Finset.range (1024 * (n % 4)), hid (rd3 (arrG m c) (n / 4) r i) (rd3 (arrU m c) (n / 4) r i) * rd (arrD m c) r j) :
    rd (k0_pay2 (iblk m c 0 ⟨n, hn⟩) (iblk m c 1 ⟨n, hn⟩) s (iblk m c 2 ⟨n, hn⟩)) i j
      = ∑ r ∈ Finset.range (1024 * (n % 4 + 1)), hid (rd3 (arrG m c) (n / 4) r i) (rd3 (arrU m c) (n / 4) r i) * rd (arrD m c) r j := by
  refine (step_at _ _ _ s i j hi hj).trans ?_
  rw [hs, Nat.mul_succ, Finset.sum_range_add]
  refine congrArg _ (Finset.sum_congr rfl fun l hl => ?_)
  have hl := Finset.mem_range.mp hl
  exact congrArg₂ (fun x y : EReal => x * y) (congrArg₂ hid (blk0 m c ⟨n, hn⟩ l i hl hi) (blk1 m c ⟨n, hn⟩ l i hl hi)) (blk2 m c ⟨n, hn⟩ l j hl hj)

/-- After a point of a slab that is not its last, the sum holds the products of the rows so far. -/
theorem sums (i j : ℕ) (hi : i < 704) (hj : j < 2048) : ∀ (n : ℕ) (hn : n < cfg0.N), n % 4 ≠ 3 →
    rd ((outsAt0 m c n hn).2 : Vec Ideal S704x2048 .f32) i j
      = ∑ r ∈ Finset.range (1024 * (n % 4 + 1)), hid (rd3 (arrG m c) (n / 4) r i) (rd3 (arrU m c) (n / 4) r i) * rd (arrD m c) r j := by
  intro n
  induction n using Nat.strong_induction_on with
  | _ n ih =>
    intro hn h3
    by_cases h0 : n % 4 = 0
    · rw [outsAt0_A m c ⟨n, hn⟩ h0 h3]
      dsimp only
      rw [first0]
      refine add0 m c n hn _ i j hi hj ?_
      rw [h0]
      exact zero_at i j hi hj
    · rw [outsAt0_B m c ⟨n, hn⟩ h0 h3]
      dsimp only
      rw [next0]
      have e := ih (n - 1) (by omega) (Nat.lt_of_le_of_lt (Nat.sub_le _ _) hn) (by omega)
      rw [show (n - 1) % 4 + 1 = n % 4 by omega, show (n - 1) / 4 = n / 4 by omega] at e
      exact add0 m c n hn _ i j hi hj e

/-- The down weight's gradient: half the products of a slab of hidden values with the cotangent. -/
def grad (G U : Vec Ideal S8x4096x704 .bf16) (D : Vec Ideal S4096x2048 .bf16) : Vec Ideal S8x704x2048 .bf16 :=
  fun y => ((1 / 2 : ℝ) : EReal) * ∑ r ∈ Finset.range 4096, hid (rd3 G (y 0).val r (y 1).val) (rd3 U (y 0).val r (y 1).val) * rd D r (y 2).val

/-- A written block by row and column. -/
theorem block3 (t : Fin cfg0.N) (s : Vec Ideal S704x2048 .f32) (y : S1x704x2048.Idx) :
    (cfg0.win 3).cut (grid0.coords t) (k0_pay3 s) y = rd (mulf (broadcast S704x2048 (Scalar.ofBits .f32 0x3F000000#32)) s : FVec Ideal S704x2048 .f32) (y 1).val (y 2).val :=
  slab_at (n := 704) (m := 2048) (mulf (broadcast S704x2048 (Scalar.ofBits .f32 0x3F000000#32)) s : FVec Ideal S704x2048 .f32) shapeCasts_S704x2048_S1x704x2048 y

/-- What is written back. -/
theorem flushed3 (t : Fin cfg0.N) (hf : (cfg0.win 3).flush t = true) :
    (dats m 0 c).flushed 3 t = ((cfg0.win 3).blk t).view.read (Elt Ideal) (grad (arrG m c) (arrU m c) (arrD m c)) := by
  have h1 : t.val % 4 = 3 := (flush0_3 t).mp hf
  rw [Value.flushed3_C m c t (by omega) h1, last0]
  obtain ⟨e0, e1, e2⟩ := (idx_in t).2.2.2
  funext y
  have y0 : (y 0).val < 1 := (y 0).isLt
  have y1 : (y 1).val < 704 := (y 1).isLt
  have y2 : (y 2).val < 2048 := (y 2).isLt
  have e := sums m c (y 1).val (y 2).val y1 y2 (t.val - 1) (Nat.lt_of_le_of_lt (Nat.sub_le _ _) t.isLt) (by omega)
  rw [show (t.val - 1) % 4 + 1 = t.val % 4 by omega, show (t.val - 1) / 4 = t.val / 4 by omega] at e
  refine (block3 t _ y).trans ?_
  refine (half_at _ _ _ y1 y2).trans ?_
  have f := add0 m c t.val t.isLt _ _ _ y1 y2 e
  rw [h1] at f
  refine (congrArg (fun z : EReal => ((1 / 2 : ℝ) : EReal) * z) f).trans ?_
  have f0 : (((cfg0.win 3).blk t).view.emb y 0).val = t.val / 4 := by
    show win0_3.index t 0 * 1 + 1 * (y 0).val = _
    omega
  have f1 : (((cfg0.win 3).blk t).view.emb y 1).val = (y 1).val := by
    show win0_3.index t 1 * 704 + 1 * (y 1).val = _
    omega
  have f2 : (((cfg0.win 3).blk t).view.emb y 2).val = (y 2).val := by
    show win0_3.index t 2 * 2048 + 1 * (y 2).val = _
    omega
  show _ = ((1 / 2 : ℝ) : EReal) * ∑ r ∈ Finset.range 4096, hid (rd3 (arrG m c) (((cfg0.win 3).blk t).view.emb y 0).val r (((cfg0.win 3).blk t).view.emb y 1).val)
    (rd3 (arrU m c) (((cfg0.win 3).blk t).view.emb y 0).val r (((cfg0.win 3).blk t).view.emb y 1).val) * rd (arrD m c) r (((cfg0.win 3).blk t).view.emb y 2).val
  rw [f0, f1, f2]

/-- The kernel's run: the gradient, the arguments unchanged. -/
theorem run : θ_run defs (onTc (τ := τ) (main (F := Ideal))) ⟨m, fun _ => 0, ρ⟩ fun r => ∀ c : Dev nD,
      r.2.mem ((c : Thread nD τ).loc main_v0) = grad (arrG m c) (arrU m c) (arrD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 (grad (arrG m c) (arrU m c) (arrD m c)) (flushed3 m c) fun i =>
      (Value.covered_iff3 i).2 ⟨Nat.zero_le _, (i 0).isLt, Nat.zero_le _, (i 1).isLt, Nat.zero_le _, (i 2).isLt⟩), (h c).2⟩)
    (Value.run_blocks m ρ)

end Cert.Kernel3Ideal.Sum

namespace Cert.Reference3Ideal.Sum

open Idealize.ShloMosaic Idealize.ShloMosaic.TcCoe Idealize.SL.Sem Cert.Reference3Ideal Cert.Reference3Ideal.Gen Cert.Prods
open Cert.KernelIdeal.Conv (rd rd3 eq_rd eq_rd3 rd_at)
open Cert.Cols (sg half_eq)
open Cert.Kernel3Ideal.Sum (hid grad)

/-- The host's product of columns with columns. -/
theorem dot_at (A : FVec Ideal S4096x2048 .f32) (B : FVec Ideal S4096x5632 .f32) (r : Fin 2048) (q : Fin 5632) :
    Host.dotGeneral dot_S4096x2048_S4096x5632_S2048x5632_0_0_1_1_n_n none A B (ix2 r q) = ∑ l : Fin 4096, A (ix2 l r) * B (ix2 l q) := by
  simp only [pointwise, zero_add]

/-- The hidden values of a gate and an up product. -/
theorem hid_at (G U : FVec Ideal S4096x5632 .f32) (i j : ℕ) (hi : i < 4096) (hj : j < 5632) :
    rd (mulf (mulf G (Host.divf (broadcastInDim S4096x5632 ![] bcast_S_S4096x5632 (constant S_ .f32 0x3F800000#32))
      (addf (broadcastInDim S4096x5632 ![] bcast_S_S4096x5632 (constant S_ .f32 0x3F800000#32)) (Host.exp (Host.negf G))))) U : FVec Ideal S4096x5632 .f32) i j
      = hid (rd G i j) (rd U i j) := by
  rw [rd_at _ i j hi hj, rd_at G i j hi hj, rd_at U i j hi hj]
  refine congrArg (fun z : EReal => z * _) (congrArg (fun z : EReal => _ * z) ?_)
  show Ideal.div (Ideal.ofBits .f32 0x3F800000#32) (Ideal.ofBits .f32 0x3F800000#32 + Ideal.exp (-_)) = _
  rw [Ideal.ofBits_one_f32]
  rfl

/-- Half the cotangent. -/
theorem half_at (D : FVec Ideal S4096x2048 .f32) (i j : ℕ) (hi : i < 4096) (hj : j < 2048) :
    rd (mulf (broadcastInDim S4096x2048 ![] bcast_S_S4096x2048 (constant S_ .f32 0x3F000000#32)) D : FVec Ideal S4096x2048 .f32) i j = ((1 / 2 : ℝ) : EReal) * rd D i j := by
  rw [rd_at _ i j hi hj, rd_at D i j hi hj]
  show Ideal.ofBits .f32 0x3F000000#32 * _ = _
  rw [half_eq]

/-- The derivative with respect to the down weight, entry by entry. -/
theorem grad_eq (G U : FVec Ideal S8x4096x704 .bf16) (D : FVec Ideal S4096x2048 .bf16) :
    (truncf .bf16 (shapeCast S8x704x2048 (transpose S5632x2048 [1, 0] (Host.dotGeneral dot_S4096x2048_S4096x5632_S2048x5632_0_0_1_1_n_n none
      (mulf (broadcastInDim S4096x2048 ![] bcast_S_S4096x2048 (constant S_ .f32 0x3F000000#32)) (extf .f32 D bitsLt_bf16_f32))
      (mulf (mulf (shapeCast S4096x5632 (transpose S4096x8x704 [1, 0, 2] (extf .f32 G bitsLt_bf16_f32) transposes_S8x4096x704_S4096x8x704_1_0_2) shapeCasts_S4096x8x704_S4096x5632)
        (Host.divf (broadcastInDim S4096x5632 ![] bcast_S_S4096x5632 (constant S_ .f32 0x3F800000#32))
          (addf (broadcastInDim S4096x5632 ![] bcast_S_S4096x5632 (constant S_ .f32 0x3F800000#32)) (Host.exp (Host.negf
            (shapeCast S4096x5632 (transpose S4096x8x704 [1, 0, 2] (extf .f32 G bitsLt_bf16_f32) transposes_S8x4096x704_S4096x8x704_1_0_2) shapeCasts_S4096x8x704_S4096x5632))))))
        (shapeCast S4096x5632 (transpose S4096x8x704 [1, 0, 2] (extf .f32 U bitsLt_bf16_f32) transposes_S8x4096x704_S4096x8x704_1_0_2) shapeCasts_S4096x8x704_S4096x5632)))
      transposes_S2048x5632_S5632x2048_1_0) shapeCasts_S5632x2048_S8x704x2048) bitsLt_bf16_f32 : FVec Ideal S8x704x2048 .bf16) = grad G U D := by
  funext y
  have y0 : (y 0).val < 8 := (y 0).isLt
  have y1 : (y 1).val < 704 := (y 1).isLt
  have y2 : (y 2).val < 2048 := (y 2).isLt
  refine (eq_rd3 (p := 8) (n := 704) (m := 2048) _ y _ _ _ rfl rfl rfl).trans ?_
  refine (rd3_trunc (p := 8) (n := 704) (m := 2048) _ _ _ _ _).trans ?_
  refine (rd3_groups (p := 8) (n := 704) (m := 2048) _ _ _ _ _ y0 y1 y2).trans ?_
  refine (rd_swap (n := 2048) (m := 5632) _ _ _ _ (by omega) y2).trans ?_
  refine (rd_dot_tn (n := 2048) (m := 5632) (k := 4096) _ _ _ (dot_at _ _) _ _ y2 (by omega)).trans ?_
  refine Eq.trans ?_ (half_sum _ 4096).symm
  refine Finset.sum_congr rfl fun l hl => ?_
  have hl := Finset.mem_range.mp hl
  refine (congrArg₂ (fun x y : EReal => x * y) (half_at _ l _ hl y2) ((hid_at _ _ l _ hl (by omega)).trans (congrArg₂ hid
    (rd_beside (p := 8) (n := 4096) (w := 704) (extf .f32 G bitsLt_bf16_f32) _ _ l _ _ hl y0 y1) (rd_beside (p := 8) (n := 4096) (w := 704) (extf .f32 U bitsLt_bf16_f32) _ _ l _ _ hl y0 y1)))).trans ?_
  refine (mul_assoc _ _ _).trans (congrArg (fun z : EReal => ((1 / 2 : ℝ) : EReal) * z) (mul_comm _ _))

end Cert.Reference3Ideal.Sum

namespace Cert.Proof

open Idealize.ShloMosaic Idealize.ShloMosaic.TcCoe Idealize.SL.Sem

/-- The kernel computes the derivative with respect to the down weight. -/
theorem algebraic3 : Cert.algebraic_Kernel3Ideal_Reference3Ideal := fun m g m' g' _ h =>
  ⟨_, Cert.Kernel3Ideal.Sum.run m g, (θ_run Cert.Reference3Ideal.defs _ _).mono (fun r k c => by
    obtain ⟨h0, h1, h2⟩ := h c
    obtain ⟨k0, k⟩ := k c
    refine ⟨k0.trans ?_, k⟩
    rw [h0, h1, h2]
    exact Cert.Reference3Ideal.Sum.grad_eq _ _ _) (Cert.Reference3Ideal.Value.run m' g')⟩

end Cert.Proof

end
-- ==== Proof.GradRows2.lean ====
/-
  The gradient of the second layer's rows through its gate: the sum over eight slabs of the channels' gradient with a
  weight, in blocks of 512 rows.
-/
module

public import proofs.«01_k».proof.Proof.Prods
public import proofs.«01_k».proof.Proof.Gen.Kernel4Ideal.Value
public import proofs.«01_k».proof.Proof.Gen.Reference4Ideal.Run
public import proofs.«01_k».proof.Defs
public import Idealize.ShloMosaic.Lib.Pipeline.Value
public import Idealize.ShloMosaic.Lib.Claim

@[expose] public section

noncomputable section

namespace Cert.Kernel4Ideal.Prod

open Idealize.ShloMosaic Idealize.ShloMosaic.TcCoe Idealize.SL.Sem Cert.Kernel4Ideal Cert.Kernel4Ideal.Gen Cert.Prods
open Cert.KernelIdeal.Conv (rd rd3 eq_rd eq_rd3 rd_at rd3_at)
open Idealize.ShloMosaic.Pipeline (Dat)

/-- The rows' gradient. -/
def grad (D : Vec Ideal S8x4096x704 .bf16) (W : Vec Ideal S8x704x2048 .bf16) : Vec Ideal S4096x2048 .f32 :=
  fun y => ∑ q ∈ Finset.range 8, ∑ l ∈ Finset.range 704, rd3 D q (y 0).val l * rd3 W q l (y 1).val

/-- One slab's products. -/
def slab (x : FVec Ideal S1x512x704 .bf16) (w : FVec Ideal S1x704x2048 .bf16) (r : Fin 512) (q : Fin 2048) : EReal :=
  ∑ l : Fin 704, x (ix3 (0 : Fin 1) r l) * w (ix3 (0 : Fin 1) l q)

/-- A slab's products by row and column. -/
theorem slab_eq (x : FVec Ideal S8x512x704 .bf16) (w : FVec Ideal S8x704x2048 .bf16) (o : ℕ) (ho : o < 8)
    (hx : ∀ a, (![o, 0, 0] : Fin 3 → Nat) a + S1x512x704.size a ≤ S8x512x704.size a) (hw : ∀ a, (![o, 0, 0] : Fin 3 → Nat) a + S1x704x2048.size a ≤ S8x704x2048.size a)
    (r : Fin 512) (q : Fin 2048) :
    slab (View.ld (Val := Elt Ideal) (e' := .bf16) x (Rect.unit (s := S8x512x704) ![o, 0, 0] S1x512x704.size hx))
      (View.ld (Val := Elt Ideal) (e' := .bf16) w (Rect.unit (s := S8x704x2048) ![o, 0, 0] S1x704x2048.size hw)) r q
      = ∑ l ∈ Finset.range 704, rd3 x o r.val l * rd3 w o l q.val := by
  refine sum_fin 704 _ _ fun l => congrArg₂ (fun x y : EReal => x * y) ?_ ?_
  · refine eq_rd3 (p := 8) (n := 512) (m := 704) x _ _ _ _ ?_ ?_ ?_
    · show o + 1 * 0 = o
      omega
    · show 0 + 1 * r.val = r.val
      omega
    · show 0 + 1 * l.val = l.val
      omega
  · refine eq_rd3 (p := 8) (n := 704) (m := 2048) w _ _ _ _ ?_ ?_ ?_
    · show o + 1 * 0 = o
      omega
    · show 0 + 1 * l.val = l.val
      omega
    · show 0 + 1 * q.val = q.val
      omega

/-- The body's sum of eight products. -/
theorem pay_at (a0 a1 a2 a3 a4 a5 a6 a7 : Vec Ideal S1x512x704 .bf16) (b0 b1 b2 b3 b4 b5 b6 b7 : Vec Ideal S1x704x2048 .bf16) (r : Fin 512) (q : Fin 2048) :
    k0_pay1 (F := Ideal) (k0_pay2 a0 b0 a1 b1 a2 b2 a3 b3) (k0_pay3 a4) b4 a5 b5 a6 b6 a7 b7 (ix2 r q)
      = slab a0 b0 r q + slab a1 b1 r q + slab a2 b2 r q + slab a3 b3 r q + slab a4 b4 r q + slab a5 b5 r q + slab a6 b6 r q + slab a7 b7 r q := by
  unfold k0_pay1 k0_pay2 k0_pay3 slab
  simp only [pointwise, zero_add]

/-- A point's block is the sum over the slabs. -/
theorem out2_at (x0 : Vec Ideal S8x512x704 .bf16) (x1 : Vec Ideal S8x704x2048 .bf16) (i j : ℕ) (hi : i < 512) (hj : j < 2048) :
    rd (out0_2 x0 x1) i j = ∑ q ∈ Finset.range 8, ∑ l ∈ Finset.range 704, rd3 x0 q i l * rd3 x1 q l j := by
  refine (rd_ix (n := 512) (m := 2048) _ i j hi hj).trans ?_
  unfold out0_2
  rw [View.canon_unit_zero hz]
  refine (pay_at _ _ _ _ _ _ _ _ _ _ _ _ _ _ _ _ _ _).trans ?_
  rw [slab_eq x0 x1 0 (by omega), slab_eq x0 x1 1 (by omega), slab_eq x0 x1 2 (by omega), slab_eq x0 x1 3 (by omega), slab_eq x0 x1 4 (by omega), slab_eq x0 x1 5 (by omega), slab_eq x0 x1 6 (by omega), slab_eq x0 x1 7 (by omega)]
  simp only [Finset.sum_range_succ _ 7, Finset.sum_range_succ _ 6, Finset.sum_range_succ _ 5, Finset.sum_range_succ _ 4, Finset.sum_range_succ _ 3,
    Finset.sum_range_succ _ 2, Finset.sum_range_succ _ 1, Finset.sum_range_succ _ 0, Finset.sum_range_zero, zero_add]

/-! ## The blocks of the arguments -/

variable (m : (ℓ : Loc nD τ sig) → Buf (Elt Ideal) ℓ) (ρ : Dev nD → PrngReg) (c : Dev nD)

/-- The channels' gradient, as launched. -/
abbrev arrD : Vec Ideal S8x4096x704 .bf16 := m ((c : Thread nD τ).loc main_arg0)
/-- The weight, as launched. -/
abbrev arrW : Vec Ideal S8x704x2048 .bf16 := m ((c : Thread nD τ).loc main_arg1)

/-- Point `t` is given row block `t` and the whole weight. -/
theorem idx_in : ∀ t : Fin grid0.N, (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0) := by decide +kernel

/-- The block of rows. -/
theorem blk0 (t : Fin cfg0.N) (q r k : ℕ) (hq : q < 8) (hr : r < 512) (hk : k < 704) :
    rd3 (iblk m c 0 t : Vec Ideal S8x512x704 .bf16) q r k = rd3 (arrD m c) q (512 * t.val + r) k := by
  have e := (idx_in t).1
  refine (rd3_at (p := 8) (n := 512) (m := 704) _ q r k hq hr hk).trans ?_
  refine eq_rd3 (p := 8) (n := 4096) (m := 704) (arrD m c) (((cfg0.win 0).blk t).view.emb (ValueIdx.ix3 (⟨q, hq⟩ : Fin 8) (⟨r, hr⟩ : Fin 512) (⟨k, hk⟩ : Fin 704))) _ _ _ ?_ ?_ ?_
  · show win0_0.index t 0 * 8 + 1 * q = _
    omega
  · show win0_0.index t 1 * 512 + 1 * r = _
    omega
  · show win0_0.index t 2 * 704 + 1 * k = _
    omega

/-- The weight. -/
theorem blk1 (t : Fin cfg0.N) (q r k : ℕ) (hq : q < 8) (hr : r < 704) (hk : k < 2048) :
    rd3 (iblk m c 1 t : Vec Ideal S8x704x2048 .bf16) q r k = rd3 (arrW m c) q r k := by
  have e := (idx_in t).2.1
  refine (rd3_at (p := 8) (n := 704) (m := 2048) _ q r k hq hr hk).trans ?_
  refine eq_rd3 (p := 8) (n := 704) (m := 2048) (arrW m c) (((cfg0.win 1).blk t).view.emb (ValueIdx.ix3 (⟨q, hq⟩ : Fin 8) (⟨r, hr⟩ : Fin 704) (⟨k, hk⟩ : Fin 2048))) _ _ _ ?_ ?_ ?_
  · show win0_1.index t 0 * 8 + 1 * q = _
    omega
  · show win0_1.index t 1 * 704 + 1 * r = _
    omega
  · show win0_1.index t 2 * 2048 + 1 * k = _
    omega

/-! ## The result -/

/-- A block of the body's result by row and column. -/
theorem block2 (X : Vec Ideal S512x2048 .f32) (t : Fin cfg0.N) (y : S512x2048.Idx) : (cfg0.win 2).cut (grid0.coords t) X y = rd X (y 0).val (y 1).val :=
  eq_rd (n := 512) (m := 2048) X y _ _ rfl rfl

/-- What a point writes back. -/
theorem flushed2 (t : Fin cfg0.N) : (dats m 0 c).flushed 2 t = ((cfg0.win 2).blk t).view.read (Elt Ideal) (grad (arrD m c) (arrW m c)) := by
  show (cfg0.win 2).cut (grid0.coords t) ((dats m 0 c).after 2 t) = _
  rw [after0_2]
  obtain ⟨e0, e1⟩ := (idx_in t).2.2
  funext y
  have y0 : (y 0).val < 512 := (y 0).isLt
  have y1 : (y 1).val < 2048 := (y 1).isLt
  refine (block2 _ t y).trans ?_
  refine (out2_at _ _ _ _ y0 y1).trans ?_
  have f0 : (((cfg0.win 2).blk t).view.emb y 0).val = 512 * t.val + (y 0).val := by
    show win0_2.index t 0 * 512 + 1 * (y 0).val = _
    omega
  have f1 : (((cfg0.win 2).blk t).view.emb y 1).val = (y 1).val := by
    show win0_2.index t 1 * 2048 + 1 * (y 1).val = _
    omega
  show _ = ∑ q ∈ Finset.range 8, ∑ l ∈ Finset.range 704, rd3 (arrD m c) q (((cfg0.win 2).blk t).view.emb y 0).val l
    * rd3 (arrW m c) q l (((cfg0.win 2).blk t).view.emb y 1).val
  rw [f0, f1]
  refine Finset.sum_congr rfl fun q hq => Finset.sum_congr rfl fun l hl => ?_
  have hq := Finset.mem_range.mp hq
  have hl := Finset.mem_range.mp hl
  exact congrArg₂ (fun x y : EReal => x * y) (blk0 m c t q _ l hq y0 hl) (blk1 m c t q l _ hq hl y1)

/-- Every entry is in some point's block. -/
theorem cover2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, ht⟩ : ∃ t : Fin cfg0.N, t.val = (i 0).val / 512 :=
    ⟨⟨(i 0).val / 512, Nat.lt_of_lt_of_eq (show _ < 8 by omega) N_0.symm⟩, rfl⟩
  obtain ⟨e0, e1⟩ := (idx_in t).2.2
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 512 ≤ (i 0).val ∧ (i 0).val < win0_2.index t 0 * 512 + 512
    omega
  | ⟨1, _⟩ =>
    show win0_2.index t 1 * 2048 ≤ (i 1).val ∧ (i 1).val < win0_2.index t 1 * 2048 + 2048
    omega

/-- The kernel's run: the rows' gradient, the arguments unchanged. -/
theorem run : θ_run defs (onTc (τ := τ) (main (F := Ideal))) ⟨m, fun _ => 0, ρ⟩ fun r => ∀ c : Dev nD,
      r.2.mem ((c : Thread nD τ).loc main_v0) = grad (arrD m c) (arrW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (grad (arrD m c) (arrW m c)) (fun t _ => flushed2 m c t) cover2), (h c).2⟩)
    (Value.run_blocks m ρ)

end Cert.Kernel4Ideal.Prod

namespace Cert.Reference4Ideal.Prod

open Idealize.ShloMosaic Idealize.ShloMosaic.TcCoe Idealize.SL.Sem Cert.Reference4Ideal Cert.Reference4Ideal.Gen Cert.Prods
open Cert.KernelIdeal.Conv (rd rd3 eq_rd eq_rd3)
open Cert.Cols (sum_blocks)

/-- The host's product of rows with rows. -/
theorem dot_at (A : FVec Ideal S4096x5632 .f32) (B : FVec Ideal S2048x5632 .f32) (r : Fin 4096) (q : Fin 2048) :
    Host.dotGeneral dot_S4096x5632_S2048x5632_S4096x2048_1_1_0_0_n_n none A B (ix2 r q) = ∑ l : Fin 5632, A (ix2 r l) * B (ix2 q l) := by
  simp only [pointwise, zero_add]

/-- The rows' gradient, entry by entry. -/
theorem grad_eq (D : FVec Ideal S8x4096x704 .bf16) (W : FVec Ideal S8x704x2048 .bf16) :
    (Host.dotGeneral dot_S4096x5632_S2048x5632_S4096x2048_1_1_0_0_n_n none
      (shapeCast S4096x5632 (transpose S4096x8x704 [1, 0, 2] (extf .f32 D bitsLt_bf16_f32) transposes_S8x4096x704_S4096x8x704_1_0_2) shapeCasts_S4096x8x704_S4096x5632)
      (transpose S2048x5632 [1, 0] (shapeCast S5632x2048 (extf .f32 W bitsLt_bf16_f32) shapeCasts_S8x704x2048_S5632x2048) transposes_S5632x2048_S2048x5632_1_0) : FVec Ideal S4096x2048 .f32)
      = Cert.Kernel4Ideal.Prod.grad D W := by
  funext y
  have y0 : (y 0).val < 4096 := (y 0).isLt
  have y1 : (y 1).val < 2048 := (y 1).isLt
  refine (eq_rd (n := 4096) (m := 2048) _ y _ _ rfl rfl).trans ?_
  refine (rd_dot_nt (n := 4096) (m := 2048) (k := 5632) _ _ _ (dot_at _ _) _ _ y0 y1).trans ?_
  refine (sum_blocks _ 8 704).symm.trans ?_
  refine Finset.sum_congr rfl fun q hq => Finset.sum_congr rfl fun l hl => ?_
  have hq := Finset.mem_range.mp hq
  have hl := Finset.mem_range.mp hl
  have e : 704 * q + l = q * 704 + l := by omega
  rw [e]
  refine congrArg₂ (fun x y : EReal => x * y) ?_ ?_
  · exact rd_beside (p := 8) (n := 4096) (w := 704) (extf .f32 D bitsLt_bf16_f32) _ _ _ _ _ y0 hq hl
  · refine (rd_swap (n := 5632) (m := 2048) _ _ _ _ y1 (by omega)).trans ?_
    exact rd_stack (p := 8) (n := 704) (m := 2048) (extf .f32 W bitsLt_bf16_f32) _ _ _ _ hq hl y1

end Cert.Reference4Ideal.Prod

namespace Cert.Proof

open Idealize.ShloMosaic Idealize.ShloMosaic.TcCoe Idealize.SL.Sem

/-- The kernel computes the rows' gradient. -/
theorem algebraic4 : Cert.algebraic_Kernel4Ideal_Reference4Ideal := fun m g m' g' _ h =>
  ⟨_, Cert.Kernel4Ideal.Prod.run m g, (θ_run Cert.Reference4Ideal.defs _ _).mono (fun r k c => by
    obtain ⟨h0, h1⟩ := h c
    obtain ⟨k0, k⟩ := k c
    refine ⟨k0.trans ?_, k⟩
    rw [h0, h1]
    exact Cert.Reference4Ideal.Prod.grad_eq _ _) (Cert.Reference4Ideal.Value.run m' g')⟩

end Cert.Proof

end
-- ==== Proof.GradMixOut.lean ====
/-
  The mixing layer's output weight's gradient over 4096 rows: the kernel adds up the products of four blocks of 1024 rows.
-/
module

public import proofs.«01_k».proof.Proof.Prods
public import proofs.«01_k».proof.Proof.RefCols
public import proofs.«01_k».proof.Proof.Gen.Kernel5Ideal.Value
public import proofs.«01_k».proof.Proof.Gen.Reference5Ideal.Run
public import proofs.«01_k».proof.Defs
public import Idealize.ShloMosaic.Lib.Pipeline.Value
public import Idealize.ShloMosaic.Lib.Claim

@[expose] public section

noncomputable section

namespace Cert.Kernel5Ideal.Sum

open Idealize.ShloMosaic Idealize.ShloMosaic.TcCoe Idealize.ShloMosaic.Tactic Idealize.SL.Sem Cert.Kernel5Ideal Cert.Kernel5Ideal.Gen Cert.Prods
open Cert.KernelIdeal.Conv (rd rd3 eq_rd eq_rd3 rd_at rd3_at)
open Cert.Cols (sg sig_eq half_eq)
open Idealize.ShloMosaic.Pipeline (Dat)

/-! ## What the body leaves -/

section Cases
variable (c : Dev nD) (i : grid0.Coords) (a1 : Memref sig .tc .vmem S1024x2048 .bf16) (h1 : a1.IsWhole) (a2 : Memref sig .tc .vmem S1024x2048 .bf16) (h2 : a2.IsWhole)
  (a3 : Memref sig .tc .vmem S2048x2048 .bf16) (h3 : a3.IsWhole) (a4 : Memref sig .tc .vmem S2048x2048 .f32) (h4 : a4.IsWhole)
  (x0 x1 : Vec Ideal S1024x2048 .bf16) (s0 : Vec Ideal S2048x2048 .f32)

/-- The first block of rows starts the sum from zero. -/
theorem first0 (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S2048x2048) hz, View.readCov_unit_zero (S := S2048x2048) _ hz]
  simp only [View.readAt_eq_ld, h1.read_unread, h2.read_unread, View.ld_unit_zero (S := S1024x2048) hz]

/-- A middle block of rows adds its product. -/
theorem next0 (hc : ¬cond0_0 i) (hd : ¬cond0_1 i) : sout0_B_0 c i a1 h1 a2 h2 a3 h3 a4 h4 hc hd x0 x1 s0 = k0_pay2 s0 x0 x1 := by
  unfold sout0_B_0
  rw [View.read_writes_eq_canon _ _ _ (scover0_B_0 c i a1 h1 a2 h2 a3 h3 a4 h4 hc hd x0 x1 s0)]
  unfold kernelRun0_B
  dsimp only
  rw [View.canon_unit_zero hz]
  simp only [View.readAt_eq_ld, h1.read_unread, h2.read_unread, h4.read_unread, View.ld_unit_zero (S := S1024x2048) hz, View.ld_unit_zero (S := S2048x2048) hz]

/-- The last block's sum is written out. -/
theorem last0 (hc : ¬cond0_0 i) (hd : cond0_1 i) : out0_C_2 c i a1 h1 a2 h2 a3 h3 a4 h4 hc hd x0 x1 s0 = k0_pay3 (k0_pay2 s0 x0 x1) := by
  unfold out0_C_2
  rw [View.read_writes_eq_canon _ _ _ (cover0_C_2 c i a1 h1 a2 h2 a3 h3 a4 h4 hc hd x0 x1 s0)]
  unfold kernelRun0_C
  dsimp only
  sl_unfold_words
  rw [View.canon_unit_zero hz, View.readCov_unit_zero (S := S2048x2048) _ hz]
  simp only [View.readAt_eq_ld, h1.read_unread, h2.read_unread, h4.read_unread, View.ld_unit_zero (S := S1024x2048) hz, View.ld_unit_zero (S := S2048x2048) hz]

end Cases

/-! ## The step by row and column -/

section Entries
variable (x0 x1 : Vec Ideal S1024x2048 .bf16) (s : Vec Ideal S2048x2048 .f32) (i j : ℕ) (hi : i < 2048) (hj : j < 2048)
include hi hj

/-- The sum starts from zero. -/
theorem zero_at : rd (k0_pay1 (F := Ideal)) i j = 0 := by
  refine (rd_at (n := 2048) (m := 2048) _ i j hi hj).trans ?_
  unfold k0_pay1
  rw [shapeCast_self]
  exact Ideal.ofBits_zero_f32

/-- A step adds the product of a block of rows. -/
theorem step_at : rd (k0_pay2 s x0 x1) i j = rd s i j + ∑ l ∈ Finset.range 1024, rd x0 l i * rd x1 l j :=
  rd_tn (n := 2048) (m := 2048) (k := 1024) (k0_pay2 s x0 x1) s x0 x1 (fun r q => by
    unfold k0_pay2
    simp only [shapeCast_self, pointwise, zero_add]) i j hi hj

end Entries

/-! ## The blocks of the arguments -/

variable (m : (ℓ : Loc nD τ sig) → Buf (Elt Ideal) ℓ) (ρ : Dev nD → PrngReg) (c : Dev nD)

/-- The layer's gated rows, as launched. -/
abbrev arrY : Vec Ideal S4096x2048 .bf16 := m ((c : Thread nD τ).loc main_arg0)
/-- The layer's cotangent, as launched. -/
abbrev arrD : Vec Ideal S4096x2048 .bf16 := m ((c : Thread nD τ).loc main_arg1)

/-- Point `b` is given rows `1024 b …`. -/
theorem idx_in : ∀ t : Fin grid0.N, (win0_0.index t 0 = t.val % 4 ∧ win0_0.index t 1 = 0)
    ∧ (win0_1.index t 0 = t.val % 4 ∧ win0_1.index t 1 = 0)
    ∧ (win0_2.index t 0 = 0 ∧ win0_2.index t 1 = 0) := by decide +kernel

/-- The block of the rows. -/
theorem blk0 (t : Fin cfg0.N) (r k : ℕ) (hr : r < 1024) (hk : k < 2048) :
    rd (iblk m c 0 t : Vec Ideal S1024x2048 .bf16) r k = rd (arrY m c) (1024 * (t.val % 4) + r) k := by
  have e := (idx_in t).1
  refine (rd_at (n := 1024) (m := 2048) _ r k hr hk).trans ?_
  refine eq_rd (n := 4096) (m := 2048) (arrY m c) (((cfg0.win 0).blk t).view.emb (ValueIdx.ix2 (⟨r, hr⟩ : Fin 1024) (⟨k, hk⟩ : Fin 2048))) _ _ ?_ ?_
  · show win0_0.index t 0 * 1024 + 1 * r = _
    omega
  · show win0_0.index t 1 * 2048 + 1 * k = _
    omega

/-- The block of the cotangent. -/
theorem blk1 (t : Fin cfg0.N) (r k : ℕ) (hr : r < 1024) (hk : k < 2048) :
    rd (iblk m c 1 t : Vec Ideal S1024x2048 .bf16) r k = rd (arrD m c) (1024 * (t.val % 4) + r) k := by
  have e := (idx_in t).2.1
  refine (rd_at (n := 1024) (m := 2048) _ r k hr hk).trans ?_
  refine eq_rd (n := 4096) (m := 2048) (arrD m c) (((cfg0.win 1).blk t).view.emb (ValueIdx.ix2 (⟨r, hr⟩ : Fin 1024) (⟨k, hk⟩ : Fin 2048))) _ _ ?_ ?_
  · show win0_1.index t 0 * 1024 + 1 * r = _
    omega
  · show win0_1.index t 1 * 2048 + 1 * k = _
    omega

/-! ## The sums -/

/-- A point's step of the sum. -/
theorem add0 (n : ℕ) (hn : n < cfg0.N) (s : Vec Ideal S2048x2048 .f32) (i j : ℕ) (hi : i < 2048) (hj : j < 2048)
    (hs : rd s i j = ∑ r ∈ Finset.range (1024 * (n % 4)), rd (arrY m c) r i * rd (arrD m c) r j) :
    rd (k0_pay2 s (iblk m c 0 ⟨n, hn⟩) (iblk m c 1 ⟨n, hn⟩)) i j = ∑ r ∈ Finset.range (1024 * (n % 4 + 1)), rd (arrY m c) r i * rd (arrD m c) r j := by
  refine (step_at _ _ s i j hi hj).trans ?_
  rw [hs, Nat.mul_succ, Finset.sum_range_add]
  refine congrArg _ (Finset.sum_congr rfl fun l hl => ?_)
  have hl := Finset.mem_range.mp hl
  exact congrArg₂ (fun x y : EReal => x * y) (blk0 m c ⟨n, hn⟩ l i hl hi) (blk1 m c ⟨n, hn⟩ l j hl hj)

/-- After a point that is not the last, the sum holds the products of the rows so far. -/
theorem sums (i j : ℕ) (hi : i < 2048) (hj : j < 2048) : ∀ (n : ℕ) (hn : n < cfg0.N), n % 4 ≠ 3 →
    rd ((outsAt0 m c n hn).2 : Vec Ideal S2048x2048 .f32) i j = ∑ r ∈ Finset.range (1024 * (n % 4 + 1)), rd (arrY m c) r i * rd (arrD m c) r j := by
  intro n
  induction n using Nat.strong_induction_on with
  | _ n ih =>
    intro hn h3
    by_cases h0 : n % 4 = 0
    · rw [outsAt0_A m c ⟨n, hn⟩ h0 h3]
      dsimp only
      rw [first0]
      refine add0 m c n hn _ i j hi hj ?_
      rw [h0]
      exact zero_at i j hi hj
    · rw [outsAt0_B m c ⟨n, hn⟩ h0 h3]
      dsimp only
      rw [next0]
      have e := ih (n - 1) (by omega) (Nat.lt_of_le_of_lt (Nat.sub_le _ _) hn) (by omega)
      rw [show (n - 1) % 4 + 1 = n % 4 by omega] at e
      exact add0 m c n hn _ i j hi hj e

/-- The weight's gradient: the products of the rows with the cotangent. -/
def grad (Y D : Vec Ideal S4096x2048 .bf16) : Vec Ideal S2048x2048 .bf16 :=
  fun y => ∑ r ∈ Finset.range 4096, rd Y r (y 0).val * rd D r (y 1).val

/-- A written block by row and column. -/
theorem block2 (t : Fin cfg0.N) (s : Vec Ideal S2048x2048 .f32) (y : S2048x2048.Idx) : (cfg0.win 2).cut (grid0.coords t) (k0_pay3 s) y = rd s (y 0).val (y 1).val :=
  eq_rd (n := 2048) (m := 2048) s y _ _ rfl rfl

/-- What is written back. -/
theorem flushed2 (t : Fin cfg0.N) (hf : (cfg0.win 2).flush t = true) :
    (dats m 0 c).flushed 2 t = ((cfg0.win 2).blk t).view.read (Elt Ideal) (grad (arrY m c) (arrD m c)) := by
  have h1 : t.val % 4 = 3 := (flush0_2 t).mp hf
  rw [Value.flushed2_C m c t (by omega) h1, last0]
  obtain ⟨e0, e1⟩ := (idx_in t).2.2
  funext y
  have y0 : (y 0).val < 2048 := (y 0).isLt
  have y1 : (y 1).val < 2048 := (y 1).isLt
  have e := sums m c (y 0).val (y 1).val y0 y1 (t.val - 1) (Nat.lt_of_le_of_lt (Nat.sub_le _ _) t.isLt) (by omega)
  rw [show (t.val - 1) % 4 + 1 = t.val % 4 by omega] at e
  refine (block2 t _ y).trans ?_
  refine (add0 m c t.val t.isLt _ _ _ y0 y1 e).trans ?_
  rw [h1]
  have f0 : (((cfg0.win 2).blk t).view.emb y 0).val = (y 0).val := by
    show win0_2.index t 0 * 2048 + 1 * (y 0).val = _
    omega
  have f1 : (((cfg0.win 2).blk t).view.emb y 1).val = (y 1).val := by
    show win0_2.index t 1 * 2048 + 1 * (y 1).val = _
    omega
  show _ = ∑ r ∈ Finset.range 4096, rd (arrY m c) r (((cfg0.win 2).blk t).view.emb y 0).val * rd (arrD m c) r (((cfg0.win 2).blk t).view.emb y 1).val
  rw [f0, f1]

/-- The kernel's run: the gradient, the arguments unchanged. -/
theorem run : θ_run defs (onTc (τ := τ) (main (F := Ideal))) ⟨m, fun _ => 0, ρ⟩ fun r => ∀ c : Dev nD,
      r.2.mem ((c : Thread nD τ).loc main_v0) = grad (arrY m c) (arrD m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (grad (arrY m c) (arrD m c)) (flushed2 m c) fun i =>
      (Value.covered_iff2 i).2 ⟨Nat.zero_le _, (i 0).isLt, Nat.zero_le _, (i 1).isLt⟩), (h c).2⟩)
    (Value.run_blocks m ρ)

end Cert.Kernel5Ideal.Sum

namespace Cert.Reference5Ideal.Sum

open Idealize.ShloMosaic Idealize.ShloMosaic.TcCoe Idealize.SL.Sem Cert.Reference5Ideal Cert.Reference5Ideal.Gen Cert.Prods
open Cert.KernelIdeal.Conv (rd eq_rd)

/-- The host's product of columns with columns. -/
theorem dot_at (A B : FVec Ideal S4096x2048 .f32) (r q : Fin 2048) :
    Host.dotGeneral dot_S4096x2048_S4096x2048_S2048x2048_0_0_1_1_n_n none A B (ix2 r q) = ∑ l : Fin 4096, A (ix2 l r) * B (ix2 l q) := by
  simp only [pointwise, zero_add]

/-- The derivative with respect to the weight, entry by entry. -/
theorem grad_eq (Y D : FVec Ideal S4096x2048 .bf16) :
    (truncf .bf16 (transpose S2048x2048 [1, 0] (Host.dotGeneral dot_S4096x2048_S4096x2048_S2048x2048_0_0_1_1_n_n none (extf .f32 D bitsLt_bf16_f32) (extf .f32 Y bitsLt_bf16_f32))
      transposes_S2048x2048_S2048x2048_1_0) bitsLt_bf16_f32 : FVec Ideal S2048x2048 .bf16) = Cert.Kernel5Ideal.Sum.grad Y D := by
  funext y
  have y0 : (y 0).val < 2048 := (y 0).isLt
  have y1 : (y 1).val < 2048 := (y 1).isLt
  refine (eq_rd (n := 2048) (m := 2048) _ y _ _ rfl rfl).trans ?_
  refine (rd_trunc (n := 2048) (m := 2048) _ _ _ _).trans ?_
  refine (rd_swap (n := 2048) (m := 2048) _ _ _ _ y0 y1).trans ?_
  refine (rd_dot_tn (n := 2048) (m := 2048) (k := 4096) _ _ _ (dot_at _ _) _ _ y1 y0).trans ?_
  exact Finset.sum_congr rfl fun l _ => mul_comm (G := EReal) _ _

end Cert.Reference5Ideal.Sum

namespace Cert.Proof

open Idealize.ShloMosaic Idealize.ShloMosaic.TcCoe Idealize.SL.Sem

/-- The kernel computes the derivative with respect to the mixing layer's output weight. -/
theorem algebraic5 : Cert.algebraic_Kernel5Ideal_Reference5Ideal := fun m g m' g' _ h =>
  ⟨_, Cert.Kernel5Ideal.Sum.run m g, (θ_run Cert.Reference5Ideal.defs _ _).mono (fun r k c => by
    obtain ⟨h0, h1⟩ := h c
    obtain ⟨k0, k⟩ := k c
    refine ⟨k0.trans ?_, k⟩
    rw [h0, h1]
    exact Cert.Reference5Ideal.Sum.grad_eq _ _) (Cert.Reference5Ideal.Value.run m' g')⟩

end Cert.Proof

end
-- ==== Proof.Product2.lean ====
/-
  The products of the second layer's rows with its gate and up weights, in blocks of 2048 rows and one of eight slabs of 704 columns.
-/
module

public import proofs.«01_k».proof.Proof.Prods
public import proofs.«01_k».proof.Proof.Gen.Kernel6Ideal.Value
public import proofs.«01_k».proof.Proof.Gen.Reference6Ideal.Run
public import proofs.«01_k».proof.Defs
public import Idealize.ShloMosaic.Lib.Pipeline.Value
public import Idealize.ShloMosaic.Lib.Claim

@[expose] public section

noncomputable section

namespace Cert.Kernel6Ideal.Prod

open Idealize.ShloMosaic Idealize.ShloMosaic.TcCoe Idealize.SL.Sem Cert.Kernel6Ideal Cert.Kernel6Ideal.Gen Cert.Prods
open Cert.KernelIdeal.Conv (rd rd3 eq_rd eq_rd3 rd_at rd3_at)
open Idealize.ShloMosaic.Pipeline (Dat)

/-- A weight's product with the rows. -/
def proj (H : Vec Ideal S4096x2048 .bf16) (W : Vec Ideal S8x704x2048 .bf16) : Vec Ideal S8x4096x704 .bf16 :=
  fun y => ∑ k ∈ Finset.range 2048, rd H (y 1).val k * rd3 W (y 0).val (y 2).val k

/-- A block's product. -/
def prod (x : FVec Ideal S2048x2048 .bf16) (w : FVec Ideal S1x704x2048 .bf16) : FVec Ideal S2048x704 .f32 :=
  matmul dot_S2048x2048_S704x2048_S2048x704_1_1_0_0_n_n none x (shapeCast S704x2048 w shapeCasts_S1x704x2048_S704x2048) (constant S2048x704 .f32 0x00000000#32)

/-- A block's product by row and column. -/
theorem prod_at (x : FVec Ideal S2048x2048 .bf16) (w : FVec Ideal S1x704x2048 .bf16) (i j : ℕ) (hi : i < 2048) (hj : j < 704) :
    rd (prod x w) i j = ∑ k ∈ Finset.range 2048, rd x i k * rd3 w 0 j k := by
  have h := rd_dot_nt (n := 2048) (m := 704) (k := 2048) (prod x w) x (shapeCast S704x2048 w shapeCasts_S1x704x2048_S704x2048) (fun r q => by
    unfold prod
    simp only [pointwise, zero_add]) i j hi hj
  refine h.trans (Finset.sum_congr rfl fun k hk => ?_)
  rw [rd_unslab (n := 704) (m := 2048) w _ j k hj (Finset.mem_range.mp hk)]

/-- A point's block is the block's product. -/
theorem out3_eq (x0 : Vec Ideal S2048x2048 .bf16) (x1 x2 : Vec Ideal S1x704x2048 .bf16) : out0_3 x0 x1 x2 = shapeCast S1x2048x704 (prod x0 x1) shapeCasts_S2048x704_S1x2048x704 := by
  unfold out0_3
  rw [View.canon_unit_zero hz3, View.ld_unit_zero (S := S2048x2048) hz, View.ld_unit_zero (S := S1x704x2048) hz3]
  rfl

/-- A point's block is the block's product. -/
theorem out4_eq (x0 : Vec Ideal S2048x2048 .bf16) (x1 x2 : Vec Ideal S1x704x2048 .bf16) : out0_4 x0 x1 x2 = shapeCast S1x2048x704 (prod x0 x2) shapeCasts_S2048x704_S1x2048x704 := by
  unfold out0_4
  rw [View.canon_unit_zero hz3, View.ld_unit_zero (S := S2048x2048) hz, View.ld_unit_zero (S := S1x704x2048) hz3]
  rfl

/-! ## The blocks of the arguments -/

variable (m : (ℓ : Loc nD τ sig) → Buf (Elt Ideal) ℓ) (ρ : Dev nD → PrngReg) (c : Dev nD)

/-- The rows, as launched. -/
abbrev arrH : Vec Ideal S4096x2048 .bf16 := m ((c : Thread nD τ).loc main_arg0)
/-- The gate weight, as launched. -/
abbrev arrG : Vec Ideal S8x704x2048 .bf16 := m ((c : Thread nD τ).loc main_arg1)
/-- The up weight, as launched. -/
abbrev arrU : Vec Ideal S8x704x2048 .bf16 := m ((c : Thread nD τ).loc main_arg2)

/-- Point `2 q + b` is given row block `b` and slab `q`. -/
theorem idx_in : ∀ t : Fin grid0.N, (win0_0.index t 0 = t.val % 2 ∧ win0_0.index t 1 = 0)
    ∧ (win0_1.index t 0 = t.val / 2 ∧ win0_1.index t 1 = 0 ∧ win0_1.index t 2 = 0)
    ∧ (win0_2.index t 0 = t.val / 2 ∧ win0_2.index t 1 = 0 ∧ win0_2.index t 2 = 0)
    ∧ (win0_3.index t 0 = t.val / 2 ∧ win0_3.index t 1 = t.val % 2 ∧ win0_3.index t 2 = 0)
    ∧ (win0_4.index t 0 = t.val / 2 ∧ win0_4.index t 1 = t.val % 2 ∧ win0_4.index t 2 = 0) := by decide +kernel

/-- The block of rows. -/
theorem blk0 (t : Fin cfg0.N) (r k : ℕ) (hr : r < 2048) (hk : k < 2048) :
    rd (iblk m c 0 t : Vec Ideal S2048x2048 .bf16) r k = rd (arrH m c) (2048 * (t.val % 2) + r) k := by
  have e := (idx_in t).1
  refine (rd_at (n := 2048) (m := 2048) _ r k hr hk).trans ?_
  refine eq_rd (n := 4096) (m := 2048) (arrH m c) (((cfg0.win 0).blk t).view.emb (ValueIdx.ix2 (⟨r, hr⟩ : Fin 2048) (⟨k, hk⟩ : Fin 2048))) _ _ ?_ ?_
  · show win0_0.index t 0 * 2048 + 1 * r = _
    omega
  · show win0_0.index t 1 * 2048 + 1 * k = _
    omega

/-- The slab of a weight. -/
theorem blk1 (t : Fin cfg0.N) (r k : ℕ) (hr : r < 704) (hk : k < 2048) :
    rd3 (iblk m c 1 t : Vec Ideal S1x704x2048 .bf16) 0 r k = rd3 (arrG m c) (t.val / 2) r k := by
  have e := (idx_in t).2.1
  refine (rd3_at (p := 1) (n := 704) (m := 2048) _ 0 r k (by omega) hr hk).trans ?_
  refine eq_rd3 (p := 8) (n := 704) (m := 2048) (arrG m c) (((cfg0.win 1).blk t).view.emb (ValueIdx.ix3 (0 : Fin 1) (⟨r, hr⟩ : Fin 704) (⟨k, hk⟩ : Fin 2048))) _ _ _ ?_ ?_ ?_
  · show win0_1.index t 0 * 1 + 1 * 0 = _
    omega
  · show win0_1.index t 1 * 704 + 1 * r = _
    omega
  · show win0_1.index t 2 * 2048 + 1 * k = _
    omega

/-- The slab of a weight. -/
theorem blk2 (t : Fin cfg0.N) (r k : ℕ) (hr : r < 704) (hk : k < 2048) :
    rd3 (iblk m c 2 t : Vec Ideal S1x704x2048 .bf16) 0 r k = rd3 (arrU m c) (t.val / 2) r k := by
  have e := (idx_in t).2.2.1
  refine (rd3_at (p := 1) (n := 704) (m := 2048) _ 0 r k (by omega) hr hk).trans ?_
  refine eq_rd3 (p := 8) (n := 704) (m := 2048) (arrU m c) (((cfg0.win 2).blk t).view.emb (ValueIdx.ix3 (0 : Fin 1) (⟨r, hr⟩ : Fin 704) (⟨k, hk⟩ : Fin 2048))) _ _ _ ?_ ?_ ?_
  · show win0_2.index t 0 * 1 + 1 * 0 = _
    omega
  · show win0_2.index t 1 * 704 + 1 * r = _
    omega
  · show win0_2.index t 2 * 2048 + 1 * k = _
    omega

/-! ## The results -/

/-- What a point writes back of the gate's product. -/
theorem flushed3 (t : Fin cfg0.N) : (dats m 0 c).flushed 3 t = ((cfg0.win 3).blk t).view.read (Elt Ideal) (proj (arrH m c) (arrG m c)) := by
  show (cfg0.win 3).cut (grid0.coords t) ((dats m 0 c).after 3 t) = _
  rw [after0_3]
  obtain ⟨e0, e1, e2⟩ := (idx_in t).2.2.2.1
  funext y
  have y0 : (y 0).val < 1 := (y 0).isLt
  have y1 : (y 1).val < 2048 := (y 1).isLt
  have y2 : (y 2).val < 704 := (y 2).isLt
  refine (congrFun (out3_eq _ _ _) y).trans ?_
  refine (slab_at (n := 2048) (m := 704) _ _ y).trans ?_
  refine (prod_at _ _ _ _ y1 y2).trans ?_
  have f0 : (((cfg0.win 3).blk t).view.emb y 0).val = t.val / 2 := by
    show win0_3.index t 0 * 1 + 1 * (y 0).val = _
    omega
  have f1 : (((cfg0.win 3).blk t).view.emb y 1).val = 2048 * (t.val % 2) + (y 1).val := by
    show win0_3.index t 1 * 2048 + 1 * (y 1).val = _
    omega
  have f2 : (((cfg0.win 3).blk t).view.emb y 2).val = (y 2).val := by
    show win0_3.index t 2 * 704 + 1 * (y 2).val = _
    omega
  show _ = ∑ k ∈ Finset.range 2048, rd (arrH m c) (((cfg0.win 3).blk t).view.emb y 1).val k
    * rd3 (arrG m c) (((cfg0.win 3).blk t).view.emb y 0).val (((cfg0.win 3).blk t).view.emb y 2).val k
  rw [f0, f1, f2]
  refine Finset.sum_congr rfl fun k hk => ?_
  have hk := Finset.mem_range.mp hk
  exact congrArg₂ (fun x y : EReal => x * y) (blk0 m c t _ k y1 hk) (blk1 m c t _ k y2 hk)

/-- Every entry of the gate's product is in some point's block. -/
theorem cover3 (i : S8x4096x704.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 704 := (i 2).isLt
  obtain ⟨t, ht⟩ : ∃ t : Fin cfg0.N, t.val = 2 * (i 0).val + (i 1).val / 2048 :=
    ⟨⟨2 * (i 0).val + (i 1).val / 2048, Nat.lt_of_lt_of_eq (show _ < 16 by omega) N_0.symm⟩, rfl⟩
  obtain ⟨e0, e1, e2⟩ := (idx_in t).2.2.2.1
  refine ⟨t, flush0_3 _, ?_⟩
  show i ∈ ((View.whole main_v0_0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    omega
  | ⟨1, _⟩ =>
    show win0_3.index t 1 * 2048 ≤ (i 1).val ∧ (i 1).val < win0_3.index t 1 * 2048 + 2048
    omega
  | ⟨2, _⟩ =>
    show win0_3.index t 2 * 704 ≤ (i 2).val ∧ (i 2).val < win0_3.index t 2 * 704 + 704
    omega

/-- What a point writes back of the up product. -/
theorem flushed4 (t : Fin cfg0.N) : (dats m 0 c).flushed 4 t = ((cfg0.win 4).blk t).view.read (Elt Ideal) (proj (arrH m c) (arrU m c)) := by
  show (cfg0.win 4).cut (grid0.coords t) ((dats m 0 c).after 4 t) = _
  rw [after0_4]
  obtain ⟨e0, e1, e2⟩ := (idx_in t).2.2.2.2
  funext y
  have y0 : (y 0).val < 1 := (y 0).isLt
  have y1 : (y 1).val < 2048 := (y 1).isLt
  have y2 : (y 2).val < 704 := (y 2).isLt
  refine (congrFun (out4_eq _ _ _) y).trans ?_
  refine (slab_at (n := 2048) (m := 704) _ _ y).trans ?_
  refine (prod_at _ _ _ _ y1 y2).trans ?_
  have f0 : (((cfg0.win 4).blk t).view.emb y 0).val = t.val / 2 := by
    show win0_4.index t 0 * 1 + 1 * (y 0).val = _
    omega
  have f1 : (((cfg0.win 4).blk t).view.emb y 1).val = 2048 * (t.val % 2) + (y 1).val := by
    show win0_4.index t 1 * 2048 + 1 * (y 1).val = _
    omega
  have f2 : (((cfg0.win 4).blk t).view.emb y 2).val = (y 2).val := by
    show win0_4.index t 2 * 704 + 1 * (y 2).val = _
    omega
  show _ = ∑ k ∈ Finset.range 2048, rd (arrH m c) (((cfg0.win 4).blk t).view.emb y 1).val k
    * rd3 (arrU m c) (((cfg0.win 4).blk t).view.emb y 0).val (((cfg0.win 4).blk t).view.emb y 2).val k
  rw [f0, f1, f2]
  refine Finset.sum_congr rfl fun k hk => ?_
  have hk := Finset.mem_range.mp hk
  exact congrArg₂ (fun x y : EReal => x * y) (blk0 m c t _ k y1 hk) (blk2 m c t _ k y2 hk)

/-- Every entry of the up product is in some point's block. -/
theorem cover4 (i : S8x4096x704.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 704 := (i 2).isLt
  obtain ⟨t, ht⟩ : ∃ t : Fin cfg0.N, t.val = 2 * (i 0).val + (i 1).val / 2048 :=
    ⟨⟨2 * (i 0).val + (i 1).val / 2048, Nat.lt_of_lt_of_eq (show _ < 16 by omega) N_0.symm⟩, rfl⟩
  obtain ⟨e0, e1, e2⟩ := (idx_in t).2.2.2.2
  refine ⟨t, flush0_4 _, ?_⟩
  show i ∈ ((View.whole main_v0_1).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    omega
  | ⟨1, _⟩ =>
    show win0_4.index t 1 * 2048 ≤ (i 1).val ∧ (i 1).val < win0_4.index t 1 * 2048 + 2048
    omega
  | ⟨2, _⟩ =>
    show win0_4.index t 2 * 704 ≤ (i 2).val ∧ (i 2).val < win0_4.index t 2 * 704 + 704
    omega

/-- The kernel's run: the two products, the arguments unchanged. -/
theorem run : θ_run defs (onTc (τ := τ) (main (F := Ideal))) ⟨m, fun _ => 0, ρ⟩ fun r => ∀ c : Dev nD,
      r.2.mem ((c : Thread nD τ).loc main_v0_0) = proj (arrH m c) (arrG m c)
      ∧ r.2.mem ((c : Thread nD τ).loc main_v0_1) = proj (arrH m c) (arrU m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 (proj (arrH m c) (arrG m c)) (fun t _ => flushed3 m c t) cover3),
      (h c).2.1.trans ((dats m 0 c).arrAt_eq_of_cover 4 (proj (arrH m c) (arrU m c)) (fun t _ => flushed4 m c t) cover4), (h c).2.2⟩)
    (Value.run_blocks m ρ)

end Cert.Kernel6Ideal.Prod

namespace Cert.Reference6Ideal.Prod

open Idealize.ShloMosaic Idealize.ShloMosaic.TcCoe Idealize.SL.Sem Cert.Reference6Ideal Cert.Reference6Ideal.Gen Cert.Prods
open Cert.KernelIdeal.Conv (rd rd3 eq_rd eq_rd3)

/-- The host's product of rows with columns. -/
theorem dot_at (A : FVec Ideal S4096x2048 .f32) (B : FVec Ideal S2048x5632 .f32) (r : Fin 4096) (q : Fin 5632) :
    Host.dotGeneral dot_S4096x2048_S2048x5632_S4096x5632_1_0_0_1_n_n none A B (ix2 r q) = ∑ l : Fin 2048, A (ix2 r l) * B (ix2 l q) := by
  simp only [pointwise, zero_add]

/-- The layer's product, entry by entry. -/
theorem proj_eq (H : FVec Ideal S4096x2048 .bf16) (W : FVec Ideal S8x704x2048 .bf16) :
    (truncf .bf16 (transpose S8x4096x704 [1, 0, 2] (shapeCast S4096x8x704 (Host.dotGeneral dot_S4096x2048_S2048x5632_S4096x5632_1_0_0_1_n_n none (extf .f32 H bitsLt_bf16_f32)
      (transpose S2048x5632 [1, 0] (shapeCast S5632x2048 (extf .f32 W bitsLt_bf16_f32) shapeCasts_S8x704x2048_S5632x2048) transposes_S5632x2048_S2048x5632_1_0))
      shapeCasts_S4096x5632_S4096x8x704) transposes_S4096x8x704_S8x4096x704_1_0_2) bitsLt_bf16_f32 : FVec Ideal S8x4096x704 .bf16) = Cert.Kernel6Ideal.Prod.proj H W := by
  funext y
  have y0 : (y 0).val < 8 := (y 0).isLt
  have y1 : (y 1).val < 4096 := (y 1).isLt
  have y2 : (y 2).val < 704 := (y 2).isLt
  refine (eq_rd3 (p := 8) (n := 4096) (m := 704) _ y _ _ _ rfl rfl rfl).trans ?_
  refine (rd3_trunc (p := 8) (n := 4096) (m := 704) _ _ _ _ _).trans ?_
  refine (rd3_cut (p := 8) (n := 4096) (w := 704) _ _ _ _ _ _ y0 y1 y2).trans ?_
  refine (rd_dot_nn (n := 4096) (m := 5632) (k := 2048) _ _ _ (dot_at _ _) _ _ y1 (by omega)).trans ?_
  refine Finset.sum_congr rfl fun l hl => ?_
  have hl := Finset.mem_range.mp hl
  refine congrArg₂ (fun x y : EReal => x * y) rfl ?_
  refine (rd_swap (n := 5632) (m := 2048) _ _ _ _ hl (by omega)).trans ?_
  exact rd_stack (p := 8) (n := 704) (m := 2048) (extf .f32 W bitsLt_bf16_f32) _ _ _ _ y0 y2 hl

end Cert.Reference6Ideal.Prod

namespace Cert.Proof

open Idealize.ShloMosaic Idealize.ShloMosaic.TcCoe Idealize.SL.Sem

/-- The kernel computes the layer's products. -/
theorem algebraic6 : Cert.algebraic_Kernel6Ideal_Reference6Ideal := fun m g m' g' _ h =>
  ⟨_, _, Cert.Kernel6Ideal.Prod.run m g, (θ_run Cert.Reference6Ideal.defs _ _).mono (fun r k c => by
    obtain ⟨h0, h1, h2⟩ := h c
    obtain ⟨k0, k1, k⟩ := k c
    refine ⟨k0.trans ?_, k1.trans ?_, k⟩
    · rw [h0, h1]
      exact Cert.Reference6Ideal.Prod.proj_eq _ _
    · rw [h0, h2]
      exact Cert.Reference6Ideal.Prod.proj_eq _ _) (Cert.Reference6Ideal.Value.run m' g')⟩

end Cert.Proof

end
-- ==== Proof.Product1.lean ====
/-
  A product of the first layer's rows with its gate (or up) weights, in blocks of 1088 rows and one of eight slabs of 704 columns.
-/
module

public import proofs.«01_k».proof.Proof.Prods
public import proofs.«01_k».proof.Proof.Gen.Kernel7Ideal.Value
public import proofs.«01_k».proof.Proof.Gen.Reference7Ideal.Run
public import proofs.«01_k».proof.Defs
public import Idealize.ShloMosaic.Lib.Pipeline.Value
public import Idealize.ShloMosaic.Lib.Claim

@[expose] public section

noncomputable section

namespace Cert.Kernel7Ideal.Prod

open Idealize.ShloMosaic Idealize.ShloMosaic.TcCoe Idealize.SL.Sem Cert.Kernel7Ideal Cert.Kernel7Ideal.Gen Cert.Prods
open Cert.KernelIdeal.Conv (rd rd3 eq_rd eq_rd3 rd_at rd3_at)
open Idealize.ShloMosaic.Pipeline (Dat)

/-- A weight's product with the rows. -/
def proj (H : Vec Ideal S4352x2048 .bf16) (W : Vec Ideal S8x704x2048 .bf16) : Vec Ideal S8x4352x704 .bf16 :=
  fun y => ∑ k ∈ Finset.range 2048, rd H (y 1).val k * rd3 W (y 0).val (y 2).val k

/-- A block's product. -/
def prod (x : FVec Ideal S1088x2048 .bf16) (w : FVec Ideal S1x704x2048 .bf16) : FVec Ideal S1088x704 .f32 :=
  matmul dot_S1088x2048_S704x2048_S1088x704_1_1_0_0_n_n none x (shapeCast S704x2048 w shapeCasts_S1x704x2048_S704x2048) (constant S1088x704 .f32 0x00000000#32)

/-- A block's product by row and column. -/
theorem prod_at (x : FVec Ideal S1088x2048 .bf16) (w : FVec Ideal S1x704x2048 .bf16) (i j : ℕ) (hi : i < 1088) (hj : j < 704) :
    rd (prod x w) i j = ∑ k ∈ Finset.range 2048, rd x i k * rd3 w 0 j k := by
  have h := rd_dot_nt (n := 1088) (m := 704) (k := 2048) (prod x w) x (shapeCast S704x2048 w shapeCasts_S1x704x2048_S704x2048) (fun r q => by
    unfold prod
    simp only [pointwise, zero_add]) i j hi hj
  refine h.trans (Finset.sum_congr rfl fun k hk => ?_)
  rw [rd_unslab (n := 704) (m := 2048) w _ j k hj (Finset.mem_range.mp hk)]

/-- A point's block is the block's product. -/
theorem out2_eq (x0 : Vec Ideal S1088x2048 .bf16) (x1 : Vec Ideal S1x704x2048 .bf16) : out0_2 x0 x1 = shapeCast S1x1088x704 (prod x0 x1) shapeCasts_S1088x704_S1x1088x704 := by
  unfold out0_2
  rw [View.canon_unit_zero hz3, View.ld_unit_zero (S := S1088x2048) hz, View.ld_unit_zero (S := S1x704x2048) hz3]
  rfl

/-! ## The blocks of the arguments -/

variable (m : (ℓ : Loc nD τ sig) → Buf (Elt Ideal) ℓ) (ρ : Dev nD → PrngReg) (c : Dev nD)

/-- The rows, as launched. -/
abbrev arrH : Vec Ideal S4352x2048 .bf16 := m ((c : Thread nD τ).loc main_arg0)
/-- The weight, as launched. -/
abbrev arrW : Vec Ideal S8x704x2048 .bf16 := m ((c : Thread nD τ).loc main_arg1)

/-- Point `4 q + b` is given row block `b` and slab `q`. -/
theorem idx_in : ∀ t : Fin grid0.N, (win0_0.index t 0 = t.val % 4 ∧ win0_0.index t 1 = 0)
    ∧ (win0_1.index t 0 = t.val / 4 ∧ win0_1.index t 1 = 0 ∧ win0_1.index t 2 = 0)
    ∧ (win0_2.index t 0 = t.val / 4 ∧ win0_2.index t 1 = t.val % 4 ∧ win0_2.index t 2 = 0) := by decide +kernel

/-- The block of rows. -/
theorem blk0 (t : Fin cfg0.N) (r k : ℕ) (hr : r < 1088) (hk : k < 2048) :
    rd (iblk m c 0 t : Vec Ideal S1088x2048 .bf16) r k = rd (arrH m c) (1088 * (t.val % 4) + r) k := by
  have e := (idx_in t).1
  refine (rd_at (n := 1088) (m := 2048) _ r k hr hk).trans ?_
  refine eq_rd (n := 4352) (m := 2048) (arrH m c) (((cfg0.win 0).blk t).view.emb (ValueIdx.ix2 (⟨r, hr⟩ : Fin 1088) (⟨k, hk⟩ : Fin 2048))) _ _ ?_ ?_
  · show win0_0.index t 0 * 1088 + 1 * r = _
    omega
  · show win0_0.index t 1 * 2048 + 1 * k = _
    omega

/-- The slab of a weight. -/
theorem blk1 (t : Fin cfg0.N) (r k : ℕ) (hr : r < 704) (hk : k < 2048) :
    rd3 (iblk m c 1 t : Vec Ideal S1x704x2048 .bf16) 0 r k = rd3 (arrW m c) (t.val / 4) r k := by
  have e := (idx_in t).2.1
  refine (rd3_at (p := 1) (n := 704) (m := 2048) _ 0 r k (by omega) hr hk).trans ?_
  refine eq_rd3 (p := 8) (n := 704) (m := 2048) (arrW m c) (((cfg0.win 1).blk t).view.emb (ValueIdx.ix3 (0 : Fin 1) (⟨r, hr⟩ : Fin 704) (⟨k, hk⟩ : Fin 2048))) _ _ _ ?_ ?_ ?_
  · show win0_1.index t 0 * 1 + 1 * 0 = _
    omega
  · show win0_1.index t 1 * 704 + 1 * r = _
    omega
  · show win0_1.index t 2 * 2048 + 1 * k = _
    omega

/-! ## The result -/

/-- What a point writes back of the product. -/
theorem flushed2 (t : Fin cfg0.N) : (dats m 0 c).flushed 2 t = ((cfg0.win 2).blk t).view.read (Elt Ideal) (proj (arrH m c) (arrW m c)) := by
  show (cfg0.win 2).cut (grid0.coords t) ((dats m 0 c).after 2 t) = _
  rw [after0_2]
  obtain ⟨e0, e1, e2⟩ := (idx_in t).2.2
  funext y
  have y0 : (y 0).val < 1 := (y 0).isLt
  have y1 : (y 1).val < 1088 := (y 1).isLt
  have y2 : (y 2).val < 704 := (y 2).isLt
  refine (congrFun (out2_eq _ _) y).trans ?_
  refine (slab_at (n := 1088) (m := 704) _ _ y).trans ?_
  refine (prod_at _ _ _ _ y1 y2).trans ?_
  have f0 : (((cfg0.win 2).blk t).view.emb y 0).val = t.val / 4 := by
    show win0_2.index t 0 * 1 + 1 * (y 0).val = _
    omega
  have f1 : (((cfg0.win 2).blk t).view.emb y 1).val = 1088 * (t.val % 4) + (y 1).val := by
    show win0_2.index t 1 * 1088 + 1 * (y 1).val = _
    omega
  have f2 : (((cfg0.win 2).blk t).view.emb y 2).val = (y 2).val := by
    show win0_2.index t 2 * 704 + 1 * (y 2).val = _
    omega
  show _ = ∑ k ∈ Finset.range 2048, rd (arrH m c) (((cfg0.win 2).blk t).view.emb y 1).val k
    * rd3 (arrW m c) (((cfg0.win 2).blk t).view.emb y 0).val (((cfg0.win 2).blk t).view.emb y 2).val k
  rw [f0, f1, f2]
  refine Finset.sum_congr rfl fun k hk => ?_
  have hk := Finset.mem_range.mp hk
  exact congrArg₂ (fun x y : EReal => x * y) (blk0 m c t _ k y1 hk) (blk1 m c t _ k y2 hk)

/-- Every entry of the product is in some point's block. -/
theorem cover2 (i : S8x4352x704.Idx) : ∃ t : Fin cfg0.N, (cfg0.win 2).flush t = true ∧ i ∈ ((cfg0.win 2).blk t).view.set := by
  have h0 : (i 0).val < 8 := (i 0).isLt
  have h1 : (i 1).val < 4352 := (i 1).isLt
  have h2 : (i 2).val < 704 := (i 2).isLt
  obtain ⟨t, ht⟩ : ∃ t : Fin cfg0.N, t.val = 4 * (i 0).val + (i 1).val / 1088 :=
    ⟨⟨4 * (i 0).val + (i 1).val / 1088, Nat.lt_of_lt_of_eq (show _ < 32 by omega) N_0.symm⟩, rfl⟩
  obtain ⟨e0, e1, e2⟩ := (idx_in t).2.2
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    omega
  | ⟨1, _⟩ =>
    show win0_2.index t 1 * 1088 ≤ (i 1).val ∧ (i 1).val < win0_2.index t 1 * 1088 + 1088
    omega
  | ⟨2, _⟩ =>
    show win0_2.index t 2 * 704 ≤ (i 2).val ∧ (i 2).val < win0_2.index t 2 * 704 + 704
    omega

/-- The kernel's run: the product, the arguments unchanged. -/
theorem run : θ_run defs (onTc (τ := τ) (main (F := Ideal))) ⟨m, fun _ => 0, ρ⟩ fun r => ∀ c : Dev nD,
      r.2.mem ((c : Thread nD τ).loc main_v0) = proj (arrH m c) (arrW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (proj (arrH m c) (arrW m c)) (fun t _ => flushed2 m c t) cover2), (h c).2⟩)
    (Value.run_blocks m ρ)

end Cert.Kernel7Ideal.Prod

namespace Cert.Reference7Ideal.Prod

open Idealize.ShloMosaic Idealize.ShloMosaic.TcCoe Idealize.SL.Sem Cert.Reference7Ideal Cert.Reference7Ideal.Gen Cert.Prods
open Cert.KernelIdeal.Conv (rd rd3 eq_rd eq_rd3)

/-- The host's product of rows with columns. -/
theorem dot_at (A : FVec Ideal S4352x2048 .f32) (B : FVec Ideal S2048x5632 .f32) (r : Fin 4352) (q : Fin 5632) :
    Host.dotGeneral dot_S4352x2048_S2048x5632_S4352x5632_1_0_0_1_n_n none A B (ix2 r q) = ∑ l : Fin 2048, A (ix2 r l) * B (ix2 l q) := by
  simp only [pointwise, zero_add]

/-- The layer's product, entry by entry. -/
theorem proj_eq (H : FVec Ideal S4352x2048 .bf16) (W : FVec Ideal S8x704x2048 .bf16) :
    (truncf .bf16 (transpose S8x4352x704 [1, 0, 2] (shapeCast S4352x8x704 (Host.dotGeneral dot_S4352x2048_S2048x5632_S4352x5632_1_0_0_1_n_n none (extf .f32 H bitsLt_bf16_f32)
      (transpose S2048x5632 [1, 0] (shapeCast S5632x2048 (extf .f32 W bitsLt_bf16_f32) shapeCasts_S8x704x2048_S5632x2048) transposes_S5632x2048_S2048x5632_1_0))
      shapeCasts_S4352x5632_S4352x8x704) transposes_S4352x8x704_S8x4352x704_1_0_2) bitsLt_bf16_f32 : FVec Ideal S8x4352x704 .bf16) = Cert.Kernel7Ideal.Prod.proj H W := by
  funext y
  have y0 : (y 0).val < 8 := (y 0).isLt
  have y1 : (y 1).val < 4352 := (y 1).isLt
  have y2 : (y 2).val < 704 := (y 2).isLt
  refine (eq_rd3 (p := 8) (n := 4352) (m := 704) _ y _ _ _ rfl rfl rfl).trans ?_
  refine (rd3_trunc (p := 8) (n := 4352) (m := 704) _ _ _ _ _).trans ?_
  refine (rd3_cut (p := 8) (n := 4352) (w := 704) _ _ _ _ _ _ y0 y1 y2).trans ?_
  refine (rd_dot_nn (n := 4352) (m := 5632) (k := 2048) _ _ _ (dot_at _ _) _ _ y1 (by omega)).trans ?_
  refine Finset.sum_congr rfl fun l hl => ?_
  have hl := Finset.mem_range.mp hl
  refine congrArg₂ (fun x y : EReal => x * y) rfl ?_
  refine (rd_swap (n := 5632) (m := 2048) _ _ _ _ hl (by omega)).trans ?_
  exact rd_stack (p := 8) (n := 704) (m := 2048) (extf .f32 W bitsLt_bf16_f32) _ _ _ _ y0 y2 hl

end Cert.Reference7Ideal.Prod

namespace Cert.Proof

open Idealize.ShloMosaic Idealize.ShloMosaic.TcCoe Idealize.SL.Sem

/-- The kernel computes the layer's product. -/
theorem algebraic7 : Cert.algebraic_Kernel7Ideal_Reference7Ideal := fun m g m' g' _ h =>
  ⟨_, Cert.Kernel7Ideal.Prod.run m g, (θ_run Cert.Reference7Ideal.defs _ _).mono (fun r k c => by
    obtain ⟨h0, h1⟩ := h c
    obtain ⟨k0, k⟩ := k c
    refine ⟨k0.trans ?_, k⟩
    rw [h0, h1]
    exact Cert.Reference7Ideal.Prod.proj_eq _ _) (Cert.Reference7Ideal.Value.run m' g')⟩

end Cert.Proof

end
-- ==== Proof.MixIn.lean ====
/-
  The mixing layer's product of its rows with its weight, the bias added, in blocks of 544 rows and one of five slabs of 1024
  columns.
-/
module

public import proofs.«01_k».proof.Proof.Prods
public import proofs.«01_k».proof.Proof.Gen.Kernel8Ideal.Value
public import proofs.«01_k».proof.Proof.Gen.Reference8Ideal.Run
public import proofs.«01_k».proof.Defs
public import Idealize.ShloMosaic.Lib.Pipeline.Value
public import Idealize.ShloMosaic.Lib.Claim

@[expose] public section

noncomputable section

namespace Cert.Kernel8Ideal.Prod

open Idealize.ShloMosaic Idealize.ShloMosaic.TcCoe Idealize.SL.Sem Cert.Kernel8Ideal Cert.Kernel8Ideal.Gen Cert.Prods
open Cert.KernelIdeal.Conv (rd rd3 eq_rd eq_rd3 rd_at rd3_at)
open Idealize.ShloMosaic.Pipeline (Dat)

/-- The rows times the weight, the bias added. -/
def proj (H : Vec Ideal S4352x2048 .bf16) (W : Vec Ideal S2048x5120 .bf16) (B : Vec Ideal S1x5120 .f32) : Vec Ideal S4352x5120 .bf16 :=
  fun y => (∑ k ∈ Finset.range 2048, rd H (y 0).val k * rd W k (y 1).val : EReal) + rd B 0 (y 1).val

/-- A point's block by row and column. -/
theorem out3_at (x0 : Vec Ideal S544x2048 .bf16) (x1 : Vec Ideal S2048x1024 .bf16) (x2 : Vec Ideal S1x1024 .f32) (i j : ℕ) (hi : i < 544) (hj : j < 1024) :
    rd (out0_3 x0 x1 x2) i j = (∑ k ∈ Finset.range 2048, rd x0 i k * rd x1 k j : EReal) + rd x2 0 j := by
  refine (rd_ix (n := 544) (m := 1024) _ i j hi hj).trans ?_
  unfold out0_3
  rw [View.canon_unit_zero hz, View.ld_unit_zero (S := S544x2048) hz, View.ld_unit_zero (S := S2048x1024) hz, View.ld_unit_zero (S := S1x1024) hz]
  unfold k0_pay1
  simp only [pointwise, zero_add]
  refine congrArg₂ (fun x y : EReal => x + y) (sum_fin 2048 _ _ fun l => congrArg₂ (fun x y : EReal => x * y) ?_ ?_) ?_
  · exact eq_rd (n := 544) (m := 2048) x0 _ _ _ rfl rfl
  · exact eq_rd (n := 2048) (m := 1024) x1 _ _ _ rfl rfl
  · exact eq_rd (n := 1) (m := 1024) x2 _ _ _ rfl rfl

/-! ## The blocks of the arguments -/

variable (m : (ℓ : Loc nD τ sig) → Buf (Elt Ideal) ℓ) (ρ : Dev nD → PrngReg) (c : Dev nD)

/-- The rows, as launched. -/
abbrev arrH : Vec Ideal S4352x2048 .bf16 := m ((c : Thread nD τ).loc main_arg0)
/-- The weight, as launched. -/
abbrev arrW : Vec Ideal S2048x5120 .bf16 := m ((c : Thread nD τ).loc main_arg1)
/-- The bias, as launched. -/
abbrev arrB : Vec Ideal S1x5120 .f32 := m ((c : Thread nD τ).loc main_arg2)

/-- Point `8 q + b` is given row block `b` and column block `q`. -/
theorem idx_in : ∀ t : Fin grid0.N, (win0_0.index t 0 = t.val % 8 ∧ win0_0.index t 1 = 0)
    ∧ (win0_1.index t 0 = 0 ∧ win0_1.index t 1 = t.val / 8)
    ∧ (win0_2.index t 0 = 0 ∧ win0_2.index t 1 = t.val / 8)
    ∧ (win0_3.index t 0 = t.val % 8 ∧ win0_3.index t 1 = t.val / 8) := by decide +kernel

/-- The block of rows. -/
theorem blk0 (t : Fin cfg0.N) (r k : ℕ) (hr : r < 544) (hk : k < 2048) :
    rd (iblk m c 0 t : Vec Ideal S544x2048 .bf16) r k = rd (arrH m c) (544 * (t.val % 8) + r) k := by
  have e := (idx_in t).1
  refine (rd_at (n := 544) (m := 2048) _ r k hr hk).trans ?_
  refine eq_rd (n := 4352) (m := 2048) (arrH m c) (((cfg0.win 0).blk t).view.emb (ValueIdx.ix2 (⟨r, hr⟩ : Fin 544) (⟨k, hk⟩ : Fin 2048))) _ _ ?_ ?_
  · show win0_0.index t 0 * 544 + 1 * r = _
    omega
  · show win0_0.index t 1 * 2048 + 1 * k = _
    omega

/-- The weight's block. -/
theorem blk1 (t : Fin cfg0.N) (k r : ℕ) (hk : k < 2048) (hr : r < 1024) :
    rd (iblk m c 1 t : Vec Ideal S2048x1024 .bf16) k r = rd (arrW m c) k (1024 * (t.val / 8) + r) := by
  have e := (idx_in t).2.1
  refine (rd_at (n := 2048) (m := 1024) _ k r hk hr).trans ?_
  refine eq_rd (n := 2048) (m := 5120) (arrW m c) (((cfg0.win 1).blk t).view.emb (ValueIdx.ix2 (⟨k, hk⟩ : Fin 2048) (⟨r, hr⟩ : Fin 1024))) _ _ ?_ ?_
  · show win0_1.index t 0 * 2048 + 1 * k = _
    omega
  · show win0_1.index t 1 * 1024 + 1 * r = _
    omega

/-- The bias's block. -/
theorem blk2 (t : Fin cfg0.N) (r : ℕ) (hr : r < 1024) :
    rd (iblk m c 2 t : Vec Ideal S1x1024 .f32) 0 r = rd (arrB m c) 0 (1024 * (t.val / 8) + r) := by
  have e := (idx_in t).2.2.1
  refine (rd_at (n := 1) (m := 1024) _ 0 r (by omega) hr).trans ?_
  refine eq_rd (n := 1) (m := 5120) (arrB m c) (((cfg0.win 2).blk t).view.emb (ValueIdx.ix2 (0 : Fin 1) (⟨r, hr⟩ : Fin 1024))) _ _ ?_ ?_
  · show win0_2.index t 0 * 1 + 1 * 0 = _
    omega
  · show win0_2.index t 1 * 1024 + 1 * r = _
    omega

/-! ## The result -/

/-- A block of the body's result by row and column. -/
theorem block3 (X : Vec Ideal S544x1024 .bf16) (t : Fin cfg0.N) (y : S544x1024.Idx) : (cfg0.win 3).cut (grid0.coords t) X y = rd X (y 0).val (y 1).val :=
  eq_rd (n := 544) (m := 1024) X y _ _ rfl rfl

/-- What a point writes back. -/
theorem flushed3 (t : Fin cfg0.N) : (dats m 0 c).flushed 3 t = ((cfg0.win 3).blk t).view.read (Elt Ideal) (proj (arrH m c) (arrW m c) (arrB m c)) := by
  show (cfg0.win 3).cut (grid0.coords t) ((dats m 0 c).after 3 t) = _
  rw [after0_3]
  obtain ⟨e0, e1⟩ := (idx_in t).2.2.2
  funext y
  have y0 : (y 0).val < 544 := (y 0).isLt
  have y1 : (y 1).val < 1024 := (y 1).isLt
  refine (block3 _ t y).trans ?_
  refine (out3_at _ _ _ _ _ y0 y1).trans ?_
  have f0 : (((cfg0.win 3).blk t).view.emb y 0).val = 544 * (t.val % 8) + (y 0).val := by
    show win0_3.index t 0 * 544 + 1 * (y 0).val = _
    omega
  have f1 : (((cfg0.win 3).blk t).view.emb y 1).val = 1024 * (t.val / 8) + (y 1).val := by
    show win0_3.index t 1 * 1024 + 1 * (y 1).val = _
    omega
  show _ = (∑ k ∈ Finset.range 2048, rd (arrH m c) (((cfg0.win 3).blk t).view.emb y 0).val k
    * rd (arrW m c) k (((cfg0.win 3).blk t).view.emb y 1).val : EReal) + rd (arrB m c) 0 (((cfg0.win 3).blk t).view.emb y 1).val
  rw [f0, f1]
  refine congrArg₂ (fun x y : EReal => x + y) (Finset.sum_congr rfl fun k hk => ?_) (blk2 m c t _ y1)
  have hk := Finset.mem_range.mp hk
  exact congrArg₂ (fun x y : EReal => x * y) (blk0 m c t _ k y0 hk) (blk1 m c t k _ hk y1)

/-- Every entry is in some point's block. -/
theorem cover3 (i : S4352x5120.Idx) : ∃ t : Fin cfg0.N, (cfg0.win 3).flush t = true ∧ i ∈ ((cfg0.win 3).blk t).view.set := by
  have h0 : (i 0).val < 4352 := (i 0).isLt
  have h1 : (i 1).val < 5120 := (i 1).isLt
  obtain ⟨t, ht⟩ : ∃ t : Fin cfg0.N, t.val = 8 * ((i 1).val / 1024) + (i 0).val / 544 :=
    ⟨⟨8 * ((i 1).val / 1024) + (i 0).val / 544, Nat.lt_of_lt_of_eq (show _ < 40 by omega) N_0.symm⟩, rfl⟩
  obtain ⟨e0, e1⟩ := (idx_in t).2.2.2
  refine ⟨t, flush0_3 _, ?_⟩
  show i ∈ ((View.whole main_v0).slice (win0_3.rect t)).set
  rw [View.set_slice_whole, Rect.mem_set_unit]
  intro a
  match a with
  | ⟨0, _⟩ =>
    show win0_3.index t 0 * 544 ≤ (i 0).val ∧ (i 0).val < win0_3.index t 0 * 544 + 544
    omega
  | ⟨1, _⟩ =>
    show win0_3.index t 1 * 1024 ≤ (i 1).val ∧ (i 1).val < win0_3.index t 1 * 1024 + 1024
    omega

/-- The kernel's run: the layer's product, the arguments unchanged. -/
theorem run : θ_run defs (onTc (τ := τ) (main (F := Ideal))) ⟨m, fun _ => 0, ρ⟩ fun r => ∀ c : Dev nD,
      r.2.mem ((c : Thread nD τ).loc main_v0) = proj (arrH m c) (arrW m c) (arrB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 (proj (arrH m c) (arrW m c) (arrB m c)) (fun t _ => flushed3 m c t) cover3), (h c).2⟩)
    (Value.run_blocks m ρ)

end Cert.Kernel8Ideal.Prod

namespace Cert.Reference8Ideal.Prod

open Idealize.ShloMosaic Idealize.ShloMosaic.TcCoe Idealize.SL.Sem Cert.Reference8Ideal Cert.Reference8Ideal.Gen Cert.Prods
open Cert.KernelIdeal.Conv (rd rd3 eq_rd eq_rd3)

/-- The layer's product, entry by entry. -/
theorem proj_eq (H : FVec Ideal S4352x2048 .bf16) (W : FVec Ideal S2048x5120 .bf16) (B : FVec Ideal S1x5120 .f32) :
    (truncf .bf16 (addf (Host.dotGeneral dot_S4352x2048_S2048x5120_S4352x5120_1_0_0_1_n_n none (extf .f32 H bitsLt_bf16_f32) (extf .f32 W bitsLt_bf16_f32))
      (broadcastInDim S4352x5120 ![0, 1] bcast_S1x5120_S4352x5120_0_1 B)) bitsLt_bf16_f32 : FVec Ideal S4352x5120 .bf16) = Cert.Kernel8Ideal.Prod.proj H W B := by
  funext y
  have y0 : (y 0).val < 4352 := (y 0).isLt
  have y1 : (y 1).val < 5120 := (y 1).isLt
  refine (eq_rd (n := 4352) (m := 5120) _ y _ _ rfl rfl).trans ?_
  refine (rd_ix (n := 4352) (m := 5120) _ _ _ y0 y1).trans ?_
  simp only [pointwise, zero_add]
  refine congrArg₂ (fun x y : EReal => x + y) (sum_fin 2048 _ _ fun l => congrArg₂ (fun x y : EReal => x * y) ?_ ?_) ?_
  · exact eq_rd (n := 4352) (m := 2048) H _ _ _ rfl rfl
  · exact eq_rd (n := 2048) (m := 5120) W _ _ _ rfl rfl
  · exact eq_rd (n := 1) (m := 5120) B _ _ _ rfl rfl

end Cert.Reference8Ideal.Prod

namespace Cert.Proof

open Idealize.ShloMosaic Idealize.ShloMosaic.TcCoe Idealize.SL.Sem

/-- The kernel computes the layer's product. -/
theorem algebraic8 : Cert.algebraic_Kernel8Ideal_Reference8Ideal := fun m g m' g' _ h =>
  ⟨_, Cert.Kernel8Ideal.Prod.run m g, (θ_run Cert.Reference8Ideal.defs _ _).mono (fun r k c => by
    obtain ⟨h0, h1, h2⟩ := h c
    obtain ⟨k0, k⟩ := k c
    refine ⟨k0.trans ?_, k⟩
    rw [h0, h1, h2]
    exact Cert.Reference8Ideal.Prod.proj_eq _ _ _) (Cert.Reference8Ideal.Value.run m' g')⟩

end Cert.Proof

end
-- ==== Proof.GradGateUp1.lean ====
/-
  The gate and up weights' gradients over 4352 rows: the kernel adds up the products of four blocks of 1024 rows and one of 256.
-/
module

public import proofs.«01_k».proof.Proof.Prods
public import proofs.«01_k».proof.Proof.Gen.Kernel9Ideal.Value
public import Idealize.ShloMosaic.Lib.Pipeline.Value
public import Idealize.ShloMosaic.Lib.Claim

@[expose] public section

noncomputable section

namespace Cert.Kernel9Ideal.Sum

open Idealize.ShloMosaic Idealize.ShloMosaic.TcCoe Idealize.ShloMosaic.Tactic Idealize.SL.Sem Cert.Kernel9Ideal Cert.Kernel9Ideal.Gen Cert.Prods
open Cert.KernelIdeal.Conv (rd rd3 eq_rd eq_rd3 rd_at rd3_at)
open Idealize.ShloMosaic.Pipeline (Dat)

/-! ## What the body leaves -/

section Cases
variable (c : Dev nD) (i : grid0.Coords) (a2 : Memref sig .tc .vmem S1024x2048 .bf16) (h2 : a2.IsWhole) (a3 : Memref sig .tc .vmem S1x1024x704 .bf16) (h3 : a3.IsWhole)
  (a4 : Memref sig .tc .vmem S1x1024x704 .bf16) (h4 : a4.IsWhole) (a5 : Memref sig .tc .vmem S256x2048 .bf16) (h5 : a5.IsWhole)
  (a6 : Memref sig .tc .vmem S1x256x704 .bf16) (h6 : a6.IsWhole) (a7 : Memref sig .tc .vmem S1x256x704 .bf16) (h7 : a7.IsWhole)
  (a8 : Memref sig .tc .vmem S1x704x2048 .bf16) (h8 : a8.IsWhole) (a9 : Memref sig .tc .vmem S1x704x2048 .bf16) (h9 : a9.IsWhole)
  (a10 : Memref sig .tc .vmem S704x2048 .f32) (h10 : a10.IsWhole) (a11 : Memref sig .tc .vmem S704x2048 .f32) (h11 : a11.IsWhole)
  (x0 : Vec Ideal S1024x2048 .bf16) (x1 x2 : Vec Ideal S1x1024x704 .bf16) (x3 : Vec Ideal S256x2048 .bf16) (x4 x5 : Vec Ideal S1x256x704 .bf16) (s0 s1 : Vec Ideal S704x2048 .f32)

/-- The first block of rows starts the gate sum from zero. -/
theorem first0 (k0 : cond0_0 i) (k1 : cond0_1 i) (k2 : ¬cond0_2 i) (k3 : ¬cond0_3 i) : sout0_A_0 c i a2 h2 a3 h3 a4 h4 a5 h5 a6 h6 a7 h7 a8 h8 a9 h9 a10 h10 a11 h11 k0 k1 k2 k3 x0 x1 x2 x3 x4 x5 = k0_pay3 x0 (k0_pay1 (F := Ideal)) x1 := by
  unfold sout0_A_0
  rw [View.read_writes_eq_canon _ _ _ (scover0_A_0 c i a2 h2 a3 h3 a4 h4 a5 h5 a6 h6 a7 h7 a8 h8 a9 h9 a10 h10 a11 h11 k0 k1 k2 k3 x0 x1 x2 x3 x4 x5)]
  unfold kernelRun0_A
  dsimp only
  sl_unfold_words
  rw [View.canon_cons_unit_zero (S := S704x2048) hz, View.readCov_unit_zero (S := S704x2048) _ hz]
  simp only [View.readAt_eq_ld, h2.read_unread, h3.read_unread, View.ld_unit_zero (S := S1024x2048) hz, View.ld_unit_zero (S := S1x1024x704) hz3]

/-- A middle block of rows adds its product to the gate sum. -/
theorem next0 (k0 : ¬cond0_0 i) (k1 : cond0_1 i) (k2 : ¬cond0_2 i) (k3 : ¬cond0_3 i) : sout0_B_0 c i a2 h2 a3 h3 a4 h4 a5 h5 a6 h6 a7 h7 a8 h8 a9 h9 a10 h10 a11 h11 k0 k1 k2 k3 x0 x1 x2 x3 x4 x5 s0 s1 = k0_pay3 x0 s0 x1 := by
  unfold sout0_B_0
  rw [View.read_writes_eq_canon _ _ _ (scover0_B_0 c i a2 h2 a3 h3 a4 h4 a5 h5 a6 h6 a7 h7 a8 h8 a9 h9 a10 h10 a11 h11 k0 k1 k2 k3 x0 x1 x2 x3 x4 x5 s0 s1)]
  unfold kernelRun0_B
  dsimp only
  rw [View.canon_unit_zero hz]
  simp only [View.readAt_eq_ld, h2.read_unread, h3.read_unread, h10.read_unread, View.ld_unit_zero (S := S704x2048) hz,
    View.ld_unit_zero (S := S1024x2048) hz, View.ld_unit_zero (S := S1x1024x704) hz3]

/-- The last block's gate sum is written out. -/
theorem last0 (k0 : ¬cond0_0 i) (k1 : ¬cond0_1 i) (k2 : cond0_2 i) (k3 : cond0_3 i) : out0_C_6 c i a2 h2 a3 h3 a4 h4 a5 h5 a6 h6 a7 h7 a8 h8 a9 h9 a10 h10 a11 h11 k0 k1 k2 k3 x0 x1 x2 x3 x4 x5 s0 s1 = k0_pay7 (k0_pay5 x3 s0 x4) := by
  unfold out0_C_6
  rw [View.read_writes_eq_canon _ _ _ (cover0_C_6 c i a2 h2 a3 h3 a4 h4 a5 h5 a6 h6 a7 h7 a8 h8 a9 h9 a10 h10 a11 h11 k0 k1 k2 k3 x0 x1 x2 x3 x4 x5 s0 s1)]
  unfold kernelRun0_C
  dsimp only
  sl_unfold_words
  rw [View.canon_unit_zero hz3, View.readCov_unit_zero (S := S704x2048) _ hz]
  simp only [View.readAt_eq_ld, h5.read_unread, h6.read_unread, h10.read_unread, View.ld_unit_zero (S := S704x2048) hz,
    View.ld_unit_zero (S := S256x2048) hz, View.ld_unit_zero (S := S1x256x704) hz3]

/-- The first block of rows starts the up sum from zero. -/
theorem first1 (k0 : cond0_0 i) (k1 : cond0_1 i) (k2 : ¬cond0_2 i) (k3 : ¬cond0_3 i) : sout0_A_1 c i a2 h2 a3 h3 a4 h4 a5 h5 a6 h6 a7 h7 a8 h8 a9 h9 a10 h10 a11 h11 k0 k1 k2 k3 x0 x1 x2 x3 x4 x5 = k0_pay4 x0 (k0_pay2 (F := Ideal)) x2 := by
  unfold sout0_A_1
  rw [View.read_writes_eq_canon _ _ _ (scover0_A_1 c i a2 h2 a3 h3 a4 h4 a5 h5 a6 h6 a7 h7 a8 h8 a9 h9 a10 h10 a11 h11 k0 k1 k2 k3 x0 x1 x2 x3 x4 x5)]
  unfold kernelRun0_A
  dsimp only
  sl_unfold_words
  rw [View.canon_cons_unit_zero (S := S704x2048) hz, View.readCov_unit_zero (S := S704x2048) _ hz]
  simp only [View.readAt_eq_ld, h2.read_unread, h4.read_unread, View.ld_unit_zero (S := S1024x2048) hz, View.ld_unit_zero (S := S1x1024x704) hz3]

/-- A middle block of rows adds its product to the up sum. -/
theorem next1 (k0 : ¬cond0_0 i) (k1 : cond0_1 i) (k2 : ¬cond0_2 i) (k3 : ¬cond0_3 i) : sout0_B_1 c i a2 h2 a3 h3 a4 h4 a5 h5 a6 h6 a7 h7 a8 h8 a9 h9 a10 h10 a11 h11 k0 k1 k2 k3 x0 x1 x2 x3 x4 x5 s0 s1 = k0_pay4 x0 s1 x2 := by
  unfold sout0_B_1
  rw [View.read_writes_eq_canon _ _ _ (scover0_B_1 c i a2 h2 a3 h3 a4 h4 a5 h5 a6 h6 a7 h7 a8 h8 a9 h9 a10 h10 a11 h11 k0 k1 k2 k3 x0 x1 x2 x3 x4 x5 s0 s1)]
  unfold kernelRun0_B
  dsimp only
  rw [View.canon_unit_zero hz]
  simp only [View.readAt_eq_ld, h2.read_unread, h4.read_unread, h11.read_unread, View.ld_unit_zero (S := S704x2048) hz,
    View.ld_unit_zero (S := S1024x2048) hz, View.ld_unit_zero (S := S1x1024x704) hz3]

/-- The last block's up sum is written out. -/
theorem last1 (k0 : ¬cond0_0 i) (k1 : ¬cond0_1 i) (k2 : cond0_2 i) (k3 : cond0_3 i) : out0_C_7 c i a2 h2 a3 h3 a4 h4 a5 h5 a6 h6 a7 h7 a8 h8 a9 h9 a10 h10 a11 h11 k0 k1 k2 k3 x0 x1 x2 x3 x4 x5 s0 s1 = k0_pay8 (k0_pay6 x3 s1 x5) := by
  unfold out0_C_7
  rw [View.read_writes_eq_canon _ _ _ (cover0_C_7 c i a2 h2 a3 h3 a4 h4 a5 h5 a6 h6 a7 h7 a8 h8 a9 h9 a10 h10 a11 h11 k0 k1 k2 k3 x0 x1 x2 x3 x4 x5 s0 s1)]
  unfold kernelRun0_C
  dsimp only
  sl_unfold_words
  rw [View.canon_unit_zero hz3, View.readCov_unit_zero (S := S704x2048) _ hz]
  simp only [View.readAt_eq_ld, h5.read_unread, h7.read_unread, h11.read_unread, View.ld_unit_zero (S := S704x2048) hz,
    View.ld_unit_zero (S := S256x2048) hz, View.ld_unit_zero (S := S1x256x704) hz3]

end Cases

/-! ## The step by row and column -/

section Entries
variable (x0 : Vec Ideal S1024x2048 .bf16) (x1 : Vec Ideal S1x1024x704 .bf16) (x3 : Vec Ideal S256x2048 .bf16) (x4 : Vec Ideal S1x256x704 .bf16) (s : Vec Ideal S704x2048 .f32) (i j : ℕ) (hi : i < 704) (hj : j < 2048)
include hi hj

/-- The sums start from zero. -/
theorem zero_at : rd (k0_pay1 (F := Ideal)) i j = 0 := by
  refine (rd_at (n := 704) (m := 2048) _ i j hi hj).trans ?_
  unfold k0_pay1
  rw [shapeCast_self]
  exact Ideal.ofBits_zero_f32

/-- A step adds the product of a block of rows. -/
theorem step_at : rd (k0_pay3 x0 s x1) i j = rd s i j + ∑ l ∈ Finset.range 1024, rd3 x1 0 l i * rd x0 l j := by
  have h := rd_tn (n := 704) (m := 2048) (k := 1024) (k0_pay3 x0 s x1) s (shapeCast S1024x704 x1 shapeCasts_S1x1024x704_S1024x704) x0 (fun r q => by
    unfold k0_pay3
    simp only [shapeCast_self, pointwise, zero_add]) i j hi hj
  refine h.trans (congrArg (rd s i j + ·) (Finset.sum_congr rfl fun l hl => ?_))
  rw [rd_unslab (n := 1024) (m := 704) x1 _ l i (Finset.mem_range.mp hl) hi]

/-- The last step adds the product of the last block of rows. -/
theorem stepLast_at : rd (k0_pay5 x3 s x4) i j = rd s i j + ∑ l ∈ Finset.range 256, rd3 x4 0 l i * rd x3 l j := by
  have h := rd_tn (n := 704) (m := 2048) (k := 256) (k0_pay5 x3 s x4) s (shapeCast S256x704 x4 shapeCasts_S1x256x704_S256x704) x3 (fun r q => by
    unfold k0_pay5
    simp only [shapeCast_self, pointwise, zero_add]) i j hi hj
  refine h.trans (congrArg (rd s i j + ·) (Finset.sum_congr rfl fun l hl => ?_))
  rw [rd_unslab (n := 256) (m := 704) x4 _ l i (Finset.mem_range.mp hl) hi]

end Entries

/-! ## The blocks of the arguments -/

variable (m : (ℓ : Loc nD τ sig) → Buf (Elt Ideal) ℓ) (ρ : Dev nD → PrngReg) (c : Dev nD)

/-- The rows the layer was given, as launched. -/
abbrev arrH : Vec Ideal S4352x2048 .bf16 := m ((c : Thread nD τ).loc main_arg0)
/-- The cotangent of the gate, as launched. -/
abbrev arrG : Vec Ideal S8x4352x704 .bf16 := m ((c : Thread nD τ).loc main_arg1)
/-- The cotangent of the up product, as launched. -/
abbrev arrU : Vec Ideal S8x4352x704 .bf16 := m ((c : Thread nD τ).loc main_arg2)

/-- Point `5 q + b` is given slab `q` and the rows from `1024 b`, or from 3072 at the last point, with the last 256 rows. -/
theorem idx_in : ∀ t : Fin grid0.N, (win0_0.index t 0 = min (t.val % 5) 3 ∧ win0_0.index t 1 = 0)
    ∧ (win0_1.index t 0 = t.val / 5 ∧ win0_1.index t 1 = min (t.val % 5) 3 ∧ win0_1.index t 2 = 0)
    ∧ (win0_2.index t 0 = t.val / 5 ∧ win0_2.index t 1 = min (t.val % 5) 3 ∧ win0_2.index t 2 = 0)
    ∧ (win0_3.index t 0 = 16 ∧ win0_3.index t 1 = 0)
    ∧ (win0_4.index t 0 = t.val / 5 ∧ win0_4.index t 1 = 16 ∧ win0_4.index t 2 = 0)
    ∧ (win0_5.index t 0 = t.val / 5 ∧ win0_5.index t 1 = 16 ∧ win0_5.index t 2 = 0)
    ∧ (win0_6.index t 0 = t.val / 5 ∧ win0_6.index t 1 = 0 ∧ win0_6.index t 2 = 0)
    ∧ (win0_7.index t 0 = t.val / 5 ∧ win0_7.index t 1 = 0 ∧ win0_7.index t 2 = 0) := by decide +kernel

/-- The block of rows. -/
theorem blk0 (t : Fin cfg0.N) (ht : t.val % 5 ≤ 3) (r k : ℕ) (hr : r < 1024) (hk : k < 2048) :
    rd (X0_0 m c t : Vec Ideal S1024x2048 .bf16) r k = rd (arrH m c) (1024 * (t.val % 5) + r) k := by
  have e := (idx_in t).1
  refine (rd_at (n := 1024) (m := 2048) _ r k hr hk).trans ?_
  unfold X0_0 Pipeline.Window.fill
  rw [dif_pos (moved0_0 t _)]
  refine eq_rd (n := 4352) (m := 2048) (arrH m c) (((cfg0.win 0).blk t).view.emb (fun a => ⟨((ValueIdx.ix2 (⟨r, hr⟩ : Fin 1024) (⟨k, hk⟩ : Fin 2048)) a).val, ((cfg0.win 0).moved_iff _ _).mp (moved0_0 t (ValueIdx.ix2 (⟨r, hr⟩ : Fin 1024) (⟨k, hk⟩ : Fin 2048))) a⟩)) _ _ ?_ ?_
  · show win0_0.index t 0 * 1024 + 1 * r = _
    omega
  · show win0_0.index t 1 * 2048 + 1 * k = _
    omega

/-- The block of the gate's cotangent. -/
theorem blk1 (t : Fin cfg0.N) (ht : t.val % 5 ≤ 3) (r k : ℕ) (hr : r < 1024) (hk : k < 704) :
    rd3 (X0_1 m c t : Vec Ideal S1x1024x704 .bf16) 0 r k = rd3 (arrG m c) (t.val / 5) (1024 * (t.val % 5) + r) k := by
  have e := (idx_in t).2.1
  refine (rd3_at (p := 1) (n := 1024) (m := 704) _ 0 r k (by omega) hr hk).trans ?_
  unfold X0_1 Pipeline.Window.fill
  rw [dif_pos (moved0_1 t _)]
  refine eq_rd3 (p := 8) (n := 4352) (m := 704) (arrG m c) (((cfg0.win 1).blk t).view.emb (fun a => ⟨((ValueIdx.ix3 (0 : Fin 1) (⟨r, hr⟩ : Fin 1024) (⟨k, hk⟩ : Fin 704)) a).val, ((cfg0.win 1).moved_iff _ _).mp (moved0_1 t (ValueIdx.ix3 (0 : Fin 1) (⟨r, hr⟩ : Fin 1024) (⟨k, hk⟩ : Fin 704))) a⟩)) _ _ _ ?_ ?_ ?_
  · show win0_1.index t 0 * 1 + 1 * 0 = _
    omega
  · show win0_1.index t 1 * 1024 + 1 * r = _
    omega
  · show win0_1.index t 2 * 704 + 1 * k = _
    omega

/-- The block of the up product's cotangent. -/
theorem blk2 (t : Fin cfg0.N) (ht : t.val % 5 ≤ 3) (r k : ℕ) (hr : r < 1024) (hk : k < 704) :
    rd3 (X0_2 m c t : Vec Ideal S1x1024x704 .bf16) 0 r k = rd3 (arrU m c) (t.val / 5) (1024 * (t.val % 5) + r) k := by
  have e := (idx_in t).2.2.1
  refine (rd3_at (p := 1) (n := 1024) (m := 704) _ 0 r k (by omega) hr hk).trans ?_
  unfold X0_2 Pipeline.Window.fill
  rw [dif_pos (moved0_2 t _)]
  refine eq_rd3 (p := 8) (n := 4352) (m := 704) (arrU m c) (((cfg0.win 2).blk t).view.emb (fun a => ⟨((ValueIdx.ix3 (0 : Fin 1) (⟨r, hr⟩ : Fin 1024) (⟨k, hk⟩ : Fin 704)) a).val, ((cfg0.win 2).moved_iff _ _).mp (moved0_2 t (ValueIdx.ix3 (0 : Fin 1) (⟨r, hr⟩ : Fin 1024) (⟨k, hk⟩ : Fin 704))) a⟩)) _ _ _ ?_ ?_ ?_
  · show win0_2.index t 0 * 1 + 1 * 0 = _
    omega
  · show win0_2.index t 1 * 1024 + 1 * r = _
    omega
  · show win0_2.index t 2 * 704 + 1 * k = _
    omega

/-- The last rows. -/
theorem blk3 (t : Fin cfg0.N) (r k : ℕ) (hr : r < 256) (hk : k < 2048) :
    rd (iblk m c 3 t : Vec Ideal S256x2048 .bf16) r k = rd (arrH m c) (4096 + r) k := by
  have e := (idx_in t).2.2.2.1
  refine (rd_at (n := 256) (m := 2048) _ r k hr hk).trans ?_
  refine eq_rd (n := 4352) (m := 2048) (arrH m c) (((cfg0.win 3).blk t).view.emb (ValueIdx.ix2 (⟨r, hr⟩ : Fin 256) (⟨k, hk⟩ : Fin 2048))) _ _ ?_ ?_
  · show win0_3.index t 0 * 256 + 1 * r = _
    omega
  · show win0_3.index t 1 * 2048 + 1 * k = _
    omega

/-- The last rows of the gate's cotangent. -/
theorem blk4 (t : Fin cfg0.N) (r k : ℕ) (hr : r < 256) (hk : k < 704) :
    rd3 (iblk m c 4 t : Vec Ideal S1x256x704 .bf16) 0 r k = rd3 (arrG m c) (t.val / 5) (4096 + r) k := by
  have e := (idx_in t).2.2.2.2.1
  refine (rd3_at (p := 1) (n := 256) (m := 704) _ 0 r k (by omega) hr hk).trans ?_
  refine eq_rd3 (p := 8) (n := 4352) (m := 704) (arrG m c) (((cfg0.win 4).blk t).view.emb (ValueIdx.ix3 (0 : Fin 1) (⟨r, hr⟩ : Fin 256) (⟨k, hk⟩ : Fin 704))) _ _ _ ?_ ?_ ?_
  · show win0_4.index t 0 * 1 + 1 * 0 = _
    omega
  · show win0_4.index t 1 * 256 + 1 * r = _
    omega
  · show win0_4.index t 2 * 704 + 1 * k = _
    omega

/-- The last rows of the up product's cotangent. -/
theorem blk5 (t : Fin cfg0.N) (r k : ℕ) (hr : r < 256) (hk : k < 704) :
    rd3 (iblk m c 5 t : Vec Ideal S1x256x704 .bf16) 0 r k = rd3 (arrU m c) (t.val / 5) (4096 + r) k := by
  have e := (idx_in t).2.2.2.2.2.1
  refine (rd3_at (p := 1) (n := 256) (m := 704) _ 0 r k (by omega) hr hk).trans ?_
  refine eq_rd3 (p := 8) (n := 4352) (m := 704) (arrU m c) (((cfg0.win 5).blk t).view.emb (ValueIdx.ix3 (0 : Fin 1) (⟨r, hr⟩ : Fin 256) (⟨k, hk⟩ : Fin 704))) _ _ _ ?_ ?_ ?_
  · show win0_5.index t 0 * 1 + 1 * 0 = _
    omega
  · show win0_5.index t 1 * 256 + 1 * r = _
    omega
  · show win0_5.index t 2 * 704 + 1 * k = _
    omega

/-! ## The sums -/

/-- The two steps are one computation, -/
theorem up_eq (x0 : Vec Ideal S1024x2048 .bf16) (s : Vec Ideal S704x2048 .f32) (x2 : Vec Ideal S1x1024x704 .bf16) : k0_pay4 x0 s x2 = k0_pay3 x0 s x2 := rfl

/-- and so are the two last steps. -/
theorem upLast_eq (x0 : Vec Ideal S256x2048 .bf16) (s : Vec Ideal S704x2048 .f32) (x2 : Vec Ideal S1x256x704 .bf16) : k0_pay6 x0 s x2 = k0_pay5 x0 s x2 := rfl

/-- A point's step of the gate sum. -/
theorem add0 (n : ℕ) (hn : n < cfg0.N) (h3 : n % 5 ≤ 3) (s : Vec Ideal S704x2048 .f32) (i j : ℕ) (hi : i < 704) (hj : j < 2048)
    (hs : rd s i j = ∑ r ∈ Finset.range (1024 * (n % 5)), rd3 (arrG m c) (n / 5) r i * rd (arrH m c) r j) :
    rd (k0_pay3 (X0_0 m c ⟨n, hn⟩) s (X0_1 m c ⟨n, hn⟩)) i j = ∑ r ∈ Finset.range (1024 * (n % 5 + 1)), rd3 (arrG m c) (n / 5) r i * rd (arrH m c) r j := by
  refine (step_at _ _ s i j hi hj).trans ?_
  rw [hs, Nat.mul_succ, Finset.sum_range_add]
  refine congrArg _ (Finset.sum_congr rfl fun l hl => ?_)
  have hl := Finset.mem_range.mp hl
  exact congrArg₂ (fun x y : EReal => x * y) (blk1 m c ⟨n, hn⟩ h3 l i hl hi) (blk0 m c ⟨n, hn⟩ h3 l j hl hj)

/-- The last point's step of the gate sum. -/
theorem addLast0 (n : ℕ) (hn : n < cfg0.N) (s : Vec Ideal S704x2048 .f32) (i j : ℕ) (hi : i < 704) (hj : j < 2048)
    (hs : rd s i j = ∑ r ∈ Finset.range 4096, rd3 (arrG m c) (n / 5) r i * rd (arrH m c) r j) :
    rd (k0_pay5 (iblk m c 3 ⟨n, hn⟩) s (iblk m c 4 ⟨n, hn⟩)) i j = ∑ r ∈ Finset.range 4352, rd3 (arrG m c) (n / 5) r i * rd (arrH m c) r j := by
  refine (stepLast_at _ _ s i j hi hj).trans ?_
  rw [hs, sum_last]
  refine congrArg _ (Finset.sum_congr rfl fun l hl => ?_)
  have hl := Finset.mem_range.mp hl
  exact congrArg₂ (fun x y : EReal => x * y) (blk4 m c ⟨n, hn⟩ l i hl hi) (blk3 m c ⟨n, hn⟩ l j hl hj)

/-- A point's step of the up sum. -/
theorem add1 (n : ℕ) (hn : n < cfg0.N) (h3 : n % 5 ≤ 3) (s : Vec Ideal S704x2048 .f32) (i j : ℕ) (hi : i < 704) (hj : j < 2048)
    (hs : rd s i j = ∑ r ∈ Finset.range (1024 * (n % 5)), rd3 (arrU m c) (n / 5) r i * rd (arrH m c) r j) :
    rd (k0_pay4 (X0_0 m c ⟨n, hn⟩) s (X0_2 m c ⟨n, hn⟩)) i j = ∑ r ∈ Finset.range (1024 * (n % 5 + 1)), rd3 (arrU m c) (n / 5) r i * rd (arrH m c) r j := by
  rw [up_eq]
  refine (step_at _ _ s i j hi hj).trans ?_
  rw [hs, Nat.mul_succ, Finset.sum_range_add]
  refine congrArg _ (Finset.sum_congr rfl fun l hl => ?_)
  have hl := Finset.mem_range.mp hl
  exact congrArg₂ (fun x y : EReal => x * y) (blk2 m c ⟨n, hn⟩ h3 l i hl hi) (blk0 m c ⟨n, hn⟩ h3 l j hl hj)

/-- The last point's step of the up sum. -/
theorem addLast1 (n : ℕ) (hn : n < cfg0.N) (s : Vec Ideal S704x2048 .f32) (i j : ℕ) (hi : i < 704) (hj : j < 2048)
    (hs : rd s i j = ∑ r ∈ Finset.range 4096, rd3 (arrU m c) (n / 5) r i * rd (arrH m c) r j) :
    rd (k0_pay6 (iblk m c 3 ⟨n, hn⟩) s (iblk m c 5 ⟨n, hn⟩)) i j = ∑ r ∈ Finset.range 4352, rd3 (arrU m c) (n / 5) r i * rd (arrH m c) r j := by
  rw [upLast_eq]
  refine (stepLast_at _ _ s i j hi hj).trans ?_
  rw [hs, sum_last]
  refine congrArg _ (Finset.sum_congr rfl fun l hl => ?_)
  have hl := Finset.mem_range.mp hl
  exact congrArg₂ (fun x y : EReal => x * y) (blk5 m c ⟨n, hn⟩ l i hl hi) (blk3 m c ⟨n, hn⟩ l j hl hj)

/-- After a point of a slab that is not its last, the sums hold the products of the rows so far. -/
theorem sums (i j : ℕ) (hi : i < 704) (hj : j < 2048) : ∀ (n : ℕ) (hn : n < cfg0.N), n % 5 ≤ 3 →
    rd ((outsAt0 m c n hn).2.2.1 : Vec Ideal S704x2048 .f32) i j = ∑ r ∈ Finset.range (1024 * (n % 5 + 1)), rd3 (arrG m c) (n / 5) r i * rd (arrH m c) r j
    ∧ rd ((outsAt0 m c n hn).2.2.2 : Vec Ideal S704x2048 .f32) i j = ∑ r ∈ Finset.range (1024 * (n % 5 + 1)), rd3 (arrU m c) (n / 5) r i * rd (arrH m c) r j := by
  intro n
  induction n using Nat.strong_induction_on with
  | _ n ih =>
    intro hn h3
    by_cases h0 : n % 5 = 0
    · rw [outsAt0_A m c ⟨n, hn⟩ h0 h3 (by dsimp only; omega) (by dsimp only; omega)]
      dsimp only
      rw [first0, first1]
      refine ⟨add0 m c n hn h3 _ i j hi hj ?_, add1 m c n hn h3 _ i j hi hj ?_⟩
      · rw [h0]
        exact zero_at i j hi hj
      · rw [h0]
        exact zero_at i j hi hj
    · rw [outsAt0_B m c ⟨n, hn⟩ h0 h3 (by dsimp only; omega) (by dsimp only; omega)]
      dsimp only
      rw [next0, next1]
      have e := ih (n - 1) (by omega) (Nat.lt_of_le_of_lt (Nat.sub_le _ _) hn) (by omega)
      rw [show (n - 1) % 5 + 1 = n % 5 by omega, show (n - 1) / 5 = n / 5 by omega] at e
      exact ⟨add0 m c n hn h3 _ i j hi hj e.1, add1 m c n hn h3 _ i j hi hj e.2⟩

/-- A weight's gradient: the products of a slab of the cotangent with the rows. -/
def grad (D : Vec Ideal S8x4352x704 .bf16) (H : Vec Ideal S4352x2048 .bf16) : Vec Ideal S8x704x2048 .bf16 :=
  fun y => ∑ r ∈ Finset.range 4352, rd3 D (y 0).val r (y 1).val * rd H r (y 2).val

/-- A written block by row and column, for the gate weights, -/
theorem block6 (t : Fin cfg0.N) (s : Vec Ideal S704x2048 .f32) (y : S1x704x2048.Idx) : (cfg0.win 6).cut (grid0.coords t) (k0_pay7 s) y = rd s (y 1).val (y 2).val :=
  slab_at (n := 704) (m := 2048) s shapeCasts_S704x2048_S1x704x2048 y

/-- and for the up weights. -/
theorem block7 (t : Fin cfg0.N) (s : Vec Ideal S704x2048 .f32) (y : S1x704x2048.Idx) : (cfg0.win 7).cut (grid0.coords t) (k0_pay8 s) y = rd s (y 1).val (y 2).val :=
  slab_at (n := 704) (m := 2048) s shapeCasts_S704x2048_S1x704x2048 y

/-- What is written back for the gate weights. -/
theorem flushed_gate (t : Fin cfg0.N) (hf : (cfg0.win 6).flush t = true) :
    (dats m 0 c).flushed 6 t = ((cfg0.win 6).blk t).view.read (Elt Ideal) (grad (arrG m c) (arrH m c)) := by
  have h1 : t.val % 5 = 4 := (flush0_6 t).mp hf
  rw [Value.flushed6_C m c t (by omega) (by omega) h1 h1, last0]
  obtain ⟨e0, e1, e2⟩ := (idx_in t).2.2.2.2.2.2.1
  funext y
  have y0 : (y 0).val < 1 := (y 0).isLt
  have y1 : (y 1).val < 704 := (y 1).isLt
  have y2 : (y 2).val < 2048 := (y 2).isLt
  have e := (sums m c (y 1).val (y 2).val y1 y2 (t.val - 1) (Nat.lt_of_le_of_lt (Nat.sub_le _ _) t.isLt) (by omega)).1
  rw [show 1024 * ((t.val - 1) % 5 + 1) = 4096 by omega, show (t.val - 1) / 5 = t.val / 5 by omega] at e
  refine (block6 t _ y).trans ?_
  refine (addLast0 m c t.val t.isLt _ _ _ y1 y2 e).trans ?_
  have f0 : (((cfg0.win 6).blk t).view.emb y 0).val = t.val / 5 := by
    show win0_6.index t 0 * 1 + 1 * (y 0).val = _
    omega
  have f1 : (((cfg0.win 6).blk t).view.emb y 1).val = (y 1).val := by
    show win0_6.index t 1 * 704 + 1 * (y 1).val = _
    omega
  have f2 : (((cfg0.win 6).blk t).view.emb y 2).val = (y 2).val := by
    show win0_6.index t 2 * 2048 + 1 * (y 2).val = _
    omega
  show _ = ∑ r ∈ Finset.range 4352, rd3 (arrG m c) (((cfg0.win 6).blk t).view.emb y 0).val r (((cfg0.win 6).blk t).view.emb y 1).val
    * rd (arrH m c) r (((cfg0.win 6).blk t).view.emb y 2).val
  rw [f0, f1, f2]

/-- What is written back for the up weights. -/
theorem flushed_up (t : Fin cfg0.N) (hf : (cfg0.win 7).flush t = true) :
    (dats m 0 c).flushed 7 t = ((cfg0.win 7).blk t).view.read (Elt Ideal) (grad (arrU m c) (arrH m c)) := by
  have h1 : t.val % 5 = 4 := (flush0_7 t).mp hf
  rw [Value.flushed7_C m c t (by omega) (by omega) h1 h1, last1]
  obtain ⟨e0, e1, e2⟩ := (idx_in t).2.2.2.2.2.2.2
  funext y
  have y0 : (y 0).val < 1 := (y 0).isLt
  have y1 : (y 1).val < 704 := (y 1).isLt
  have y2 : (y 2).val < 2048 := (y 2).isLt
  have e := (sums m c (y 1).val (y 2).val y1 y2 (t.val - 1) (Nat.lt_of_le_of_lt (Nat.sub_le _ _) t.isLt) (by omega)).2
  rw [show 1024 * ((t.val - 1) % 5 + 1) = 4096 by omega, show (t.val - 1) / 5 = t.val / 5 by omega] at e
  refine (block7 t _ y).trans ?_
  refine (addLast1 m c t.val t.isLt _ _ _ y1 y2 e).trans ?_
  have f0 : (((cfg0.win 7).blk t).view.emb y 0).val = t.val / 5 := by
    show win0_7.index t 0 * 1 + 1 * (y 0).val = _
    omega
  have f1 : (((cfg0.win 7).blk t).view.emb y 1).val = (y 1).val := by
    show win0_7.index t 1 * 704 + 1 * (y 1).val = _
    omega
  have f2 : (((cfg0.win 7).blk t).view.emb y 2).val = (y 2).val := by
    show win0_7.index t 2 * 2048 + 1 * (y 2).val = _
    omega
  show _ = ∑ r ∈ Finset.range 4352, rd3 (arrU m c) (((cfg0.win 7).blk t).view.emb y 0).val r (((cfg0.win 7).blk t).view.emb y 1).val
    * rd (arrH m c) r (((cfg0.win 7).blk t).view.emb y 2).val
  rw [f0, f1, f2]

/-- The kernel's run: the two gradients, the arguments unchanged. -/
theorem run : θ_run defs (onTc (τ := τ) (main (F := Ideal))) ⟨m, fun _ => 0, ρ⟩ fun r => ∀ c : Dev nD,
      r.2.mem ((c : Thread nD τ).loc main_v0_0) = grad (arrG m c) (arrH m c)
      ∧ r.2.mem ((c : Thread nD τ).loc main_v0_1) = grad (arrU m c) (arrH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 6 (grad (arrG m c) (arrH m c)) (flushed_gate m c) fun i =>
      (Value.covered_iff6 i).2 ⟨Nat.zero_le _, (i 0).isLt, Nat.zero_le _, (i 1).isLt, Nat.zero_le _, (i 2).isLt⟩),
    (h c).2.1.trans ((dats m 0 c).arrAt_eq_of_cover 7 (grad (arrU m c) (arrH m c)) (flushed_up m c) fun i =>
      (Value.covered_iff7 i).2 ⟨Nat.zero_le _, (i 0).isLt, Nat.zero_le _, (i 1).isLt, Nat.zero_le _, (i 2).isLt⟩), (h c).2.2⟩)
    (Value.run_blocks m ρ)

end Cert.Kernel9Ideal.Sum

end
-- ==== Proof.GradGateUp1Ref.lean ====
/-
  The gate and up weights' gradients over 4352 rows: the derivative of the layer's products, and the kernel's claim.
-/
module

public import proofs.«01_k».proof.Proof.GradGateUp1
public import proofs.«01_k».proof.Proof.Gen.Reference9Ideal.Run
public import proofs.«01_k».proof.Defs

@[expose] public section

noncomputable section

namespace Cert.Reference9Ideal.Sum

open Idealize.ShloMosaic Idealize.ShloMosaic.TcCoe Idealize.SL.Sem Cert.Reference9Ideal Cert.Reference9Ideal.Gen Cert.Prods
open Cert.KernelIdeal.Conv (rd rd3 eq_rd eq_rd3)

/-- The host's product of columns with columns. -/
theorem dot_at (A : FVec Ideal S4352x5632 .f32) (B : FVec Ideal S4352x2048 .f32) (r : Fin 5632) (q : Fin 2048) :
    Host.dotGeneral dot_S4352x5632_S4352x2048_S5632x2048_0_0_1_1_n_n none A B (ix2 r q) = ∑ l : Fin 4352, A (ix2 l r) * B (ix2 l q) := by
  simp only [pointwise, zero_add]

/-- The derivative with respect to a weight, entry by entry. -/
theorem grad_eq (D : FVec Ideal S8x4352x704 .bf16) (H : FVec Ideal S4352x2048 .bf16) :
    (truncf .bf16 (shapeCast S8x704x2048 (transpose S5632x2048 [1, 0] (transpose S2048x5632 [1, 0] (Host.dotGeneral dot_S4352x5632_S4352x2048_S5632x2048_0_0_1_1_n_n none
      (shapeCast S4352x5632 (transpose S4352x8x704 [1, 0, 2] (extf .f32 D bitsLt_bf16_f32) transposes_S8x4352x704_S4352x8x704_1_0_2) shapeCasts_S4352x8x704_S4352x5632)
      (extf .f32 H bitsLt_bf16_f32)) transposes_S5632x2048_S2048x5632_1_0) transposes_S2048x5632_S5632x2048_1_0) shapeCasts_S5632x2048_S8x704x2048) bitsLt_bf16_f32
      : FVec Ideal S8x704x2048 .bf16) = Cert.Kernel9Ideal.Sum.grad D H := by
  funext y
  have y0 : (y 0).val < 8 := (y 0).isLt
  have y1 : (y 1).val < 704 := (y 1).isLt
  have y2 : (y 2).val < 2048 := (y 2).isLt
  refine (eq_rd3 (p := 8) (n := 704) (m := 2048) _ y _ _ _ rfl rfl rfl).trans ?_
  refine (rd3_trunc (p := 8) (n := 704) (m := 2048) _ _ _ _ _).trans ?_
  refine (rd3_groups (p := 8) (n := 704) (m := 2048) _ _ _ _ _ y0 y1 y2).trans ?_
  refine (rd_swap (n := 2048) (m := 5632) _ _ _ _ (by omega) y2).trans ?_
  refine (rd_swap (n := 5632) (m := 2048) _ _ _ _ y2 (by omega)).trans ?_
  refine (rd_dot_tn (n := 5632) (m := 2048) (k := 4352) _ _ _ (dot_at _ _) _ _ (by omega) y2).trans ?_
  refine Finset.sum_congr rfl fun l hl => ?_
  exact congrArg₂ (fun x y : EReal => x * y) (rd_beside (p := 8) (n := 4352) (w := 704) (extf .f32 D bitsLt_bf16_f32) _ _ l _ _ (Finset.mem_range.mp hl) y0 y1) rfl

end Cert.Reference9Ideal.Sum

namespace Cert.Proof

open Idealize.ShloMosaic Idealize.ShloMosaic.TcCoe Idealize.SL.Sem

/-- The kernel computes the derivative with respect to the gate and up weights. -/
theorem algebraic9 : Cert.algebraic_Kernel9Ideal_Reference9Ideal := fun m g m' g' _ h =>
  ⟨_, _, Cert.Kernel9Ideal.Sum.run m g, (θ_run Cert.Reference9Ideal.defs _ _).mono (fun r k c => by
    obtain ⟨h0, h1, h2⟩ := h c
    obtain ⟨k0, k1, k⟩ := k c
    refine ⟨k0.trans ?_, k1.trans ?_, k⟩
    · rw [h0, h1]
      exact Cert.Reference9Ideal.Sum.grad_eq _ _
    · rw [h0, h2]
      exact Cert.Reference9Ideal.Sum.grad_eq _ _) (Cert.Reference9Ideal.Value.run m' g')⟩

end Cert.Proof

end
-- ==== Proof.GradDown1.lean ====
/-
  The down weight's gradient over 4352 rows: the kernel adds up the products of four blocks of 1024 rows and one of 256, and halves the sum.
-/
module

public import proofs.«01_k».proof.Proof.GradDown2
public import proofs.«01_k».proof.Proof.RefCols
public import proofs.«01_k».proof.Proof.Gen.Kernel10Ideal.Value
public import proofs.«01_k».proof.Proof.Gen.Reference10Ideal.Run
public import proofs.«01_k».proof.Defs
public import Idealize.ShloMosaic.Lib.Pipeline.Value
public import Idealize.ShloMosaic.Lib.Claim

@[expose] public section

noncomputable section

namespace Cert.Kernel10Ideal.Sum

open Idealize.ShloMosaic Idealize.ShloMosaic.TcCoe Idealize.ShloMosaic.Tactic Idealize.SL.Sem Cert.Kernel10Ideal Cert.Kernel10Ideal.Gen Cert.Prods
open Cert.KernelIdeal.Conv (rd rd3 eq_rd eq_rd3 rd_at rd3_at)
open Cert.Cols (sg sig_eq half_eq)
open Cert.Kernel3Ideal.Sum (hid half16)
open Idealize.ShloMosaic.Pipeline (Dat)

/-! ## What the body leaves -/

section Cases
variable (c : Dev nD) (i : grid0.Coords) (a2 : Memref sig .tc .vmem S1x1024x704 .bf16) (h2 : a2.IsWhole) (a3 : Memref sig .tc .vmem S1x1024x704 .bf16) (h3 : a3.IsWhole)
  (a4 : Memref sig .tc .vmem S1024x2048 .bf16) (h4 : a4.IsWhole) (a5 : Memref sig .tc .vmem S1x256x704 .bf16) (h5 : a5.IsWhole)
  (a6 : Memref sig .tc .vmem S1x256x704 .bf16) (h6 : a6.IsWhole) (a7 : Memref sig .tc .vmem S256x2048 .bf16) (h7 : a7.IsWhole)
  (a8 : Memref sig .tc .vmem S1x704x2048 .bf16) (h8 : a8.IsWhole) (a9 : Memref sig .tc .vmem S704x2048 .f32) (h9 : a9.IsWhole)
  (x0 x1 : Vec Ideal S1x1024x704 .bf16) (x2 : Vec Ideal S1024x2048 .bf16) (x3 x4 : Vec Ideal S1x256x704 .bf16) (x5 : Vec Ideal S256x2048 .bf16) (s0 : Vec Ideal S704x2048 .f32)

/-- The first block of rows starts the sum from zero. -/
theorem first0 (k0 : cond0_0 i) (k1 : cond0_1 i) (k2 : ¬cond0_2 i) (k3 : ¬cond0_3 i) : sout0_A_0 c i a2 h2 a3 h3 a4 h4 a5 h5 a6 h6 a7 h7 a8 h8 a9 h9 k0 k1 k2 k3 x0 x1 x2 x3 x4 x5 = k0_pay2 x0 x1 (k0_pay1 (F := Ideal)) x2 := by
  unfold sout0_A_0
  rw [View.read_writes_eq_canon _ _ _ (scover0_A_0 c i a2 h2 a3 h3 a4 h4 a5 h5 a6 h6 a7 h7 a8 h8 a9 h9 k0 k1 k2 k3 x0 x1 x2 x3 x4 x5)]
  unfold kernelRun0_A
  dsimp only
  sl_unfold_words
  rw [View.canon_cons_unit_zero (S := S704x2048) hz, View.readCov_unit_zero (S := S704x2048) _ hz]
  simp only [View.readAt_eq_ld, h2.read_unread, h3.read_unread, h4.read_unread, View.ld_unit_zero (S := S1024x2048) hz, View.ld_unit_zero (S := S1x1024x704) hz3]

/-- A middle block of rows adds its product. -/
theorem next0 (k0 : ¬cond0_0 i) (k1 : cond0_1 i) (k2 : ¬cond0_2 i) (k3 : ¬cond0_3 i) : sout0_B_0 c i a2 h2 a3 h3 a4 h4 a5 h5 a6 h6 a7 h7 a8 h8 a9 h9 k0 k1 k2 k3 x0 x1 x2 x3 x4 x5 s0 = k0_pay2 x0 x1 s0 x2 := by
  unfold sout0_B_0
  rw [View.read_writes_eq_canon _ _ _ (scover0_B_0 c i a2 h2 a3 h3 a4 h4 a5 h5 a6 h6 a7 h7 a8 h8 a9 h9 k0 k1 k2 k3 x0 x1 x2 x3 x4 x5 s0)]
  unfold kernelRun0_B
  dsimp only
  rw [View.canon_unit_zero hz]
  simp only [View.readAt_eq_ld, h2.read_unread, h3.read_unread, h4.read_unread, h9.read_unread, View.ld_unit_zero (S := S704x2048) hz,
    View.ld_unit_zero (S := S1024x2048) hz, View.ld_unit_zero (S := S1x1024x704) hz3]

/-- The last block's sum is written out. -/
theorem last0 (k0 : ¬cond0_0 i) (k1 : ¬cond0_1 i) (k2 : cond0_2 i) (k3 : cond0_3 i) : out0_C_6 c i a2 h2 a3 h3 a4 h4 a5 h5 a6 h6 a7 h7 a8 h8 a9 h9 k0 k1 k2 k3 x0 x1 x2 x3 x4 x5 s0 = k0_pay4 (k0_pay3 x3 x4 s0 x5) := by
  unfold out0_C_6
  rw [View.read_writes_eq_canon _ _ _ (cover0_C_6 c i a2 h2 a3 h3 a4 h4 a5 h5 a6 h6 a7 h7 a8 h8 a9 h9 k0 k1 k2 k3 x0 x1 x2 x3 x4 x5 s0)]
  unfold kernelRun0_C
  dsimp only
  sl_unfold_words
  rw [View.canon_unit_zero hz3, View.readCov_unit_zero (S := S704x2048) _ hz]
  simp only [View.readAt_eq_ld, h5.read_unread, h6.read_unread, h7.read_unread, h9.read_unread, View.ld_unit_zero (S := S704x2048) hz,
    View.ld_unit_zero (S := S256x2048) hz, View.ld_unit_zero (S := S1x256x704) hz3]

end Cases

/-! ## The step by row and column -/

/-- The block of hidden values. -/
def hids (g u : FVec Ideal S1x1024x704 .bf16) : FVec Ideal S1024x704 .bf16 :=
  mulf (mulf (shapeCast S1024x704 g shapeCasts_S1x1024x704_S1024x704)
    (addf (mulf (broadcast S1024x704 (Scalar.ofBits .bf16 0x3F00#16)) (tanh (mulf (broadcast S1024x704 (Scalar.ofBits .bf16 0x3F00#16)) (shapeCast S1024x704 g shapeCasts_S1x1024x704_S1024x704))))
      (broadcast S1024x704 (Scalar.ofBits .bf16 0x3F00#16)))) (shapeCast S1024x704 u shapeCasts_S1x1024x704_S1024x704)

/-- It is by row and column what its name says. -/
theorem hids_at (g u : FVec Ideal S1x1024x704 .bf16) (i j : ℕ) (hi : i < 1024) (hj : j < 704) : rd (hids g u) i j = hid (rd3 g 0 i j) (rd3 u 0 i j) := by
  rw [← rd_unslab (n := 1024) (m := 704) g shapeCasts_S1x1024x704_S1024x704 i j hi hj, ← rd_unslab (n := 1024) (m := 704) u shapeCasts_S1x1024x704_S1024x704 i j hi hj,
    rd_at _ i j hi hj, rd_at (shapeCast S1024x704 g shapeCasts_S1x1024x704_S1024x704) i j hi hj, rd_at (shapeCast S1024x704 u shapeCasts_S1x1024x704_S1024x704) i j hi hj]
  refine congrArg (fun z : EReal => z * _) (congrArg (fun z : EReal => _ * z) ?_)
  show Ideal.ofBits .bf16 0x3F00#16 * Ideal.tanh (Ideal.ofBits .bf16 0x3F00#16 * _) + Ideal.ofBits .bf16 0x3F00#16 = _
  rw [half16]
  exact sig_eq _

/-- The last block of hidden values. -/
def hidsLast (g u : FVec Ideal S1x256x704 .bf16) : FVec Ideal S256x704 .bf16 :=
  mulf (mulf (shapeCast S256x704 g shapeCasts_S1x256x704_S256x704)
    (addf (mulf (broadcast S256x704 (Scalar.ofBits .bf16 0x3F00#16)) (tanh (mulf (broadcast S256x704 (Scalar.ofBits .bf16 0x3F00#16)) (shapeCast S256x704 g shapeCasts_S1x256x704_S256x704))))
      (broadcast S256x704 (Scalar.ofBits .bf16 0x3F00#16)))) (shapeCast S256x704 u shapeCasts_S1x256x704_S256x704)

/-- It is by row and column what its name says. -/
theorem hidsLast_at (g u : FVec Ideal S1x256x704 .bf16) (i j : ℕ) (hi : i < 256) (hj : j < 704) : rd (hidsLast g u) i j = hid (rd3 g 0 i j) (rd3 u 0 i j) := by
  rw [← rd_unslab (n := 256) (m := 704) g shapeCasts_S1x256x704_S256x704 i j hi hj, ← rd_unslab (n := 256) (m := 704) u shapeCasts_S1x256x704_S256x704 i j hi hj,
    rd_at _ i j hi hj, rd_at (shapeCast S256x704 g shapeCasts_S1x256x704_S256x704) i j hi hj, rd_at (shapeCast S256x704 u shapeCasts_S1x256x704_S256x704) i j hi hj]
  refine congrArg (fun z : EReal => z * _) (congrArg (fun z : EReal => _ * z) ?_)
  show Ideal.ofBits .bf16 0x3F00#16 * Ideal.tanh (Ideal.ofBits .bf16 0x3F00#16 * _) + Ideal.ofBits .bf16 0x3F00#16 = _
  rw [half16]
  exact sig_eq _

section Entries
variable (x0 x1 : Vec Ideal S1x1024x704 .bf16) (x2 : Vec Ideal S1024x2048 .bf16) (x3 x4 : Vec Ideal S1x256x704 .bf16) (x5 : Vec Ideal S256x2048 .bf16) (s : Vec Ideal S704x2048 .f32) (i j : ℕ) (hi : i < 704) (hj : j < 2048)
include hi hj

/-- The sum starts from zero. -/
theorem zero_at : rd (k0_pay1 (F := Ideal)) i j = 0 := by
  refine (rd_at (n := 704) (m := 2048) _ i j hi hj).trans ?_
  unfold k0_pay1
  rw [shapeCast_self]
  exact Ideal.ofBits_zero_f32

/-- A product of columns, added. -/
theorem acc_at (A : FVec Ideal S1024x704 .bf16) (B : FVec Ideal S1024x2048 .bf16) (s : FVec Ideal S704x2048 .f32) :
    rd (addf s (matmul dot_S1024x704_S1024x2048_S704x2048_0_0_1_1_n_n none A B (constant S704x2048 .f32 0x00000000#32))) i j
      = rd s i j + ∑ l ∈ Finset.range 1024, rd A l i * rd B l j :=
  rd_tn (n := 704) (m := 2048) (k := 1024) _ s A B (fun r q => by
    simp only [pointwise, zero_add]) i j hi hj

/-- A step adds the product of a block of rows. -/
theorem step_at : rd (k0_pay2 x0 x1 s x2) i j = rd s i j + ∑ l ∈ Finset.range 1024, hid (rd3 x0 0 l i) (rd3 x1 0 l i) * rd x2 l j := by
  have e : k0_pay2 x0 x1 s x2 = addf s (matmul (φ₂ := .bf16) dot_S1024x704_S1024x2048_S704x2048_0_0_1_1_n_n none (hids x0 x1) x2 (constant S704x2048 .f32 0x00000000#32)) := by
    unfold k0_pay2
    exact shapeCast_self _ _
  rw [e]
  refine (acc_at i j hi hj _ _ s).trans (congrArg (rd s i j + ·) (Finset.sum_congr rfl fun l hl => ?_))
  rw [hids_at x0 x1 l i (Finset.mem_range.mp hl) hi]

/-- A product of the last columns, added. -/
theorem accLast_at (A : FVec Ideal S256x704 .bf16) (B : FVec Ideal S256x2048 .bf16) (s : FVec Ideal S704x2048 .f32) :
    rd (addf s (matmul dot_S256x704_S256x2048_S704x2048_0_0_1_1_n_n none A B (constant S704x2048 .f32 0x00000000#32))) i j
      = rd s i j + ∑ l ∈ Finset.range 256, rd A l i * rd B l j :=
  rd_tn (n := 704) (m := 2048) (k := 256) _ s A B (fun r q => by
    simp only [pointwise, zero_add]) i j hi hj

/-- The last step adds the product of the last block of rows. -/
theorem stepLast_at : rd (k0_pay3 x3 x4 s x5) i j = rd s i j + ∑ l ∈ Finset.range 256, hid (rd3 x3 0 l i) (rd3 x4 0 l i) * rd x5 l j := by
  have e : k0_pay3 x3 x4 s x5 = addf s (matmul (φ₂ := .bf16) dot_S256x704_S256x2048_S704x2048_0_0_1_1_n_n none (hidsLast x3 x4) x5 (constant S704x2048 .f32 0x00000000#32)) := by
    unfold k0_pay3
    exact shapeCast_self _ _
  rw [e]
  refine (accLast_at i j hi hj _ _ s).trans (congrArg (rd s i j + ·) (Finset.sum_congr rfl fun l hl => ?_))
  rw [hidsLast_at x3 x4 l i (Finset.mem_range.mp hl) hi]

/-- The sum is halved when it is written. -/
theorem half_at : rd (mulf (broadcast S704x2048 (Scalar.ofBits .f32 0x3F000000#32)) s : FVec Ideal S704x2048 .f32) i j = ((1 / 2 : ℝ) : EReal) * rd s i j := by
  rw [rd_at _ i j hi hj, rd_at _ i j hi hj]
  show Ideal.ofBits .f32 0x3F000000#32 * _ = _
  rw [half_eq]

end Entries

/-! ## The blocks of the arguments -/

variable (m : (ℓ : Loc nD τ sig) → Buf (Elt Ideal) ℓ) (ρ : Dev nD → PrngReg) (c : Dev nD)

/-- The gate, as launched. -/
abbrev arrG : Vec Ideal S8x4352x704 .bf16 := m ((c : Thread nD τ).loc main_arg0)
/-- The up product, as launched. -/
abbrev arrU : Vec Ideal S8x4352x704 .bf16 := m ((c : Thread nD τ).loc main_arg1)
/-- The layer's cotangent, as launched. -/
abbrev arrD : Vec Ideal S4352x2048 .bf16 := m ((c : Thread nD τ).loc main_arg2)

/-- Point `5 q + b` is given slab `q` and the rows from `1024 b`, or from 3072 at the last point, with the last 256 rows. -/
theorem idx_in : ∀ t : Fin grid0.N, (win0_0.index t 0 = t.val / 5 ∧ win0_0.index t 1 = min (t.val % 5) 3 ∧ win0_0.index t 2 = 0)
    ∧ (win0_1.index t 0 = t.val / 5 ∧ win0_1.index t 1 = min (t.val % 5) 3 ∧ win0_1.index t 2 = 0)
    ∧ (win0_2.index t 0 = min (t.val % 5) 3 ∧ win0_2.index t 1 = 0)
    ∧ (win0_3.index t 0 = t.val / 5 ∧ win0_3.index t 1 = 16 ∧ win0_3.index t 2 = 0)
    ∧ (win0_4.index t 0 = t.val / 5 ∧ win0_4.index t 1 = 16 ∧ win0_4.index t 2 = 0)
    ∧ (win0_5.index t 0 = 16 ∧ win0_5.index t 1 = 0)
    ∧ (win0_6.index t 0 = t.val / 5 ∧ win0_6.index t 1 = 0 ∧ win0_6.index t 2 = 0) := by decide +kernel

/-- The block of the gate. -/
theorem blk0 (t : Fin cfg0.N) (ht : t.val % 5 ≤ 3) (r k : ℕ) (hr : r < 1024) (hk : k < 704) :
    rd3 (X0_0 m c t : Vec Ideal S1x1024x704 .bf16) 0 r k = rd3 (arrG m c) (t.val / 5) (1024 * (t.val % 5) + r) k := by
  have e := (idx_in t).1
  refine (rd3_at (p := 1) (n := 1024) (m := 704) _ 0 r k (by omega) hr hk).trans ?_
  unfold X0_0 Pipeline.Window.fill
  rw [dif_pos (moved0_0 t _)]
  refine eq_rd3 (p := 8) (n := 4352) (m := 704) (arrG m c) (((cfg0.win 0).blk t).view.emb (fun a => ⟨((ValueIdx.ix3 (0 : Fin 1) (⟨r, hr⟩ : Fin 1024) (⟨k, hk⟩ : Fin 704)) a).val, ((cfg0.win 0).moved_iff _ _).mp (moved0_0 t (ValueIdx.ix3 (0 : Fin 1) (⟨r, hr⟩ : Fin 1024) (⟨k, hk⟩ : Fin 704))) a⟩)) _ _ _ ?_ ?_ ?_
  · show win0_0.index t 0 * 1 + 1 * 0 = _
    omega
  · show win0_0.index t 1 * 1024 + 1 * r = _
    omega
  · show win0_0.index t 2 * 704 + 1 * k = _
    omega

/-- The block of the up product. -/
theorem blk1 (t : Fin cfg0.N) (ht : t.val % 5 ≤ 3) (r k : ℕ) (hr : r < 1024) (hk : k < 704) :
    rd3 (X0_1 m c t : Vec Ideal S1x1024x704 .bf16) 0 r k = rd3 (arrU m c) (t.val / 5) (1024 * (t.val % 5) + r) k := by
  have e := (idx_in t).2.1
  refine (rd3_at (p := 1) (n := 1024) (m := 704) _ 0 r k (by omega) hr hk).trans ?_
  unfold X0_1 Pipeline.Window.fill
  rw [dif_pos (moved0_1 t _)]
  refine eq_rd3 (p := 8) (n := 4352) (m := 704) (arrU m c) (((cfg0.win 1).blk t).view.emb (fun a => ⟨((ValueIdx.ix3 (0 : Fin 1) (⟨r, hr⟩ : Fin 1024) (⟨k, hk⟩ : Fin 704)) a).val, ((cfg0.win 1).moved_iff _ _).mp (moved0_1 t (ValueIdx.ix3 (0 : Fin 1) (⟨r, hr⟩ : Fin 1024) (⟨k, hk⟩ : Fin 704))) a⟩)) _ _ _ ?_ ?_ ?_
  · show win0_1.index t 0 * 1 + 1 * 0 = _
    omega
  · show win0_1.index t 1 * 1024 + 1 * r = _
    omega
  · show win0_1.index t 2 * 704 + 1 * k = _
    omega

/-- The block of the cotangent. -/
theorem blk2 (t : Fin cfg0.N) (ht : t.val % 5 ≤ 3) (r k : ℕ) (hr : r < 1024) (hk : k < 2048) :
    rd (X0_2 m c t : Vec Ideal S1024x2048 .bf16) r k = rd (arrD m c) (1024 * (t.val % 5) + r) k := by
  have e := (idx_in t).2.2.1
  refine (rd_at (n := 1024) (m := 2048) _ r k hr hk).trans ?_
  unfold X0_2 Pipeline.Window.fill
  rw [dif_pos (moved0_2 t _)]
  refine eq_rd (n := 4352) (m := 2048) (arrD m c) (((cfg0.win 2).blk t).view.emb (fun a => ⟨((ValueIdx.ix2 (⟨r, hr⟩ : Fin 1024) (⟨k, hk⟩ : Fin 2048)) a).val, ((cfg0.win 2).moved_iff _ _).mp (moved0_2 t (ValueIdx.ix2 (⟨r, hr⟩ : Fin 1024) (⟨k, hk⟩ : Fin 2048))) a⟩)) _ _ ?_ ?_
  · show win0_2.index t 0 * 1024 + 1 * r = _
    omega
  · show win0_2.index t 1 * 2048 + 1 * k = _
    omega

/-- The last rows of the gate. -/
theorem blk3 (t : Fin cfg0.N) (r k : ℕ) (hr : r < 256) (hk : k < 704) :
    rd3 (iblk m c 3 t : Vec Ideal S1x256x704 .bf16) 0 r k = rd3 (arrG m c) (t.val / 5) (4096 + r) k := by
  have e := (idx_in t).2.2.2.1
  refine (rd3_at (p := 1) (n := 256) (m := 704) _ 0 r k (by omega) hr hk).trans ?_
  refine eq_rd3 (p := 8) (n := 4352) (m := 704) (arrG m c) (((cfg0.win 3).blk t).view.emb (ValueIdx.ix3 (0 : Fin 1) (⟨r, hr⟩ : Fin 256) (⟨k, hk⟩ : Fin 704))) _ _ _ ?_ ?_ ?_
  · show win0_3.index t 0 * 1 + 1 * 0 = _
    omega
  · show win0_3.index t 1 * 256 + 1 * r = _
    omega
  · show win0_3.index t 2 * 704 + 1 * k = _
    omega

/-- The last rows of the up product. -/
theorem blk4 (t : Fin cfg0.N) (r k : ℕ) (hr : r < 256) (hk : k < 704) :
    rd3 (iblk m c 4 t : Vec Ideal S1x256x704 .bf16) 0 r k = rd3 (arrU m c) (t.val / 5) (4096 + r) k := by
  have e := (idx_in t).2.2.2.2.1
  refine (rd3_at (p := 1) (n := 256) (m := 704) _ 0 r k (by omega) hr hk).trans ?_
  refine eq_rd3 (p := 8) (n := 4352) (m := 704) (arrU m c) (((cfg0.win 4).blk t).view.emb (ValueIdx.ix3 (0 : Fin 1) (⟨r, hr⟩ : Fin 256) (⟨k, hk⟩ : Fin 704))) _ _ _ ?_ ?_ ?_
  · show win0_4.index t 0 * 1 + 1 * 0 = _
    omega
  · show win0_4.index t 1 * 256 + 1 * r = _
    omega
  · show win0_4.index t 2 * 704 + 1 * k = _
    omega

/-- The last rows of the cotangent. -/
theorem blk5 (t : Fin cfg0.N) (r k : ℕ) (hr : r < 256) (hk : k < 2048) :
    rd (iblk m c 5 t : Vec Ideal S256x2048 .bf16) r k = rd (arrD m c) (4096 + r) k := by
  have e := (idx_in t).2.2.2.2.2.1
  refine (rd_at (n := 256) (m := 2048) _ r k hr hk).trans ?_
  refine eq_rd (n := 4352) (m := 2048) (arrD m c) (((cfg0.win 5).blk t).view.emb (ValueIdx.ix2 (⟨r, hr⟩ : Fin 256) (⟨k, hk⟩ : Fin 2048))) _ _ ?_ ?_
  · show win0_5.index t 0 * 256 + 1 * r = _
    omega
  · show win0_5.index t 1 * 2048 + 1 * k = _
    omega

/-! ## The sums -/

/-- A point's step of the sum. -/
theorem add0 (n : ℕ) (hn : n < cfg0.N) (h3 : n % 5 ≤ 3) (s : Vec Ideal S704x2048 .f32) (i j : ℕ) (hi : i < 704) (hj : j < 2048)
    (hs : rd s i j = ∑ r ∈ Finset.range (1024 * (n % 5)), hid (rd3 (arrG m c) (n / 5) r i) (rd3 (arrU m c) (n / 5) r i) * rd (arrD m c) r j) :
    rd (k0_pay2 (X0_0 m c ⟨n, hn⟩) (X0_1 m c ⟨n, hn⟩) s (X0_2 m c ⟨n, hn⟩)) i j
      = ∑ r ∈ Finset.range (1024 * (n % 5 + 1)), hid (rd3 (arrG m c) (n / 5) r i) (rd3 (arrU m c) (n / 5) r i) * rd (arrD m c) r j := by
  refine (step_at _ _ _ s i j hi hj).trans ?_
  rw [hs, Nat.mul_succ, Finset.sum_range_add]
  refine congrArg _ (Finset.sum_congr rfl fun l hl => ?_)
  have hl := Finset.mem_range.mp hl
  exact congrArg₂ (fun x y : EReal => x * y) (congrArg₂ hid (blk0 m c ⟨n, hn⟩ h3 l i hl hi) (blk1 m c ⟨n, hn⟩ h3 l i hl hi)) (blk2 m c ⟨n, hn⟩ h3 l j hl hj)

/-- The last point's step of the sum. -/
theorem addLast0 (n : ℕ) (hn : n < cfg0.N) (s : Vec Ideal S704x2048 .f32) (i j : ℕ) (hi : i < 704) (hj : j < 2048)
    (hs : rd s i j = ∑ r ∈ Finset.range 4096, hid (rd3 (arrG m c) (n / 5) r i) (rd3 (arrU m c) (n / 5) r i) * rd (arrD m c) r j) :
    rd (k0_pay3 (iblk m c 3 ⟨n, hn⟩) (iblk m c 4 ⟨n, hn⟩) s (iblk m c 5 ⟨n, hn⟩)) i j = ∑ r ∈ Finset.range 4352, hid (rd3 (arrG m c) (n / 5) r i) (rd3 (arrU m c) (n / 5) r i) * rd (arrD m c) r j := by
  refine (stepLast_at _ _ _ s i j hi hj).trans ?_
  rw [hs, sum_last]
  refine congrArg _ (Finset.sum_congr rfl fun l hl => ?_)
  have hl := Finset.mem_range.mp hl
  exact congrArg₂ (fun x y : EReal => x * y) (congrArg₂ hid (blk3 m c ⟨n, hn⟩ l i hl hi) (blk4 m c ⟨n, hn⟩ l i hl hi)) (blk5 m c ⟨n, hn⟩ l j hl hj)

/-- After a point of a slab that is not its last, the sum holds the products of the rows so far. -/
theorem sums (i j : ℕ) (hi : i < 704) (hj : j < 2048) : ∀ (n : ℕ) (hn : n < cfg0.N), n % 5 ≤ 3 →
    rd ((outsAt0 m c n hn).2 : Vec Ideal S704x2048 .f32) i j
      = ∑ r ∈ Finset.range (1024 * (n % 5 + 1)), hid (rd3 (arrG m c) (n / 5) r i) (rd3 (arrU m c) (n / 5) r i) * rd (arrD m c) r j := by
  intro n
  induction n using Nat.strong_induction_on with
  | _ n ih =>
    intro hn h3
    by_cases h0 : n % 5 = 0
    · rw [outsAt0_A m c ⟨n, hn⟩ h0 h3 (by dsimp only; omega) (by dsimp only; omega)]
      dsimp only
      rw [first0]
      refine add0 m c n hn h3 _ i j hi hj ?_
      rw [h0]
      exact zero_at i j hi hj
    · rw [outsAt0_B m c ⟨n, hn⟩ h0 h3 (by dsimp only; omega) (by dsimp only; omega)]
      dsimp only
      rw [next0]
      have e := ih (n - 1) (by omega) (Nat.lt_of_le_of_lt (Nat.sub_le _ _) hn) (by omega)
      rw [show (n - 1) % 5 + 1 = n % 5 by omega, show (n - 1) / 5 = n / 5 by omega] at e
      exact add0 m c n hn h3 _ i j hi hj e

/-- The down weight's gradient: half the products of a slab of hidden values with the cotangent. -/
def grad (G U : Vec Ideal S8x4352x704 .bf16) (D : Vec Ideal S4352x2048 .bf16) : Vec Ideal S8x704x2048 .bf16 :=
  fun y => ((1 / 2 : ℝ) : EReal) * ∑ r ∈ Finset.range 4352, hid (rd3 G (y 0).val r (y 1).val) (rd3 U (y 0).val r (y 1).val) * rd D r (y 2).val

/-- A written block by row and column. -/
theorem block6 (t : Fin cfg0.N) (s : Vec Ideal S704x2048 .f32) (y : S1x704x2048.Idx) :
    (cfg0.win 6).cut (grid0.coords t) (k0_pay4 s) y = rd (mulf (broadcast S704x2048 (Scalar.ofBits .f32 0x3F000000#32)) s : FVec Ideal S704x2048 .f32) (y 1).val (y 2).val :=
  slab_at (n := 704) (m := 2048) (mulf (broadcast S704x2048 (Scalar.ofBits .f32 0x3F000000#32)) s : FVec Ideal S704x2048 .f32) shapeCasts_S704x2048_S1x704x2048 y

/-- What is written back. -/
theorem flushed6 (t : Fin cfg0.N) (hf : (cfg0.win 6).flush t = true) :
    (dats m 0 c).flushed 6 t = ((cfg0.win 6).blk t).view.read (Elt Ideal) (grad (arrG m c) (arrU m c) (arrD m c)) := by
  have h1 : t.val % 5 = 4 := (flush0_6 t).mp hf
  rw [Value.flushed6_C m c t (by omega) (by omega) h1 h1, last0]
  obtain ⟨e0, e1, e2⟩ := (idx_in t).2.2.2.2.2.2
  funext y
  have y0 : (y 0).val < 1 := (y 0).isLt
  have y1 : (y 1).val < 704 := (y 1).isLt
  have y2 : (y 2).val < 2048 := (y 2).isLt
  have e := sums m c (y 1).val (y 2).val y1 y2 (t.val - 1) (Nat.lt_of_le_of_lt (Nat.sub_le _ _) t.isLt) (by omega)
  rw [show 1024 * ((t.val - 1) % 5 + 1) = 4096 by omega, show (t.val - 1) / 5 = t.val / 5 by omega] at e
  refine (block6 t _ y).trans ?_
  refine (half_at _ _ _ y1 y2).trans ?_
  have f := addLast0 m c t.val t.isLt _ _ _ y1 y2 e
  refine (congrArg (fun z : EReal => ((1 / 2 : ℝ) : EReal) * z) f).trans ?_
  have f0 : (((cfg0.win 6).blk t).view.emb y 0).val = t.val / 5 := by
    show win0_6.index t 0 * 1 + 1 * (y 0).val = _
    omega
  have f1 : (((cfg0.win 6).blk t).view.emb y 1).val = (y 1).val := by
    show win0_6.index t 1 * 704 + 1 * (y 1).val = _
    omega
  have f2 : (((cfg0.win 6).blk t).view.emb y 2).val = (y 2).val := by
    show win0_6.index t 2 * 2048 + 1 * (y 2).val = _
    omega
  show _ = ((1 / 2 : ℝ) : EReal) * ∑ r ∈ Finset.range 4352, hid (rd3 (arrG m c) (((cfg0.win 6).blk t).view.emb y 0).val r (((cfg0.win 6).blk t).view.emb y 1).val)
    (rd3 (arrU m c) (((cfg0.win 6).blk t).view.emb y 0).val r (((cfg0.win 6).blk t).view.emb y 1).val) * rd (arrD m c) r (((cfg0.win 6).blk t).view.emb y 2).val
  rw [f0, f1, f2]

/-- The kernel's run: the gradient, the arguments unchanged. -/
theorem run : θ_run defs (onTc (τ := τ) (main (F := Ideal))) ⟨m, fun _ => 0, ρ⟩ fun r => ∀ c : Dev nD,
      r.2.mem ((c : Thread nD τ).loc main_v0) = grad (arrG m c) (arrU m c) (arrD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 6 (grad (arrG m c) (arrU m c) (arrD m c)) (flushed6 m c) fun i =>
      (Value.covered_iff6 i).2 ⟨Nat.zero_le _, (i 0).isLt, Nat.zero_le _, (i 1).isLt, Nat.zero_le _, (i 2).isLt⟩), (h c).2⟩)
    (Value.run_blocks m ρ)

end Cert.Kernel10Ideal.Sum

namespace Cert.Reference10Ideal.Sum

open Idealize.ShloMosaic Idealize.ShloMosaic.TcCoe Idealize.SL.Sem Cert.Reference10Ideal Cert.Reference10Ideal.Gen Cert.Prods
open Cert.KernelIdeal.Conv (rd rd3 eq_rd eq_rd3 rd_at)
open Cert.Cols (sg half_eq)
open Cert.Kernel3Ideal.Sum (hid)
open Cert.Kernel10Ideal.Sum (grad)

/-- The host's product of columns with columns. -/
theorem dot_at (A : FVec Ideal S4352x2048 .f32) (B : FVec Ideal S4352x5632 .f32) (r : Fin 2048) (q : Fin 5632) :
    Host.dotGeneral dot_S4352x2048_S4352x5632_S2048x5632_0_0_1_1_n_n none A B (ix2 r q) = ∑ l : Fin 4352, A (ix2 l r) * B (ix2 l q) := by
  simp only [pointwise, zero_add]

/-- The hidden values of a gate and an up product. -/
theorem hid_at (G U : FVec Ideal S4352x5632 .f32) (i j : ℕ) (hi : i < 4352) (hj : j < 5632) :
    rd (mulf (mulf G (Host.divf (broadcastInDim S4352x5632 ![] bcast_S_S4352x5632 (constant S_ .f32 0x3F800000#32))
      (addf (broadcastInDim S4352x5632 ![] bcast_S_S4352x5632 (constant S_ .f32 0x3F800000#32)) (Host.exp (Host.negf G))))) U : FVec Ideal S4352x5632 .f32) i j
      = hid (rd G i j) (rd U i j) := by
  rw [rd_at _ i j hi hj, rd_at G i j hi hj, rd_at U i j hi hj]
  refine congrArg (fun z : EReal => z * _) (congrArg (fun z : EReal => _ * z) ?_)
  show Ideal.div (Ideal.ofBits .f32 0x3F800000#32) (Ideal.ofBits .f32 0x3F800000#32 + Ideal.exp (-_)) = _
  rw [Ideal.ofBits_one_f32]
  rfl

/-- Half the cotangent. -/
theorem half_at (D : FVec Ideal S4352x2048 .f32) (i j : ℕ) (hi : i < 4352) (hj : j < 2048) :
    rd (mulf (broadcastInDim S4352x2048 ![] bcast_S_S4352x2048 (constant S_ .f32 0x3F000000#32)) D : FVec Ideal S4352x2048 .f32) i j = ((1 / 2 : ℝ) : EReal) * rd D i j := by
  rw [rd_at _ i j hi hj, rd_at D i j hi hj]
  show Ideal.ofBits .f32 0x3F000000#32 * _ = _
  rw [half_eq]

/-- The derivative with respect to the down weight, entry by entry. -/
theorem grad_eq (G U : FVec Ideal S8x4352x704 .bf16) (D : FVec Ideal S4352x2048 .bf16) :
    (truncf .bf16 (shapeCast S8x704x2048 (transpose S5632x2048 [1, 0] (Host.dotGeneral dot_S4352x2048_S4352x5632_S2048x5632_0_0_1_1_n_n none
      (mulf (broadcastInDim S4352x2048 ![] bcast_S_S4352x2048 (constant S_ .f32 0x3F000000#32)) (extf .f32 D bitsLt_bf16_f32))
      (mulf (mulf (shapeCast S4352x5632 (transpose S4352x8x704 [1, 0, 2] (extf .f32 G bitsLt_bf16_f32) transposes_S8x4352x704_S4352x8x704_1_0_2) shapeCasts_S4352x8x704_S4352x5632)
        (Host.divf (broadcastInDim S4352x5632 ![] bcast_S_S4352x5632 (constant S_ .f32 0x3F800000#32))
          (addf (broadcastInDim S4352x5632 ![] bcast_S_S4352x5632 (constant S_ .f32 0x3F800000#32)) (Host.exp (Host.negf
            (shapeCast S4352x5632 (transpose S4352x8x704 [1, 0, 2] (extf .f32 G bitsLt_bf16_f32) transposes_S8x4352x704_S4352x8x704_1_0_2) shapeCasts_S4352x8x704_S4352x5632))))))
        (shapeCast S4352x5632 (transpose S4352x8x704 [1, 0, 2] (extf .f32 U bitsLt_bf16_f32) transposes_S8x4352x704_S4352x8x704_1_0_2) shapeCasts_S4352x8x704_S4352x5632)))
      transposes_S2048x5632_S5632x2048_1_0) shapeCasts_S5632x2048_S8x704x2048) bitsLt_bf16_f32 : FVec Ideal S8x704x2048 .bf16) = grad G U D := by
  funext y
  have y0 : (y 0).val < 8 := (y 0).isLt
  have y1 : (y 1).val < 704 := (y 1).isLt
  have y2 : (y 2).val < 2048 := (y 2).isLt
  refine (eq_rd3 (p := 8) (n := 704) (m := 2048) _ y _ _ _ rfl rfl rfl).trans ?_
  refine (rd3_trunc (p := 8) (n := 704) (m := 2048) _ _ _ _ _).trans ?_
  refine (rd3_groups (p := 8) (n := 704) (m := 2048) _ _ _ _ _ y0 y1 y2).trans ?_
  refine (rd_swap (n := 2048) (m := 5632) _ _ _ _ (by omega) y2).trans ?_
  refine (rd_dot_tn (n := 2048) (m := 5632) (k := 4352) _ _ _ (dot_at _ _) _ _ y2 (by omega)).trans ?_
  refine Eq.trans ?_ (half_sum _ 4352).symm
  refine Finset.sum_congr rfl fun l hl => ?_
  have hl := Finset.mem_range.mp hl
  refine (congrArg₂ (fun x y : EReal => x * y) (half_at _ l _ hl y2) ((hid_at _ _ l _ hl (by omega)).trans (congrArg₂ hid
    (rd_beside (p := 8) (n := 4352) (w := 704) (extf .f32 G bitsLt_bf16_f32) _ _ l _ _ hl y0 y1) (rd_beside (p := 8) (n := 4352) (w := 704) (extf .f32 U bitsLt_bf16_f32) _ _ l _ _ hl y0 y1)))).trans ?_
  refine (mul_assoc _ _ _).trans (congrArg (fun z : EReal => ((1 / 2 : ℝ) : EReal) * z) (mul_comm _ _))

end Cert.Reference10Ideal.Sum

namespace Cert.Proof

open Idealize.ShloMosaic Idealize.ShloMosaic.TcCoe Idealize.SL.Sem

/-- The kernel computes the derivative with respect to the down weight. -/
theorem algebraic10 : Cert.algebraic_Kernel10Ideal_Reference10Ideal := fun m g m' g' _ h =>
  ⟨_, Cert.Kernel10Ideal.Sum.run m g, (θ_run Cert.Reference10Ideal.defs _ _).mono (fun r k c => by
    obtain ⟨h0, h1, h2⟩ := h c
    obtain ⟨k0, k⟩ := k c
    refine ⟨k0.trans ?_, k⟩
    rw [h0, h1, h2]
    exact Cert.Reference10Ideal.Sum.grad_eq _ _ _) (Cert.Reference10Ideal.Value.run m' g')⟩

end Cert.Proof

end
-- ==== Proof.GradMixIn.lean ====
/-
  The input weight's and bias's gradients over 4352 rows: the kernel adds up the products, and the rows, of four blocks of 1024 rows and one of 256.
-/
module

public import proofs.«01_k».proof.Proof.Prods
public import proofs.«01_k».proof.Proof.RefCols
public import proofs.«01_k».proof.Proof.Gen.Kernel11Ideal.Value
public import proofs.«01_k».proof.Proof.Gen.Reference11Ideal.Run
public import proofs.«01_k».proof.Defs
public import Idealize.ShloMosaic.Lib.Pipeline.Value
public import Idealize.ShloMosaic.Lib.Claim

@[expose] public section

noncomputable section

namespace Cert.Kernel11Ideal.Sum

open Idealize.ShloMosaic Idealize.ShloMosaic.TcCoe Idealize.ShloMosaic.Tactic Idealize.SL.Sem Cert.Kernel11Ideal Cert.Kernel11Ideal.Gen Cert.Prods
open Cert.KernelIdeal.Conv (rd rd3 eq_rd eq_rd3 rd_at rd3_at)
open Idealize.ShloMosaic.Pipeline (Dat)

/-! ## What the body leaves -/

section Cases
variable (c : Dev nD) (i : grid0.Coords) (a2 : Memref sig .tc .vmem S1024x2048 .bf16) (h2 : a2.IsWhole) (a3 : Memref sig .tc .vmem S1x1024x1024 .bf16) (h3 : a3.IsWhole)
  (a4 : Memref sig .tc .vmem S256x2048 .bf16) (h4 : a4.IsWhole) (a5 : Memref sig .tc .vmem S1x256x1024 .bf16) (h5 : a5.IsWhole)
  (a6 : Memref sig .tc .vmem S2048x1024 .bf16) (h6 : a6.IsWhole) (a7 : Memref sig .tc .vmem S1x1024 .f32) (h7 : a7.IsWhole)
  (a8 : Memref sig .tc .vmem S2048x1024 .f32) (h8 : a8.IsWhole) (a9 : Memref sig .tc .vmem S1x1024 .f32) (h9 : a9.IsWhole)
  (x0 : Vec Ideal S1024x2048 .bf16) (x1 : Vec Ideal S1x1024x1024 .bf16) (x2 : Vec Ideal S256x2048 .bf16) (x3 : Vec Ideal S1x256x1024 .bf16)
  (s0 : Vec Ideal S2048x1024 .f32) (s1 : Vec Ideal S1x1024 .f32)

/-- The first block of rows starts the weight sum from zero. -/
theorem first0 (k0 : cond0_0 i) (k1 : cond0_1 i) (k2 : ¬cond0_2 i) (k3 : ¬cond0_3 i) : sout0_A_0 c i a2 h2 a3 h3 a4 h4 a5 h5 a6 h6 a7 h7 a8 h8 a9 h9 k0 k1 k2 k3 x0 x1 x2 x3 = k0_pay4 x1 (k0_pay1 (F := Ideal)) x0 := by
  unfold sout0_A_0
  rw [View.read_writes_eq_canon _ _ _ (scover0_A_0 c i a2 h2 a3 h3 a4 h4 a5 h5 a6 h6 a7 h7 a8 h8 a9 h9 k0 k1 k2 k3 x0 x1 x2 x3)]
  unfold kernelRun0_A
  dsimp only
  sl_unfold_words
  rw [View.canon_cons_unit_zero (S := S2048x1024) hz, View.readCov_unit_zero (S := S2048x1024) _ hz]
  simp only [View.readAt_eq_ld, h2.read_unread, h3.read_unread, View.ld_unit_zero (S := S1024x2048) hz, View.ld_unit_zero (S := S1x1024x1024) hz3]

/-- A middle block of rows adds its product to the weight sum. -/
theorem next0 (k0 : ¬cond0_0 i) (k1 : cond0_1 i) (k2 : ¬cond0_2 i) (k3 : ¬cond0_3 i) : sout0_B_0 c i a2 h2 a3 h3 a4 h4 a5 h5 a6 h6 a7 h7 a8 h8 a9 h9 k0 k1 k2 k3 x0 x1 x2 x3 s0 s1 = k0_pay4 x1 s0 x0 := by
  unfold sout0_B_0
  rw [View.read_writes_eq_canon _ _ _ (scover0_B_0 c i a2 h2 a3 h3 a4 h4 a5 h5 a6 h6 a7 h7 a8 h8 a9 h9 k0 k1 k2 k3 x0 x1 x2 x3 s0 s1)]
  unfold kernelRun0_B
  dsimp only
  rw [View.canon_unit_zero hz]
  simp only [View.readAt_eq_ld, h2.read_unread, h3.read_unread, h8.read_unread, View.ld_unit_zero (S := S2048x1024) hz,
    View.ld_unit_zero (S := S1024x2048) hz, View.ld_unit_zero (S := S1x1024x1024) hz3]

/-- The last block's weight sum is written out. -/
theorem last0 (k0 : ¬cond0_0 i) (k1 : ¬cond0_1 i) (k2 : cond0_2 i) (k3 : cond0_3 i) : out0_C_4 c i a2 h2 a3 h3 a4 h4 a5 h5 a6 h6 a7 h7 a8 h8 a9 h9 k0 k1 k2 k3 x0 x1 x2 x3 s0 s1 = k0_pay9 (k0_pay7 x3 s0 x2) := by
  unfold out0_C_4
  rw [View.read_writes_eq_canon _ _ _ (cover0_C_4 c i a2 h2 a3 h3 a4 h4 a5 h5 a6 h6 a7 h7 a8 h8 a9 h9 k0 k1 k2 k3 x0 x1 x2 x3 s0 s1)]
  unfold kernelRun0_C
  dsimp only
  sl_unfold_words
  rw [View.canon_unit_zero hz, View.readCov_unit_zero (S := S2048x1024) _ hz]
  simp only [View.readAt_eq_ld, h4.read_unread, h5.read_unread, h8.read_unread, View.ld_unit_zero (S := S2048x1024) hz,
    View.ld_unit_zero (S := S256x2048) hz, View.ld_unit_zero (S := S1x256x1024) hz3]

/-- The first block of rows starts the bias sum from zero. -/
theorem first1 (k0 : cond0_0 i) (k1 : cond0_1 i) (k2 : ¬cond0_2 i) (k3 : ¬cond0_3 i) : sout0_A_1 c i a2 h2 a3 h3 a4 h4 a5 h5 a6 h6 a7 h7 a8 h8 a9 h9 k0 k1 k2 k3 x0 x1 x2 x3 = k0_pay5 x1 (k0_pay2 (F := Ideal)) := by
  unfold sout0_A_1
  rw [View.read_writes_eq_canon _ _ _ (scover0_A_1 c i a2 h2 a3 h3 a4 h4 a5 h5 a6 h6 a7 h7 a8 h8 a9 h9 k0 k1 k2 k3 x0 x1 x2 x3)]
  unfold kernelRun0_A
  dsimp only
  sl_unfold_words
  rw [View.canon_cons_unit_zero (S := S1x1024) hz, View.readCov_unit_zero (S := S1x1024) _ hz]
  simp only [View.readAt_eq_ld, h2.read_unread, h3.read_unread, View.ld_unit_zero (S := S1024x2048) hz, View.ld_unit_zero (S := S1x1024x1024) hz3]

/-- A middle block of rows adds to the bias sum. -/
theorem next1 (k0 : ¬cond0_0 i) (k1 : cond0_1 i) (k2 : ¬cond0_2 i) (k3 : ¬cond0_3 i) : sout0_B_1 c i a2 h2 a3 h3 a4 h4 a5 h5 a6 h6 a7 h7 a8 h8 a9 h9 k0 k1 k2 k3 x0 x1 x2 x3 s0 s1 = k0_pay5 x1 s1 := by
  unfold sout0_B_1
  rw [View.read_writes_eq_canon _ _ _ (scover0_B_1 c i a2 h2 a3 h3 a4 h4 a5 h5 a6 h6 a7 h7 a8 h8 a9 h9 k0 k1 k2 k3 x0 x1 x2 x3 s0 s1)]
  unfold kernelRun0_B
  dsimp only
  rw [View.canon_unit_zero hz]
  simp only [View.readAt_eq_ld, h2.read_unread, h3.read_unread, h9.read_unread, View.ld_unit_zero (S := S1x1024) hz,
    View.ld_unit_zero (S := S1024x2048) hz, View.ld_unit_zero (S := S1x1024x1024) hz3]

/-- The last block's bias sum is written out. -/
theorem last1 (k0 : ¬cond0_0 i) (k1 : ¬cond0_1 i) (k2 : cond0_2 i) (k3 : cond0_3 i) : out0_C_5 c i a2 h2 a3 h3 a4 h4 a5 h5 a6 h6 a7 h7 a8 h8 a9 h9 k0 k1 k2 k3 x0 x1 x2 x3 s0 s1 = k0_pay8 x3 s1 := by
  unfold out0_C_5
  rw [View.read_writes_eq_canon _ _ _ (cover0_C_5 c i a2 h2 a3 h3 a4 h4 a5 h5 a6 h6 a7 h7 a8 h8 a9 h9 k0 k1 k2 k3 x0 x1 x2 x3 s0 s1)]
  unfold kernelRun0_C
  dsimp only
  sl_unfold_words
  rw [View.canon_unit_zero hz, View.readCov_unit_zero (S := S1x1024) _ hz]
  simp only [View.readAt_eq_ld, h4.read_unread, h5.read_unread, h9.read_unread, View.ld_unit_zero (S := S1x1024) hz,
    View.ld_unit_zero (S := S256x2048) hz, View.ld_unit_zero (S := S1x256x1024) hz3]

end Cases

/-! ## The step by row and column -/

section Entries
variable (i j : ℕ) (hj : j < 1024)
include hj

section Weight
variable (s : Vec Ideal S2048x1024 .f32) (hi : i < 2048)
include hi

/-- The weight sum starts from zero. -/
theorem zero_at : rd (k0_pay1 (F := Ideal)) i j = 0 := by
  refine (rd_at (n := 2048) (m := 1024) _ i j hi hj).trans ?_
  unfold k0_pay1
  rw [shapeCast_self]
  exact Ideal.ofBits_zero_f32

/-- A step adds the product of a block of rows. -/
theorem step_at (x0 : Vec Ideal S1024x2048 .bf16) (x1 : Vec Ideal S1x1024x1024 .bf16) : rd (k0_pay4 x1 s x0) i j = rd s i j + ∑ l ∈ Finset.range 1024, rd x0 l i * rd3 x1 0 l j := by
  have h := rd_tn (n := 2048) (m := 1024) (k := 1024) (k0_pay4 x1 s x0) s x0 (shapeCast S1024x1024 x1 shapeCasts_S1x1024x1024_S1024x1024) (fun r q => by
    unfold k0_pay4 k0_pay3
    simp only [shapeCast_self, pointwise, zero_add]) i j hi hj
  refine h.trans (congrArg (rd s i j + ·) (Finset.sum_congr rfl fun l hl => ?_))
  rw [rd_unslab (n := 1024) (m := 1024) x1 _ l j (Finset.mem_range.mp hl) hj]

/-- The last step adds the product of the last block of rows. -/
theorem stepLast_at (x0 : Vec Ideal S256x2048 .bf16) (x1 : Vec Ideal S1x256x1024 .bf16) : rd (k0_pay7 x1 s x0) i j = rd s i j + ∑ l ∈ Finset.range 256, rd x0 l i * rd3 x1 0 l j := by
  have h := rd_tn (n := 2048) (m := 1024) (k := 256) (k0_pay7 x1 s x0) s x0 (shapeCast S256x1024 x1 shapeCasts_S1x256x1024_S256x1024) (fun r q => by
    unfold k0_pay7 k0_pay6
    simp only [shapeCast_self, pointwise, zero_add]) i j hi hj
  refine h.trans (congrArg (rd s i j + ·) (Finset.sum_congr rfl fun l hl => ?_))
  rw [rd_unslab (n := 256) (m := 1024) x1 _ l j (Finset.mem_range.mp hl) hj]

end Weight

section Bias
variable (s : Vec Ideal S1x1024 .f32)

/-- The bias sum starts from zero. -/
theorem zeroRow_at : rd (k0_pay2 (F := Ideal)) 0 j = 0 := by
  refine (rd_at (n := 1) (m := 1024) _ 0 j (by omega) hj).trans ?_
  unfold k0_pay2
  rw [shapeCast_self]
  exact Ideal.ofBits_zero_f32

/-- A step adds a block of rows. -/
theorem row_at (x1 : Vec Ideal S1x1024x1024 .bf16) : rd (k0_pay5 x1 s) 0 j = rd s 0 j + ∑ l ∈ Finset.range 1024, (rd3 x1 0 l j : EReal) := by
  have e : k0_pay5 x1 s = addf s (shapeCast S1x1024 (multiReduction .add [0] S1024 (extf .f32 (k0_pay3 x1) bitsLt_bf16_f32) 0x00000000#32 reduces_S1024x1024_S1024 (.inl rfl) rfl)
      shapeCasts_S1024_S1x1024) := by
    unfold k0_pay5
    exact shapeCast_self _ _
  rw [e, rd_at (n := 1) (m := 1024) _ 0 j (by omega) hj, rd_at (n := 1) (m := 1024) s 0 j (by omega) hj, Finset.sum_range]
  refine congrArg (fun z : EReal => _ + z) ?_
  refine (shapeCast_apply _ _ _ (ValueIdx.ix1 (⟨j, hj⟩ : Fin 1024)) ?_).trans ?_
  · rw [Shape.rowMajor_val_two, Shape.rowMajor_val_one]
    show j = 0 * 1024 + j
    omega
  refine (Ideal.multiReduction_add_single (φ := .f32) _ _ reduces_S1024x1024_S1024 (.inl rfl) rfl _).trans (Finset.sum_congr rfl fun k _ => ?_)
  refine (eq_rd (n := 1024) (m := 1024) (k0_pay3 x1) _ k.val j rfl rfl).trans ?_
  exact rd_unslab (n := 1024) (m := 1024) x1 _ k.val j k.isLt hj

/-- The last step adds the last block of rows. -/
theorem rowLast_at (x1 : Vec Ideal S1x256x1024 .bf16) : rd (k0_pay8 x1 s) 0 j = rd s 0 j + ∑ l ∈ Finset.range 256, (rd3 x1 0 l j : EReal) := by
  have e : k0_pay8 x1 s = addf s (shapeCast S1x1024 (multiReduction .add [0] S1024 (extf .f32 (k0_pay6 x1) bitsLt_bf16_f32) 0x00000000#32 reduces_S256x1024_S1024 (.inl rfl) rfl)
      shapeCasts_S1024_S1x1024) := by
    unfold k0_pay8
    exact shapeCast_self _ _
  rw [e, rd_at (n := 1) (m := 1024) _ 0 j (by omega) hj, rd_at (n := 1) (m := 1024) s 0 j (by omega) hj, Finset.sum_range]
  refine congrArg (fun z : EReal => _ + z) ?_
  refine (shapeCast_apply _ _ _ (ValueIdx.ix1 (⟨j, hj⟩ : Fin 1024)) ?_).trans ?_
  · rw [Shape.rowMajor_val_two, Shape.rowMajor_val_one]
    show j = 0 * 1024 + j
    omega
  refine (Ideal.multiReduction_add_single (φ := .f32) _ _ reduces_S256x1024_S1024 (.inl rfl) rfl _).trans (Finset.sum_congr rfl fun k _ => ?_)
  refine (eq_rd (n := 256) (m := 1024) (k0_pay6 x1) _ k.val j rfl rfl).trans ?_
  exact rd_unslab (n := 256) (m := 1024) x1 _ k.val j k.isLt hj

end Bias

end Entries

/-! ## The blocks of the arguments -/

variable (m : (ℓ : Loc nD τ sig) → Buf (Elt Ideal) ℓ) (ρ : Dev nD → PrngReg) (c : Dev nD)

/-- The rows the layer was given, as launched. -/
abbrev arrH : Vec Ideal S4352x2048 .bf16 := m ((c : Thread nD τ).loc main_arg0)
/-- The channels' cotangent, as launched. -/
abbrev arrD : Vec Ideal S5x4352x1024 .bf16 := m ((c : Thread nD τ).loc main_arg1)

/-- Point `5 q + b` is given group `q` and the rows from `1024 b`, or from 3072 at the last point, with the last 256 rows. -/
theorem idx_in : ∀ t : Fin grid0.N, (win0_0.index t 0 = min (t.val % 5) 3 ∧ win0_0.index t 1 = 0)
    ∧ (win0_1.index t 0 = t.val / 5 ∧ win0_1.index t 1 = min (t.val % 5) 3 ∧ win0_1.index t 2 = 0)
    ∧ (win0_2.index t 0 = 16 ∧ win0_2.index t 1 = 0)
    ∧ (win0_3.index t 0 = t.val / 5 ∧ win0_3.index t 1 = 16 ∧ win0_3.index t 2 = 0)
    ∧ (win0_4.index t 0 = 0 ∧ win0_4.index t 1 = t.val / 5)
    ∧ (win0_5.index t 0 = 0 ∧ win0_5.index t 1 = t.val / 5) := by decide +kernel

/-- The block of rows. -/
theorem blk0 (t : Fin cfg0.N) (ht : t.val % 5 ≤ 3) (r k : ℕ) (hr : r < 1024) (hk : k < 2048) :
    rd (X0_0 m c t : Vec Ideal S1024x2048 .bf16) r k = rd (arrH m c) (1024 * (t.val % 5) + r) k := by
  have e := (idx_in t).1
  refine (rd_at (n := 1024) (m := 2048) _ r k hr hk).trans ?_
  unfold X0_0 Pipeline.Window.fill
  rw [dif_pos (moved0_0 t _)]
  refine eq_rd (n := 4352) (m := 2048) (arrH m c) (((cfg0.win 0).blk t).view.emb (fun a => ⟨((ValueIdx.ix2 (⟨r, hr⟩ : Fin 1024) (⟨k, hk⟩ : Fin 2048)) a).val, ((cfg0.win 0).moved_iff _ _).mp (moved0_0 t (ValueIdx.ix2 (⟨r, hr⟩ : Fin 1024) (⟨k, hk⟩ : Fin 2048))) a⟩)) _ _ ?_ ?_
  · show win0_0.index t 0 * 1024 + 1 * r = _
    omega
  · show win0_0.index t 1 * 2048 + 1 * k = _
    omega

/-- The block of the cotangent. -/
theorem blk1 (t : Fin cfg0.N) (ht : t.val % 5 ≤ 3) (r k : ℕ) (hr : r < 1024) (hk : k < 1024) :
    rd3 (X0_1 m c t : Vec Ideal S1x1024x1024 .bf16) 0 r k = rd3 (arrD m c) (t.val / 5) (1024 * (t.val % 5) + r) k := by
  have e := (idx_in t).2.1
  refine (rd3_at (p := 1) (n := 1024) (m := 1024) _ 0 r k (by omega) hr hk).trans ?_
  unfold X0_1 Pipeline.Window.fill
  rw [dif_pos (moved0_1 t _)]
  refine eq_rd3 (p := 5) (n := 4352) (m := 1024) (arrD m c) (((cfg0.win 1).blk t).view.emb (fun a => ⟨((ValueIdx.ix3 (0 : Fin 1) (⟨r, hr⟩ : Fin 1024) (⟨k, hk⟩ : Fin 1024)) a).val, ((cfg0.win 1).moved_iff _ _).mp (moved0_1 t (ValueIdx.ix3 (0 : Fin 1) (⟨r, hr⟩ : Fin 1024) (⟨k, hk⟩ : Fin 1024))) a⟩)) _ _ _ ?_ ?_ ?_
  · show win0_1.index t 0 * 1 + 1 * 0 = _
    omega
  · show win0_1.index t 1 * 1024 + 1 * r = _
    omega
  · show win0_1.index t 2 * 1024 + 1 * k = _
    omega

/-- The last rows. -/
theorem blk2 (t : Fin cfg0.N) (r k : ℕ) (hr : r < 256) (hk : k < 2048) :
    rd (iblk m c 2 t : Vec Ideal S256x2048 .bf16) r k = rd (arrH m c) (4096 + r) k := by
  have e := (idx_in t).2.2.1
  refine (rd_at (n := 256) (m := 2048) _ r k hr hk).trans ?_
  refine eq_rd (n := 4352) (m := 2048) (arrH m c) (((cfg0.win 2).blk t).view.emb (ValueIdx.ix2 (⟨r, hr⟩ : Fin 256) (⟨k, hk⟩ : Fin 2048))) _ _ ?_ ?_
  · show win0_2.index t 0 * 256 + 1 * r = _
    omega
  · show win0_2.index t 1 * 2048 + 1 * k = _
    omega

/-- The last rows of the cotangent. -/
theorem blk3 (t : Fin cfg0.N) (r k : ℕ) (hr : r < 256) (hk : k < 1024) :
    rd3 (iblk m c 3 t : Vec Ideal S1x256x1024 .bf16) 0 r k = rd3 (arrD m c) (t.val / 5) (4096 + r) k := by
  have e := (idx_in t).2.2.2.1
  refine (rd3_at (p := 1) (n := 256) (m := 1024) _ 0 r k (by omega) hr hk).trans ?_
  refine eq_rd3 (p := 5) (n := 4352) (m := 1024) (arrD m c) (((cfg0.win 3).blk t).view.emb (ValueIdx.ix3 (0 : Fin 1) (⟨r, hr⟩ : Fin 256) (⟨k, hk⟩ : Fin 1024))) _ _ _ ?_ ?_ ?_
  · show win0_3.index t 0 * 1 + 1 * 0 = _
    omega
  · show win0_3.index t 1 * 256 + 1 * r = _
    omega
  · show win0_3.index t 2 * 1024 + 1 * k = _
    omega

/-! ## The sums -/

/-- A point's step of the weight sum. -/
theorem add0 (n : ℕ) (hn : n < cfg0.N) (h3 : n % 5 ≤ 3) (s : Vec Ideal S2048x1024 .f32) (i j : ℕ) (hi : i < 2048) (hj : j < 1024)
    (hs : rd s i j = ∑ r ∈ Finset.range (1024 * (n % 5)), rd (arrH m c) r i * rd3 (arrD m c) (n / 5) r j) :
    rd (k0_pay4 (X0_1 m c ⟨n, hn⟩) s (X0_0 m c ⟨n, hn⟩)) i j = ∑ r ∈ Finset.range (1024 * (n % 5 + 1)), rd (arrH m c) r i * rd3 (arrD m c) (n / 5) r j := by
  refine (step_at i j hj s hi _ _).trans ?_
  rw [hs, Nat.mul_succ, Finset.sum_range_add]
  refine congrArg _ (Finset.sum_congr rfl fun l hl => ?_)
  have hl := Finset.mem_range.mp hl
  exact congrArg₂ (fun x y : EReal => x * y) (blk0 m c ⟨n, hn⟩ h3 l i hl hi) (blk1 m c ⟨n, hn⟩ h3 l j hl hj)

/-- The last point's step of the weight sum. -/
theorem addLast0 (n : ℕ) (hn : n < cfg0.N) (s : Vec Ideal S2048x1024 .f32) (i j : ℕ) (hi : i < 2048) (hj : j < 1024)
    (hs : rd s i j = ∑ r ∈ Finset.range 4096, rd (arrH m c) r i * rd3 (arrD m c) (n / 5) r j) :
    rd (k0_pay7 (iblk m c 3 ⟨n, hn⟩) s (iblk m c 2 ⟨n, hn⟩)) i j = ∑ r ∈ Finset.range 4352, rd (arrH m c) r i * rd3 (arrD m c) (n / 5) r j := by
  refine (stepLast_at i j hj s hi _ _).trans ?_
  rw [hs, sum_last]
  refine congrArg _ (Finset.sum_congr rfl fun l hl => ?_)
  have hl := Finset.mem_range.mp hl
  exact congrArg₂ (fun x y : EReal => x * y) (blk2 m c ⟨n, hn⟩ l i hl hi) (blk3 m c ⟨n, hn⟩ l j hl hj)

/-- A point's step of the bias sum. -/
theorem add1 (n : ℕ) (hn : n < cfg0.N) (h3 : n % 5 ≤ 3) (s : Vec Ideal S1x1024 .f32) (j : ℕ) (hj : j < 1024)
    (hs : rd s 0 j = ∑ r ∈ Finset.range (1024 * (n % 5)), (rd3 (arrD m c) (n / 5) r j : EReal)) :
    rd (k0_pay5 (X0_1 m c ⟨n, hn⟩) s) 0 j = ∑ r ∈ Finset.range (1024 * (n % 5 + 1)), (rd3 (arrD m c) (n / 5) r j : EReal) := by
  refine (row_at j hj s _).trans ?_
  rw [hs, Nat.mul_succ, Finset.sum_range_add]
  exact congrArg _ (Finset.sum_congr rfl fun l hl => blk1 m c ⟨n, hn⟩ h3 l j (Finset.mem_range.mp hl) hj)

/-- The last point's step of the bias sum. -/
theorem addLast1 (n : ℕ) (hn : n < cfg0.N) (s : Vec Ideal S1x1024 .f32) (j : ℕ) (hj : j < 1024)
    (hs : rd s 0 j = ∑ r ∈ Finset.range 4096, (rd3 (arrD m c) (n / 5) r j : EReal)) :
    rd (k0_pay8 (iblk m c 3 ⟨n, hn⟩) s) 0 j = ∑ r ∈ Finset.range 4352, (rd3 (arrD m c) (n / 5) r j : EReal) := by
  refine (rowLast_at j hj s _).trans ?_
  rw [hs, sum_last]
  exact congrArg _ (Finset.sum_congr rfl fun l hl => blk3 m c ⟨n, hn⟩ l j (Finset.mem_range.mp hl) hj)

/-- After a point of a group that is not its last, the sums hold the rows so far. -/
theorem sums (i j : ℕ) (hi : i < 2048) (hj : j < 1024) : ∀ (n : ℕ) (hn : n < cfg0.N), n % 5 ≤ 3 →
    rd ((outsAt0 m c n hn).2.2.1 : Vec Ideal S2048x1024 .f32) i j = ∑ r ∈ Finset.range (1024 * (n % 5 + 1)), rd (arrH m c) r i * rd3 (arrD m c) (n / 5) r j
    ∧ rd ((outsAt0 m c n hn).2.2.2 : Vec Ideal S1x1024 .f32) 0 j = ∑ r ∈ Finset.range (1024 * (n % 5 + 1)), (rd3 (arrD m c) (n / 5) r j : EReal) := by
  intro n
  induction n using Nat.strong_induction_on with
  | _ n ih =>
    intro hn h3
    by_cases h0 : n % 5 = 0
    · rw [outsAt0_A m c ⟨n, hn⟩ h0 h3 (by dsimp only; omega) (by dsimp only; omega)]
      dsimp only
      rw [first0, first1]
      refine ⟨add0 m c n hn h3 _ i j hi hj ?_, add1 m c n hn h3 _ j hj ?_⟩
      · rw [h0]
        exact zero_at i j hj hi
      · rw [h0]
        exact zeroRow_at j hj
    · rw [outsAt0_B m c ⟨n, hn⟩ h0 h3 (by dsimp only; omega) (by dsimp only; omega)]
      dsimp only
      rw [next0, next1]
      have e := ih (n - 1) (by omega) (Nat.lt_of_le_of_lt (Nat.sub_le _ _) hn) (by omega)
      rw [show (n - 1) % 5 + 1 = n % 5 by omega, show (n - 1) / 5 = n / 5 by omega] at e
      exact ⟨add0 m c n hn h3 _ i j hi hj e.1, add1 m c n hn h3 _ j hj e.2⟩

/-- The weight's gradient: the products of the rows with the cotangent, its five groups of 1024 columns side by side. -/
def grad (H : Vec Ideal S4352x2048 .bf16) (D : Vec Ideal S5x4352x1024 .bf16) : Vec Ideal S2048x5120 .bf16 :=
  fun y => ∑ r ∈ Finset.range 4352, rd H r (y 0).val * rd3 D ((y 1).val / 1024) r ((y 1).val % 1024)

/-- The bias's gradient: the rows of the cotangent added up. -/
def gradRow (D : Vec Ideal S5x4352x1024 .bf16) : Vec Ideal S1x5120 .f32 :=
  fun y => ∑ r ∈ Finset.range 4352, (rd3 D ((y 1).val / 1024) r ((y 1).val % 1024) : EReal)

/-- A written block by row and column, of the weight, -/
theorem block4 (t : Fin cfg0.N) (s : Vec Ideal S2048x1024 .f32) (y : S2048x1024.Idx) : (cfg0.win 4).cut (grid0.coords t) (k0_pay9 s) y = rd s (y 0).val (y 1).val :=
  eq_rd (n := 2048) (m := 1024) s y _ _ rfl rfl

/-- and of the bias. -/
theorem block5 (t : Fin cfg0.N) (s : Vec Ideal S1x1024 .f32) (y : S1x1024.Idx) : (cfg0.win 5).cut (grid0.coords t) s y = rd s 0 (y 1).val :=
  have y0 : (y 0).val < 1 := (y 0).isLt
  eq_rd (n := 1) (m := 1024) s y _ _ (by omega) rfl

/-- What is written back for the weight. -/
theorem flushed4 (t : Fin cfg0.N) (hf : (cfg0.win 4).flush t = true) :
    (dats m 0 c).flushed 4 t = ((cfg0.win 4).blk t).view.read (Elt Ideal) (grad (arrH m c) (arrD m c)) := by
  have h1 : t.val % 5 = 4 := (flush0_4 t).mp hf
  rw [Value.flushed4_C m c t (by omega) (by omega) h1 h1, last0]
  obtain ⟨e0, e1⟩ := (idx_in t).2.2.2.2.1
  funext y
  have y0 : (y 0).val < 2048 := (y 0).isLt
  have y1 : (y 1).val < 1024 := (y 1).isLt
  have e := (sums m c (y 0).val (y 1).val y0 y1 (t.val - 1) (Nat.lt_of_le_of_lt (Nat.sub_le _ _) t.isLt) (by omega)).1
  rw [show 1024 * ((t.val - 1) % 5 + 1) = 4096 by omega, show (t.val - 1) / 5 = t.val / 5 by omega] at e
  refine (block4 t _ y).trans ?_
  refine (addLast0 m c t.val t.isLt _ _ _ y0 y1 e).trans ?_
  have f0 : (((cfg0.win 4).blk t).view.emb y 0).val = (y 0).val := by
    show win0_4.index t 0 * 2048 + 1 * (y 0).val = _
    omega
  have f1 : (((cfg0.win 4).blk t).view.emb y 1).val = t.val / 5 * 1024 + (y 1).val := by
    show win0_4.index t 1 * 1024 + 1 * (y 1).val = _
    omega
  show _ = ∑ r ∈ Finset.range 4352, rd (arrH m c) r (((cfg0.win 4).blk t).view.emb y 0).val
    * rd3 (arrD m c) ((((cfg0.win 4).blk t).view.emb y 1).val / 1024) r ((((cfg0.win 4).blk t).view.emb y 1).val % 1024)
  rw [f0, f1, show (t.val / 5 * 1024 + (y 1).val) / 1024 = t.val / 5 by omega, show (t.val / 5 * 1024 + (y 1).val) % 1024 = (y 1).val by omega]

/-- What is written back for the bias. -/
theorem flushed5 (t : Fin cfg0.N) (hf : (cfg0.win 5).flush t = true) :
    (dats m 0 c).flushed 5 t = ((cfg0.win 5).blk t).view.read (Elt Ideal) (gradRow (arrD m c)) := by
  have h1 : t.val % 5 = 4 := (flush0_5 t).mp hf
  rw [Value.flushed5_C m c t (by omega) (by omega) h1 h1, last1]
  obtain ⟨e0, e1⟩ := (idx_in t).2.2.2.2.2
  funext y
  have y1 : (y 1).val < 1024 := (y 1).isLt
  have e := (sums m c 0 (y 1).val (by omega) y1 (t.val - 1) (Nat.lt_of_le_of_lt (Nat.sub_le _ _) t.isLt) (by omega)).2
  rw [show 1024 * ((t.val - 1) % 5 + 1) = 4096 by omega, show (t.val - 1) / 5 = t.val / 5 by omega] at e
  refine (block5 t _ y).trans ?_
  refine (addLast1 m c t.val t.isLt _ _ y1 e).trans ?_
  have f1 : (((cfg0.win 5).blk t).view.emb y 1).val = t.val / 5 * 1024 + (y 1).val := by
    show win0_5.index t 1 * 1024 + 1 * (y 1).val = _
    omega
  show _ = ∑ r ∈ Finset.range 4352, (rd3 (arrD m c) ((((cfg0.win 5).blk t).view.emb y 1).val / 1024) r ((((cfg0.win 5).blk t).view.emb y 1).val % 1024) : EReal)
  rw [f1, show (t.val / 5 * 1024 + (y 1).val) / 1024 = t.val / 5 by omega, show (t.val / 5 * 1024 + (y 1).val) % 1024 = (y 1).val by omega]

/-- The kernel's run: the two gradients, the arguments unchanged. -/
theorem run : θ_run defs (onTc (τ := τ) (main (F := Ideal))) ⟨m, fun _ => 0, ρ⟩ fun r => ∀ c : Dev nD,
      r.2.mem ((c : Thread nD τ).loc main_v0_0) = grad (arrH m c) (arrD m c)
      ∧ r.2.mem ((c : Thread nD τ).loc main_v0_1) = gradRow (arrD m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 4 (grad (arrH m c) (arrD m c)) (flushed4 m c) fun i =>
      (Value.covered_iff4 i).2 ⟨Nat.zero_le _, (i 0).isLt, Nat.zero_le _, (i 1).isLt⟩),
    (h c).2.1.trans ((dats m 0 c).arrAt_eq_of_cover 5 (gradRow (arrD m c)) (flushed5 m c) fun i =>
      (Value.covered_iff5 i).2 ⟨Nat.zero_le _, (i 0).isLt, Nat.zero_le _, (i 1).isLt⟩), (h c).2.2⟩)
    (Value.run_blocks m ρ)

end Cert.Kernel11Ideal.Sum

namespace Cert.Reference11Ideal.Sum

open Idealize.ShloMosaic Idealize.ShloMosaic.TcCoe Idealize.SL.Sem Cert.Reference11Ideal Cert.Reference11Ideal.Gen Cert.Prods
open Cert.KernelIdeal.Conv (rd rd3 eq_rd)
open Cert.Kernel11Ideal.Sum (grad gradRow)

/-- The host's product of columns with columns. -/
theorem dot_at (A : FVec Ideal S4352x5120 .f32) (B : FVec Ideal S4352x2048 .f32) (r : Fin 5120) (q : Fin 2048) :
    Host.dotGeneral dot_S4352x5120_S4352x2048_S5120x2048_0_0_1_1_n_n none A B (ix2 r q) = ∑ l : Fin 4352, A (ix2 l r) * B (ix2 l q) := by
  simp only [pointwise, zero_add]

/-- The cotangent's groups side by side. -/
theorem side_at (D : FVec Ideal S5x4352x1024 .bf16) (r c : ℕ) (hr : r < 4352) (hc : c < 5120) :
    rd (shapeCast S4352x5120 (transpose S4352x5x1024 [1, 0, 2] (extf .f32 D bitsLt_bf16_f32) transposes_S5x4352x1024_S4352x5x1024_1_0_2) shapeCasts_S4352x5x1024_S4352x5120
      : FVec Ideal S4352x5120 .f32) r c = rd3 D (c / 1024) r (c % 1024) := by
  have h := rd_beside (p := 5) (n := 4352) (w := 1024) (extf .f32 D bitsLt_bf16_f32) transposes_S5x4352x1024_S4352x5x1024_1_0_2 shapeCasts_S4352x5x1024_S4352x5120
    r (c / 1024) (c % 1024) hr (by omega) (by omega)
  rw [show c / 1024 * 1024 + c % 1024 = c by omega] at h
  exact h

/-- The derivative with respect to the weight, entry by entry. -/
theorem grad_eq (H : FVec Ideal S4352x2048 .bf16) (D : FVec Ideal S5x4352x1024 .bf16) :
    (truncf .bf16 (transpose S2048x5120 [1, 0] (Host.dotGeneral dot_S4352x5120_S4352x2048_S5120x2048_0_0_1_1_n_n none
      (shapeCast S4352x5120 (transpose S4352x5x1024 [1, 0, 2] (extf .f32 D bitsLt_bf16_f32) transposes_S5x4352x1024_S4352x5x1024_1_0_2) shapeCasts_S4352x5x1024_S4352x5120)
      (extf .f32 H bitsLt_bf16_f32)) transposes_S5120x2048_S2048x5120_1_0) bitsLt_bf16_f32 : FVec Ideal S2048x5120 .bf16) = grad H D := by
  funext y
  have y0 : (y 0).val < 2048 := (y 0).isLt
  have y1 : (y 1).val < 5120 := (y 1).isLt
  refine (eq_rd (n := 2048) (m := 5120) _ y _ _ rfl rfl).trans ?_
  refine (rd_trunc (n := 2048) (m := 5120) _ _ _ _).trans ?_
  refine (rd_swap (n := 5120) (m := 2048) _ _ _ _ y0 y1).trans ?_
  refine (rd_dot_tn (n := 5120) (m := 2048) (k := 4352) _ _ _ (dot_at _ _) _ _ y1 y0).trans ?_
  refine Finset.sum_congr rfl fun l hl => ?_
  exact (congrArg (fun z : EReal => z * _) (side_at D l _ (Finset.mem_range.mp hl) y1)).trans (mul_comm (G := EReal) _ _)

/-- The derivative with respect to the bias, entry by entry. -/
theorem gradRow_eq (D : FVec Ideal S5x4352x1024 .bf16) :
    (shapeCast S1x5120 (Host.reduceAdd (shapeCast S4352x5120 (transpose S4352x5x1024 [1, 0, 2] (extf .f32 D bitsLt_bf16_f32) transposes_S5x4352x1024_S4352x5x1024_1_0_2)
      shapeCasts_S4352x5x1024_S4352x5120) (constant S_ .f32 0x00000000#32) reducesTo_S4352x5120_S5120_d0 h_S_) shapeCasts_S5120_S1x5120 : FVec Ideal S1x5120 .f32) = gradRow D := by
  funext y
  have y0 : (y 0).val < 1 := (y 0).isLt
  have y1 : (y 1).val < 5120 := (y 1).isLt
  refine (eq_rd (n := 1) (m := 5120) _ y 0 (y 1).val (by omega) rfl).trans ?_
  refine (Cert.Cols.rd_colSum (n := 4352) (m := 5120) _ _ _ _ h_S_ Ideal.ofBits_zero_f32 _ y1).trans ?_
  exact Finset.sum_congr rfl fun l hl => side_at D l _ (Finset.mem_range.mp hl) y1

end Cert.Reference11Ideal.Sum

namespace Cert.Proof

open Idealize.ShloMosaic Idealize.ShloMosaic.TcCoe Idealize.SL.Sem

/-- The kernel computes the derivative with respect to the mixing layer's input weight and bias. -/
theorem algebraic11 : Cert.algebraic_Kernel11Ideal_Reference11Ideal := fun m g m' g' _ h =>
  ⟨_, _, Cert.Kernel11Ideal.Sum.run m g, (θ_run Cert.Reference11Ideal.defs _ _).mono (fun r k c => by
    obtain ⟨h0, h1⟩ := h c
    obtain ⟨k0, k1, k⟩ := k c
    refine ⟨k0.trans ?_, k1.trans ?_, k⟩
    · rw [h0, h1]
      exact Cert.Reference11Ideal.Sum.grad_eq _ _
    · rw [h1]
      exact Cert.Reference11Ideal.Sum.gradRow_eq _) (Cert.Reference11Ideal.Value.run m' g')⟩

end Cert.Proof

end
-- ==== Proof.GradRows1.lean ====
/-
  The gradient of the first layer's rows through its gate: the sum over eight slabs of the channels' gradient with a
  weight, in blocks of 544 rows.
-/
module

public import proofs.«01_k».proof.Proof.Prods
public import proofs.«01_k».proof.Proof.Gen.Kernel12Ideal.Value
public import proofs.«01_k».proof.Proof.Gen.Reference12Ideal.Run
public import proofs.«01_k».proof.Defs
public import Idealize.ShloMosaic.Lib.Pipeline.Value
public import Idealize.ShloMosaic.Lib.Claim

@[expose] public section

noncomputable section

namespace Cert.Kernel12Ideal.Prod

open Idealize.ShloMosaic Idealize.ShloMosaic.TcCoe Idealize.SL.Sem Cert.Kernel12Ideal Cert.Kernel12Ideal.Gen Cert.Prods
open Cert.KernelIdeal.Conv (rd rd3 eq_rd eq_rd3 rd_at rd3_at)
open Idealize.ShloMosaic.Pipeline (Dat)

/-- The rows' gradient. -/
def grad (D : Vec Ideal S8x4352x704 .bf16) (W : Vec Ideal S8x704x2048 .bf16) : Vec Ideal S4352x2048 .f32 :=
  fun y => ∑ q ∈ Finset.range 8, ∑ l ∈ Finset.range 704, rd3 D q (y 0).val l * rd3 W q l (y 1).val

/-- One slab's products. -/
def slab (x : FVec Ideal S1x544x704 .bf16) (w : FVec Ideal S1x704x2048 .bf16) (r : Fin 544) (q : Fin 2048) : EReal :=
  ∑ l : Fin 704, x (ix3 (0 : Fin 1) r l) * w (ix3 (0 : Fin 1) l q)

/-- A slab's products by row and column. -/
theorem slab_eq (x : FVec Ideal S8x544x704 .bf16) (w : FVec Ideal S8x704x2048 .bf16) (o : ℕ) (ho : o < 8)
    (hx : ∀ a, (![o, 0, 0] : Fin 3 → Nat) a + S1x544x704.size a ≤ S8x544x704.size a) (hw : ∀ a, (![o, 0, 0] : Fin 3 → Nat) a + S1x704x2048.size a ≤ S8x704x2048.size a)
    (r : Fin 544) (q : Fin 2048) :
    slab (View.ld (Val := Elt Ideal) (e' := .bf16) x (Rect.unit (s := S8x544x704) ![o, 0, 0] S1x544x704.size hx))
      (View.ld (Val := Elt Ideal) (e' := .bf16) w (Rect.unit (s := S8x704x2048) ![o, 0, 0] S1x704x2048.size hw)) r q
      = ∑ l ∈ Finset.range 704, rd3 x o r.val l * rd3 w o l q.val := by
  refine sum_fin 704 _ _ fun l => congrArg₂ (fun x y : EReal => x * y) ?_ ?_
  · refine eq_rd3 (p := 8) (n := 544) (m := 704) x _ _ _ _ ?_ ?_ ?_
    · show o + 1 * 0 = o
      omega
    · show 0 + 1 * r.val = r.val
      omega
    · show 0 + 1 * l.val = l.val
      omega
  · refine eq_rd3 (p := 8) (n := 704) (m := 2048) w _ _ _ _ ?_ ?_ ?_
    · show o + 1 * 0 = o
      omega
    · show 0 + 1 * l.val = l.val
      omega
    · show 0 + 1 * q.val = q.val
      omega

/-- The body's sum of eight products. -/
theorem pay_at (a0 a1 a2 a3 a4 a5 a6 a7 : Vec Ideal S1x544x704 .bf16) (b0 b1 b2 b3 b4 b5 b6 b7 : Vec Ideal S1x704x2048 .bf16) (r : Fin 544) (q : Fin 2048) :
    k0_pay1 (F := Ideal) (k0_pay2 a0 b0 a1 b1 a2 b2 a3 b3) (k0_pay3 a4) b4 a5 b5 a6 b6 a7 b7 (ix2 r q)
      = slab a0 b0 r q + slab a1 b1 r q + slab a2 b2 r q + slab a3 b3 r q + slab a4 b4 r q + slab a5 b5 r q + slab a6 b6 r q + slab a7 b7 r q := by
  unfold k0_pay1 k0_pay2 k0_pay3 slab
  simp only [pointwise, zero_add]

/-- A point's block is the sum over the slabs. -/
theorem out2_at (x0 : Vec Ideal S8x544x704 .bf16) (x1 : Vec Ideal S8x704x2048 .bf16) (i j : ℕ) (hi : i < 544) (hj : j < 2048) :
    rd (out0_2 x0 x1) i j = ∑ q ∈ Finset.range 8, ∑ l ∈ Finset.range 704, rd3 x0 q i l * rd3 x1 q l j := by
  refine (rd_ix (n := 544) (m := 2048) _ i j hi hj).trans ?_
  unfold out0_2
  rw [View.canon_unit_zero hz]
  refine (pay_at _ _ _ _ _ _ _ _ _ _ _ _ _ _ _ _ _ _).trans ?_
  rw [slab_eq x0 x1 0 (by omega), slab_eq x0 x1 1 (by omega), slab_eq x0 x1 2 (by omega), slab_eq x0 x1 3 (by omega), slab_eq x0 x1 4 (by omega), slab_eq x0 x1 5 (by omega), slab_eq x0 x1 6 (by omega), slab_eq x0 x1 7 (by omega)]
  simp only [Finset.sum_range_succ _ 7, Finset.sum_range_succ _ 6, Finset.sum_range_succ _ 5, Finset.sum_range_succ _ 4, Finset.sum_range_succ _ 3,
    Finset.sum_range_succ _ 2, Finset.sum_range_succ _ 1, Finset.sum_range_succ _ 0, Finset.sum_range_zero, zero_add]

/-! ## The blocks of the arguments -/

variable (m : (ℓ : Loc nD τ sig) → Buf (Elt Ideal) ℓ) (ρ : Dev nD → PrngReg) (c : Dev nD)

/-- The channels' gradient, as launched. -/
abbrev arrD : Vec Ideal S8x4352x704 .bf16 := m ((c : Thread nD τ).loc main_arg0)
/-- The weight, as launched. -/
abbrev arrW : Vec Ideal S8x704x2048 .bf16 := m ((c : Thread nD τ).loc main_arg1)

/-- Point `t` is given row block `t` and the whole weight. -/
theorem idx_in : ∀ t : Fin grid0.N, (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0) := by decide +kernel

/-- The block of rows. -/
theorem blk0 (t : Fin cfg0.N) (q r k : ℕ) (hq : q < 8) (hr : r < 544) (hk : k < 704) :
    rd3 (iblk m c 0 t : Vec Ideal S8x544x704 .bf16) q r k = rd3 (arrD m c) q (544 * t.val + r) k := by
  have e := (idx_in t).1
  refine (rd3_at (p := 8) (n := 544) (m := 704) _ q r k hq hr hk).trans ?_
  refine eq_rd3 (p := 8) (n := 4352) (m := 704) (arrD m c) (((cfg0.win 0).blk t).view.emb (ValueIdx.ix3 (⟨q, hq⟩ : Fin 8) (⟨r, hr⟩ : Fin 544) (⟨k, hk⟩ : Fin 704))) _ _ _ ?_ ?_ ?_
  · show win0_0.index t 0 * 8 + 1 * q = _
    omega
  · show win0_0.index t 1 * 544 + 1 * r = _
    omega
  · show win0_0.index t 2 * 704 + 1 * k = _
    omega

/-- The weight. -/
theorem blk1 (t : Fin cfg0.N) (q r k : ℕ) (hq : q < 8) (hr : r < 704) (hk : k < 2048) :
    rd3 (iblk m c 1 t : Vec Ideal S8x704x2048 .bf16) q r k = rd3 (arrW m c) q r k := by
  have e := (idx_in t).2.1
  refine (rd3_at (p := 8) (n := 704) (m := 2048) _ q r k hq hr hk).trans ?_
  refine eq_rd3 (p := 8) (n := 704) (m := 2048) (arrW m c) (((cfg0.win 1).blk t).view.emb (ValueIdx.ix3 (⟨q, hq⟩ : Fin 8) (⟨r, hr⟩ : Fin 704) (⟨k, hk⟩ : Fin 2048))) _ _ _ ?_ ?_ ?_
  · show win0_1.index t 0 * 8 + 1 * q = _
    omega
  · show win0_1.index t 1 * 704 + 1 * r = _
    omega
  · show win0_1.index t 2 * 2048 + 1 * k = _
    omega

/-! ## The result -/

/-- A block of the body's result by row and column. -/
theorem block2 (X : Vec Ideal S544x2048 .f32) (t : Fin cfg0.N) (y : S544x2048.Idx) : (cfg0.win 2).cut (grid0.coords t) X y = rd X (y 0).val (y 1).val :=
  eq_rd (n := 544) (m := 2048) X y _ _ rfl rfl

/-- What a point writes back. -/
theorem flushed2 (t : Fin cfg0.N) : (dats m 0 c).flushed 2 t = ((cfg0.win 2).blk t).view.read (Elt Ideal) (grad (arrD m c) (arrW m c)) := by
  show (cfg0.win 2).cut (grid0.coords t) ((dats m 0 c).after 2 t) = _
  rw [after0_2]
  obtain ⟨e0, e1⟩ := (idx_in t).2.2
  funext y
  have y0 : (y 0).val < 544 := (y 0).isLt
  have y1 : (y 1).val < 2048 := (y 1).isLt
  refine (block2 _ t y).trans ?_
  refine (out2_at _ _ _ _ y0 y1).trans ?_
  have f0 : (((cfg0.win 2).blk t).view.emb y 0).val = 544 * t.val + (y 0).val := by
    show win0_2.index t 0 * 544 + 1 * (y 0).val = _
    omega
  have f1 : (((cfg0.win 2).blk t).view.emb y 1).val = (y 1).val := by
    show win0_2.index t 1 * 2048 + 1 * (y 1).val = _
    omega
  show _ = ∑ q ∈ Finset.range 8, ∑ l ∈ Finset.range 704, rd3 (arrD m c) q (((cfg0.win 2).blk t).view.emb y 0).val l
    * rd3 (arrW m c) q l (((cfg0.win 2).blk t).view.emb y 1).val
  rw [f0, f1]
  refine Finset.sum_congr rfl fun q hq => Finset.sum_congr rfl fun l hl => ?_
  have hq := Finset.mem_range.mp hq
  have hl := Finset.mem_range.mp hl
  exact congrArg₂ (fun x y : EReal => x * y) (blk0 m c t q _ l hq y0 hl) (blk1 m c t q l _ hq hl y1)

/-- Every entry is in some point's block. -/
theorem cover2 (i : S4352x2048.Idx) : ∃ t : Fin cfg0.N, (cfg0.win 2).flush t = true ∧ i ∈ ((cfg0.win 2).blk t).view.set := by
  have h0 : (i 0).val < 4352 := (i 0).isLt
  have h1 : (i 1).val < 2048 := (i 1).isLt
  obtain ⟨t, ht⟩ : ∃ t : Fin cfg0.N, t.val = (i 0).val / 544 :=
    ⟨⟨(i 0).val / 544, Nat.lt_of_lt_of_eq (show _ < 8 by omega) N_0.symm⟩, rfl⟩
  obtain ⟨e0, e1⟩ := (idx_in t).2.2
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 544 ≤ (i 0).val ∧ (i 0).val < win0_2.index t 0 * 544 + 544
    omega
  | ⟨1, _⟩ =>
    show win0_2.index t 1 * 2048 ≤ (i 1).val ∧ (i 1).val < win0_2.index t 1 * 2048 + 2048
    omega

/-- The kernel's run: the rows' gradient, the arguments unchanged. -/
theorem run : θ_run defs (onTc (τ := τ) (main (F := Ideal))) ⟨m, fun _ => 0, ρ⟩ fun r => ∀ c : Dev nD,
      r.2.mem ((c : Thread nD τ).loc main_v0) = grad (arrD m c) (arrW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (grad (arrD m c) (arrW m c)) (fun t _ => flushed2 m c t) cover2), (h c).2⟩)
    (Value.run_blocks m ρ)

end Cert.Kernel12Ideal.Prod

namespace Cert.Reference12Ideal.Prod

open Idealize.ShloMosaic Idealize.ShloMosaic.TcCoe Idealize.SL.Sem Cert.Reference12Ideal Cert.Reference12Ideal.Gen Cert.Prods
open Cert.KernelIdeal.Conv (rd rd3 eq_rd eq_rd3)
open Cert.Cols (sum_blocks)

/-- The host's product of rows with rows. -/
theorem dot_at (A : FVec Ideal S4352x5632 .f32) (B : FVec Ideal S2048x5632 .f32) (r : Fin 4352) (q : Fin 2048) :
    Host.dotGeneral dot_S4352x5632_S2048x5632_S4352x2048_1_1_0_0_n_n none A B (ix2 r q) = ∑ l : Fin 5632, A (ix2 r l) * B (ix2 q l) := by
  simp only [pointwise, zero_add]

/-- The rows' gradient, entry by entry. -/
theorem grad_eq (D : FVec Ideal S8x4352x704 .bf16) (W : FVec Ideal S8x704x2048 .bf16) :
    (Host.dotGeneral dot_S4352x5632_S2048x5632_S4352x2048_1_1_0_0_n_n none
      (shapeCast S4352x5632 (transpose S4352x8x704 [1, 0, 2] (extf .f32 D bitsLt_bf16_f32) transposes_S8x4352x704_S4352x8x704_1_0_2) shapeCasts_S4352x8x704_S4352x5632)
      (transpose S2048x5632 [1, 0] (shapeCast S5632x2048 (extf .f32 W bitsLt_bf16_f32) shapeCasts_S8x704x2048_S5632x2048) transposes_S5632x2048_S2048x5632_1_0) : FVec Ideal S4352x2048 .f32)
      = Cert.Kernel12Ideal.Prod.grad D W := by
  funext y
  have y0 : (y 0).val < 4352 := (y 0).isLt
  have y1 : (y 1).val < 2048 := (y 1).isLt
  refine (eq_rd (n := 4352) (m := 2048) _ y _ _ rfl rfl).trans ?_
  refine (rd_dot_nt (n := 4352) (m := 2048) (k := 5632) _ _ _ (dot_at _ _) _ _ y0 y1).trans ?_
  refine (sum_blocks _ 8 704).symm.trans ?_
  refine Finset.sum_congr rfl fun q hq => Finset.sum_congr rfl fun l hl => ?_
  have hq := Finset.mem_range.mp hq
  have hl := Finset.mem_range.mp hl
  have e : 704 * q + l = q * 704 + l := by omega
  rw [e]
  refine congrArg₂ (fun x y : EReal => x * y) ?_ ?_
  · exact rd_beside (p := 8) (n := 4352) (w := 704) (extf .f32 D bitsLt_bf16_f32) _ _ _ _ _ y0 hq hl
  · refine (rd_swap (n := 5632) (m := 2048) _ _ _ _ y1 (by omega)).trans ?_
    exact rd_stack (p := 8) (n := 704) (m := 2048) (extf .f32 W bitsLt_bf16_f32) _ _ _ _ hq hl y1

end Cert.Reference12Ideal.Prod

namespace Cert.Proof

open Idealize.ShloMosaic Idealize.ShloMosaic.TcCoe Idealize.SL.Sem

/-- The kernel computes the rows' gradient. -/
theorem algebraic12 : Cert.algebraic_Kernel12Ideal_Reference12Ideal := fun m g m' g' _ h =>
  ⟨_, Cert.Kernel12Ideal.Prod.run m g, (θ_run Cert.Reference12Ideal.defs _ _).mono (fun r k c => by
    obtain ⟨h0, h1⟩ := h c
    obtain ⟨k0, k⟩ := k c
    refine ⟨k0.trans ?_, k⟩
    rw [h0, h1]
    exact Cert.Reference12Ideal.Prod.grad_eq _ _) (Cert.Reference12Ideal.Value.run m' g')⟩

end Cert.Proof

end
-- ==== Proof.Finite.lean ====
/-
  Real numbers among the extended reals: arrays said to be finite, sums of products of them, and the gated unit's derivative,
  whose two written forms agree at a finite cotangent.
-/
module

public import proofs.«01_k».proof.Proof.Cols
public import Idealize.ShloMosaic.Lib.ReduceAll
public import Idealize.ShloMosaic.Lib.Pointwise

@[expose] public section

noncomputable section

namespace Cert.Finite

open Idealize.ShloMosaic
open Cert.Cols (sg)

/-- Neither infinity. -/
def IsReal (x : EReal) : Prop := x ≠ ⊤ ∧ x ≠ ⊥

/-- Such a number is a real. -/
theorem real {x : EReal} (h : IsReal x) : ∃ r : ℝ, x = (r : EReal) := ⟨x.toReal, (EReal.coe_toReal h.1 h.2).symm⟩

/-- A real is neither infinity. -/
theorem coe (r : ℝ) : IsReal (r : EReal) := ⟨EReal.coe_ne_top r, EReal.coe_ne_bot r⟩

/-- Products of reals are real. -/
theorem mul {x y : EReal} (hx : IsReal x) (hy : IsReal y) : IsReal (x * y) := by
  obtain ⟨a, rfl⟩ := real hx
  obtain ⟨b, rfl⟩ := real hy
  rw [← EReal.coe_mul]
  exact coe _

/-- Sums of reals are real. -/
theorem sum (f : ℕ → EReal) (K : ℕ) (h : ∀ k, k < K → IsReal (f k)) : IsReal (∑ k ∈ Finset.range K, f k) := by
  induction K with
  | zero =>
    rw [Finset.range_zero, Finset.sum_empty]
    exact coe 0
  | succ K ih =>
    rw [Finset.sum_range_succ]
    obtain ⟨a, ha⟩ := real (ih fun k hk => h k (Nat.lt_succ_of_lt hk))
    obtain ⟨b, hb⟩ := real (h K (Nat.lt_succ_self K))
    rw [ha, hb, ← EReal.coe_add]
    exact coe _

/-- The word of infinity. -/
theorem inf16 : Ideal.ofBits .bf16 0x7F80#16 = ⊤ := by
  simp [Ideal.ofBits, Ideal.ieee]

/-- A number of magnitude below infinity. -/
theorem of_lt {x : EReal} (h : Ideal.cmp .olt (max x (-x)) ⊤ = 1#1) : IsReal x := by
  have e : max x (-x) < ⊤ := by
    by_contra n
    rw [Ideal.cmp, decide_eq_false n] at h
    exact absurd h (by decide)
  refine ⟨fun hx => ?_, fun hx => ?_⟩
  · rw [hx] at e
    simp at e
  · rw [hx] at e
    simp at e

/-- The shape of one number. -/
abbrev Z : Shape := ⟨0, ![]⟩

/-- It has one index. -/
theorem one_index (i j : Z.Idx) : i = j := funext fun a => a.elim0

/-- An array all of whose magnitudes are below infinity has real entries. -/
theorem of_all {s : Shape} {axes : List (Fin s.rank)} (X : FVec Ideal s .bf16) (b : Z.BroadcastsInDim s (![] : Fin 0 → Fin s.rank)) (r : s.ReducesTo axes Z)
    (h : 0 < Z.numel) (j : Z.Idx)
    (e : Host.reduce IntOp.andi (cmpf .olt (Host.absf X) (broadcastInDim s ![] b (constant (F := Ideal) Z .bf16 0x7F80#16))) (constantI Z 1 1#1) r h j = 1#1) (i : s.Idx) :
    IsReal (X i) := by
  have k := Host.reduce_andi_eq_one _ _ r h j e i (one_index _ _)
  refine of_lt ?_
  rw [← inf16]
  exact k

/-- The gated unit's derivative by its gate: the logistic's slope taken in with the cotangent, or after it. -/
theorem gate_split {c : EReal} (hc : IsReal c) (g : EReal) :
    c * sg g + g * c * (sg g * (1 - sg g)) = c * (sg g + g * sg g * (1 - sg g)) := by
  obtain ⟨c, rfl⟩ := real hc
  induction g with
  | bot =>
    have h : sg ⊥ = 0 := by
      rw [sg, EReal.neg_bot, Ideal.exp_top, Ideal.div, show (1 : EReal) + ⊤ = ⊤ from EReal.coe_add_top 1]
      simp
    rw [h]
    simp
  | top =>
    have h : sg ⊤ = 1 := by
      rw [sg, EReal.neg_top, Ideal.exp_bot, Ideal.div]
      simp
    have z : (1 : EReal) - 1 = 0 := by
      rw [← EReal.coe_one, ← EReal.coe_sub, sub_self, EReal.coe_zero]
    rw [h, z]
    simp
  | coe r =>
    have h : (1 : ℝ) + Real.exp (-r) ≠ 0 := by positivity
    rw [sg, ← EReal.coe_neg, Ideal.exp_coe, ← EReal.coe_one, ← EReal.coe_add, Ideal.div_coe h]
    norm_cast
    ring

end Cert.Finite

end
-- ==== Proof.GradUnit2.lean ====
/-
  The cotangents of the second layer's gate and up products: the kernel forms the hidden values' cotangent of 1024 rows and one of
  eight slabs of 704 columns, and from it both cotangents.
-/
module

public import proofs.«01_k».proof.Proof.Prods
public import proofs.«01_k».proof.Proof.Finite
public import proofs.«01_k».proof.Proof.GradDown2
public import proofs.«01_k».proof.Proof.Gen.Kernel13Ideal.Value
public import proofs.«01_k».proof.Proof.Gen.Reference13Ideal.Run
public import proofs.«01_k».proof.Defs
public import Idealize.ShloMosaic.Lib.Pipeline.Value
public import Idealize.ShloMosaic.Lib.Claim

@[expose] public section

noncomputable section

namespace Cert.Kernel13Ideal.Unit

open Idealize.ShloMosaic Idealize.ShloMosaic.TcCoe Idealize.ShloMosaic.Tactic Idealize.SL.Sem Cert.Kernel13Ideal Cert.Kernel13Ideal.Gen Cert.Prods
open Cert.KernelIdeal.Conv (rd rd3 eq_rd eq_rd3 rd_at rd3_at)
open Cert.Cols (sg sig_eq half_eq)
open Cert.Kernel3Ideal.Sum (half16)
open Cert.Finite (IsReal)
open Idealize.ShloMosaic.Pipeline (Dat)

/-! ## What the body leaves -/

section Body
variable (c : Dev nD) (i : grid0.Coords) (a2 : Memref sig .tc .vmem S4096x2048 .bf16) (h2 : a2.IsWhole) (a3 : Memref sig .tc .vmem S1x704x2048 .bf16) (h3 : a3.IsWhole)
  (a4 : Memref sig .tc .vmem S1x1024x704 .bf16) (h4 : a4.IsWhole) (a5 : Memref sig .tc .vmem S1x1024x704 .bf16) (h5 : a5.IsWhole)
  (a6 : Memref sig .tc .vmem S1x1024x704 .bf16) (h6 : a6.IsWhole) (a7 : Memref sig .tc .vmem S1x1024x704 .bf16) (h7 : a7.IsWhole)
  (x0 : Vec Ideal S4096x2048 .bf16) (x1 : Vec Ideal S1x704x2048 .bf16) (x2 x3 : Vec Ideal S1x1024x704 .bf16)

/-- The rows of the cotangent that a point reads. -/
def part : Vec Ideal S1024x2048 .bf16 := View.ld (Val := Elt Ideal) x0 (Rect.unit (s := S4096x2048) (k0_off1 i) S1024x2048.size (k0_off1_inb i))

/-- The gate's cotangent of a point. -/
theorem out4_eq : out0_A_4 c i a2 h2 a3 h3 a4 h4 a5 h5 a6 h6 a7 h7 x0 x1 x2 x3 = k0_pay1 (k0_pay7 (part i x0) x1 x2 x3) := by
  unfold out0_A_4
  rw [View.read_writes_eq_canon _ _ _ (cover0_A_4 c i a2 h2 a3 h3 a4 h4 a5 h5 a6 h6 a7 h7 x0 x1 x2 x3)]
  unfold kernelRun0_A
  dsimp only
  rw [View.canon_unit_zero hz3]
  sl_unfold_words
  simp only [View.readAt_eq_ld, h2.read_unread, h3.read_unread, h4.read_unread, h5.read_unread, View.ld_unit_zero (S := S1x704x2048) hz3, View.ld_unit_zero (S := S1x1024x704) hz3]
  rfl

/-- The up product's cotangent of a point. -/
theorem out5_eq : out0_A_5 c i a2 h2 a3 h3 a4 h4 a5 h5 a6 h6 a7 h7 x0 x1 x2 x3 = k0_pay6 (part i x0) x1 x2 := by
  unfold out0_A_5
  rw [View.read_writes_eq_canon _ _ _ (cover0_A_5 c i a2 h2 a3 h3 a4 h4 a5 h5 a6 h6 a7 h7 x0 x1 x2 x3)]
  unfold kernelRun0_A
  dsimp only
  rw [View.canon_unit_zero hz3]
  simp only [View.readAt_eq_ld, h2.read_unread, h3.read_unread, h4.read_unread, View.ld_unit_zero (S := S1x704x2048) hz3, View.ld_unit_zero (S := S1x1024x704) hz3]
  rfl

end Body

/-! ## A block by row and column -/

section Entries
variable (x0 : Vec Ideal S1024x2048 .bf16) (x1 : Vec Ideal S1x704x2048 .bf16) (x2 x3 : Vec Ideal S1x1024x704 .bf16) (i j : ℕ) (hi : i < 1024) (hj : j < 704)
include hi hj

/-- A product of rows with rows. -/
theorem prod_at (A : FVec Ideal S1024x2048 .bf16) (B : FVec Ideal S704x2048 .bf16) :
    rd (matmul dot_S1024x2048_S704x2048_S1024x704_1_1_0_0_n_n none A B (constant S1024x704 .f32 0x00000000#32) : FVec Ideal S1024x704 .f32) i j
      = ∑ k ∈ Finset.range 2048, rd A i k * rd B j k :=
  rd_dot_nt (n := 1024) (m := 704) (k := 2048) _ A B (fun r q => by
    simp only [pointwise, zero_add]) i j hi hj

/-- The hidden values' cotangent. -/
theorem da_at : rd (k0_pay2 x0 x1) i j = ((1 / 2 : ℝ) : EReal) * ∑ k ∈ Finset.range 2048, rd x0 i k * rd3 x1 0 j k := by
  have e : rd (k0_pay2 x0 x1) i j = Ideal.ofBits .f32 0x3F000000#32
      * rd (matmul (φ₁ := .bf16) (φ₂ := .bf16) dot_S1024x2048_S704x2048_S1024x704_1_1_0_0_n_n none x0 (shapeCast S704x2048 x1 shapeCasts_S1x704x2048_S704x2048) (constant S1024x704 .f32 0x00000000#32) : FVec Ideal S1024x704 .f32) i j := rfl
  rw [e, half_eq, prod_at i j hi hj]
  refine congrArg (fun z : EReal => ((1 / 2 : ℝ) : EReal) * z) (Finset.sum_congr rfl fun k hk => ?_)
  rw [rd_unslab (n := 704) (m := 2048) x1 _ j k hj (Finset.mem_range.mp hk)]

/-- The gate's logistic. -/
theorem sig_at : rd (k0_pay4 x2) i j = sg (rd3 x2 0 i j) := by
  rw [← rd_unslab (n := 1024) (m := 704) x2 shapeCasts_S1x1024x704_S1024x704 i j hi hj]
  have e : rd (k0_pay4 x2) i j = Ideal.ofBits .bf16 0x3F00#16 * Ideal.tanh (Ideal.ofBits .bf16 0x3F00#16 * rd (shapeCast S1024x704 x2 shapeCasts_S1x1024x704_S1024x704) i j)
      + Ideal.ofBits .bf16 0x3F00#16 := rfl
  rw [e, half16]
  exact sig_eq _

/-- The gate times its logistic. -/
theorem silu_at : rd (k0_pay5 x2) i j = rd3 x2 0 i j * sg (rd3 x2 0 i j) := by
  have e : rd (k0_pay5 x2) i j = rd (shapeCast S1024x704 x2 shapeCasts_S1x1024x704_S1024x704) i j * rd (k0_pay4 x2) i j := rfl
  rw [e, sig_at x2 i j hi hj, rd_unslab (n := 1024) (m := 704) x2 _ i j hi hj]

/-- The gate's cotangent. -/
theorem dg_at : rd (k0_pay7 x0 x1 x2 x3) i j = ((1 / 2 : ℝ) : EReal) * (∑ k ∈ Finset.range 2048, rd x0 i k * rd3 x1 0 j k) * rd3 x3 0 i j
    * (sg (rd3 x2 0 i j) + rd3 x2 0 i j * sg (rd3 x2 0 i j) * (1 - sg (rd3 x2 0 i j))) := by
  have e : rd (k0_pay7 x0 x1 x2 x3) i j = rd (k0_pay2 x0 x1) i j * rd (shapeCast S1024x704 x3 shapeCasts_S1x1024x704_S1024x704) i j
      * (rd (k0_pay4 x2) i j + rd (k0_pay5 x2) i j * (Ideal.ofBits .bf16 0x3F80#16 - rd (k0_pay4 x2) i j)) := rfl
  rw [e, Ideal.ofBits_one_bf16, da_at x0 x1 i j hi hj, sig_at x2 i j hi hj, silu_at x2 i j hi hj, rd_unslab (n := 1024) (m := 704) x3 _ i j hi hj]

/-- The up product's cotangent. -/
theorem du_at : rd (mulf (k0_pay2 x0 x1) (k0_pay5 x2)) i j = ((1 / 2 : ℝ) : EReal) * (∑ k ∈ Finset.range 2048, rd x0 i k * rd3 x1 0 j k)
    * (rd3 x2 0 i j * sg (rd3 x2 0 i j)) := by
  have e : rd (mulf (k0_pay2 x0 x1) (k0_pay5 x2)) i j = rd (k0_pay2 x0 x1) i j * rd (k0_pay5 x2) i j := rfl
  rw [e, da_at x0 x1 i j hi hj, silu_at x2 i j hi hj]

end Entries

/-! ## The blocks of the arguments -/

/-- The hidden values' cotangent at a row and a column of a slab. -/
def dhid (D : Vec Ideal S4096x2048 .bf16) (W : Vec Ideal S8x704x2048 .bf16) (q r j : ℕ) : EReal :=
  ((1 / 2 : ℝ) : EReal) * ∑ k ∈ Finset.range 2048, rd D r k * rd3 W q j k

/-- The gate's cotangent. -/
def dgate (D : Vec Ideal S4096x2048 .bf16) (W : Vec Ideal S8x704x2048 .bf16) (G U : Vec Ideal S8x4096x704 .bf16) : Vec Ideal S8x4096x704 .bf16 :=
  fun y => dhid D W (y 0).val (y 1).val (y 2).val * rd3 U (y 0).val (y 1).val (y 2).val
    * (sg (rd3 G (y 0).val (y 1).val (y 2).val) + rd3 G (y 0).val (y 1).val (y 2).val * sg (rd3 G (y 0).val (y 1).val (y 2).val) * (1 - sg (rd3 G (y 0).val (y 1).val (y 2).val)))

/-- The up product's cotangent. -/
def dup (D : Vec Ideal S4096x2048 .bf16) (W : Vec Ideal S8x704x2048 .bf16) (G : Vec Ideal S8x4096x704 .bf16) : Vec Ideal S8x4096x704 .bf16 :=
  fun y => dhid D W (y 0).val (y 1).val (y 2).val * (rd3 G (y 0).val (y 1).val (y 2).val * sg (rd3 G (y 0).val (y 1).val (y 2).val))

variable (m : (ℓ : Loc nD τ sig) → Buf (Elt Ideal) ℓ) (ρ : Dev nD → PrngReg) (c : Dev nD)

/-- The layer's cotangent, as launched. -/
abbrev arrD : Vec Ideal S4096x2048 .bf16 := m ((c : Thread nD τ).loc main_arg0)
/-- The down weight, as launched. -/
abbrev arrW : Vec Ideal S8x704x2048 .bf16 := m ((c : Thread nD τ).loc main_arg1)
/-- The gate, as launched. -/
abbrev arrG : Vec Ideal S8x4096x704 .bf16 := m ((c : Thread nD τ).loc main_arg2)
/-- The up product, as launched. -/
abbrev arrU : Vec Ideal S8x4096x704 .bf16 := m ((c : Thread nD τ).loc main_arg3)

/-- Point `4 q + b` is given slab `q` and row block `b`. -/
theorem idx_in : ∀ t : Fin grid0.N, (win0_0.index t 0 = 0 ∧ win0_0.index t 1 = 0)
    ∧ (win0_1.index t 0 = t.val / 4 ∧ win0_1.index t 1 = 0 ∧ win0_1.index t 2 = 0)
    ∧ (win0_2.index t 0 = t.val / 4 ∧ win0_2.index t 1 = t.val % 4 ∧ win0_2.index t 2 = 0)
    ∧ (win0_3.index t 0 = t.val / 4 ∧ win0_3.index t 1 = t.val % 4 ∧ win0_3.index t 2 = 0)
    ∧ (win0_4.index t 0 = t.val / 4 ∧ win0_4.index t 1 = t.val % 4 ∧ win0_4.index t 2 = 0)
    ∧ (win0_5.index t 0 = t.val / 4 ∧ win0_5.index t 1 = t.val % 4 ∧ win0_5.index t 2 = 0) := by decide +kernel

/-- It reads the rows of its row block. -/
theorem off_in : ∀ t : Fin grid0.N, k0_off1 (grid0.coords t) 0 = 1024 * (t.val % 4) ∧ k0_off1 (grid0.coords t) 1 = 0 := by decide +kernel

/-- The rows of the cotangent. -/
theorem blk0 (t : Fin cfg0.N) (r k : ℕ) (hr : r < 1024) (hk : k < 2048) :
    rd (part (grid0.coords t) (iblk m c 0 t)) r k = rd (arrD m c) (1024 * (t.val % 4) + r) k := by
  have e := (idx_in t).1
  have o := off_in t
  refine (rd_at (n := 1024) (m := 2048) _ r k hr hk).trans ?_
  refine eq_rd (n := 4096) (m := 2048) (arrD m c) (((cfg0.win 0).blk t).view.emb
    ((Rect.unit (s := S4096x2048) (k0_off1 (grid0.coords t)) S1024x2048.size (k0_off1_inb (grid0.coords t))).idx (ValueIdx.ix2 (⟨r, hr⟩ : Fin 1024) (⟨k, hk⟩ : Fin 2048)))) _ _ ?_ ?_
  · show win0_0.index t 0 * 4096 + 1 * (k0_off1 (grid0.coords t) 0 + 1 * r) = _
    omega
  · show win0_0.index t 1 * 2048 + 1 * (k0_off1 (grid0.coords t) 1 + 1 * k) = _
    omega

/-- The slab of the weight. -/
theorem blk1 (t : Fin cfg0.N) (r k : ℕ) (hr : r < 704) (hk : k < 2048) :
    rd3 (iblk m c 1 t : Vec Ideal S1x704x2048 .bf16) 0 r k = rd3 (arrW m c) (t.val / 4) r k := by
  have e := (idx_in t).2.1
  refine (rd3_at (p := 1) (n := 704) (m := 2048) _ 0 r k (by omega) hr hk).trans ?_
  refine eq_rd3 (p := 8) (n := 704) (m := 2048) (arrW m c) (((cfg0.win 1).blk t).view.emb (ValueIdx.ix3 (0 : Fin 1) (⟨r, hr⟩ : Fin 704) (⟨k, hk⟩ : Fin 2048))) _ _ _ ?_ ?_ ?_
  · show win0_1.index t 0 * 1 + 1 * 0 = _
    omega
  · show win0_1.index t 1 * 704 + 1 * r = _
    omega
  · show win0_1.index t 2 * 2048 + 1 * k = _
    omega

/-- The block of the gate. -/
theorem blk2 (t : Fin cfg0.N) (r k : ℕ) (hr : r < 1024) (hk : k < 704) :
    rd3 (iblk m c 2 t : Vec Ideal S1x1024x704 .bf16) 0 r k = rd3 (arrG m c) (t.val / 4) (1024 * (t.val % 4) + r) k := by
  have e := (idx_in t).2.2.1
  refine (rd3_at (p := 1) (n := 1024) (m := 704) _ 0 r k (by omega) hr hk).trans ?_
  refine eq_rd3 (p := 8) (n := 4096) (m := 704) (arrG m c) (((cfg0.win 2).blk t).view.emb (ValueIdx.ix3 (0 : Fin 1) (⟨r, hr⟩ : Fin 1024) (⟨k, hk⟩ : Fin 704))) _ _ _ ?_ ?_ ?_
  · show win0_2.index t 0 * 1 + 1 * 0 = _
    omega
  · show win0_2.index t 1 * 1024 + 1 * r = _
    omega
  · show win0_2.index t 2 * 704 + 1 * k = _
    omega

/-- The block of the up product. -/
theorem blk3 (t : Fin cfg0.N) (r k : ℕ) (hr : r < 1024) (hk : k < 704) :
    rd3 (iblk m c 3 t : Vec Ideal S1x1024x704 .bf16) 0 r k = rd3 (arrU m c) (t.val / 4) (1024 * (t.val % 4) + r) k := by
  have e := (idx_in t).2.2.2.1
  refine (rd3_at (p := 1) (n := 1024) (m := 704) _ 0 r k (by omega) hr hk).trans ?_
  refine eq_rd3 (p := 8) (n := 4096) (m := 704) (arrU m c) (((cfg0.win 3).blk t).view.emb (ValueIdx.ix3 (0 : Fin 1) (⟨r, hr⟩ : Fin 1024) (⟨k, hk⟩ : Fin 704))) _ _ _ ?_ ?_ ?_
  · show win0_3.index t 0 * 1 + 1 * 0 = _
    omega
  · show win0_3.index t 1 * 1024 + 1 * r = _
    omega
  · show win0_3.index t 2 * 704 + 1 * k = _
    omega

/-- A point's hidden values' cotangent. -/
theorem dhid_eq (t : Fin cfg0.N) (r j : ℕ) (hr : r < 1024) (hj : j < 704) :
    ((1 / 2 : ℝ) : EReal) * ∑ k ∈ Finset.range 2048, rd (part (grid0.coords t) (iblk m c 0 t)) r k * rd3 (iblk m c 1 t : Vec Ideal S1x704x2048 .bf16) 0 j k
      = dhid (arrD m c) (arrW m c) (t.val / 4) (1024 * (t.val % 4) + r) j := by
  refine congrArg (fun z : EReal => ((1 / 2 : ℝ) : EReal) * z) (Finset.sum_congr rfl fun k hk => ?_)
  have hk := Finset.mem_range.mp hk
  exact congrArg₂ (fun x y : EReal => x * y) (blk0 m c t r k hr hk) (blk1 m c t j k hj hk)

/-! ## The results -/

/-- What a point writes back of the gate's cotangent. -/
theorem flushed4 (t : Fin cfg0.N) : (dats m 0 c).flushed 4 t = ((cfg0.win 4).blk t).view.read (Elt Ideal) (dgate (arrD m c) (arrW m c) (arrG m c) (arrU m c)) := by
  rw [Value.flushed4_A m c t, out4_eq]
  obtain ⟨e0, e1, e2⟩ := (idx_in t).2.2.2.2.1
  funext y
  have y0 : (y 0).val < 1 := (y 0).isLt
  have y1 : (y 1).val < 1024 := (y 1).isLt
  have y2 : (y 2).val < 704 := (y 2).isLt
  refine (slab_at (n := 1024) (m := 704) (k0_pay7 (part (grid0.coords t) (iblk m c 0 t)) (iblk m c 1 t) (iblk m c 2 t) (iblk m c 3 t)) shapeCasts_S1024x704_S1x1024x704 y).trans ?_
  refine (dg_at _ _ _ _ _ _ y1 y2).trans ?_
  have f0 : (((cfg0.win 4).blk t).view.emb y 0).val = t.val / 4 := by
    show win0_4.index t 0 * 1 + 1 * (y 0).val = _
    omega
  have f1 : (((cfg0.win 4).blk t).view.emb y 1).val = 1024 * (t.val % 4) + (y 1).val := by
    show win0_4.index t 1 * 1024 + 1 * (y 1).val = _
    omega
  have f2 : (((cfg0.win 4).blk t).view.emb y 2).val = (y 2).val := by
    show win0_4.index t 2 * 704 + 1 * (y 2).val = _
    omega
  have g : rd3 (iblk m c 2 t : Vec Ideal S1x1024x704 .bf16) 0 (y 1).val (y 2).val = _ := blk2 m c t _ _ y1 y2
  show _ = dgate (arrD m c) (arrW m c) (arrG m c) (arrU m c) (((cfg0.win 4).blk t).view.emb y)
  unfold dgate
  rw [f0, f1, f2]
  refine congrArg₂ (fun x y : EReal => x * y) (congrArg₂ (fun x y : EReal => x * y) (dhid_eq m c t _ _ y1 y2) (blk3 m c t _ _ y1 y2)) ?_
  exact congrArg (fun g : EReal => sg g + g * sg g * (1 - sg g)) g

/-- Every entry of the gate's cotangent is in some point's block. -/
theorem cover4 (i : S8x4096x704.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 704 := (i 2).isLt
  obtain ⟨t, ht⟩ : ∃ t : Fin cfg0.N, t.val = 4 * (i 0).val + (i 1).val / 1024 :=
    ⟨⟨4 * (i 0).val + (i 1).val / 1024, Nat.lt_of_lt_of_eq (show _ < 32 by omega) N_0.symm⟩, rfl⟩
  obtain ⟨e0, e1, e2⟩ := (idx_in t).2.2.2.2.1
  refine ⟨t, flush0_4 _, ?_⟩
  show i ∈ ((View.whole main_v0_0).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    omega
  | ⟨1, _⟩ =>
    show win0_4.index t 1 * 1024 ≤ (i 1).val ∧ (i 1).val < win0_4.index t 1 * 1024 + 1024
    omega
  | ⟨2, _⟩ =>
    show win0_4.index t 2 * 704 ≤ (i 2).val ∧ (i 2).val < win0_4.index t 2 * 704 + 704
    omega

/-- What a point writes back of the up product's cotangent. -/
theorem flushed5 (t : Fin cfg0.N) : (dats m 0 c).flushed 5 t = ((cfg0.win 5).blk t).view.read (Elt Ideal) (dup (arrD m c) (arrW m c) (arrG m c)) := by
  rw [Value.flushed5_A m c t, out5_eq]
  obtain ⟨e0, e1, e2⟩ := (idx_in t).2.2.2.2.2
  funext y
  have y0 : (y 0).val < 1 := (y 0).isLt
  have y1 : (y 1).val < 1024 := (y 1).isLt
  have y2 : (y 2).val < 704 := (y 2).isLt
  refine (slab_at (n := 1024) (m := 704) (mulf (k0_pay2 (part (grid0.coords t) (iblk m c 0 t)) (iblk m c 1 t)) (k0_pay5 (iblk m c 2 t))) shapeCasts_S1024x704_S1x1024x704 y).trans ?_
  refine (du_at _ _ _ _ _ y1 y2).trans ?_
  have f0 : (((cfg0.win 5).blk t).view.emb y 0).val = t.val / 4 := by
    show win0_5.index t 0 * 1 + 1 * (y 0).val = _
    omega
  have f1 : (((cfg0.win 5).blk t).view.emb y 1).val = 1024 * (t.val % 4) + (y 1).val := by
    show win0_5.index t 1 * 1024 + 1 * (y 1).val = _
    omega
  have f2 : (((cfg0.win 5).blk t).view.emb y 2).val = (y 2).val := by
    show win0_5.index t 2 * 704 + 1 * (y 2).val = _
    omega
  have g : rd3 (iblk m c 2 t : Vec Ideal S1x1024x704 .bf16) 0 (y 1).val (y 2).val = _ := blk2 m c t _ _ y1 y2
  show _ = dup (arrD m c) (arrW m c) (arrG m c) (((cfg0.win 5).blk t).view.emb y)
  unfold dup
  rw [f0, f1, f2]
  exact congrArg₂ (fun x y : EReal => x * y) (dhid_eq m c t _ _ y1 y2) (congrArg (fun g : EReal => g * sg g) g)

/-- Every entry of the up product's cotangent is in some point's block. -/
theorem cover5 (i : S8x4096x704.Idx) : ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 704 := (i 2).isLt
  obtain ⟨t, ht⟩ : ∃ t : Fin cfg0.N, t.val = 4 * (i 0).val + (i 1).val / 1024 :=
    ⟨⟨4 * (i 0).val + (i 1).val / 1024, Nat.lt_of_lt_of_eq (show _ < 32 by omega) N_0.symm⟩, rfl⟩
  obtain ⟨e0, e1, e2⟩ := (idx_in t).2.2.2.2.2
  refine ⟨t, flush0_5 _, ?_⟩
  show i ∈ ((View.whole main_v0_1).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    omega
  | ⟨1, _⟩ =>
    show win0_5.index t 1 * 1024 ≤ (i 1).val ∧ (i 1).val < win0_5.index t 1 * 1024 + 1024
    omega
  | ⟨2, _⟩ =>
    show win0_5.index t 2 * 704 ≤ (i 2).val ∧ (i 2).val < win0_5.index t 2 * 704 + 704
    omega

/-- The kernel's run: the two cotangents, the arguments unchanged. -/
theorem run : θ_run defs (onTc (τ := τ) (main (F := Ideal))) ⟨m, fun _ => 0, ρ⟩ fun r => ∀ c : Dev nD,
      r.2.mem ((c : Thread nD τ).loc main_v0_0) = dgate (arrD m c) (arrW m c) (arrG m c) (arrU m c)
      ∧ r.2.mem ((c : Thread nD τ).loc main_v0_1) = dup (arrD m c) (arrW m c) (arrG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (dgate (arrD m c) (arrW m c) (arrG m c) (arrU m c)) (fun t _ => flushed4 m c t) cover4),
      (h c).2.1.trans ((dats m 0 c).arrAt_eq_of_cover 5 (dup (arrD m c) (arrW m c) (arrG m c)) (fun t _ => flushed5 m c t) cover5), (h c).2.2⟩)
    (Value.run_blocks m ρ)

end Cert.Kernel13Ideal.Unit

namespace Cert.Pre_finite13.Read

open Idealize.ShloMosaic Cert.Pre_finite13 Cert.Pre_finite13.Facts
open Cert.Finite (IsReal)

/-- The precondition: the cotangent, the weight and the up product have real entries. -/
theorem reals [Facts] (D : FVec Ideal S4096x2048 .bf16) (W : FVec Ideal S8x704x2048 .bf16) (G U : FVec Ideal S8x4096x704 .bf16)
    (h : Cert.Pre_finite13.fn (F := Ideal) D W G U = fun _ => 1#1) : (∀ i, IsReal (D i)) ∧ (∀ i, IsReal (W i)) ∧ ∀ i, IsReal (U i) := by
  have e := congrFun h (fun a => a.elim0)
  obtain ⟨e, e3⟩ := IntOp.andi_eq_one.1 e
  obtain ⟨e1, e2⟩ := IntOp.andi_eq_one.1 e
  exact ⟨Cert.Finite.of_all D bcast_S_S4096x2048 reducesTo_S4096x2048_S_d0_1 h_S_ _ e1,
    Cert.Finite.of_all W bcast_S_S8x704x2048 reducesTo_S8x704x2048_S_d0_1_2 h_S_ _ e2,
    Cert.Finite.of_all U bcast_S_S8x4096x704 reducesTo_S8x4096x704_S_d0_1_2 h_S_ _ e3⟩

end Cert.Pre_finite13.Read

namespace Cert.Reference13Ideal.Unit

open Idealize.ShloMosaic Idealize.ShloMosaic.TcCoe Idealize.SL.Sem Cert.Reference13Ideal Cert.Reference13Ideal.Gen Cert.Prods
open Cert.KernelIdeal.Conv (rd rd3 eq_rd eq_rd3 rd_at rd3_at)
open Cert.Cols (sg half_eq)
open Cert.Finite (IsReal)
open Cert.Kernel13Ideal.Unit (dhid dgate dup)

/-- The host's product of rows with rows. -/
theorem dot_at (A : FVec Ideal S4096x2048 .f32) (B : FVec Ideal S5632x2048 .f32) (r : Fin 4096) (q : Fin 5632) :
    Host.dotGeneral dot_S4096x2048_S5632x2048_S4096x5632_1_1_0_0_n_n none A B (ix2 r q) = ∑ l : Fin 2048, A (ix2 r l) * B (ix2 q l) := by
  simp only [pointwise, zero_add]

/-- The hidden values' cotangent. -/
def ct (D : FVec Ideal S4096x2048 .bf16) (W : FVec Ideal S8x704x2048 .bf16) : FVec Ideal S4096x5632 .f32 :=
  Host.dotGeneral dot_S4096x2048_S5632x2048_S4096x5632_1_1_0_0_n_n none (mulf (broadcastInDim S4096x2048 ![] bcast_S_S4096x2048 (constant S_ .f32 0x3F000000#32)) (extf .f32 D bitsLt_bf16_f32))
    (shapeCast S5632x2048 (extf .f32 W bitsLt_bf16_f32) shapeCasts_S8x704x2048_S5632x2048)

/-- It by row and column. -/
theorem ct_at (D : FVec Ideal S4096x2048 .bf16) (W : FVec Ideal S8x704x2048 .bf16) (q r j : ℕ) (hq : q < 8) (hr : r < 4096) (hj : j < 704) :
    rd (ct D W) r (q * 704 + j) = dhid D W q r j := by
  refine (rd_dot_nt (n := 4096) (m := 5632) (k := 2048) _ _ _ (dot_at _ _) _ _ hr (by omega)).trans ?_
  refine Eq.trans ?_ (half_sum _ 2048).symm
  refine Finset.sum_congr rfl fun l hl => ?_
  have hl := Finset.mem_range.mp hl
  have e : rd (mulf (broadcastInDim S4096x2048 ![] bcast_S_S4096x2048 (constant S_ .f32 0x3F000000#32)) (extf .f32 D bitsLt_bf16_f32) : FVec Ideal S4096x2048 .f32) r l
      = Ideal.ofBits .f32 0x3F000000#32 * rd D r l := rfl
  rw [e, half_eq]
  refine (congrArg (fun z : EReal => ((1 / 2 : ℝ) : EReal) * rd D r l * z) (rd_stack (p := 8) (n := 704) (m := 2048) (extf .f32 W bitsLt_bf16_f32) _ _ _ _ hq hj hl)).trans ?_
  exact mul_assoc _ _ _

/-- A saved product, its slabs side by side. -/
def cols (G : FVec Ideal S8x4096x704 .bf16) : FVec Ideal S4096x5632 .f32 :=
  shapeCast S4096x5632 (transpose S4096x8x704 [1, 0, 2] (extf .f32 G bitsLt_bf16_f32) transposes_S8x4096x704_S4096x8x704_1_0_2) shapeCasts_S4096x8x704_S4096x5632

/-- It by row and column. -/
theorem cols_at (G : FVec Ideal S8x4096x704 .bf16) (q r j : ℕ) (hq : q < 8) (hr : r < 4096) (hj : j < 704) : rd (cols G) r (q * 704 + j) = rd3 G q r j :=
  rd_beside (p := 8) (n := 4096) (w := 704) (extf .f32 G bitsLt_bf16_f32) _ _ r q j hr hq hj

/-- The logistic of a matrix. -/
def sig (G : FVec Ideal S4096x5632 .f32) : FVec Ideal S4096x5632 .f32 :=
  Host.divf (broadcastInDim S4096x5632 ![] bcast_S_S4096x5632 (constant S_ .f32 0x3F800000#32))
    (addf (broadcastInDim S4096x5632 ![] bcast_S_S4096x5632 (constant S_ .f32 0x3F800000#32)) (Host.exp (Host.negf G)))

/-- It by row and column. -/
theorem sig_at (G : FVec Ideal S4096x5632 .f32) (i j : ℕ) : rd (sig G) i j = sg (rd G i j) := by
  have e : rd (sig G) i j = Ideal.div (Ideal.ofBits .f32 0x3F800000#32) (Ideal.ofBits .f32 0x3F800000#32 + Ideal.exp (-(rd G i j))) := rfl
  rw [e, Ideal.ofBits_one_f32]
  rfl

/-- The hidden values' cotangent is real when the layer's cotangent and the weight are. -/
theorem real_dhid (D : FVec Ideal S4096x2048 .bf16) (W : FVec Ideal S8x704x2048 .bf16) (hD : ∀ i, IsReal (D i)) (hW : ∀ i, IsReal (W i)) (q r j : ℕ)
    (hq : q < 8) (hr : r < 4096) (hj : j < 704) : IsReal (dhid D W q r j) := by
  refine Cert.Finite.mul (Cert.Finite.coe _) (Cert.Finite.sum _ 2048 fun k hk => Cert.Finite.mul ?_ ?_)
  · rw [rd_at (n := 4096) (m := 2048) D r k hr hk]
    exact hD _
  · rw [rd3_at (p := 8) (n := 704) (m := 2048) W q j k hq hj hk]
    exact hW _

/-- The gate's cotangent, entry by entry. -/
theorem dgate_eq (D : FVec Ideal S4096x2048 .bf16) (W : FVec Ideal S8x704x2048 .bf16) (G U : FVec Ideal S8x4096x704 .bf16)
    (hD : ∀ i, IsReal (D i)) (hW : ∀ i, IsReal (W i)) (hU : ∀ i, IsReal (U i)) :
    (truncf .bf16 (transpose S8x4096x704 [1, 0, 2] (shapeCast S4096x8x704 (addf (mulf (mulf (ct D W) (cols U)) (sig (cols G)))
      (mulf (mulf (cols G) (mulf (ct D W) (cols U))) (mulf (sig (cols G)) (subf (broadcastInDim S4096x5632 ![] bcast_S_S4096x5632 (constant S_ .f32 0x3F800000#32)) (sig (cols G))))))
      shapeCasts_S4096x5632_S4096x8x704) transposes_S4096x8x704_S8x4096x704_1_0_2) bitsLt_bf16_f32 : FVec Ideal S8x4096x704 .bf16) = dgate D W G U := by
  funext y
  have y0 : (y 0).val < 8 := (y 0).isLt
  have y1 : (y 1).val < 4096 := (y 1).isLt
  have y2 : (y 2).val < 704 := (y 2).isLt
  refine (eq_rd3 (p := 8) (n := 4096) (m := 704) _ y _ _ _ rfl rfl rfl).trans ?_
  refine (rd3_trunc (p := 8) (n := 4096) (m := 704) _ _ _ _ _).trans ?_
  refine (rd3_cut (p := 8) (n := 4096) (w := 704) _ _ _ _ _ _ y0 y1 y2).trans ?_
  have e : ∀ A B C : FVec Ideal S4096x5632 .f32, ∀ i j, rd (addf (mulf (mulf A B) (sig C))
      (mulf (mulf C (mulf A B)) (mulf (sig C) (subf (broadcastInDim S4096x5632 ![] bcast_S_S4096x5632 (constant S_ .f32 0x3F800000#32)) (sig C)))) : FVec Ideal S4096x5632 .f32) i j
      = rd A i j * rd B i j * rd (sig C) i j + rd C i j * (rd A i j * rd B i j) * (rd (sig C) i j * (Ideal.ofBits .f32 0x3F800000#32 - rd (sig C) i j)) := fun _ _ _ _ _ => rfl
  refine (e _ _ _ _ _).trans ?_
  rw [sig_at, Ideal.ofBits_one_f32, ct_at D W _ _ _ y0 y1 y2, cols_at G _ _ _ y0 y1 y2, cols_at U _ _ _ y0 y1 y2]
  refine Cert.Finite.gate_split (Cert.Finite.mul (real_dhid D W hD hW _ _ _ y0 y1 y2) ?_) _
  rw [rd3_at (p := 8) (n := 4096) (m := 704) U _ _ _ y0 y1 y2]
  exact hU _

/-- The up product's cotangent, entry by entry. -/
theorem dup_eq (D : FVec Ideal S4096x2048 .bf16) (W : FVec Ideal S8x704x2048 .bf16) (G : FVec Ideal S8x4096x704 .bf16) :
    (truncf .bf16 (transpose S8x4096x704 [1, 0, 2] (shapeCast S4096x8x704 (mulf (mulf (cols G) (sig (cols G))) (ct D W))
      shapeCasts_S4096x5632_S4096x8x704) transposes_S4096x8x704_S8x4096x704_1_0_2) bitsLt_bf16_f32 : FVec Ideal S8x4096x704 .bf16) = dup D W G := by
  funext y
  have y0 : (y 0).val < 8 := (y 0).isLt
  have y1 : (y 1).val < 4096 := (y 1).isLt
  have y2 : (y 2).val < 704 := (y 2).isLt
  refine (eq_rd3 (p := 8) (n := 4096) (m := 704) _ y _ _ _ rfl rfl rfl).trans ?_
  refine (rd3_trunc (p := 8) (n := 4096) (m := 704) _ _ _ _ _).trans ?_
  refine (rd3_cut (p := 8) (n := 4096) (w := 704) _ _ _ _ _ _ y0 y1 y2).trans ?_
  have e : ∀ A C : FVec Ideal S4096x5632 .f32, ∀ i j, rd (mulf (mulf C (sig C)) A : FVec Ideal S4096x5632 .f32) i j = rd C i j * rd (sig C) i j * rd A i j := fun _ _ _ _ => rfl
  refine (e _ _ _ _).trans ?_
  rw [sig_at, ct_at D W _ _ _ y0 y1 y2, cols_at G _ _ _ y0 y1 y2]
  exact mul_comm _ _

end Cert.Reference13Ideal.Unit

namespace Cert.Proof

open Idealize.ShloMosaic Idealize.ShloMosaic.TcCoe Idealize.SL.Sem

/-- The kernel computes the gated unit's cotangents, when the layer's cotangent, the weight and the up product are finite. -/
theorem algebraic13 [Cert.Pre_finite13.Facts] : Cert.algebraic_Kernel13Ideal_Reference13Ideal_pre_finite13 := fun m g m' g' p h =>
  ⟨_, _, Cert.Kernel13Ideal.Unit.run m g, (θ_run Cert.Reference13Ideal.defs _ _).mono (fun r k c => by
    obtain ⟨h0, h1, h2, h3⟩ := h c
    obtain ⟨k0, k1, k⟩ := k c
    obtain ⟨hD, hW, hU⟩ := Cert.Pre_finite13.Read.reals _ _ _ _ (p c)
    refine ⟨k0.trans ?_, k1.trans ?_, k⟩
    · rw [h0, h1, h2, h3]
      exact Cert.Reference13Ideal.Unit.dgate_eq _ _ _ _ hD hW hU
    · rw [h0, h1, h2]
      exact Cert.Reference13Ideal.Unit.dup_eq _ _ _) (Cert.Reference13Ideal.Value.run m' g')⟩

end Cert.Proof

end
-- ==== Proof.GradUnit1.lean ====
/-
  The cotangents of the first layer's gate and up products: the kernel forms the hidden values' cotangent of 1088 rows and one of
  eight slabs of 704 columns, and from it both cotangents.
-/
module

public import proofs.«01_k».proof.Proof.Prods
public import proofs.«01_k».proof.Proof.Finite
public import proofs.«01_k».proof.Proof.GradDown2
public import proofs.«01_k».proof.Proof.Gen.Kernel14Ideal.Value
public import proofs.«01_k».proof.Proof.Gen.Reference14Ideal.Run
public import proofs.«01_k».proof.Defs
public import Idealize.ShloMosaic.Lib.Pipeline.Value
public import Idealize.ShloMosaic.Lib.Claim

@[expose] public section

noncomputable section

namespace Cert.Kernel14Ideal.Unit

open Idealize.ShloMosaic Idealize.ShloMosaic.TcCoe Idealize.ShloMosaic.Tactic Idealize.SL.Sem Cert.Kernel14Ideal Cert.Kernel14Ideal.Gen Cert.Prods
open Cert.KernelIdeal.Conv (rd rd3 eq_rd eq_rd3 rd_at rd3_at)
open Cert.Cols (sg sig_eq half_eq)
open Cert.Kernel3Ideal.Sum (half16)
open Cert.Finite (IsReal)
open Idealize.ShloMosaic.Pipeline (Dat)

/-! ## What the body leaves -/

section Body
variable (c : Dev nD) (i : grid0.Coords) (a2 : Memref sig .tc .vmem S4352x2048 .bf16) (h2 : a2.IsWhole) (a3 : Memref sig .tc .vmem S1x704x2048 .bf16) (h3 : a3.IsWhole)
  (a4 : Memref sig .tc .vmem S1x1088x704 .bf16) (h4 : a4.IsWhole) (a5 : Memref sig .tc .vmem S1x1088x704 .bf16) (h5 : a5.IsWhole)
  (a6 : Memref sig .tc .vmem S1x1088x704 .bf16) (h6 : a6.IsWhole) (a7 : Memref sig .tc .vmem S1x1088x704 .bf16) (h7 : a7.IsWhole)
  (x0 : Vec Ideal S4352x2048 .bf16) (x1 : Vec Ideal S1x704x2048 .bf16) (x2 x3 : Vec Ideal S1x1088x704 .bf16)

/-- The rows of the cotangent that a point reads. -/
def part : Vec Ideal S1088x2048 .bf16 := View.ld (Val := Elt Ideal) x0 (Rect.unit (s := S4352x2048) (k0_off1 i) S1088x2048.size (k0_off1_inb i))

/-- The gate's cotangent of a point. -/
theorem out4_eq : out0_A_4 c i a2 h2 a3 h3 a4 h4 a5 h5 a6 h6 a7 h7 x0 x1 x2 x3 = k0_pay1 (k0_pay7 (part i x0) x1 x2 x3) := by
  unfold out0_A_4
  rw [View.read_writes_eq_canon _ _ _ (cover0_A_4 c i a2 h2 a3 h3 a4 h4 a5 h5 a6 h6 a7 h7 x0 x1 x2 x3)]
  unfold kernelRun0_A
  dsimp only
  rw [View.canon_unit_zero hz3]
  sl_unfold_words
  simp only [View.readAt_eq_ld, h2.read_unread, h3.read_unread, h4.read_unread, h5.read_unread, View.ld_unit_zero (S := S1x704x2048) hz3, View.ld_unit_zero (S := S1x1088x704) hz3]
  rfl

/-- The up product's cotangent of a point. -/
theorem out5_eq : out0_A_5 c i a2 h2 a3 h3 a4 h4 a5 h5 a6 h6 a7 h7 x0 x1 x2 x3 = k0_pay6 (part i x0) x1 x2 := by
  unfold out0_A_5
  rw [View.read_writes_eq_canon _ _ _ (cover0_A_5 c i a2 h2 a3 h3 a4 h4 a5 h5 a6 h6 a7 h7 x0 x1 x2 x3)]
  unfold kernelRun0_A
  dsimp only
  rw [View.canon_unit_zero hz3]
  simp only [View.readAt_eq_ld, h2.read_unread, h3.read_unread, h4.read_unread, View.ld_unit_zero (S := S1x704x2048) hz3, View.ld_unit_zero (S := S1x1088x704) hz3]
  rfl

end Body

/-! ## A block by row and column -/

section Entries
variable (x0 : Vec Ideal S1088x2048 .bf16) (x1 : Vec Ideal S1x704x2048 .bf16) (x2 x3 : Vec Ideal S1x1088x704 .bf16) (i j : ℕ) (hi : i < 1088) (hj : j < 704)
include hi hj

/-- A product of rows with rows. -/
theorem prod_at (A : FVec Ideal S1088x2048 .bf16) (B : FVec Ideal S704x2048 .bf16) :
    rd (matmul dot_S1088x2048_S704x2048_S1088x704_1_1_0_0_n_n none A B (constant S1088x704 .f32 0x00000000#32) : FVec Ideal S1088x704 .f32) i j
      = ∑ k ∈ Finset.range 2048, rd A i k * rd B j k :=
  rd_dot_nt (n := 1088) (m := 704) (k := 2048) _ A B (fun r q => by
    simp only [pointwise, zero_add]) i j hi hj

/-- The hidden values' cotangent. -/
theorem da_at : rd (k0_pay2 x0 x1) i j = ((1 / 2 : ℝ) : EReal) * ∑ k ∈ Finset.range 2048, rd x0 i k * rd3 x1 0 j k := by
  have e : rd (k0_pay2 x0 x1) i j = Ideal.ofBits .f32 0x3F000000#32
      * rd (matmul (φ₁ := .bf16) (φ₂ := .bf16) dot_S1088x2048_S704x2048_S1088x704_1_1_0_0_n_n none x0 (shapeCast S704x2048 x1 shapeCasts_S1x704x2048_S704x2048) (constant S1088x704 .f32 0x00000000#32) : FVec Ideal S1088x704 .f32) i j := rfl
  rw [e, half_eq, prod_at i j hi hj]
  refine congrArg (fun z : EReal => ((1 / 2 : ℝ) : EReal) * z) (Finset.sum_congr rfl fun k hk => ?_)
  rw [rd_unslab (n := 704) (m := 2048) x1 _ j k hj (Finset.mem_range.mp hk)]

/-- The gate's logistic. -/
theorem sig_at : rd (k0_pay4 x2) i j = sg (rd3 x2 0 i j) := by
  rw [← rd_unslab (n := 1088) (m := 704) x2 shapeCasts_S1x1088x704_S1088x704 i j hi hj]
  have e : rd (k0_pay4 x2) i j = Ideal.ofBits .bf16 0x3F00#16 * Ideal.tanh (Ideal.ofBits .bf16 0x3F00#16 * rd (shapeCast S1088x704 x2 shapeCasts_S1x1088x704_S1088x704) i j)
      + Ideal.ofBits .bf16 0x3F00#16 := rfl
  rw [e, half16]
  exact sig_eq _

/-- The gate times its logistic. -/
theorem silu_at : rd (k0_pay5 x2) i j = rd3 x2 0 i j * sg (rd3 x2 0 i j) := by
  have e : rd (k0_pay5 x2) i j = rd (shapeCast S1088x704 x2 shapeCasts_S1x1088x704_S1088x704) i j * rd (k0_pay4 x2) i j := rfl
  rw [e, sig_at x2 i j hi hj, rd_unslab (n := 1088) (m := 704) x2 _ i j hi hj]

/-- The gate's cotangent. -/
theorem dg_at : rd (k0_pay7 x0 x1 x2 x3) i j = ((1 / 2 : ℝ) : EReal) * (∑ k ∈ Finset.range 2048, rd x0 i k * rd3 x1 0 j k) * rd3 x3 0 i j
    * (sg (rd3 x2 0 i j) + rd3 x2 0 i j * sg (rd3 x2 0 i j) * (1 - sg (rd3 x2 0 i j))) := by
  have e : rd (k0_pay7 x0 x1 x2 x3) i j = rd (k0_pay2 x0 x1) i j * rd (shapeCast S1088x704 x3 shapeCasts_S1x1088x704_S1088x704) i j
      * (rd (k0_pay4 x2) i j + rd (k0_pay5 x2) i j * (Ideal.ofBits .bf16 0x3F80#16 - rd (k0_pay4 x2) i j)) := rfl
  rw [e, Ideal.ofBits_one_bf16, da_at x0 x1 i j hi hj, sig_at x2 i j hi hj, silu_at x2 i j hi hj, rd_unslab (n := 1088) (m := 704) x3 _ i j hi hj]

/-- The up product's cotangent. -/
theorem du_at : rd (mulf (k0_pay2 x0 x1) (k0_pay5 x2)) i j = ((1 / 2 : ℝ) : EReal) * (∑ k ∈ Finset.range 2048, rd x0 i k * rd3 x1 0 j k)
    * (rd3 x2 0 i j * sg (rd3 x2 0 i j)) := by
  have e : rd (mulf (k0_pay2 x0 x1) (k0_pay5 x2)) i j = rd (k0_pay2 x0 x1) i j * rd (k0_pay5 x2) i j := rfl
  rw [e, da_at x0 x1 i j hi hj, silu_at x2 i j hi hj]

end Entries

/-! ## The blocks of the arguments -/

/-- The hidden values' cotangent at a row and a column of a slab. -/
def dhid (D : Vec Ideal S4352x2048 .bf16) (W : Vec Ideal S8x704x2048 .bf16) (q r j : ℕ) : EReal :=
  ((1 / 2 : ℝ) : EReal) * ∑ k ∈ Finset.range 2048, rd D r k * rd3 W q j k

/-- The gate's cotangent. -/
def dgate (D : Vec Ideal S4352x2048 .bf16) (W : Vec Ideal S8x704x2048 .bf16) (G U : Vec Ideal S8x4352x704 .bf16) : Vec Ideal S8x4352x704 .bf16 :=
  fun y => dhid D W (y 0).val (y 1).val (y 2).val * rd3 U (y 0).val (y 1).val (y 2).val
    * (sg (rd3 G (y 0).val (y 1).val (y 2).val) + rd3 G (y 0).val (y 1).val (y 2).val * sg (rd3 G (y 0).val (y 1).val (y 2).val) * (1 - sg (rd3 G (y 0).val (y 1).val (y 2).val)))

/-- The up product's cotangent. -/
def dup (D : Vec Ideal S4352x2048 .bf16) (W : Vec Ideal S8x704x2048 .bf16) (G : Vec Ideal S8x4352x704 .bf16) : Vec Ideal S8x4352x704 .bf16 :=
  fun y => dhid D W (y 0).val (y 1).val (y 2).val * (rd3 G (y 0).val (y 1).val (y 2).val * sg (rd3 G (y 0).val (y 1).val (y 2).val))

variable (m : (ℓ : Loc nD τ sig) → Buf (Elt Ideal) ℓ) (ρ : Dev nD → PrngReg) (c : Dev nD)

/-- The layer's cotangent, as launched. -/
abbrev arrD : Vec Ideal S4352x2048 .bf16 := m ((c : Thread nD τ).loc main_arg0)
/-- The down weight, as launched. -/
abbrev arrW : Vec Ideal S8x704x2048 .bf16 := m ((c : Thread nD τ).loc main_arg1)
/-- The gate, as launched. -/
abbrev arrG : Vec Ideal S8x4352x704 .bf16 := m ((c : Thread nD τ).loc main_arg2)
/-- The up product, as launched. -/
abbrev arrU : Vec Ideal S8x4352x704 .bf16 := m ((c : Thread nD τ).loc main_arg3)

/-- Point `4 q + b` is given slab `q` and row block `b`. -/
theorem idx_in : ∀ t : Fin grid0.N, (win0_0.index t 0 = 0 ∧ win0_0.index t 1 = 0)
    ∧ (win0_1.index t 0 = t.val / 4 ∧ win0_1.index t 1 = 0 ∧ win0_1.index t 2 = 0)
    ∧ (win0_2.index t 0 = t.val / 4 ∧ win0_2.index t 1 = t.val % 4 ∧ win0_2.index t 2 = 0)
    ∧ (win0_3.index t 0 = t.val / 4 ∧ win0_3.index t 1 = t.val % 4 ∧ win0_3.index t 2 = 0)
    ∧ (win0_4.index t 0 = t.val / 4 ∧ win0_4.index t 1 = t.val % 4 ∧ win0_4.index t 2 = 0)
    ∧ (win0_5.index t 0 = t.val / 4 ∧ win0_5.index t 1 = t.val % 4 ∧ win0_5.index t 2 = 0) := by decide +kernel

/-- It reads the rows of its row block. -/
theorem off_in : ∀ t : Fin grid0.N, k0_off1 (grid0.coords t) 0 = 1088 * (t.val % 4) ∧ k0_off1 (grid0.coords t) 1 = 0 := by decide +kernel

/-- The rows of the cotangent. -/
theorem blk0 (t : Fin cfg0.N) (r k : ℕ) (hr : r < 1088) (hk : k < 2048) :
    rd (part (grid0.coords t) (iblk m c 0 t)) r k = rd (arrD m c) (1088 * (t.val % 4) + r) k := by
  have e := (idx_in t).1
  have o := off_in t
  refine (rd_at (n := 1088) (m := 2048) _ r k hr hk).trans ?_
  refine eq_rd (n := 4352) (m := 2048) (arrD m c) (((cfg0.win 0).blk t).view.emb
    ((Rect.unit (s := S4352x2048) (k0_off1 (grid0.coords t)) S1088x2048.size (k0_off1_inb (grid0.coords t))).idx (ValueIdx.ix2 (⟨r, hr⟩ : Fin 1088) (⟨k, hk⟩ : Fin 2048)))) _ _ ?_ ?_
  · show win0_0.index t 0 * 4352 + 1 * (k0_off1 (grid0.coords t) 0 + 1 * r) = _
    omega
  · show win0_0.index t 1 * 2048 + 1 * (k0_off1 (grid0.coords t) 1 + 1 * k) = _
    omega

/-- The slab of the weight. -/
theorem blk1 (t : Fin cfg0.N) (r k : ℕ) (hr : r < 704) (hk : k < 2048) :
    rd3 (iblk m c 1 t : Vec Ideal S1x704x2048 .bf16) 0 r k = rd3 (arrW m c) (t.val / 4) r k := by
  have e := (idx_in t).2.1
  refine (rd3_at (p := 1) (n := 704) (m := 2048) _ 0 r k (by omega) hr hk).trans ?_
  refine eq_rd3 (p := 8) (n := 704) (m := 2048) (arrW m c) (((cfg0.win 1).blk t).view.emb (ValueIdx.ix3 (0 : Fin 1) (⟨r, hr⟩ : Fin 704) (⟨k, hk⟩ : Fin 2048))) _ _ _ ?_ ?_ ?_
  · show win0_1.index t 0 * 1 + 1 * 0 = _
    omega
  · show win0_1.index t 1 * 704 + 1 * r = _
    omega
  · show win0_1.index t 2 * 2048 + 1 * k = _
    omega

/-- The block of the gate. -/
theorem blk2 (t : Fin cfg0.N) (r k : ℕ) (hr : r < 1088) (hk : k < 704) :
    rd3 (iblk m c 2 t : Vec Ideal S1x1088x704 .bf16) 0 r k = rd3 (arrG m c) (t.val / 4) (1088 * (t.val % 4) + r) k := by
  have e := (idx_in t).2.2.1
  refine (rd3_at (p := 1) (n := 1088) (m := 704) _ 0 r k (by omega) hr hk).trans ?_
  refine eq_rd3 (p := 8) (n := 4352) (m := 704) (arrG m c) (((cfg0.win 2).blk t).view.emb (ValueIdx.ix3 (0 : Fin 1) (⟨r, hr⟩ : Fin 1088) (⟨k, hk⟩ : Fin 704))) _ _ _ ?_ ?_ ?_
  · show win0_2.index t 0 * 1 + 1 * 0 = _
    omega
  · show win0_2.index t 1 * 1088 + 1 * r = _
    omega
  · show win0_2.index t 2 * 704 + 1 * k = _
    omega

/-- The block of the up product. -/
theorem blk3 (t : Fin cfg0.N) (r k : ℕ) (hr : r < 1088) (hk : k < 704) :
    rd3 (iblk m c 3 t : Vec Ideal S1x1088x704 .bf16) 0 r k = rd3 (arrU m c) (t.val / 4) (1088 * (t.val % 4) + r) k := by
  have e := (idx_in t).2.2.2.1
  refine (rd3_at (p := 1) (n := 1088) (m := 704) _ 0 r k (by omega) hr hk).trans ?_
  refine eq_rd3 (p := 8) (n := 4352) (m := 704) (arrU m c) (((cfg0.win 3).blk t).view.emb (ValueIdx.ix3 (0 : Fin 1) (⟨r, hr⟩ : Fin 1088) (⟨k, hk⟩ : Fin 704))) _ _ _ ?_ ?_ ?_
  · show win0_3.index t 0 * 1 + 1 * 0 = _
    omega
  · show win0_3.index t 1 * 1088 + 1 * r = _
    omega
  · show win0_3.index t 2 * 704 + 1 * k = _
    omega

/-- A point's hidden values' cotangent. -/
theorem dhid_eq (t : Fin cfg0.N) (r j : ℕ) (hr : r < 1088) (hj : j < 704) :
    ((1 / 2 : ℝ) : EReal) * ∑ k ∈ Finset.range 2048, rd (part (grid0.coords t) (iblk m c 0 t)) r k * rd3 (iblk m c 1 t : Vec Ideal S1x704x2048 .bf16) 0 j k
      = dhid (arrD m c) (arrW m c) (t.val / 4) (1088 * (t.val % 4) + r) j := by
  refine congrArg (fun z : EReal => ((1 / 2 : ℝ) : EReal) * z) (Finset.sum_congr rfl fun k hk => ?_)
  have hk := Finset.mem_range.mp hk
  exact congrArg₂ (fun x y : EReal => x * y) (blk0 m c t r k hr hk) (blk1 m c t j k hj hk)

/-! ## The results -/

/-- What a point writes back of the gate's cotangent. -/
theorem flushed4 (t : Fin cfg0.N) : (dats m 0 c).flushed 4 t = ((cfg0.win 4).blk t).view.read (Elt Ideal) (dgate (arrD m c) (arrW m c) (arrG m c) (arrU m c)) := by
  rw [Value.flushed4_A m c t, out4_eq]
  obtain ⟨e0, e1, e2⟩ := (idx_in t).2.2.2.2.1
  funext y
  have y0 : (y 0).val < 1 := (y 0).isLt
  have y1 : (y 1).val < 1088 := (y 1).isLt
  have y2 : (y 2).val < 704 := (y 2).isLt
  refine (slab_at (n := 1088) (m := 704) (k0_pay7 (part (grid0.coords t) (iblk m c 0 t)) (iblk m c 1 t) (iblk m c 2 t) (iblk m c 3 t)) shapeCasts_S1088x704_S1x1088x704 y).trans ?_
  refine (dg_at _ _ _ _ _ _ y1 y2).trans ?_
  have f0 : (((cfg0.win 4).blk t).view.emb y 0).val = t.val / 4 := by
    show win0_4.index t 0 * 1 + 1 * (y 0).val = _
    omega
  have f1 : (((cfg0.win 4).blk t).view.emb y 1).val = 1088 * (t.val % 4) + (y 1).val := by
    show win0_4.index t 1 * 1088 + 1 * (y 1).val = _
    omega
  have f2 : (((cfg0.win 4).blk t).view.emb y 2).val = (y 2).val := by
    show win0_4.index t 2 * 704 + 1 * (y 2).val = _
    omega
  have g : rd3 (iblk m c 2 t : Vec Ideal S1x1088x704 .bf16) 0 (y 1).val (y 2).val = _ := blk2 m c t _ _ y1 y2
  show _ = dgate (arrD m c) (arrW m c) (arrG m c) (arrU m c) (((cfg0.win 4).blk t).view.emb y)
  unfold dgate
  rw [f0, f1, f2]
  refine congrArg₂ (fun x y : EReal => x * y) (congrArg₂ (fun x y : EReal => x * y) (dhid_eq m c t _ _ y1 y2) (blk3 m c t _ _ y1 y2)) ?_
  exact congrArg (fun g : EReal => sg g + g * sg g * (1 - sg g)) g

/-- Every entry of the gate's cotangent is in some point's block. -/
theorem cover4 (i : S8x4352x704.Idx) : ∃ t : Fin cfg0.N, (cfg0.win 4).flush t = true ∧ i ∈ ((cfg0.win 4).blk t).view.set := by
  have h0 : (i 0).val < 8 := (i 0).isLt
  have h1 : (i 1).val < 4352 := (i 1).isLt
  have h2 : (i 2).val < 704 := (i 2).isLt
  obtain ⟨t, ht⟩ : ∃ t : Fin cfg0.N, t.val = 4 * (i 0).val + (i 1).val / 1088 :=
    ⟨⟨4 * (i 0).val + (i 1).val / 1088, Nat.lt_of_lt_of_eq (show _ < 32 by omega) N_0.symm⟩, rfl⟩
  obtain ⟨e0, e1, e2⟩ := (idx_in t).2.2.2.2.1
  refine ⟨t, flush0_4 _, ?_⟩
  show i ∈ ((View.whole main_v0_0).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    omega
  | ⟨1, _⟩ =>
    show win0_4.index t 1 * 1088 ≤ (i 1).val ∧ (i 1).val < win0_4.index t 1 * 1088 + 1088
    omega
  | ⟨2, _⟩ =>
    show win0_4.index t 2 * 704 ≤ (i 2).val ∧ (i 2).val < win0_4.index t 2 * 704 + 704
    omega

/-- What a point writes back of the up product's cotangent. -/
theorem flushed5 (t : Fin cfg0.N) : (dats m 0 c).flushed 5 t = ((cfg0.win 5).blk t).view.read (Elt Ideal) (dup (arrD m c) (arrW m c) (arrG m c)) := by
  rw [Value.flushed5_A m c t, out5_eq]
  obtain ⟨e0, e1, e2⟩ := (idx_in t).2.2.2.2.2
  funext y
  have y0 : (y 0).val < 1 := (y 0).isLt
  have y1 : (y 1).val < 1088 := (y 1).isLt
  have y2 : (y 2).val < 704 := (y 2).isLt
  refine (slab_at (n := 1088) (m := 704) (mulf (k0_pay2 (part (grid0.coords t) (iblk m c 0 t)) (iblk m c 1 t)) (k0_pay5 (iblk m c 2 t))) shapeCasts_S1088x704_S1x1088x704 y).trans ?_
  refine (du_at _ _ _ _ _ y1 y2).trans ?_
  have f0 : (((cfg0.win 5).blk t).view.emb y 0).val = t.val / 4 := by
    show win0_5.index t 0 * 1 + 1 * (y 0).val = _
    omega
  have f1 : (((cfg0.win 5).blk t).view.emb y 1).val = 1088 * (t.val % 4) + (y 1).val := by
    show win0_5.index t 1 * 1088 + 1 * (y 1).val = _
    omega
  have f2 : (((cfg0.win 5).blk t).view.emb y 2).val = (y 2).val := by
    show win0_5.index t 2 * 704 + 1 * (y 2).val = _
    omega
  have g : rd3 (iblk m c 2 t : Vec Ideal S1x1088x704 .bf16) 0 (y 1).val (y 2).val = _ := blk2 m c t _ _ y1 y2
  show _ = dup (arrD m c) (arrW m c) (arrG m c) (((cfg0.win 5).blk t).view.emb y)
  unfold dup
  rw [f0, f1, f2]
  exact congrArg₂ (fun x y : EReal => x * y) (dhid_eq m c t _ _ y1 y2) (congrArg (fun g : EReal => g * sg g) g)

/-- Every entry of the up product's cotangent is in some point's block. -/
theorem cover5 (i : S8x4352x704.Idx) : ∃ t : Fin cfg0.N, (cfg0.win 5).flush t = true ∧ i ∈ ((cfg0.win 5).blk t).view.set := by
  have h0 : (i 0).val < 8 := (i 0).isLt
  have h1 : (i 1).val < 4352 := (i 1).isLt
  have h2 : (i 2).val < 704 := (i 2).isLt
  obtain ⟨t, ht⟩ : ∃ t : Fin cfg0.N, t.val = 4 * (i 0).val + (i 1).val / 1088 :=
    ⟨⟨4 * (i 0).val + (i 1).val / 1088, Nat.lt_of_lt_of_eq (show _ < 32 by omega) N_0.symm⟩, rfl⟩
  obtain ⟨e0, e1, e2⟩ := (idx_in t).2.2.2.2.2
  refine ⟨t, flush0_5 _, ?_⟩
  show i ∈ ((View.whole main_v0_1).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    omega
  | ⟨1, _⟩ =>
    show win0_5.index t 1 * 1088 ≤ (i 1).val ∧ (i 1).val < win0_5.index t 1 * 1088 + 1088
    omega
  | ⟨2, _⟩ =>
    show win0_5.index t 2 * 704 ≤ (i 2).val ∧ (i 2).val < win0_5.index t 2 * 704 + 704
    omega

/-- The kernel's run: the two cotangents, the arguments unchanged. -/
theorem run : θ_run defs (onTc (τ := τ) (main (F := Ideal))) ⟨m, fun _ => 0, ρ⟩ fun r => ∀ c : Dev nD,
      r.2.mem ((c : Thread nD τ).loc main_v0_0) = dgate (arrD m c) (arrW m c) (arrG m c) (arrU m c)
      ∧ r.2.mem ((c : Thread nD τ).loc main_v0_1) = dup (arrD m c) (arrW m c) (arrG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (dgate (arrD m c) (arrW m c) (arrG m c) (arrU m c)) (fun t _ => flushed4 m c t) cover4),
      (h c).2.1.trans ((dats m 0 c).arrAt_eq_of_cover 5 (dup (arrD m c) (arrW m c) (arrG m c)) (fun t _ => flushed5 m c t) cover5), (h c).2.2⟩)
    (Value.run_blocks m ρ)

end Cert.Kernel14Ideal.Unit

namespace Cert.Pre_finite14.Read

open Idealize.ShloMosaic Cert.Pre_finite14 Cert.Pre_finite14.Facts
open Cert.Finite (IsReal)

/-- The precondition: the cotangent, the weight and the up product have real entries. -/
theorem reals [Facts] (D : FVec Ideal S4352x2048 .bf16) (W : FVec Ideal S8x704x2048 .bf16) (G U : FVec Ideal S8x4352x704 .bf16)
    (h : Cert.Pre_finite14.fn (F := Ideal) D W G U = fun _ => 1#1) : (∀ i, IsReal (D i)) ∧ (∀ i, IsReal (W i)) ∧ ∀ i, IsReal (U i) := by
  have e := congrFun h (fun a => a.elim0)
  obtain ⟨e, e3⟩ := IntOp.andi_eq_one.1 e
  obtain ⟨e1, e2⟩ := IntOp.andi_eq_one.1 e
  exact ⟨Cert.Finite.of_all D bcast_S_S4352x2048 reducesTo_S4352x2048_S_d0_1 h_S_ _ e1,
    Cert.Finite.of_all W bcast_S_S8x704x2048 reducesTo_S8x704x2048_S_d0_1_2 h_S_ _ e2,
    Cert.Finite.of_all U bcast_S_S8x4352x704 reducesTo_S8x4352x704_S_d0_1_2 h_S_ _ e3⟩

end Cert.Pre_finite14.Read

namespace Cert.Reference14Ideal.Unit

open Idealize.ShloMosaic Idealize.ShloMosaic.TcCoe Idealize.SL.Sem Cert.Reference14Ideal Cert.Reference14Ideal.Gen Cert.Prods
open Cert.KernelIdeal.Conv (rd rd3 eq_rd eq_rd3 rd_at rd3_at)
open Cert.Cols (sg half_eq)
open Cert.Finite (IsReal)
open Cert.Kernel14Ideal.Unit (dhid dgate dup)

/-- The host's product of rows with rows. -/
theorem dot_at (A : FVec Ideal S4352x2048 .f32) (B : FVec Ideal S5632x2048 .f32) (r : Fin 4352) (q : Fin 5632) :
    Host.dotGeneral dot_S4352x2048_S5632x2048_S4352x5632_1_1_0_0_n_n none A B (ix2 r q) = ∑ l : Fin 2048, A (ix2 r l) * B (ix2 q l) := by
  simp only [pointwise, zero_add]

/-- The hidden values' cotangent. -/
def ct (D : FVec Ideal S4352x2048 .bf16) (W : FVec Ideal S8x704x2048 .bf16) : FVec Ideal S4352x5632 .f32 :=
  Host.dotGeneral dot_S4352x2048_S5632x2048_S4352x5632_1_1_0_0_n_n none (mulf (broadcastInDim S4352x2048 ![] bcast_S_S4352x2048 (constant S_ .f32 0x3F000000#32)) (extf .f32 D bitsLt_bf16_f32))
    (shapeCast S5632x2048 (extf .f32 W bitsLt_bf16_f32) shapeCasts_S8x704x2048_S5632x2048)

/-- It by row and column. -/
theorem ct_at (D : FVec Ideal S4352x2048 .bf16) (W : FVec Ideal S8x704x2048 .bf16) (q r j : ℕ) (hq : q < 8) (hr : r < 4352) (hj : j < 704) :
    rd (ct D W) r (q * 704 + j) = dhid D W q r j := by
  refine (rd_dot_nt (n := 4352) (m := 5632) (k := 2048) _ _ _ (dot_at _ _) _ _ hr (by omega)).trans ?_
  refine Eq.trans ?_ (half_sum _ 2048).symm
  refine Finset.sum_congr rfl fun l hl => ?_
  have hl := Finset.mem_range.mp hl
  have e : rd (mulf (broadcastInDim S4352x2048 ![] bcast_S_S4352x2048 (constant S_ .f32 0x3F000000#32)) (extf .f32 D bitsLt_bf16_f32) : FVec Ideal S4352x2048 .f32) r l
      = Ideal.ofBits .f32 0x3F000000#32 * rd D r l := rfl
  rw [e, half_eq]
  refine (congrArg (fun z : EReal => ((1 / 2 : ℝ) : EReal) * rd D r l * z) (rd_stack (p := 8) (n := 704) (m := 2048) (extf .f32 W bitsLt_bf16_f32) _ _ _ _ hq hj hl)).trans ?_
  exact mul_assoc _ _ _

/-- A saved product, its slabs side by side. -/
def cols (G : FVec Ideal S8x4352x704 .bf16) : FVec Ideal S4352x5632 .f32 :=
  shapeCast S4352x5632 (transpose S4352x8x704 [1, 0, 2] (extf .f32 G bitsLt_bf16_f32) transposes_S8x4352x704_S4352x8x704_1_0_2) shapeCasts_S4352x8x704_S4352x5632

/-- It by row and column. -/
theorem cols_at (G : FVec Ideal S8x4352x704 .bf16) (q r j : ℕ) (hq : q < 8) (hr : r < 4352) (hj : j < 704) : rd (cols G) r (q * 704 + j) = rd3 G q r j :=
  rd_beside (p := 8) (n := 4352) (w := 704) (extf .f32 G bitsLt_bf16_f32) _ _ r q j hr hq hj

/-- The logistic of a matrix. -/
def sig (G : FVec Ideal S4352x5632 .f32) : FVec Ideal S4352x5632 .f32 :=
  Host.divf (broadcastInDim S4352x5632 ![] bcast_S_S4352x5632 (constant S_ .f32 0x3F800000#32))
    (addf (broadcastInDim S4352x5632 ![] bcast_S_S4352x5632 (constant S_ .f32 0x3F800000#32)) (Host.exp (Host.negf G)))

/-- It by row and column. -/
theorem sig_at (G : FVec Ideal S4352x5632 .f32) (i j : ℕ) : rd (sig G) i j = sg (rd G i j) := by
  have e : rd (sig G) i j = Ideal.div (Ideal.ofBits .f32 0x3F800000#32) (Ideal.ofBits .f32 0x3F800000#32 + Ideal.exp (-(rd G i j))) := rfl
  rw [e, Ideal.ofBits_one_f32]
  rfl

/-- The hidden values' cotangent is real when the layer's cotangent and the weight are. -/
theorem real_dhid (D : FVec Ideal S4352x2048 .bf16) (W : FVec Ideal S8x704x2048 .bf16) (hD : ∀ i, IsReal (D i)) (hW : ∀ i, IsReal (W i)) (q r j : ℕ)
    (hq : q < 8) (hr : r < 4352) (hj : j < 704) : IsReal (dhid D W q r j) := by
  refine Cert.Finite.mul (Cert.Finite.coe _) (Cert.Finite.sum _ 2048 fun k hk => Cert.Finite.mul ?_ ?_)
  · rw [rd_at (n := 4352) (m := 2048) D r k hr hk]
    exact hD _
  · rw [rd3_at (p := 8) (n := 704) (m := 2048) W q j k hq hj hk]
    exact hW _

/-- The gate's cotangent, entry by entry. -/
theorem dgate_eq (D : FVec Ideal S4352x2048 .bf16) (W : FVec Ideal S8x704x2048 .bf16) (G U : FVec Ideal S8x4352x704 .bf16)
    (hD : ∀ i, IsReal (D i)) (hW : ∀ i, IsReal (W i)) (hU : ∀ i, IsReal (U i)) :
    (truncf .bf16 (transpose S8x4352x704 [1, 0, 2] (shapeCast S4352x8x704 (addf (mulf (mulf (ct D W) (cols U)) (sig (cols G)))
      (mulf (mulf (cols G) (mulf (ct D W) (cols U))) (mulf (sig (cols G)) (subf (broadcastInDim S4352x5632 ![] bcast_S_S4352x5632 (constant S_ .f32 0x3F800000#32)) (sig (cols G))))))
      shapeCasts_S4352x5632_S4352x8x704) transposes_S4352x8x704_S8x4352x704_1_0_2) bitsLt_bf16_f32 : FVec Ideal S8x4352x704 .bf16) = dgate D W G U := by
  funext y
  have y0 : (y 0).val < 8 := (y 0).isLt
  have y1 : (y 1).val < 4352 := (y 1).isLt
  have y2 : (y 2).val < 704 := (y 2).isLt
  refine (eq_rd3 (p := 8) (n := 4352) (m := 704) _ y _ _ _ rfl rfl rfl).trans ?_
  refine (rd3_trunc (p := 8) (n := 4352) (m := 704) _ _ _ _ _).trans ?_
  refine (rd3_cut (p := 8) (n := 4352) (w := 704) _ _ _ _ _ _ y0 y1 y2).trans ?_
  have e : ∀ A B C : FVec Ideal S4352x5632 .f32, ∀ i j, rd (addf (mulf (mulf A B) (sig C))
      (mulf (mulf C (mulf A B)) (mulf (sig C) (subf (broadcastInDim S4352x5632 ![] bcast_S_S4352x5632 (constant S_ .f32 0x3F800000#32)) (sig C)))) : FVec Ideal S4352x5632 .f32) i j
      = rd A i j * rd B i j * rd (sig C) i j + rd C i j * (rd A i j * rd B i j) * (rd (sig C) i j * (Ideal.ofBits .f32 0x3F800000#32 - rd (sig C) i j)) := fun _ _ _ _ _ => rfl
  refine (e _ _ _ _ _).trans ?_
  rw [sig_at, Ideal.ofBits_one_f32, ct_at D W _ _ _ y0 y1 y2, cols_at G _ _ _ y0 y1 y2, cols_at U _ _ _ y0 y1 y2]
  refine Cert.Finite.gate_split (Cert.Finite.mul (real_dhid D W hD hW _ _ _ y0 y1 y2) ?_) _
  rw [rd3_at (p := 8) (n := 4352) (m := 704) U _ _ _ y0 y1 y2]
  exact hU _

/-- The up product's cotangent, entry by entry. -/
theorem dup_eq (D : FVec Ideal S4352x2048 .bf16) (W : FVec Ideal S8x704x2048 .bf16) (G : FVec Ideal S8x4352x704 .bf16) :
    (truncf .bf16 (transpose S8x4352x704 [1, 0, 2] (shapeCast S4352x8x704 (mulf (mulf (cols G) (sig (cols G))) (ct D W))
      shapeCasts_S4352x5632_S4352x8x704) transposes_S4352x8x704_S8x4352x704_1_0_2) bitsLt_bf16_f32 : FVec Ideal S8x4352x704 .bf16) = dup D W G := by
  funext y
  have y0 : (y 0).val < 8 := (y 0).isLt
  have y1 : (y 1).val < 4352 := (y 1).isLt
  have y2 : (y 2).val < 704 := (y 2).isLt
  refine (eq_rd3 (p := 8) (n := 4352) (m := 704) _ y _ _ _ rfl rfl rfl).trans ?_
  refine (rd3_trunc (p := 8) (n := 4352) (m := 704) _ _ _ _ _).trans ?_
  refine (rd3_cut (p := 8) (n := 4352) (w := 704) _ _ _ _ _ _ y0 y1 y2).trans ?_
  have e : ∀ A C : FVec Ideal S4352x5632 .f32, ∀ i j, rd (mulf (mulf C (sig C)) A : FVec Ideal S4352x5632 .f32) i j = rd C i j * rd (sig C) i j * rd A i j := fun _ _ _ _ => rfl
  refine (e _ _ _ _).trans ?_
  rw [sig_at, ct_at D W _ _ _ y0 y1 y2, cols_at G _ _ _ y0 y1 y2]
  exact mul_comm _ _

end Cert.Reference14Ideal.Unit

namespace Cert.Proof

open Idealize.ShloMosaic Idealize.ShloMosaic.TcCoe Idealize.SL.Sem

/-- The kernel computes the gated unit's cotangents, when the layer's cotangent, the weight and the up product are finite. -/
theorem algebraic14 [Cert.Pre_finite14.Facts] : Cert.algebraic_Kernel14Ideal_Reference14Ideal_pre_finite14 := fun m g m' g' p h =>
  ⟨_, _, Cert.Kernel14Ideal.Unit.run m g, (θ_run Cert.Reference14Ideal.defs _ _).mono (fun r k c => by
    obtain ⟨h0, h1, h2, h3⟩ := h c
    obtain ⟨k0, k1, k⟩ := k c
    obtain ⟨hD, hW, hU⟩ := Cert.Pre_finite14.Read.reals _ _ _ _ (p c)
    refine ⟨k0.trans ?_, k1.trans ?_, k⟩
    · rw [h0, h1, h2, h3]
      exact Cert.Reference14Ideal.Unit.dgate_eq _ _ _ _ hD hW hU
    · rw [h0, h1, h2]
      exact Cert.Reference14Ideal.Unit.dup_eq _ _ _) (Cert.Reference14Ideal.Value.run m' g')⟩

end Cert.Proof

end
-- ==== Proof.DownNorm.lean ====
/-
  The first feed-forward block's down product, added by half to the residual, and its normalisation: in blocks of 272 rows.
-/
module

public import proofs.«01_k».proof.Proof.Prods
public import proofs.«01_k».proof.Proof.GradDown2
public import proofs.«01_k».proof.Proof.Gen.Kernel15Ideal.Value
public import proofs.«01_k».proof.Proof.Gen.Kernel15Ideal.Loops
public import proofs.«01_k».proof.Proof.Gen.Reference15Ideal.Run
public import proofs.«01_k».proof.Defs
public import Idealize.ShloMosaic.Lib.Pipeline.Value
public import Idealize.ShloMosaic.Lib.Claim

@[expose] public section

noncomputable section

namespace Cert.Kernel15Ideal.Norm

open Idealize.ShloMosaic Idealize.ShloMosaic.TcCoe Idealize.ShloMosaic.Tactic Idealize.SL.Sem Cert.Kernel15Ideal Cert.Kernel15Ideal.Gen Cert.Prods
open Cert.KernelIdeal.Conv (rd rd3 eq_rd eq_rd3 rd_at rd3_at)
open Cert.Cols (sg sig_eq)
open Cert.Kernel3Ideal.Sum (hid half16)
open Idealize.ShloMosaic.Pipeline (Dat)

/-! ## A row's values -/

/-- The residual plus half the product. -/
def res (h a : EReal) : EReal := h + Ideal.ofBits .f32 0x3F000000#32 * a

/-- The reciprocal root of a row's mean square, from the sum of its squares. -/
def inv (s : EReal) : EReal := Ideal.rsqrt (Ideal.div s (Ideal.ofBits .f32 0x45000000#32) + Ideal.ofBits .f32 0x358637BD#32)

section Rows
variable {n : ℕ} [NeZero n]

/-- A row's sum of squares, -/
def sqs (H A : (⟨2, ![n, 2048]⟩ : Shape).Idx → EReal) (r : ℕ) : EReal := ∑ j ∈ Finset.range 2048, res (rd H r j) (rd A r j) * res (rd H r j) (rd A r j)
/-- the residual rows, -/
def resM (H A : (⟨2, ![n, 2048]⟩ : Shape).Idx → EReal) : (⟨2, ![n, 2048]⟩ : Shape).Idx → EReal := fun y => res (H y) (A y)
/-- their reciprocal roots, -/
def invM (H A : (⟨2, ![n, 2048]⟩ : Shape).Idx → EReal) : (⟨2, ![n, 1]⟩ : Shape).Idx → EReal := fun y => inv (sqs H A (y 0).val)
/-- and the normalised rows. -/
def normM (H A : (⟨2, ![n, 2048]⟩ : Shape).Idx → EReal) (N : (⟨2, ![1, 2048]⟩ : Shape).Idx → EReal) : (⟨2, ![n, 2048]⟩ : Shape).Idx → EReal :=
  fun y => res (H y) (A y) * inv (sqs H A (y 0).val) * rd N 0 (y 1).val

/-- A residual row's entry, -/
theorem resM_at (H A : (⟨2, ![n, 2048]⟩ : Shape).Idx → EReal) (y : (⟨2, ![n, 2048]⟩ : Shape).Idx) : resM H A y = res (rd H (y 0).val (y 1).val) (rd A (y 0).val (y 1).val) :=
  congrArg₂ res (eq_rd _ _ _ _ rfl rfl) (eq_rd _ _ _ _ rfl rfl)
/-- and a normalised row's. -/
theorem normM_at (H A : (⟨2, ![n, 2048]⟩ : Shape).Idx → EReal) (N : (⟨2, ![1, 2048]⟩ : Shape).Idx → EReal) (y : (⟨2, ![n, 2048]⟩ : Shape).Idx) :
    normM H A N y = res (rd H (y 0).val (y 1).val) (rd A (y 0).val (y 1).val) * inv (sqs H A (y 0).val) * rd N 0 (y 1).val :=
  congrArg (fun z : EReal => z * _ * _) (resM_at H A y)

/-- Eight slabs of hidden values times the weight. -/
def prodM (G U : (⟨3, ![8, n, 704]⟩ : Shape).Idx → EReal) (W : (⟨3, ![8, 704, 2048]⟩ : Shape).Idx → EReal) : (⟨2, ![n, 2048]⟩ : Shape).Idx → EReal :=
  fun y => ∑ q ∈ Finset.range 8, ∑ l ∈ Finset.range 704, hid (rd3 G q (y 0).val l) (rd3 U q (y 0).val l) * rd3 W q l (y 1).val
end Rows

/-- Matrices that agree by row and column are equal. -/
theorem ext2 {n m : ℕ} {f g : (⟨2, ![n, m]⟩ : Shape).Idx → EReal} (h : ∀ (r : Fin n) (q : Fin m), f (ix2 r q) = g (ix2 r q)) : f = g :=
  funext fun y => by rw [eq_ix2 y]; exact h _ _

/-- Sixteen rows' residuals, -/
theorem pay2_eq (a b : Vec Ideal S16x2048 .f32) : k0_pay2 a b = resM (n := 16) a b := rfl

/-- their reciprocal roots, -/
theorem pay3_eq (a b : Vec Ideal S16x2048 .f32) : k0_pay3 a b = invM (n := 16) a b := by
  refine ext2 fun r z => ?_
  unfold k0_pay3 k0_pay2
  simp only [pointwise]
  exact congrArg inv (sum_fin 2048 _ _ fun l => congrArg₂ (fun x y : EReal => res x y * res x y)
    (eq_rd (n := 16) (m := 2048) a _ _ _ rfl rfl) (eq_rd (n := 16) (m := 2048) b _ _ _ rfl rfl))

/-- and their normalised values. -/
theorem pay4_eq (a b : Vec Ideal S16x2048 .f32) (g : Vec Ideal S1x2048 .f32) : k0_pay4 a b g = normM (n := 16) a b g := by
  refine ext2 fun r q => ?_
  unfold k0_pay4
  rw [pay3_eq]
  simp only [pointwise, show ¬(16 : ℕ) = 1 by decide, show ¬(2048 : ℕ) = 1 by decide, dif_pos, dif_neg, not_false_eq_true]
  exact congrArg (fun z : EReal => _ * z) (eq_rd (n := 1) (m := 2048) g _ _ _ rfl rfl)

/-! ## The product -/

section Products
variable (x0 x1 : Vec Ideal S8x272x704 .bf16) (x2 : Vec Ideal S8x704x2048 .bf16)

/-- One slab's products of hidden values. -/
def slab (g u : Vec Ideal S1x272x704 .bf16) (w : Vec Ideal S1x704x2048 .bf16) (r : Fin 272) (q : Fin 2048) : EReal :=
  ∑ l : Fin 704, g (ix3 (0 : Fin 1) r l) * (Ideal.ofBits .bf16 0x3F00#16 * Ideal.tanh (Ideal.ofBits .bf16 0x3F00#16 * g (ix3 (0 : Fin 1) r l)) + Ideal.ofBits .bf16 0x3F00#16)
    * u (ix3 (0 : Fin 1) r l) * w (ix3 (0 : Fin 1) l q)

/-- The slab `o` of a gate or an up product, -/
def gs (x : Vec Ideal S8x272x704 .bf16) (o : ℕ) (ho : o < 8) : Vec Ideal S1x272x704 .bf16 :=
  View.ld (Val := Elt Ideal) (e' := .bf16) x (Rect.unit (s := S8x272x704) ![o, 0, 0] S1x272x704.size fun a => by
    match a with
    | ⟨0, _⟩ => show o + 1 ≤ 8; omega
    | ⟨1, _⟩ => show 0 + 272 ≤ 272; omega
    | ⟨2, _⟩ => show 0 + 704 ≤ 704; omega)
/-- and of a weight. -/
def ws (x : Vec Ideal S8x704x2048 .bf16) (o : ℕ) (ho : o < 8) : Vec Ideal S1x704x2048 .bf16 :=
  View.ld (Val := Elt Ideal) (e' := .bf16) x (Rect.unit (s := S8x704x2048) ![o, 0, 0] S1x704x2048.size fun a => by
    match a with
    | ⟨0, _⟩ => show o + 1 ≤ 8; omega
    | ⟨1, _⟩ => show 0 + 704 ≤ 704; omega
    | ⟨2, _⟩ => show 0 + 2048 ≤ 2048; omega)

/-- A slab's products by row and column. -/
theorem slab_eq (o : ℕ) (ho : o < 8) (r : Fin 272) (q : Fin 2048) :
    slab (gs x0 o ho) (gs x1 o ho) (ws x2 o ho) r q = ∑ l ∈ Finset.range 704, hid (rd3 x0 o r.val l) (rd3 x1 o r.val l) * rd3 x2 o l q.val := by
  have e : ∀ (x : Vec Ideal S8x272x704 .bf16) (l : Fin 704), gs x o ho (ix3 (0 : Fin 1) r l) = rd3 x o r.val l.val := fun x l =>
    eq_rd3 (p := 8) (n := 272) (m := 704) x _ _ _ _ (by show o + 1 * 0 = o; omega) (by show 0 + 1 * r.val = _; omega) (by show 0 + 1 * l.val = _; omega)
  refine sum_fin 704 _ _ fun l => ?_
  rw [e, e, half16]
  refine congrArg₂ (fun x y : EReal => x * y) (congrArg (fun z : EReal => _ * z * _) (sig_eq _)) ?_
  exact eq_rd3 (p := 8) (n := 704) (m := 2048) x2 _ _ _ _ (by show o + 1 * 0 = o; omega) (by show 0 + 1 * l.val = _; omega) (by show 0 + 1 * q.val = _; omega)

/-- The body's sum of eight products. -/
theorem pay_at (g0 u0 g1 u1 g2 u2 g3 u3 g4 u4 g5 u5 g6 u6 g7 u7 : Vec Ideal S1x272x704 .bf16) (w0 w1 w2 w3 w4 w5 w6 w7 : Vec Ideal S1x704x2048 .bf16) (r : Fin 272) (q : Fin 2048) :
    (k0_pay8 (F := Ideal) (k0_pay7 (F := Ideal) (k0_pay6 (F := Ideal) (k0_pay5 (F := Ideal) g0 u0 w0 g1 u1 w1) g2 u2 w2 g3 u3 w3) g4 u4 w4 g5 u5 w5) g6 u6 w6 g7 u7 w7) (ix2 r q)
      = slab g0 u0 w0 r q + slab g1 u1 w1 r q + slab g2 u2 w2 r q + slab g3 u3 w3 r q + slab g4 u4 w4 r q + slab g5 u5 w5 r q + slab g6 u6 w6 r q + slab g7 u7 w7 r q := by
  unfold k0_pay8 k0_pay7 k0_pay6 k0_pay5 slab
  simp only [pointwise, zero_add]

/-- The rows' product with the weight, slab by slab. -/
theorem acc_eq : k0_pay1 (F := Ideal) (k0_pay8 (F := Ideal) (k0_pay7 (F := Ideal) (k0_pay6 (F := Ideal) (k0_pay5 (F := Ideal) (gs x0 0 (by omega)) (gs x1 0 (by omega)) (ws x2 0 (by omega)) (gs x0 1 (by omega)) (gs x1 1 (by omega)) (ws x2 1 (by omega))) (gs x0 2 (by omega)) (gs x1 2 (by omega)) (ws x2 2 (by omega)) (gs x0 3 (by omega)) (gs x1 3 (by omega)) (ws x2 3 (by omega))) (gs x0 4 (by omega)) (gs x1 4 (by omega)) (ws x2 4 (by omega)) (gs x0 5 (by omega)) (gs x1 5 (by omega)) (ws x2 5 (by omega))) (gs x0 6 (by omega)) (gs x1 6 (by omega)) (ws x2 6 (by omega)) (gs x0 7 (by omega)) (gs x1 7 (by omega)) (ws x2 7 (by omega))) = prodM (n := 272) x0 x1 x2 := by
  refine ext2 fun r q => ?_
  rw [show ∀ v : Vec Ideal S272x2048 .f32, k0_pay1 (F := Ideal) v = v from fun v => by unfold k0_pay1; exact shapeCast_self _ _]
  refine (pay_at _ _ _ _ _ _ _ _ _ _ _ _ _ _ _ _ _ _ _ _ _ _ _ _ _ _).trans ?_
  simp only [slab_eq]
  unfold prodM
  simp only [Finset.sum_range_succ _ 7, Finset.sum_range_succ _ 6, Finset.sum_range_succ _ 5, Finset.sum_range_succ _ 4, Finset.sum_range_succ _ 3,
    Finset.sum_range_succ _ 2, Finset.sum_range_succ _ 1, Finset.sum_range_succ _ 0, Finset.sum_range_zero, zero_add]
  rfl

end Products

/-! ## A trip's pieces -/

/-- Trip `k` is at rows `16 k …`. -/
theorem off_at : ∀ k : Fin k0_t1_loop.trips, k0_off1 k 0 = 16 * k.val ∧ k0_off1 k 1 = 0 ∧ k0_off2 k 0 = 16 * k.val ∧ k0_off2 k 1 = 0 := by decide +kernel

section Trip
variable (c : Dev nD) (i : grid0.Coords) (a1 : Memref sig .tc .vmem S8x272x704 .bf16) (h1 : a1.IsWhole)
  (a2 : Memref sig .tc .vmem S8x272x704 .bf16) (h2 : a2.IsWhole)
  (a3 : Memref sig .tc .vmem S8x704x2048 .bf16) (h3 : a3.IsWhole)
  (a4 : Memref sig .tc .vmem S272x2048 .f32) (h4 : a4.IsWhole)
  (a5 : Memref sig .tc .vmem S1x2048 .f32) (h5 : a5.IsWhole)
  (a6 : Memref sig .tc .vmem S272x2048 .f32) (h6 : a6.IsWhole)
  (a7 : Memref sig .tc .vmem S272x2048 .bf16) (h7 : a7.IsWhole)
  (a8 : Memref sig .tc .vmem S272x1 .f32) (h8 : a8.IsWhole)
  (a9 : Memref sig .tc .vmem S272x2048 .f32) (h9 : a9.IsWhole)
  (X4 : BufTy.Contents (Elt Ideal) a4.view.ty) (X5 : BufTy.Contents (Elt Ideal) a5.view.ty) (X9 : BufTy.Contents (Elt Ideal) a9.view.ty)

/-- The rows of a trip, -/
abbrev rw1 (k : Fin k0_t1_loop.trips) : Rect S272x2048 := Rect.unit (s := S272x2048) (k0_off1 k) S16x2048.size (k0_off1_inb k)
/-- and of its reciprocal roots. -/
abbrev rw2 (k : Fin k0_t1_loop.trips) : Rect S272x1 := Rect.unit (s := S272x1) (k0_off2 k) S16x1.size (k0_off2_inb k)

/-- A trip's rows of a block. -/
theorem ld_row (H : Vec Ideal S272x2048 .f32) (k : Fin k0_t1_loop.trips) (r j : ℕ) (hr : r < 16) (hj : j < 2048) :
    rd (View.ld (Val := Elt Ideal) (e' := .f32) H (rw1 k) : Vec Ideal S16x2048 .f32) r j = rd H (16 * k.val + r) j := by
  obtain ⟨e0, e1, -⟩ := off_at k
  refine (rd_at (n := 16) (m := 2048) _ r j hr hj).trans (eq_rd (n := 272) (m := 2048) H _ _ _ ?_ ?_)
  · show k0_off1 k 0 + 1 * r = _
    omega
  · show k0_off1 k 1 + 1 * j = _
    omega

/-- The residual rows a trip stores, -/
theorem trip_fst (k : Fin k0_t1_loop.trips) :
    (trip_k0_t1 (F := Ideal) Variants.none c none i a1 h1 a2 h2 a3 h3 a4 h4 a5 h5 a6 h6 a7 h7 a8 h8 a9 h9 X4 X5 X9 k).1
      = [⟨rw1 k, k0_pay2 (View.ld (Val := Elt Ideal) (a4.view.read (Elt Ideal) X4) (rw1 k)) (View.ld (Val := Elt Ideal) (a9.view.read (Elt Ideal) X9) (rw1 k))⟩] := by
  unfold trip_k0_t1
  dsimp only
  sl_unfold_words
  simp only [View.readAt_eq_ld]
  rfl

/-- the normalised rows, -/
theorem trip_snd (k : Fin k0_t1_loop.trips) :
    (trip_k0_t1 (F := Ideal) Variants.none c none i a1 h1 a2 h2 a3 h3 a4 h4 a5 h5 a6 h6 a7 h7 a8 h8 a9 h9 X4 X5 X9 k).2.1
      = [⟨rw1 k, k0_pay4 (View.ld (Val := Elt Ideal) (a4.view.read (Elt Ideal) X4) (rw1 k)) (View.ld (Val := Elt Ideal) (a9.view.read (Elt Ideal) X9) (rw1 k)) (a5.view.read (Elt Ideal) X5)⟩] := by
  unfold trip_k0_t1
  dsimp only
  sl_unfold_words
  simp only [View.readAt_eq_ld, View.ld_unit_zero (S := S1x2048) hz]
  rfl

/-- and the reciprocal roots. -/
theorem trip_thd (k : Fin k0_t1_loop.trips) :
    (trip_k0_t1 (F := Ideal) Variants.none c none i a1 h1 a2 h2 a3 h3 a4 h4 a5 h5 a6 h6 a7 h7 a8 h8 a9 h9 X4 X5 X9 k).2.2.1
      = [⟨rw2 k, k0_pay3 (View.ld (Val := Elt Ideal) (a4.view.read (Elt Ideal) X4) (rw1 k)) (View.ld (Val := Elt Ideal) (a9.view.read (Elt Ideal) X9) (rw1 k))⟩] := by
  unfold trip_k0_t1
  dsimp only
  sl_unfold_words
  simp only [View.readAt_eq_ld]
  rfl

/-- The roots of a trip's rows are the block's roots. -/
theorem inv_row (H A : Vec Ideal S272x2048 .f32) (k : Fin k0_t1_loop.trips) (r : ℕ) (hr : r < 16) :
    sqs (n := 16) (View.ld (Val := Elt Ideal) (e' := .f32) H (rw1 k)) (View.ld (Val := Elt Ideal) (e' := .f32) A (rw1 k)) r = sqs (n := 272) H A (16 * k.val + r) :=
  Finset.sum_congr rfl fun j hj => by rw [ld_row H k r j hr (Finset.mem_range.mp hj), ld_row A k r j hr (Finset.mem_range.mp hj)]

/-- What one piece and the others satisfy, all do. -/
theorem mem_one {α : Type} {L L' : List α} {q : α} {P : α → Prop} (h : L = [q]) (hq : P q) (ih : ∀ p ∈ L', P p) : ∀ p ∈ L ++ L', P p := by
  subst h
  exact List.forall_mem_cons.mpr ⟨hq, ih⟩

/-- Every piece stored before trip `n` is part of the block's rows. -/
theorem pieces : ∀ n : ℕ, n ≤ k0_t1_loop.trips →
    (∀ p ∈ (pb_k0_t1 (F := Ideal) Variants.none c none i a1 h1 a2 h2 a3 h3 a4 h4 a5 h5 a6 h6 a7 h7 a8 h8 a9 h9 X4 X5 X9 n).1, ∀ x, p.2 x = resM (n := 272) (a4.view.read (Elt Ideal) X4) (a9.view.read (Elt Ideal) X9) (p.1.emb x))
    ∧ (∀ p ∈ (pb_k0_t1 (F := Ideal) Variants.none c none i a1 h1 a2 h2 a3 h3 a4 h4 a5 h5 a6 h6 a7 h7 a8 h8 a9 h9 X4 X5 X9 n).2.1, ∀ x, p.2 x = normM (n := 272) (a4.view.read (Elt Ideal) X4) (a9.view.read (Elt Ideal) X9) (a5.view.read (Elt Ideal) X5) (p.1.emb x))
    ∧ (∀ p ∈ (pb_k0_t1 (F := Ideal) Variants.none c none i a1 h1 a2 h2 a3 h3 a4 h4 a5 h5 a6 h6 a7 h7 a8 h8 a9 h9 X4 X5 X9 n).2.2, ∀ x, p.2 x = invM (n := 272) (a4.view.read (Elt Ideal) X4) (a9.view.read (Elt Ideal) X9) (p.1.emb x)) := by
  intro n
  induction n with
  | zero => exact fun _ => ⟨fun p hp => absurd hp List.not_mem_nil, fun p hp => absurd hp List.not_mem_nil, fun p hp => absurd hp List.not_mem_nil⟩
  | succ n ih =>
    intro hn
    obtain ⟨i1, i2, i3⟩ := ih (Nat.le_of_succ_le hn)
    obtain ⟨e0, e1, e2, -⟩ : k0_off1 ⟨n, hn⟩ 0 = 16 * n ∧ k0_off1 ⟨n, hn⟩ 1 = 0 ∧ k0_off2 ⟨n, hn⟩ 0 = 16 * n ∧ k0_off2 ⟨n, hn⟩ 1 = 0 := off_at ⟨n, hn⟩
    rw [pb_k0_t1_succ (F := Ideal) Variants.none c none i a1 h1 a2 h2 a3 h3 a4 h4 a5 h5 a6 h6 a7 h7 a8 h8 a9 h9 X4 X5 X9 ⟨n, hn⟩]
    refine ⟨mem_one (trip_fst c i a1 h1 a2 h2 a3 h3 a4 h4 a5 h5 a6 h6 a7 h7 a8 h8 a9 h9 X4 X5 X9 ⟨n, hn⟩) (fun x => ?_) i1, mem_one (trip_snd c i a1 h1 a2 h2 a3 h3 a4 h4 a5 h5 a6 h6 a7 h7 a8 h8 a9 h9 X4 X5 X9 ⟨n, hn⟩) (fun x => ?_) i2, mem_one (trip_thd c i a1 h1 a2 h2 a3 h3 a4 h4 a5 h5 a6 h6 a7 h7 a8 h8 a9 h9 X4 X5 X9 ⟨n, hn⟩) (fun x => ?_) i3⟩
    · rfl
    · have x0 : (x 0).val < 16 := (x 0).isLt
      refine (congrFun (pay4_eq _ _ _) x).trans ?_
      have f0 : ((rw1 ⟨n, hn⟩).emb x 0).val = 16 * n + (x 0).val := by
        show k0_off1 ⟨n, hn⟩ 0 + 1 * (x 0).val = _
        omega
      have f1 : ((rw1 ⟨n, hn⟩).emb x 1).val = (x 1).val := by
        show k0_off1 ⟨n, hn⟩ 1 + 1 * (x 1).val = _
        omega
      refine congrArg₂ (fun u v : EReal => u * v) (congrArg₂ (fun u v : EReal => u * v) rfl (congrArg inv ?_)) (congrArg (rd _ 0) f1.symm)
      rw [f0]
      exact inv_row _ _ _ _ x0
    · have x0 : (x 0).val < 16 := (x 0).isLt
      refine (congrFun (pay3_eq _ _) x).trans (congrArg inv ?_)
      have f0 : ((rw2 ⟨n, hn⟩).emb x 0).val = 16 * n + (x 0).val := by
        show k0_off2 ⟨n, hn⟩ 0 + 1 * (x 0).val = _
        omega
      rw [f0]
      exact inv_row _ _ _ _ x0

/-! ## What a point leaves -/

variable (x0 x1 : Vec Ideal S8x272x704 .bf16) (x2 : Vec Ideal S8x704x2048 .bf16) (x3 : Vec Ideal S272x2048 .f32) (x4 : Vec Ideal S1x2048 .f32)

/-- The residual rows, -/
theorem out5_eq : out0_A_5 c i a1 h1 a2 h2 a3 h3 a4 h4 a5 h5 a6 h6 a7 h7 a8 h8 a9 h9 x0 x1 x2 x3 x4 = resM (n := 272) x3 (prodM (n := 272) x0 x1 x2) := by
  unfold out0_A_5
  rw [View.read_writes_eq_canon _ _ _ (cover0_A_5 c i a1 h1 a2 h2 a3 h3 a4 h4 a5 h5 a6 h6 a7 h7 a8 h8 a9 h9 x0 x1 x2 x3 x4)]
  funext y
  refine View.canon_apply_of_pieces (resM (n := 272) x3 (prodM (n := 272) x0 x1 x2)) _ ?_ y (cover0_A_5 c i a1 h1 a2 h2 a3 h3 a4 h4 a5 h5 a6 h6 a7 h7 a8 h8 a9 h9 x0 x1 x2 x3 x4 y)
  unfold kernelRun0_A
  dsimp only
  sl_unfold_words
  intro p hp x
  refine ((pieces c i a1 h1 a2 h2 a3 h3 a4 h4 a5 h5 a6 h6 a7 h7 a8 h8 a9 h9 _ _ _ _ le_rfl).1 p hp x).trans ?_
  rw [h4.read_unread, View.read_writes_junk_eq_canon, View.canon_unit_zero (S := S272x2048) hz]
  simp only [View.readAt_eq_ld, h1.read_unread, h2.read_unread, h3.read_unread, h5.read_unread]
  exact congrArg (fun A => resM (n := 272) x3 A (p.1.emb x)) (acc_eq x0 x1 x2)

/-- the normalised rows, -/
theorem out6_eq : out0_A_6 c i a1 h1 a2 h2 a3 h3 a4 h4 a5 h5 a6 h6 a7 h7 a8 h8 a9 h9 x0 x1 x2 x3 x4 = normM (n := 272) x3 (prodM (n := 272) x0 x1 x2) x4 := by
  unfold out0_A_6
  rw [View.read_writes_eq_canon _ _ _ (cover0_A_6 c i a1 h1 a2 h2 a3 h3 a4 h4 a5 h5 a6 h6 a7 h7 a8 h8 a9 h9 x0 x1 x2 x3 x4)]
  funext y
  refine View.canon_apply_of_pieces (normM (n := 272) x3 (prodM (n := 272) x0 x1 x2) x4) _ ?_ y (cover0_A_6 c i a1 h1 a2 h2 a3 h3 a4 h4 a5 h5 a6 h6 a7 h7 a8 h8 a9 h9 x0 x1 x2 x3 x4 y)
  unfold kernelRun0_A
  dsimp only
  sl_unfold_words
  intro p hp x
  refine ((pieces c i a1 h1 a2 h2 a3 h3 a4 h4 a5 h5 a6 h6 a7 h7 a8 h8 a9 h9 _ _ _ _ le_rfl).2.1 p hp x).trans ?_
  rw [h4.read_unread, View.read_writes_junk_eq_canon, View.canon_unit_zero (S := S272x2048) hz]
  simp only [View.readAt_eq_ld, h1.read_unread, h2.read_unread, h3.read_unread, h5.read_unread]
  exact congrArg (fun A => normM (n := 272) x3 A x4 (p.1.emb x)) (acc_eq x0 x1 x2)

/-- and their reciprocal roots. -/
theorem out7_eq : out0_A_7 c i a1 h1 a2 h2 a3 h3 a4 h4 a5 h5 a6 h6 a7 h7 a8 h8 a9 h9 x0 x1 x2 x3 x4 = invM (n := 272) x3 (prodM (n := 272) x0 x1 x2) := by
  unfold out0_A_7
  rw [View.read_writes_eq_canon _ _ _ (cover0_A_7 c i a1 h1 a2 h2 a3 h3 a4 h4 a5 h5 a6 h6 a7 h7 a8 h8 a9 h9 x0 x1 x2 x3 x4)]
  funext y
  refine View.canon_apply_of_pieces (invM (n := 272) x3 (prodM (n := 272) x0 x1 x2)) _ ?_ y (cover0_A_7 c i a1 h1 a2 h2 a3 h3 a4 h4 a5 h5 a6 h6 a7 h7 a8 h8 a9 h9 x0 x1 x2 x3 x4 y)
  unfold kernelRun0_A
  dsimp only
  sl_unfold_words
  intro p hp x
  refine ((pieces c i a1 h1 a2 h2 a3 h3 a4 h4 a5 h5 a6 h6 a7 h7 a8 h8 a9 h9 _ _ _ _ le_rfl).2.2 p hp x).trans ?_
  rw [h4.read_unread, View.read_writes_junk_eq_canon, View.canon_unit_zero (S := S272x2048) hz]
  simp only [View.readAt_eq_ld, h1.read_unread, h2.read_unread, h3.read_unread, h5.read_unread]
  exact congrArg (fun A => invM (n := 272) x3 A (p.1.emb x)) (acc_eq x0 x1 x2)

end Trip

/-! ## The blocks of the arguments -/

variable (m : (ℓ : Loc nD τ sig) → Buf (Elt Ideal) ℓ) (ρ : Dev nD → PrngReg) (c : Dev nD)

/-- The gate, as launched. -/
abbrev arrG : Vec Ideal S8x4352x704 .bf16 := m ((c : Thread nD τ).loc main_arg0)
/-- The up product, as launched. -/
abbrev arrU : Vec Ideal S8x4352x704 .bf16 := m ((c : Thread nD τ).loc main_arg1)
/-- The weight, as launched. -/
abbrev arrW : Vec Ideal S8x704x2048 .bf16 := m ((c : Thread nD τ).loc main_arg2)
/-- The residual, as launched. -/
abbrev arrH : Vec Ideal S4352x2048 .f32 := m ((c : Thread nD τ).loc main_arg3)
/-- The norm's scale, as launched. -/
abbrev arrN : Vec Ideal S1x2048 .f32 := m ((c : Thread nD τ).loc main_arg4)

/-- The product of the launched arrays. -/
abbrev arrP : Vec Ideal S4352x2048 .f32 := prodM (n := 4352) (arrG m c) (arrU m c) (arrW m c)

/-- Point `t` is given row block `t`, the whole weight and the whole scale. -/
theorem idx_in : ∀ t : Fin grid0.N, (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = 0 ∧ win0_2.index t 2 = 0)
    ∧ (win0_3.index t 0 = t.val ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) := by decide +kernel

/-- The block of the gate. -/
theorem blk0 (t : Fin cfg0.N) (q r k : ℕ) (hq : q < 8) (hr : r < 272) (hk : k < 704) :
    rd3 (iblk m c 0 t : Vec Ideal S8x272x704 .bf16) q r k = rd3 (arrG m c) q (272 * t.val + r) k := by
  have e := (idx_in t).1
  refine (rd3_at (p := 8) (n := 272) (m := 704) _ q r k hq hr hk).trans ?_
  refine eq_rd3 (p := 8) (n := 4352) (m := 704) (arrG m c) (((cfg0.win 0).blk t).view.emb (ValueIdx.ix3 (⟨q, hq⟩ : Fin 8) (⟨r, hr⟩ : Fin 272) (⟨k, hk⟩ : Fin 704))) _ _ _ ?_ ?_ ?_
  · show win0_0.index t 0 * 8 + 1 * q = _
    omega
  · show win0_0.index t 1 * 272 + 1 * r = _
    omega
  · show win0_0.index t 2 * 704 + 1 * k = _
    omega

/-- The block of the up product. -/
theorem blk1 (t : Fin cfg0.N) (q r k : ℕ) (hq : q < 8) (hr : r < 272) (hk : k < 704) :
    rd3 (iblk m c 1 t : Vec Ideal S8x272x704 .bf16) q r k = rd3 (arrU m c) q (272 * t.val + r) k := by
  have e := (idx_in t).2.1
  refine (rd3_at (p := 8) (n := 272) (m := 704) _ q r k hq hr hk).trans ?_
  refine eq_rd3 (p := 8) (n := 4352) (m := 704) (arrU m c) (((cfg0.win 1).blk t).view.emb (ValueIdx.ix3 (⟨q, hq⟩ : Fin 8) (⟨r, hr⟩ : Fin 272) (⟨k, hk⟩ : Fin 704))) _ _ _ ?_ ?_ ?_
  · show win0_1.index t 0 * 8 + 1 * q = _
    omega
  · show win0_1.index t 1 * 272 + 1 * r = _
    omega
  · show win0_1.index t 2 * 704 + 1 * k = _
    omega

/-- The weight. -/
theorem blk2 (t : Fin cfg0.N) (q r k : ℕ) (hq : q < 8) (hr : r < 704) (hk : k < 2048) :
    rd3 (iblk m c 2 t : Vec Ideal S8x704x2048 .bf16) q r k = rd3 (arrW m c) q r k := by
  have e := (idx_in t).2.2.1
  refine (rd3_at (p := 8) (n := 704) (m := 2048) _ q r k hq hr hk).trans ?_
  refine eq_rd3 (p := 8) (n := 704) (m := 2048) (arrW m c) (((cfg0.win 2).blk t).view.emb (ValueIdx.ix3 (⟨q, hq⟩ : Fin 8) (⟨r, hr⟩ : Fin 704) (⟨k, hk⟩ : Fin 2048))) _ _ _ ?_ ?_ ?_
  · show win0_2.index t 0 * 8 + 1 * q = _
    omega
  · show win0_2.index t 1 * 704 + 1 * r = _
    omega
  · show win0_2.index t 2 * 2048 + 1 * k = _
    omega

/-- The block of the residual. -/
theorem blk3 (t : Fin cfg0.N) (r k : ℕ) (hr : r < 272) (hk : k < 2048) :
    rd (iblk m c 3 t : Vec Ideal S272x2048 .f32) r k = rd (arrH m c) (272 * t.val + r) k := by
  have e := (idx_in t).2.2.2.1
  refine (rd_at (n := 272) (m := 2048) _ r k hr hk).trans ?_
  refine eq_rd (n := 4352) (m := 2048) (arrH m c) (((cfg0.win 3).blk t).view.emb (ValueIdx.ix2 (⟨r, hr⟩ : Fin 272) (⟨k, hk⟩ : Fin 2048))) _ _ ?_ ?_
  · show win0_3.index t 0 * 272 + 1 * r = _
    omega
  · show win0_3.index t 1 * 2048 + 1 * k = _
    omega

/-- The scale. -/
theorem blk4 (t : Fin cfg0.N) (k : ℕ) (hk : k < 2048) : rd (iblk m c 4 t : Vec Ideal S1x2048 .f32) 0 k = rd (arrN m c) 0 k := by
  have e := (idx_in t).2.2.2.2.1
  refine (rd_at (n := 1) (m := 2048) _ 0 k (by omega) hk).trans ?_
  refine eq_rd (n := 1) (m := 2048) (arrN m c) (((cfg0.win 4).blk t).view.emb (ValueIdx.ix2 (0 : Fin 1) (⟨k, hk⟩ : Fin 2048))) _ _ ?_ ?_
  · show win0_4.index t 0 * 1 + 1 * 0 = _
    omega
  · show win0_4.index t 1 * 2048 + 1 * k = _
    omega

/-- A block's products are the rows' products. -/
theorem prod_blk (t : Fin cfg0.N) (r k : ℕ) (hr : r < 272) (hk : k < 2048) :
    rd (prodM (n := 272) (iblk m c 0 t) (iblk m c 1 t) (iblk m c 2 t)) r k = rd (arrP m c) (272 * t.val + r) k := by
  have ht : t.val < 16 := Nat.lt_of_lt_of_eq t.isLt N_0
  rw [rd_at (n := 272) (m := 2048) _ r k hr hk, rd_at (n := 4352) (m := 2048) _ (272 * t.val + r) k (by omega) hk]
  refine Finset.sum_congr rfl fun q hq => Finset.sum_congr rfl fun l hl => ?_
  have hq := Finset.mem_range.mp hq
  have hl := Finset.mem_range.mp hl
  exact congrArg₂ (fun x y : EReal => x * y) (congrArg₂ hid (blk0 m c t q r l hq hr hl) (blk1 m c t q r l hq hr hl)) (blk2 m c t q l k hq hl hk)

/-- A block's residual rows are the rows' residuals, -/
theorem res_blk (t : Fin cfg0.N) (r k : ℕ) (hr : r < 272) (hk : k < 2048) :
    res (rd (iblk m c 3 t : Vec Ideal S272x2048 .f32) r k) (rd (prodM (n := 272) (iblk m c 0 t) (iblk m c 1 t) (iblk m c 2 t)) r k)
      = res (rd (arrH m c) (272 * t.val + r) k) (rd (arrP m c) (272 * t.val + r) k) :=
  congrArg₂ res (blk3 m c t r k hr hk) (prod_blk m c t r k hr hk)

/-- and so are their sums of squares. -/
theorem sqs_blk (t : Fin cfg0.N) (r : ℕ) (hr : r < 272) :
    sqs (n := 272) (iblk m c 3 t) (prodM (n := 272) (iblk m c 0 t) (iblk m c 1 t) (iblk m c 2 t)) r = sqs (n := 4352) (arrH m c) (arrP m c) (272 * t.val + r) :=
  Finset.sum_congr rfl fun j hj => by rw [res_blk m c t r j hr (Finset.mem_range.mp hj)]

/-! ## The results -/

/-- The residual rows a point writes back. -/
theorem flushed5 (t : Fin cfg0.N) : (dats m 0 c).flushed 5 t = ((cfg0.win 5).blk t).view.read (Elt Ideal) (resM (n := 4352) (arrH m c) (arrP m c)) := by
  rw [Value.flushed5_A, out5_eq]
  obtain ⟨e0, e1⟩ := (idx_in t).2.2.2.2.2.1
  funext y
  have y0 : (y 0).val < 272 := (y 0).isLt
  have f0 : (((cfg0.win 5).blk t).view.emb y 0).val = 272 * t.val + (y 0).val := by
    show win0_5.index t 0 * 272 + 1 * (y 0).val = _
    omega
  have f1 : (((cfg0.win 5).blk t).view.emb y 1).val = (y 1).val := by
    show win0_5.index t 1 * 2048 + 1 * (y 1).val = _
    omega
  have y1 : (y 1).val < 2048 := (y 1).isLt
  show resM (n := 272) _ _ _ = resM (n := 4352) _ _ _
  rw [resM_at, resM_at, f0, f1]
  exact res_blk m c t _ _ y0 y1

/-- Every entry is in some point's block. -/
theorem cover5 (i : S4352x2048.Idx) : ∃ t : Fin cfg0.N, (cfg0.win 5).flush t = true ∧ i ∈ ((cfg0.win 5).blk t).view.set := by
  have h0 : (i 0).val < 4352 := (i 0).isLt
  have h1 : (i 1).val < 2048 := (i 1).isLt
  obtain ⟨t, ht⟩ : ∃ t : Fin cfg0.N, t.val = (i 0).val / 272 :=
    ⟨⟨(i 0).val / 272, Nat.lt_of_lt_of_eq (show _ < 16 by omega) N_0.symm⟩, rfl⟩
  obtain ⟨e0, e1⟩ := (idx_in t).2.2.2.2.2.1
  refine ⟨t, flush0_5 _, ?_⟩
  show i ∈ ((View.whole main_v0_0).slice (win0_5.rect t)).set
  rw [View.set_slice_whole, Rect.mem_set_unit]
  intro a
  match a with
  | ⟨0, _⟩ =>
    show win0_5.index t 0 * 272 ≤ (i 0).val ∧ (i 0).val < win0_5.index t 0 * 272 + 272
    omega
  | ⟨1, _⟩ =>
    show win0_5.index t 1 * 2048 ≤ (i 1).val ∧ (i 1).val < win0_5.index t 1 * 2048 + 2048
    omega

/-- The normalised rows a point writes back. -/
theorem flushed6 (t : Fin cfg0.N) : (dats m 0 c).flushed 6 t = ((cfg0.win 6).blk t).view.read (Elt Ideal) (normM (n := 4352) (arrH m c) (arrP m c) (arrN m c)) := by
  rw [Value.flushed6_A, out6_eq]
  obtain ⟨e0, e1⟩ := (idx_in t).2.2.2.2.2.2.1
  funext y
  have y0 : (y 0).val < 272 := (y 0).isLt
  have f0 : (((cfg0.win 6).blk t).view.emb y 0).val = 272 * t.val + (y 0).val := by
    show win0_6.index t 0 * 272 + 1 * (y 0).val = _
    omega
  have f1 : (((cfg0.win 6).blk t).view.emb y 1).val = (y 1).val := by
    show win0_6.index t 1 * 2048 + 1 * (y 1).val = _
    omega
  have y1 : (y 1).val < 2048 := (y 1).isLt
  show normM (n := 272) _ _ _ _ = normM (n := 4352) _ _ _ _
  rw [normM_at, normM_at, f0, f1]
  exact congrArg₂ (fun x y : EReal => x * y) (congrArg₂ (fun x y : EReal => x * y) (res_blk m c t _ _ y0 y1) (congrArg inv (sqs_blk m c t _ y0))) (blk4 m c t _ y1)

/-- Every entry is in some point's block. -/
theorem cover6 (i : S4352x2048.Idx) : ∃ t : Fin cfg0.N, (cfg0.win 6).flush t = true ∧ i ∈ ((cfg0.win 6).blk t).view.set := by
  have h0 : (i 0).val < 4352 := (i 0).isLt
  have h1 : (i 1).val < 2048 := (i 1).isLt
  obtain ⟨t, ht⟩ : ∃ t : Fin cfg0.N, t.val = (i 0).val / 272 :=
    ⟨⟨(i 0).val / 272, Nat.lt_of_lt_of_eq (show _ < 16 by omega) N_0.symm⟩, rfl⟩
  obtain ⟨e0, e1⟩ := (idx_in t).2.2.2.2.2.2.1
  refine ⟨t, flush0_6 _, ?_⟩
  show i ∈ ((View.whole main_v0_1).slice (win0_6.rect t)).set
  rw [View.set_slice_whole, Rect.mem_set_unit]
  intro a
  match a with
  | ⟨0, _⟩ =>
    show win0_6.index t 0 * 272 ≤ (i 0).val ∧ (i 0).val < win0_6.index t 0 * 272 + 272
    omega
  | ⟨1, _⟩ =>
    show win0_6.index t 1 * 2048 ≤ (i 1).val ∧ (i 1).val < win0_6.index t 1 * 2048 + 2048
    omega

/-- The reciprocal roots a point writes back. -/
theorem flushed7 (t : Fin cfg0.N) : (dats m 0 c).flushed 7 t = ((cfg0.win 7).blk t).view.read (Elt Ideal) (invM (n := 4352) (arrH m c) (arrP m c)) := by
  rw [Value.flushed7_A, out7_eq]
  obtain ⟨e0, e1⟩ := (idx_in t).2.2.2.2.2.2.2
  funext y
  have y0 : (y 0).val < 272 := (y 0).isLt
  have f0 : (((cfg0.win 7).blk t).view.emb y 0).val = 272 * t.val + (y 0).val := by
    show win0_7.index t 0 * 272 + 1 * (y 0).val = _
    omega
  have f1 : (((cfg0.win 7).blk t).view.emb y 1).val = (y 1).val := by
    show win0_7.index t 1 * 1 + 1 * (y 1).val = _
    omega
  show inv (sqs (n := 272) _ _ _) = inv (sqs (n := 4352) _ _ _)
  rw [f0]
  exact congrArg inv (sqs_blk m c t _ y0)

/-- Every entry is in some point's block. -/
theorem cover7 (i : S4352x1.Idx) : ∃ t : Fin cfg0.N, (cfg0.win 7).flush t = true ∧ i ∈ ((cfg0.win 7).blk t).view.set := by
  have h0 : (i 0).val < 4352 := (i 0).isLt
  have h1 : (i 1).val < 1 := (i 1).isLt
  obtain ⟨t, ht⟩ : ∃ t : Fin cfg0.N, t.val = (i 0).val / 272 :=
    ⟨⟨(i 0).val / 272, Nat.lt_of_lt_of_eq (show _ < 16 by omega) N_0.symm⟩, rfl⟩
  obtain ⟨e0, e1⟩ := (idx_in t).2.2.2.2.2.2.2
  refine ⟨t, flush0_7 _, ?_⟩
  show i ∈ ((View.whole main_v0_2).slice (win0_7.rect t)).set
  rw [View.set_slice_whole, Rect.mem_set_unit]
  intro a
  match a with
  | ⟨0, _⟩ =>
    show win0_7.index t 0 * 272 ≤ (i 0).val ∧ (i 0).val < win0_7.index t 0 * 272 + 272
    omega
  | ⟨1, _⟩ =>
    show win0_7.index t 1 * 1 ≤ (i 1).val ∧ (i 1).val < win0_7.index t 1 * 1 + 1
    omega

/-- The kernel's run: the residual rows, their normalised values and their reciprocal roots, the arguments unchanged. -/
theorem run : θ_run defs (onTc (τ := τ) (main (F := Ideal))) ⟨m, fun _ => 0, ρ⟩ fun r => ∀ c : Dev nD,
      r.2.mem ((c : Thread nD τ).loc main_v0_0) = resM (n := 4352) (arrH m c) (arrP m c)
      ∧ r.2.mem ((c : Thread nD τ).loc main_v0_1) = normM (n := 4352) (arrH m c) (arrP m c) (arrN m c)
      ∧ r.2.mem ((c : Thread nD τ).loc main_v0_2) = invM (n := 4352) (arrH m c) (arrP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 (resM (n := 4352) (arrH m c) (arrP m c)) (fun t _ => flushed5 m c t) cover5),
      (h c).2.1.trans ((dats m 0 c).arrAt_eq_of_cover 6 (normM (n := 4352) (arrH m c) (arrP m c) (arrN m c)) (fun t _ => flushed6 m c t) cover6),
      (h c).2.2.1.trans ((dats m 0 c).arrAt_eq_of_cover 7 (invM (n := 4352) (arrH m c) (arrP m c)) (fun t _ => flushed7 m c t) cover7), (h c).2.2.2⟩)
    (Value.run_blocks m ρ)

end Cert.Kernel15Ideal.Norm

namespace Cert.Reference15Ideal.Norm

open Idealize.ShloMosaic Idealize.ShloMosaic.TcCoe Idealize.SL.Sem Cert.Reference15Ideal Cert.Reference15Ideal.Gen Cert.Prods
open Cert.KernelIdeal.Conv (rd rd3 eq_rd eq_rd3 rd_at)
open Cert.Cols (sg sum_blocks)
open Cert.Kernel3Ideal.Sum (hid)
open Cert.Kernel15Ideal.Norm (res inv resM invM normM prodM ext2)

/-- The host's product. -/
theorem dot_at (A : FVec Ideal S4352x5632 .f32) (B : FVec Ideal S5632x2048 .f32) (r : Fin 4352) (q : Fin 2048) :
    Host.dotGeneral dot_S4352x5632_S5632x2048_S4352x2048_1_0_0_1_n_n none A B (ix2 r q) = ∑ l : Fin 5632, A (ix2 r l) * B (ix2 l q) := by
  simp only [pointwise, zero_add]

/-- The hidden values of a gate and an up product. -/
theorem hid_at (G U : FVec Ideal S4352x5632 .f32) (i j : ℕ) (hi : i < 4352) (hj : j < 5632) :
    rd (mulf (mulf G (Host.divf (broadcastInDim S4352x5632 ![] bcast_S_S4352x5632 (constant S_ .f32 0x3F800000#32))
      (addf (broadcastInDim S4352x5632 ![] bcast_S_S4352x5632 (constant S_ .f32 0x3F800000#32)) (Host.exp (Host.negf G))))) U : FVec Ideal S4352x5632 .f32) i j
      = hid (rd G i j) (rd U i j) := by
  rw [rd_at _ i j hi hj, rd_at G i j hi hj, rd_at U i j hi hj]
  refine congrArg (fun z : EReal => z * _) (congrArg (fun z : EReal => _ * z) ?_)
  show Ideal.div (Ideal.ofBits .f32 0x3F800000#32) (Ideal.ofBits .f32 0x3F800000#32 + Ideal.exp (-_)) = _
  rw [Ideal.ofBits_one_f32]
  rfl

/-- The product of the hidden values with the weight. -/
theorem prod_eq (G U : FVec Ideal S8x4352x704 .bf16) (W : FVec Ideal S8x704x2048 .bf16) :
    (Host.dotGeneral dot_S4352x5632_S5632x2048_S4352x2048_1_0_0_1_n_n none
      (mulf (mulf (shapeCast S4352x5632 (transpose S4352x8x704 [1, 0, 2] (extf .f32 G bitsLt_bf16_f32) transposes_S8x4352x704_S4352x8x704_1_0_2) shapeCasts_S4352x8x704_S4352x5632)
        (Host.divf (broadcastInDim S4352x5632 ![] bcast_S_S4352x5632 (constant S_ .f32 0x3F800000#32))
          (addf (broadcastInDim S4352x5632 ![] bcast_S_S4352x5632 (constant S_ .f32 0x3F800000#32)) (Host.exp (Host.negf
            (shapeCast S4352x5632 (transpose S4352x8x704 [1, 0, 2] (extf .f32 G bitsLt_bf16_f32) transposes_S8x4352x704_S4352x8x704_1_0_2) shapeCasts_S4352x8x704_S4352x5632))))))
        (shapeCast S4352x5632 (transpose S4352x8x704 [1, 0, 2] (extf .f32 U bitsLt_bf16_f32) transposes_S8x4352x704_S4352x8x704_1_0_2) shapeCasts_S4352x8x704_S4352x5632))
      (shapeCast S5632x2048 (extf .f32 W bitsLt_bf16_f32) shapeCasts_S8x704x2048_S5632x2048) : FVec Ideal S4352x2048 .f32) = prodM (n := 4352) G U W := by
  funext y
  have y0 : (y 0).val < 4352 := (y 0).isLt
  have y1 : (y 1).val < 2048 := (y 1).isLt
  refine (eq_rd (n := 4352) (m := 2048) _ y _ _ rfl rfl).trans ?_
  refine (rd_dot_nn (n := 4352) (m := 2048) (k := 5632) _ _ _ (dot_at _ _) _ _ y0 y1).trans ?_
  refine (sum_blocks _ 8 704).symm.trans ?_
  refine Finset.sum_congr rfl fun q hq => Finset.sum_congr rfl fun l hl => ?_
  have hq := Finset.mem_range.mp hq
  have hl := Finset.mem_range.mp hl
  have e : 704 * q + l = q * 704 + l := by omega
  rw [e]
  refine congrArg₂ (fun x y : EReal => x * y) ((hid_at _ _ _ _ y0 (by omega)).trans (congrArg₂ hid
    (rd_beside (p := 8) (n := 4352) (w := 704) (extf .f32 G bitsLt_bf16_f32) _ _ _ _ _ y0 hq hl) (rd_beside (p := 8) (n := 4352) (w := 704) (extf .f32 U bitsLt_bf16_f32) _ _ _ _ _ y0 hq hl))) ?_
  exact rd_stack (p := 8) (n := 704) (m := 2048) (extf .f32 W bitsLt_bf16_f32) _ _ _ _ hq hl y1

section Rows
variable (H A : FVec Ideal S4352x2048 .f32) (N : FVec Ideal S1x2048 .f32)

/-- The residual plus half the product. -/
theorem res_eq : addf H (mulf (broadcastInDim S4352x2048 ![] bcast_S_S4352x2048 (constant S_ .f32 0x3F000000#32)) A) = resM (n := 4352) H A := rfl

/-- The reciprocal roots of the rows' mean squares. -/
theorem inv_eq : (Host.rsqrt (addf (Host.divf (broadcastInDim S4352x1 ![0] bcast_S4352_S4352x1_0
      (Host.reduceAdd (mulf (resM (n := 4352) H A : FVec Ideal S4352x2048 .f32) (resM (n := 4352) H A)) (constant S_ .f32 0x00000000#32) reducesTo_S4352x2048_S4352_d1 h_S_))
      (broadcastInDim S4352x1 ![] bcast_S_S4352x1 (constant S_ .f32 0x45000000#32))) (broadcastInDim S4352x1 ![] bcast_S_S4352x1 (constant S_ .f32 0x358637BD#32))) : FVec Ideal S4352x1 .f32)
      = invM (n := 4352) H A := by
  refine ext2 fun r z => ?_
  simp only [pointwise, zero_add, show ¬(4352 : ℕ) = 1 by decide, dif_neg, not_false_eq_true]
  exact congrArg inv (sum_fin 2048 _ _ fun l => congrArg₂ (fun x y : EReal => res x y * res x y)
    (eq_rd (n := 4352) (m := 2048) H _ _ _ rfl rfl) (eq_rd (n := 4352) (m := 2048) A _ _ _ rfl rfl))

/-- The normalised rows. -/
theorem norm_eq : (truncf .bf16 (mulf (mulf (resM (n := 4352) H A : FVec Ideal S4352x2048 .f32) (broadcastInDim S4352x2048 ![0, 1] bcast_S4352x1_S4352x2048_0_1 (invM (n := 4352) H A)))
      (broadcastInDim S4352x2048 ![0, 1] bcast_S1x2048_S4352x2048_0_1 N)) bitsLt_bf16_f32 : FVec Ideal S4352x2048 .bf16) = normM (n := 4352) H A N := by
  refine ext2 fun r q => ?_
  simp only [pointwise, show ¬(4352 : ℕ) = 1 by decide, show ¬(2048 : ℕ) = 1 by decide, dif_pos, dif_neg, not_false_eq_true]
  exact congrArg (fun z : EReal => _ * z) (eq_rd (n := 1) (m := 2048) N _ _ _ rfl rfl)

end Rows

end Cert.Reference15Ideal.Norm

namespace Cert.Proof

open Idealize.ShloMosaic Idealize.ShloMosaic.TcCoe Idealize.SL.Sem

open Cert.Reference15Ideal.Norm in
/-- The kernel computes the residual with the down product, its norm and the norm's reciprocal roots. -/
theorem algebraic15 : Cert.algebraic_Kernel15Ideal_Reference15Ideal := fun m g m' g' _ h =>
  ⟨_, _, _, Cert.Kernel15Ideal.Norm.run m g, (θ_run Cert.Reference15Ideal.defs _ _).mono (fun r k c => by
    obtain ⟨h0, h1, h2, h3, h4⟩ := h c
    obtain ⟨k0, k1, k2, k⟩ := k c
    rw [h0, h1, h2, h3] at k0 k1 k2
    rw [h4] at k1
    refine ⟨k0.trans ?_, k1.trans ?_, k2.trans ?_, k⟩
    · rw [prod_eq, res_eq]
    · rw [prod_eq, res_eq, inv_eq, norm_eq]
    · rw [prod_eq, res_eq, inv_eq]) (Cert.Reference15Ideal.Value.run m' g')⟩

end Cert.Proof

end
-- ==== Proof.BackRun.lean ====
/-
  The first feed-forward block's gradient through its norm, as the kernel runs it: what a point leaves in its blocks, and that the arguments end as launched.
-/
module

public import proofs.«01_k».proof.Proof.Gen.Kernel16
public import proofs.«01_k».proof.Proof.Gen.Kernel16Ideal.Frame.Runs
public import proofs.«01_k».proof.Proof.Prods
public import proofs.«01_k».proof.Defs
public import Idealize.ShloMosaic.Lib.Pipeline.Value
public import Idealize.ShloMosaic.Lib.Claim

@[expose] public section

set_option maxRecDepth 16384

noncomputable section

namespace Cert.Kernel16Ideal.Back

open Idealize.ShloMosaic Idealize.ShloMosaic.TcCoe Idealize.ShloMosaic.Tactic Cert.Kernel16Ideal Cert.Kernel16Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Prods (hz hz3)

variable {F : FTy → Type} [FloatOps F]

/-! ## What a point leaves -/

/-- The rows of a trip, -/
abbrev rw1 (k : Fin k0_t1_loop.trips) : Rect S272x2048 := Rect.unit (s := S272x2048) (k0_off1 k) S16x2048.size (k0_off1_inb k)
/-- and of its reciprocal roots. -/
abbrev rw2 (k : Fin k0_t1_loop.trips) : Rect S272x1 := Rect.unit (s := S272x1) (k0_off2 k) S16x1.size (k0_off2_inb k)

/-- The slab `o` of a gradient, -/
def gs (x : Vec F S8x272x704 .bf16) (o : ℕ) (ho : o < 8) : Vec F S1x272x704 .bf16 :=
  View.ld (Val := Elt F) (e' := .bf16) x (Rect.unit (s := S8x272x704) ![o, 0, 0] S1x272x704.size fun a => by
    match a with
    | ⟨0, _⟩ => show o + 1 ≤ 8; omega
    | ⟨1, _⟩ => show 0 + 272 ≤ 272; omega
    | ⟨2, _⟩ => show 0 + 704 ≤ 704; omega)
/-- and of a weight. -/
def ws (x : Vec F S8x704x2048 .bf16) (o : ℕ) (ho : o < 8) : Vec F S1x704x2048 .bf16 :=
  View.ld (Val := Elt F) (e' := .bf16) x (Rect.unit (s := S8x704x2048) ![o, 0, 0] S1x704x2048.size fun a => by
    match a with
    | ⟨0, _⟩ => show o + 1 ≤ 8; omega
    | ⟨1, _⟩ => show 0 + 704 ≤ 704; omega
    | ⟨2, _⟩ => show 0 + 2048 ≤ 2048; omega)

/-- The gradient of the norm's result. -/
def dhM (x0 : Vec F S8x272x704 .bf16) (x1 : Vec F S8x704x2048 .bf16) (x2 : Vec F S272x2048 .f32) : Vec F S272x2048 .f32 :=
  k0_pay8 x2 (k0_pay6 (gs x0 0 (by omega)) (ws x1 0 (by omega)) (gs x0 1 (by omega)) (ws x1 1 (by omega)) (gs x0 2 (by omega)) (ws x1 2 (by omega)) (gs x0 3 (by omega)) (ws x1 3 (by omega))) (k0_pay7 (gs x0 4 (by omega))) (ws x1 4 (by omega)) (gs x0 5 (by omega)) (ws x1 5 (by omega)) (gs x0 6 (by omega)) (ws x1 6 (by omega)) (gs x0 7 (by omega)) (ws x1 7 (by omega))

/-- A trip's rows of the gradient through the norm, -/
def rowV (D H : Vec F S272x2048 .f32) (R : Vec F S272x1 .f32) (N : Vec F S1x2048 .f32) (E : Vec F S272x2048 .f32) (k : Fin k0_t1_loop.trips) : Vec F S16x2048 .f32 :=
  k0_pay5 (View.ld (Val := Elt F) (e' := .f32) D (rw1 k)) (View.ld (Val := Elt F) (e' := .f32) H (rw1 k)) (View.ld (Val := Elt F) (e' := .f32) R (rw2 k)) N (View.ld (Val := Elt F) (e' := .f32) E (rw1 k))

/-- and its sum for the scale, added to what was there. -/
def addV (D H : Vec F S272x2048 .f32) (R : Vec F S272x1 .f32) (k : Fin k0_t1_loop.trips) (p : Vec F S1x1x2048 .f32) : Vec F S1x1x2048 .f32 :=
  k0_pay4 (View.ld (Val := Elt F) (e' := .f32) D (rw1 k)) (View.ld (Val := Elt F) (e' := .f32) H (rw1 k)) (View.ld (Val := Elt F) (e' := .f32) R (rw2 k)) p

/-- The sum for the scale after `n` trips. -/
def acc (D H : Vec F S272x2048 .f32) (R : Vec F S272x1 .f32) : ℕ → Vec F S1x1x2048 .f32
  | 0 => k0_pay1 k0_pay9
  | n + 1 => if h : n < k0_t1_loop.trips then addV D H R ⟨n, h⟩ (acc D H R n) else acc D H R n

/-- What `n` trips store, a trip's rows at a time, last first. -/
def pcs {e : EltTy} (g : Fin k0_t1_loop.trips → Vec F S16x2048 e) : ℕ → List (View.Piece (Elt F) S272x2048 e)
  | 0 => []
  | n + 1 => if h : n < k0_t1_loop.trips then ⟨rw1 ⟨n, h⟩, g ⟨n, h⟩⟩ :: pcs g n else pcs g n

/-- Every piece is some trip's, -/
theorem of_mem {e : EltTy} (g : Fin k0_t1_loop.trips → Vec F S16x2048 e) {P : View.Piece (Elt F) S272x2048 e → Prop} (hP : ∀ k, P ⟨rw1 k, g k⟩) :
    ∀ n, ∀ p ∈ pcs g n, P p
  | 0 => fun p hp => absurd hp List.not_mem_nil
  | n + 1 => by
    rw [pcs]
    split
    · exact List.forall_mem_cons.mpr ⟨hP _, of_mem g hP n⟩
    · exact of_mem g hP n

/-- and every trip has one. -/
theorem mem_pcs {e : EltTy} (g : Fin k0_t1_loop.trips → Vec F S16x2048 e) (k : Fin k0_t1_loop.trips) : ∀ n, k.val < n → (⟨rw1 k, g k⟩ : View.Piece (Elt F) S272x2048 e) ∈ pcs g n
  | 0 => fun h => absurd h (Nat.not_lt_zero _)
  | n + 1 => fun h => by
    rw [pcs]
    split
    · rcases Nat.lt_or_ge k.val n with h' | h'
      · exact List.mem_cons_of_mem _ (mem_pcs g k n h')
      · obtain rfl : n = k.val := by omega
        exact List.mem_cons_self
    · exact mem_pcs g k n (by have := k.isLt; omega)

/-- Trip `k` is at rows `16 k …`. -/
theorem off_at : ∀ k : Fin k0_t1_loop.trips, k0_off1 k 0 = 16 * k.val ∧ k0_off1 k 1 = 0 ∧ k0_off2 k 0 = 16 * k.val ∧ k0_off2 k 1 = 0 := by decide +kernel

/-- There are seventeen trips. -/
theorem trips_eq : k0_t1_loop.trips = 17 := by decide +kernel

/-- Together the trips store every row. -/
theorem cover {e : EltTy} (g : Fin k0_t1_loop.trips → Vec F S16x2048 e) (y : S272x2048.Idx) : ∃ p ∈ pcs g k0_t1_loop.trips, y ∈ p.1.set := by
  have y0 : (y 0).val < 272 := (y 0).isLt
  have y1 : (y 1).val < 2048 := (y 1).isLt
  obtain ⟨k, hk⟩ : ∃ k : Fin k0_t1_loop.trips, k.val = (y 0).val / 16 := ⟨⟨(y 0).val / 16, by have := trips_eq; omega⟩, rfl⟩
  obtain ⟨e0, e1, -⟩ := off_at k
  refine ⟨_, mem_pcs g k _ k.isLt, ?_⟩
  show y ∈ (rw1 k).set
  rw [Rect.mem_set_unit]
  intro a
  match a with
  | ⟨0, _⟩ =>
    show k0_off1 k 0 ≤ (y 0).val ∧ (y 0).val < k0_off1 k 0 + 16
    omega
  | ⟨1, _⟩ =>
    show k0_off1 k 1 ≤ (y 1).val ∧ (y 1).val < k0_off1 k 1 + 2048
    omega

section Values
variable (x0 : Vec F S8x272x704 .bf16) (x1 : Vec F S8x704x2048 .bf16) (x2 : Vec F S272x2048 .f32) (x3 : Vec F S272x2048 .f32) (x4 : Vec F S272x1 .f32) (x5 : Vec F S1x2048 .f32) (x6 : Vec F S272x2048 .f32)
/-- The rows a point leaves, -/
def o7 : Vec F S272x2048 .f32 := View.canon (pcs (rowV (dhM x0 x1 x2) x3 x4 x5 x6) k0_t1_loop.trips)
/-- their halved copy, -/
def o8 : Vec F S272x2048 .bf16 := View.canon (pcs (fun k => k0_pay2 (rowV (dhM x0 x1 x2) x3 x4 x5 x6 k)) k0_t1_loop.trips)
/-- and the sum for the scale. -/
def o9 : Vec F S1x1x2048 .f32 := acc (dhM x0 x1 x2) x3 x4 k0_t1_loop.trips
end Values

/-- A whole block stored last is what is read. -/
theorem read_last {S : Shape} {e : EltTy} (a : Memref sig .tc .vmem S e) {off : Fin S.rank → ℕ} (ho : off = fun _ => 0) (f : BufTy.Contents (Elt F) a.view.ty)
    (inb : ∀ x, off x + S.size x ≤ S.size x) (w : Vec F S e) (L : List (View.Piece (Elt F) S e)) :
    a.view.read (Elt F) (a.view.writes (Elt F) f ((⟨Rect.unit (s := S) off S.size inb, w⟩ : View.Piece (Elt F) S e) :: L)) = w := by
  refine (View.read_writes_eq_canon _ _ _ fun y => ?_).trans (View.canon_cons_unit_zero (S := S) ho inb w L)
  exact ⟨_, List.mem_cons_self, View.mem_set_unit_zero (S := S) ho inb y⟩

/-! ## A trip -/

section Trip
variable (c : Dev nD) (i : grid0.Coords) (a1 : Memref sig .tc .vmem S8x272x704 .bf16) (h1 : a1.IsWhole) (a2 : Memref sig .tc .vmem S8x704x2048 .bf16) (h2 : a2.IsWhole) (a3 : Memref sig .tc .vmem S272x2048 .f32) (h3 : a3.IsWhole)
  (a4 : Memref sig .tc .vmem S272x2048 .f32) (h4 : a4.IsWhole) (a5 : Memref sig .tc .vmem S272x1 .f32) (h5 : a5.IsWhole) (a6 : Memref sig .tc .vmem S1x2048 .f32) (h6 : a6.IsWhole) (a7 : Memref sig .tc .vmem S272x2048 .f32) (h7 : a7.IsWhole)
  (a8 : Memref sig .tc .vmem S272x2048 .f32) (h8 : a8.IsWhole) (a9 : Memref sig .tc .vmem S272x2048 .bf16) (h9 : a9.IsWhole) (a10 : Memref sig .tc .vmem S1x1x2048 .f32) (h10 : a10.IsWhole) (a11 : Memref sig .tc .vmem S272x2048 .f32) (h11 : a11.IsWhole)

section Loop
variable (X4 : BufTy.Contents (Elt F) a4.view.ty) (X5 : BufTy.Contents (Elt F) a5.view.ty) (X6 : BufTy.Contents (Elt F) a6.view.ty) (X7 : BufTy.Contents (Elt F) a7.view.ty) (X11 : BufTy.Contents (Elt F) a11.view.ty)
  (f8 : BufTy.Contents (Elt F) a8.view.ty) (f9 : BufTy.Contents (Elt F) a9.view.ty) (f10 : BufTy.Contents (Elt F) a10.view.ty)

/-- The rows a trip stores, -/
theorem trip_fst (k : Fin k0_t1_loop.trips) :
    (trip_k0_t1 (F := F) Variants.none c none i a1 h1 a2 h2 a3 h3 a4 h4 a5 h5 a6 h6 a7 h7 a8 h8 a9 h9 a10 h10 a11 h11 X4 X5 X6 X7 X11 k).1 f8 f9 f10
      = [⟨rw1 k, rowV (a11.view.read (Elt F) X11) (a4.view.read (Elt F) X4) (a5.view.read (Elt F) X5) (a6.view.read (Elt F) X6) (a7.view.read (Elt F) X7) k⟩] := by
  unfold trip_k0_t1 rowV
  dsimp only
  sl_unfold_words
  simp only [View.readAt_eq_ld, View.ld_unit_zero (S := S1x2048) hz]
  rfl

/-- their halved copy, -/
theorem trip_snd (k : Fin k0_t1_loop.trips) :
    (trip_k0_t1 (F := F) Variants.none c none i a1 h1 a2 h2 a3 h3 a4 h4 a5 h5 a6 h6 a7 h7 a8 h8 a9 h9 a10 h10 a11 h11 X4 X5 X6 X7 X11 k).2.1 f8 f9 f10
      = [⟨rw1 k, k0_pay2 (rowV (a11.view.read (Elt F) X11) (a4.view.read (Elt F) X4) (a5.view.read (Elt F) X5) (a6.view.read (Elt F) X6) (a7.view.read (Elt F) X7) k)⟩] := by
  unfold trip_k0_t1 rowV
  dsimp only
  sl_unfold_words
  simp only [View.readAt_eq_ld, View.ld_unit_zero (S := S1x2048) hz]
  rfl

/-- and the sum it stores. -/
theorem trip_thd (k : Fin k0_t1_loop.trips) :
    (trip_k0_t1 (F := F) Variants.none c none i a1 h1 a2 h2 a3 h3 a4 h4 a5 h5 a6 h6 a7 h7 a8 h8 a9 h9 a10 h10 a11 h11 X4 X5 X6 X7 X11 k).2.2.1 f8 f9 f10
      = [⟨Rect.unit (s := S1x1x2048) ![0, 0, 0] S1x1x2048.size inb_S1x1x2048_S1x1x2048_0_0_0, addV (a11.view.read (Elt F) X11) (a4.view.read (Elt F) X4) (a5.view.read (Elt F) X5) k (a10.view.read (Elt F) f10)⟩] := by
  unfold trip_k0_t1 addV
  dsimp only
  sl_unfold_words
  simp only [View.readAt_eq_ld, View.ld_unit_zero (S := S1x1x2048) hz3]
  rfl

/-- What the trips before `n` store. -/
theorem pieces (h0 : a10.view.read (Elt F) f10 = k0_pay1 k0_pay9) : ∀ n : ℕ, n ≤ k0_t1_loop.trips →
    (pb_k0_t1 (F := F) Variants.none c none i a1 h1 a2 h2 a3 h3 a4 h4 a5 h5 a6 h6 a7 h7 a8 h8 a9 h9 a10 h10 a11 h11 X4 X5 X6 X7 X11 f8 f9 f10 n).1
        = pcs (rowV (a11.view.read (Elt F) X11) (a4.view.read (Elt F) X4) (a5.view.read (Elt F) X5) (a6.view.read (Elt F) X6) (a7.view.read (Elt F) X7)) n
    ∧ (pb_k0_t1 (F := F) Variants.none c none i a1 h1 a2 h2 a3 h3 a4 h4 a5 h5 a6 h6 a7 h7 a8 h8 a9 h9 a10 h10 a11 h11 X4 X5 X6 X7 X11 f8 f9 f10 n).2.1
        = pcs (fun k => k0_pay2 (rowV (a11.view.read (Elt F) X11) (a4.view.read (Elt F) X4) (a5.view.read (Elt F) X5) (a6.view.read (Elt F) X6) (a7.view.read (Elt F) X7) k)) n
    ∧ a10.view.read (Elt F) (a10.view.writes (Elt F) f10 (pb_k0_t1 (F := F) Variants.none c none i a1 h1 a2 h2 a3 h3 a4 h4 a5 h5 a6 h6 a7 h7 a8 h8 a9 h9 a10 h10 a11 h11 X4 X5 X6 X7 X11 f8 f9 f10 n).2.2)
        = acc (a11.view.read (Elt F) X11) (a4.view.read (Elt F) X4) (a5.view.read (Elt F) X5) n := by
  intro n
  induction n with
  | zero => exact fun _ => ⟨rfl, rfl, h0⟩
  | succ n ih =>
    intro hn
    obtain ⟨i1, i2, i3⟩ := ih (Nat.le_of_succ_le hn)
    rw [pb_k0_t1_succ (F := F) Variants.none c none i a1 h1 a2 h2 a3 h3 a4 h4 a5 h5 a6 h6 a7 h7 a8 h8 a9 h9 a10 h10 a11 h11 X4 X5 X6 X7 X11 f8 f9 f10 ⟨n, hn⟩]
    have hn' : n < k0_t1_loop.trips := hn
    dsimp only
    rw [trip_fst, trip_snd, trip_thd, i1, i2, pcs, dif_pos hn', pcs, dif_pos hn', acc, dif_pos hn', ← i3]
    exact ⟨rfl, rfl, read_last a10 hz3 _ _ _ _⟩

/-- After the loop the rows are the ones stated, -/
theorem last_rows (x0 : Vec F S8x272x704 .bf16) (x1 : Vec F S8x704x2048 .bf16) (x2 : Vec F S272x2048 .f32) (x3 : Vec F S272x2048 .f32) (x4 : Vec F S272x1 .f32) (x5 : Vec F S1x2048 .f32) (x6 : Vec F S272x2048 .f32) (h0 : a10.view.read (Elt F) f10 = k0_pay1 k0_pay9) (hD : a11.view.read (Elt F) X11 = dhM x0 x1 x2)
    (e3 : a4.view.read (Elt F) X4 = x3) (e4 : a5.view.read (Elt F) X5 = x4) (e5 : a6.view.read (Elt F) X6 = x5) (e6 : a7.view.read (Elt F) X7 = x6) :
    a8.view.read (Elt F) (a8.view.writes (Elt F) f8 (pb_k0_t1 (F := F) Variants.none c none i a1 h1 a2 h2 a3 h3 a4 h4 a5 h5 a6 h6 a7 h7 a8 h8 a9 h9 a10 h10 a11 h11 X4 X5 X6 X7 X11 f8 f9 f10 k0_t1_loop.trips).1) = o7 x0 x1 x2 x3 x4 x5 x6 := by
  rw [(pieces c i a1 h1 a2 h2 a3 h3 a4 h4 a5 h5 a6 h6 a7 h7 a8 h8 a9 h9 a10 h10 a11 h11 X4 X5 X6 X7 X11 f8 f9 f10 h0 _ le_rfl).1, View.read_writes_eq_canon _ _ _ (cover _), hD, e3, e4, e5, e6]
  rfl

/-- so is their copy, -/
theorem last_copy (x0 : Vec F S8x272x704 .bf16) (x1 : Vec F S8x704x2048 .bf16) (x2 : Vec F S272x2048 .f32) (x3 : Vec F S272x2048 .f32) (x4 : Vec F S272x1 .f32) (x5 : Vec F S1x2048 .f32) (x6 : Vec F S272x2048 .f32) (h0 : a10.view.read (Elt F) f10 = k0_pay1 k0_pay9) (hD : a11.view.read (Elt F) X11 = dhM x0 x1 x2)
    (e3 : a4.view.read (Elt F) X4 = x3) (e4 : a5.view.read (Elt F) X5 = x4) (e5 : a6.view.read (Elt F) X6 = x5) (e6 : a7.view.read (Elt F) X7 = x6) :
    a9.view.read (Elt F) (a9.view.writes (Elt F) f9 (pb_k0_t1 (F := F) Variants.none c none i a1 h1 a2 h2 a3 h3 a4 h4 a5 h5 a6 h6 a7 h7 a8 h8 a9 h9 a10 h10 a11 h11 X4 X5 X6 X7 X11 f8 f9 f10 k0_t1_loop.trips).2.1) = o8 x0 x1 x2 x3 x4 x5 x6 := by
  rw [(pieces c i a1 h1 a2 h2 a3 h3 a4 h4 a5 h5 a6 h6 a7 h7 a8 h8 a9 h9 a10 h10 a11 h11 X4 X5 X6 X7 X11 f8 f9 f10 h0 _ le_rfl).2.1, View.read_writes_eq_canon _ _ _ (cover _), hD, e3, e4, e5, e6]
  rfl

/-- and the sum. -/
theorem last_sum (x0 : Vec F S8x272x704 .bf16) (x1 : Vec F S8x704x2048 .bf16) (x2 x3 : Vec F S272x2048 .f32) (x4 : Vec F S272x1 .f32)
    (h0 : a10.view.read (Elt F) f10 = k0_pay1 k0_pay9) (hD : a11.view.read (Elt F) X11 = dhM x0 x1 x2)
    (e3 : a4.view.read (Elt F) X4 = x3) (e4 : a5.view.read (Elt F) X5 = x4) :
    a10.view.read (Elt F) (a10.view.writes (Elt F) f10 (pb_k0_t1 (F := F) Variants.none c none i a1 h1 a2 h2 a3 h3 a4 h4 a5 h5 a6 h6 a7 h7 a8 h8 a9 h9 a10 h10 a11 h11 X4 X5 X6 X7 X11 f8 f9 f10 k0_t1_loop.trips).2.2) = o9 x0 x1 x2 x3 x4 := by
  rw [(pieces c i a1 h1 a2 h2 a3 h3 a4 h4 a5 h5 a6 h6 a7 h7 a8 h8 a9 h9 a10 h10 a11 h11 X4 X5 X6 X7 X11 f8 f9 f10 h0 _ le_rfl).2.2, hD, e3, e4]
  rfl
end Loop

/-! ## The body -/

variable (x0 : Vec F S8x272x704 .bf16) (x1 : Vec F S8x704x2048 .bf16) (x2 : Vec F S272x2048 .f32) (x3 : Vec F S272x2048 .f32) (x4 : Vec F S272x1 .f32) (x5 : Vec F S1x2048 .f32) (x6 : Vec F S272x2048 .f32)

set_option maxHeartbeats 2000000 in
/-- From the blocks it is given the body leaves the rows, their copy and the sum. -/
theorem body (E : Set ℕ) (K : PUnit → sProp (MT nD τ sig Unit (Elt F) ℕ (UR sig nD τ) ℕ)) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare (o7 x0 x1 x2 x3 x4 x5 x6) ∗ owns (c : Thread nD τ) a9 fullShare (o8 x0 x1 x2 x3 x4 x5 x6) ∗ owns (c : Thread nD τ) a10 fullShare (o9 x0 x1 x2 x3 x4) ∗ (∃ d, owns (c : Thread nD τ) a11 fullShare d)) -∗ K ⟨⟩))
      ⊢ wp frame (wpE (defs₀ (F := F)) Variants.none c none) E (cc0_ffn1_bwd_dh i a1 h1 a2 h2 a3 h3 a4 h4 a5 h5 a6 h6 a7 h7 a8 h8 a9 h9 a10 h10 a11 h11) K := by
  simp only [cc0_ffn1_bwd_dh_eq_skeleton]; unfold cc0_ffn1_bwd_dh_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
  sl_exec
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro
    refine last_rows c i a1 h1 a2 h2 a3 h3 a4 h4 a5 h5 a6 h6 a7 h7 a8 h8 a9 h9 a10 h10 a11 h11 _ _ _ _ _ _ _ _ x0 x1 x2 x3 x4 x5 x6 ?_ ?_ hf3 hf4 hf5 hf6
    · sl_unfold_words
      exact read_last (F := F) a10 hz3 _ _ _ []
    · rw [← hf0, ← hf1, ← hf2]
      sl_unfold_words
      simp only [View.readAt_eq_ld, View.ld_unit_zero (S := S272x2048) hz]
      unfold dhM gs ws
      exact read_last a11 hz _ _ _ []
  isplitl [H8]
  · iexists _; isplitr
    swap; · iexact H8
    ipureintro
    refine last_copy c i a1 h1 a2 h2 a3 h3 a4 h4 a5 h5 a6 h6 a7 h7 a8 h8 a9 h9 a10 h10 a11 h11 _ _ _ _ _ _ _ _ x0 x1 x2 x3 x4 x5 x6 ?_ ?_ hf3 hf4 hf5 hf6
    · sl_unfold_words
      exact read_last (F := F) a10 hz3 _ _ _ []
    · rw [← hf0, ← hf1, ← hf2]
      sl_unfold_words
      simp only [View.readAt_eq_ld, View.ld_unit_zero (S := S272x2048) hz]
      unfold dhM gs ws
      exact read_last a11 hz _ _ _ []
  isplitl [H9]
  · iexists _; isplitr
    swap; · iexact H9
    ipureintro
    rw [View.writes_append]
    refine last_sum c i a1 h1 a2 h2 a3 h3 a4 h4 a5 h5 a6 h6 a7 h7 a8 h8 a9 h9 a10 h10 a11 h11 _ _ _ _ _ _ _ _ x0 x1 x2 x3 x4 ?_ ?_ hf3 hf4
    · sl_unfold_words
      exact read_last (F := F) a10 hz3 _ _ _ []
    · rw [← hf0, ← hf1, ← hf2]
      sl_unfold_words
      simp only [View.readAt_eq_ld, View.ld_unit_zero (S := S272x2048) hz]
      unfold dhM gs ws
      exact read_last a11 hz _ _ _ []
  iexists _, _; isplitr
  swap; · iexact HS0
  ipureintro; rfl
end Trip

/-! ## The run -/

variable (m : (ℓ : Loc nD τ sig) → Buf (Elt F) ℓ) (ρ : Dev nD → PrngReg)

/-- What each window's block holds after a point: an input what it held, an output what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => o7 (iblk m c 0 t) (iblk m c 1 t) (iblk m c 2 t) (iblk m c 3 t) (iblk m c 4 t) (iblk m c 5 t) (iblk m c 6 t)
    | ⟨8, _⟩ => o8 (iblk m c 0 t) (iblk m c 1 t) (iblk m c 2 t) (iblk m c 3 t) (iblk m c 4 t) (iblk m c 5 t) (iblk m c 6 t)
    | ⟨9, _⟩ => o9 (iblk m c 0 t) (iblk m c 1 t) (iblk m c 2 t) (iblk m c 3 t) (iblk m c 4 t)
  Φ _ := Pipeline.ΦA spec0 c
  q _ := fullShare
  owed _ := 0

/-- The arrays are those the call finds. -/
theorem A_eq (c : Dev nD) (w : Fin cfg0.W) : (dats m 0 c).A w = V m c (Pipeline.arrRef spec0 w) := by dsimp only [dats]

/-- Window 7 after a point: the rows, -/
theorem after7 (c : Dev nD) (t : Fin cfg0.N) : (dats m 0 c).after 7 t = o7 (iblk m c 0 t) (iblk m c 1 t) (iblk m c 2 t) (iblk m c 3 t) (iblk m c 4 t) (iblk m c 5 t) (iblk m c 6 t) := by dsimp only [dats]
/-- window 8: their copy, -/
theorem after8 (c : Dev nD) (t : Fin cfg0.N) : (dats m 0 c).after 8 t = o8 (iblk m c 0 t) (iblk m c 1 t) (iblk m c 2 t) (iblk m c 3 t) (iblk m c 4 t) (iblk m c 5 t) (iblk m c 6 t) := by dsimp only [dats]
/-- window 9: the sum. -/
theorem after9 (c : Dev nD) (t : Fin cfg0.N) : (dats m 0 c).after 9 t = o9 (iblk m c 0 t) (iblk m c 1 t) (iblk m c 2 t) (iblk m c 3 t) (iblk m c 4 t) := by dsimp only [dats]

/-- The inputs' blocks are in place before a point. -/
theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) :=
  ⟨before0_0_of m (dats m 0 c) (A_eq m c 0) (fun _ => by dsimp only [dats]) t, before0_1_of m (dats m 0 c) (A_eq m c 1) (fun _ => by dsimp only [dats]) t, before0_2_of m (dats m 0 c) (A_eq m c 2) (fun _ => by dsimp only [dats]) t, before0_3_of m (dats m 0 c) (A_eq m c 3) (fun _ => by dsimp only [dats]) t, before0_4_of m (dats m 0 c) (A_eq m c 4) (fun _ => by dsimp only [dats]) t, before0_5_of m (dats m 0 c) (A_eq m c 5) (fun _ => by dsimp only [dats]) t, before0_6_of m (dats m 0 c) (A_eq m c 6) (fun _ => by dsimp only [dats]) t⟩

/-- The inputs' blocks are still in place after it. -/
theorem after_in (c : Dev nD) (t : Fin cfg0.N) :
    (dats m 0 c).after 0 t = iblk m c 0 t ∧ (dats m 0 c).after 1 t = iblk m c 1 t ∧ (dats m 0 c).after 2 t = iblk m c 2 t ∧ (dats m 0 c).after 3 t = iblk m c 3 t ∧ (dats m 0 c).after 4 t = iblk m c 4 t ∧ (dats m 0 c).after 5 t = iblk m c 5 t ∧ (dats m 0 c).after 6 t = iblk m c 6 t := by
  dsimp only [dats]
  exact ⟨rfl, rfl, rfl, rfl, rfl, rfl, rfl⟩

set_option maxHeartbeats 800000 in
/-- At every point the body takes the windows to what is stated of them. -/
theorem point (c : Dev nD) (t : Fin cfg0.N) :
    iprop((dats m 0 c).Φ t.castSucc ∗ (dats m 0 c).owesAt () t.castSucc
        ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)))
      ⊢ wp frame (wpE (defs₀ (F := F)) Variants.none c none) Set.univ (bodyAt0 t) (fun _ =>
        iprop((dats m 0 c).Φ t.succ ∗ (dats m 0 c).owesAt () t.succ
        ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t))) := by
  obtain ⟨b0, b1, b2, b3, b4, b5, b6⟩ := before_in m c t
  obtain ⟨a0, a1, a2, a3, a4, a5, a6⟩ := after_in m c t
  unfold bodyAt0
  simp only [b0, b1, b2, b3, b4, b5, b6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    a0, a1, a2, a3, a4, a5, a6, after7, after8, after9, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  iintro ⟨H0, H1, H2, H3, H4, H5, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body does its part of the call. -/
theorem bodies (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point m c t) rfl .rfl fun _ => .rfl

set_option backward.isDefEq.respectTransparency.types false in
/-- The program ends, its arrays hold what the windows' blocks add up to, and no counter is left. -/
theorem whole : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (bodies m c).loose) (hshare := fun c => (dats m 0 c).share_full fun _ => rfl)
    (howed := fun _ _ => rfl) (V := V m) (hmain := hmain m Variants.none) (hA := A_eq m) (hΦ := fun _ _ => rfl)

/-- The same without the counters. -/
theorem arrays : θ_run defs (onTc (τ := τ) (main (F := F))) (s₀ m ρ) (Pipeline.FramePost cfgs (dats m) 0 (V m)) :=
  (θ_run defs _ _).mono (fun _ h => h.1) (whole m ρ)

/-- The program ends with its arguments as they were and no counter left. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (arrays m ρ)) ((θ_run defs _ _).mono (fun _ h => h.2) (whole m ρ))

/-- So it does idealized, -/
theorem frame_ideal : Cert.quiescent_Kernel16Ideal := fun m ρ _ => quiet m ρ

/-- and as written. -/
theorem frame_bits : Cert.quiescent_Kernel16 := fun m ρ _ => Eq.mp (by sl_kernel_rfl) (quiet (F := Bits) m ρ)

end Cert.Kernel16Ideal.Back

end
-- ==== Proof.BackNorm.lean ====
/-
  The first feed-forward block's gradient before the products, and through the norm: in blocks of 272 rows.
-/
module

public import proofs.«01_k».proof.Proof.BackRun
public import proofs.«01_k».proof.Proof.DownNorm
public import proofs.«01_k».proof.Proof.GradRows1
public import proofs.«01_k».proof.Proof.Gen.Reference16Ideal.Run

@[expose] public section

noncomputable section

namespace Cert.Kernel16Ideal.Back

open Idealize.ShloMosaic Idealize.ShloMosaic.TcCoe Idealize.ShloMosaic.Tactic Idealize.SL.Sem Cert.Kernel16Ideal Cert.Kernel16Ideal.Gen Cert.Prods
open Cert.KernelIdeal.Conv (rd rd3 eq_rd eq_rd3 rd_at rd3_at)
open Cert.Kernel15Ideal.Norm (inv ext2 mem_one)
open Idealize.ShloMosaic.Pipeline (Dat)

/-! ## A row's values -/

/-- An entry of the gradient through the norm: `d` of the norm's result, `h` the normalised entry, `s` the reciprocal root, `g` the scale, `z` the row's
    sum, added to `e`. -/
def bk (e d h s g z : EReal) : EReal := (e + s * (d * g)) - h * (s * s * s) * Ideal.div z (Ideal.ofBits .f32 0x45000000#32)

section Rows
variable {n : ℕ} [NeZero n] (D H E : (⟨2, ![n, 2048]⟩ : Shape).Idx → EReal) (R : (⟨2, ![n, 1]⟩ : Shape).Idx → EReal) (N : (⟨2, ![1, 2048]⟩ : Shape).Idx → EReal)

/-- A row's sum of products with the scaled gradient, -/
def dots (r : ℕ) : EReal := ∑ j ∈ Finset.range 2048, rd D r j * rd N 0 j * rd H r j
/-- the rows' gradients through the norm, -/
def backM : (⟨2, ![n, 2048]⟩ : Shape).Idx → EReal :=
  fun y => bk (rd E (y 0).val (y 1).val) (rd D (y 0).val (y 1).val) (rd H (y 0).val (y 1).val) (rd R (y 0).val 0) (rd N 0 (y 1).val) (dots D H N (y 0).val)
/-- a row's sum of squares, -/
def sqM (r : ℕ) : EReal := ∑ j ∈ Finset.range 2048, rd H r j * rd H r j
/-- the rows' reciprocal roots, -/
def rootM : (⟨2, ![n, 1]⟩ : Shape).Idx → EReal := fun y => inv (sqM H (y 0).val)
/-- a row's part of the scale's gradient, -/
def part (r j : ℕ) : EReal := rd D r j * (rd H r j * rd R r 0)
/-- the scale's gradient in parts of 272 rows, -/
def scaleM : (⟨3, ![16, 1, 2048]⟩ : Shape).Idx → EReal := fun y => ∑ r ∈ Finset.range 272, part D H R (272 * (y 0).val + r) (y 2).val
/-- and the gradient of the norm's result: what is given, and eight products. -/
def gradM (X : (⟨3, ![8, n, 704]⟩ : Shape).Idx → EReal) (W : (⟨3, ![8, 704, 2048]⟩ : Shape).Idx → EReal) : (⟨2, ![n, 2048]⟩ : Shape).Idx → EReal :=
  fun y => rd H (y 0).val (y 1).val + ∑ q ∈ Finset.range 8, ∑ l ∈ Finset.range 704, rd3 X q (y 0).val l * rd3 W q l (y 1).val
end Rows

/-- Sixteen rows' gradients through the norm. -/
theorem pay5_eq (d h : Vec Ideal S16x2048 .f32) (s : Vec Ideal S16x1 .f32) (g : Vec Ideal S1x2048 .f32) (e : Vec Ideal S16x2048 .f32) :
    k0_pay5 d h s g e = backM (n := 16) d h e s g := by
  refine ext2 fun r q => ?_
  unfold k0_pay5 k0_pay3
  simp only [pointwise, shapeCast_self, show ¬(16 : ℕ) = 1 by decide, show ¬(2048 : ℕ) = 1 by decide, dif_pos, dif_neg, not_false_eq_true]
  have ed := fun j : Fin 2048 => rd_at (n := 16) (m := 2048) d r.val j.val r.isLt j.isLt
  have eh := fun j : Fin 2048 => rd_at (n := 16) (m := 2048) h r.val j.val r.isLt j.isLt
  have eg := fun j : Fin 2048 => rd_at (n := 1) (m := 2048) g 0 j.val Nat.one_pos j.isLt
  have ez : dots (n := 16) d h g r.val = ∑ j : Fin 2048, d (ix2 r j) * g (ix2 (0 : Fin 1) j) * h (ix2 r j) :=
    (sum_fin 2048 _ _ fun j => by rw [ed, eg, eh]; rfl).symm
  show _ = bk (rd e r.val q.val) (rd d r.val q.val) (rd h r.val q.val) (rd s r.val 0) (rd g 0 q.val) (dots (n := 16) d h g r.val)
  rw [ez, ed, eh, eg, rd_at (n := 16) (m := 2048) e r.val q.val r.isLt q.isLt, rd_at (n := 16) (m := 1) s r.val 0 r.isLt Nat.one_pos]
  rfl

/-- Sixteen rows' part of the scale's gradient, added to what was there. -/
theorem pay4_at (d h : Vec Ideal S16x2048 .f32) (s : Vec Ideal S16x1 .f32) (p : Vec Ideal S1x1x2048 .f32) (y : S1x1x2048.Idx) :
    k0_pay4 d h s p y = p y + ∑ r ∈ Finset.range 16, part (n := 16) d h s r (y 2).val := by
  obtain ⟨a, b, q, rfl⟩ : ∃ (a : Fin 1) (b : Fin 1) (q : Fin 2048), y = ix3 a b q := ⟨y 0, y 1, y 2, eq_ix3 y⟩
  obtain rfl : a = 0 := Subsingleton.elim _ _
  obtain rfl : b = 0 := Subsingleton.elim _ _
  unfold k0_pay4 k0_pay3
  simp only [pointwise, shapeCast_self, show ¬(16 : ℕ) = 1 by decide, show ¬(2048 : ℕ) = 1 by decide, dif_pos, dif_neg, not_false_eq_true]
  refine congrArg _ (sum_fin 16 _ _ fun r => ?_)
  unfold part
  rw [rd_at (n := 16) (m := 2048) d r.val q.val r.isLt q.isLt,
    rd_at (n := 16) (m := 2048) h r.val q.val r.isLt q.isLt, rd_at (n := 16) (m := 1) s r.val 0 r.isLt Nat.one_pos]
  rfl

/-! ## A point's blocks -/

section Point
variable (x0 : Vec Ideal S8x272x704 .bf16) (x1 : Vec Ideal S8x704x2048 .bf16) (x2 x3 : Vec Ideal S272x2048 .f32) (x4 : Vec Ideal S272x1 .f32) (x5 : Vec Ideal S1x2048 .f32) (x6 : Vec Ideal S272x2048 .f32)

/-- One slab's products. -/
def slab (g : Vec Ideal S1x272x704 .bf16) (w : Vec Ideal S1x704x2048 .bf16) (r : Fin 272) (q : Fin 2048) : EReal := ∑ l : Fin 704, g (ix3 (0 : Fin 1) r l) * w (ix3 (0 : Fin 1) l q)

/-- A slab's products by row and column. -/
theorem slab_eq (o : ℕ) (ho : o < 8) (r : Fin 272) (q : Fin 2048) : slab (gs x0 o ho) (ws x1 o ho) r q = ∑ l ∈ Finset.range 704, rd3 x0 o r.val l * rd3 x1 o l q.val :=
  sum_fin 704 _ _ fun l => congrArg₂ (fun x y : EReal => x * y)
    (eq_rd3 (p := 8) (n := 272) (m := 704) x0 _ _ _ _ (by show o + 1 * 0 = o; omega) (by show 0 + 1 * r.val = _; omega) (by show 0 + 1 * l.val = _; omega))
    (eq_rd3 (p := 8) (n := 704) (m := 2048) x1 _ _ _ _ (by show o + 1 * 0 = o; omega) (by show 0 + 1 * l.val = _; omega) (by show 0 + 1 * q.val = _; omega))

/-- The body's sum of eight products, added to what is given. -/
theorem pay8_at (g0 g1 g2 g3 g4 g5 g6 g7 : Vec Ideal S1x272x704 .bf16) (w0 w1 w2 w3 w4 w5 w6 w7 : Vec Ideal S1x704x2048 .bf16) (r : Fin 272) (q : Fin 2048) :
    (k0_pay8 (F := Ideal) x2 (k0_pay6 (F := Ideal) g0 w0 g1 w1 g2 w2 g3 w3) (k0_pay7 (F := Ideal) g4) w4 g5 w5 g6 w6 g7 w7) (ix2 r q)
      = x2 (ix2 r q) + (slab g0 w0 r q + slab g1 w1 r q + slab g2 w2 r q + slab g3 w3 r q + slab g4 w4 r q + slab g5 w5 r q + slab g6 w6 r q + slab g7 w7 r q) := by
  unfold k0_pay8 k0_pay7 k0_pay6 slab
  simp only [pointwise, zero_add]

/-- The gradient of the norm's result. -/
theorem dhM_eq : dhM x0 x1 x2 = gradM (n := 272) x2 x0 x1 := by
  refine ext2 fun r q => (pay8_at x2 _ _ _ _ _ _ _ _ _ _ _ _ _ _ _ _ r q).trans ?_
  simp only [slab_eq]
  refine congrArg₂ (fun x y : EReal => x + y) (eq_rd (n := 272) (m := 2048) x2 _ _ _ rfl rfl) ?_
  simp only [Finset.sum_range_succ _ 7, Finset.sum_range_succ _ 6, Finset.sum_range_succ _ 5, Finset.sum_range_succ _ 4, Finset.sum_range_succ _ 3,
    Finset.sum_range_succ _ 2, Finset.sum_range_succ _ 1, Finset.sum_range_succ _ 0, Finset.sum_range_zero, zero_add]
  rfl

/-- A trip's rows of a block, -/
theorem ld_row (H : Vec Ideal S272x2048 .f32) (k : Fin k0_t1_loop.trips) (r j : ℕ) (hr : r < 16) (hj : j < 2048) :
    rd (View.ld (Val := Elt Ideal) (e' := .f32) H (rw1 k) : Vec Ideal S16x2048 .f32) r j = rd H (16 * k.val + r) j := by
  obtain ⟨e0, e1, -⟩ := off_at k
  refine (rd_at (n := 16) (m := 2048) _ r j hr hj).trans (eq_rd (n := 272) (m := 2048) H _ _ _ ?_ ?_)
  · show k0_off1 k 0 + 1 * r = _
    omega
  · show k0_off1 k 1 + 1 * j = _
    omega

/-- and of its roots. -/
theorem ld_root (R : Vec Ideal S272x1 .f32) (k : Fin k0_t1_loop.trips) (r : ℕ) (hr : r < 16) :
    rd (View.ld (Val := Elt Ideal) (e' := .f32) R (rw2 k) : Vec Ideal S16x1 .f32) r 0 = rd R (16 * k.val + r) 0 := by
  obtain ⟨-, -, e2, e3⟩ := off_at k
  refine (rd_at (n := 16) (m := 1) _ r 0 hr Nat.one_pos).trans (eq_rd (n := 272) (m := 1) R _ _ _ ?_ ?_)
  · show k0_off2 k 0 + 1 * r = _
    omega
  · show k0_off2 k 1 + 1 * 0 = _
    omega

/-- A trip's rows are the block's. -/
theorem row_at (D : Vec Ideal S272x2048 .f32) (k : Fin k0_t1_loop.trips) (x : S16x2048.Idx) : rowV D x3 x4 x5 x6 k x = backM (n := 272) D x3 x6 x4 x5 ((rw1 k).emb x) := by
  obtain ⟨e0, e1, -⟩ := off_at k
  have h0 : (x 0).val < 16 := (x 0).isLt
  have h1 : (x 1).val < 2048 := (x 1).isLt
  have f0 : ((rw1 k).emb x 0).val = 16 * k.val + (x 0).val := by
    show k0_off1 k 0 + 1 * (x 0).val = _
    omega
  have f1 : ((rw1 k).emb x 1).val = (x 1).val := by
    show k0_off1 k 1 + 1 * (x 1).val = _
    omega
  refine (congrFun (pay5_eq _ _ _ _ _) x).trans ?_
  unfold backM dots
  rw [f0, f1, ld_row D k _ _ h0 h1, ld_row x3 k _ _ h0 h1, ld_row x6 k _ _ h0 h1, ld_root x4 k _ h0]
  refine congrArg (bk _ _ _ _ _) (Finset.sum_congr rfl fun j hj => ?_)
  have hj := Finset.mem_range.mp hj
  rw [ld_row D k _ _ h0 hj, ld_row x3 k _ _ h0 hj]

/-- The rows a point leaves, -/
theorem o7_eq : o7 x0 x1 x2 x3 x4 x5 x6 = backM (n := 272) (gradM (n := 272) x2 x0 x1) x3 x6 x4 x5 := by
  rw [← dhM_eq]
  unfold o7
  exact funext fun y => View.canon_apply_of_pieces (Val := Elt Ideal) (S := S272x2048) (e := .f32) (backM (n := 272) (dhM x0 x1 x2) x3 x6 x4 x5)
    (pcs (rowV (dhM x0 x1 x2) x3 x4 x5 x6) k0_t1_loop.trips)
    (of_mem (rowV (dhM x0 x1 x2) x3 x4 x5 x6) (P := fun p => ∀ x, p.2 x = backM (n := 272) (dhM x0 x1 x2) x3 x6 x4 x5 (p.1.emb x)) (fun k x => row_at x3 x4 x5 x6 _ k x) _) y (cover _ y)

/-- their copy, -/
theorem o8_eq : o8 x0 x1 x2 x3 x4 x5 x6 = backM (n := 272) (gradM (n := 272) x2 x0 x1) x3 x6 x4 x5 := by
  rw [← dhM_eq]
  unfold o8
  exact funext fun y => View.canon_apply_of_pieces (Val := Elt Ideal) (S := S272x2048) (e := .bf16) (backM (n := 272) (dhM x0 x1 x2) x3 x6 x4 x5)
    (pcs (fun k => k0_pay2 (F := Ideal) (rowV (dhM x0 x1 x2) x3 x4 x5 x6 k)) k0_t1_loop.trips)
    (of_mem (F := Ideal) (e := .bf16) (fun k => k0_pay2 (F := Ideal) (rowV (dhM x0 x1 x2) x3 x4 x5 x6 k)) (P := fun p : View.Piece (Elt Ideal) S272x2048 .bf16 => ∀ x, p.2 x = backM (n := 272) (dhM x0 x1 x2) x3 x6 x4 x5 (p.1.emb x)) (fun k x => row_at x3 x4 x5 x6 _ k x) _) y (cover _ y)

/-- the sum after `n` trips, -/
theorem acc_at (D : Vec Ideal S272x2048 .f32) (y : S1x1x2048.Idx) : ∀ n, n ≤ k0_t1_loop.trips →
    acc D x3 x4 n y = ∑ r ∈ Finset.range (16 * n), part (n := 272) D x3 x4 r (y 2).val
  | 0 => fun _ => by
    show k0_pay1 (F := Ideal) (k0_pay9 (F := Ideal)) y = 0
    obtain ⟨a, b, q, rfl⟩ : ∃ (a : Fin 1) (b : Fin 1) (q : Fin 2048), y = ix3 a b q := ⟨y 0, y 1, y 2, eq_ix3 y⟩
    unfold k0_pay1 k0_pay9
    simp only [pointwise]
  | n + 1 => fun h => by
    have h' : n < k0_t1_loop.trips := h
    rw [acc, dif_pos h', show 16 * (n + 1) = 16 * n + 16 by omega, Finset.sum_range_add, ← acc_at D y n h'.le]
    refine (pay4_at _ _ _ _ y).trans (congrArg _ (Finset.sum_congr rfl fun r hr => ?_))
    have hr := Finset.mem_range.mp hr
    have hy : (y 2).val < 2048 := (y 2).isLt
    unfold part
    rw [ld_row D ⟨n, h'⟩ _ _ hr hy, ld_row x3 ⟨n, h'⟩ _ _ hr hy, ld_root x4 ⟨n, h'⟩ _ hr]

/-- and at the end. -/
theorem o9_at (y : S1x1x2048.Idx) : o9 x0 x1 x2 x3 x4 y = ∑ r ∈ Finset.range 272, part (n := 272) (gradM (n := 272) x2 x0 x1) x3 x4 r (y 2).val := by
  unfold o9
  rw [dhM_eq, acc_at x3 x4 _ y _ le_rfl, trips_eq]
end Point

/-! ## The blocks of the arguments -/

variable (m : (ℓ : Loc nD τ sig) → Buf (Elt Ideal) ℓ) (ρ : Dev nD → PrngReg) (c : Dev nD)

/-- The products' gradient, as launched. -/
abbrev arrX : Vec Ideal S8x4352x704 .bf16 := m ((c : Thread nD τ).loc main_arg0)
/-- The weight, as launched. -/
abbrev arrW : Vec Ideal S8x704x2048 .bf16 := m ((c : Thread nD τ).loc main_arg1)
/-- The other part of the gradient, as launched. -/
abbrev arrA : Vec Ideal S4352x2048 .f32 := m ((c : Thread nD τ).loc main_arg2)
/-- The normalised values, as launched. -/
abbrev arrH : Vec Ideal S4352x2048 .f32 := m ((c : Thread nD τ).loc main_arg3)
/-- The norm's scale, as launched. -/
abbrev arrN : Vec Ideal S1x2048 .f32 := m ((c : Thread nD τ).loc main_arg4)
/-- The residual's gradient, as launched. -/
abbrev arrE : Vec Ideal S4352x2048 .f32 := m ((c : Thread nD τ).loc main_arg5)
/-- The gradient of the norm's result. -/
abbrev arrD : Vec Ideal S4352x2048 .f32 := gradM (n := 4352) (arrA m c) (arrX m c) (arrW m c)
/-- The gradient through the norm. -/
abbrev arrB : Vec Ideal S4352x2048 .f32 := backM (n := 4352) (arrD m c) (arrH m c) (arrE m c) (rootM (n := 4352) (arrH m c)) (arrN m c)
/-- The scale's gradient in parts. -/
abbrev arrS : Vec Ideal S16x1x2048 .f32 := scaleM (n := 4352) (arrD m c) (arrH m c) (rootM (n := 4352) (arrH m c))

/-- The host's reciprocal roots. -/
theorem V_main_v7 : V m c main_v7 = rootM (n := 4352) (arrH m c) := by
  unfold_abbrev_sides
  after_results
  refine ext2 (n := 4352) (m := 1) fun r z => ?_
  simp only [pointwise, zero_add, show ¬(4352 : ℕ) = 1 by decide, dif_neg, not_false_eq_true]
  exact congrArg Cert.Kernel15Ideal.Norm.inv (sum_fin 2048 _ _ fun l => congrArg₂ (fun x y : EReal => x * y)
    (eq_rd (n := 4352) (m := 2048) (arrH m c) _ _ _ rfl rfl) (eq_rd (n := 4352) (m := 2048) (arrH m c) _ _ _ rfl rfl))

/-- Point `t` is given row block `t`, the whole weight and the whole scale. -/
theorem idx_in : ∀ t : Fin grid0.N, (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0 ∧ win0_9.index t 2 = 0) := by decide +kernel

/-- The block of the products' gradient. -/
theorem blk0 (t : Fin cfg0.N) (q r k : ℕ) (hq : q < 8) (hr : r < 272) (hk : k < 704) :
    rd3 (iblk m c 0 t : Vec Ideal S8x272x704 .bf16) q r k = rd3 (arrX m c) q (272 * t.val + r) k := by
  have e := (idx_in t).1
  refine (rd3_at (p := 8) (n := 272) (m := 704) _ q r k hq hr hk).trans ?_
  refine eq_rd3 (p := 8) (n := 4352) (m := 704) (arrX m c) (((cfg0.win 0).blk t).view.emb (ValueIdx.ix3 (⟨q, hq⟩ : Fin 8) (⟨r, hr⟩ : Fin 272) (⟨k, hk⟩ : Fin 704))) _ _ _ ?_ ?_ ?_
  · show win0_0.index t 0 * 8 + 1 * q = _
    omega
  · show win0_0.index t 1 * 272 + 1 * r = _
    omega
  · show win0_0.index t 2 * 704 + 1 * k = _
    omega

/-- The weight. -/
theorem blk1 (t : Fin cfg0.N) (q r k : ℕ) (hq : q < 8) (hr : r < 704) (hk : k < 2048) :
    rd3 (iblk m c 1 t : Vec Ideal S8x704x2048 .bf16) q r k = rd3 (arrW m c) q r k := by
  have e := (idx_in t).2.1
  refine (rd3_at (p := 8) (n := 704) (m := 2048) _ q r k hq hr hk).trans ?_
  refine eq_rd3 (p := 8) (n := 704) (m := 2048) (arrW m c) (((cfg0.win 1).blk t).view.emb (ValueIdx.ix3 (⟨q, hq⟩ : Fin 8) (⟨r, hr⟩ : Fin 704) (⟨k, hk⟩ : Fin 2048))) _ _ _ ?_ ?_ ?_
  · show win0_1.index t 0 * 8 + 1 * q = _
    omega
  · show win0_1.index t 1 * 704 + 1 * r = _
    omega
  · show win0_1.index t 2 * 2048 + 1 * k = _
    omega

/-- The block of the other part, -/
theorem blk2 (t : Fin cfg0.N) (r k : ℕ) (hr : r < 272) (hk : k < 2048) :
    rd (iblk m c 2 t : Vec Ideal S272x2048 .f32) r k = rd (arrA m c) (272 * t.val + r) k := by
  have e := (idx_in t).2.2.1
  refine (rd_at (n := 272) (m := 2048) _ r k hr hk).trans ?_
  refine eq_rd (n := 4352) (m := 2048) (arrA m c) (((cfg0.win 2).blk t).view.emb (ValueIdx.ix2 (⟨r, hr⟩ : Fin 272) (⟨k, hk⟩ : Fin 2048))) _ _ ?_ ?_
  · show win0_2.index t 0 * 272 + 1 * r = _
    omega
  · show win0_2.index t 1 * 2048 + 1 * k = _
    omega

/-- of the normalised values, -/
theorem blk3 (t : Fin cfg0.N) (r k : ℕ) (hr : r < 272) (hk : k < 2048) :
    rd (iblk m c 3 t : Vec Ideal S272x2048 .f32) r k = rd (arrH m c) (272 * t.val + r) k := by
  have e := (idx_in t).2.2.2.1
  refine (rd_at (n := 272) (m := 2048) _ r k hr hk).trans ?_
  refine eq_rd (n := 4352) (m := 2048) (arrH m c) (((cfg0.win 3).blk t).view.emb (ValueIdx.ix2 (⟨r, hr⟩ : Fin 272) (⟨k, hk⟩ : Fin 2048))) _ _ ?_ ?_
  · show win0_3.index t 0 * 272 + 1 * r = _
    omega
  · show win0_3.index t 1 * 2048 + 1 * k = _
    omega

/-- and of the residual's gradient. -/
theorem blk6 (t : Fin cfg0.N) (r k : ℕ) (hr : r < 272) (hk : k < 2048) :
    rd (iblk m c 6 t : Vec Ideal S272x2048 .f32) r k = rd (arrE m c) (272 * t.val + r) k := by
  have e := (idx_in t).2.2.2.2.2.2.1
  refine (rd_at (n := 272) (m := 2048) _ r k hr hk).trans ?_
  refine eq_rd (n := 4352) (m := 2048) (arrE m c) (((cfg0.win 6).blk t).view.emb (ValueIdx.ix2 (⟨r, hr⟩ : Fin 272) (⟨k, hk⟩ : Fin 2048))) _ _ ?_ ?_
  · show win0_6.index t 0 * 272 + 1 * r = _
    omega
  · show win0_6.index t 1 * 2048 + 1 * k = _
    omega

/-- The block of the reciprocal roots. -/
theorem blk4 (t : Fin cfg0.N) (r : ℕ) (hr : r < 272) : rd (iblk m c 4 t : Vec Ideal S272x1 .f32) r 0 = rd (rootM (n := 4352) (arrH m c)) (272 * t.val + r) 0 := by
  have e := (idx_in t).2.2.2.2.1
  refine (rd_at (n := 272) (m := 1) _ r 0 hr Nat.one_pos).trans ?_
  rw [← V_main_v7]
  refine eq_rd (n := 4352) (m := 1) (V m c main_v7) (((cfg0.win 4).blk t).view.emb (ValueIdx.ix2 (⟨r, hr⟩ : Fin 272) (⟨0, Nat.one_pos⟩ : Fin 1))) _ _ ?_ ?_
  · show win0_4.index t 0 * 272 + 1 * r = _
    omega
  · show win0_4.index t 1 * 1 + 1 * 0 = _
    omega

/-- The scale. -/
theorem blk5 (t : Fin cfg0.N) (k : ℕ) (hk : k < 2048) : rd (iblk m c 5 t : Vec Ideal S1x2048 .f32) 0 k = rd (arrN m c) 0 k := by
  have e := (idx_in t).2.2.2.2.2.1
  refine (rd_at (n := 1) (m := 2048) _ 0 k (by omega) hk).trans ?_
  refine eq_rd (n := 1) (m := 2048) (arrN m c) (((cfg0.win 5).blk t).view.emb (ValueIdx.ix2 (0 : Fin 1) (⟨k, hk⟩ : Fin 2048))) _ _ ?_ ?_
  · show win0_5.index t 0 * 1 + 1 * 0 = _
    omega
  · show win0_5.index t 1 * 2048 + 1 * k = _
    omega

/-- A block's gradient of the norm's result is the rows'. -/
theorem grad_blk (t : Fin cfg0.N) (r k : ℕ) (hr : r < 272) (hk : k < 2048) :
    rd (gradM (n := 272) (iblk m c 2 t) (iblk m c 0 t) (iblk m c 1 t)) r k = rd (arrD m c) (272 * t.val + r) k := by
  have ht : t.val < 16 := Nat.lt_of_lt_of_eq t.isLt N_0
  rw [rd_at (n := 272) (m := 2048) _ r k hr hk, rd_at (n := 4352) (m := 2048) _ (272 * t.val + r) k (by omega) hk]
  refine congrArg₂ (fun x y : EReal => x + y) (blk2 m c t r k hr hk) (Finset.sum_congr rfl fun q hq => Finset.sum_congr rfl fun l hl => ?_)
  have hq := Finset.mem_range.mp hq
  have hl := Finset.mem_range.mp hl
  exact congrArg₂ (fun x y : EReal => x * y) (blk0 m c t q r l hq hr hl) (blk1 m c t q l k hq hl hk)

/-- A block's gradient through the norm is the rows'. -/
theorem back_blk (t : Fin cfg0.N) (y : S272x2048.Idx) (z : S4352x2048.Idx) (h0 : (z 0).val = 272 * t.val + (y 0).val) (h1 : (z 1).val = (y 1).val) :
    backM (n := 272) (gradM (n := 272) (iblk m c 2 t) (iblk m c 0 t) (iblk m c 1 t)) (iblk m c 3 t) (iblk m c 6 t) (iblk m c 4 t) (iblk m c 5 t) y = arrB m c z := by
  have y0 : (y 0).val < 272 := (y 0).isLt
  have y1 : (y 1).val < 2048 := (y 1).isLt
  show bk _ _ _ _ _ (dots (n := 272) _ _ _ _) = bk _ _ _ _ _ (dots (n := 4352) _ _ _ _)
  unfold dots
  rw [h0, h1, blk6 m c t _ _ y0 y1, blk3 m c t _ _ y0 y1, grad_blk m c t _ _ y0 y1, blk4 m c t _ y0, blk5 m c t _ y1]
  refine congrArg (bk _ _ _ _ _) (Finset.sum_congr rfl fun j hj => ?_)
  have hj := Finset.mem_range.mp hj
  rw [grad_blk m c t _ _ y0 hj, blk3 m c t _ _ y0 hj, blk5 m c t _ hj]

/-! ## The results -/

/-- The rows a point writes back. -/
theorem flushed7 (t : Fin cfg0.N) : (dats m 0 c).flushed 7 t = ((cfg0.win 7).blk t).view.read (Elt Ideal) (arrB m c) := by
  show (cfg0.win 7).cut (grid0.coords t) ((dats m 0 c).after 7 t) = _
  rw [after7, o7_eq]
  obtain ⟨e0, e1⟩ := (idx_in t).2.2.2.2.2.2.2.1
  funext y
  refine back_blk m c t y (((cfg0.win 7).blk t).view.emb y) ?_ ?_
  · show win0_7.index t 0 * 272 + 1 * (y 0).val = _
    omega
  · show win0_7.index t 1 * 2048 + 1 * (y 1).val = _
    omega

/-- Every entry is in some point's block. -/
theorem cover7 (i : S4352x2048.Idx) : ∃ t : Fin cfg0.N, (cfg0.win 7).flush t = true ∧ i ∈ ((cfg0.win 7).blk t).view.set := by
  have h0 : (i 0).val < 4352 := (i 0).isLt
  have h1 : (i 1).val < 2048 := (i 1).isLt
  obtain ⟨t, ht⟩ : ∃ t : Fin cfg0.N, t.val = (i 0).val / 272 :=
    ⟨⟨(i 0).val / 272, Nat.lt_of_lt_of_eq (show _ < 16 by omega) N_0.symm⟩, rfl⟩
  obtain ⟨e0, e1⟩ := (idx_in t).2.2.2.2.2.2.2.1
  refine ⟨t, flush0_7 _, ?_⟩
  show i ∈ ((View.whole main_v8_0).slice (win0_7.rect t)).set
  rw [View.set_slice_whole, Rect.mem_set_unit]
  intro a
  match a with
  | ⟨0, _⟩ =>
    show win0_7.index t 0 * 272 ≤ (i 0).val ∧ (i 0).val < win0_7.index t 0 * 272 + 272
    omega
  | ⟨1, _⟩ =>
    show win0_7.index t 1 * 2048 ≤ (i 1).val ∧ (i 1).val < win0_7.index t 1 * 2048 + 2048
    omega

/-- The rows' copy a point writes back. -/
theorem flushed8 (t : Fin cfg0.N) : (dats m 0 c).flushed 8 t = ((cfg0.win 8).blk t).view.read (Elt Ideal) (arrB m c) := by
  show (cfg0.win 8).cut (grid0.coords t) ((dats m 0 c).after 8 t) = _
  rw [after8, o8_eq]
  obtain ⟨e0, e1⟩ := (idx_in t).2.2.2.2.2.2.2.2.1
  funext y
  refine back_blk m c t y (((cfg0.win 8).blk t).view.emb y) ?_ ?_
  · show win0_8.index t 0 * 272 + 1 * (y 0).val = _
    omega
  · show win0_8.index t 1 * 2048 + 1 * (y 1).val = _
    omega

/-- Every entry is in some point's block. -/
theorem cover8 (i : S4352x2048.Idx) : ∃ t : Fin cfg0.N, (cfg0.win 8).flush t = true ∧ i ∈ ((cfg0.win 8).blk t).view.set := by
  have h0 : (i 0).val < 4352 := (i 0).isLt
  have h1 : (i 1).val < 2048 := (i 1).isLt
  obtain ⟨t, ht⟩ : ∃ t : Fin cfg0.N, t.val = (i 0).val / 272 :=
    ⟨⟨(i 0).val / 272, Nat.lt_of_lt_of_eq (show _ < 16 by omega) N_0.symm⟩, rfl⟩
  obtain ⟨e0, e1⟩ := (idx_in t).2.2.2.2.2.2.2.2.1
  refine ⟨t, flush0_8 _, ?_⟩
  show i ∈ ((View.whole main_v8_1).slice (win0_8.rect t)).set
  rw [View.set_slice_whole, Rect.mem_set_unit]
  intro a
  match a with
  | ⟨0, _⟩ =>
    show win0_8.index t 0 * 272 ≤ (i 0).val ∧ (i 0).val < win0_8.index t 0 * 272 + 272
    omega
  | ⟨1, _⟩ =>
    show win0_8.index t 1 * 2048 ≤ (i 1).val ∧ (i 1).val < win0_8.index t 1 * 2048 + 2048
    omega

/-- The part of the scale's gradient a point writes back. -/
theorem flushed9 (t : Fin cfg0.N) : (dats m 0 c).flushed 9 t = ((cfg0.win 9).blk t).view.read (Elt Ideal) (arrS m c) := by
  show (cfg0.win 9).cut (grid0.coords t) ((dats m 0 c).after 9 t) = _
  rw [after9]
  obtain ⟨e0, e1, e2⟩ := (idx_in t).2.2.2.2.2.2.2.2.2
  funext y
  have y0 : (y 0).val < 1 := (y 0).isLt
  have y2 : (y 2).val < 2048 := (y 2).isLt
  have f0 : (((cfg0.win 9).blk t).view.emb y 0).val = t.val := by
    show win0_9.index t 0 * 1 + 1 * (y 0).val = _
    omega
  have f2 : (((cfg0.win 9).blk t).view.emb y 2).val = (y 2).val := by
    show win0_9.index t 2 * 2048 + 1 * (y 2).val = _
    omega
  refine (o9_at _ _ _ _ _ y).trans ?_
  show _ = ∑ r ∈ Finset.range 272, part (n := 4352) _ _ _ (272 * (((cfg0.win 9).blk t).view.emb y 0).val + r) (((cfg0.win 9).blk t).view.emb y 2).val
  rw [f0, f2]
  refine Finset.sum_congr rfl fun r hr => ?_
  have hr := Finset.mem_range.mp hr
  unfold part
  rw [grad_blk m c t _ _ hr y2, blk3 m c t _ _ hr y2, blk4 m c t _ hr]

/-- Every entry is in some point's block. -/
theorem cover9 (i : S16x1x2048.Idx) : ∃ t : Fin cfg0.N, (cfg0.win 9).flush t = true ∧ i ∈ ((cfg0.win 9).blk t).view.set := by
  have h0 : (i 0).val < 16 := (i 0).isLt
  have h1 : (i 1).val < 1 := (i 1).isLt
  have h2 : (i 2).val < 2048 := (i 2).isLt
  obtain ⟨t, ht⟩ : ∃ t : Fin cfg0.N, t.val = (i 0).val := ⟨⟨(i 0).val, Nat.lt_of_lt_of_eq h0 N_0.symm⟩, rfl⟩
  obtain ⟨e0, e1, e2⟩ := (idx_in t).2.2.2.2.2.2.2.2.2
  refine ⟨t, flush0_9 _, ?_⟩
  show i ∈ ((View.whole main_v8_2).slice (win0_9.rect t)).set
  rw [View.set_slice_whole, Rect.mem_set_unit]
  intro a
  match a with
  | ⟨0, _⟩ =>
    show win0_9.index t 0 * 1 ≤ (i 0).val ∧ (i 0).val < win0_9.index t 0 * 1 + 1
    omega
  | ⟨1, _⟩ =>
    show win0_9.index t 1 * 1 ≤ (i 1).val ∧ (i 1).val < win0_9.index t 1 * 1 + 1
    omega
  | ⟨2, _⟩ =>
    show win0_9.index t 2 * 2048 ≤ (i 2).val ∧ (i 2).val < win0_9.index t 2 * 2048 + 2048
    omega

/-- The kernel's run: the gradient through the norm, its copy and the scale's gradient, the arguments unchanged. -/
theorem run : θ_run defs (onTc (τ := τ) (main (F := Ideal))) ⟨m, fun _ => 0, ρ⟩ fun r => ∀ c : Dev nD,
      r.2.mem ((c : Thread nD τ).loc main_v8_0) = arrB m c
      ∧ r.2.mem ((c : Thread nD τ).loc main_v8_1) = arrB m c
      ∧ r.2.mem ((c : Thread nD τ).loc main_v8_2) = arrS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 7).trans ((dats m 0 c).arrAt_eq_of_cover 7 (arrB m c) (fun t _ => flushed7 m c t) cover7),
      ((h.1 c).1 8).trans ((dats m 0 c).arrAt_eq_of_cover 8 (arrB m c) (fun t _ => flushed8 m c t) cover8),
      ((h.1 c).1 9).trans ((dats m 0 c).arrAt_eq_of_cover 9 (arrS m c) (fun t _ => flushed9 m c t) cover9), h.2 c⟩)
    (θ_run_and (arrays m ρ) (frame_of m ρ (dats m) (A_eq m) (arrays m ρ)))

end Cert.Kernel16Ideal.Back

namespace Cert.Reference16Ideal.Back

open Idealize.ShloMosaic Idealize.ShloMosaic.TcCoe Idealize.SL.Sem Cert.Reference16Ideal Cert.Reference16Ideal.Gen Cert.Prods
open Cert.KernelIdeal.Conv (rd rd3 eq_rd eq_rd3 rd_at rd3_at)
open Cert.Kernel15Ideal.Norm (inv ext2)
open Cert.Kernel16Ideal.Back (bk dots backM part gradM scaleM sqM rootM)

/-! ## One entry -/

/-- The small constant, -/
theorem eps_eq : Ideal.ofBits .f32 0x358637BD#32 = ((8796093 / 8796093022208 : ℝ) : EReal) := by
  simp [Ideal.ofBits, Ideal.ieee, -EReal.coe_mul]; norm_num
/-- the row's length, -/
theorem len_eq : Ideal.ofBits .f32 0x45000000#32 = ((2048 : ℝ) : EReal) := by
  simp [Ideal.ofBits, Ideal.ieee, -EReal.coe_mul]; norm_num
/-- and minus a half. -/
theorem neg_half_eq : Ideal.ofBits .f32 0xBF000000#32 = ((-(1 / 2) : ℝ) : EReal) := by
  simp [Ideal.ofBits, Ideal.ieee, -EReal.coe_mul]; norm_num

/-- The cube of a reciprocal root is the root over its square, and real: infinite squares included. -/
theorem cube (s : EReal) (hs : 0 ≤ s) : ∃ p : ℝ, inv s * inv s * inv s = (p : EReal)
    ∧ Ideal.div (inv s) (Ideal.div s (Ideal.ofBits .f32 0x45000000#32) + Ideal.ofBits .f32 0x358637BD#32) = (p : EReal) := by
  unfold Cert.Kernel15Ideal.Norm.inv
  rw [len_eq, eps_eq, Ideal.div_coe (by norm_num)]
  induction s with
  | bot => exact absurd hs (by simp)
  | top =>
    refine ⟨0, ?_⟩
    rw [EReal.top_mul_coe_of_pos (by norm_num), EReal.top_add_coe, Ideal.rsqrt_top]
    refine ⟨by simp, ?_⟩
    unfold Ideal.div
    simp
  | coe x =>
    have hx : 0 ≤ x := by exact_mod_cast hs
    have hp : 0 < x * (1 / 2048) + 8796093 / 8796093022208 := by positivity
    rw [← EReal.coe_mul, ← EReal.coe_add]
    generalize x * (1 / 2048) + 8796093 / 8796093022208 = y at hp
    rw [Ideal.rsqrt_coe, if_neg (not_lt.mpr hp.le), if_neg hp.ne', Ideal.div_coe hp.ne', ← EReal.coe_mul, ← EReal.coe_mul, ← EReal.coe_mul]
    refine ⟨_, rfl, congrArg _ ?_⟩
    rw [mul_assoc (Real.sqrt y)⁻¹, ← mul_inv, Real.mul_self_sqrt hp.le, one_div]

/-- Twice a value. -/
theorem twice (a : EReal) : a + a = a * ((2 : ℝ) : EReal) := by
  induction a with
  | bot => rw [EReal.bot_mul_coe_of_pos (by norm_num)]; rfl
  | top => rw [EReal.top_mul_coe_of_pos (by norm_num)]; rfl
  | coe x => rw [← EReal.coe_add, ← EReal.coe_mul]; exact congrArg _ (by ring)

/-- An entry as the reference has it is the entry as the kernel has it. -/
theorem entry (e d h g z s : EReal) (hs : 0 ≤ s) :
    e + (d * g * inv s + h * Ideal.div (z * (Ideal.ofBits .f32 0xBF000000#32 * Ideal.div (inv s) (Ideal.div s (Ideal.ofBits .f32 0x45000000#32) + Ideal.ofBits .f32 0x358637BD#32))) (Ideal.ofBits .f32 0x45000000#32)
      + Ideal.div (z * (Ideal.ofBits .f32 0xBF000000#32 * Ideal.div (inv s) (Ideal.div s (Ideal.ofBits .f32 0x45000000#32) + Ideal.ofBits .f32 0x358637BD#32))) (Ideal.ofBits .f32 0x45000000#32) * h)
      = bk e d h (inv s) g z := by
  obtain ⟨p, h1, h2⟩ := cube s hs
  unfold bk
  rw [h1, h2, neg_half_eq, len_eq, Ideal.div_coe (by norm_num), Ideal.div_coe (by norm_num), ← EReal.coe_mul, mul_assoc z, ← EReal.coe_mul,
    show (-(1 / 2) * p * (1 / 2048) : ℝ) = -(p / 4096) by ring, EReal.coe_neg, mul_neg, mul_neg, neg_mul, sub_eq_add_neg, add_assoc (d * g * inv s), ← add_assoc e,
    mul_comm (d * g) (inv s), mul_comm (z * ((p / 4096 : ℝ) : EReal)) h]
  refine congrArg _ ((twice _).trans ?_)
  rw [neg_mul]
  refine congrArg _ ?_
  rw [mul_assoc h, mul_assoc h, mul_assoc z, ← EReal.coe_mul, mul_left_comm (p : EReal), ← EReal.coe_mul]
  exact congrArg (fun t : ℝ => h * (z * (t : EReal))) (by ring)

/-! ## The rows -/

section Rows
variable (D H E : FVec Ideal S4352x2048 .f32) (N : FVec Ideal S1x2048 .f32)

/-- Rows in groups of 272. -/
abbrev h3 : FVec Ideal S16x272x2048 .f32 := shapeCast S16x272x2048 H shapeCasts_S4352x2048_S16x272x2048
/-- The scaled gradient. -/
abbrev t3 : FVec Ideal S16x272x2048 .f32 :=
  mulf (h3 D) (broadcastInDim S16x272x2048 ![0, 1, 2] bcast_S16x1x2048_S16x272x2048_0_1_2 (broadcastInDim S16x1x2048 ![1, 2] bcast_S1x2048_S16x1x2048_1_2 N))
/-- The rows' mean squares and the small constant. -/
abbrev ms : FVec Ideal S16x272x1 .f32 :=
  addf (Host.divf (broadcastInDim S16x272x1 ![0, 1] bcast_S16x272_S16x272x1_0_1 (Host.reduceAdd (mulf (h3 H) (h3 H)) (constant S_ .f32 0x00000000#32) reducesTo_S16x272x2048_S16x272_d2 h_S_))
    (broadcastInDim S16x272x1 ![] bcast_S_S16x272x1 (constant S_ .f32 0x45000000#32))) (broadcastInDim S16x272x1 ![] bcast_S_S16x272x1 (constant S_ .f32 0x358637BD#32))
/-- Half of what the rows' mean squares take back. -/
abbrev z3 : FVec Ideal S16x272 .f32 :=
  Host.reduceAdd (Host.divf (mulf (shapeCast S16x272x1 (Host.reduceAdd (mulf (h3 H) (t3 D N)) (constant S_ .f32 0x00000000#32) reducesTo_S16x272x2048_S16x272_d2 h_S_) shapeCasts_S16x272_S16x272x1)
    (mulf (broadcastInDim S16x272x1 ![] bcast_S_S16x272x1 (constant S_ .f32 0xBF000000#32)) (Host.divf (Host.rsqrt (ms H)) (ms H))))
    (broadcastInDim S16x272x1 ![] bcast_S_S16x272x1 (constant S_ .f32 0x45000000#32))) (constant S_ .f32 0x00000000#32) reducesTo_S16x272x1_S16x272_d2 h_S_

/-- An entry of a group, -/
theorem h3_at (b : Fin 16) (r : Fin 272) (q : Fin 2048) : h3 H (ix3 b r q) = rd H (b.val * 272 + r.val) q.val :=
  (eq_rd3 (p := 16) (n := 272) (m := 2048) _ _ _ _ _ rfl rfl rfl).trans (rd3_groups (p := 16) (n := 272) (m := 2048) H _ _ _ _ b.isLt r.isLt q.isLt)

/-- of the scaled gradient, -/
theorem t3_at (b : Fin 16) (r : Fin 272) (q : Fin 2048) : t3 D N (ix3 b r q) = rd D (b.val * 272 + r.val) q.val * rd N 0 q.val := by
  unfold t3
  rw [mulf_apply, h3_at]
  refine congrArg (fun z : EReal => _ * z) ?_
  simp only [pointwise, show ¬(272 : ℕ) = 1 by decide, show ¬(16 : ℕ) = 1 by decide, show ¬(2048 : ℕ) = 1 by decide, dif_pos, dif_neg, not_false_eq_true]
  exact eq_rd (n := 1) (m := 2048) N _ _ _ rfl rfl

/-- of the mean squares, -/
theorem ms_at (b : Fin 16) (r : Fin 272) (u : Fin 1) :
    ms H (ix3 b r u) = Ideal.div (sqM (n := 4352) H (b.val * 272 + r.val)) (Ideal.ofBits .f32 0x45000000#32) + Ideal.ofBits .f32 0x358637BD#32 := by
  unfold ms
  have e := fun l => h3_at H b r l
  generalize h3 H = X at e
  simp only [pointwise, zero_add, show ¬(16 : ℕ) = 1 by decide, show ¬(272 : ℕ) = 1 by decide, dif_pos, dif_neg, not_false_eq_true]
  refine congrArg (fun z : EReal => Ideal.div z _ + _) (sum_fin 2048 _ _ fun l => ?_)
  exact congrArg₂ (fun x y : EReal => x * y) (e l) (e l)

/-- and of what is taken back. -/
theorem z3_at (b : Fin 16) (r : Fin 272) : z3 D H N (ix2 b r) = Ideal.div (dots (n := 4352) D H N (b.val * 272 + r.val)
      * (Ideal.ofBits .f32 0xBF000000#32 * Ideal.div (inv (sqM (n := 4352) H (b.val * 272 + r.val)))
        (Ideal.div (sqM (n := 4352) H (b.val * 272 + r.val)) (Ideal.ofBits .f32 0x45000000#32) + Ideal.ofBits .f32 0x358637BD#32))) (Ideal.ofBits .f32 0x45000000#32) := by
  unfold z3
  have e := fun l => h3_at H b r l
  have e' := fun l => t3_at D N b r l
  have e'' := fun u => ms_at H b r u
  generalize h3 H = X at e
  generalize t3 D N = T at e'
  generalize ms H = M at e''
  simp only [pointwise, zero_add, Fin.sum_univ_one, Finset.univ_unique, Finset.sum_singleton]
  rw [e'' default]
  refine congrArg (fun z : EReal => Ideal.div (z * _) _) (sum_fin 2048 _ _ fun l => ?_)
  rw [e l, e' l, mul_comm]

/-- A square is not negative. -/
theorem mul_self (x : EReal) : 0 ≤ x * x := by
  induction x with
  | bot => rw [EReal.bot_mul_bot]; exact le_top
  | top => rw [EReal.top_mul_top]; exact le_top
  | coe x => exact_mod_cast mul_self_nonneg x

/-- Nor are sums of squares. -/
theorem sq_nonneg (r : ℕ) : 0 ≤ sqM (n := 4352) H r := Finset.sum_nonneg fun j _ => mul_self _

/-- The gradient through the norm. -/
theorem back_eq : addf E (shapeCast S4352x2048 (addf (addf (mulf (t3 D N) (broadcastInDim S16x272x2048 ![0, 1, 2] bcast_S16x272x1_S16x272x2048_0_1_2 (Host.rsqrt (ms H))))
      (mulf (h3 H) (broadcastInDim S16x272x2048 ![0, 1] bcast_S16x272_S16x272x2048_0_1 (z3 D H N))))
      (mulf (broadcastInDim S16x272x2048 ![0, 1] bcast_S16x272_S16x272x2048_0_1 (z3 D H N)) (h3 H))) shapeCasts_S16x272x2048_S4352x2048)
      = backM (n := 4352) D H E (rootM (n := 4352) H) N := by
  refine ext2 fun r q => ?_
  have hr : r.val / 272 < 16 := by omega
  have er : r.val / 272 * 272 + r.val % 272 = r.val := Nat.div_add_mod' _ _
  have e := h3_at H ⟨r.val / 272, hr⟩ ⟨r.val % 272, Nat.mod_lt _ (by omega)⟩ q
  have e' := t3_at D N ⟨r.val / 272, hr⟩ ⟨r.val % 272, Nat.mod_lt _ (by omega)⟩ q
  have e'' := fun u => ms_at H ⟨r.val / 272, hr⟩ ⟨r.val % 272, Nat.mod_lt _ (by omega)⟩ u
  have e3 := z3_at D H N ⟨r.val / 272, hr⟩ ⟨r.val % 272, Nat.mod_lt _ (by omega)⟩
  dsimp only at e e' e'' e3
  rw [er] at e e' e'' e3
  rw [addf_apply]
  refine (congrArg (fun z : EReal => E (ix2 r q) + z) ?_).trans
    ((entry (E (ix2 r q)) (rd D r.val q.val) (rd H r.val q.val) (rd N 0 q.val) (dots (n := 4352) D H N r.val) (sqM (n := 4352) H r.val) (sq_nonneg H _)).trans ?_)
  · refine (eq_rd (n := 4352) (m := 2048) _ _ (r.val / 272 * 272 + r.val % 272) q.val er.symm rfl).trans ?_
    refine (rd_stack (p := 16) (n := 272) (m := 2048) _ _ _ _ _ hr (Nat.mod_lt _ (by omega)) q.isLt).trans ?_
    refine (rd3_ix (p := 16) (n := 272) (m := 2048) _ _ _ _ hr (Nat.mod_lt _ (by omega)) q.isLt).trans ?_
    generalize h3 H = X at e
    generalize t3 D N = T at e'
    generalize ms H = M at e''
    generalize z3 D H N = Z at e3
    simp only [pointwise, show ¬(16 : ℕ) = 1 by decide, show ¬(272 : ℕ) = 1 by decide, show ¬(2048 : ℕ) = 1 by decide, dif_pos, dif_neg, not_false_eq_true]
    refine congrArg₂ (fun x y : EReal => x + y) (congrArg₂ (fun x y : EReal => x + y) (congrArg₂ (fun x y : EReal => x * y) e' (congrArg Ideal.rsqrt (e'' _)))
      (congrArg₂ (fun x y : EReal => x * y) e e3)) (congrArg₂ (fun x y : EReal => x * y) e3 e)
  · unfold backM
    exact congrArg₂ (fun x y : EReal => bk x _ _ y _ _) (eq_rd (n := 4352) (m := 2048) E _ _ _ rfl rfl) (rd_at (n := 4352) (m := 1) (rootM (n := 4352) H) r.val 0 r.isLt Nat.one_pos).symm

/-- The scale's gradient. -/
theorem scale_eq : shapeCast S16x1x2048 (Host.reduceAdd (mulf (mulf (h3 H) (broadcastInDim S16x272x2048 ![0, 1, 2] bcast_S16x272x1_S16x272x2048_0_1_2 (Host.rsqrt (ms H)))) (h3 D))
      (constant S_ .f32 0x00000000#32) reducesTo_S16x272x2048_S16x2048_d1 h_S_) shapeCasts_S16x2048_S16x1x2048 = scaleM (n := 4352) D H (rootM (n := 4352) H) := by
  funext y
  obtain ⟨a, b, q, rfl⟩ : ∃ (a : Fin 16) (b : Fin 1) (q : Fin 2048), y = ix3 a b q := ⟨y 0, y 1, y 2, eq_ix3 y⟩
  have e := fun r => h3_at H a r q
  have e' := fun r => h3_at D a r q
  have e'' := fun r u => ms_at H a r u
  generalize h3 H = X at e
  generalize h3 D = T at e'
  generalize ms H = M at e''
  simp only [pointwise, zero_add, show ¬(16 : ℕ) = 1 by decide, show ¬(272 : ℕ) = 1 by decide, show ¬(2048 : ℕ) = 1 by decide, dif_pos, dif_neg, not_false_eq_true]
  refine sum_fin 272 _ _ fun r => ?_
  have hr : a.val * 272 + r.val < 4352 := by omega
  unfold part
  rw [show ((ix3 a b q : S16x1x2048.Idx) 0).val = a.val from rfl, show ((ix3 a b q : S16x1x2048.Idx) 2).val = q.val from rfl,
    show 272 * a.val + r.val = a.val * 272 + r.val by omega, rd_at (n := 4352) (m := 1) (rootM (n := 4352) H) _ 0 hr Nat.one_pos, ← e, ← e', mul_comm]
  exact congrArg (fun z : EReal => _ * (_ * z)) (congrArg Ideal.rsqrt (e'' _ _))

end Rows

/-- The gradient of the norm's result. -/
theorem grad_eq (A : FVec Ideal S4352x2048 .f32) (X : FVec Ideal S8x4352x704 .bf16) (W : FVec Ideal S8x704x2048 .bf16) :
    (addf A (Host.dotGeneral dot_S4352x5632_S2048x5632_S4352x2048_1_1_0_0_n_n none
      (shapeCast S4352x5632 (transpose S4352x8x704 [1, 0, 2] (extf .f32 X bitsLt_bf16_f32) transposes_S8x4352x704_S4352x8x704_1_0_2) shapeCasts_S4352x8x704_S4352x5632)
      (transpose S2048x5632 [1, 0] (shapeCast S5632x2048 (extf .f32 W bitsLt_bf16_f32) shapeCasts_S8x704x2048_S5632x2048) transposes_S5632x2048_S2048x5632_1_0)) : FVec Ideal S4352x2048 .f32)
      = gradM (n := 4352) A X W :=
  funext fun y => congrArg₂ (fun x y : EReal => x + y) (eq_rd (n := 4352) (m := 2048) A _ _ _ rfl rfl) (congrFun (Cert.Reference12Ideal.Prod.grad_eq X W) y)

end Cert.Reference16Ideal.Back

namespace Cert.Proof

open Idealize.ShloMosaic Idealize.ShloMosaic.TcCoe Idealize.SL.Sem

open Cert.Reference16Ideal.Back in
/-- The kernel computes the gradient through the norm, its copy and the scale's gradient. -/
theorem algebraic16 : Cert.algebraic_Kernel16Ideal_Reference16Ideal := fun m g m' g' _ h =>
  ⟨_, _, _, Cert.Kernel16Ideal.Back.run m g, (θ_run Cert.Reference16Ideal.defs _ _).mono (fun r k c => by
    obtain ⟨h0, h1, h2, h3, h4, h5⟩ := h c
    obtain ⟨k0, k1, k2, k⟩ := k c
    unfold Cert.Reference16Ideal.Value.res_main_v48 at k0
    unfold Cert.Reference16Ideal.Value.res_main_v49 at k1
    rw [h0, h1, h2, h3, h4, h5, grad_eq] at k0 k1
    rw [h0, h1, h2, h3, grad_eq] at k2
    exact ⟨k0.trans (back_eq _ _ _ _), k1.trans (back_eq _ _ _ _), k2.trans (scale_eq _ _), k⟩) (Cert.Reference16Ideal.Value.run m' g')⟩

end Cert.Proof

end
-- ==== Proof.Acc.lean ====
/-
  The accumulators' stores: eight rows a tap, every tap once in a trip.
-/
module

public import proofs.«01_k».proof.Proof.Pay

@[expose] public section

set_option maxRecDepth 16384

noncomputable section

namespace Cert.KernelIdeal.Conv

open Idealize.ShloMosaic Cert.KernelIdeal.Gen

variable {F : FTy → Type} [FloatOps F] {sig : RefSig} {κ : Kind} {sp : Space} {n J : ℕ} [NeZero n] [NeZero J]

/-- The first `8 j` rows after the stores `L` are those of `G`. -/
def Covers (v : View sig κ sp (⟨2, ![J, 128]⟩ : Shape) .f32) (f : v.ty.Contents (Elt F)) (G : (⟨2, ![J, 128]⟩ : Shape).Idx → F .f32) (j : ℕ)
    (L : List (View.Piece (Elt F) (⟨2, ![J, 128]⟩ : Shape) .f32)) : Prop :=
  ∀ y : (⟨2, ![J, 128]⟩ : Shape).Idx, (y 0).val < 8 * j → v.read (Elt F) (v.writes (Elt F) f L) y = G y

/-- No rows are covered before the first store. -/
theorem Covers.nil (v : View sig κ sp (⟨2, ![J, 128]⟩ : Shape) .f32) (f : v.ty.Contents (Elt F)) (G : (⟨2, ![J, 128]⟩ : Shape).Idx → F .f32) :
    Covers v f G 0 [] := fun y hy => absurd hy (by omega)

/-- A store of tap `j`'s eight rows covers them. -/
theorem Covers.cons {v : View sig κ sp (⟨2, ![J, 128]⟩ : Shape) .f32} {f : v.ty.Contents (Elt F)} {D : Vec F S4096x128 .f32}
    {V : (⟨2, ![n, 128]⟩ : Shape).Idx → F .f32} {o k : ℕ} (j : ℕ) {L : List (View.Piece (Elt F) (⟨2, ![J, 128]⟩ : Shape) .f32)}
    (hL : Covers v f (accStep D V o k (v.read (Elt F) f)) j L) {off : Fin 2 → ℕ}
    {inb : ∀ a : Fin 2, off a + (![8, 128] : Fin 2 → ℕ) a ≤ (![J, 128] : Fin 2 → ℕ) a} (hoff : off = ![8 * j, 0])
    {w : (⟨2, ![8, 128]⟩ : Shape).Idx → F .f32}
    (hw : ∀ x : (⟨2, ![8, 128]⟩ : Shape).Idx, w x = FloatOps.addf (rd (v.read (Elt F) f) (8 * j + (x 0).val) (x 1).val)
      (colSum (mulf (blockM D (128 * k)) (blockM V (128 * k + o + j))) x)) :
    Covers v f (accStep D V o k (v.read (Elt F) f)) (j + 1) (⟨Rect.unit (s := ⟨2, ![J, 128]⟩) off ![8, 128] inb, w⟩ :: L) := by
  intro y hy
  have hb : (y 1).val < 128 := (y 1).isLt
  by_cases h : (y 0).val < 8 * j
  · rw [View.read_writes_cons_unit_of_not_mem (s := ⟨2, ![J, 128]⟩) v f inb w L y hoff (0 : Fin 2)
      (by show (y 0).val < 8 * j ∨ 8 * j + 8 ≤ (y 0).val; omega)]
    exact hL y h
  · have hx : ∀ a, (y a).val = (![8 * j, 0] : Fin 2 → ℕ) a
        + ((ValueIdx.ix2 (⟨(y 0).val - 8 * j, by omega⟩ : Fin 8) (⟨(y 1).val, hb⟩ : Fin 128) : (⟨2, ![8, 128]⟩ : Shape).Idx) a).val :=
      Fin.forall_fin_two.mpr ⟨by show (y 0).val = 8 * j + ((y 0).val - 8 * j); omega, by show (y 1).val = 0 + (y 1).val; omega⟩
    rw [View.read_writes_cons_unit_of_mem (s := ⟨2, ![J, 128]⟩) v f inb w L y _ hoff hx, hw, accStep_apply]
    have e1 : 8 * j + ((y 0).val - 8 * j) = (y 0).val := by omega
    have e2 : (y 0).val / 8 = j := by omega
    have e3 : (y 0).val % 8 = (y 0).val - 8 * j := by omega
    refine congrArg₂ FloatOps.addf ?_ ?_
    · show rd _ (8 * j + ((y 0).val - 8 * j)) (y 1).val = _
      rw [e1]
    · rw [e2, e3]
      exact eq_rd _ _ _ _ rfl rfl

/-- All taps covered: the buffer is one step further on. -/
theorem Covers.all {m : Memref sig κ sp (⟨2, ![J, 128]⟩ : Shape) .f32} (h : m.IsWhole) {step : ℕ → ((⟨2, ![J, 128]⟩ : Shape).Idx → F .f32) → (⟨2, ![J, 128]⟩ : Shape).Idx → F .f32}
    {G : m.view.ty.Contents (Elt F)} {k : ℕ} (j : ℕ) (hj : J = 8 * j) {L : List (View.Piece (Elt F) (⟨2, ![J, 128]⟩ : Shape) .f32)}
    (hL : Covers m.view (stepTo (Val := Elt F) h step G k) (step k (m.view.read (Elt F) (stepTo (Val := Elt F) h step G k))) j L) :
    m.view.writes (Elt F) (stepTo (Val := Elt F) h step G k) L = stepTo (Val := Elt F) h step G (k + 1) := by
  rw [stepTo]
  refine h.eq_unread (funext fun y => hL y ?_)
  have : (y 0).val < J := (y 0).isLt
  omega

/-- One tap's accumulator: what was there plus the column sums of the products. -/
theorem acc_pay {D W : Vec F S128x128 .f32} {a : Vec F S8x128 .f32} {DM : Vec F S4096x128 .f32} {V : (⟨2, ![n, 128]⟩ : Shape).Idx → F .f32}
    {A : (⟨2, ![J, 128]⟩ : Shape).Idx → F .f32} {p q r : ℕ}
    (hD : ∀ x : S128x128.Idx, D x = rd DM (p + (x 0).val) (x 1).val) (hW : ∀ x : S128x128.Idx, W x = rd V (q + (x 0).val) (x 1).val)
    (ha : ∀ x : S8x128.Idx, a x = rd A (r + (x 0).val) (x 1).val) (x : S8x128.Idx) :
    k0_pay57 D W a x = FloatOps.addf (rd A (r + (x 0).val) (x 1).val) (colSum (mulf (blockM DM p) (blockM V q)) x) := by
  rw [show D = blockM DM p from funext hD, show W = blockM V q from funext hW]
  unfold k0_pay57
  simp only [shapeCast_self]
  refine congrArg₂ FloatOps.addf (ha x) rfl

/-- That accumulator when the tap's rows are cut from a window `N` rows long that begins at row `p + w`, -/
theorem acc_slice {D : Vec F S128x128 .f32} {a : Vec F S8x128 .f32} {DM : Vec F S4096x128 .f32} {V : (⟨2, ![n, 128]⟩ : Shape).Idx → F .f32}
    {A : (⟨2, ![J, 128]⟩ : Shape).Idx → F .f32} {N p u w j : ℕ} [NeZero N] {W : (⟨2, ![N, 128]⟩ : Shape).Idx → F .f32}
    (hD : ∀ x : S128x128.Idx, D x = rd DM (p + (x 0).val) (x 1).val) (hW : ∀ y : (⟨2, ![N, 128]⟩ : Shape).Idx, W y = rd V (p + w + (y 0).val) (y 1).val)
    (ha : ∀ x : S8x128.Idx, a x = rd A (8 * j + (x 0).val) (x 1).val)
    {s : ℕ} {h : (⟨2, ![N, 128]⟩ : Shape).Slices ![s, 0] S128x128} (hd : u + j = w + s) (hN : s + 128 ≤ N) (x : S8x128.Idx) :
    k0_pay57 D (extractStridedSlice S128x128 ![s, 0] W h) a x = FloatOps.addf (rd A (8 * j + (x 0).val) (x 1).val) (colSum (mulf (blockM DM p) (blockM V (p + u + j))) x) :=
  acc_pay hD (fun x => (tap_slice hW s rfl hN x).trans (by rw [show p + w + s = p + u + j by omega])) ha x

/-- and when the window is rotated first. -/
theorem acc_rot {D : Vec F S128x128 .f32} {a : Vec F S8x128 .f32} {DM : Vec F S4096x128 .f32} {V : (⟨2, ![n, 128]⟩ : Shape).Idx → F .f32}
    {A : (⟨2, ![J, 128]⟩ : Shape).Idx → F .f32} {N p u w j : ℕ} [NeZero N] {W : (⟨2, ![N, 128]⟩ : Shape).Idx → F .f32}
    (hD : ∀ x : S128x128.Idx, D x = rd DM (p + (x 0).val) (x 1).val) (hW : ∀ y : (⟨2, ![N, 128]⟩ : Shape).Idx, W y = rd V (p + w + (y 0).val) (y 1).val)
    (ha : ∀ x : S8x128.Idx, a x = rd A (8 * j + (x 0).val) (x 1).val)
    {s : ℕ} {b : BitVec 32} {hr : (⟨2, ![N, 128]⟩ : Shape).Rotates 0 none} {h : (⟨2, ![N, 128]⟩ : Shape).Slices ![s, 0] S128x128}
    (hw : w ≤ u + j) (hd : u + j + b.toNat = w + s + N) (hb : b.toNat < N) (hN : u + j + 128 ≤ w + N) (x : S8x128.Idx) :
    k0_pay57 D (extractStridedSlice S128x128 ![s, 0] (dynamicRotate 0 b none W hr) h) a x
      = FloatOps.addf (rd A (8 * j + (x 0).val) (x 1).val) (colSum (mulf (blockM DM p) (blockM V (p + u + j))) x) :=
  acc_pay hD (fun x => (tap_rot (b := b) (s := s) hW (u + j - w) (by omega) hb (by omega) x).trans (by rw [show p + w + (u + j - w) = p + u + j by omega])) ha x

/-- The bias accumulator: what was there plus the column sums of the cotangent. -/
theorem bias_pay {D : Vec F S128x128 .f32} {a : Vec F S8x128 .f32} {DM : Vec F S4096x128 .f32} {k : ℕ}
    (hD : ∀ x : S128x128.Idx, D x = rd DM (128 * k + (x 0).val) (x 1).val) :
    k0_pay151 a (k0_pay90 D) = biasStep DM k a := by
  rw [show D = blockM DM (128 * k) from funext hD]
  unfold k0_pay151 k0_pay90
  simp only [shapeCast_self]
  rfl

end Cert.KernelIdeal.Conv

end
-- ==== Proof.Conv.lean ====
/-
  The two convolutions' input cotangents over one block of 128 rows.
-/
module

public import proofs.«01_k».proof.Proof.Pay

@[expose] public section

set_option maxRecDepth 16384

noncomputable section

namespace Cert.KernelIdeal.Conv

open Idealize.ShloMosaic Cert.KernelIdeal.Gen

/-- A block cut from a rotated window, with the offset written last. -/
theorem back_rot {α : Type} {n N : ℕ} [NeZero n] [NeZero N] {V : (⟨2, ![n, 128]⟩ : Shape).Idx → α} {W : (⟨2, ![N, 128]⟩ : Shape).Idx → α} {o : ℕ}
    (hW : ∀ y : (⟨2, ![N, 128]⟩ : Shape).Idx, W y = rd V (o + (y 0).val) (y 1).val) {s : ℕ} {b : BitVec 32} (d : ℕ)
    (hr : (⟨2, ![N, 128]⟩ : Shape).Rotates 0 none) (h : (⟨2, ![N, 128]⟩ : Shape).Slices ![s, 0] S128x128)
    (hd : d + b.toNat = s + N) (hb : b.toNat < N) (hN : d + 128 ≤ N) (x : S128x128.Idx) :
    extractStridedSlice S128x128 ![s, 0] (dynamicRotate 0 b none W hr) h x = rd V (o + (x 0).val + d) (x 1).val :=
  (tap_rot hW d hd hb hN x).trans (congrArg (rd V · (x 1).val) (Nat.add_right_comm o d _))

variable {F : FTy → Type} [FloatOps F]

/-- The short convolution's input cotangent over one block. -/
theorem pay91_row {V : Vec F S4256x128 .f32} {w : Vec F S3x128 .f32} {W : Vec F S136x128 .f32} {o : ℕ}
    (hW : ∀ x : S136x128.Idx, W x = rd V (o + (x 0).val) (x 1).val) (x : S128x128.Idx) :
    k0_pay91 w W x = convAt V w (2 - ·) (o + (x 0).val) (x 1).val 3 := by
  have e0 : extractStridedSlice S128x128 ![0, 0] (dynamicRotate 0 134#32 none W rotates_S136x128_d0) slices_S136x128_o0_0_S128x128 x = rd V (o + (x 0).val + 2) (x 1).val :=
    back_rot hW 2 (by decide) (by decide) (by decide) (by decide) (by decide) x
  have e1 : extractStridedSlice S128x128 ![0, 0] (dynamicRotate 0 135#32 none W rotates_S136x128_d0) slices_S136x128_o0_0_S128x128 x = rd V (o + (x 0).val + 1) (x 1).val :=
    back_rot hW 1 (by decide) (by decide) (by decide) (by decide) (by decide) x
  have e2 : extractStridedSlice S128x128 ![0, 0] W slices_S136x128_o0_0_S128x128 x = rd V (o + (x 0).val + 0) (x 1).val := by
    refine Eq.trans (tap_slice hW (h := slices_S136x128_o0_0_S128x128) 0 rfl (by decide) x) ?_
    congr 1 <;> omega
  unfold k0_pay91
  simp only [shapeCast_self]
  simp only [mulf, addf, broadcast, wrow, e0, e1, e2]
  rfl

/-- The long convolution's input cotangent over one block. -/
theorem pay152_row {V : Vec F S4256x128 .f32} {w : Vec F S31x128 .f32} {W : Vec F S160x128 .f32} {o : ℕ}
    (hW : ∀ x : S160x128.Idx, W x = rd V (o + (x 0).val) (x 1).val) (x : S128x128.Idx) :
    k0_pay152 w (k0_pay122 (k0_pay98 W)) (k0_pay123 (k0_pay97 W)) (k0_pay124 (k0_pay96 W)) (k0_pay125 (k0_pay95 W)) (k0_pay126 (k0_pay94 W)) (k0_pay127 (k0_pay93 W)) (k0_pay128 W) (k0_pay130 w (k0_pay107 (k0_pay97 W)) (k0_pay108 (k0_pay96 W)) (k0_pay109 (k0_pay95 W)) (k0_pay110 (k0_pay94 W)) (k0_pay111 (k0_pay93 W)) (k0_pay112 W) (k0_pay113 (k0_pay99 W)) (k0_pay114 (k0_pay98 W)) (k0_pay115 (k0_pay97 W)) (k0_pay116 (k0_pay96 W)) (k0_pay117 (k0_pay95 W)) (k0_pay118 (k0_pay94 W)) (k0_pay119 (k0_pay93 W)) (k0_pay120 W) (k0_pay121 (k0_pay99 W)) (k0_pay129 w k0_pay92 (k0_pay98 W) (k0_pay99 W) (k0_pay100 W) (k0_pay101 W) (k0_pay102 W) (k0_pay103 W) (k0_pay104 W) (k0_pay105 W) (k0_pay106 W))) x
      = convAt V w (30 - ·) (o + (x 0).val) (x 1).val 31 := by
  have e0 : k0_pay100 W x = rd V (o + (x 0).val + 30) (x 1).val :=
    back_rot hW 30 (by decide) (by decide) (by decide) (by decide) (by decide) x
  have e1 : k0_pay101 W x = rd V (o + (x 0).val + 29) (x 1).val :=
    back_rot hW 29 (by decide) (by decide) (by decide) (by decide) (by decide) x
  have e2 : k0_pay102 W x = rd V (o + (x 0).val + 28) (x 1).val :=
    back_rot hW 28 (by decide) (by decide) (by decide) (by decide) (by decide) x
  have e3 : k0_pay103 W x = rd V (o + (x 0).val + 27) (x 1).val :=
    back_rot hW 27 (by decide) (by decide) (by decide) (by decide) (by decide) x
  have e4 : k0_pay104 W x = rd V (o + (x 0).val + 26) (x 1).val :=
    back_rot hW 26 (by decide) (by decide) (by decide) (by decide) (by decide) x
  have e5 : k0_pay105 W x = rd V (o + (x 0).val + 25) (x 1).val :=
    back_rot hW 25 (by decide) (by decide) (by decide) (by decide) (by decide) x
  have e6 : k0_pay106 W x = rd V (o + (x 0).val + 24) (x 1).val := by
    refine Eq.trans (tap_slice hW (h := slices_S160x128_o24_0_S128x128) 24 rfl (by decide) x) ?_
    congr 1 <;> omega
  have e7 : extractStridedSlice S128x128 ![16, 0] (k0_pay99 W) slices_S160x128_o16_0_S128x128 x = rd V (o + (x 0).val + 23) (x 1).val :=
    back_rot hW 23 (by decide) (by decide) (by decide) (by decide) (by decide) x
  have e8 : extractStridedSlice S128x128 ![16, 0] (k0_pay98 W) slices_S160x128_o16_0_S128x128 x = rd V (o + (x 0).val + 22) (x 1).val :=
    back_rot hW 22 (by decide) (by decide) (by decide) (by decide) (by decide) x
  have e9 : k0_pay107 (k0_pay97 W) x = rd V (o + (x 0).val + 21) (x 1).val :=
    back_rot hW 21 (by decide) (by decide) (by decide) (by decide) (by decide) x
  have e10 : k0_pay108 (k0_pay96 W) x = rd V (o + (x 0).val + 20) (x 1).val :=
    back_rot hW 20 (by decide) (by decide) (by decide) (by decide) (by decide) x
  have e11 : k0_pay109 (k0_pay95 W) x = rd V (o + (x 0).val + 19) (x 1).val :=
    back_rot hW 19 (by decide) (by decide) (by decide) (by decide) (by decide) x
  have e12 : k0_pay110 (k0_pay94 W) x = rd V (o + (x 0).val + 18) (x 1).val :=
    back_rot hW 18 (by decide) (by decide) (by decide) (by decide) (by decide) x
  have e13 : k0_pay111 (k0_pay93 W) x = rd V (o + (x 0).val + 17) (x 1).val :=
    back_rot hW 17 (by decide) (by decide) (by decide) (by decide) (by decide) x
  have e14 : k0_pay112 W x = rd V (o + (x 0).val + 16) (x 1).val := by
    refine Eq.trans (tap_slice hW (h := slices_S160x128_o16_0_S128x128) 16 rfl (by decide) x) ?_
    congr 1 <;> omega
  have e15 : k0_pay113 (k0_pay99 W) x = rd V (o + (x 0).val + 15) (x 1).val :=
    back_rot hW 15 (by decide) (by decide) (by decide) (by decide) (by decide) x
  have e16 : k0_pay114 (k0_pay98 W) x = rd V (o + (x 0).val + 14) (x 1).val :=
    back_rot hW 14 (by decide) (by decide) (by decide) (by decide) (by decide) x
  have e17 : k0_pay115 (k0_pay97 W) x = rd V (o + (x 0).val + 13) (x 1).val :=
    back_rot hW 13 (by decide) (by decide) (by decide) (by decide) (by decide) x
  have e18 : k0_pay116 (k0_pay96 W) x = rd V (o + (x 0).val + 12) (x 1).val :=
    back_rot hW 12 (by decide) (by decide) (by decide) (by decide) (by decide) x
  have e19 : k0_pay117 (k0_pay95 W) x = rd V (o + (x 0).val + 11) (x 1).val :=
    back_rot hW 11 (by decide) (by decide) (by decide) (by decide) (by decide) x
  have e20 : k0_pay118 (k0_pay94 W) x = rd V (o + (x 0).val + 10) (x 1).val :=
    back_rot hW 10 (by decide) (by decide) (by decide) (by decide) (by decide) x
  have e21 : k0_pay119 (k0_pay93 W) x = rd V (o + (x 0).val + 9) (x 1).val :=
    back_rot hW 9 (by decide) (by decide) (by decide) (by decide) (by decide) x
  have e22 : k0_pay120 W x = rd V (o + (x 0).val + 8) (x 1).val := by
    refine Eq.trans (tap_slice hW (h := slices_S160x128_o8_0_S128x128) 8 rfl (by decide) x) ?_
    congr 1 <;> omega
  have e23 : k0_pay121 (k0_pay99 W) x = rd V (o + (x 0).val + 7) (x 1).val :=
    back_rot hW 7 (by decide) (by decide) (by decide) (by decide) (by decide) x
  have e24 : k0_pay122 (k0_pay98 W) x = rd V (o + (x 0).val + 6) (x 1).val :=
    back_rot hW 6 (by decide) (by decide) (by decide) (by decide) (by decide) x
  have e25 : k0_pay123 (k0_pay97 W) x = rd V (o + (x 0).val + 5) (x 1).val :=
    back_rot hW 5 (by decide) (by decide) (by decide) (by decide) (by decide) x
  have e26 : k0_pay124 (k0_pay96 W) x = rd V (o + (x 0).val + 4) (x 1).val :=
    back_rot hW 4 (by decide) (by decide) (by decide) (by decide) (by decide) x
  have e27 : k0_pay125 (k0_pay95 W) x = rd V (o + (x 0).val + 3) (x 1).val :=
    back_rot hW 3 (by decide) (by decide) (by decide) (by decide) (by decide) x
  have e28 : k0_pay126 (k0_pay94 W) x = rd V (o + (x 0).val + 2) (x 1).val :=
    back_rot hW 2 (by decide) (by decide) (by decide) (by decide) (by decide) x
  have e29 : k0_pay127 (k0_pay93 W) x = rd V (o + (x 0).val + 1) (x 1).val :=
    back_rot hW 1 (by decide) (by decide) (by decide) (by decide) (by decide) x
  have e30 : k0_pay128 W x = rd V (o + (x 0).val + 0) (x 1).val := by
    refine Eq.trans (tap_slice hW (h := slices_S160x128_o0_0_S128x128) 0 rfl (by decide) x) ?_
    congr 1 <;> omega
  unfold k0_pay152 k0_pay130 k0_pay129 k0_pay92
  simp only [shapeCast_self]
  simp only [mulf, addf, broadcast, wrow, e0, e1, e2, e3, e4, e5, e6, e7, e8, e9, e10, e11, e12, e13, e14, e15, e16, e17, e18, e19, e20, e21, e22, e23, e24, e25, e26, e27, e28, e29, e30]
  rfl

end Cert.KernelIdeal.Conv

end
-- ==== Proof.Fill.lean ====
/-
  The loop that fills the two convolution inputs, trip by trip.
-/
module

public import proofs.«01_k».proof.Proof.Acc
public import proofs.«01_k».proof.Proof.Conv
public import proofs.«01_k».proof.Proof.Gen.KernelIdeal.Loops
public import Idealize.ShloMosaic.Lib.WritesUnit
public import Idealize.ShloMosaic.Lib.VecWindow

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

set_option backward.isDefEq.respectTransparency.types false in
set_option warn.classDefReducibility false in
set_option maxHeartbeats 4000000 in
/-- The filling loop: before trip `k`, rows 48 … 48 + 128 k of the two convolution inputs are in place. -/
@[sl_loop] def fillLoop (𝒱 : Variants) (c : Dev nD) (bd : Option 𝒱.V) (E : Set ℕ) (i : grid0.Coords) (arg1 : Memref sig .tc .vmem S4352x128 .bf16) (harg1 : arg1.IsWhole) (arg2 : Memref sig .tc .vmem S4352x128 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S4352x128 .bf16) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S1x3x128 .f32) (harg8 : arg8.IsWhole) (arg9 : Memref sig .tc .vmem S1x31x128 .f32) (harg9 : arg9.IsWhole) (arg10 : Memref sig .tc .vmem S5x4352x128 .bf16) (harg10 : arg10.IsWhole) (arg11 : Memref sig .tc .vmem S1x3x128 .f32) (harg11 : arg11.IsWhole) (arg12 : Memref sig .tc .vmem S1x31x128 .f32) (harg12 : arg12.IsWhole) (arg13 : Memref sig .tc .vmem S1x128 .f32) (harg13 : arg13.IsWhole) (arg14 : Memref sig .tc .vmem S4144x128 .f32) (harg14 : arg14.IsWhole) (arg15 : Memref sig .tc .vmem S4144x128 .f32) (harg15 : arg15.IsWhole) (arg16 : Memref sig .tc .vmem S4256x128 .f32) (harg16 : arg16.IsWhole) (arg17 : Memref sig .tc .vmem S4256x128 .f32) (harg17 : arg17.IsWhole) (arg18 : Memref sig .tc .vmem S4224x128 .f32) (harg18 : arg18.IsWhole) (arg19 : Memref sig .tc .vmem S4224x128 .f32) (harg19 : arg19.IsWhole) (arg20 : Memref sig .tc .vmem S24x128 .f32) (harg20 : arg20.IsWhole) (arg21 : Memref sig .tc .vmem S248x128 .f32) (harg21 : arg21.IsWhole) (arg22 : Memref sig .tc .vmem S8x128 .f32) (harg22 : arg22.IsWhole) (v34 : FVec F S16x128 .f32)
    (X2 : BufTy.Contents (Elt F) arg2.view.ty) (X3 : BufTy.Contents (Elt F) arg3.view.ty) (X4 : BufTy.Contents (Elt F) arg4.view.ty) (X5 : BufTy.Contents (Elt F) arg5.view.ty)
    (G14 : BufTy.Contents (Elt F) arg14.view.ty) (G15 : BufTy.Contents (Elt F) arg15.view.ty) :
    Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v34 where
  inv k _ := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg14.view.loc (c : Thread nD τ) ↦[arg14.view.set]{fullShare} f) ∗ ⌜f = rowsTo harg14 (fillV (prodM (arg2.view.read (Elt F) X2) (arg3.view.read (Elt F) X3))) 48 G14 k⌝) ∗ (∃ f, (arg15.view.loc (c : Thread nD τ) ↦[arg15.view.set]{fullShare} f) ∗ ⌜f = rowsTo harg15 (fillV (zM (arg4.view.read (Elt F) X4) (arg5.view.read (Elt F) X5))) 48 G15 k⌝))
  step k acc := by
    have hk : k.val < 32 := Nat.lt_of_lt_of_le k.isLt k0_t1_abs.2.1
    iintro ⟨H2, H3, H4, H5, ⟨%f14, H14, %h14⟩, ⟨%f15, H15, %h15⟩⟩
    subst h14 h15
    unfold k0_t1_body
    sl_exec
    sl_step
    isplitl [H2]; · iexact H2
    isplitl [H3]; · iexact H3
    isplitl [H4]; · iexact H4
    isplitl [H5]; · iexact H5
    isplitl [H14]
    · iexists _; isplitl [H14]; · iexact H14
      ipureintro
      refine rowsTo_step harg14 _ 48 G14 k _ (k0_off2_eq k) _ fun x => ?_
      exact pay139_row (by omega) (fun y => congrFun (readAt_rows _ _ _ (k0_off1_eq k)) y) (fun y => congrFun (readAt_rows _ _ _ (k0_off1_eq k)) y) x
    iexists _; isplitl [H15]; · iexact H15
    ipureintro
    refine rowsTo_step harg15 _ 48 G15 k _ (k0_off2_eq k) _ fun x => ?_
    exact pay140_row (by omega) (fun y => congrFun (readAt_rows _ _ _ (k0_off1_eq k)) y) (fun y => congrFun (readAt_rows _ _ _ (k0_off1_eq k)) y) x

end Cert.KernelIdeal.Conv

end
-- ==== Proof.Forward.lean ====
/-
  The loop over the sequence that runs the short convolution again and sums the taps' and the bias's gradients.
-/
module

public import proofs.«01_k».proof.Proof.Acc
public import proofs.«01_k».proof.Proof.Conv
public import proofs.«01_k».proof.Proof.Gen.KernelIdeal.Loops
public import Idealize.ShloMosaic.Lib.WritesUnit
public import Idealize.ShloMosaic.Lib.VecWindow

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

set_option backward.isDefEq.respectTransparency.types false in
set_option warn.classDefReducibility false in
set_option maxHeartbeats 4000000 in
/-- The forward loop: before trip `k`, both convolutions' cotangents and the gradient of `b` are in place for the first 128 k sequence rows, and the accumulators hold those rows' sums. -/
@[sl_loop] def forwardLoop (𝒱 : Variants) (c : Dev nD) (bd : Option 𝒱.V) (E : Set ℕ) (i : grid0.Coords) (arg1 : Memref sig .tc .vmem S4352x128 .bf16) (harg1 : arg1.IsWhole) (arg2 : Memref sig .tc .vmem S4352x128 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S4352x128 .bf16) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S1x3x128 .f32) (harg8 : arg8.IsWhole) (arg9 : Memref sig .tc .vmem S1x31x128 .f32) (harg9 : arg9.IsWhole) (arg10 : Memref sig .tc .vmem S5x4352x128 .bf16) (harg10 : arg10.IsWhole) (arg11 : Memref sig .tc .vmem S1x3x128 .f32) (harg11 : arg11.IsWhole) (arg12 : Memref sig .tc .vmem S1x31x128 .f32) (harg12 : arg12.IsWhole) (arg13 : Memref sig .tc .vmem S1x128 .f32) (harg13 : arg13.IsWhole) (arg14 : Memref sig .tc .vmem S4144x128 .f32) (harg14 : arg14.IsWhole) (arg15 : Memref sig .tc .vmem S4144x128 .f32) (harg15 : arg15.IsWhole) (arg16 : Memref sig .tc .vmem S4256x128 .f32) (harg16 : arg16.IsWhole) (arg17 : Memref sig .tc .vmem S4256x128 .f32) (harg17 : arg17.IsWhole) (arg18 : Memref sig .tc .vmem S4224x128 .f32) (harg18 : arg18.IsWhole) (arg19 : Memref sig .tc .vmem S4224x128 .f32) (harg19 : arg19.IsWhole) (arg20 : Memref sig .tc .vmem S24x128 .f32) (harg20 : arg20.IsWhole) (arg21 : Memref sig .tc .vmem S248x128 .f32) (harg21 : arg21.IsWhole) (arg22 : Memref sig .tc .vmem S8x128 .f32) (harg22 : arg22.IsWhole) (v37 : FVec F S3x128 .f32) (v39 : FVec F S31x128 .f32) (v60 : FVec F S248x128 .f32)
    (X1 : BufTy.Contents (Elt F) arg1.view.ty) (X6 : BufTy.Contents (Elt F) arg6.view.ty) (X7 : BufTy.Contents (Elt F) arg7.view.ty) (X14 : BufTy.Contents (Elt F) arg14.view.ty) (X15 : BufTy.Contents (Elt F) arg15.view.ty)
    (G16 : BufTy.Contents (Elt F) arg16.view.ty) (G17 : BufTy.Contents (Elt F) arg17.view.ty) (G20 : BufTy.Contents (Elt F) arg20.view.ty) (G21 : BufTy.Contents (Elt F) arg21.view.ty) (G10 : BufTy.Contents (Elt F) arg10.view.ty) (G22 : BufTy.Contents (Elt F) arg22.view.ty) :
    Gen.LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v37 v39 v60 where
  inv k _ := iprop((arg1.view.loc (c : Thread nD τ) ↦[arg1.view.set]{fullShare} X1) ∗ (arg6.view.loc (c : Thread nD τ) ↦[arg6.view.set]{fullShare} X6) ∗ (arg7.view.loc (c : Thread nD τ) ↦[arg7.view.set]{fullShare} X7) ∗ (arg14.view.loc (c : Thread nD τ) ↦[arg14.view.set]{fullShare} X14) ∗ (arg15.view.loc (c : Thread nD τ) ↦[arg15.view.set]{fullShare} X15) ∗ (∃ f, (arg16.view.loc (c : Thread nD τ) ↦[arg16.view.set]{fullShare} f) ∗ ⌜f = rowsTo harg16 (padV (dsM (arg6.view.read (Elt F) X6) (arg1.view.read (Elt F) X1))) 16 G16 k⌝) ∗ (∃ f, (arg17.view.loc (c : Thread nD τ) ↦[arg17.view.set]{fullShare} f) ∗ ⌜f = rowsTo harg17 (padV (arg7.view.read (Elt F) X7)) 16 G17 k⌝) ∗ (∃ f, (arg20.view.loc (c : Thread nD τ) ↦[arg20.view.set]{fullShare} f) ∗ ⌜f = stepTo harg20 (accStep (dsM (arg6.view.read (Elt F) X6) (arg1.view.read (Elt F) X1)) (arg14.view.read (Elt F) X14) 46) G20 k⌝) ∗ (∃ f, (arg21.view.loc (c : Thread nD τ) ↦[arg21.view.set]{fullShare} f) ∗ ⌜f = stepTo harg21 (accStep (arg7.view.read (Elt F) X7) (arg15.view.read (Elt F) X15) 18) G21 k⌝) ∗ (∃ f, (arg10.view.loc (c : Thread nD τ) ↦[arg10.view.set]{fullShare} f) ∗ ⌜f = slabTo harg10 (mk3 fun _ r c => du0At (arg6.view.read (Elt F) X6) (arg14.view.read (Elt F) X14) v37 r c) 0 1 G10 k⌝) ∗ (∃ f, (arg22.view.loc (c : Thread nD τ) ↦[arg22.view.set]{fullShare} f) ∗ ⌜f = stepTo harg22 (biasStep (arg7.view.read (Elt F) X7)) G22 k⌝))
  step k acc := by
    have hk : k.val < 32 := Nat.lt_of_lt_of_le k.isLt k0_t2_abs.2.1
    iintro ⟨H1, H6, H7, H14, H15, ⟨%f16, H16, %h16⟩, ⟨%f17, H17, %h17⟩, ⟨%f20, H20, %h20⟩, ⟨%f21, H21, %h21⟩, ⟨%f10, H10, %h10⟩, ⟨%f22, H22, %h22⟩⟩
    subst h16 h17 h20 h21 h10 h22
    unfold k0_t2_body
    sl_exec_parts
    sl_step
    have i6 : ∀ a, k0_off6 k a + S136x128.size a ≤ S4144x128.size a := by
      rw [k0_off6_eq k]
      exact Fin.forall_fin_two.mpr ⟨by show 128 * k.val + 40 + 136 ≤ 4144; omega, Nat.le_refl 128⟩
    isplitl [H1]; · iexact H1
    isplitl [H6]; · iexact H6
    isplitl [H7]; · iexact H7
    isplitl [H14]; · iexact H14
    isplitl [H15]; · iexact H15
    isplitl [H16]
    · iexists _; isplitl [H16]; · iexact H16
      ipureintro
      refine rowsTo_step harg16 _ 16 G16 k _ (k0_off5_eq k) _ fun x => ?_
      have h0 : (x 0).val < 128 := (x 0).isLt
      rw [show 128 * k.val + 16 + (x 0).val = 128 * k.val + (x 0).val + 16 by omega, padV_row _ _ _ (by omega) (x 1).isLt]
      refine (congrFun (shapeCast_self _ _) x).trans (pay6_row (by omega) (fun y => congrFun (readAt_rows (o := 128 * k.val) arg6.view _ _ (k0_off3_eq k)) y) (fun y => congrFun (readAt_rows (o := 128 * k.val) arg1.view _ _ (k0_off4_eq k)) y) x)
    isplitl [H17]
    · iexists _; isplitl [H17]; · iexact H17
      ipureintro
      refine rowsTo_step harg17 _ 16 G17 k _ (k0_off5_eq k) _ fun x => ?_
      have h0 : (x 0).val < 128 := (x 0).isLt
      rw [show 128 * k.val + 16 + (x 0).val = 128 * k.val + (x 0).val + 16 by omega, padV_row _ _ _ (by omega) (x 1).isLt]
      refine (congrFun (shapeCast_self _ _) x).trans ((fun y => congrFun (readAt_rows (o := 128 * k.val) arg7.view _ _ (k0_off3_eq k)) y) x)
    isplitl [H20]
    · iexists _; isplitl [H20]; · iexact H20
      ipureintro
      refine Covers.all harg20 3 rfl ?_
      iterate 3 refine Covers.cons _ ?_ rfl ?_
      exact Covers.nil _ _ _
      all_goals
        intro x
        first
        | refine acc_rot (N := 136) (w := 40) (W := (arg14.view.readAt (Elt F) (Rect.unit (s := S4144x128) (k0_off6 k) S136x128.size i6).toLoadRect X14 : Vec F S136x128 .f32)) (hr := ?_) (h := ?_) ?_ ?_ ?_ ?_ ?_ ?_ ?_ x
        | refine acc_slice (N := 136) (w := 40) (W := (arg14.view.readAt (Elt F) (Rect.unit (s := S4144x128) (k0_off6 k) S136x128.size i6).toLoadRect X14 : Vec F S136x128 .f32)) (h := ?_) ?_ ?_ ?_ ?_ ?_ x
        · exact pay6_row (by omega) (fun y => congrFun (readAt_rows (o := 128 * k.val) arg6.view _ _ (k0_off3_eq k)) y) (fun y => congrFun (readAt_rows (o := 128 * k.val) arg1.view _ _ (k0_off4_eq k)) y)
        · exact fun y => congrFun (readAt_rows (o := 128 * k.val + 40) arg14.view _ _ (k0_off6_eq k)) y
        · exact fun y => congrFun (readAt_rows arg20.view _ _ rfl) y
        all_goals decide
    isplitl [H21]
    · iexists _; isplitl [H21]; · iexact H21
      ipureintro
      refine Covers.all harg21 31 rfl ?_
      iterate 31 refine Covers.cons _ ?_ rfl ?_
      exact Covers.nil _ _ _
      all_goals
        intro x
        try delta forwardLoop.sl.r_9 forwardLoop.sl.r_10 forwardLoop.sl.r_11 forwardLoop.sl.r_12 forwardLoop.sl.r_13 forwardLoop.sl.r_14 forwardLoop.sl.r_15 forwardLoop.sl.r_16 forwardLoop.sl.r_17 forwardLoop.sl.r_18 forwardLoop.sl.r_19 forwardLoop.sl.r_20 forwardLoop.sl.r_21 forwardLoop.sl.r_22 forwardLoop.sl.r_23 forwardLoop.sl.r_24 forwardLoop.sl.r_25 forwardLoop.sl.r_26 forwardLoop.sl.r_27 forwardLoop.sl.r_28 forwardLoop.sl.r_29 forwardLoop.sl.r_30 forwardLoop.sl.r_31 forwardLoop.sl.r_32 forwardLoop.sl.r_33 forwardLoop.sl.r_34 forwardLoop.sl.r_35 forwardLoop.sl.r_36 forwardLoop.sl.r_37
        first
        | refine acc_rot (N := 160) (w := 16) (hr := ?_) (h := ?_) (W := forwardLoop.sl.r_7 arg15 X15 k) ?_ ?_ ?_ ?_ ?_ ?_ ?_ x
        | refine acc_slice (N := 160) (w := 16) (h := ?_) (W := forwardLoop.sl.r_7 arg15 X15 k) ?_ ?_ ?_ ?_ ?_ x
        · exact fun y => congrFun (readAt_rows (o := 128 * k.val) arg7.view _ _ (k0_off3_eq k)) y
        · exact fun y => congrFun (readAt_rows (o := 128 * k.val + 16) arg15.view _ _ (k0_off8_eq k)) y
        · exact fun y => congrFun (readAt_rows arg21.view _ _ rfl) y
        all_goals decide
    isplitl [H10]
    · iexists _; isplitl [H10]; · iexact H10
      ipureintro
      refine slabTo_step harg10 _ 0 G10 k _ (k0_off7_eq k) _ fun x => ?_
      have h0 : (x 0).val < 128 := (x 0).isLt
      refine Eq.trans ?_ (rd3_mk3 (p := 5) (n := 4352) (m := 128) _ _ _ _ (by decide) (by omega) (x 1).isLt).symm
      exact pay17_row (fun y => congrFun (readAt_rows (o := 128 * k.val) arg6.view _ _ (k0_off3_eq k)) y) (fun y => congrFun (readAt_rows (o := 128 * k.val + 40) arg14.view _ _ (k0_off6_eq k)) y) x
    iexists _; isplitl [H22]; · iexact H22
    ipureintro
    rw [stepTo]
    refine harg22.eq_unread ?_
    refine (View.read_writes_full (s := S8x128) arg22.view _ _ _ _).trans ?_
    refine Eq.trans (congrArg₂ k0_pay151 (View.readAt_full (s := S8x128) arg22.view _ _) rfl) (bias_pay (fun y => congrFun (readAt_rows (o := 128 * k.val) arg7.view _ _ (k0_off3_eq k)) y))

end Cert.KernelIdeal.Conv

end
-- ==== Proof.Backward.lean ====
/-
  The loop that convolves the two cotangents back onto the convolution inputs.
-/
module

public import proofs.«01_k».proof.Proof.Acc
public import proofs.«01_k».proof.Proof.Conv
public import proofs.«01_k».proof.Proof.Gen.KernelIdeal.Loops
public import Idealize.ShloMosaic.Lib.WritesUnit
public import Idealize.ShloMosaic.Lib.VecWindow

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

set_option backward.isDefEq.respectTransparency.types false in
set_option warn.classDefReducibility false in
set_option maxHeartbeats 4000000 in
/-- The backward loop: before trip `k`, the first 128 k rows of both convolution inputs' cotangents are in place. -/
@[sl_loop] def backwardLoop (𝒱 : Variants) (c : Dev nD) (bd : Option 𝒱.V) (E : Set ℕ) (i : grid0.Coords) (arg1 : Memref sig .tc .vmem S4352x128 .bf16) (harg1 : arg1.IsWhole) (arg2 : Memref sig .tc .vmem S4352x128 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S4352x128 .bf16) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S1x3x128 .f32) (harg8 : arg8.IsWhole) (arg9 : Memref sig .tc .vmem S1x31x128 .f32) (harg9 : arg9.IsWhole) (arg10 : Memref sig .tc .vmem S5x4352x128 .bf16) (harg10 : arg10.IsWhole) (arg11 : Memref sig .tc .vmem S1x3x128 .f32) (harg11 : arg11.IsWhole) (arg12 : Memref sig .tc .vmem S1x31x128 .f32) (harg12 : arg12.IsWhole) (arg13 : Memref sig .tc .vmem S1x128 .f32) (harg13 : arg13.IsWhole) (arg14 : Memref sig .tc .vmem S4144x128 .f32) (harg14 : arg14.IsWhole) (arg15 : Memref sig .tc .vmem S4144x128 .f32) (harg15 : arg15.IsWhole) (arg16 : Memref sig .tc .vmem S4256x128 .f32) (harg16 : arg16.IsWhole) (arg17 : Memref sig .tc .vmem S4256x128 .f32) (harg17 : arg17.IsWhole) (arg18 : Memref sig .tc .vmem S4224x128 .f32) (harg18 : arg18.IsWhole) (arg19 : Memref sig .tc .vmem S4224x128 .f32) (harg19 : arg19.IsWhole) (arg20 : Memref sig .tc .vmem S24x128 .f32) (harg20 : arg20.IsWhole) (arg21 : Memref sig .tc .vmem S248x128 .f32) (harg21 : arg21.IsWhole) (arg22 : Memref sig .tc .vmem S8x128 .f32) (harg22 : arg22.IsWhole) (v37 : FVec F S3x128 .f32) (v39 : FVec F S31x128 .f32) (v60 : FVec F S248x128 .f32)
    (X16 : BufTy.Contents (Elt F) arg16.view.ty) (X17 : BufTy.Contents (Elt F) arg17.view.ty)
    (G18 : BufTy.Contents (Elt F) arg18.view.ty) (G19 : BufTy.Contents (Elt F) arg19.view.ty) :
    Gen.LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v37 v39 v60 where
  inv k _ := iprop((arg16.view.loc (c : Thread nD τ) ↦[arg16.view.set]{fullShare} X16) ∗ (arg17.view.loc (c : Thread nD τ) ↦[arg17.view.set]{fullShare} X17) ∗ (∃ f, (arg18.view.loc (c : Thread nD τ) ↦[arg18.view.set]{fullShare} f) ∗ ⌜f = rowsTo harg18 (dconvV (arg16.view.read (Elt F) X16) v37) 0 G18 k⌝) ∗ (∃ f, (arg19.view.loc (c : Thread nD τ) ↦[arg19.view.set]{fullShare} f) ∗ ⌜f = rowsTo harg19 (dconvV (arg17.view.read (Elt F) X17) v39) 0 G19 k⌝))
  step k acc := by
    have hk : k.val < 33 := Nat.lt_of_lt_of_le k.isLt k0_t3_abs.2.1
    iintro ⟨H16, H17, ⟨%f18, H18, %h18⟩, ⟨%f19, H19, %h19⟩⟩
    subst h18 h19
    unfold k0_t3_body
    sl_exec_parts
    sl_step
    isplitl [H16]; · iexact H16
    isplitl [H17]; · iexact H17
    isplitl [H18]
    · iexists _; isplitl [H18]; · iexact H18
      ipureintro
      refine rowsTo_step harg18 _ 0 G18 k _ (k0_off10_eq k) _ fun x => ?_
      have h0 : (x 0).val < 128 := (x 0).isLt
      refine Eq.trans ?_ (rd_mk (n := 4224) (m := 128) _ _ _ (by omega) (x 1).isLt).symm
      exact pay91_row (fun y => congrFun (readAt_rows (o := 128 * k.val) arg16.view _ _ (k0_off9_eq k)) y) x
    iexists _; isplitl [H19]; · iexact H19
    ipureintro
    refine rowsTo_step harg19 _ 0 G19 k _ (k0_off10_eq k) _ fun x => ?_
    have h0 : (x 0).val < 128 := (x 0).isLt
    refine Eq.trans ?_ (rd_mk (n := 4224) (m := 128) _ _ _ (by omega) (x 1).isLt).symm
    exact pay152_row (fun y => congrFun (readAt_rows (o := 128 * k.val) arg17.view _ _ (k0_off11_eq k)) y) x

end Cert.KernelIdeal.Conv

end
-- ==== Proof.Gates.lean ====
/-
  The loop that turns the convolution inputs' cotangents into the gated channels' gradients.
-/
module

public import proofs.«01_k».proof.Proof.Acc
public import proofs.«01_k».proof.Proof.Gate
public import proofs.«01_k».proof.Proof.Gen.KernelIdeal.Loops
public import Idealize.ShloMosaic.Lib.WritesUnit
public import Idealize.ShloMosaic.Lib.VecWindow

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

set_option backward.isDefEq.respectTransparency.types false in
set_option warn.classDefReducibility false in
set_option maxHeartbeats 4000000 in
/-- The gating loop: before trip `k`, the gradients of the four gated channels are in place for the first 128 k sequence rows. -/
@[sl_loop] def gateLoop (𝒱 : Variants) (c : Dev nD) (bd : Option 𝒱.V) (E : Set ℕ) (i : grid0.Coords) (arg1 : Memref sig .tc .vmem S4352x128 .bf16) (harg1 : arg1.IsWhole) (arg2 : Memref sig .tc .vmem S4352x128 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S4352x128 .bf16) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S1x3x128 .f32) (harg8 : arg8.IsWhole) (arg9 : Memref sig .tc .vmem S1x31x128 .f32) (harg9 : arg9.IsWhole) (arg10 : Memref sig .tc .vmem S5x4352x128 .bf16) (harg10 : arg10.IsWhole) (arg11 : Memref sig .tc .vmem S1x3x128 .f32) (harg11 : arg11.IsWhole) (arg12 : Memref sig .tc .vmem S1x31x128 .f32) (harg12 : arg12.IsWhole) (arg13 : Memref sig .tc .vmem S1x128 .f32) (harg13 : arg13.IsWhole) (arg14 : Memref sig .tc .vmem S4144x128 .f32) (harg14 : arg14.IsWhole) (arg15 : Memref sig .tc .vmem S4144x128 .f32) (harg15 : arg15.IsWhole) (arg16 : Memref sig .tc .vmem S4256x128 .f32) (harg16 : arg16.IsWhole) (arg17 : Memref sig .tc .vmem S4256x128 .f32) (harg17 : arg17.IsWhole) (arg18 : Memref sig .tc .vmem S4224x128 .f32) (harg18 : arg18.IsWhole) (arg19 : Memref sig .tc .vmem S4224x128 .f32) (harg19 : arg19.IsWhole) (arg20 : Memref sig .tc .vmem S24x128 .f32) (harg20 : arg20.IsWhole) (arg21 : Memref sig .tc .vmem S248x128 .f32) (harg21 : arg21.IsWhole) (arg22 : Memref sig .tc .vmem S8x128 .f32) (harg22 : arg22.IsWhole) (v37 : FVec F S3x128 .f32) (v39 : FVec F S31x128 .f32) (v60 : FVec F S248x128 .f32)
    (X2 : BufTy.Contents (Elt F) arg2.view.ty) (X3 : BufTy.Contents (Elt F) arg3.view.ty) (X4 : BufTy.Contents (Elt F) arg4.view.ty) (X5 : BufTy.Contents (Elt F) arg5.view.ty) (X18 : BufTy.Contents (Elt F) arg18.view.ty) (X19 : BufTy.Contents (Elt F) arg19.view.ty)
    (G10 : BufTy.Contents (Elt F) arg10.view.ty) :
    Gen.LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v37 v39 v60 where
  inv k _ := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg18.view.loc (c : Thread nD τ) ↦[arg18.view.set]{fullShare} X18) ∗ (arg19.view.loc (c : Thread nD τ) ↦[arg19.view.set]{fullShare} X19) ∗ (∃ f, (arg10.view.loc (c : Thread nD τ) ↦[arg10.view.set]{fullShare} f) ∗ ⌜f = slabTo harg10 (mk3 fun q r c => gateAt (arg2.view.read (Elt F) X2) (arg3.view.read (Elt F) X3) (arg4.view.read (Elt F) X4) (arg5.view.read (Elt F) X5) (arg18.view.read (Elt F) X18) (arg19.view.read (Elt F) X19) q r (r + 16) c) 1 5 G10 k⌝))
  step k acc := by
    have hk : k.val < 32 := Nat.lt_of_lt_of_le k.isLt k0_t4_abs.2.1
    iintro ⟨H2, H3, H4, H5, H18, H19, ⟨%f10, H10, %h10⟩⟩
    subst h10
    unfold k0_t4_body
    sl_exec_parts
    sl_step
    isplitl [H2]; · iexact H2
    isplitl [H3]; · iexact H3
    isplitl [H4]; · iexact H4
    isplitl [H5]; · iexact H5
    isplitl [H18]; · iexact H18
    isplitl [H19]; · iexact H19
    iexists _; isplitl [H10]; · iexact H10
    ipureintro
    refine slabTo_step4 harg10 _ G10 k _ _ _ _ (k0_off14_eq k) (k0_off15_eq k) (k0_off16_eq k) (k0_off17_eq k) _ _ _ _ ?_ ?_ ?_ ?_
    · intro x
      have h0 : (x 0).val < 128 := (x 0).isLt
      refine Eq.trans ?_ (rd3_mk3 (p := 5) (n := 4352) (m := 128) _ _ _ _ (by decide) (by omega) (x 1).isLt).symm
      exact gate1_row (fun y => congrFun (readAt_rows (o := 128 * k.val + 16) arg18.view _ _ (k0_off12_eq k)) y) (fun y => congrFun (readAt_rows (o := 128 * k.val) arg3.view _ _ (k0_off13_eq k)) y) x
    · intro x
      have h0 : (x 0).val < 128 := (x 0).isLt
      refine Eq.trans ?_ (rd3_mk3 (p := 5) (n := 4352) (m := 128) _ _ _ _ (by decide) (by omega) (x 1).isLt).symm
      exact gate2_row (fun y => congrFun (readAt_rows (o := 128 * k.val + 16) arg18.view _ _ (k0_off12_eq k)) y) (fun y => congrFun (readAt_rows (o := 128 * k.val) arg2.view _ _ (k0_off13_eq k)) y) x
    · intro x
      have h0 : (x 0).val < 128 := (x 0).isLt
      refine Eq.trans ?_ (rd3_mk3 (p := 5) (n := 4352) (m := 128) _ _ _ _ (by decide) (by omega) (x 1).isLt).symm
      exact gate3_row (fun y => congrFun (readAt_rows (o := 128 * k.val + 16) arg19.view _ _ (k0_off12_eq k)) y) (fun y => congrFun (readAt_rows (o := 128 * k.val) arg5.view _ _ (k0_off13_eq k)) y) x
    · intro x
      have h0 : (x 0).val < 128 := (x 0).isLt
      refine Eq.trans ?_ (rd3_mk3 (p := 5) (n := 4352) (m := 128) _ _ _ _ (by decide) (by omega) (x 1).isLt).symm
      exact gate4_row (fun y => congrFun (readAt_rows (o := 128 * k.val + 16) arg19.view _ _ (k0_off12_eq k)) y) (fun y => congrFun (readAt_rows (o := 128 * k.val) arg4.view _ _ (k0_off13_eq k)) y) (fun y => congrFun (readAt_rows (o := 128 * k.val) arg5.view _ _ (k0_off13_eq k)) y) x

end Cert.KernelIdeal.Conv

end
-- ==== Proof.Body.lean ====
/-
  One run of the kernel's body: from its nine input blocks it leaves the four results in closed form, and gives back its
  scratch buffers.
-/
module

public import proofs.«01_k».proof.Proof.Final
public import proofs.«01_k».proof.Proof.Fill
public import proofs.«01_k».proof.Proof.Forward
public import proofs.«01_k».proof.Proof.Backward
public import proofs.«01_k».proof.Proof.Gates
public import proofs.«01_k».proof.Proof.Gen.KernelIdeal.Loops
public import Idealize.ShloMosaic.Lib.WritesUnit
public import Idealize.ShloMosaic.Lib.VecWindow

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- A loop from 0 to 32 by ones runs 32 times. -/
theorem trips32 : Scf.trips 0#32 (Scalar.addi 0#32 32#32) 1#32 = 32 := by decide
/-- A loop from 0 to 33 by ones runs 33 times. -/
theorem trips33 : Scf.trips 0#32 (Scalar.addi 0#32 33#32) 1#32 = 33 := by decide

set_option backward.isDefEq.respectTransparency.types false in
set_option maxHeartbeats 4000000 in
/-- The body, run on whole buffers: the inputs are unchanged, each result buffer holds its closed form of the inputs, and
    the scratch buffers hold something. -/
theorem kernelRun (c : Dev nD) (i : grid0.Coords) (arg1 : Memref sig .tc .vmem S4352x128 .bf16) (harg1 : arg1.IsWhole) (arg2 : Memref sig .tc .vmem S4352x128 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S4352x128 .bf16) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S1x3x128 .f32) (harg8 : arg8.IsWhole) (arg9 : Memref sig .tc .vmem S1x31x128 .f32) (harg9 : arg9.IsWhole) (arg10 : Memref sig .tc .vmem S5x4352x128 .bf16) (harg10 : arg10.IsWhole) (arg11 : Memref sig .tc .vmem S1x3x128 .f32) (harg11 : arg11.IsWhole) (arg12 : Memref sig .tc .vmem S1x31x128 .f32) (harg12 : arg12.IsWhole) (arg13 : Memref sig .tc .vmem S1x128 .f32) (harg13 : arg13.IsWhole) (arg14 : Memref sig .tc .vmem S4144x128 .f32) (harg14 : arg14.IsWhole) (arg15 : Memref sig .tc .vmem S4144x128 .f32) (harg15 : arg15.IsWhole) (arg16 : Memref sig .tc .vmem S4256x128 .f32) (harg16 : arg16.IsWhole) (arg17 : Memref sig .tc .vmem S4256x128 .f32) (harg17 : arg17.IsWhole) (arg18 : Memref sig .tc .vmem S4224x128 .f32) (harg18 : arg18.IsWhole) (arg19 : Memref sig .tc .vmem S4224x128 .f32) (harg19 : arg19.IsWhole) (arg20 : Memref sig .tc .vmem S24x128 .f32) (harg20 : arg20.IsWhole) (arg21 : Memref sig .tc .vmem S248x128 .f32) (harg21 : arg21.IsWhole) (arg22 : Memref sig .tc .vmem S8x128 .f32) (harg22 : arg22.IsWhole) (x1 : Vec F S4352x128 .bf16) (x2 : Vec F S4352x128 .bf16) (x3 : Vec F S4352x128 .bf16) (x4 : Vec F S4352x128 .bf16) (x5 : Vec F S4352x128 .bf16) (x6 : Vec F S4096x128 .bf16) (x7 : Vec F S4096x128 .f32) (x8 : Vec F S1x3x128 .f32) (x9 : Vec F S1x31x128 .f32)
   (E : Set ℕ) (K : PUnit → sProp (MT nD τ sig Unit (Elt F) ℕ (UR sig nD τ) ℕ)) :
   iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outDu x1 x2 x3 x4 x5 x6 x7 x8 x9) ∗ owns (c : Thread nD τ) arg11 fullShare (outSc x1 x2 x3 x6) ∗ owns (c : Thread nD τ) arg12 fullShare (outCf x4 x5 x7) ∗ owns (c : Thread nD τ) arg13 fullShare (outB x7) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
    ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_unfold [cc0_conv_bwd]
  sl_exec!
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    delta kernelRun.sl.H10_8 kernelRun.sl.H10_7 kernelRun.sl.H10_6 kernelRun.sl.H10_5 kernelRun.sl.H10_4 kernelRun.sl.H10_3 kernelRun.sl.H10_2 kernelRun.sl.H10_1 kernelRun.sl.r_3
    delta kernelRun.sl.v71 kernelRun.sl.v72
    delta kernelRun.sl.r_1 kernelRun.sl.r_2
    simp only [harg1.read_unread, harg2.read_unread, harg3.read_unread, harg4.read_unread, harg5.read_unread, harg6.read_unread, harg7.read_unread, harg8.read_unread, harg9.read_unread]
    rw [View.readAt_full, View.readAt_full, harg8.read_unread, harg9.read_unread, trips32, trips33,
      read_pad' harg16 _ _ _ _ k0_pay143 k0_pay145 (fun _ => rfl) (fun _ => rfl), read_pad' harg17 _ _ _ _ k0_pay144 k0_pay146 (fun _ => rfl) (fun _ => rfl), read_back harg18, read_back harg19]
    rw [read_fill' harg14 (prodM x2 x3) _ _ _ k0_pay135 (k0_pay137 (arg2.view.readAt (Elt F) (Rect.unit (s := S4352x128) ![4096, 0] S16x128.size inb_S4352x128_S16x128_4096_0).toLoadRect (harg2.unread x2))
      (arg3.view.readAt (Elt F) (Rect.unit (s := S4352x128) ![4096, 0] S16x128.size inb_S4352x128_S16x128_4096_0).toLoadRect (harg3.unread x3))) (fun _ => rfl) (pay137_row (fun x => readAt_tail harg2 x2 _ x) (fun x => readAt_tail harg3 x3 _ x))]
    exact read_du harg10 x2 x3 x4 x5 x6 _ _ _ _ _ _ _ _ _ _ _ _ _ _ _ _ _ _ _ _ _ _ _
      (meta1_row (fun x => (readAt_top arg18.view _ _ x).trans (congrArg (fun V => rd (n := 4224) (m := 128) V (x 0).val (x 1).val) (read_back harg18 _ _))) (fun x => readAt_tail harg3 x3 _ x))
      (meta2_row (fun x => (readAt_top arg18.view _ _ x).trans (congrArg (fun V => rd (n := 4224) (m := 128) V (x 0).val (x 1).val) (read_back harg18 _ _))) (fun x => readAt_tail harg2 x2 _ x))
      (meta3_row (fun x => (readAt_top arg19.view _ _ x).trans (congrArg (fun V => rd (n := 4224) (m := 128) V (x 0).val (x 1).val) (read_back harg19 _ _))) (fun x => readAt_tail harg5 x5 _ x))
      (meta4_row (fun x => (readAt_top arg19.view _ _ x).trans (congrArg (fun V => rd (n := 4224) (m := 128) V (x 0).val (x 1).val) (read_back harg19 _ _))) (fun x => readAt_tail harg5 x5 _ x) (fun x => readAt_tail harg4 x4 _ x))
      zero256_row zero162_row zero163_row zero164_row zero165_row
  isplitl [H11]
  · iexists _; isplitr; swap; · iexact H11
    ipureintro
    delta kernelRun.sl.H11_1
    rw [View.read_writes_full]
    refine congrArg k0_pay2 ?_
    delta kernelRun.sl.v136
    simp only [harg1.read_unread, harg2.read_unread, harg3.read_unread, harg4.read_unread, harg5.read_unread, harg6.read_unread, harg7.read_unread, harg8.read_unread, harg9.read_unread]
    rw [View.readAt_full, read_stepTo, trips32]
    exact congrArg₂ (fun A B => seqTo (accStep (n := 4144) (J := 24) (dsM x6 x1) A 46) B 32)
      (read_fill harg14 (prodM x2 x3) f14 inb_S4144x128_S32x128_0_0 inb_S4144x128_S16x128_32_0 k0_pay135 _ (fun _ => rfl)
        (pay137_row (fun x => readAt_tail harg2 x2 _ x) (fun x => readAt_tail harg3 x3 _ x)))
      (read_write_full' (Val := Elt F) (m := arg20) arg20.view.junk inb_S24x128_S24x128_0_0 k0_pay147)
  isplitl [H12]
  · iexists _; isplitr; swap; · iexact H12
    ipureintro
    delta kernelRun.sl.H12_1
    rw [View.read_writes_full]
    refine congrArg k0_pay3 ?_
    delta kernelRun.sl.v142
    simp only [harg1.read_unread, harg2.read_unread, harg3.read_unread, harg4.read_unread, harg5.read_unread, harg6.read_unread, harg7.read_unread, harg8.read_unread, harg9.read_unread]
    rw [View.readAt_full, read_stepTo, trips32]
    exact congrArg₂ (fun A B => seqTo (accStep (n := 4144) (J := 248) x7 A 18) B 32)
      (read_fill harg15 (zM x4 x5) f15 inb_S4144x128_S32x128_0_0 inb_S4144x128_S16x128_32_0 k0_pay136 (kernelRun.sl.r c arg4 harg4 arg5 harg5 x4 x5) (fun _ => rfl)
        (pay138_row (fun x => readAt_tail harg4 x4 _ x) (fun x => readAt_tail harg5 x5 _ x)))
      (read_write_full' (Val := Elt F) (m := arg21) arg21.view.junk inb_S248x128_S248x128_0_0 (k0_pay149 k0_pay148))
  isplitl [H13]
  · iexists _; isplitr; swap; · iexact H13
    ipureintro
    delta kernelRun.sl.H13_1
    rw [View.read_writes_full]
    refine congrArg k0_pay4 ?_
    delta kernelRun.sl.v148
    simp only [harg1.read_unread, harg2.read_unread, harg3.read_unread, harg4.read_unread, harg5.read_unread, harg6.read_unread, harg7.read_unread, harg8.read_unread, harg9.read_unread]
    rw [View.readAt_full, read_stepTo, trips32, read_write_full']
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  isplitl [H19]
  · iexists _; iexists _; isplitr; swap; · iexact H19
    ipureintro; rfl
  isplitl [H20]
  · iexists _; iexists _; isplitr; swap; · iexact H20
    ipureintro; rfl
  isplitl [H21]
  · iexists _; iexists _; isplitr; swap; · iexact H21
    ipureintro; rfl
  iexists _; iexists _; isplitr; swap; · iexact H22
  ipureintro; rfl

end Cert.KernelIdeal.Conv

end
-- ==== Proof.Run.lean ====
/-
  The kernel's run at any values: the pipeline's proof data, the body at every grid point, the run of the whole program.
-/
module

public import proofs.«01_k».proof.Proof.Body
public import proofs.«01_k».proof.Proof.Gen.KernelIdeal.Frame
public import Idealize.ShloMosaic.Lib.Tactic
public import Idealize.ShloMosaic.PureOps.BitExact

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]
variable (m : (ℓ : Loc nD τ sig) → Buf (Elt F) ℓ) (ρ : Dev nD → PrngReg)

/-- The proof data: the arrays as the host code left them; after a point each input window at its block and each result
    window at its closed form of the point's blocks; windows on one array share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outDu (iblk m c 0 t) (iblk m c 1 t) (iblk m c 2 t) (iblk m c 3 t) (iblk m c 4 t) (iblk m c 5 t) (iblk m c 6 t) (iblk m c 7 t) (iblk m c 8 t)
    | ⟨10, _⟩ => outSc (iblk m c 0 t) (iblk m c 1 t) (iblk m c 2 t) (iblk m c 5 t)
    | ⟨11, _⟩ => outCf (iblk m c 3 t) (iblk m c 4 t) (iblk m c 6 t)
    | ⟨12, _⟩ => outB (iblk m c 6 t)
  Φ _ := Pipeline.ΦA spec0 c
  q w := Pipeline.shareOf spec0 w
  owed _ := 0

/-- Each window's array starts as the host code left it. -/
theorem A_eq (c : Dev nD) (w : Fin cfg0.W) : (dats m 0 c).A w = V m c (Pipeline.arrRef spec0 w) := rfl
/-- Window 0 after a point. -/
theorem after0_0 (c : Dev nD) (t : Fin cfg0.N) : (dats m 0 c).after 0 t = iblk m c 0 t := by dsimp only [dats]
/-- Window 1 after a point. -/
theorem after0_1 (c : Dev nD) (t : Fin cfg0.N) : (dats m 0 c).after 1 t = iblk m c 1 t := by dsimp only [dats]
/-- Window 2 after a point. -/
theorem after0_2 (c : Dev nD) (t : Fin cfg0.N) : (dats m 0 c).after 2 t = iblk m c 2 t := by dsimp only [dats]
/-- Window 3 after a point. -/
theorem after0_3 (c : Dev nD) (t : Fin cfg0.N) : (dats m 0 c).after 3 t = iblk m c 3 t := by dsimp only [dats]
/-- Window 4 after a point. -/
theorem after0_4 (c : Dev nD) (t : Fin cfg0.N) : (dats m 0 c).after 4 t = iblk m c 4 t := by dsimp only [dats]
/-- Window 5 after a point. -/
theorem after0_5 (c : Dev nD) (t : Fin cfg0.N) : (dats m 0 c).after 5 t = iblk m c 5 t := by dsimp only [dats]
/-- Window 6 after a point. -/
theorem after0_6 (c : Dev nD) (t : Fin cfg0.N) : (dats m 0 c).after 6 t = iblk m c 6 t := by dsimp only [dats]
/-- Window 7 after a point. -/
theorem after0_7 (c : Dev nD) (t : Fin cfg0.N) : (dats m 0 c).after 7 t = iblk m c 7 t := by dsimp only [dats]
/-- Window 8 after a point. -/
theorem after0_8 (c : Dev nD) (t : Fin cfg0.N) : (dats m 0 c).after 8 t = iblk m c 8 t := by dsimp only [dats]
/-- Window 9 after a point. -/
theorem after0_9 (c : Dev nD) (t : Fin cfg0.N) : (dats m 0 c).after 9 t = outDu (iblk m c 0 t) (iblk m c 1 t) (iblk m c 2 t) (iblk m c 3 t) (iblk m c 4 t) (iblk m c 5 t) (iblk m c 6 t) (iblk m c 7 t) (iblk m c 8 t) := by dsimp only [dats]
/-- Window 10 after a point. -/
theorem after0_10 (c : Dev nD) (t : Fin cfg0.N) : (dats m 0 c).after 10 t = outSc (iblk m c 0 t) (iblk m c 1 t) (iblk m c 2 t) (iblk m c 5 t) := by dsimp only [dats]
/-- Window 11 after a point. -/
theorem after0_11 (c : Dev nD) (t : Fin cfg0.N) : (dats m 0 c).after 11 t = outCf (iblk m c 3 t) (iblk m c 4 t) (iblk m c 6 t) := by dsimp only [dats]
/-- Window 12 after a point. -/
theorem after0_12 (c : Dev nD) (t : Fin cfg0.N) : (dats m 0 c).after 12 t = outB (iblk m c 6 t) := by dsimp only [dats]
/-- Input window 0 holds its block when the body runs. -/
theorem before0_0 (c : Dev nD) (t : Fin cfg0.N) (d) : (dats m 0 c).before 0 t d = iblk m c 0 t :=
  before0_0_of m (dats m 0 c) (A_eq m c 0) (after0_0 m c) t d
/-- Input window 1 holds its block when the body runs. -/
theorem before0_1 (c : Dev nD) (t : Fin cfg0.N) (d) : (dats m 0 c).before 1 t d = iblk m c 1 t :=
  before0_1_of m (dats m 0 c) (A_eq m c 1) (after0_1 m c) t d
/-- Input window 2 holds its block when the body runs. -/
theorem before0_2 (c : Dev nD) (t : Fin cfg0.N) (d) : (dats m 0 c).before 2 t d = iblk m c 2 t :=
  before0_2_of m (dats m 0 c) (A_eq m c 2) (after0_2 m c) t d
/-- Input window 3 holds its block when the body runs. -/
theorem before0_3 (c : Dev nD) (t : Fin cfg0.N) (d) : (dats m 0 c).before 3 t d = iblk m c 3 t :=
  before0_3_of m (dats m 0 c) (A_eq m c 3) (after0_3 m c) t d
/-- Input window 4 holds its block when the body runs. -/
theorem before0_4 (c : Dev nD) (t : Fin cfg0.N) (d) : (dats m 0 c).before 4 t d = iblk m c 4 t :=
  before0_4_of m (dats m 0 c) (A_eq m c 4) (after0_4 m c) t d
/-- Input window 5 holds its block when the body runs. -/
theorem before0_5 (c : Dev nD) (t : Fin cfg0.N) (d) : (dats m 0 c).before 5 t d = iblk m c 5 t :=
  before0_5_of m (dats m 0 c) (A_eq m c 5) (after0_5 m c) t d
/-- Input window 6 holds its block when the body runs. -/
theorem before0_6 (c : Dev nD) (t : Fin cfg0.N) (d) : (dats m 0 c).before 6 t d = iblk m c 6 t :=
  before0_6_of m (dats m 0 c) (A_eq m c 6) (after0_6 m c) t d
/-- Input window 7 holds its block when the body runs. -/
theorem before0_7 (c : Dev nD) (t : Fin cfg0.N) (d) : (dats m 0 c).before 7 t d = iblk m c 7 t :=
  before0_7_of m (dats m 0 c) (A_eq m c 7) (after0_7 m c) t d
/-- Input window 8 holds its block when the body runs. -/
theorem before0_8 (c : Dev nD) (t : Fin cfg0.N) (d) : (dats m 0 c).before 8 t d = iblk m c 8 t :=
  before0_8_of m (dats m 0 c) (A_eq m c 8) (after0_8 m c) t d

set_option maxHeartbeats 4000000 in
/-- The body at every grid point meets the pipeline's contract. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9, after0_10, after0_11, after0_12]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (kernelRun c _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [S0]; · iexists _; rw [owns_whole]; iexact S0
  isplitl [S1]; · iexists _; rw [owns_whole]; iexact S1
  isplitl [S2]; · iexists _; rw [owns_whole]; iexact S2
  isplitl [S3]; · iexists _; rw [owns_whole]; iexact S3
  isplitl [S4]; · iexists _; rw [owns_whole]; iexact S4
  isplitl [S5]; · iexists _; rw [owns_whole]; iexact S5
  isplitl [S6]; · iexists _; rw [owns_whole]; iexact S6
  isplitl [S7]; · iexists _; rw [owns_whole]; iexact S7
  isplitl [S8]; · iexists _; rw [owns_whole]; iexact S8
  iintro ⟨H0, H1, H2, H3, H4, H5, H6, H7, H8, H9, H10, H11, H12, ⟨%e0, S0⟩, ⟨%e1, S1⟩, ⟨%e2, S2⟩, ⟨%e3, S3⟩, ⟨%e4, S4⟩, ⟨%e5, S5⟩, ⟨%e6, S6⟩, ⟨%e7, S7⟩, ⟨%e8, S8⟩⟩
  isplitl [Hp S0 S1 S2 S3 S4 S5 S6 S7 S8]
  · isplitr [Hp]; swap; · iexact Hp
    isplitl [S0]; · iexists e0; rw [owns_whole]; exact entails_refl _
    isplitl [S1]; · iexists e1; rw [owns_whole]; exact entails_refl _
    isplitl [S2]; · iexists e2; rw [owns_whole]; exact entails_refl _
    isplitl [S3]; · iexists e3; rw [owns_whole]; exact entails_refl _
    isplitl [S4]; · iexists e4; rw [owns_whole]; exact entails_refl _
    isplitl [S5]; · iexists e5; rw [owns_whole]; exact entails_refl _
    isplitl [S6]; · iexists e6; rw [owns_whole]; exact entails_refl _
    isplitl [S7]; · iexists e7; rw [owns_whole]; exact entails_refl _
    iexists e8; rw [owns_whole]; exact entails_refl _
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option backward.isDefEq.respectTransparency.types false in
/-- From any memory with zero counters every fair execution ends, with each array as the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl) (hΦ := fun _ _ => rfl)

end Cert.KernelIdeal.Conv

end
-- ==== Proof.Same.lean ====
/-
  The two prints of the kernel, read at its own words and at the extended reals, have one text.
-/
module

public import proofs.«01_k».proof.Proof.Gen.Kernel
public import proofs.«01_k».proof.Proof.Gen.KernelIdeal

@[expose] public section

noncomputable section

namespace Cert.KernelIdeal.Conv

open Idealize.ShloMosaic Idealize.ShloMosaic.TcCoe Idealize.SL.Sem

variable {F : FTy → Type} [FloatOps F]

set_option maxHeartbeats 4000000 in
/-- The kernels' bodies are one program. -/
theorem body_same : Cert.Kernel.defs₀ (F := F) = Cert.KernelIdeal.defs₀ (F := F) := by
  unfold Cert.Kernel.defs₀ Cert.KernelIdeal.defs₀
  refine congrArg Defs.onTc ?_
  funext l p
  match l, p with
  | ⟨0, _⟩, (t, s) =>
    dsimp only
    rfl

/-- The definitions the two programs call are the same. -/
theorem defs_same : Cert.Kernel.defs (F := F) = Cert.KernelIdeal.defs (F := F) :=
  congrArg (Pipeline.defs Cert.KernelIdeal.pcfgs) body_same

end Cert.KernelIdeal.Conv

end
-- ==== Proof.Blocks.lean ====
/-
  The blocks the kernel is given, by row and column: the five channels with the sequence rows first, the two cotangents,
  and the taps of 128 columns.
-/
module

public import proofs.«01_k».proof.Proof.Run
public import proofs.«01_k».proof.Proof.HostRows
public import Idealize.ShloMosaic.Lib.Pipeline.Value
public import Idealize.ShloMosaic.Lib.IdealHost
public import Idealize.ShloMosaic.Lib.Claim

@[expose] public section

noncomputable section

namespace Cert.KernelIdeal.Conv

open Idealize.ShloMosaic Idealize.ShloMosaic.TcCoe Cert.KernelIdeal.Gen Cert.Cols

variable (m : (ℓ : Loc nD τ sig) → Buf (Elt Ideal) ℓ) (c : Dev nD)

/-- The channels, as launched. -/
abbrev arrU : Vec Ideal S4112x5120 .bf16 := m ((c : Thread nD τ).loc main_arg0)
/-- The cotangent of the short convolution's output times its gate, as launched. -/
abbrev arrDy : Vec Ideal S4096x1024 .bf16 := m ((c : Thread nD τ).loc main_arg1)
/-- The cotangent of the long convolution's output, as launched. -/
abbrev arrDz : Vec Ideal S4096x1024 .f32 := m ((c : Thread nD τ).loc main_arg2)
/-- The short convolution's taps, as launched. -/
abbrev arrWs : Vec Ideal S3x1024 .f32 := m ((c : Thread nD τ).loc main_arg3)
/-- The long convolution's taps, as launched. -/
abbrev arrWc : Vec Ideal S31x1024 .f32 := m ((c : Thread nD τ).loc main_arg4)

/-- The channels as the kernel is given them: sequence rows, meta rows, zeros. -/
def arrU3 (U : Vec Ideal S4112x5120 .bf16) : Vec Ideal S4352x5120 .bf16 :=
  concatenate S4352x5120 0 [⟨S4096x5120, extractStridedSlice S4096x5120 ![16, 0] U slices_S4112x5120_S4096x5120_16_0⟩,
    ⟨S16x5120, extractStridedSlice S16x5120 ![0, 0] U slices_S4112x5120_S16x5120_0_0⟩,
    ⟨S240x5120, broadcastInDim S240x5120 ![] bcast_S_S240x5120 (constant (F := Ideal) S_ .bf16 0x0000#16)⟩]
    concatenates_S4096x5120_S16x5120_S240x5120_S4352x5120_d0

/-- The host lines give the kernel the channels in its row order, -/
theorem V_main_v3 : V m c main_v3 = arrU3 (arrU m c) := by
  unfold_abbrev_sides
  after_results
  rfl

/-- the short convolution's taps by group of 128 columns, -/
theorem V_main_v5 : V m c main_v5 = (transpose S8x3x128 [1, 0, 2] (shapeCast S3x8x128 (arrWs m c) shapeCasts_S3x1024_S3x8x128)
    transposes_S3x8x128_S8x3x128_1_0_2 : Vec Ideal S8x3x128 .f32) := by
  unfold_abbrev_sides
  after_results
  rfl

/-- and the long convolution's. -/
theorem V_main_v7 : V m c main_v7 = (transpose S8x31x128 [1, 0, 2] (shapeCast S31x8x128 (arrWc m c) shapeCasts_S31x1024_S31x8x128)
    transposes_S31x8x128_S8x31x128_1_0_2 : Vec Ideal S8x31x128 .f32) := by
  unfold_abbrev_sides
  after_results
  rfl

/-- The kernel's row order, by row and column. -/
theorem rd_arrU3 (U : Vec Ideal S4112x5120 .bf16) (r k : ℕ) (hr : r < 4352) (hk : k < 5120) :
    rd (arrU3 U) r k = seqFirst (fun i => rd U i k) r := by
  unfold arrU3 seqFirst
  refine (rd_under3 (n := 4352) (m := 5120) (p := 4096) (q := 16) (k := 240) _ _ _ _ r k hr rfl hk).trans ?_
  split
  · refine (rd_slice (n := 4112) (m := 5120) (p := 4096) (q := 5120) 16 0 U _ r k (by omega) hk).trans ?_
    exact congrArg₂ (rd U) (by omega) (by omega)
  · split
    · refine (rd_slice (n := 4112) (m := 5120) (p := 16) (q := 5120) 0 0 U _ (r - 4096) k (by omega) hk).trans ?_
      exact congrArg₂ (rd U) (by omega) (by omega)
    · exact Ideal.ofBits_zero_bf16

/-- The taps of column `128 j + l`, by group and column. -/
theorem taps_at {T : ℕ} [NeZero T] (W : (⟨2, ![T, 1024]⟩ : Shape).Idx → Ideal .f32) (h : (⟨2, ![T, 1024]⟩ : Shape).ShapeCasts ⟨3, ![T, 8, 128]⟩)
    (h' : (⟨3, ![T, 8, 128]⟩ : Shape).Transposes [1, 0, 2] ⟨3, ![8, T, 128]⟩) (j t l : ℕ) (hj : j < 8) (ht : t < T) (hl : l < 128) :
    rd3 (transpose ⟨3, ![8, T, 128]⟩ [1, 0, 2] (shapeCast ⟨3, ![T, 8, 128]⟩ W h) h') j t l = rd W t (128 * j + l) := by
  refine (rd3_at (p := 8) (n := T) (m := 128) _ j t l hj ht hl).trans ?_
  refine (transpose_apply _ _ _ _ (ValueIdx.ix3 (⟨t, ht⟩ : Fin T) (⟨j, hj⟩ : Fin 8) (⟨l, hl⟩ : Fin 128)) fun b => ?_).trans ?_
  · match b with
    | ⟨0, _⟩ => rfl
    | ⟨1, _⟩ => rfl
    | ⟨2, _⟩ => rfl
  · refine (shapeCast_apply _ _ _ (ValueIdx.ix2 (⟨t, ht⟩ : Fin T) (⟨128 * j + l, by omega⟩ : Fin 1024)) ?_).trans (eq_rd _ _ _ _ rfl rfl)
    rw [Shape.rowMajor_val_three, Shape.rowMajor_val_two]
    show t * 1024 + (128 * j + l) = (t * 8 + j) * 128 + l
    omega

/-! ## The windows' blocks -/

/-- The columns of the five channels' blocks. -/
theorem idx_in : ∀ t : Fin grid0.N, (win0_0.index t 0 = 0 ∧ win0_0.index t 1 = t.val) ∧ (win0_1.index t 0 = 0 ∧ win0_1.index t 1 = 8 + t.val)
    ∧ (win0_2.index t 0 = 0 ∧ win0_2.index t 1 = 16 + t.val) ∧ (win0_3.index t 0 = 0 ∧ win0_3.index t 1 = 24 + t.val)
    ∧ (win0_4.index t 0 = 0 ∧ win0_4.index t 1 = 32 + t.val) ∧ (win0_5.index t 0 = 0 ∧ win0_5.index t 1 = t.val)
    ∧ (win0_6.index t 0 = 0 ∧ win0_6.index t 1 = t.val) := by decide +kernel

/-- The groups of the taps' blocks. -/
theorem idx_taps : ∀ t : Fin grid0.N, (win0_7.index t 0 = t.val ∧ win0_7.index t 1 = 0 ∧ win0_7.index t 2 = 0)
    ∧ (win0_8.index t 0 = t.val ∧ win0_8.index t 1 = 0 ∧ win0_8.index t 2 = 0) := by decide +kernel

/-- The places of the results' blocks. -/
theorem idx_out : ∀ t : Fin grid0.N, (win0_9.index t 0 = 0 ∧ win0_9.index t 1 = 0 ∧ win0_9.index t 2 = t.val)
    ∧ (win0_10.index t 0 = t.val ∧ win0_10.index t 1 = 0 ∧ win0_10.index t 2 = 0)
    ∧ (win0_11.index t 0 = t.val ∧ win0_11.index t 1 = 0 ∧ win0_11.index t 2 = 0)
    ∧ (win0_12.index t 0 = 0 ∧ win0_12.index t 1 = t.val) := by decide +kernel

/-- There are eight points. -/
theorem pt_lt (t : Fin grid0.N) : t.val < 8 := Nat.lt_of_lt_of_eq t.isLt N_0

/-- Channel 0's block. -/
theorem blk0 (t : Fin cfg0.N) (l : ℕ) (hl : l < 128) (r : ℕ) (hr : r < 4352) :
    rd (iblk m c 0 t : Vec Ideal S4352x128 .bf16) r l = seqFirst (fun i => rd (arrU m c) i ((128 * t.val + l))) r := by
  have ht := pt_lt t
  have e := (idx_in t).1
  refine (rd_at (n := 4352) (m := 128) _ r l hr hl).trans ?_
  refine Eq.trans ?_ (rd_arrU3 (arrU m c) r ((128 * t.val + l)) hr (by omega))
  rw [← V_main_v3]
  refine eq_rd (n := 4352) (m := 5120) (V m c main_v3) (((cfg0.win 0).blk t).view.emb (ValueIdx.ix2 (⟨r, hr⟩ : Fin 4352) (⟨l, hl⟩ : Fin 128))) _ _ ?_ ?_
  · show win0_0.index t 0 * 4352 + 1 * r = r
    omega
  · show win0_0.index t 1 * 128 + 1 * l = (128 * t.val + l)
    omega

/-- Channel 1's block. -/
theorem blk1 (t : Fin cfg0.N) (l : ℕ) (hl : l < 128) (r : ℕ) (hr : r < 4352) :
    rd (iblk m c 1 t : Vec Ideal S4352x128 .bf16) r l = seqFirst (fun i => rd (arrU m c) i (1024 + (128 * t.val + l))) r := by
  have ht := pt_lt t
  have e := (idx_in t).2.1
  refine (rd_at (n := 4352) (m := 128) _ r l hr hl).trans ?_
  refine Eq.trans ?_ (rd_arrU3 (arrU m c) r (1024 + (128 * t.val + l)) hr (by omega))
  rw [← V_main_v3]
  refine eq_rd (n := 4352) (m := 5120) (V m c main_v3) (((cfg0.win 1).blk t).view.emb (ValueIdx.ix2 (⟨r, hr⟩ : Fin 4352) (⟨l, hl⟩ : Fin 128))) _ _ ?_ ?_
  · show win0_1.index t 0 * 4352 + 1 * r = r
    omega
  · show win0_1.index t 1 * 128 + 1 * l = 1024 + (128 * t.val + l)
    omega

/-- Channel 2's block. -/
theorem blk2 (t : Fin cfg0.N) (l : ℕ) (hl : l < 128) (r : ℕ) (hr : r < 4352) :
    rd (iblk m c 2 t : Vec Ideal S4352x128 .bf16) r l = seqFirst (fun i => rd (arrU m c) i (2048 + (128 * t.val + l))) r := by
  have ht := pt_lt t
  have e := (idx_in t).2.2.1
  refine (rd_at (n := 4352) (m := 128) _ r l hr hl).trans ?_
  refine Eq.trans ?_ (rd_arrU3 (arrU m c) r (2048 + (128 * t.val + l)) hr (by omega))
  rw [← V_main_v3]
  refine eq_rd (n := 4352) (m := 5120) (V m c main_v3) (((cfg0.win 2).blk t).view.emb (ValueIdx.ix2 (⟨r, hr⟩ : Fin 4352) (⟨l, hl⟩ : Fin 128))) _ _ ?_ ?_
  · show win0_2.index t 0 * 4352 + 1 * r = r
    omega
  · show win0_2.index t 1 * 128 + 1 * l = 2048 + (128 * t.val + l)
    omega

/-- Channel 3's block. -/
theorem blk3 (t : Fin cfg0.N) (l : ℕ) (hl : l < 128) (r : ℕ) (hr : r < 4352) :
    rd (iblk m c 3 t : Vec Ideal S4352x128 .bf16) r l = seqFirst (fun i => rd (arrU m c) i (3072 + (128 * t.val + l))) r := by
  have ht := pt_lt t
  have e := (idx_in t).2.2.2.1
  refine (rd_at (n := 4352) (m := 128) _ r l hr hl).trans ?_
  refine Eq.trans ?_ (rd_arrU3 (arrU m c) r (3072 + (128 * t.val + l)) hr (by omega))
  rw [← V_main_v3]
  refine eq_rd (n := 4352) (m := 5120) (V m c main_v3) (((cfg0.win 3).blk t).view.emb (ValueIdx.ix2 (⟨r, hr⟩ : Fin 4352) (⟨l, hl⟩ : Fin 128))) _ _ ?_ ?_
  · show win0_3.index t 0 * 4352 + 1 * r = r
    omega
  · show win0_3.index t 1 * 128 + 1 * l = 3072 + (128 * t.val + l)
    omega

/-- Channel 4's block. -/
theorem blk4 (t : Fin cfg0.N) (l : ℕ) (hl : l < 128) (r : ℕ) (hr : r < 4352) :
    rd (iblk m c 4 t : Vec Ideal S4352x128 .bf16) r l = seqFirst (fun i => rd (arrU m c) i (4096 + (128 * t.val + l))) r := by
  have ht := pt_lt t
  have e := (idx_in t).2.2.2.2.1
  refine (rd_at (n := 4352) (m := 128) _ r l hr hl).trans ?_
  refine Eq.trans ?_ (rd_arrU3 (arrU m c) r (4096 + (128 * t.val + l)) hr (by omega))
  rw [← V_main_v3]
  refine eq_rd (n := 4352) (m := 5120) (V m c main_v3) (((cfg0.win 4).blk t).view.emb (ValueIdx.ix2 (⟨r, hr⟩ : Fin 4352) (⟨l, hl⟩ : Fin 128))) _ _ ?_ ?_
  · show win0_4.index t 0 * 4352 + 1 * r = r
    omega
  · show win0_4.index t 1 * 128 + 1 * l = 4096 + (128 * t.val + l)
    omega

/-- The block of the cotangent. -/
theorem blk5 (t : Fin cfg0.N) (l : ℕ) (hl : l < 128) (r : ℕ) (hr : r < 4096) :
    rd (iblk m c 5 t : Vec Ideal S4096x128 .bf16) r l = rd (arrDy m c) r (128 * t.val + l) := by
  have ht := pt_lt t
  have e := (idx_in t).2.2.2.2.2.1
  refine (rd_at (n := 4096) (m := 128) _ r l hr hl).trans ?_
  rw [show arrDy m c = V m c main_arg1 from (V_main_arg1 m c).symm]
  refine eq_rd (n := 4096) (m := 1024) (V m c main_arg1) (((cfg0.win 5).blk t).view.emb (ValueIdx.ix2 (⟨r, hr⟩ : Fin 4096) (⟨l, hl⟩ : Fin 128))) _ _ ?_ ?_
  · show win0_5.index t 0 * 4096 + 1 * r = r
    omega
  · show win0_5.index t 1 * 128 + 1 * l = 128 * t.val + l
    omega

/-- The block of the cotangent. -/
theorem blk6 (t : Fin cfg0.N) (l : ℕ) (hl : l < 128) (r : ℕ) (hr : r < 4096) :
    rd (iblk m c 6 t : Vec Ideal S4096x128 .f32) r l = rd (arrDz m c) r (128 * t.val + l) := by
  have ht := pt_lt t
  have e := (idx_in t).2.2.2.2.2.2
  refine (rd_at (n := 4096) (m := 128) _ r l hr hl).trans ?_
  rw [show arrDz m c = V m c main_arg2 from (V_main_arg2 m c).symm]
  refine eq_rd (n := 4096) (m := 1024) (V m c main_arg2) (((cfg0.win 6).blk t).view.emb (ValueIdx.ix2 (⟨r, hr⟩ : Fin 4096) (⟨l, hl⟩ : Fin 128))) _ _ ?_ ?_
  · show win0_6.index t 0 * 4096 + 1 * r = r
    omega
  · show win0_6.index t 1 * 128 + 1 * l = 128 * t.val + l
    omega

/-- The block of the taps. -/
theorem blk7 (t : Fin cfg0.N) (l : ℕ) (hl : l < 128) (k : ℕ) (hk : k < 3) :
    rd3 (iblk m c 7 t : Vec Ideal S1x3x128 .f32) 0 k l = rd (arrWs m c) k (128 * t.val + l) := by
  have ht := pt_lt t
  have e := (idx_taps t).1
  refine (rd3_at (p := 1) (n := 3) (m := 128) _ 0 k l (by omega) hk hl).trans ?_
  refine Eq.trans ?_ (taps_at (T := 3) (arrWs m c) shapeCasts_S3x1024_S3x8x128 transposes_S3x8x128_S8x3x128_1_0_2 t.val k l ht hk hl)
  refine Eq.trans ?_ (congrArg (fun X : Vec Ideal S8x3x128 .f32 => rd3 X t.val k l) (V_main_v5 m c))
  refine eq_rd3 (p := 8) (n := 3) (m := 128) (V m c main_v5) (((cfg0.win 7).blk t).view.emb (ValueIdx.ix3 (⟨0, by omega⟩ : Fin 1) (⟨k, hk⟩ : Fin 3) (⟨l, hl⟩ : Fin 128))) _ _ _ ?_ ?_ ?_
  · show win0_7.index t 0 * 1 + 1 * 0 = t.val
    omega
  · show win0_7.index t 1 * 3 + 1 * k = k
    omega
  · show win0_7.index t 2 * 128 + 1 * l = l
    omega

/-- The block of the taps. -/
theorem blk8 (t : Fin cfg0.N) (l : ℕ) (hl : l < 128) (k : ℕ) (hk : k < 31) :
    rd3 (iblk m c 8 t : Vec Ideal S1x31x128 .f32) 0 k l = rd (arrWc m c) k (128 * t.val + l) := by
  have ht := pt_lt t
  have e := (idx_taps t).2
  refine (rd3_at (p := 1) (n := 31) (m := 128) _ 0 k l (by omega) hk hl).trans ?_
  refine Eq.trans ?_ (taps_at (T := 31) (arrWc m c) shapeCasts_S31x1024_S31x8x128 transposes_S31x8x128_S8x31x128_1_0_2 t.val k l ht hk hl)
  refine Eq.trans ?_ (congrArg (fun X : Vec Ideal S8x31x128 .f32 => rd3 X t.val k l) (V_main_v7 m c))
  refine eq_rd3 (p := 8) (n := 31) (m := 128) (V m c main_v7) (((cfg0.win 8).blk t).view.emb (ValueIdx.ix3 (⟨0, by omega⟩ : Fin 1) (⟨k, hk⟩ : Fin 31) (⟨l, hl⟩ : Fin 128))) _ _ _ ?_ ?_ ?_
  · show win0_8.index t 0 * 1 + 1 * 0 = t.val
    omega
  · show win0_8.index t 1 * 31 + 1 * k = k
    omega
  · show win0_8.index t 2 * 128 + 1 * l = l
    omega

end Cert.KernelIdeal.Conv

end
-- ==== Proof.Value.lean ====
/-
  The kernel's four result arrays after the run are the four gradients.
-/
module

public import proofs.«01_k».proof.Proof.Blocks
public import proofs.«01_k».proof.Proof.Answer

@[expose] public section

noncomputable section

namespace Cert.KernelIdeal.Conv

open Idealize.ShloMosaic Idealize.ShloMosaic.TcCoe Idealize.SL.Sem Cert.KernelIdeal.Gen Cert.Cols
open Idealize.ShloMosaic.Pipeline (Dat)

variable (m : (ℓ : Loc nD τ sig) → Buf (Elt Ideal) ℓ) (ρ : Dev nD → PrngReg) (c : Dev nD)

section Columns
variable (t : Fin cfg0.N) (l : ℕ) (hl : l < 128)
include hl

/-- Channel 0's block holds the columns of channel 0. -/
theorem chan0 (r : ℕ) (hr : r < 4352) : rd (iblk m c 0 t : Vec Ideal S4352x128 .bf16) r l = seqFirst (chan (arrU m c) 0 (128 * t.val + l)) r :=
  (blk0 m c t l hl r hr).trans (by unfold chan; simp only [Nat.mul_zero, Nat.zero_add, Nat.reduceMul])

/-- Channel 1's block holds the columns of channel 1. -/
theorem chan1 (r : ℕ) (hr : r < 4352) : rd (iblk m c 1 t : Vec Ideal S4352x128 .bf16) r l = seqFirst (chan (arrU m c) 1 (128 * t.val + l)) r :=
  (blk1 m c t l hl r hr).trans (by unfold chan; simp only [Nat.mul_zero, Nat.zero_add, Nat.reduceMul])

/-- Channel 2's block holds the columns of channel 2. -/
theorem chan2 (r : ℕ) (hr : r < 4352) : rd (iblk m c 2 t : Vec Ideal S4352x128 .bf16) r l = seqFirst (chan (arrU m c) 2 (128 * t.val + l)) r :=
  (blk2 m c t l hl r hr).trans (by unfold chan; simp only [Nat.mul_zero, Nat.zero_add, Nat.reduceMul])

/-- Channel 3's block holds the columns of channel 3. -/
theorem chan3 (r : ℕ) (hr : r < 4352) : rd (iblk m c 3 t : Vec Ideal S4352x128 .bf16) r l = seqFirst (chan (arrU m c) 3 (128 * t.val + l)) r :=
  (blk3 m c t l hl r hr).trans (by unfold chan; simp only [Nat.mul_zero, Nat.zero_add, Nat.reduceMul])

/-- Channel 4's block holds the columns of channel 4. -/
theorem chan4 (r : ℕ) (hr : r < 4352) : rd (iblk m c 4 t : Vec Ideal S4352x128 .bf16) r l = seqFirst (chan (arrU m c) 4 (128 * t.val + l)) r :=
  (blk4 m c t l hl r hr).trans (by unfold chan; simp only [Nat.mul_zero, Nat.zero_add, Nat.reduceMul])

end Columns

/-! ## What a point writes back -/

/-- The channels' gradient of a point's columns. -/
theorem flushed9 (t : Fin cfg0.N) :
    (dats m 0 c).flushed 9 t = ((cfg0.win 9).blk t).view.read (Elt Ideal) (duA (arrU m c) (arrDy m c) (arrDz m c) (arrWs m c) (arrWc m c)) := by
  show (cfg0.win 9).cut (grid0.coords t) ((dats m 0 c).after 9 t) = _
  rw [after0_9]
  funext y
  obtain ⟨e0, e1, e2⟩ := (idx_out t).1
  have y0 : (y 0).val < 5 := (y 0).isLt
  have y1 : (y 1).val < 4352 := (y 1).isLt
  have y2 : (y 2).val < 128 := (y 2).isLt
  refine (eq_rd3 (p := 5) (n := 4352) (m := 128) (outDu (F := Ideal) (iblk m c 0 t) (iblk m c 1 t) (iblk m c 2 t) (iblk m c 3 t) (iblk m c 4 t) (iblk m c 5 t) (iblk m c 6 t) (iblk m c 7 t) (iblk m c 8 t)) y _ _ _ rfl rfl rfl).trans ?_
  refine (outDu_col y2 (chan0 m c t _ y2) (chan1 m c t _ y2) (chan2 m c t _ y2) (chan3 m c t _ y2) (chan4 m c t _ y2)
    (blk5 m c t _ y2) (blk6 m c t _ y2) (blk7 m c t _ y2) (blk8 m c t _ y2) _ _ y0 y1).trans ?_
  have f0 : (((cfg0.win 9).blk t).view.emb y 0).val = (y 0).val := by
    show win0_9.index t 0 * 5 + 1 * (y 0).val = _
    omega
  have f1 : (((cfg0.win 9).blk t).view.emb y 1).val = (y 1).val := by
    show win0_9.index t 1 * 4352 + 1 * (y 1).val = _
    omega
  have f2 : (((cfg0.win 9).blk t).view.emb y 2).val = 128 * t.val + (y 2).val := by
    show win0_9.index t 2 * 128 + 1 * (y 2).val = _
    omega
  show _ = duEntry (arrU m c) (arrDy m c) (arrDz m c) (arrWs m c) (arrWc m c) (((cfg0.win 9).blk t).view.emb y 0).val
    (((cfg0.win 9).blk t).view.emb y 1).val (((cfg0.win 9).blk t).view.emb y 2).val
  rw [f0, f1, f2]
  rfl

/-- The short convolution's tap gradient of a point's columns. -/
theorem flushed10 (t : Fin cfg0.N) : (dats m 0 c).flushed 10 t = ((cfg0.win 10).blk t).view.read (Elt Ideal) (scA (arrU m c) (arrDy m c)) := by
  show (cfg0.win 10).cut (grid0.coords t) ((dats m 0 c).after 10 t) = _
  rw [after0_10]
  funext y
  obtain ⟨e0, e1, e2⟩ := (idx_out t).2.1
  have y0 : (y 0).val < 1 := (y 0).isLt
  have y1 : (y 1).val < 3 := (y 1).isLt
  have y2 : (y 2).val < 128 := (y 2).isLt
  refine (eq_rd3 (p := 1) (n := 3) (m := 128) (outSc (F := Ideal) (iblk m c 0 t) (iblk m c 1 t) (iblk m c 2 t) (iblk m c 5 t)) y 0 _ _ (by omega) rfl rfl).trans ?_
  refine (outSc_col y2 (chan0 m c t _ y2) (chan1 m c t _ y2) (chan2 m c t _ y2) (blk5 m c t _ y2) _ y1).trans ?_
  have f0 : (((cfg0.win 10).blk t).view.emb y 0).val = t.val := by
    show win0_10.index t 0 * 1 + 1 * (y 0).val = _
    omega
  have f1 : (((cfg0.win 10).blk t).view.emb y 1).val = (y 1).val := by
    show win0_10.index t 1 * 3 + 1 * (y 1).val = _
    omega
  have f2 : (((cfg0.win 10).blk t).view.emb y 2).val = (y 2).val := by
    show win0_10.index t 2 * 128 + 1 * (y 2).val = _
    omega
  show _ = scEntry (arrU m c) (arrDy m c) (((cfg0.win 10).blk t).view.emb y 1).val (128 * (((cfg0.win 10).blk t).view.emb y 0).val + (((cfg0.win 10).blk t).view.emb y 2).val)
  rw [f0, f1, f2]
  rfl

/-- The long convolution's tap gradient of a point's columns. -/
theorem flushed11 (t : Fin cfg0.N) : (dats m 0 c).flushed 11 t = ((cfg0.win 11).blk t).view.read (Elt Ideal) (cfA (arrU m c) (arrDz m c)) := by
  show (cfg0.win 11).cut (grid0.coords t) ((dats m 0 c).after 11 t) = _
  rw [after0_11]
  funext y
  obtain ⟨e0, e1, e2⟩ := (idx_out t).2.2.1
  have y0 : (y 0).val < 1 := (y 0).isLt
  have y1 : (y 1).val < 31 := (y 1).isLt
  have y2 : (y 2).val < 128 := (y 2).isLt
  refine (eq_rd3 (p := 1) (n := 31) (m := 128) (outCf (F := Ideal) (iblk m c 3 t) (iblk m c 4 t) (iblk m c 6 t)) y 0 _ _ (by omega) rfl rfl).trans ?_
  refine (outCf_col y2 (chan3 m c t _ y2) (chan4 m c t _ y2) (blk6 m c t _ y2) _ y1).trans ?_
  have f0 : (((cfg0.win 11).blk t).view.emb y 0).val = t.val := by
    show win0_11.index t 0 * 1 + 1 * (y 0).val = _
    omega
  have f1 : (((cfg0.win 11).blk t).view.emb y 1).val = (y 1).val := by
    show win0_11.index t 1 * 31 + 1 * (y 1).val = _
    omega
  have f2 : (((cfg0.win 11).blk t).view.emb y 2).val = (y 2).val := by
    show win0_11.index t 2 * 128 + 1 * (y 2).val = _
    omega
  show _ = cfEntry (arrU m c) (arrDz m c) (((cfg0.win 11).blk t).view.emb y 1).val (128 * (((cfg0.win 11).blk t).view.emb y 0).val + (((cfg0.win 11).blk t).view.emb y 2).val)
  rw [f0, f1, f2]
  rfl

/-- The bias gradient of a point's columns. -/
theorem flushed12 (t : Fin cfg0.N) : (dats m 0 c).flushed 12 t = ((cfg0.win 12).blk t).view.read (Elt Ideal) (bA (arrDz m c)) := by
  show (cfg0.win 12).cut (grid0.coords t) ((dats m 0 c).after 12 t) = _
  rw [after0_12]
  funext y
  obtain ⟨e0, e1⟩ := (idx_out t).2.2.2
  have y0 : (y 0).val < 1 := (y 0).isLt
  have y1 : (y 1).val < 128 := (y 1).isLt
  refine (eq_rd (n := 1) (m := 128) (outB (F := Ideal) (iblk m c 6 t)) y 0 _ (by omega) rfl).trans ?_
  refine (outB_col y1 (blk6 m c t _ y1)).trans ?_
  have f1 : (((cfg0.win 12).blk t).view.emb y 1).val = 128 * t.val + (y 1).val := by
    show win0_12.index t 1 * 128 + 1 * (y 1).val = _
    omega
  show _ = bEntry (arrDz m c) (((cfg0.win 12).blk t).view.emb y 1).val
  rw [f1]
  rfl

/-! ## Every entry is written -/

/-- Every entry of result 0 is in some point's block. -/
theorem cover9 (i : S5x4352x1024.Idx) : ∃ t : Fin cfg0.N, (cfg0.win 9).flush t = true ∧ i ∈ ((cfg0.win 9).blk t).view.set := by
  have h0 : (i 0).val < 5 := (i 0).isLt
  have h1 : (i 1).val < 4352 := (i 1).isLt
  have h2 : (i 2).val < 1024 := (i 2).isLt
  have hp : (i 2).val / 128 < grid0.N := Nat.lt_of_lt_of_eq (show (i 2).val / 128 < 8 by omega) N_0.symm
  have e := (idx_out ⟨(i 2).val / 128, hp⟩).1
  refine ⟨⟨(i 2).val / 128, hp⟩, flush0_9 _, ?_⟩
  show i ∈ ((View.whole main_v8_0).slice (win0_9.rect ⟨(i 2).val / 128, hp⟩)).set
  rw [View.set_slice_whole, Rect.mem_set_unit]
  intro a
  match a with
  | ⟨0, _⟩ =>
    show win0_9.index ⟨(i 2).val / 128, hp⟩ 0 * 5 ≤ (i 0).val ∧ (i 0).val < win0_9.index ⟨(i 2).val / 128, hp⟩ 0 * 5 + 5
    have e := e.1
    dsimp only at e
    omega
  | ⟨1, _⟩ =>
    show win0_9.index ⟨(i 2).val / 128, hp⟩ 1 * 4352 ≤ (i 1).val ∧ (i 1).val < win0_9.index ⟨(i 2).val / 128, hp⟩ 1 * 4352 + 4352
    have e := e.2.1
    dsimp only at e
    omega
  | ⟨2, _⟩ =>
    show win0_9.index ⟨(i 2).val / 128, hp⟩ 2 * 128 ≤ (i 2).val ∧ (i 2).val < win0_9.index ⟨(i 2).val / 128, hp⟩ 2 * 128 + 128
    have e := e.2.2
    dsimp only at e
    omega

/-- Every entry of result 1 is in some point's block. -/
theorem cover10 (i : S8x3x128.Idx) : ∃ t : Fin cfg0.N, (cfg0.win 10).flush t = true ∧ i ∈ ((cfg0.win 10).blk t).view.set := by
  have h0 : (i 0).val < 8 := (i 0).isLt
  have h1 : (i 1).val < 3 := (i 1).isLt
  have h2 : (i 2).val < 128 := (i 2).isLt
  have hp : (i 0).val < grid0.N := Nat.lt_of_lt_of_eq (show (i 0).val < 8 by omega) N_0.symm
  have e := (idx_out ⟨(i 0).val, hp⟩).2.1
  refine ⟨⟨(i 0).val, hp⟩, flush0_10 _, ?_⟩
  show i ∈ ((View.whole main_v8_1).slice (win0_10.rect ⟨(i 0).val, hp⟩)).set
  rw [View.set_slice_whole, Rect.mem_set_unit]
  intro a
  match a with
  | ⟨0, _⟩ =>
    show win0_10.index ⟨(i 0).val, hp⟩ 0 * 1 ≤ (i 0).val ∧ (i 0).val < win0_10.index ⟨(i 0).val, hp⟩ 0 * 1 + 1
    have e := e.1
    dsimp only at e
    omega
  | ⟨1, _⟩ =>
    show win0_10.index ⟨(i 0).val, hp⟩ 1 * 3 ≤ (i 1).val ∧ (i 1).val < win0_10.index ⟨(i 0).val, hp⟩ 1 * 3 + 3
    have e := e.2.1
    dsimp only at e
    omega
  | ⟨2, _⟩ =>
    show win0_10.index ⟨(i 0).val, hp⟩ 2 * 128 ≤ (i 2).val ∧ (i 2).val < win0_10.index ⟨(i 0).val, hp⟩ 2 * 128 + 128
    have e := e.2.2
    dsimp only at e
    omega

/-- Every entry of result 2 is in some point's block. -/
theorem cover11 (i : S8x31x128.Idx) : ∃ t : Fin cfg0.N, (cfg0.win 11).flush t = true ∧ i ∈ ((cfg0.win 11).blk t).view.set := by
  have h0 : (i 0).val < 8 := (i 0).isLt
  have h1 : (i 1).val < 31 := (i 1).isLt
  have h2 : (i 2).val < 128 := (i 2).isLt
  have hp : (i 0).val < grid0.N := Nat.lt_of_lt_of_eq (show (i 0).val < 8 by omega) N_0.symm
  have e := (idx_out ⟨(i 0).val, hp⟩).2.2.1
  refine ⟨⟨(i 0).val, hp⟩, flush0_11 _, ?_⟩
  show i ∈ ((View.whole main_v8_2).slice (win0_11.rect ⟨(i 0).val, hp⟩)).set
  rw [View.set_slice_whole, Rect.mem_set_unit]
  intro a
  match a with
  | ⟨0, _⟩ =>
    show win0_11.index ⟨(i 0).val, hp⟩ 0 * 1 ≤ (i 0).val ∧ (i 0).val < win0_11.index ⟨(i 0).val, hp⟩ 0 * 1 + 1
    have e := e.1
    dsimp only at e
    omega
  | ⟨1, _⟩ =>
    show win0_11.index ⟨(i 0).val, hp⟩ 1 * 31 ≤ (i 1).val ∧ (i 1).val < win0_11.index ⟨(i 0).val, hp⟩ 1 * 31 + 31
    have e := e.2.1
    dsimp only at e
    omega
  | ⟨2, _⟩ =>
    show win0_11.index ⟨(i 0).val, hp⟩ 2 * 128 ≤ (i 2).val ∧ (i 2).val < win0_11.index ⟨(i 0).val, hp⟩ 2 * 128 + 128
    have e := e.2.2
    dsimp only at e
    omega

/-- Every entry of result 3 is in some point's block. -/
theorem cover12 (i : S1x1024.Idx) : ∃ t : Fin cfg0.N, (cfg0.win 12).flush t = true ∧ i ∈ ((cfg0.win 12).blk t).view.set := by
  have h0 : (i 0).val < 1 := (i 0).isLt
  have h1 : (i 1).val < 1024 := (i 1).isLt
  have hp : (i 1).val / 128 < grid0.N := Nat.lt_of_lt_of_eq (show (i 1).val / 128 < 8 by omega) N_0.symm
  have e := (idx_out ⟨(i 1).val / 128, hp⟩).2.2.2
  refine ⟨⟨(i 1).val / 128, hp⟩, flush0_12 _, ?_⟩
  show i ∈ ((View.whole main_v8_3).slice (win0_12.rect ⟨(i 1).val / 128, hp⟩)).set
  rw [View.set_slice_whole, Rect.mem_set_unit]
  intro a
  match a with
  | ⟨0, _⟩ =>
    show win0_12.index ⟨(i 1).val / 128, hp⟩ 0 * 1 ≤ (i 0).val ∧ (i 0).val < win0_12.index ⟨(i 1).val / 128, hp⟩ 0 * 1 + 1
    have e := e.1
    dsimp only at e
    omega
  | ⟨1, _⟩ =>
    show win0_12.index ⟨(i 1).val / 128, hp⟩ 1 * 128 ≤ (i 1).val ∧ (i 1).val < win0_12.index ⟨(i 1).val / 128, hp⟩ 1 * 128 + 128
    have e := e.2
    dsimp only at e
    omega

/-- Result 0 after the run. -/
theorem final9 : (dats m 0 c).arrAt 9 cfg0.N = (duA (arrU m c) (arrDy m c) (arrDz m c) (arrWs m c) (arrWc m c)) :=
  (dats m 0 c).arrAt_eq_of_cover 9 _ (fun t _ => flushed9 m c t) cover9

/-- Result 1 after the run. -/
theorem final10 : (dats m 0 c).arrAt 10 cfg0.N = (scA (arrU m c) (arrDy m c)) :=
  (dats m 0 c).arrAt_eq_of_cover 10 _ (fun t _ => flushed10 m c t) cover10

/-- Result 2 after the run. -/
theorem final11 : (dats m 0 c).arrAt 11 cfg0.N = (cfA (arrU m c) (arrDz m c)) :=
  (dats m 0 c).arrAt_eq_of_cover 11 _ (fun t _ => flushed11 m c t) cover11

/-- Result 3 after the run. -/
theorem final12 : (dats m 0 c).arrAt 12 cfg0.N = (bA (arrDz m c)) :=
  (dats m 0 c).arrAt_eq_of_cover 12 _ (fun t _ => flushed12 m c t) cover12

/-- The kernel's run: the four gradients, the arguments unchanged. -/
theorem run_value : θ_run defs (onTc (τ := τ) (main (F := Ideal))) ⟨m, fun _ => 0, ρ⟩ fun r => ∀ c : Dev nD,
    r.2.mem ((c : Thread nD τ).loc main_v8_0) = (duA (arrU m c) (arrDy m c) (arrDz m c) (arrWs m c) (arrWc m c))
    ∧ r.2.mem ((c : Thread nD τ).loc main_v8_1) = (scA (arrU m c) (arrDy m c))
    ∧ r.2.mem ((c : Thread nD τ).loc main_v8_2) = (cfA (arrU m c) (arrDz m c))
    ∧ r.2.mem ((c : Thread nD τ).loc main_v8_3) = (bA (arrDz m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  exact (θ_run defs _ _).mono (fun _ h c => ⟨((h.1 c).1 9).trans (final9 m c), ((h.1 c).1 10).trans (final10 m c),
    ((h.1 c).1 11).trans (final11 m c), ((h.1 c).1 12).trans (final12 m c),
    ((h.1 c).2 main_arg0 (Pipeline.mem_restRefs_of main_arg0 (by decide) (by decide))).trans (V_main_arg0 m c),
    ((h.1 c).1 5).trans (((dats m 0 c).arrAt_in 5 rfl _).trans (V_main_arg1 m c)),
    ((h.1 c).1 6).trans (((dats m 0 c).arrAt_in 6 rfl _).trans (V_main_arg2 m c)),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩) (run_main m ρ)

end Cert.KernelIdeal.Conv

end
-- ==== Proof.RefValue.lean ====
/-
  The reference's run, its four results being the gradients entry by entry.
-/
module

public import proofs.«01_k».proof.Proof.RefCols
public import proofs.«01_k».proof.Proof.Blocks

@[expose] public section

noncomputable section

namespace Cert.ReferenceIdeal.Grad

open Idealize.ShloMosaic Idealize.ShloMosaic.TcCoe Idealize.ShloMosaic.StableHlo Idealize.SL.Sem Cert.ReferenceIdeal Cert.ReferenceIdeal.Gen
open Cert.ReferenceIdeal.Value Cert.Cols
open Cert.KernelIdeal.Conv (rd rd3 rd_at rd3_at eq_rd eq_rd3 taps_at)

/-! ## The sums are the convolutions' transposes -/

/-- The taps of a cotangent that is zero on the meta rows add up to the transposed convolution. -/
theorem sum_tapF (T : ℕ) (D d w : ℕ → EReal) (hD : ∀ i, i < 4112 → D i = if 16 ≤ i then d (i - 16) else 0) (r : ℕ) :
    ∑ t ∈ Finset.range T, tapF T D w (T - 1 + r) t = dconv T w d r := by
  refine Finset.sum_congr rfl fun t ht => ?_
  have ht := Finset.mem_range.mp ht
  unfold tapF
  have e : T - 1 + r - t = r + (T - 1 - t) := by omega
  by_cases h : r + (T - 1 - t) < 4112
  · rw [if_pos (by omega), e, hD _ h]
    by_cases h' : 16 ≤ r + (T - 1 - t)
    · rw [if_pos h', if_pos ⟨h', h⟩]
    · rw [if_neg h', if_neg fun hh => h' hh.1]
  · rw [if_neg (by omega), if_neg fun hh => h hh.2, zero_mul]

/-- The rows add up to the taps' gradient. -/
theorem sum_rowF (T : ℕ) (X x D d : ℕ → EReal) (hX : ∀ i, i < 4112 + (T - 1) → X i = if i < T - 1 then 0 else x (i - (T - 1)))
    (hD : ∀ i, i < 4112 → D i = if 16 ≤ i then d (i - 16) else 0) (t : ℕ) (ht : t < T) :
    ∑ j ∈ Finset.range T, rowF X D t j = wgrad T x d t := by
  unfold rowF
  rw [Finset.sum_ite_eq, if_pos (Finset.mem_range.mpr ht), sum_skip _ fun i hi => by rw [hD i (by omega), if_neg (by omega), mul_zero]]
  refine Finset.sum_congr rfl fun r hr => ?_
  have hr := Finset.mem_range.mp hr
  rw [hD _ (by omega), if_pos (by omega), hX _ (by omega), mul_comm, show 16 + r - 16 = r by omega]
  by_cases h : T - 1 ≤ r + 16 + t
  · rw [if_neg (by omega), if_pos h, show t + (16 + r) - (T - 1) = r + 16 + t - (T - 1) by omega]
  · rw [if_pos (by omega), if_neg h]

variable (V0 : Valuation τ sig (Elt Ideal)) (C : ℕ) (hC : C < 1024)

/-- The gated cotangent's column. -/
abbrev dyC (r : ℕ) : EReal := rd (arrDy V0) r C
/-- The long convolution's cotangent's column. -/
abbrev dzC (r : ℕ) : EReal := rd (arrDz V0) r C

/-- The short convolution's cotangent's column. -/
abbrev dsC (r : ℕ) : EReal := dyC V0 C r * chan (arrU V0) 0 C (r + 16)

include hC

/-- The short convolution's cotangent by its own rows. -/
theorem v484_ds (r : ℕ) (hr : r < 4112) : rd (res_main_v484 V0) r C = if 16 ≤ r then dsC V0 C (r - 16) else 0 := by
  refine (v484_col V0 C hC r hr).trans ?_
  by_cases h : 16 ≤ r
  · rw [if_pos h, if_pos h]
    exact congrArg (fun i => (dyC V0 C (r - 16) * chan (arrU V0) 0 C i : EReal)) (by omega)
  · rw [if_neg h, if_neg h]

/-- The cotangent of the long convolution's input. -/
theorem v480_col (r : ℕ) (hr : r < 4112) : rd (res_main_v480 V0) r C = dconv 31 (fun t => rd (arrWc V0) t C) (dzC V0 C) r :=
  (rd_slice (n := 4142) (m := 1024) (p := 4112) (q := 1024) 30 0 (res_main_v478 V0) _ r C hr hC).trans
    ((congrArg (rd (n := 4142) (m := 1024) (res_main_v478 V0) (30 + r)) (Nat.zero_add C)).trans
      ((v478_col V0 C hC (30 + r) (by omega)).trans ((down_all _ 30).trans (sum_tapF 31 _ _ _ (v198_col V0 C hC) r))))

/-- The cotangent of the short convolution's input. -/
theorem v512_col (r : ℕ) (hr : r < 4112) : rd (res_main_v512 V0) r C = dconv 3 (fun t => rd (arrWs V0) t C) (dsC V0 C) r :=
  (rd_slice (n := 4114) (m := 1024) (p := 4112) (q := 1024) 2 0 (res_main_v510 V0) _ r C hr hC).trans
    ((congrArg (rd (n := 4114) (m := 1024) (res_main_v510 V0) (2 + r)) (Nat.zero_add C)).trans
      ((v510_col V0 C hC (2 + r) (by omega)).trans ((down_all _ 2).trans (sum_tapF 3 _ _ _ (v484_ds V0 C hC) r))))

/-- The long convolution's tap gradient. -/
theorem resCf_col (t : ℕ) (ht : t < 31) : rd (resCf V0) t C = cfEntry (arrU V0) (arrDz V0) t C :=
  (resCf_down V0 C hC t ht).trans ((down_all _ 30).trans (sum_rowF 31 _ _ _ _ (v37_col V0 C hC) (v198_col V0 C hC) t ht))

/-- The short convolution's tap gradient. -/
theorem resSc_col (t : ℕ) (ht : t < 3) : rd (resSc V0) t C = scEntry (arrU V0) (arrDy V0) t C :=
  (resSc_down V0 C hC t ht).trans ((down_all _ 2).trans (sum_rowF 3 _ _ _ _ (v9_col V0 C hC) (v484_ds V0 C hC) t ht))

/-- The bias gradient. -/
theorem bias_col (h : S4112x1024.ReducesTo [0] S1024) (hs : S1024.ShapeCasts S1x1024) :
    rd (shapeCast S1x1024 (Host.reduceAdd (F := Ideal) (res_main_v198 V0) (constant (F := Ideal) S_ .f32 0x00000000#32) h h_S_) hs) 0 C
      = bEntry (arrDz V0) C := by
  refine (rd_colSum (n := 4112) (m := 1024) (res_main_v198 V0) _ _ _ h_S_ (fill0 _) C hC).trans ?_
  refine (Finset.sum_congr (g := fun r : ℕ => (if 16 ≤ r then dzC V0 C (r - 16) else 0 : EReal)) rfl fun r hr => v198_col V0 C hC r (Finset.mem_range.mp hr)).trans ?_
  rw [sum_skip _ fun i hi => if_neg (by omega)]
  refine Finset.sum_congr rfl fun r _ => ?_
  rw [if_pos (by omega), show 16 + r - 16 = r by omega]

/-- Tap `j` of the short convolution. -/
theorem short_tap (x : FVec Ideal S4112x1024 .f32) (w : FVec Ideal S1x1024 .f32) (j r : ℕ) (hr : r < 4112) (hj : j < 3)
    (hx : rd x r C = rd (n := 4114) (m := 1024) (res_main_v9 V0) (j + r) C) (hw : rd w 0 C = rd (arrWs V0) j C) :
    rd (mulf (F := Ideal) x (broadcastInDim S4112x1024 ![0, 1] bcast_S1x1024_S4112x1024_0_1 w)) r C
      = ((if 3 - 1 ≤ r + j then (fun i => chan (arrU V0) 1 C i * chan (arrU V0) 2 C i : ℕ → EReal) (r + j - (3 - 1)) else 0) * rd (arrWs V0) j C : EReal) := by
  refine rd_mulf (n := 4112) (m := 1024) x _ r C (hx.trans ((v9_col V0 C hC (j + r) (by omega)).trans ?_))
    ((rd_row (n := 4112) (m := 1024) w _ (by omega) r C hr hC).trans hw)
  by_cases h : 3 - 1 ≤ r + j
  · rw [if_neg (by omega), if_pos h, show j + r - 2 = r + j - (3 - 1) by omega]
  · rw [if_pos (by omega), if_neg h]

/-- The short convolution. -/
theorem v24_col (r : ℕ) (hr : r < 4112) :
    rd (res_main_v24 V0) r C = conv 3 (fun t => rd (arrWs V0) t C) (fun i => chan (arrU V0) 1 C i * chan (arrU V0) 2 C i) r := by
  have h0 := short_tap V0 C hC (res_main_v11 V0) (res_main_v12 V0) 0 r hr (by omega)
      ((rd_slice (n := 4114) (m := 1024) (p := 4112) (q := 1024) 0 0 (res_main_v9 V0) _ r C hr hC).trans (congrArg₂ (rd (res_main_v9 V0)) rfl (Nat.zero_add C)))
      ((rd_slice (n := 3) (m := 1024) (p := 1) (q := 1024) 0 0 (arrWs V0) _ 0 C (by omega) hC).trans (congrArg₂ (rd (arrWs V0)) rfl (Nat.zero_add C)))
  have h1 := short_tap V0 C hC (res_main_v15 V0) (res_main_v16 V0) 1 r hr (by omega)
      ((rd_slice (n := 4114) (m := 1024) (p := 4112) (q := 1024) 1 0 (res_main_v9 V0) _ r C hr hC).trans (congrArg₂ (rd (res_main_v9 V0)) rfl (Nat.zero_add C)))
      ((rd_slice (n := 3) (m := 1024) (p := 1) (q := 1024) 1 0 (arrWs V0) _ 0 C (by omega) hC).trans (congrArg₂ (rd (arrWs V0)) rfl (Nat.zero_add C)))
  have h2 := short_tap V0 C hC (res_main_v20 V0) (res_main_v21 V0) 2 r hr (by omega)
      ((rd_slice (n := 4114) (m := 1024) (p := 4112) (q := 1024) 2 0 (res_main_v9 V0) _ r C hr hC).trans (congrArg₂ (rd (res_main_v9 V0)) rfl (Nat.zero_add C)))
      ((rd_slice (n := 3) (m := 1024) (p := 1) (q := 1024) 2 0 (arrWs V0) _ 0 C (by omega) hC).trans (congrArg₂ (rd (arrWs V0)) rfl (Nat.zero_add C)))
  unfold conv
  rw [Finset.sum_range_succ, Finset.sum_range_succ, Finset.sum_range_one]
  exact congrArg₂ (fun x y : EReal => x + y) (congrArg₂ (fun x y : EReal => x + y) h0 h1) h2

/-! ## The channels' gradient -/

omit hC in
/-- The five channels' gradients side by side. -/
def resU : FVec Ideal S4112x5120 .f32 := addf (addf (addf (addf (pad S4112x5120 ![0, 4096] ![0, 0] ![0, 0] (mulf (mulf (res_main_v5 V0) (res_main_v480 V0)) (mulf (res_main_v31 V0) (subf (broadcastInDim S4112x1024 ![] bcast_S_S4112x1024 (constant S_ .f32 0x3F800000#32)) (res_main_v31 V0)))) (constant S_ .f32 0x00000000#32) pads_S4112x1024_S4112x5120_000_409600 h_S_) (pad S4112x5120 ![0, 3072] ![0, 1024] ![0, 0] (mulf (res_main_v480 V0) (res_main_v31 V0)) (constant S_ .f32 0x00000000#32) pads_S4112x1024_S4112x5120_000_307210240 h_S_)) (pad S4112x5120 ![0, 2048] ![0, 2048] ![0, 0] (mulf (res_main_v3 V0) (res_main_v512 V0)) (constant S_ .f32 0x00000000#32) pads_S4112x1024_S4112x5120_000_204820480 h_S_)) (pad S4112x5120 ![0, 1024] ![0, 3072] ![0, 0] (mulf (res_main_v512 V0) (res_main_v4 V0)) (constant S_ .f32 0x00000000#32) pads_S4112x1024_S4112x5120_000_102430720 h_S_)) (pad S4112x5120 ![0, 0] ![0, 4096] ![0, 0] (mulf (res_main_v199 V0) (res_main_v24 V0)) (constant S_ .f32 0x00000000#32) pads_S4112x1024_S4112x5120_000_040960 h_S_)

/-- One channel's piece, zero in the other channels. -/
theorem chan_pad (x : FVec Ideal S4112x1024 .f32) (a b k : ℕ) (h : (⟨2, ![4112, 1024]⟩ : Shape).Pads ![0, a] ![0, b] ![0, 0] ⟨2, ![4112, 5120]⟩)
    (ha : a = 1024 * k) (q r : ℕ) (hq : q < 5) (hr : r < 4112) {e : EReal} (hx : rd x r C = e) :
    rd (pad ⟨2, ![4112, 5120]⟩ ![0, a] ![0, b] ![0, 0] x (constant (F := Ideal) S_ .f32 0x00000000#32) h h_S_) r (1024 * q + C) = if q = k then e else 0 := by
  subst ha
  refine (rd_pad (n := 4112) (m := 5120) (p := 4112) (q := 1024) 0 (1024 * k) 0 b _ _ h h_S_ r (1024 * q + C) hr (by omega)).trans ?_
  by_cases hk : q = k
  · rw [if_pos ⟨⟨Nat.zero_le _, by omega⟩, by omega, by omega⟩, if_pos hk, ← hx]
    exact congrArg₂ (rd x) rfl (by omega)
  · rw [if_neg fun hh => hk (by omega), if_neg hk]
    exact fill0 _

/-- Channel `q`'s gradient at input row `r`. -/
def rowU (V0 : Valuation τ sig (Elt Ideal)) (C q r : ℕ) : EReal :=
  if q = 0 then (if 16 ≤ r then dyC V0 C (r - 16) * conv 3 (fun t => rd (arrWs V0) t C) (fun i => chan (arrU V0) 1 C i * chan (arrU V0) 2 C i) r else 0)
  else gateC (chan (arrU V0) 0 C) (chan (arrU V0) 1 C) (chan (arrU V0) 2 C) (chan (arrU V0) 3 C) (chan (arrU V0) 4 C) (dyC V0 C) (dzC V0 C)
    (fun t => rd (arrWs V0) t C) (fun t => rd (arrWc V0) t C) q r

/-- It is the column of the pieces' sum. -/
theorem resU_col (q r : ℕ) (hq : q < 5) (hr : r < 4112) : rd (resU V0) r (1024 * q + C) = rowU V0 C q r := by
  have one : ∀ i : S4112x1024.Idx, (broadcastInDim S4112x1024 ![] bcast_S_S4112x1024 (constant (F := Ideal) S_ .f32 0x3F800000#32)) i = (1 : EReal) :=
    fun _ => Ideal.ofBits_one_f32
  have hs : rd (subf (F := Ideal) (broadcastInDim S4112x1024 ![] bcast_S_S4112x1024 (constant (F := Ideal) S_ .f32 0x3F800000#32)) (res_main_v31 V0)) r C
      = (1 - sg (chan (arrU V0) 4 C r) : EReal) := congrArg₂ (fun x y : EReal => x - y) (one _) (v31_col V0 C hC r hr)
  have p4 := chan_pad C hC _ 4096 0 4 pads_S4112x1024_S4112x5120_000_409600 rfl q r hq hr
    (rd_mulf (n := 4112) (m := 1024) _ _ r C (rd_mulf (n := 4112) (m := 1024) (res_main_v5 V0) (res_main_v480 V0) r C (v5_col V0 C hC r hr) (v480_col V0 C hC r hr))
      (rd_mulf (n := 4112) (m := 1024) (res_main_v31 V0) _ r C (v31_col V0 C hC r hr) hs))
  have p3 := chan_pad C hC _ 3072 1024 3 pads_S4112x1024_S4112x5120_000_307210240 rfl q r hq hr
    (rd_mulf (n := 4112) (m := 1024) (res_main_v480 V0) (res_main_v31 V0) r C (v480_col V0 C hC r hr) (v31_col V0 C hC r hr))
  have p2 := chan_pad C hC _ 2048 2048 2 pads_S4112x1024_S4112x5120_000_204820480 rfl q r hq hr
    (rd_mulf (n := 4112) (m := 1024) (res_main_v3 V0) (res_main_v512 V0) r C (v3_col V0 C hC r hr) (v512_col V0 C hC r hr))
  have p1 := chan_pad C hC _ 1024 3072 1 pads_S4112x1024_S4112x5120_000_102430720 rfl q r hq hr
    (rd_mulf (n := 4112) (m := 1024) (res_main_v512 V0) (res_main_v4 V0) r C (v512_col V0 C hC r hr) (v4_col V0 C hC r hr))
  have p0 := chan_pad C hC _ 0 4096 0 pads_S4112x1024_S4112x5120_000_040960 rfl q r hq hr
    (rd_mulf (n := 4112) (m := 1024) (res_main_v199 V0) (res_main_v24 V0) r C (v199_col V0 C hC r hr) (v24_col V0 C hC r hr))
  have all := congrArg₂ (fun x y : EReal => x + y) (congrArg₂ (fun x y : EReal => x + y) (congrArg₂ (fun x y : EReal => x + y)
    (congrArg₂ (fun x y : EReal => x + y) p4 p3) p2) p1) p0
  refine Eq.trans all ?_
  show (_ + _ + _ + _ + _ : EReal) = _
  unfold rowU gateC
  obtain rfl | rfl | rfl | rfl | rfl : q = 0 ∨ q = 1 ∨ q = 2 ∨ q = 3 ∨ q = 4 := by omega
  · simp only [reduceIte, zero_add, OfNat.zero_ne_ofNat, zero_ne_one]
    by_cases h : 16 ≤ r
    · rw [if_pos h, if_pos h]
    · rw [if_neg h, if_neg h, zero_mul]
  · simp only [reduceIte, zero_add, add_zero, OfNat.one_ne_ofNat, one_ne_zero]
  · simp only [reduceIte, zero_add, add_zero, OfNat.ofNat_ne_zero, OfNat.ofNat_ne_one, Nat.reduceEqDiff]
    exact mul_comm _ _
  · simp only [reduceIte, zero_add, add_zero, OfNat.ofNat_ne_zero, OfNat.ofNat_ne_one, Nat.reduceEqDiff]
  · simp only [reduceIte, zero_add, add_zero, OfNat.ofNat_ne_zero, OfNat.ofNat_ne_one, Nat.reduceEqDiff]
    rw [mul_comm (chan (arrU V0) 3 C r), mul_assoc (_ * _)]

omit hC in
/-- A row of five groups of 1024 columns, group by group. -/
theorem groups_at (W : (⟨2, ![4112, 5120]⟩ : Shape).Idx → Ideal .bf16) (h : (⟨2, ![4112, 5120]⟩ : Shape).ShapeCasts ⟨3, ![4112, 5, 1024]⟩)
    (h' : (⟨3, ![4112, 5, 1024]⟩ : Shape).Transposes [1, 0, 2] ⟨3, ![5, 4112, 1024]⟩) (q r c : ℕ) (hq : q < 5) (hr : r < 4112) (hc : c < 1024) :
    rd3 (transpose ⟨3, ![5, 4112, 1024]⟩ [1, 0, 2] (shapeCast ⟨3, ![4112, 5, 1024]⟩ W h) h') q r c = rd W r (1024 * q + c) := by
  refine (rd3_at (p := 5) (n := 4112) (m := 1024) _ q r c hq hr hc).trans ?_
  refine (transpose_apply _ _ _ _ (ValueIdx.ix3 (⟨r, hr⟩ : Fin 4112) (⟨q, hq⟩ : Fin 5) (⟨c, hc⟩ : Fin 1024)) fun b => ?_).trans ?_
  · match b with
    | ⟨0, _⟩ => rfl
    | ⟨1, _⟩ => rfl
    | ⟨2, _⟩ => rfl
  · refine (shapeCast_apply _ _ _ (ValueIdx.ix2 (⟨r, hr⟩ : Fin 4112) (⟨1024 * q + c, by omega⟩ : Fin 5120)) ?_).trans (eq_rd _ _ _ _ rfl rfl)
    rw [Shape.rowMajor_val_three, Shape.rowMajor_val_two]
    show r * 5120 + (1024 * q + c) = (r * 5 + q) * 1024 + c
    omega

/-- The channels' gradient by channel, row, column. -/
theorem v526_at (q r : ℕ) (hq : q < 5) (hr : r < 4112) : rd3 (p := 5) (n := 4112) (m := 1024) (res_main_v526 V0) q r C = rowU V0 C q r :=
  (groups_at (truncf (F := Ideal) .bf16 (resU V0) bitsLt_bf16_f32) shapeCasts_S4112x5120_S4112x5x1024 transposes_S4112x5x1024_S5x4112x1024_1_0_2 q r C hq hr hC).trans
    (resU_col V0 C hC q r hq hr)

omit hC in
/-- Rows of every channel. -/
theorem rd3_slice {α : Type} {n p : ℕ} [NeZero n] [NeZero p] (a : ℕ) (x : (⟨3, ![5, n, 1024]⟩ : Shape).Idx → α) (h : (⟨3, ![5, n, 1024]⟩ : Shape).Slices ![0, a, 0] ⟨3, ![5, p, 1024]⟩)
    (q r c : ℕ) (hq : q < 5) (hr : r < p) (hc : c < 1024) :
    rd3 (extractStridedSlice ⟨3, ![5, p, 1024]⟩ ![0, a, 0] x h) q r c = rd3 x q (a + r) c := by
  refine (rd3_at (p := 5) (n := p) (m := 1024) _ q r c hq hr hc).trans ?_
  refine eq_rd3 (p := 5) (n := n) (m := 1024) x _ _ _ _ ?_ ?_ ?_
  · show 0 + q = q
    omega
  · rfl
  · show 0 + c = c
    omega

omit hC in
/-- One piece of rows of every channel. -/
theorem rd3_piece {α : Type} {n p : ℕ} [NeZero n] [NeZero p] (xs : List ((s : Shape) × (s.Idx → α))) (h : Shape.Concatenates (xs.map (·.1)) ⟨3, ![5, n, 1024]⟩ 1) (k : ℕ) (hk : k < xs.length)
    (x : (⟨3, ![5, p, 1024]⟩ : Shape).Idx → α) (hx : xs[k] = ⟨⟨3, ![5, p, 1024]⟩, x⟩) (pre : ℕ)
    (hpre : (((xs.take k).map (·.1)).map fun s => if h : s.rank = 3 then s.size ((1 : Fin 3).cast h.symm) else 0).sum = pre)
    (q r c : ℕ) (hq : q < 5) (hn : r < n) (hr : pre ≤ r) (hr' : r < pre + p) (hc : c < 1024) :
    rd3 (concatenate ⟨3, ![5, n, 1024]⟩ 1 xs h) q r c = rd3 x q (r - pre) c := by
  refine (rd3_at (p := 5) (n := n) (m := 1024) _ q r c hq hn hc).trans ((concatenate_apply_piece (t := ⟨3, ![5, n, 1024]⟩) (1 : Fin 3) xs h _ k hk ⟨3, ![5, p, 1024]⟩ x hx rfl pre hpre
    (ValueIdx.ix3 (⟨q, hq⟩ : Fin 5) (⟨r - pre, by omega⟩ : Fin p) (⟨c, hc⟩ : Fin 1024)) (fun b hb => ?_) ?_).trans (eq_rd3 _ _ _ _ _ rfl rfl rfl))
  · match b with
    | ⟨0, _⟩ => rfl
    | ⟨1, _⟩ => exact absurd rfl hb
    | ⟨2, _⟩ => rfl
  · show pre + (r - pre) = r
    omega

omit hC in
/-- The sequence's rows, the meta rows, and the zeros. -/
abbrev pieces : List ((s : Shape) × (s.Idx → Ideal .bf16)) :=
  [⟨S5x4096x1024, extractStridedSlice S5x4096x1024 ![0, 16, 0] (res_main_v526 V0) slices_S5x4112x1024_S5x4096x1024_0_16_0⟩,
    ⟨S5x16x1024, extractStridedSlice S5x16x1024 ![0, 0, 0] (res_main_v526 V0) slices_S5x4112x1024_S5x16x1024_0_0_0⟩,
    ⟨S5x240x1024, broadcastInDim S5x240x1024 ![] bcast_S_S5x240x1024 (constant (F := Ideal) S_ .bf16 0x0000#16)⟩]

omit hC in
/-- The channels' gradient with the sequence first, then the meta rows, then zeros. -/
def resDu : FVec Ideal S5x4352x1024 .bf16 := concatenate S5x4352x1024 1 (pieces V0) concatenates_S5x4096x1024_S5x16x1024_S5x240x1024_S5x4352x1024_d1

/-- Its entries. -/
theorem resDu_at (q r : ℕ) (hq : q < 5) (hr : r < 4352) :
    rd3 (p := 5) (n := 4352) (m := 1024) (resDu V0) q r C = duEntry (arrU V0) (arrDy V0) (arrDz V0) (arrWs V0) (arrWc V0) q r C := by
  unfold duEntry duC
  by_cases h1 : r < 4096
  · refine (rd3_piece (n := 4352) (p := 4096) (pieces V0) concatenates_S5x4096x1024_S5x16x1024_S5x240x1024_S5x4352x1024_d1 0 (by simp) _ rfl 0 rfl q r C hq hr (by omega) (by omega) hC).trans ?_
    refine (rd3_slice (n := 4112) (p := 4096) 16 (res_main_v526 V0) slices_S5x4112x1024_S5x4096x1024_0_16_0 q (r - 0) C hq (by omega) hC).trans ?_
    rw [show 16 + (r - 0) = r + 16 by omega]
    refine (v526_at V0 C hC q (r + 16) hq (by omega)).trans ?_
    unfold rowU
    by_cases h0 : q = 0
    · rw [if_pos h0, if_pos h0, if_pos h1, if_pos (by omega), Nat.add_sub_cancel]
    · rw [if_neg h0, if_neg h0, if_pos h1]
  · by_cases h2 : r < 4112
    · refine (rd3_piece (n := 4352) (p := 16) (pieces V0) concatenates_S5x4096x1024_S5x16x1024_S5x240x1024_S5x4352x1024_d1 1 (by simp) _ rfl 4096 (by simp) q r C hq hr (by omega) (by omega) hC).trans ?_
      refine (rd3_slice (n := 4112) (p := 16) 0 (res_main_v526 V0) slices_S5x4112x1024_S5x16x1024_0_0_0 q (r - 4096) C hq (by omega) hC).trans ?_
      rw [Nat.zero_add]
      refine (v526_at V0 C hC q (r - 4096) hq (by omega)).trans ?_
      unfold rowU
      by_cases h0 : q = 0
      · rw [if_pos h0, if_pos h0, if_neg h1, if_neg (by omega)]
      · rw [if_neg h0, if_neg h0, if_neg h1, if_pos h2]
    · refine (rd3_piece (n := 4352) (p := 240) (pieces V0) concatenates_S5x4096x1024_S5x16x1024_S5x240x1024_S5x4352x1024_d1 2 (by simp) _ rfl 4112 (by simp) q r C hq hr (by omega) (by omega) hC).trans ?_
      refine Eq.trans (b := (0 : EReal)) Ideal.ofBits_zero_bf16 ?_
      by_cases h0 : q = 0
      · rw [if_pos h0, if_neg h1]
      · rw [if_neg h0, if_neg h1, if_neg h2]

omit hC

/-! ## The arrays -/

/-- The channels' gradient is the one asked for. -/
theorem resDu_eq : resDu V0 = duA (arrU V0) (arrDy V0) (arrDz V0) (arrWs V0) (arrWc V0) := funext fun y =>
  (eq_rd3 (p := 5) (n := 4352) (m := 1024) (resDu V0) y _ _ _ rfl rfl rfl).trans (resDu_at V0 _ (y 2).isLt _ _ (y 0).isLt (y 1).isLt)

/-- The short convolution's tap gradient, by groups of 128 columns. -/
theorem resSc_eq : transpose S8x3x128 [1, 0, 2] (shapeCast S3x8x128 (resSc V0) shapeCasts_S3x1024_S3x8x128) transposes_S3x8x128_S8x3x128_1_0_2
    = scA (arrU V0) (arrDy V0) := funext fun y => by
  have h0 : (y 0).val < 8 := (y 0).isLt
  have h1 : (y 1).val < 3 := (y 1).isLt
  have h2 : (y 2).val < 128 := (y 2).isLt
  exact (eq_rd3 (p := 8) (n := 3) (m := 128) _ y _ _ _ rfl rfl rfl).trans
    ((taps_at (T := 3) (resSc V0) shapeCasts_S3x1024_S3x8x128 transposes_S3x8x128_S8x3x128_1_0_2 _ _ _ h0 h1 h2).trans (resSc_col V0 _ (by omega) _ h1))

/-- The long convolution's tap gradient, by groups of 128 columns. -/
theorem resCf_eq : transpose S8x31x128 [1, 0, 2] (shapeCast S31x8x128 (resCf V0) shapeCasts_S31x1024_S31x8x128) transposes_S31x8x128_S8x31x128_1_0_2
    = cfA (arrU V0) (arrDz V0) := funext fun y => by
  have h0 : (y 0).val < 8 := (y 0).isLt
  have h1 : (y 1).val < 31 := (y 1).isLt
  have h2 : (y 2).val < 128 := (y 2).isLt
  exact (eq_rd3 (p := 8) (n := 31) (m := 128) _ y _ _ _ rfl rfl rfl).trans
    ((taps_at (T := 31) (resCf V0) shapeCasts_S31x1024_S31x8x128 transposes_S31x8x128_S8x31x128_1_0_2 _ _ _ h0 h1 h2).trans (resCf_col V0 _ (by omega) _ h1))

/-- The bias gradient as one row. -/
theorem bias_eq : shapeCast S1x1024 (Host.reduceAdd (F := Ideal) (res_main_v198 V0) (constant (F := Ideal) S_ .f32 0x00000000#32) reducesTo_S4112x1024_S1024_d0 h_S_)
    shapeCasts_S1024_S1x1024 = bA (arrDz V0) := funext fun y => by
  have h0 : (y 0).val = 0 := Nat.lt_one_iff.mp (y 0).isLt
  exact (eq_rd (n := 1) (m := 1024) _ y 0 (y 1).val h0 rfl).trans (bias_col V0 _ (y 1).isLt _ _)

/-- The reference ends with the four gradients and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v530) = duA (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v532) = scA (m ((c.tc : Thread nD τ).loc main_arg0)) (m ((c.tc : Thread nD τ).loc main_arg1))
      ∧ r.2.mem ((c.tc : Thread nD τ).loc main_v534) = cfA (m ((c.tc : Thread nD τ).loc main_arg0)) (m ((c.tc : Thread nD τ).loc main_arg2))
      ∧ r.2.mem ((c.tc : Thread nD τ).loc main_v201) = bA (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (resDu_eq (launchContents m c)), (h c).2.1.trans (resSc_eq (launchContents m c)),
    (h c).2.2.1.trans (resCf_eq (launchContents m c)), (h c).2.2.2.1.trans (bias_eq (launchContents m c)), (h c).2.2.2.2⟩) (Value.run (F := Ideal) m ρ)

end Cert.ReferenceIdeal.Grad

end
-- ==== Proof.lean ====
/-
  The certificate of the gradient of the two convolutions and of fifteen calls of products: the frames, the preservations, the values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.GradGateUp2Ref
public import proofs.«01_k».proof.Proof.GradDown2
public import proofs.«01_k».proof.Proof.GradRows2
public import proofs.«01_k».proof.Proof.GradMixOut
public import proofs.«01_k».proof.Proof.Product2
public import proofs.«01_k».proof.Proof.Product1
public import proofs.«01_k».proof.Proof.MixIn
public import proofs.«01_k».proof.Proof.GradGateUp1Ref
public import proofs.«01_k».proof.Proof.GradDown1
public import proofs.«01_k».proof.Proof.GradMixIn
public import proofs.«01_k».proof.Proof.GradRows1
public import proofs.«01_k».proof.Proof.GradUnit2
public import proofs.«01_k».proof.Proof.GradUnit1
public import proofs.«01_k».proof.Proof.DownNorm
public import proofs.«01_k».proof.Proof.BackNorm
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal
public import proofs.«01_k».proof.Proof.Gen.Reference16Ideal
public import proofs.«01_k».proof.Proof.Gen.Reference16Ideal.Run
public import proofs.«01_k».proof.Proof.Run
public import proofs.«01_k».proof.Proof.Same
public import proofs.«01_k».proof.Proof.Value
public import proofs.«01_k».proof.Proof.RefValue
public import Idealize.ShloMosaic.Lib.Quiescent

@[expose] public section

noncomputable section

namespace Cert.Proof

open Idealize.ShloMosaic Idealize.ShloMosaic.TcCoe Idealize.SL.Sem

/-- The kernel as printed ends with its arguments unchanged and every counter at zero. -/
theorem frame_kernel : Cert.quiescent_Kernel := fun m ρ _ => by
  have h := θ_run_with_sems (Cert.KernelIdeal.Gen.frame_of m ρ (Cert.KernelIdeal.Conv.dats m) fun _ _ => rfl) (Cert.KernelIdeal.Conv.run_main (F := Bits) m ρ)
  rw [← Cert.KernelIdeal.Conv.defs_same] at h
  exact h

/-- The kernel read at the extended reals ends likewise. -/
theorem frame_kernelIdeal : Cert.quiescent_KernelIdeal := fun m ρ _ =>
  θ_run_with_sems (Cert.KernelIdeal.Gen.frame_of m ρ (Cert.KernelIdeal.Conv.dats m) fun _ _ => rfl) (Cert.KernelIdeal.Conv.run_main (F := Ideal) m ρ)

/-- The reference ends with its arguments unchanged and, declaring no counter, every counter at zero. -/
theorem frame_referenceIdeal : Cert.quiescent_ReferenceIdeal := fun m ρ _ =>
  (θ_run Cert.ReferenceIdeal.defs _ _).mono (fun r h => ⟨fun c => (h c).2.2.2.2, sem_eq_zero_of_no_sems (by decide) r.2⟩) (Cert.ReferenceIdeal.Value.run (F := Ideal) m ρ)

/-- The kernel's four results are the reference's four gradients, as extended reals. -/
theorem algebraic : Cert.algebraic_KernelIdeal_ReferenceIdeal := fun m g m' g' _ h =>
  ⟨fun c => Cert.Cols.duA (Cert.KernelIdeal.Conv.arrU m c) (Cert.KernelIdeal.Conv.arrDy m c) (Cert.KernelIdeal.Conv.arrDz m c)
      (Cert.KernelIdeal.Conv.arrWs m c) (Cert.KernelIdeal.Conv.arrWc m c),
    fun c => Cert.Cols.scA (Cert.KernelIdeal.Conv.arrU m c) (Cert.KernelIdeal.Conv.arrDy m c),
    fun c => Cert.Cols.cfA (Cert.KernelIdeal.Conv.arrU m c) (Cert.KernelIdeal.Conv.arrDz m c),
    fun c => Cert.Cols.bA (Cert.KernelIdeal.Conv.arrDz m c),
    Cert.KernelIdeal.Conv.run_value m g,
    (θ_run Cert.ReferenceIdeal.defs _ _).mono (fun _ r c => by
      obtain ⟨h0, h1, h2, h3, h4⟩ := h c
      obtain ⟨r0, r1, r2, r3, r4⟩ := r c
      rw [h0, h1, h2, h3, h4] at r0
      rw [h0, h1] at r1
      rw [h0, h2] at r2
      rw [h2] at r3
      exact ⟨r0, r1, r2, r3, r4⟩) (Cert.ReferenceIdeal.Grad.run_value m' g')⟩

/-- The kernel of the second feed-forward block's gate and up weight gradients, as printed, ends with its arguments unchanged and every counter at zero, -/
theorem frame_kernel2 : Cert.quiescent_Kernel2 := fun m ρ _ => Cert.Kernel2.Gen.frame m ρ

/-- likewise at the extended reals, -/
theorem frame_kernelIdeal2 : Cert.quiescent_Kernel2Ideal := fun m ρ _ => Cert.Kernel2Ideal.Gen.frame m ρ

/-- and so does its reference. -/
theorem frame_referenceIdeal2 : Cert.quiescent_Reference2Ideal := fun m ρ _ =>
  (θ_run Cert.Reference2Ideal.defs _ _).mono (fun r h => ⟨fun c => (h c).2.2, sem_eq_zero_of_no_sems (by decide) r.2⟩) (Cert.Reference2Ideal.Value.run (F := Ideal) m ρ)

/-- The kernel of the second feed-forward block's down weight gradient, as printed, ends with its arguments unchanged and every counter at zero, -/
theorem frame_kernel3 : Cert.quiescent_Kernel3 := fun m ρ _ => Cert.Kernel3.Gen.frame m ρ

/-- likewise at the extended reals, -/
theorem frame_kernelIdeal3 : Cert.quiescent_Kernel3Ideal := fun m ρ _ => Cert.Kernel3Ideal.Gen.frame m ρ

/-- and so does its reference. -/
theorem frame_referenceIdeal3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The kernel of the second feed-forward block's input cotangent through the gate, as printed, ends with its arguments unchanged and every counter at zero, -/
theorem frame_kernel4 : Cert.quiescent_Kernel4 := fun m ρ _ => Cert.Kernel4.Gen.frame m ρ

/-- likewise at the extended reals, -/
theorem frame_kernelIdeal4 : Cert.quiescent_Kernel4Ideal := fun m ρ _ => Cert.Kernel4Ideal.Gen.frame m ρ

/-- and so does its reference. -/
theorem frame_referenceIdeal4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The kernel of the mixer's output weight gradient, as printed, ends with its arguments unchanged and every counter at zero, -/
theorem frame_kernel5 : Cert.quiescent_Kernel5 := fun m ρ _ => Cert.Kernel5.Gen.frame m ρ

/-- likewise at the extended reals, -/
theorem frame_kernelIdeal5 : Cert.quiescent_Kernel5Ideal := fun m ρ _ => Cert.Kernel5Ideal.Gen.frame m ρ

/-- and so does its reference. -/
theorem frame_referenceIdeal5 : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- The kernel of the second feed-forward block's gate and up products, as printed, ends with its arguments unchanged and every counter at zero, -/
theorem frame_kernel6 : Cert.quiescent_Kernel6 := fun m ρ _ => Cert.Kernel6.Gen.frame m ρ

/-- likewise at the extended reals, -/
theorem frame_kernelIdeal6 : Cert.quiescent_Kernel6Ideal := fun m ρ _ => Cert.Kernel6Ideal.Gen.frame m ρ

/-- and so does its reference. -/
theorem frame_referenceIdeal6 : Cert.quiescent_Reference6Ideal := fun m ρ _ =>
  (θ_run Cert.Reference6Ideal.defs _ _).mono (fun r h => ⟨fun c => (h c).2.2, sem_eq_zero_of_no_sems (by decide) r.2⟩) (Cert.Reference6Ideal.Value.run (F := Ideal) m ρ)

/-- The kernel of the first feed-forward block's gate product, as printed, ends with its arguments unchanged and every counter at zero, -/
theorem frame_kernel7 : Cert.quiescent_Kernel7 := fun m ρ _ => Cert.Kernel7.Gen.frame m ρ

/-- likewise at the extended reals, -/
theorem frame_kernelIdeal7 : Cert.quiescent_Kernel7Ideal := fun m ρ _ => Cert.Kernel7Ideal.Gen.frame m ρ

/-- and so does its reference. -/
theorem frame_referenceIdeal7 : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

/-- The kernel of the mixer's input projection, as printed, ends with its arguments unchanged and every counter at zero, -/
theorem frame_kernel8 : Cert.quiescent_Kernel8 := fun m ρ _ => Cert.Kernel8.Gen.frame m ρ

/-- likewise at the extended reals, -/
theorem frame_kernelIdeal8 : Cert.quiescent_Kernel8Ideal := fun m ρ _ => Cert.Kernel8Ideal.Gen.frame m ρ

/-- and so does its reference. -/
theorem frame_referenceIdeal8 : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

/-- The kernel of the first feed-forward block's gate and up weight gradients, as printed, ends with its arguments unchanged and every counter at zero, -/
theorem frame_kernel9 : Cert.quiescent_Kernel9 := fun m ρ _ => Cert.Kernel9.Gen.frame m ρ

/-- likewise at the extended reals, -/
theorem frame_kernelIdeal9 : Cert.quiescent_Kernel9Ideal := fun m ρ _ => Cert.Kernel9Ideal.Gen.frame m ρ

/-- and so does its reference. -/
theorem frame_referenceIdeal9 : Cert.quiescent_Reference9Ideal := fun m ρ _ =>
  (θ_run Cert.Reference9Ideal.defs _ _).mono (fun r h => ⟨fun c => (h c).2.2, sem_eq_zero_of_no_sems (by decide) r.2⟩) (Cert.Reference9Ideal.Value.run (F := Ideal) m ρ)

/-- The kernel of the first feed-forward block's down weight gradient, as printed, ends with its arguments unchanged and every counter at zero, -/
theorem frame_kernel10 : Cert.quiescent_Kernel10 := fun m ρ _ => Cert.Kernel10.Gen.frame m ρ

/-- likewise at the extended reals, -/
theorem frame_kernelIdeal10 : Cert.quiescent_Kernel10Ideal := fun m ρ _ => Cert.Kernel10Ideal.Gen.frame m ρ

/-- and so does its reference. -/
theorem frame_referenceIdeal10 : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)

/-- The kernel of the mixer's input weight and bias gradients, as printed, ends with its arguments unchanged and every counter at zero, -/
theorem frame_kernel11 : Cert.quiescent_Kernel11 := fun m ρ _ => Cert.Kernel11.Gen.frame m ρ

/-- likewise at the extended reals, -/
theorem frame_kernelIdeal11 : Cert.quiescent_Kernel11Ideal := fun m ρ _ => Cert.Kernel11Ideal.Gen.frame m ρ

/-- and so does its reference. -/
theorem frame_referenceIdeal11 : Cert.quiescent_Reference11Ideal := fun m ρ _ =>
  (θ_run Cert.Reference11Ideal.defs _ _).mono (fun r h => ⟨fun c => (h c).2.2, sem_eq_zero_of_no_sems (by decide) r.2⟩) (Cert.Reference11Ideal.Value.run (F := Ideal) m ρ)

/-- The kernel of the first feed-forward block's input cotangent through the gate, as printed, ends with its arguments unchanged and every counter at zero, -/
theorem frame_kernel12 : Cert.quiescent_Kernel12 := fun m ρ _ => Cert.Kernel12.Gen.frame m ρ

/-- likewise at the extended reals, -/
theorem frame_kernelIdeal12 : Cert.quiescent_Kernel12Ideal := fun m ρ _ => Cert.Kernel12Ideal.Gen.frame m ρ

/-- and so does its reference. -/
theorem frame_referenceIdeal12 : Cert.quiescent_Reference12Ideal := fun m ρ _ =>
  (θ_run Cert.Reference12Ideal.defs _ _).mono (fun r h => ⟨fun c => (h c).2, sem_eq_zero_of_no_sems (by decide) r.2⟩) (Cert.Reference12Ideal.Value.run (F := Ideal) m ρ)

/-- The kernel of the second feed-forward block's gate and up cotangents, as printed, ends with its arguments unchanged and every counter at zero, -/
theorem frame_kernel13 : Cert.quiescent_Kernel13 := fun m ρ _ => Cert.Kernel13.Gen.frame m ρ

/-- likewise at the extended reals, -/
theorem frame_kernelIdeal13 : Cert.quiescent_Kernel13Ideal := fun m ρ _ => Cert.Kernel13Ideal.Gen.frame m ρ

/-- and so does its reference. -/
theorem frame_referenceIdeal13 : Cert.quiescent_Reference13Ideal := fun m ρ _ =>
  (θ_run Cert.Reference13Ideal.defs _ _).mono (fun r h => ⟨fun c => (h c).2.2, sem_eq_zero_of_no_sems (by decide) r.2⟩) (Cert.Reference13Ideal.Value.run (F := Ideal) m ρ)

/-- The kernel of the second feed-forward block's gate and up cotangents ends likewise from the memories of its precondition, -/
theorem frame_kernelIdeal13_pre [Cert.Pre_finite13.Facts] : Cert.quiescent_Kernel13Ideal_pre_finite13 := fun m ρ _ => Cert.Kernel13Ideal.Gen.frame m ρ

/-- and so does its reference. -/
theorem frame_referenceIdeal13_pre [Cert.Pre_finite13.Facts] : Cert.quiescent_Reference13Ideal_pre_finite13 := fun m ρ _ => frame_referenceIdeal13 m ρ trivial

/-- The shapes of its precondition fit. -/
theorem shapes13 : Cert.Pre_finite13.Facts := by
  constructor <;> decide

/-- The kernel of the first feed-forward block's gate and up cotangents, as printed, ends with its arguments unchanged and every counter at zero, -/
theorem frame_kernel14 : Cert.quiescent_Kernel14 := fun m ρ _ => Cert.Kernel14.Gen.frame m ρ

/-- likewise at the extended reals, -/
theorem frame_kernelIdeal14 : Cert.quiescent_Kernel14Ideal := fun m ρ _ => Cert.Kernel14Ideal.Gen.frame m ρ

/-- and so does its reference. -/
theorem frame_referenceIdeal14 : Cert.quiescent_Reference14Ideal := fun m ρ _ =>
  (θ_run Cert.Reference14Ideal.defs _ _).mono (fun r h => ⟨fun c => (h c).2.2, sem_eq_zero_of_no_sems (by decide) r.2⟩) (Cert.Reference14Ideal.Value.run (F := Ideal) m ρ)

/-- The kernel of the first feed-forward block's gate and up cotangents ends likewise from the memories of its precondition, -/
theorem frame_kernelIdeal14_pre [Cert.Pre_finite14.Facts] : Cert.quiescent_Kernel14Ideal_pre_finite14 := fun m ρ _ => Cert.Kernel14Ideal.Gen.frame m ρ

/-- and so does its reference. -/
theorem frame_referenceIdeal14_pre [Cert.Pre_finite14.Facts] : Cert.quiescent_Reference14Ideal_pre_finite14 := fun m ρ _ => frame_referenceIdeal14 m ρ trivial

/-- The shapes of its precondition fit. -/
theorem shapes14 : Cert.Pre_finite14.Facts := by
  constructor <;> decide

/-- The kernel of the first feed-forward block's down product with the norm, as printed, ends with its arguments unchanged and every counter at zero, -/
theorem frame_kernel15 : Cert.quiescent_Kernel15 := fun m ρ _ => Cert.Kernel15.Gen.frame m ρ

/-- likewise at the extended reals, -/
theorem frame_kernelIdeal15 : Cert.quiescent_Kernel15Ideal := fun m ρ _ => Cert.Kernel15Ideal.Gen.frame m ρ

/-- and so does its reference. -/
theorem frame_referenceIdeal15 : Cert.quiescent_Reference15Ideal := fun m ρ _ =>
  (θ_run Cert.Reference15Ideal.defs _ _).mono (fun r h => ⟨fun c => (h c).2.2.2, sem_eq_zero_of_no_sems (by decide) r.2⟩) (Cert.Reference15Ideal.Value.run (F := Ideal) m ρ)

/-- The kernel of the cotangent through the first norm, as printed, ends with its arguments unchanged and every counter at zero, -/
theorem frame_kernel16 : Cert.quiescent_Kernel16 := Cert.Kernel16Ideal.Back.frame_bits

/-- likewise at the extended reals, -/
theorem frame_kernelIdeal16 : Cert.quiescent_Kernel16Ideal := Cert.Kernel16Ideal.Back.frame_ideal

/-- and so does its reference. -/
theorem frame_referenceIdeal16 : Cert.quiescent_Reference16Ideal := fun m ρ _ =>
  (θ_run Cert.Reference16Ideal.defs _ _).mono (fun r h => ⟨fun c => (h c).2.2.2, sem_eq_zero_of_no_sems (by decide) r.2⟩) (Cert.Reference16Ideal.Value.run (F := Ideal) m ρ)

/-- The claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  shapes13, shapes14,
  frame_kernel, frame_kernelIdeal, frame_referenceIdeal,
  frame_kernel2, frame_kernelIdeal2, frame_referenceIdeal2,
  frame_kernel3, frame_kernelIdeal3, frame_referenceIdeal3,
  frame_kernel4, frame_kernelIdeal4, frame_referenceIdeal4,
  frame_kernel5, frame_kernelIdeal5, frame_referenceIdeal5,
  frame_kernel6, frame_kernelIdeal6, frame_referenceIdeal6,
  frame_kernel7, frame_kernelIdeal7, frame_referenceIdeal7,
  frame_kernel8, frame_kernelIdeal8, frame_referenceIdeal8,
  frame_kernel9, frame_kernelIdeal9, frame_referenceIdeal9,
  frame_kernel10, frame_kernelIdeal10, frame_referenceIdeal10,
  frame_kernel11, frame_kernelIdeal11, frame_referenceIdeal11,
  frame_kernel12, frame_kernelIdeal12, frame_referenceIdeal12,
  frame_kernel13, frame_kernelIdeal13, @frame_kernelIdeal13_pre shapes13, frame_referenceIdeal13, @frame_referenceIdeal13_pre shapes13,
  frame_kernel14, frame_kernelIdeal14, @frame_kernelIdeal14_pre shapes14, frame_referenceIdeal14, @frame_referenceIdeal14_pre shapes14,
  frame_kernel15, frame_kernelIdeal15, frame_referenceIdeal15,
  frame_kernel16, frame_kernelIdeal16, frame_referenceIdeal16,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, @algebraic13 shapes13, trivial, @algebraic14 shapes14, trivial, algebraic15, trivial, algebraic16⟩

end Cert.Proof

end
